-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_weights (hKernelIdeal := hKernelIdeal) (hReferenceIdeal := hReferenceIdeal) (hPre_finite_weights := hPre_finite_weights)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_weights.lean ====
abbrev S8x2048x1024 : Shape := ⟨3, ![8, 2048, 1024]⟩
abbrev S1024 : Shape := ⟨1, ![1024]⟩
abbrev S1024x4104 : Shape := ⟨2, ![1024, 4104]⟩
abbrev S8 : Shape := ⟨1, ![8]⟩
abbrev S4x2048 : Shape := ⟨2, ![4, 2048]⟩
abbrev S2048 : Shape := ⟨1, ![2048]⟩
abbrev S4x512x512 : Shape := ⟨3, ![4, 512, 512]⟩
abbrev S2048x1024 : Shape := ⟨2, ![2048, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4104 : S_.BroadcastsInDim S1024x4104 (![] : Fin 0 → Fin S1024x4104.rank)
  reducesTo_S1024x4104_S_d0_1 : S1024x4104.ReducesTo [0, 1] S_
  bcast_S_S4x2048 : S_.BroadcastsInDim S4x2048 (![] : Fin 0 → Fin S4x2048.rank)
  reducesTo_S4x2048_S_d0_1 : S4x2048.ReducesTo [0, 1] S_
  bcast_S_S2048 : S_.BroadcastsInDim S2048 (![] : Fin 0 → Fin S2048.rank)
  reducesTo_S2048_S_d0 : S2048.ReducesTo [0] S_
  bcast_S_S4x512x512 : S_.BroadcastsInDim S4x512x512 (![] : Fin 0 → Fin S4x512x512.rank)
  reducesTo_S4x512x512_S_d0_1_2 : S4x512x512.ReducesTo [0, 1, 2] S_

variable [Facts]

def fn_part1 {F : FTy → Type} [FloatOps F] (main_arg6 : FVec F S4x512x512 .f32) (main_arg8 : FVec F S4x512x512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S4x512x512 .f32 := Host.absf main_arg6
  let main_cst_6 : FVec F S_ .f32 := constant S_ .f32 0x7F800000#32
  let main_v20 : FVec F S4x512x512 .f32 := broadcastInDim S4x512x512 ![] bcast_S_S4x512x512 main_cst_6
  let main_v21 : IVec S4x512x512 1 := cmpf .olt main_v19 main_v20
  let main_c_7 : IVec S_ 1 := constantI S_ 1 1#1
  let main_v22 : IVec S_ 1 := (fun x v => Host.reduce IntOp.andi x v reducesTo_S4x512x512_S_d0_1_2 h_S_) main_v21 main_c_7
  let main_v23 : IVec S_ 1 := andi main_v18 main_v22
  let main_v24 : FVec F S4x512x512 .f32 := Host.absf main_arg8
  let main_cst_8 : FVec F S_ .f32 := constant S_ .f32 0x7F800000#32
  let main_v25 : FVec F S4x512x512 .f32 := broadcastInDim S4x512x512 ![] bcast_S_S4x512x512 main_cst_8
  let main_v26 : IVec S4x512x512 1 := cmpf .olt main_v24 main_v25
  let main_c_9 : IVec S_ 1 := constantI S_ 1 1#1
  let main_v27 : IVec S_ 1 := (fun x v => Host.reduce IntOp.andi x v reducesTo_S4x512x512_S_d0_1_2 h_S_) main_v26 main_c_9
  let main_v28 : IVec S_ 1 := andi main_v23 main_v27
  main_v28

def fn {F : FTy → Type} [FloatOps F] (main_arg0 : FVec F S8x2048x1024 .f32) (main_arg1 : FVec F S1024 .f32) (main_arg2 : FVec F S1024x4104 .f32) (main_arg3 : FVec F S8 .f32) (main_arg4 : FVec F S4x2048 .f32) (main_arg5 : FVec F S2048 .f32) (main_arg6 : FVec F S4x512x512 .f32) (main_arg7 : FVec F S4x512x512 .f32) (main_arg8 : FVec F S4x512x512 .f32) (main_arg9 : FVec F S2048 .f32) (main_arg10 : FVec F S2048 .f32) (main_arg11 : FVec F S2048x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4104 .f32 := Host.absf main_arg2
  let main_cst_0 : FVec F S_ .f32 := constant S_ .f32 0x7F800000#32
  let main_v5 : FVec F S1024x4104 .f32 := broadcastInDim S1024x4104 ![] bcast_S_S1024x4104 main_cst_0
  let main_v6 : IVec S1024x4104 1 := cmpf .olt main_v4 main_v5
  let main_c_1 : IVec S_ 1 := constantI S_ 1 1#1
  let main_v7 : IVec S_ 1 := (fun x v => Host.reduce IntOp.andi x v reducesTo_S1024x4104_S_d0_1 h_S_) main_v6 main_c_1
  let main_v8 : IVec S_ 1 := andi main_v3 main_v7
  let main_v9 : FVec F S4x2048 .f32 := Host.absf main_arg4
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  let main_v14 : FVec F S2048 .f32 := Host.absf main_arg5
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg6 main_arg8 main_v13 main_v16
-- ==== Kernel.lean ====
abbrev S8x2048x1024 : Shape := ⟨3, ![8, 2048, 1024]⟩
abbrev S1024 : Shape := ⟨1, ![1024]⟩
abbrev S1024x4104 : Shape := ⟨2, ![1024, 4104]⟩
abbrev S8 : Shape := ⟨1, ![8]⟩
abbrev S4x2048 : Shape := ⟨2, ![4, 2048]⟩
abbrev S2048 : Shape := ⟨1, ![2048]⟩
abbrev S4x512x512 : Shape := ⟨3, ![4, 512, 512]⟩
abbrev S2048x1024 : Shape := ⟨2, ![2048, 1024]⟩
abbrev S1x8 : Shape := ⟨2, ![1, 8]⟩
abbrev S1x1024 : Shape := ⟨2, ![1, 1024]⟩
abbrev S1x2048 : Shape := ⟨2, ![1, 2048]⟩
abbrev S1x256x1024 : Shape := ⟨3, ![1, 256, 1024]⟩
abbrev S4x1x512 : Shape := ⟨3, ![4, 1, 512]⟩
abbrev S4x1x128 : Shape := ⟨3, ![4, 1, 128]⟩
abbrev S8x2048 : Shape := ⟨2, ![8, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024x2048 : Shape := ⟨2, ![1024, 2048]⟩
abbrev S1024x8 : Shape := ⟨2, ![1024, 8]⟩
abbrev S256x8 : Shape := ⟨2, ![256, 8]⟩
abbrev S256x512 : Shape := ⟨2, ![256, 512]⟩
abbrev S1x512x512 : Shape := ⟨3, ![1, 512, 512]⟩
abbrev S512x512 : Shape := ⟨2, ![512, 512]⟩
abbrev S264x2048 : Shape := ⟨2, ![264, 2048]⟩
abbrev S256x256 : Shape := ⟨2, ![256, 256]⟩
abbrev S1x256 : Shape := ⟨2, ![1, 256]⟩
abbrev S1x1x128 : Shape := ⟨3, ![1, 1, 128]⟩
abbrev S1x128 : Shape := ⟨2, ![1, 128]⟩
abbrev S1x1 : Shape := ⟨2, ![1, 1]⟩
abbrev S1 : Shape := ⟨1, ![1]⟩
abbrev S1x1x512 : Shape := ⟨3, ![1, 1, 512]⟩
abbrev S1x512 : Shape := ⟨2, ![1, 512]⟩
abbrev S512 : Shape := ⟨1, ![512]⟩

abbrev nBuf : Space → Nat
  | .hbm => 23
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S4x2048, .f32⟩
  | .hbm, ⟨5, _⟩ => ⟨S2048, .f32⟩
  | .hbm, ⟨6, _⟩ => ⟨S4x512x512, .f32⟩
  | .hbm, ⟨7, _⟩ => ⟨S4x512x512, .f32⟩
  | .hbm, ⟨8, _⟩ => ⟨S4x512x512, .f32⟩
  | .hbm, ⟨9, _⟩ => ⟨S2048, .f32⟩
  | .hbm, ⟨10, _⟩ => ⟨S2048, .f32⟩
  | .hbm, ⟨11, _⟩ => ⟨S2048x1024, .f32⟩
  | .hbm, ⟨12, _⟩ => ⟨S1024x4104, .bf16⟩
  | .hbm, ⟨13, _⟩ => ⟨S1x8, .f32⟩
  | .hbm, ⟨14, _⟩ => ⟨S1x1024, .f32⟩
  | .hbm, ⟨15, _⟩ => ⟨S1x2048, .f32⟩
  | .hbm, ⟨16, _⟩ => ⟨S4x512x512, .bf16⟩
  | .hbm, ⟨17, _⟩ => ⟨S4x512x512, .bf16⟩
  | .hbm, ⟨18, _⟩ => ⟨S4x512x512, .bf16⟩
  | .hbm, ⟨19, _⟩ => ⟨S1x2048, .f32⟩
  | .hbm, ⟨20, _⟩ => ⟨S1x2048, .f32⟩
  | .hbm, ⟨21, _⟩ => ⟨S2048x1024, .bf16⟩
  | .hbm, ⟨22, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x4104, .bf16⟩
  | .local _ .vmem, ⟨4, _⟩ => ⟨S1x8, .f32⟩
  | .local _ .vmem, ⟨5, _⟩ => ⟨S4x2048, .f32⟩
  | .local _ .vmem, ⟨6, _⟩ => ⟨S1x2048, .f32⟩
  | .local _ .vmem, ⟨7, _⟩ => ⟨S4x512x512, .bf16⟩
  | .local _ .vmem, ⟨8, _⟩ => ⟨S4x512x512, .bf16⟩
  | .local _ .vmem, ⟨9, _⟩ => ⟨S4x512x512, .bf16⟩
  | .local _ .vmem, ⟨10, _⟩ => ⟨S1x2048, .f32⟩
  | .local _ .vmem, ⟨11, _⟩ => ⟨S1x2048, .f32⟩
  | .local _ .vmem, ⟨12, _⟩ => ⟨S2048x1024, .bf16⟩
  | .local _ .vmem, ⟨13, _⟩ => ⟨S1x256x1024, .f32⟩
  | .local _ .vmem, ⟨14, _⟩ => ⟨S1x256x1024, .f32⟩
  | .local _ .vmem, ⟨15, _⟩ => ⟨S4x512x512, .f32⟩
  | .local _ .vmem, ⟨16, _⟩ => ⟨S4x1x512, .f32⟩
  | .local _ .vmem, ⟨17, _⟩ => ⟨S4x1x128, .f32⟩
  | .local _ .vmem, ⟨18, _⟩ => ⟨S8x2048, .f32⟩
  | .local _ .vmem, ⟨19, _⟩ => ⟨S256x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4104 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x1024 : Shape := ⟨3, ![8, 2048, 1024]⟩
abbrev S1024 : Shape := ⟨1, ![1024]⟩
abbrev S1024x4104 : Shape := ⟨2, ![1024, 4104]⟩
abbrev S8 : Shape := ⟨1, ![8]⟩
abbrev S4x2048 : Shape := ⟨2, ![4, 2048]⟩
abbrev S2048 : Shape := ⟨1, ![2048]⟩
abbrev S4x512x512 : Shape := ⟨3, ![4, 512, 512]⟩
abbrev S2048x1024 : Shape := ⟨2, ![2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4104 : Shape := ⟨3, ![8, 2048, 4104]⟩
abbrev S8x2048x2048 : Shape := ⟨3, ![8, 2048, 2048]⟩
abbrev S8x2048x8 : Shape := ⟨3, ![8, 2048, 8]⟩
abbrev S1x1x8 : Shape := ⟨3, ![1, 1, 8]⟩
abbrev S8x2048x4 : Shape := ⟨3, ![8, 2048, 4]⟩
abbrev S8x4x2048 : Shape := ⟨3, ![8, 4, 2048]⟩
abbrev S8x2051x2048 : Shape := ⟨3, ![8, 2051, 2048]⟩
abbrev S1x2048 : Shape := ⟨2, ![1, 2048]⟩
abbrev S1x1x2048 : Shape := ⟨3, ![1, 1, 2048]⟩
abbrev S8x2048x4x512 : Shape := ⟨4, ![8, 2048, 4, 512]⟩
abbrev S4x512x8x2048 : Shape := ⟨4, ![4, 512, 8, 2048]⟩
abbrev S8x4x2048x512 : Shape := ⟨4, ![8, 4, 2048, 512]⟩
abbrev S64x64 : Shape := ⟨2, ![64, 64]⟩
abbrev S8x4x512x512 : Shape := ⟨4, ![8, 4, 512, 512]⟩
abbrev S8x4x512 : Shape := ⟨3, ![8, 4, 512]⟩
abbrev S8x4 : Shape := ⟨2, ![8, 4]⟩
abbrev S8x4x32x64x512 : Shape := ⟨5, ![8, 4, 32, 64, 512]⟩
abbrev S32x8x4x64x512 : Shape := ⟨5, ![32, 8, 4, 64, 512]⟩
abbrev S8x4x32x64 : Shape := ⟨4, ![8, 4, 32, 64]⟩
abbrev S32x8x4x64 : Shape := ⟨4, ![32, 8, 4, 64]⟩
abbrev S1x8x4x64x512 : Shape := ⟨5, ![1, 8, 4, 64, 512]⟩
abbrev S8x4x64x512 : Shape := ⟨4, ![8, 4, 64, 512]⟩
abbrev S1x8x4x64 : Shape := ⟨4, ![1, 8, 4, 64]⟩
abbrev S8x4x64 : Shape := ⟨3, ![8, 4, 64]⟩
abbrev S8x4x64x1 : Shape := ⟨4, ![8, 4, 64, 1]⟩
abbrev S8x4x1x64 : Shape := ⟨4, ![8, 4, 1, 64]⟩
abbrev S8x4x64x64 : Shape := ⟨4, ![8, 4, 64, 64]⟩
abbrev S8x4x1 : Shape := ⟨3, ![8, 4, 1]⟩
abbrev S8x4x1x1 : Shape := ⟨4, ![8, 4, 1, 1]⟩
abbrev S8x2048x4x1 : Shape := ⟨4, ![8, 2048, 4, 1]⟩

abbrev nBuf : Space → Nat
  | .hbm => 377
  | .vmem => 0
  | .smem => 0
  | _ => 0

abbrev hbmTy0_0 (i : Nat) : BufTy := match i % 128 with
  | 0 => ⟨S8x2048x1024, .f32⟩
  | 1 => ⟨S1024, .f32⟩
  | 2 => ⟨S1024x4104, .f32⟩
  | 3 => ⟨S8, .f32⟩
  | 4 => ⟨S4x2048, .f32⟩
  | 5 => ⟨S2048, .f32⟩
  | 6 => ⟨S4x512x512, .f32⟩
  | 7 => ⟨S4x512x512, .f32⟩
  | 8 => ⟨S4x512x512, .f32⟩
  | 9 => ⟨S2048, .f32⟩
  | 10 => ⟨S2048, .f32⟩
  | 11 => ⟨S2048x1024, .f32⟩
  | 12 => ⟨S8x2048x1024, .f32⟩
  | 13 => ⟨S_, .f32⟩
  | 14 => ⟨S8x2048, .f32⟩
  | 15 => ⟨S8x2048x1, .f32⟩
  | 16 => ⟨S_, .f32⟩
  | 17 => ⟨S8x2048x1, .f32⟩
  | 18 => ⟨S8x2048x1, .f32⟩
  | 19 => ⟨S_, .f32⟩
  | 20 => ⟨S8x2048x1, .f32⟩
  | 21 => ⟨S8x2048x1, .f32⟩
  | 22 => ⟨S8x2048x1, .f32⟩
  | 23 => ⟨S8x2048x1024, .f32⟩
  | 24 => ⟨S8x2048x1024, .f32⟩
  | 25 => ⟨S1x1x1024, .f32⟩
  | 26 => ⟨S8x2048x1024, .f32⟩
  | 27 => ⟨S8x2048x1024, .f32⟩
  | 28 => ⟨S8x2048x4104, .f32⟩
  | 29 => ⟨S8x2048x2048, .f32⟩
  | 30 => ⟨S8x2048x8, .f32⟩
  | 31 => ⟨S1x1x8, .f32⟩
  | 32 => ⟨S8x2048x8, .f32⟩
  | 33 => ⟨S8x2048x8, .f32⟩
  | 34 => ⟨S8x2048x4, .f32⟩
  | 35 => ⟨S8x4x2048, .f32⟩
  | 36 => ⟨S8x2048x4, .f32⟩
  | 37 => ⟨S8x4x2048, .f32⟩
  | 38 => ⟨S8x4x2048, .f32⟩
  | 39 => ⟨S_, .f32⟩
  | 40 => ⟨S8x4x2048, .f32⟩
  | 41 => ⟨S8x4x2048, .f32⟩
  | 42 => ⟨S8x4x2048, .f32⟩
  | 43 => ⟨S8x4x2048, .f32⟩
  | 44 => ⟨S8x4x2048, .i1⟩
  | 45 => ⟨S8x4x2048, .f32⟩
  | 46 => ⟨S8x4x2048, .f32⟩
  | 47 => ⟨S8x4x2048, .f32⟩
  | 48 => ⟨S8x4x2048, .f32⟩
  | 49 => ⟨S8x4x2048, .f32⟩
  | 50 => ⟨S8x4x2048, .f32⟩
  | 51 => ⟨S8x4x2048, .f32⟩
  | 52 => ⟨S8x4x2048, .f32⟩
  | 53 => ⟨S8x4x2048, .f32⟩
  | 54 => ⟨S_, .i32⟩
  | 55 => ⟨S_, .f32⟩
  | 56 => ⟨S8x2051x2048, .f32⟩
  | 57 => ⟨S1x2048, .f32⟩
  | 58 => ⟨S2048, .f32⟩
  | 59 => ⟨S8x2048x2048, .f32⟩
  | 60 => ⟨S1x1x2048, .f32⟩
  | 61 => ⟨S8x2048x2048, .f32⟩
  | 62 => ⟨S8x2048x2048, .f32⟩
  | 63 => ⟨S_, .f32⟩
  | 64 => ⟨S8x2048x2048, .f32⟩
  | 65 => ⟨S8x2048x2048, .f32⟩
  | 66 => ⟨S1x2048, .f32⟩
  | 67 => ⟨S2048, .f32⟩
  | 68 => ⟨S8x2048x2048, .f32⟩
  | 69 => ⟨S1x1x2048, .f32⟩
  | 70 => ⟨S8x2048x2048, .f32⟩
  | 71 => ⟨S8x2048x2048, .f32⟩
  | 72 => ⟨S8x2048x2048, .f32⟩
  | 73 => ⟨S1x2048, .f32⟩
  | 74 => ⟨S2048, .f32⟩
  | 75 => ⟨S8x2048x2048, .f32⟩
  | 76 => ⟨S1x1x2048, .f32⟩
  | 77 => ⟨S8x2048x2048, .f32⟩
  | 78 => ⟨S8x2048x2048, .f32⟩
  | 79 => ⟨S8x2048x2048, .f32⟩
  | 80 => ⟨S1x2048, .f32⟩
  | 81 => ⟨S2048, .f32⟩
  | 82 => ⟨S8x2048x2048, .f32⟩
  | 83 => ⟨S1x1x2048, .f32⟩
  | 84 => ⟨S8x2048x2048, .f32⟩
  | 85 => ⟨S8x2048x2048, .f32⟩
  | 86 => ⟨S8x2048x2048, .f32⟩
  | 87 => ⟨S1x1x2048, .f32⟩
  | 88 => ⟨S8x2048x2048, .f32⟩
  | 89 => ⟨S8x2048x2048, .f32⟩
  | 90 => ⟨S8x2048x2048, .f32⟩
  | 91 => ⟨S8x2048x2048, .f32⟩
  | 92 => ⟨S_, .f32⟩
  | 93 => ⟨S8x2048x2048, .f32⟩
  | 94 => ⟨S8x2048x2048, .f32⟩
  | 95 => ⟨S_, .f32⟩
  | 96 => ⟨S8x2048x2048, .f32⟩
  | 97 => ⟨S8x2048x2048, .f32⟩
  | 98 => ⟨S8x2048x2048, .f32⟩
  | 99 => ⟨S8x2048x4x512, .f32⟩
  | 100 => ⟨S8x2048x4x512, .f32⟩
  | 101 => ⟨S4x512x8x2048, .f32⟩
  | 102 => ⟨S8x4x2048x512, .f32⟩
  | 103 => ⟨S4x512x8x2048, .f32⟩
  | 104 => ⟨S8x4x2048x512, .f32⟩
  | 105 => ⟨S_, .f32⟩
  | 106 => ⟨S8x4x2048x512, .f32⟩
  | 107 => ⟨S8x4x2048x512, .f32⟩
  | 108 => ⟨S4x512x8x2048, .f32⟩
  | 109 => ⟨S8x4x2048x512, .f32⟩
  | 110 => ⟨S_, .i1⟩
  | 111 => ⟨S64x64, .i1⟩
  | 112 => ⟨S64x64, .i32⟩
  | 113 => ⟨S_, .i32⟩
  | 114 => ⟨S64x64, .i32⟩
  | 115 => ⟨S64x64, .i32⟩
  | 116 => ⟨S64x64, .i32⟩
  | 117 => ⟨S64x64, .i1⟩
  | 118 => ⟨S_, .i1⟩
  | 119 => ⟨S64x64, .i1⟩
  | 120 => ⟨S64x64, .i1⟩
  | 121 => ⟨S_, .f32⟩
  | 122 => ⟨S8x4x512x512, .f32⟩
  | 123 => ⟨S_, .f32⟩
  | 124 => ⟨S8x4x512, .f32⟩
  | 125 => ⟨S_, .f32⟩
  | 126 => ⟨S8x4, .f32⟩
  | 127 => ⟨S8x4x32x64x512, .f32⟩
  | _ => ⟨S8x2048x1024, .f32⟩

abbrev hbmTy0_1 (i : Nat) : BufTy := match i % 128 with
  | 0 => ⟨S32x8x4x64x512, .f32⟩
  | 1 => ⟨S8x4x32x64x512, .f32⟩
  | 2 => ⟨S32x8x4x64x512, .f32⟩
  | 3 => ⟨S8x4x32x64x512, .f32⟩
  | 4 => ⟨S32x8x4x64x512, .f32⟩
  | 5 => ⟨S8x4x32x64, .f32⟩
  | 6 => ⟨S32x8x4x64, .f32⟩
  | 7 => ⟨S8x4x32x64, .f32⟩
  | 8 => ⟨S32x8x4x64, .f32⟩
  | 9 => ⟨S_, .f32⟩
  | 10 => ⟨S32x8x4x64x512, .f32⟩
  | 11 => ⟨S_, .i32⟩
  | 12 => ⟨S32x8x4x64x512, .f32⟩
  | 13 => ⟨S32x8x4x64x512, .f32⟩
  | 14 => ⟨S32x8x4x64x512, .f32⟩
  | 15 => ⟨S32x8x4x64, .f32⟩
  | 16 => ⟨S32x8x4x64, .f32⟩
  | 17 => ⟨S64x64, .i1⟩
  | 18 => ⟨S_, .i32⟩
  | 19 => ⟨S8x4x512x512, .f32⟩
  | 20 => ⟨S8x4x512, .f32⟩
  | 21 => ⟨S8x4, .f32⟩
  | 22 => ⟨S32x8x4x64x512, .f32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S1x8x4x64x512, .f32⟩
  | 30 => ⟨S8x4x64x512, .f32⟩
  | 31 => ⟨S_, .i32⟩
  | 32 => ⟨S_, .i32⟩
  | 33 => ⟨S_, .i32⟩
  | 34 => ⟨S_, .i32⟩
  | 35 => ⟨S1x8x4x64x512, .f32⟩
  | 36 => ⟨S8x4x64x512, .f32⟩
  | 37 => ⟨S_, .i32⟩
  | 38 => ⟨S_, .i32⟩
  | 39 => ⟨S_, .i32⟩
  | 40 => ⟨S_, .i32⟩
  | 41 => ⟨S1x8x4x64x512, .f32⟩
  | 42 => ⟨S8x4x64x512, .f32⟩
  | 43 => ⟨S_, .i32⟩
  | 44 => ⟨S_, .i32⟩
  | 45 => ⟨S_, .i32⟩
  | 46 => ⟨S1x8x4x64, .f32⟩
  | 47 => ⟨S8x4x64, .f32⟩
  | 48 => ⟨S_, .i32⟩
  | 49 => ⟨S_, .i32⟩
  | 50 => ⟨S_, .i32⟩
  | 51 => ⟨S1x8x4x64, .f32⟩
  | 52 => ⟨S8x4x64, .f32⟩
  | 53 => ⟨S_, .f32⟩
  | 54 => ⟨S_, .f32⟩
  | 55 => ⟨S8x4x64, .f32⟩
  | 56 => ⟨S8x4x64x1, .f32⟩
  | 57 => ⟨S8x4x1x64, .f32⟩
  | 58 => ⟨S8x4x64x64, .f32⟩
  | 59 => ⟨S8x4x64x64, .f32⟩
  | 60 => ⟨S8x4x64x64, .f32⟩
  | 61 => ⟨S8x4x1x64, .f32⟩
  | 62 => ⟨S8x4x64x64, .f32⟩
  | 63 => ⟨S8x4x64x64, .f32⟩
  | 64 => ⟨S_, .f32⟩
  | 65 => ⟨S_, .f32⟩
  | 66 => ⟨S8x4x64x64, .i1⟩
  | 67 => ⟨S8x4x64x64, .f32⟩
  | 68 => ⟨S8x4x64x64, .f32⟩
  | 69 => ⟨S8x4x1, .f32⟩
  | 70 => ⟨S8x4x64, .f32⟩
  | 71 => ⟨S8x4x64, .f32⟩
  | 72 => ⟨S_, .f32⟩
  | 73 => ⟨S8x4x64, .f32⟩
  | 74 => ⟨S8x4x64, .f32⟩
  | 75 => ⟨S8x4x64x1, .f32⟩
  | 76 => ⟨S8x4x64x64, .f32⟩
  | 77 => ⟨S8x4x64x64, .f32⟩
  | 78 => ⟨S8x4x64x64, .f32⟩
  | 79 => ⟨S8x4x64, .f32⟩
  | 80 => ⟨S8x4x64, .f32⟩
  | 81 => ⟨S8x4x64x64, .f32⟩
  | 82 => ⟨S8x4x64x64, .f32⟩
  | 83 => ⟨S8x4x64x1, .f32⟩
  | 84 => ⟨S8x4x64x512, .f32⟩
  | 85 => ⟨S8x4x64x512, .f32⟩
  | 86 => ⟨S8x4x64x512, .f32⟩
  | 87 => ⟨S8x4x64x512, .f32⟩
  | 88 => ⟨S8x4x64x512, .f32⟩
  | 89 => ⟨S8x4x64, .f32⟩
  | 90 => ⟨S8x4x64, .f32⟩
  | 91 => ⟨S_, .f32⟩
  | 92 => ⟨S8x4x64, .f32⟩
  | 93 => ⟨S8x4x64, .f32⟩
  | 94 => ⟨S8x4x64, .f32⟩
  | 95 => ⟨S8x4x64, .f32⟩
  | 96 => ⟨S8x4x64, .f32⟩
  | 97 => ⟨S8x4x64, .f32⟩
  | 98 => ⟨S8x4x64x1, .f32⟩
  | 99 => ⟨S8x4x64x512, .f32⟩
  | 100 => ⟨S8x4x64x512, .f32⟩
  | 101 => ⟨S8x4x1, .f32⟩
  | 102 => ⟨S8x4, .f32⟩
  | 103 => ⟨S8x4x1, .f32⟩
  | 104 => ⟨S8x4x64, .f32⟩
  | 105 => ⟨S8x4x64, .f32⟩
  | 106 => ⟨S8x4x64, .f32⟩
  | 107 => ⟨S8x4, .f32⟩
  | 108 => ⟨S_, .f32⟩
  | 109 => ⟨S8x4, .f32⟩
  | 110 => ⟨S8x4, .f32⟩
  | 111 => ⟨S8x4, .f32⟩
  | 112 => ⟨S8x4, .f32⟩
  | 113 => ⟨S8x4, .f32⟩
  | 114 => ⟨S8x4x1, .f32⟩
  | 115 => ⟨S8x4x64, .f32⟩
  | 116 => ⟨S8x4x64, .f32⟩
  | 117 => ⟨S8x4x64, .f32⟩
  | 118 => ⟨S8x4x64x1, .f32⟩
  | 119 => ⟨S8x4x64x512, .f32⟩
  | 120 => ⟨S8x4x64x512, .f32⟩
  | 121 => ⟨S8x4x1x1, .f32⟩
  | 122 => ⟨S8x4x512x512, .f32⟩
  | 123 => ⟨S8x4x512x512, .f32⟩
  | 124 => ⟨S8x4x512x512, .f32⟩
  | 125 => ⟨S8x4x512x512, .f32⟩
  | 126 => ⟨S8x4x1, .f32⟩
  | 127 => ⟨S8x4x512, .f32⟩
  | _ => ⟨S8x2048x1024, .f32⟩

abbrev hbmTy0_2 (i : Nat) : BufTy := match i % 128 with
  | 0 => ⟨S8x4x512, .f32⟩
  | 1 => ⟨S_, .f32⟩
  | 2 => ⟨S8x4x512, .f32⟩
  | 3 => ⟨S8x4x512, .f32⟩
  | 4 => ⟨S1x8x4x64x512, .f32⟩
  | 5 => ⟨S_, .i32⟩
  | 6 => ⟨S_, .i32⟩
  | 7 => ⟨S_, .i32⟩
  | 8 => ⟨S_, .i32⟩
  | 9 => ⟨S32x8x4x64x512, .f32⟩
  | 10 => ⟨S_, .i32⟩
  | 11 => ⟨S_, .i32⟩
  | 12 => ⟨S8x4x32x64x512, .f32⟩
  | 13 => ⟨S8x4x2048x512, .f32⟩
  | 14 => ⟨S8x2048x4x512, .f32⟩
  | 15 => ⟨S_, .f32⟩
  | 16 => ⟨S8x2048x4, .f32⟩
  | 17 => ⟨S8x2048x4x1, .f32⟩
  | 18 => ⟨S_, .f32⟩
  | 19 => ⟨S8x2048x4x1, .f32⟩
  | 20 => ⟨S8x2048x4x1, .f32⟩
  | 21 => ⟨S8x2048x4x512, .f32⟩
  | 22 => ⟨S8x2048x4x512, .f32⟩
  | 23 => ⟨S8x2048x4x512, .f32⟩
  | 24 => ⟨S_, .f32⟩
  | 25 => ⟨S8x2048x4, .f32⟩
  | 26 => ⟨S8x2048x4x1, .f32⟩
  | 27 => ⟨S_, .f32⟩
  | 28 => ⟨S8x2048x4x1, .f32⟩
  | 29 => ⟨S8x2048x4x1, .f32⟩
  | 30 => ⟨S8x2048x4x512, .f32⟩
  | 31 => ⟨S8x2048x4x512, .f32⟩
  | 32 => ⟨S_, .f32⟩
  | 33 => ⟨S8x2048x4x1, .f32⟩
  | 34 => ⟨S8x2048x4x1, .f32⟩
  | 35 => ⟨S8x2048x4x1, .f32⟩
  | 36 => ⟨S8x2048x4x512, .f32⟩
  | 37 => ⟨S8x2048x4x512, .f32⟩
  | 38 => ⟨S8x2048x2048, .f32⟩
  | 39 => ⟨S1x1x2048, .f32⟩
  | 40 => ⟨S8x2048x2048, .f32⟩
  | 41 => ⟨S8x2048x2048, .f32⟩
  | 42 => ⟨S8x2048x1024, .f32⟩
  | 43 => ⟨S_, .f32⟩
  | 44 => ⟨S8x2048, .f32⟩
  | 45 => ⟨S8x2048x1, .f32⟩
  | 46 => ⟨S_, .f32⟩
  | 47 => ⟨S8x2048x1, .f32⟩
  | 48 => ⟨S8x2048x1, .f32⟩
  | 49 => ⟨S_, .f32⟩
  | 50 => ⟨S8x2048x1, .f32⟩
  | 51 => ⟨S8x2048x1, .f32⟩
  | 52 => ⟨S8x2048x1, .f32⟩
  | 53 => ⟨S8x2048x1024, .f32⟩
  | 54 => ⟨S8x2048x1024, .f32⟩
  | 55 => ⟨S1x1x1024, .f32⟩
  | 56 => ⟨S8x2048x1024, .f32⟩
  | 57 => ⟨S8x2048x1024, .f32⟩
  | 58 => ⟨S8x2048x4104, .f32⟩
  | 59 => ⟨S8x2048x2048, .f32⟩
  | 60 => ⟨S8x2048x2048, .f32⟩
  | 61 => ⟨S_, .i32⟩
  | 62 => ⟨S_, .f32⟩
  | 63 => ⟨S8x2051x2048, .f32⟩
  | 64 => ⟨S1x2048, .f32⟩
  | 65 => ⟨S2048, .f32⟩
  | 66 => ⟨S8x2048x2048, .f32⟩
  | 67 => ⟨S1x1x2048, .f32⟩
  | 68 => ⟨S8x2048x2048, .f32⟩
  | 69 => ⟨S8x2048x2048, .f32⟩
  | 70 => ⟨S_, .f32⟩
  | 71 => ⟨S8x2048x2048, .f32⟩
  | 72 => ⟨S8x2048x2048, .f32⟩
  | 73 => ⟨S1x2048, .f32⟩
  | 74 => ⟨S2048, .f32⟩
  | 75 => ⟨S8x2048x2048, .f32⟩
  | 76 => ⟨S1x1x2048, .f32⟩
  | 77 => ⟨S8x2048x2048, .f32⟩
  | 78 => ⟨S8x2048x2048, .f32⟩
  | 79 => ⟨S8x2048x2048, .f32⟩
  | 80 => ⟨S1x2048, .f32⟩
  | 81 => ⟨S2048, .f32⟩
  | 82 => ⟨S8x2048x2048, .f32⟩
  | 83 => ⟨S1x1x2048, .f32⟩
  | 84 => ⟨S8x2048x2048, .f32⟩
  | 85 => ⟨S8x2048x2048, .f32⟩
  | 86 => ⟨S8x2048x2048, .f32⟩
  | 87 => ⟨S1x2048, .f32⟩
  | 88 => ⟨S2048, .f32⟩
  | 89 => ⟨S8x2048x2048, .f32⟩
  | 90 => ⟨S1x1x2048, .f32⟩
  | 91 => ⟨S8x2048x2048, .f32⟩
  | 92 => ⟨S8x2048x2048, .f32⟩
  | 93 => ⟨S8x2048x2048, .f32⟩
  | 94 => ⟨S1x1x2048, .f32⟩
  | 95 => ⟨S8x2048x2048, .f32⟩
  | 96 => ⟨S8x2048x2048, .f32⟩
  | 97 => ⟨S8x2048x2048, .f32⟩
  | 98 => ⟨S8x2048x2048, .f32⟩
  | 99 => ⟨S_, .f32⟩
  | 100 => ⟨S8x2048x2048, .f32⟩
  | 101 => ⟨S8x2048x2048, .f32⟩
  | 102 => ⟨S_, .f32⟩
  | 103 => ⟨S8x2048x2048, .f32⟩
  | 104 => ⟨S8x2048x2048, .f32⟩
  | 105 => ⟨S8x2048x2048, .f32⟩
  | 106 => ⟨S8x2048x2048, .f32⟩
  | 107 => ⟨S8x2048x2048, .f32⟩
  | 108 => ⟨S_, .f32⟩
  | 109 => ⟨S8x2048x2048, .f32⟩
  | 110 => ⟨S8x2048x2048, .f32⟩
  | 111 => ⟨S_, .f32⟩
  | 112 => ⟨S8x2048x2048, .f32⟩
  | 113 => ⟨S8x2048x2048, .f32⟩
  | 114 => ⟨S8x2048x2048, .f32⟩
  | 115 => ⟨S1x1x2048, .f32⟩
  | 116 => ⟨S8x2048x2048, .f32⟩
  | 117 => ⟨S8x2048x2048, .f32⟩
  | 118 => ⟨S8x2048x2048, .f32⟩
  | 119 => ⟨S8x2048x1024, .f32⟩
  | 120 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c : Ref sig .tc := ⟨.hbm, 54, rfl⟩
abbrev main_call0_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_3 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_4 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_5 : Ref sig .tc := ⟨.hbm, 110, rfl⟩
abbrev main_v82 : Ref sig .tc := ⟨.hbm, 111, rfl⟩
abbrev main_call2_v0 : Ref sig .tc := ⟨.hbm, 112, rfl⟩
abbrev main_call2_c : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_c_0 : Ref sig .tc := ⟨.hbm, 118, rfl⟩
abbrev main_call2_v5 : Ref sig .tc := ⟨.hbm, 119, rfl⟩
abbrev main_v83 : Ref sig .tc := ⟨.hbm, 120, rfl⟩
abbrev main_cst_6 : Ref sig .tc := ⟨.hbm, 121, rfl⟩
abbrev main_v84 : Ref sig .tc := ⟨.hbm, 122, rfl⟩
abbrev main_cst_7 : Ref sig .tc := ⟨.hbm, 123, rfl⟩
abbrev main_v85 : Ref sig .tc := ⟨.hbm, 124, rfl⟩
abbrev main_cst_8 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_9 : Ref sig .tc := ⟨.hbm, 137, rfl⟩
abbrev main_v97 : Ref sig .tc := ⟨.hbm, 138, rfl⟩
abbrev main_c_10 : Ref sig .tc := ⟨.hbm, 139, rfl⟩
abbrev main_v98_0 : Ref sig .tc := ⟨.hbm, 140, rfl⟩
abbrev main_v98_1 : Ref sig .tc := ⟨.hbm, 141, rfl⟩
abbrev main_v98_2 : Ref sig .tc := ⟨.hbm, 142, rfl⟩
abbrev main_v98_3 : Ref sig .tc := ⟨.hbm, 143, rfl⟩
abbrev main_v98_4 : Ref sig .tc := ⟨.hbm, 144, rfl⟩
abbrev main_v98_5 : Ref sig .tc := ⟨.hbm, 145, rfl⟩
abbrev main_v98_6 : Ref sig .tc := ⟨.hbm, 146, rfl⟩
abbrev main_v98_7 : Ref sig .tc := ⟨.hbm, 147, rfl⟩
abbrev main_v98_8 : Ref sig .tc := ⟨.hbm, 148, rfl⟩
abbrev main_v98_9 : Ref sig .tc := ⟨.hbm, 149, rfl⟩
abbrev main_v98_10 : Ref sig .tc := ⟨.hbm, 150, rfl⟩
abbrev main_while0c_c_33 : Ref sig .tc := ⟨.hbm, 151, rfl⟩
abbrev main_while0c_v187 : Ref sig .tc := ⟨.hbm, 152, rfl⟩
abbrev main_while0b_call3_c : Ref sig .tc := ⟨.hbm, 153, rfl⟩
abbrev main_while0b_call3_c_0 : Ref sig .tc := ⟨.hbm, 154, rfl⟩
abbrev main_while0b_call3_c_1 : Ref sig .tc := ⟨.hbm, 155, rfl⟩
abbrev main_while0b_call3_c_2 : Ref sig .tc := ⟨.hbm, 156, rfl⟩
abbrev main_while0b_call3_v0 : Ref sig .tc := ⟨.hbm, 157, rfl⟩
abbrev main_while0b_v187 : Ref sig .tc := ⟨.hbm, 158, rfl⟩
abbrev main_while0b_call4_c : Ref sig .tc := ⟨.hbm, 159, rfl⟩
abbrev main_while0b_call4_c_0 : Ref sig .tc := ⟨.hbm, 160, rfl⟩
abbrev main_while0b_call4_c_1 : Ref sig .tc := ⟨.hbm, 161, rfl⟩
abbrev main_while0b_call4_c_2 : Ref sig .tc := ⟨.hbm, 162, rfl⟩
abbrev main_while0b_call4_v0 : Ref sig .tc := ⟨.hbm, 163, rfl⟩
abbrev main_while0b_v188 : Ref sig .tc := ⟨.hbm, 164, rfl⟩
abbrev main_while0b_call5_c : Ref sig .tc := ⟨.hbm, 165, rfl⟩
abbrev main_while0b_call5_c_0 : Ref sig .tc := ⟨.hbm, 166, rfl⟩
abbrev main_while0b_call5_c_1 : Ref sig .tc := ⟨.hbm, 167, rfl⟩
abbrev main_while0b_call5_c_2 : Ref sig .tc := ⟨.hbm, 168, rfl⟩
abbrev main_while0b_call5_v0 : Ref sig .tc := ⟨.hbm, 169, rfl⟩
abbrev main_while0b_v189 : Ref sig .tc := ⟨.hbm, 170, rfl⟩
abbrev main_while0b_call6_c : Ref sig .tc := ⟨.hbm, 171, rfl⟩
abbrev main_while0b_call6_c_0 : Ref sig .tc := ⟨.hbm, 172, rfl⟩
abbrev main_while0b_call6_c_1 : Ref sig .tc := ⟨.hbm, 173, rfl⟩
abbrev main_while0b_call6_v0 : Ref sig .tc := ⟨.hbm, 174, rfl⟩
abbrev main_while0b_v190 : Ref sig .tc := ⟨.hbm, 175, rfl⟩
abbrev main_while0b_call7_c : Ref sig .tc := ⟨.hbm, 176, rfl⟩
abbrev main_while0b_call7_c_0 : Ref sig .tc := ⟨.hbm, 177, rfl⟩
abbrev main_while0b_call7_c_1 : Ref sig .tc := ⟨.hbm, 178, rfl⟩
abbrev main_while0b_call7_v0 : Ref sig .tc := ⟨.hbm, 179, rfl⟩
abbrev main_while0b_v191 : Ref sig .tc := ⟨.hbm, 180, rfl⟩
abbrev main_while0b_call8_call0_cst : Ref sig .tc := ⟨.hbm, 181, rfl⟩
abbrev main_while0b_call8_call0_v0 : Ref sig .tc := ⟨.hbm, 182, rfl⟩
abbrev main_while0b_v192 : Ref sig .tc := ⟨.hbm, 183, rfl⟩
abbrev main_while0b_v193 : Ref sig .tc := ⟨.hbm, 184, rfl⟩
abbrev main_while0b_v194 : Ref sig .tc := ⟨.hbm, 185, rfl⟩
abbrev main_while0b_v195 : Ref sig .tc := ⟨.hbm, 186, rfl⟩
abbrev main_while0b_v196 : Ref sig .tc := ⟨.hbm, 187, rfl⟩
abbrev main_while0b_v197 : Ref sig .tc := ⟨.hbm, 188, rfl⟩
abbrev main_while0b_v198 : Ref sig .tc := ⟨.hbm, 189, rfl⟩
abbrev main_while0b_v199 : Ref sig .tc := ⟨.hbm, 190, rfl⟩
abbrev main_while0b_v200 : Ref sig .tc := ⟨.hbm, 191, rfl⟩
abbrev main_while0b_cst_33 : Ref sig .tc := ⟨.hbm, 192, rfl⟩
abbrev main_while0b_call9_v0 : Ref sig .tc := ⟨.hbm, 193, rfl⟩
abbrev main_while0b_call9_v1 : Ref sig .tc := ⟨.hbm, 194, rfl⟩
abbrev main_while0b_call9_v2 : Ref sig .tc := ⟨.hbm, 195, rfl⟩
abbrev main_while0b_v201 : Ref sig .tc := ⟨.hbm, 196, rfl⟩
abbrev main_while0b_v202 : Ref sig .tc := ⟨.hbm, 197, rfl⟩
abbrev main_while0b_v203 : Ref sig .tc := ⟨.hbm, 198, rfl⟩
abbrev main_while0b_v204 : Ref sig .tc := ⟨.hbm, 199, rfl⟩
abbrev main_while0b_cst_34 : Ref sig .tc := ⟨.hbm, 200, rfl⟩
abbrev main_while0b_v205 : Ref sig .tc := ⟨.hbm, 201, rfl⟩
abbrev main_while0b_v206 : Ref sig .tc := ⟨.hbm, 202, rfl⟩
abbrev main_while0b_v207 : Ref sig .tc := ⟨.hbm, 203, rfl⟩
abbrev main_while0b_v208 : Ref sig .tc := ⟨.hbm, 204, rfl⟩
abbrev main_while0b_v209 : Ref sig .tc := ⟨.hbm, 205, rfl⟩
abbrev main_while0b_v210 : Ref sig .tc := ⟨.hbm, 206, rfl⟩
abbrev main_while0b_v211 : Ref sig .tc := ⟨.hbm, 207, rfl⟩
abbrev main_while0b_v212 : Ref sig .tc := ⟨.hbm, 208, rfl⟩
abbrev main_while0b_v213 : Ref sig .tc := ⟨.hbm, 209, rfl⟩
abbrev main_while0b_v214 : Ref sig .tc := ⟨.hbm, 210, rfl⟩
abbrev main_while0b_v215 : Ref sig .tc := ⟨.hbm, 211, rfl⟩
abbrev main_while0b_v216 : Ref sig .tc := ⟨.hbm, 212, rfl⟩
abbrev main_while0b_v217 : Ref sig .tc := ⟨.hbm, 213, rfl⟩
abbrev main_while0b_v218 : Ref sig .tc := ⟨.hbm, 214, rfl⟩
abbrev main_while0b_v219 : Ref sig .tc := ⟨.hbm, 215, rfl⟩
abbrev main_while0b_v220 : Ref sig .tc := ⟨.hbm, 216, rfl⟩
abbrev main_while0b_v221 : Ref sig .tc := ⟨.hbm, 217, rfl⟩
abbrev main_while0b_v222 : Ref sig .tc := ⟨.hbm, 218, rfl⟩
abbrev main_while0b_cst_35 : Ref sig .tc := ⟨.hbm, 219, rfl⟩
abbrev main_while0b_v223 : Ref sig .tc := ⟨.hbm, 220, rfl⟩
abbrev main_while0b_v224 : Ref sig .tc := ⟨.hbm, 221, rfl⟩
abbrev main_while0b_v225 : Ref sig .tc := ⟨.hbm, 222, rfl⟩
abbrev main_while0b_v226 : Ref sig .tc := ⟨.hbm, 223, rfl⟩
abbrev main_while0b_v227 : Ref sig .tc := ⟨.hbm, 224, rfl⟩
abbrev main_while0b_v228 : Ref sig .tc := ⟨.hbm, 225, rfl⟩
abbrev main_while0b_v229 : Ref sig .tc := ⟨.hbm, 226, rfl⟩
abbrev main_while0b_v230 : Ref sig .tc := ⟨.hbm, 227, rfl⟩
abbrev main_while0b_v231 : Ref sig .tc := ⟨.hbm, 228, rfl⟩
abbrev main_while0b_v232 : Ref sig .tc := ⟨.hbm, 229, rfl⟩
abbrev main_while0b_v233 : Ref sig .tc := ⟨.hbm, 230, rfl⟩
abbrev main_while0b_v234 : Ref sig .tc := ⟨.hbm, 231, rfl⟩
abbrev main_while0b_v235 : Ref sig .tc := ⟨.hbm, 232, rfl⟩
abbrev main_while0b_v236 : Ref sig .tc := ⟨.hbm, 233, rfl⟩
abbrev main_while0b_v237 : Ref sig .tc := ⟨.hbm, 234, rfl⟩
abbrev main_while0b_v238 : Ref sig .tc := ⟨.hbm, 235, rfl⟩
abbrev main_while0b_cst_36 : Ref sig .tc := ⟨.hbm, 236, rfl⟩
abbrev main_while0b_v239 : Ref sig .tc := ⟨.hbm, 237, rfl⟩
abbrev main_while0b_v240 : Ref sig .tc := ⟨.hbm, 238, rfl⟩
abbrev main_while0b_v241 : Ref sig .tc := ⟨.hbm, 239, rfl⟩
abbrev main_while0b_v242 : Ref sig .tc := ⟨.hbm, 240, rfl⟩
abbrev main_while0b_v243 : Ref sig .tc := ⟨.hbm, 241, rfl⟩
abbrev main_while0b_v244 : Ref sig .tc := ⟨.hbm, 242, rfl⟩
abbrev main_while0b_v245 : Ref sig .tc := ⟨.hbm, 243, rfl⟩
abbrev main_while0b_v246 : Ref sig .tc := ⟨.hbm, 244, rfl⟩
abbrev main_while0b_v247 : Ref sig .tc := ⟨.hbm, 245, rfl⟩
abbrev main_while0b_v248 : Ref sig .tc := ⟨.hbm, 246, rfl⟩
abbrev main_while0b_v249 : Ref sig .tc := ⟨.hbm, 247, rfl⟩
abbrev main_while0b_v250 : Ref sig .tc := ⟨.hbm, 248, rfl⟩
abbrev main_while0b_v251 : Ref sig .tc := ⟨.hbm, 249, rfl⟩
abbrev main_while0b_v252 : Ref sig .tc := ⟨.hbm, 250, rfl⟩
abbrev main_while0b_v253 : Ref sig .tc := ⟨.hbm, 251, rfl⟩
abbrev main_while0b_v254 : Ref sig .tc := ⟨.hbm, 252, rfl⟩
abbrev main_while0b_v255 : Ref sig .tc := ⟨.hbm, 253, rfl⟩
abbrev main_while0b_v256 : Ref sig .tc := ⟨.hbm, 254, rfl⟩
abbrev main_while0b_v257 : Ref sig .tc := ⟨.hbm, 255, rfl⟩
abbrev main_while0b_v258 : Ref sig .tc := ⟨.hbm, 256, rfl⟩
abbrev main_while0b_cst_37 : Ref sig .tc := ⟨.hbm, 257, rfl⟩
abbrev main_while0b_v259 : Ref sig .tc := ⟨.hbm, 258, rfl⟩
abbrev main_while0b_v260 : Ref sig .tc := ⟨.hbm, 259, rfl⟩
abbrev main_while0b_call10_v0 : Ref sig .tc := ⟨.hbm, 260, rfl⟩
abbrev main_while0b_call10_c : Ref sig .tc := ⟨.hbm, 261, rfl⟩
abbrev main_while0b_call10_c_0 : Ref sig .tc := ⟨.hbm, 262, rfl⟩
abbrev main_while0b_call10_c_1 : Ref sig .tc := ⟨.hbm, 263, rfl⟩
abbrev main_while0b_call10_c_2 : Ref sig .tc := ⟨.hbm, 264, rfl⟩
abbrev main_while0b_v261 : Ref sig .tc := ⟨.hbm, 265, rfl⟩
abbrev main_while0b_c_38 : Ref sig .tc := ⟨.hbm, 266, rfl⟩
abbrev main_while0b_v262 : Ref sig .tc := ⟨.hbm, 267, rfl⟩
abbrev main_v99 : Ref sig .tc := ⟨.hbm, 268, rfl⟩
abbrev main_v100 : Ref sig .tc := ⟨.hbm, 269, rfl⟩
abbrev main_v101 : Ref sig .tc := ⟨.hbm, 270, rfl⟩
abbrev main_cst_11 : Ref sig .tc := ⟨.hbm, 271, rfl⟩
abbrev main_v102 : Ref sig .tc := ⟨.hbm, 272, rfl⟩
abbrev main_v103 : Ref sig .tc := ⟨.hbm, 273, rfl⟩
abbrev main_cst_12 : Ref sig .tc := ⟨.hbm, 274, rfl⟩
abbrev main_v104 : Ref sig .tc := ⟨.hbm, 275, rfl⟩
abbrev main_v105 : Ref sig .tc := ⟨.hbm, 276, rfl⟩
abbrev main_v106 : Ref sig .tc := ⟨.hbm, 277, rfl⟩
abbrev main_v107 : Ref sig .tc := ⟨.hbm, 278, rfl⟩
abbrev main_v108 : Ref sig .tc := ⟨.hbm, 279, rfl⟩
abbrev main_cst_13 : Ref sig .tc := ⟨.hbm, 280, rfl⟩
abbrev main_v109 : Ref sig .tc := ⟨.hbm, 281, rfl⟩
abbrev main_v110 : Ref sig .tc := ⟨.hbm, 282, rfl⟩
abbrev main_cst_14 : Ref sig .tc := ⟨.hbm, 283, rfl⟩
abbrev main_v111 : Ref sig .tc := ⟨.hbm, 284, rfl⟩
abbrev main_v112 : Ref sig .tc := ⟨.hbm, 285, rfl⟩
abbrev main_v113 : Ref sig .tc := ⟨.hbm, 286, rfl⟩
abbrev main_v114 : Ref sig .tc := ⟨.hbm, 287, rfl⟩
abbrev main_cst_15 : Ref sig .tc := ⟨.hbm, 288, rfl⟩
abbrev main_v115 : Ref sig .tc := ⟨.hbm, 289, rfl⟩
abbrev main_v116 : Ref sig .tc := ⟨.hbm, 290, rfl⟩
abbrev main_v117 : Ref sig .tc := ⟨.hbm, 291, rfl⟩
abbrev main_v118 : Ref sig .tc := ⟨.hbm, 292, rfl⟩
abbrev main_v119 : Ref sig .tc := ⟨.hbm, 293, rfl⟩
abbrev main_v120 : Ref sig .tc := ⟨.hbm, 294, rfl⟩
abbrev main_v121 : Ref sig .tc := ⟨.hbm, 295, rfl⟩
abbrev main_v122 : Ref sig .tc := ⟨.hbm, 296, rfl⟩
abbrev main_v123 : Ref sig .tc := ⟨.hbm, 297, rfl⟩
abbrev main_v124 : Ref sig .tc := ⟨.hbm, 298, rfl⟩
abbrev main_cst_16 : Ref sig .tc := ⟨.hbm, 299, rfl⟩
abbrev main_v125 : Ref sig .tc := ⟨.hbm, 300, rfl⟩
abbrev main_v126 : Ref sig .tc := ⟨.hbm, 301, rfl⟩
abbrev main_cst_17 : Ref sig .tc := ⟨.hbm, 302, rfl⟩
abbrev main_v127 : Ref sig .tc := ⟨.hbm, 303, rfl⟩
abbrev main_v128 : Ref sig .tc := ⟨.hbm, 304, rfl⟩
abbrev main_cst_18 : Ref sig .tc := ⟨.hbm, 305, rfl⟩
abbrev main_v129 : Ref sig .tc := ⟨.hbm, 306, rfl⟩
abbrev main_v130 : Ref sig .tc := ⟨.hbm, 307, rfl⟩
abbrev main_v131 : Ref sig .tc := ⟨.hbm, 308, rfl⟩
abbrev main_v132 : Ref sig .tc := ⟨.hbm, 309, rfl⟩
abbrev main_v133 : Ref sig .tc := ⟨.hbm, 310, rfl⟩
abbrev main_v134 : Ref sig .tc := ⟨.hbm, 311, rfl⟩
abbrev main_v135 : Ref sig .tc := ⟨.hbm, 312, rfl⟩
abbrev main_v136 : Ref sig .tc := ⟨.hbm, 313, rfl⟩
abbrev main_v137 : Ref sig .tc := ⟨.hbm, 314, rfl⟩
abbrev main_v138 : Ref sig .tc := ⟨.hbm, 315, rfl⟩
abbrev main_v139 : Ref sig .tc := ⟨.hbm, 316, rfl⟩
abbrev main_c_19 : Ref sig .tc := ⟨.hbm, 317, rfl⟩
abbrev main_call11_v0 : Ref sig .tc := ⟨.hbm, 318, rfl⟩
abbrev main_v140 : Ref sig .tc := ⟨.hbm, 319, rfl⟩
abbrev main_v141 : Ref sig .tc := ⟨.hbm, 320, rfl⟩
abbrev main_v142 : Ref sig .tc := ⟨.hbm, 321, rfl⟩
abbrev main_v143 : Ref sig .tc := ⟨.hbm, 322, rfl⟩
abbrev main_v144 : Ref sig .tc := ⟨.hbm, 323, rfl⟩
abbrev main_v145 : Ref sig .tc := ⟨.hbm, 324, rfl⟩
abbrev main_v146 : Ref sig .tc := ⟨.hbm, 325, rfl⟩
abbrev main_cst_20 : Ref sig .tc := ⟨.hbm, 326, rfl⟩
abbrev main_v147 : Ref sig .tc := ⟨.hbm, 327, rfl⟩
abbrev main_v148 : Ref sig .tc := ⟨.hbm, 328, rfl⟩
abbrev main_v149 : Ref sig .tc := ⟨.hbm, 329, rfl⟩
abbrev main_v150 : Ref sig .tc := ⟨.hbm, 330, rfl⟩
abbrev main_v151 : Ref sig .tc := ⟨.hbm, 331, rfl⟩
abbrev main_v152 : Ref sig .tc := ⟨.hbm, 332, rfl⟩
abbrev main_v153 : Ref sig .tc := ⟨.hbm, 333, rfl⟩
abbrev main_v154 : Ref sig .tc := ⟨.hbm, 334, rfl⟩
abbrev main_v155 : Ref sig .tc := ⟨.hbm, 335, rfl⟩
abbrev main_v156 : Ref sig .tc := ⟨.hbm, 336, rfl⟩
abbrev main_v157 : Ref sig .tc := ⟨.hbm, 337, rfl⟩
abbrev main_v158 : Ref sig .tc := ⟨.hbm, 338, rfl⟩
abbrev main_v159 : Ref sig .tc := ⟨.hbm, 339, rfl⟩
abbrev main_v160 : Ref sig .tc := ⟨.hbm, 340, rfl⟩
abbrev main_v161 : Ref sig .tc := ⟨.hbm, 341, rfl⟩
abbrev main_v162 : Ref sig .tc := ⟨.hbm, 342, rfl⟩
abbrev main_v163 : Ref sig .tc := ⟨.hbm, 343, rfl⟩
abbrev main_v164 : Ref sig .tc := ⟨.hbm, 344, rfl⟩
abbrev main_v165 : Ref sig .tc := ⟨.hbm, 345, rfl⟩
abbrev main_v166 : Ref sig .tc := ⟨.hbm, 346, rfl⟩
abbrev main_v167 : Ref sig .tc := ⟨.hbm, 347, rfl⟩
abbrev main_v168 : Ref sig .tc := ⟨.hbm, 348, rfl⟩
abbrev main_v169 : Ref sig .tc := ⟨.hbm, 349, rfl⟩
abbrev main_v170 : Ref sig .tc := ⟨.hbm, 350, rfl⟩
abbrev main_v171 : Ref sig .tc := ⟨.hbm, 351, rfl⟩
abbrev main_v172 : Ref sig .tc := ⟨.hbm, 352, rfl⟩
abbrev main_call12_v0 : Ref sig .tc := ⟨.hbm, 353, rfl⟩
abbrev main_call12_v1 : Ref sig .tc := ⟨.hbm, 354, rfl⟩
abbrev main_call12_cst : Ref sig .tc := ⟨.hbm, 355, rfl⟩
abbrev main_call12_v2 : Ref sig .tc := ⟨.hbm, 356, rfl⟩
abbrev main_call12_v3 : Ref sig .tc := ⟨.hbm, 357, rfl⟩
abbrev main_call12_cst_0 : Ref sig .tc := ⟨.hbm, 358, rfl⟩
abbrev main_call12_v4 : Ref sig .tc := ⟨.hbm, 359, rfl⟩
abbrev main_call12_v5 : Ref sig .tc := ⟨.hbm, 360, rfl⟩
abbrev main_v173 : Ref sig .tc := ⟨.hbm, 361, rfl⟩
abbrev main_v174 : Ref sig .tc := ⟨.hbm, 362, rfl⟩
abbrev main_v175 : Ref sig .tc := ⟨.hbm, 363, rfl⟩
abbrev main_cst_21 : Ref sig .tc := ⟨.hbm, 364, rfl⟩
abbrev main_v176 : Ref sig .tc := ⟨.hbm, 365, rfl⟩
abbrev main_v177 : Ref sig .tc := ⟨.hbm, 366, rfl⟩
abbrev main_cst_22 : Ref sig .tc := ⟨.hbm, 367, rfl⟩
abbrev main_v178 : Ref sig .tc := ⟨.hbm, 368, rfl⟩
abbrev main_v179 : Ref sig .tc := ⟨.hbm, 369, rfl⟩
abbrev main_v180 : Ref sig .tc := ⟨.hbm, 370, rfl⟩
abbrev main_v181 : Ref sig .tc := ⟨.hbm, 371, rfl⟩
abbrev main_v182 : Ref sig .tc := ⟨.hbm, 372, rfl⟩
abbrev main_v183 : Ref sig .tc := ⟨.hbm, 373, rfl⟩
abbrev main_v184 : Ref sig .tc := ⟨.hbm, 374, rfl⟩
abbrev main_v185 : Ref sig .tc := ⟨.hbm, 375, rfl⟩
abbrev main_v186 : Ref sig .tc := ⟨.hbm, 376, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8x2048x1024 : Shape := ⟨3, ![8, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S1x8x1024 : Shape := ⟨3, ![1, 8, 1024]⟩
abbrev S520x1024 : Shape := ⟨2, ![520, 1024]⟩
abbrev S512x1024 : Shape := ⟨2, ![512, 1024]⟩
abbrev S8x1024 : Shape := ⟨2, ![8, 1024]⟩
abbrev S8 : Shape := ⟨1, ![8]⟩
abbrev S8x1 : Shape := ⟨2, ![8, 1]⟩
abbrev S512 : Shape := ⟨1, ![512]⟩
abbrev S512x1 : Shape := ⟨2, ![512, 1]⟩
abbrev S264x1024 : Shape := ⟨2, ![264, 1024]⟩
abbrev S1024x256 : Shape := ⟨2, ![1024, 256]⟩
abbrev S264x256 : Shape := ⟨2, ![264, 256]⟩
abbrev S3x256 : Shape := ⟨2, ![3, 256]⟩
abbrev S1x256 : Shape := ⟨2, ![1, 256]⟩
abbrev S256x256 : Shape := ⟨2, ![256, 256]⟩
abbrev S256x1024 : Shape := ⟨2, ![256, 1024]⟩

abbrev nBuf : Space → Nat
  | .hbm => 13
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S1x5632, .f32⟩
  | .hbm, ⟨11, _⟩ => ⟨S1x1024, .f32⟩
  | .hbm, ⟨12, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x5632, .bf16⟩
  | .local _ .vmem, ⟨6, _⟩ => ⟨S3x5632, .f32⟩
  | .local _ .vmem, ⟨7, _⟩ => ⟨S1x5632, .f32⟩
  | .local _ .vmem, ⟨8, _⟩ => ⟨S2816x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S520x1024, .bf16⟩
  | .local _ .vmem, ⟨13, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x2048x1024 : Shape := ⟨3, ![8, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩

abbrev nBuf : Space → Nat
  | .hbm => 83
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x2048x5632, .f32⟩
  | .hbm, ⟨24, _⟩ => ⟨S_, .i32⟩
  | .hbm, ⟨25, _⟩ => ⟨S_, .f32⟩
  | .hbm, ⟨26, _⟩ => ⟨S8x2050x5632, .f32⟩
  | .hbm, ⟨27, _⟩ => ⟨S1x5632, .f32⟩
  | .hbm, ⟨28, _⟩ => ⟨S5632, .f32⟩
  | .hbm, ⟨29, _⟩ => ⟨S8x2048x5632, .f32⟩
  | .hbm, ⟨30, _⟩ => ⟨S1x1x5632, .f32⟩
  | .hbm, ⟨31, _⟩ => ⟨S8x2048x5632, .f32⟩
  | .hbm, ⟨32, _⟩ => ⟨S8x2048x5632, .f32⟩
  | .hbm, ⟨33, _⟩ => ⟨S_, .f32⟩
  | .hbm, ⟨34, _⟩ => ⟨S8x2048x5632, .f32⟩
  | .hbm, ⟨35, _⟩ => ⟨S8x2048x5632, .f32⟩
  | .hbm, ⟨36, _⟩ => ⟨S1x5632, .f32⟩
  | .hbm, ⟨37, _⟩ => ⟨S5632, .f32⟩
  | .hbm, ⟨38, _⟩ => ⟨S8x2048x5632, .f32⟩
  | .hbm, ⟨39, _⟩ => ⟨S1x1x5632, .f32⟩
  | .hbm, ⟨40, _⟩ => ⟨S8x2048x5632, .f32⟩
  | .hbm, ⟨41, _⟩ => ⟨S8x2048x5632, .f32⟩
  | .hbm, ⟨42, _⟩ => ⟨S8x2048x5632, .f32⟩
  | .hbm, ⟨43, _⟩ => ⟨S1x5632, .f32⟩
  | .hbm, ⟨44, _⟩ => ⟨S5632, .f32⟩
  | .hbm, ⟨45, _⟩ => ⟨S8x2048x5632, .f32⟩
  | .hbm, ⟨46, _⟩ => ⟨S1x1x5632, .f32⟩
  | .hbm, ⟨47, _⟩ => ⟨S8x2048x5632, .f32⟩
  | .hbm, ⟨48, _⟩ => ⟨S8x2048x5632, .f32⟩
  | .hbm, ⟨49, _⟩ => ⟨S8x2048x5632, .f32⟩
  | .hbm, ⟨50, _⟩ => ⟨S1x1x5632, .f32⟩
  | .hbm, ⟨51, _⟩ => ⟨S8x2048x5632, .f32⟩
  | .hbm, ⟨52, _⟩ => ⟨S8x2048x5632, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S8x2048x2816, .f32⟩
  | .hbm, ⟨57, _⟩ => ⟨S_, .f32⟩
  | .hbm, ⟨58, _⟩ => ⟨S8x2048x2816, .f32⟩
  | .hbm, ⟨59, _⟩ => ⟨S8x2048x2816, .f32⟩
  | .hbm, ⟨60, _⟩ => ⟨S_, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S8x2048x2816, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S_, .f32⟩
  | .hbm, ⟨69, _⟩ => ⟨S8x2048, .f32⟩
  | .hbm, ⟨70, _⟩ => ⟨S8x2048x1, .f32⟩
  | .hbm, ⟨71, _⟩ => ⟨S_, .f32⟩
  | .hbm, ⟨72, _⟩ => ⟨S8x2048x1, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S8x2048x1, .f32⟩
  | .hbm, ⟨78, _⟩ => ⟨S8x2048x1024, .f32⟩
  | .hbm, ⟨79, _⟩ => ⟨S8x2048x1024, .f32⟩
  | .hbm, ⟨80, _⟩ => ⟨S1x1x1024, .f32⟩
  | .hbm, ⟨81, _⟩ => ⟨S8x2048x1024, .f32⟩
  | .hbm, ⟨82, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S1024x9216 : Shape := ⟨2, ![1024, 9216]⟩
abbrev S_ : Shape := ⟨0, ![]⟩
abbrev S3x1 : Shape := ⟨2, ![3, 1]⟩
abbrev S1 : Shape := ⟨1, ![1]⟩
abbrev S1024x3x3x1024 : Shape := ⟨4, ![1024, 3, 3, 1024]⟩
abbrev S1024x1x3x1024 : Shape := ⟨4, ![1024, 1, 3, 1024]⟩
abbrev S1024x3x1024 : Shape := ⟨3, ![1024, 3, 1024]⟩
abbrev S1x3x1 : Shape := ⟨3, ![1, 3, 1]⟩
abbrev S1024x3072 : Shape := ⟨2, ![1024, 3072]⟩
abbrev S1x1024 : Shape := ⟨2, ![1, 1024]⟩
abbrev S8x24x1x2048x128 : Shape := ⟨5, ![8, 24, 1, 2048, 128]⟩
abbrev S1x512x1024 : Shape := ⟨3, ![1, 512, 1024]⟩
abbrev S1x24x1x512x128 : Shape := ⟨5, ![1, 24, 1, 512, 128]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S1x1x1x512x128 : Shape := ⟨5, ![1, 1, 1, 512, 128]⟩

abbrev nBuf : Space → Nat
  | .hbm => 20
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x9216, .f32⟩
  | .hbm, ⟨3, _⟩ => ⟨S_, .f32⟩
  | .hbm, ⟨4, _⟩ => ⟨S3x1, .f32⟩
  | .hbm, ⟨5, _⟩ => ⟨S_, .i32⟩
  | .hbm, ⟨6, _⟩ => ⟨S1, .i32⟩
  | .hbm, ⟨7, _⟩ => ⟨S_, .f32⟩
  | .hbm, ⟨8, _⟩ => ⟨S1, .f32⟩
  | .hbm, ⟨9, _⟩ => ⟨S3x1, .f32⟩
  | .hbm, ⟨10, _⟩ => ⟨S1024x3x3x1024, .f32⟩
  | .hbm, ⟨11, _⟩ => ⟨S1024x1x3x1024, .f32⟩
  | .hbm, ⟨12, _⟩ => ⟨S1024x3x1024, .f32⟩
  | .hbm, ⟨13, _⟩ => ⟨S1x3x1, .f32⟩
  | .hbm, ⟨14, _⟩ => ⟨S1024x3x1024, .f32⟩
  | .hbm, ⟨15, _⟩ => ⟨S1024x3x1024, .f32⟩
  | .hbm, ⟨16, _⟩ => ⟨S1024x3072, .f32⟩
  | .hbm, ⟨17, _⟩ => ⟨S1024x3072, .bf16⟩
  | .hbm, ⟨18, _⟩ => ⟨S1x1024, .f32⟩
  | .hbm, ⟨19, _⟩ => ⟨S8x24x1x2048x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1x24x1x512x128, .bf16⟩
  | .local _ .vmem, ⟨5, _⟩ => ⟨S1x24x1x512x128, .bf16⟩
  | .local _ .vmem, ⟨6, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x24x1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference3Ideal.lean ====
abbrev S8x2048x1024 : Shape := ⟨3, ![8, 2048, 1024]⟩
abbrev S1024 : Shape := ⟨1, ![1024]⟩
abbrev S1024x9216 : Shape := ⟨2, ![1024, 9216]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x9216 : Shape := ⟨3, ![8, 2048, 9216]⟩
abbrev S8x2048x3x3x16x64 : Shape := ⟨6, ![8, 2048, 3, 3, 16, 64]⟩
abbrev S8x2048x1x1x16x64 : Shape := ⟨6, ![8, 2048, 1, 1, 16, 64]⟩
abbrev S8x2048x16x64 : Shape := ⟨4, ![8, 2048, 16, 64]⟩
abbrev S8x2048x1x16x64 : Shape := ⟨5, ![8, 2048, 1, 16, 64]⟩
abbrev S8x1x2048x16x64 : Shape := ⟨5, ![8, 1, 2048, 16, 64]⟩
abbrev S8x1x2048x8x128 : Shape := ⟨5, ![8, 1, 2048, 8, 128]⟩
abbrev S8x8x1x2048x128 : Shape := ⟨5, ![8, 8, 1, 2048, 128]⟩
abbrev S8x24x1x2048x128 : Shape := ⟨5, ![8, 24, 1, 2048, 128]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x9216, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x9216, .f32⟩
  | .hbm, ⟨20, _⟩ => ⟨S8x2048x3x3x16x64, .f32⟩
  | .hbm, ⟨21, _⟩ => ⟨S8x2048x1x1x16x64, .f32⟩
  | .hbm, ⟨22, _⟩ => ⟨S8x2048x16x64, .f32⟩
  | .hbm, ⟨23, _⟩ => ⟨S8x2048x1x16x64, .f32⟩
  | .hbm, ⟨24, _⟩ => ⟨S8x1x2048x16x64, .f32⟩
  | .hbm, ⟨25, _⟩ => ⟨S8x2048x16x64, .f32⟩
  | .hbm, ⟨26, _⟩ => ⟨S_, .f32⟩
  | .hbm, ⟨27, _⟩ => ⟨S8x2048x16x64, .f32⟩
  | .hbm, ⟨28, _⟩ => ⟨S8x2048x16x64, .f32⟩
  | .hbm, ⟨29, _⟩ => ⟨S8x2048x1x1x16x64, .f32⟩
  | .hbm, ⟨30, _⟩ => ⟨S8x2048x16x64, .f32⟩
  | .hbm, ⟨31, _⟩ => ⟨S8x2048x1x16x64, .f32⟩
  | .hbm, ⟨32, _⟩ => ⟨S8x1x2048x16x64, .f32⟩
  | .hbm, ⟨33, _⟩ => ⟨S8x2048x16x64, .f32⟩
  | .hbm, ⟨34, _⟩ => ⟨S8x2048x1x1x16x64, .f32⟩
  | .hbm, ⟨35, _⟩ => ⟨S8x2048x16x64, .f32⟩
  | .hbm, ⟨36, _⟩ => ⟨S8x2048x1x16x64, .f32⟩
  | .hbm, ⟨37, _⟩ => ⟨S8x1x2048x16x64, .f32⟩
  | .hbm, ⟨38, _⟩ => ⟨S8x2048x16x64, .f32⟩
  | .hbm, ⟨39, _⟩ => ⟨S_, .f32⟩
  | .hbm, ⟨40, _⟩ => ⟨S8x2048x16x64, .f32⟩
  | .hbm, ⟨41, _⟩ => ⟨S8x2048x16x64, .f32⟩
  | .hbm, ⟨42, _⟩ => ⟨S8x1x2048x8x128, .f32⟩
  | .hbm, ⟨43, _⟩ => ⟨S8x8x1x2048x128, .f32⟩
  | .hbm, ⟨44, _⟩ => ⟨S8x1x2048x8x128, .f32⟩
  | .hbm, ⟨45, _⟩ => ⟨S8x8x1x2048x128, .f32⟩
  | .hbm, ⟨46, _⟩ => ⟨S8x1x2048x8x128, .f32⟩
  | .hbm, ⟨47, _⟩ => ⟨S8x8x1x2048x128, .f32⟩
  | .hbm, ⟨48, _⟩ => ⟨S8x24x1x2048x128, .f32⟩
  | .hbm, ⟨49, _⟩ => ⟨S8x24x1x2048x128, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024 : Shape := ⟨1, ![1024]⟩
abbrev S1024x9216 : Shape := ⟨2, ![1024, 9216]⟩
abbrev S_ : Shape := ⟨0, ![]⟩
abbrev S3x1 : Shape := ⟨2, ![3, 1]⟩
abbrev S1 : Shape := ⟨1, ![1]⟩
abbrev S1024x3x3x1024 : Shape := ⟨4, ![1024, 3, 3, 1024]⟩
abbrev S1024x1x3x1024 : Shape := ⟨4, ![1024, 1, 3, 1024]⟩
abbrev S1024x3x1024 : Shape := ⟨3, ![1024, 3, 1024]⟩
abbrev S1x3x1 : Shape := ⟨3, ![1, 3, 1]⟩
abbrev S1024x3072 : Shape := ⟨2, ![1024, 3072]⟩
abbrev S1x1024 : Shape := ⟨2, ![1, 1024]⟩
abbrev S8x24x4x512x128 : Shape := ⟨5, ![8, 24, 4, 512, 128]⟩
abbrev S1x512x1024 : Shape := ⟨3, ![1, 512, 1024]⟩
abbrev S1x24x4x128x128 : Shape := ⟨5, ![1, 24, 4, 128, 128]⟩
abbrev S512x1024 : Shape := ⟨2, ![512, 1024]⟩
abbrev S24x512x128 : Shape := ⟨3, ![24, 512, 128]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x128 : Shape := ⟨3, ![1, 512, 128]⟩
abbrev S1x128x128 : Shape := ⟨3, ![1, 128, 128]⟩
abbrev S128x128 : Shape := ⟨2, ![128, 128]⟩
abbrev S1x1x1x128x128 : Shape := ⟨5, ![1, 1, 1, 128, 128]⟩

abbrev nBuf : Space → Nat
  | .hbm => 20
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x9216, .f32⟩
  | .hbm, ⟨3, _⟩ => ⟨S_, .f32⟩
  | .hbm, ⟨4, _⟩ => ⟨S3x1, .f32⟩
  | .hbm, ⟨5, _⟩ => ⟨S_, .i32⟩
  | .hbm, ⟨6, _⟩ => ⟨S1, .i32⟩
  | .hbm, ⟨7, _⟩ => ⟨S_, .f32⟩
  | .hbm, ⟨8, _⟩ => ⟨S1, .f32⟩
  | .hbm, ⟨9, _⟩ => ⟨S3x1, .f32⟩
  | .hbm, ⟨10, _⟩ => ⟨S1024x3x3x1024, .f32⟩
  | .hbm, ⟨11, _⟩ => ⟨S1024x1x3x1024, .f32⟩
  | .hbm, ⟨12, _⟩ => ⟨S1024x3x1024, .f32⟩
  | .hbm, ⟨13, _⟩ => ⟨S1x3x1, .f32⟩
  | .hbm, ⟨14, _⟩ => ⟨S1024x3x1024, .f32⟩
  | .hbm, ⟨15, _⟩ => ⟨S1024x3x1024, .f32⟩
  | .hbm, ⟨16, _⟩ => ⟨S1024x3072, .f32⟩
  | .hbm, ⟨17, _⟩ => ⟨S1024x3072, .bf16⟩
  | .hbm, ⟨18, _⟩ => ⟨S1x1024, .f32⟩
  | .hbm, ⟨19, _⟩ => ⟨S8x24x4x512x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1x24x4x128x128, .bf16⟩
  | .local _ .vmem, ⟨5, _⟩ => ⟨S1x24x4x128x128, .bf16⟩
  | .local _ .vmem, ⟨6, _⟩ => ⟨S512x1024, .bf16⟩
  | .local _ .vmem, ⟨7, _⟩ => ⟨S24x512x128, .f32⟩
  | .local _ .vmem, ⟨8, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x24x4x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference4Ideal.lean ====
abbrev S8x2048x1024 : Shape := ⟨3, ![8, 2048, 1024]⟩
abbrev S1024 : Shape := ⟨1, ![1024]⟩
abbrev S1024x9216 : Shape := ⟨2, ![1024, 9216]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x9216 : Shape := ⟨3, ![8, 2048, 9216]⟩
abbrev S8x2048x3x3x16x64 : Shape := ⟨6, ![8, 2048, 3, 3, 16, 64]⟩
abbrev S8x2048x1x1x16x64 : Shape := ⟨6, ![8, 2048, 1, 1, 16, 64]⟩
abbrev S8x2048x16x64 : Shape := ⟨4, ![8, 2048, 16, 64]⟩
abbrev S8x512x4x16x64 : Shape := ⟨5, ![8, 512, 4, 16, 64]⟩
abbrev S8x4x512x16x64 : Shape := ⟨5, ![8, 4, 512, 16, 64]⟩
abbrev S32x512x16x64 : Shape := ⟨4, ![32, 512, 16, 64]⟩
abbrev S8x4x512x8x128 : Shape := ⟨5, ![8, 4, 512, 8, 128]⟩
abbrev S8x8x4x512x128 : Shape := ⟨5, ![8, 8, 4, 512, 128]⟩
abbrev S8x24x4x512x128 : Shape := ⟨5, ![8, 24, 4, 512, 128]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x9216, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x9216, .f32⟩
  | .hbm, ⟨20, _⟩ => ⟨S8x2048x3x3x16x64, .f32⟩
  | .hbm, ⟨21, _⟩ => ⟨S8x2048x1x1x16x64, .f32⟩
  | .hbm, ⟨22, _⟩ => ⟨S8x2048x16x64, .f32⟩
  | .hbm, ⟨23, _⟩ => ⟨S8x512x4x16x64, .f32⟩
  | .hbm, ⟨24, _⟩ => ⟨S8x4x512x16x64, .f32⟩
  | .hbm, ⟨25, _⟩ => ⟨S32x512x16x64, .f32⟩
  | .hbm, ⟨26, _⟩ => ⟨S_, .f32⟩
  | .hbm, ⟨27, _⟩ => ⟨S32x512x16x64, .f32⟩
  | .hbm, ⟨28, _⟩ => ⟨S32x512x16x64, .f32⟩
  | .hbm, ⟨29, _⟩ => ⟨S8x2048x1x1x16x64, .f32⟩
  | .hbm, ⟨30, _⟩ => ⟨S8x2048x16x64, .f32⟩
  | .hbm, ⟨31, _⟩ => ⟨S8x512x4x16x64, .f32⟩
  | .hbm, ⟨32, _⟩ => ⟨S8x4x512x16x64, .f32⟩
  | .hbm, ⟨33, _⟩ => ⟨S32x512x16x64, .f32⟩
  | .hbm, ⟨34, _⟩ => ⟨S8x2048x1x1x16x64, .f32⟩
  | .hbm, ⟨35, _⟩ => ⟨S8x2048x16x64, .f32⟩
  | .hbm, ⟨36, _⟩ => ⟨S8x512x4x16x64, .f32⟩
  | .hbm, ⟨37, _⟩ => ⟨S8x4x512x16x64, .f32⟩
  | .hbm, ⟨38, _⟩ => ⟨S32x512x16x64, .f32⟩
  | .hbm, ⟨39, _⟩ => ⟨S_, .f32⟩
  | .hbm, ⟨40, _⟩ => ⟨S32x512x16x64, .f32⟩
  | .hbm, ⟨41, _⟩ => ⟨S32x512x16x64, .f32⟩
  | .hbm, ⟨42, _⟩ => ⟨S8x4x512x8x128, .f32⟩
  | .hbm, ⟨43, _⟩ => ⟨S8x8x4x512x128, .f32⟩
  | .hbm, ⟨44, _⟩ => ⟨S8x4x512x8x128, .f32⟩
  | .hbm, ⟨45, _⟩ => ⟨S8x8x4x512x128, .f32⟩
  | .hbm, ⟨46, _⟩ => ⟨S8x4x512x8x128, .f32⟩
  | .hbm, ⟨47, _⟩ => ⟨S8x8x4x512x128, .f32⟩
  | .hbm, ⟨48, _⟩ => ⟨S8x24x4x512x128, .f32⟩
  | .hbm, ⟨49, _⟩ => ⟨S8x24x4x512x128, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024 : Shape := ⟨1, ![1024]⟩
abbrev S1024x9216 : Shape := ⟨2, ![1024, 9216]⟩
abbrev S_ : Shape := ⟨0, ![]⟩
abbrev S3x1 : Shape := ⟨2, ![3, 1]⟩
abbrev S1 : Shape := ⟨1, ![1]⟩
abbrev S1024x3x3x1024 : Shape := ⟨4, ![1024, 3, 3, 1024]⟩
abbrev S1024x1x3x1024 : Shape := ⟨4, ![1024, 1, 3, 1024]⟩
abbrev S1024x3x1024 : Shape := ⟨3, ![1024, 3, 1024]⟩
abbrev S1x3x1 : Shape := ⟨3, ![1, 3, 1]⟩
abbrev S1024x3072 : Shape := ⟨2, ![1024, 3072]⟩
abbrev S1x1024 : Shape := ⟨2, ![1, 1024]⟩
abbrev S8x24x16x128x128 : Shape := ⟨5, ![8, 24, 16, 128, 128]⟩
abbrev S1x512x1024 : Shape := ⟨3, ![1, 512, 1024]⟩
abbrev S1x24x16x32x128 : Shape := ⟨5, ![1, 24, 16, 32, 128]⟩
abbrev S512x1024 : Shape := ⟨2, ![512, 1024]⟩
abbrev S24x512x128 : Shape := ⟨3, ![24, 512, 128]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x128 : Shape := ⟨3, ![1, 512, 128]⟩
abbrev S1x128x128 : Shape := ⟨3, ![1, 128, 128]⟩
abbrev S128x128 : Shape := ⟨2, ![128, 128]⟩
abbrev S32x128 : Shape := ⟨2, ![32, 128]⟩
abbrev S1x1x1x32x128 : Shape := ⟨5, ![1, 1, 1, 32, 128]⟩

abbrev nBuf : Space → Nat
  | .hbm => 20
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x9216, .f32⟩
  | .hbm, ⟨3, _⟩ => ⟨S_, .f32⟩
  | .hbm, ⟨4, _⟩ => ⟨S3x1, .f32⟩
  | .hbm, ⟨5, _⟩ => ⟨S_, .i32⟩
  | .hbm, ⟨6, _⟩ => ⟨S1, .i32⟩
  | .hbm, ⟨7, _⟩ => ⟨S_, .f32⟩
  | .hbm, ⟨8, _⟩ => ⟨S1, .f32⟩
  | .hbm, ⟨9, _⟩ => ⟨S3x1, .f32⟩
  | .hbm, ⟨10, _⟩ => ⟨S1024x3x3x1024, .f32⟩
  | .hbm, ⟨11, _⟩ => ⟨S1024x1x3x1024, .f32⟩
  | .hbm, ⟨12, _⟩ => ⟨S1024x3x1024, .f32⟩
  | .hbm, ⟨13, _⟩ => ⟨S1x3x1, .f32⟩
  | .hbm, ⟨14, _⟩ => ⟨S1024x3x1024, .f32⟩
  | .hbm, ⟨15, _⟩ => ⟨S1024x3x1024, .f32⟩
  | .hbm, ⟨16, _⟩ => ⟨S1024x3072, .f32⟩
  | .hbm, ⟨17, _⟩ => ⟨S1024x3072, .bf16⟩
  | .hbm, ⟨18, _⟩ => ⟨S1x1024, .f32⟩
  | .hbm, ⟨19, _⟩ => ⟨S8x24x16x128x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1x24x16x32x128, .bf16⟩
  | .local _ .vmem, ⟨5, _⟩ => ⟨S1x24x16x32x128, .bf16⟩
  | .local _ .vmem, ⟨6, _⟩ => ⟨S512x1024, .bf16⟩
  | .local _ .vmem, ⟨7, _⟩ => ⟨S24x512x128, .f32⟩
  | .local _ .vmem, ⟨8, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x24x16x32x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference5Ideal.lean ====
abbrev S8x2048x1024 : Shape := ⟨3, ![8, 2048, 1024]⟩
abbrev S1024 : Shape := ⟨1, ![1024]⟩
abbrev S1024x9216 : Shape := ⟨2, ![1024, 9216]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x9216 : Shape := ⟨3, ![8, 2048, 9216]⟩
abbrev S8x2048x3x3x16x64 : Shape := ⟨6, ![8, 2048, 3, 3, 16, 64]⟩
abbrev S8x2048x1x1x16x64 : Shape := ⟨6, ![8, 2048, 1, 1, 16, 64]⟩
abbrev S8x2048x16x64 : Shape := ⟨4, ![8, 2048, 16, 64]⟩
abbrev S8x128x16x16x64 : Shape := ⟨5, ![8, 128, 16, 16, 64]⟩
abbrev S8x16x128x16x64 : Shape := ⟨5, ![8, 16, 128, 16, 64]⟩
abbrev S128x128x16x64 : Shape := ⟨4, ![128, 128, 16, 64]⟩
abbrev S8x16x128x8x128 : Shape := ⟨5, ![8, 16, 128, 8, 128]⟩
abbrev S8x8x16x128x128 : Shape := ⟨5, ![8, 8, 16, 128, 128]⟩
abbrev S8x24x16x128x128 : Shape := ⟨5, ![8, 24, 16, 128, 128]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x9216, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x9216, .f32⟩
  | .hbm, ⟨20, _⟩ => ⟨S8x2048x3x3x16x64, .f32⟩
  | .hbm, ⟨21, _⟩ => ⟨S8x2048x1x1x16x64, .f32⟩
  | .hbm, ⟨22, _⟩ => ⟨S8x2048x16x64, .f32⟩
  | .hbm, ⟨23, _⟩ => ⟨S8x128x16x16x64, .f32⟩
  | .hbm, ⟨24, _⟩ => ⟨S8x16x128x16x64, .f32⟩
  | .hbm, ⟨25, _⟩ => ⟨S128x128x16x64, .f32⟩
  | .hbm, ⟨26, _⟩ => ⟨S_, .f32⟩
  | .hbm, ⟨27, _⟩ => ⟨S128x128x16x64, .f32⟩
  | .hbm, ⟨28, _⟩ => ⟨S128x128x16x64, .f32⟩
  | .hbm, ⟨29, _⟩ => ⟨S8x2048x1x1x16x64, .f32⟩
  | .hbm, ⟨30, _⟩ => ⟨S8x2048x16x64, .f32⟩
  | .hbm, ⟨31, _⟩ => ⟨S8x128x16x16x64, .f32⟩
  | .hbm, ⟨32, _⟩ => ⟨S8x16x128x16x64, .f32⟩
  | .hbm, ⟨33, _⟩ => ⟨S128x128x16x64, .f32⟩
  | .hbm, ⟨34, _⟩ => ⟨S8x2048x1x1x16x64, .f32⟩
  | .hbm, ⟨35, _⟩ => ⟨S8x2048x16x64, .f32⟩
  | .hbm, ⟨36, _⟩ => ⟨S8x128x16x16x64, .f32⟩
  | .hbm, ⟨37, _⟩ => ⟨S8x16x128x16x64, .f32⟩
  | .hbm, ⟨38, _⟩ => ⟨S128x128x16x64, .f32⟩
  | .hbm, ⟨39, _⟩ => ⟨S_, .f32⟩
  | .hbm, ⟨40, _⟩ => ⟨S128x128x16x64, .f32⟩
  | .hbm, ⟨41, _⟩ => ⟨S128x128x16x64, .f32⟩
  | .hbm, ⟨42, _⟩ => ⟨S8x16x128x8x128, .f32⟩
  | .hbm, ⟨43, _⟩ => ⟨S8x8x16x128x128, .f32⟩
  | .hbm, ⟨44, _⟩ => ⟨S8x16x128x8x128, .f32⟩
  | .hbm, ⟨45, _⟩ => ⟨S8x8x16x128x128, .f32⟩
  | .hbm, ⟨46, _⟩ => ⟨S8x16x128x8x128, .f32⟩
  | .hbm, ⟨47, _⟩ => ⟨S8x8x16x128x128, .f32⟩
  | .hbm, ⟨48, _⟩ => ⟨S8x24x16x128x128, .f32⟩
  | .hbm, ⟨49, _⟩ => ⟨S8x24x16x128x128, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]
-- ==== Proof.FfnTerm.lean ====
/-
  The feed-forward kernel's block as a few named stages.  One grid point of the kernel normalises its 512 rows and the
  8 rows before them, and for each half of the rows runs eleven column chunks: two up-projections, the three-tap
  causal convolution of each, the gated activation, and one partial down-projection, summed over the chunks.  The run's
  found term is cut here into exactly these stages.
-/
module

public import proofs.«01_k».proof.Proof.Gen.Kernel2Ideal.Frame
public import Idealize.ShloMosaic.Lib.Pipeline.Value
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen

variable {F : FTy → Type} [FloatOps F]

/-- The gated activation of two convolved halves: `gate · 1/(1 + exp(0 − gate)) · val`. -/
def act (gate val : FVec F S256x256 .f32) : FVec F S256x256 .bf16 :=
  truncf .bf16 (mulf (mulf gate (divf (broadcast S256x256 (Scalar.ofBits .f32 0x3F800000#32))
    (addf (broadcast S256x256 (Scalar.ofBits .f32 0x3F800000#32)) (exp (subf (broadcast S256x256 (Scalar.ofBits .f32 0x00000000#32)) gate))))) val) bitsLt_bf16_f32

/-- One column chunk's contribution to 256 output rows. -/
def chunk (xn : Vec F S264x1024 .bf16) (wg wv : Vec F S1024x256 .bf16) (cg cv : Vec F S3x256 .f32) (bg bv : Vec F S1x256 .f32)
    (wd : Vec F S256x1024 .bf16) : FVec F S256x1024 .f32 :=
  k0_pay15 (act (k0_pay16 (k0_pay6 xn wg) cg bg) (k0_pay16 (k0_pay6 xn wv) cv bv)) wd

/-- Chunk `c`'s contribution, its weights read at columns `256 c` (gate) and `2816 + 256 c` (value). -/
def chunkAt (xn : Vec F S264x1024 .bf16) (x3 : Vec F S1024x5632 .bf16) (x4 : Vec F S3x5632 .f32) (x5 : Vec F S1x5632 .f32)
    (x6 : Vec F S2816x1024 .bf16) (c : Fin 11) : FVec F S256x1024 .f32 :=
  chunk xn
    (View.ld x3 (Rect.unit ![0, 256 * c.val] S1024x256.size (by revert c; decide)))
    (View.ld x3 (Rect.unit ![0, 2816 + 256 * c.val] S1024x256.size (by revert c; decide)))
    (View.ld x4 (Rect.unit ![0, 256 * c.val] S3x256.size (by revert c; decide)))
    (View.ld x4 (Rect.unit ![0, 2816 + 256 * c.val] S3x256.size (by revert c; decide)))
    (View.ld x5 (Rect.unit ![0, 256 * c.val] S1x256.size (by revert c; decide)))
    (View.ld x5 (Rect.unit ![0, 2816 + 256 * c.val] S1x256.size (by revert c; decide)))
    (View.ld x6 (Rect.unit ![256 * c.val, 0] S256x1024.size (by revert c; decide)))

/-- The eleven chunks added in the order the kernel adds them. -/
def acc (xn : Vec F S264x1024 .bf16) (x3 : Vec F S1024x5632 .bf16) (x4 : Vec F S3x5632 .f32) (x5 : Vec F S1x5632 .f32)
    (x6 : Vec F S2816x1024 .bf16) : FVec F S256x1024 .f32 :=
  addf (addf (addf (addf (addf (addf (addf (addf (addf (addf (chunkAt xn x3 x4 x5 x6 0) (chunkAt xn x3 x4 x5 x6 1)) (chunkAt xn x3 x4 x5 x6 2)) (chunkAt xn x3 x4 x5 x6 3)) (chunkAt xn x3 x4 x5 x6 4)) (chunkAt xn x3 x4 x5 x6 5)) (chunkAt xn x3 x4 x5 x6 6)) (chunkAt xn x3 x4 x5 x6 7)) (chunkAt xn x3 x4 x5 x6 8)) (chunkAt xn x3 x4 x5 x6 9)) (chunkAt xn x3 x4 x5 x6 10)

/-- The normalised rows held in the scratch buffer: eight halo rows, then the block's 512 rows. -/
def xnAll (i : grid0.Coords) (x0 : Vec F S1x512x1024 .f32) (x1 : Vec F S1x8x1024 .f32) (x2 : Vec F S1x1024 .f32) : Vec F S520x1024 .bf16 :=
  View.canon [⟨Rect.unit ![8, 0] S512x1024.size inb_S520x1024_S512x1024_8_0, k0_pay5 (k0_pay4 x2 x0)⟩,
    ⟨Rect.unit ![0, 0] S8x1024.size inb_S520x1024_S8x1024_0_0, k0_pay3 i x2 x1⟩]

/-- The rows half `s` of the block reads: 264 scratch rows from row `256 s`. -/
def xnS0 (i : grid0.Coords) (x0 : Vec F S1x512x1024 .f32) (x1 : Vec F S1x8x1024 .f32) (x2 : Vec F S1x1024 .f32) : Vec F S264x1024 .bf16 :=
  View.ld (xnAll i x0 x1 x2) (Rect.unit ![0, 0] S264x1024.size inb_S520x1024_S264x1024_0_0)

@[inherit_doc xnS0]
def xnS1 (i : grid0.Coords) (x0 : Vec F S1x512x1024 .f32) (x1 : Vec F S1x8x1024 .f32) (x2 : Vec F S1x1024 .f32) : Vec F S264x1024 .bf16 :=
  View.ld (xnAll i x0 x1 x2) (Rect.unit ![256, 0] S264x1024.size inb_S520x1024_S264x1024_256_0)

/-- The two halves' accumulators, side by side in the accumulator scratch. -/
def accAll (a0 a1 : FVec F S256x1024 .f32) : Vec F S512x1024 .f32 :=
  View.canon [⟨Rect.unit ![256, 0] S256x1024.size inb_S512x1024_S256x1024_256_0, a1⟩,
    ⟨Rect.unit ![0, 0] S256x1024.size inb_S512x1024_S256x1024_0_0, a0⟩]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S520x1024 .bf16) (harg11 : arg11.IsWhole) (arg12 : Memref sig .tc .vmem S512x1024 .f32) (harg12 : arg12.IsWhole)
        (x0 : Vec F S1x512x1024 .f32) (x1 : Vec F S1x8x1024 .f32) (x2 : Vec F S1x1024 .f32) (x3 : Vec F S1024x5632 .bf16) (x4 : Vec F S3x5632 .f32) (x5 : Vec F S1x5632 .f32) (x6 : Vec F S2816x1024 .bf16) (x7 : Vec F S1x1024 .f32)

theorem half0_0 : kernelRun0_A.sl.r_10 (F := F) c i arg2 harg2 arg3 harg3 arg4 harg4 arg5 harg5 arg6 harg6 arg7 harg7 arg8 harg8 arg11 x0 x1 x2 x3 x4 x5 x6
    = chunkAt (kernelRun0_A.sl.v43 (F := F) c i arg2 harg2 arg3 harg3 arg4 harg4 arg11 x0 x1 x2) x3 x4 x5 x6 0 := by
  unfold kernelRun0_A.sl.r_10 kernelRun0_A.sl.r_9 kernelRun0_A.sl.r_2 kernelRun0_A.sl.r_1
  simp only [View.readAt_eq_ld, harg5.read_unread, harg6.read_unread, harg7.read_unread, harg8.read_unread]
  rfl

theorem half0_1 : kernelRun0_A.sl.r_21 (F := F) c i arg2 harg2 arg3 harg3 arg4 harg4 arg5 harg5 arg6 harg6 arg7 harg7 arg8 harg8 arg11 x0 x1 x2 x3 x4 x5 x6
    = addf (kernelRun0_A.sl.r_10 (F := F) c i arg2 harg2 arg3 harg3 arg4 harg4 arg5 harg5 arg6 harg6 arg7 harg7 arg8 harg8 arg11 x0 x1 x2 x3 x4 x5 x6) (chunkAt (kernelRun0_A.sl.v43 (F := F) c i arg2 harg2 arg3 harg3 arg4 harg4 arg11 x0 x1 x2) x3 x4 x5 x6 1) := by
  unfold kernelRun0_A.sl.r_21 kernelRun0_A.sl.r_20 kernelRun0_A.sl.r_19 kernelRun0_A.sl.r_5 kernelRun0_A.sl.r_6
  simp only [View.readAt_eq_ld, harg5.read_unread, harg6.read_unread, harg7.read_unread, harg8.read_unread]
  rfl

theorem half0_2 : kernelRun0_A.sl.r_33 (F := F) c i arg2 harg2 arg3 harg3 arg4 harg4 arg5 harg5 arg6 harg6 arg7 harg7 arg8 harg8 arg11 x0 x1 x2 x3 x4 x5 x6
    = addf (kernelRun0_A.sl.r_21 (F := F) c i arg2 harg2 arg3 harg3 arg4 harg4 arg5 harg5 arg6 harg6 arg7 harg7 arg8 harg8 arg11 x0 x1 x2 x3 x4 x5 x6) (chunkAt (kernelRun0_A.sl.v43 (F := F) c i arg2 harg2 arg3 harg3 arg4 harg4 arg11 x0 x1 x2) x3 x4 x5 x6 2) := by
  unfold kernelRun0_A.sl.r_33 kernelRun0_A.sl.r_32 kernelRun0_A.sl.r_31 kernelRun0_A.sl.r_16 kernelRun0_A.sl.r_30 kernelRun0_A.sl.r_15
  simp only [View.readAt_eq_ld, harg5.read_unread, harg6.read_unread, harg7.read_unread, harg8.read_unread]
  rfl

theorem half0_3 : kernelRun0_A.sl.r_47 (F := F) c i arg2 harg2 arg3 harg3 arg4 harg4 arg5 harg5 arg6 harg6 arg7 harg7 arg8 harg8 arg11 x0 x1 x2 x3 x4 x5 x6
    = addf (kernelRun0_A.sl.r_33 (F := F) c i arg2 harg2 arg3 harg3 arg4 harg4 arg5 harg5 arg6 harg6 arg7 harg7 arg8 harg8 arg11 x0 x1 x2 x3 x4 x5 x6) (chunkAt (kernelRun0_A.sl.v43 (F := F) c i arg2 harg2 arg3 harg3 arg4 harg4 arg11 x0 x1 x2) x3 x4 x5 x6 3) := by
  unfold kernelRun0_A.sl.r_47 kernelRun0_A.sl.r_46 kernelRun0_A.sl.r_45 kernelRun0_A.sl.r_44 kernelRun0_A.sl.r_43 kernelRun0_A.sl.r_42 kernelRun0_A.sl.r_27 kernelRun0_A.sl.r_26
  simp only [View.readAt_eq_ld, harg5.read_unread, harg6.read_unread, harg7.read_unread, harg8.read_unread]
  rfl

theorem half0_4 : kernelRun0_A.sl.r_60 (F := F) c i arg2 harg2 arg3 harg3 arg4 harg4 arg5 harg5 arg6 harg6 arg7 harg7 arg8 harg8 arg11 x0 x1 x2 x3 x4 x5 x6
    = addf (kernelRun0_A.sl.r_47 (F := F) c i arg2 harg2 arg3 harg3 arg4 harg4 arg5 harg5 arg6 harg6 arg7 harg7 arg8 harg8 arg11 x0 x1 x2 x3 x4 x5 x6) (chunkAt (kernelRun0_A.sl.v43 (F := F) c i arg2 harg2 arg3 harg3 arg4 harg4 arg11 x0 x1 x2) x3 x4 x5 x6 4) := by
  unfold kernelRun0_A.sl.r_60 kernelRun0_A.sl.r_59 kernelRun0_A.sl.r_58 kernelRun0_A.sl.r_57 kernelRun0_A.sl.r_56 kernelRun0_A.sl.r_55 kernelRun0_A.sl.r_38 kernelRun0_A.sl.r_39
  simp only [View.readAt_eq_ld, harg5.read_unread, harg6.read_unread, harg7.read_unread, harg8.read_unread]
  rfl

theorem half0_5 : kernelRun0_A.sl.r_72 (F := F) c i arg2 harg2 arg3 harg3 arg4 harg4 arg5 harg5 arg6 harg6 arg7 harg7 arg8 harg8 arg11 x0 x1 x2 x3 x4 x5 x6
    = addf (kernelRun0_A.sl.r_60 (F := F) c i arg2 harg2 arg3 harg3 arg4 harg4 arg5 harg5 arg6 harg6 arg7 harg7 arg8 harg8 arg11 x0 x1 x2 x3 x4 x5 x6) (chunkAt (kernelRun0_A.sl.v43 (F := F) c i arg2 harg2 arg3 harg3 arg4 harg4 arg11 x0 x1 x2) x3 x4 x5 x6 5) := by
  unfold kernelRun0_A.sl.r_72 kernelRun0_A.sl.r_71 kernelRun0_A.sl.r_70 kernelRun0_A.sl.r_52 kernelRun0_A.sl.r_51
  simp only [View.readAt_eq_ld, harg5.read_unread, harg6.read_unread, harg7.read_unread, harg8.read_unread]
  rfl

theorem half0_6 : kernelRun0_A.sl.r_83 (F := F) c i arg2 harg2 arg3 harg3 arg4 harg4 arg5 harg5 arg6 harg6 arg7 harg7 arg8 harg8 arg11 x0 x1 x2 x3 x4 x5 x6
    = addf (kernelRun0_A.sl.r_72 (F := F) c i arg2 harg2 arg3 harg3 arg4 harg4 arg5 harg5 arg6 harg6 arg7 harg7 arg8 harg8 arg11 x0 x1 x2 x3 x4 x5 x6) (chunkAt (kernelRun0_A.sl.v43 (F := F) c i arg2 harg2 arg3 harg3 arg4 harg4 arg11 x0 x1 x2) x3 x4 x5 x6 6) := by
  unfold kernelRun0_A.sl.r_83 kernelRun0_A.sl.r_82 kernelRun0_A.sl.r_81 kernelRun0_A.sl.r_66 kernelRun0_A.sl.r_67
  simp only [View.readAt_eq_ld, harg5.read_unread, harg6.read_unread, harg7.read_unread, harg8.read_unread]
  rfl

theorem half0_7 : kernelRun0_A.sl.r_95 (F := F) c i arg2 harg2 arg3 harg3 arg4 harg4 arg5 harg5 arg6 harg6 arg7 harg7 arg8 harg8 arg11 x0 x1 x2 x3 x4 x5 x6
    = addf (kernelRun0_A.sl.r_83 (F := F) c i arg2 harg2 arg3 harg3 arg4 harg4 arg5 harg5 arg6 harg6 arg7 harg7 arg8 harg8 arg11 x0 x1 x2 x3 x4 x5 x6) (chunkAt (kernelRun0_A.sl.v43 (F := F) c i arg2 harg2 arg3 harg3 arg4 harg4 arg11 x0 x1 x2) x3 x4 x5 x6 7) := by
  unfold kernelRun0_A.sl.r_95 kernelRun0_A.sl.r_94 kernelRun0_A.sl.r_93 kernelRun0_A.sl.r_78 kernelRun0_A.sl.r_92 kernelRun0_A.sl.r_77
  simp only [View.readAt_eq_ld, harg5.read_unread, harg6.read_unread, harg7.read_unread, harg8.read_unread]
  rfl

theorem half0_8 : kernelRun0_A.sl.r_109 (F := F) c i arg2 harg2 arg3 harg3 arg4 harg4 arg5 harg5 arg6 harg6 arg7 harg7 arg8 harg8 arg11 x0 x1 x2 x3 x4 x5 x6
    = addf (kernelRun0_A.sl.r_95 (F := F) c i arg2 harg2 arg3 harg3 arg4 harg4 arg5 harg5 arg6 harg6 arg7 harg7 arg8 harg8 arg11 x0 x1 x2 x3 x4 x5 x6) (chunkAt (kernelRun0_A.sl.v43 (F := F) c i arg2 harg2 arg3 harg3 arg4 harg4 arg11 x0 x1 x2) x3 x4 x5 x6 8) := by
  unfold kernelRun0_A.sl.r_109 kernelRun0_A.sl.r_108 kernelRun0_A.sl.r_107 kernelRun0_A.sl.r_106 kernelRun0_A.sl.r_105 kernelRun0_A.sl.r_104 kernelRun0_A.sl.r_89 kernelRun0_A.sl.r_88
  simp only [View.readAt_eq_ld, harg5.read_unread, harg6.read_unread, harg7.read_unread, harg8.read_unread]
  rfl

theorem half0_9 : kernelRun0_A.sl.r_122 (F := F) c i arg2 harg2 arg3 harg3 arg4 harg4 arg5 harg5 arg6 harg6 arg7 harg7 arg8 harg8 arg11 x0 x1 x2 x3 x4 x5 x6
    = addf (kernelRun0_A.sl.r_109 (F := F) c i arg2 harg2 arg3 harg3 arg4 harg4 arg5 harg5 arg6 harg6 arg7 harg7 arg8 harg8 arg11 x0 x1 x2 x3 x4 x5 x6) (chunkAt (kernelRun0_A.sl.v43 (F := F) c i arg2 harg2 arg3 harg3 arg4 harg4 arg11 x0 x1 x2) x3 x4 x5 x6 9) := by
  unfold kernelRun0_A.sl.r_122 kernelRun0_A.sl.r_121 kernelRun0_A.sl.r_120 kernelRun0_A.sl.r_119 kernelRun0_A.sl.r_118 kernelRun0_A.sl.r_117 kernelRun0_A.sl.r_100 kernelRun0_A.sl.r_101
  simp only [View.readAt_eq_ld, harg5.read_unread, harg6.read_unread, harg7.read_unread, harg8.read_unread]
  rfl

theorem half0_10 : kernelRun0_A.sl.r_130 (F := F) c i arg2 harg2 arg3 harg3 arg4 harg4 arg5 harg5 arg6 harg6 arg7 harg7 arg8 harg8 arg11 x0 x1 x2 x3 x4 x5 x6
    = addf (kernelRun0_A.sl.r_122 (F := F) c i arg2 harg2 arg3 harg3 arg4 harg4 arg5 harg5 arg6 harg6 arg7 harg7 arg8 harg8 arg11 x0 x1 x2 x3 x4 x5 x6) (chunkAt (kernelRun0_A.sl.v43 (F := F) c i arg2 harg2 arg3 harg3 arg4 harg4 arg11 x0 x1 x2) x3 x4 x5 x6 10) := by
  unfold kernelRun0_A.sl.r_130 kernelRun0_A.sl.r_129 kernelRun0_A.sl.r_128 kernelRun0_A.sl.r_113 kernelRun0_A.sl.r_114
  simp only [View.readAt_eq_ld, harg5.read_unread, harg6.read_unread, harg7.read_unread, harg8.read_unread]
  rfl

theorem half1_0 : kernelRun0_A.sl.r_14 (F := F) c i arg2 harg2 arg3 harg3 arg4 harg4 arg5 harg5 arg6 harg6 arg7 harg7 arg8 harg8 arg11 x0 x1 x2 x3 x4 x5 x6
    = chunkAt (kernelRun0_A.sl.v44 (F := F) c i arg2 harg2 arg3 harg3 arg4 harg4 arg11 x0 x1 x2) x3 x4 x5 x6 0 := by
  unfold kernelRun0_A.sl.r_14 kernelRun0_A.sl.r_13 kernelRun0_A.sl.r_12 kernelRun0_A.sl.r_4 kernelRun0_A.sl.r_11 kernelRun0_A.sl.r_3
  simp only [View.readAt_eq_ld, harg5.read_unread, harg6.read_unread, harg7.read_unread, harg8.read_unread]
  rfl

theorem half1_1 : kernelRun0_A.sl.r_25 (F := F) c i arg2 harg2 arg3 harg3 arg4 harg4 arg5 harg5 arg6 harg6 arg7 harg7 arg8 harg8 arg11 x0 x1 x2 x3 x4 x5 x6
    = addf (kernelRun0_A.sl.r_14 (F := F) c i arg2 harg2 arg3 harg3 arg4 harg4 arg5 harg5 arg6 harg6 arg7 harg7 arg8 harg8 arg11 x0 x1 x2 x3 x4 x5 x6) (chunkAt (kernelRun0_A.sl.v44 (F := F) c i arg2 harg2 arg3 harg3 arg4 harg4 arg11 x0 x1 x2) x3 x4 x5 x6 1) := by
  unfold kernelRun0_A.sl.r_25 kernelRun0_A.sl.r_24 kernelRun0_A.sl.r_23 kernelRun0_A.sl.r_7 kernelRun0_A.sl.r_22 kernelRun0_A.sl.r_8
  simp only [View.readAt_eq_ld, harg5.read_unread, harg6.read_unread, harg7.read_unread, harg8.read_unread]
  rfl

theorem half1_2 : kernelRun0_A.sl.r_37 (F := F) c i arg2 harg2 arg3 harg3 arg4 harg4 arg5 harg5 arg6 harg6 arg7 harg7 arg8 harg8 arg11 x0 x1 x2 x3 x4 x5 x6
    = addf (kernelRun0_A.sl.r_25 (F := F) c i arg2 harg2 arg3 harg3 arg4 harg4 arg5 harg5 arg6 harg6 arg7 harg7 arg8 harg8 arg11 x0 x1 x2 x3 x4 x5 x6) (chunkAt (kernelRun0_A.sl.v44 (F := F) c i arg2 harg2 arg3 harg3 arg4 harg4 arg11 x0 x1 x2) x3 x4 x5 x6 2) := by
  unfold kernelRun0_A.sl.r_37 kernelRun0_A.sl.r_36 kernelRun0_A.sl.r_18 kernelRun0_A.sl.r_35 kernelRun0_A.sl.r_34 kernelRun0_A.sl.r_17
  simp only [View.readAt_eq_ld, harg5.read_unread, harg6.read_unread, harg7.read_unread, harg8.read_unread]
  rfl

theorem half1_3 : kernelRun0_A.sl.r_50 (F := F) c i arg2 harg2 arg3 harg3 arg4 harg4 arg5 harg5 arg6 harg6 arg7 harg7 arg8 harg8 arg11 x0 x1 x2 x3 x4 x5 x6
    = addf (kernelRun0_A.sl.r_37 (F := F) c i arg2 harg2 arg3 harg3 arg4 harg4 arg5 harg5 arg6 harg6 arg7 harg7 arg8 harg8 arg11 x0 x1 x2 x3 x4 x5 x6) (chunkAt (kernelRun0_A.sl.v44 (F := F) c i arg2 harg2 arg3 harg3 arg4 harg4 arg11 x0 x1 x2) x3 x4 x5 x6 3) := by
  unfold kernelRun0_A.sl.r_50 kernelRun0_A.sl.r_49 kernelRun0_A.sl.r_48 kernelRun0_A.sl.r_42 kernelRun0_A.sl.r_29 kernelRun0_A.sl.r_28
  simp only [View.readAt_eq_ld, harg5.read_unread, harg6.read_unread, harg7.read_unread, harg8.read_unread]
  rfl

theorem half1_4 : kernelRun0_A.sl.r_65 (F := F) c i arg2 harg2 arg3 harg3 arg4 harg4 arg5 harg5 arg6 harg6 arg7 harg7 arg8 harg8 arg11 x0 x1 x2 x3 x4 x5 x6
    = addf (kernelRun0_A.sl.r_50 (F := F) c i arg2 harg2 arg3 harg3 arg4 harg4 arg5 harg5 arg6 harg6 arg7 harg7 arg8 harg8 arg11 x0 x1 x2 x3 x4 x5 x6) (chunkAt (kernelRun0_A.sl.v44 (F := F) c i arg2 harg2 arg3 harg3 arg4 harg4 arg11 x0 x1 x2) x3 x4 x5 x6 4) := by
  unfold kernelRun0_A.sl.r_65 kernelRun0_A.sl.r_64 kernelRun0_A.sl.r_63 kernelRun0_A.sl.r_62 kernelRun0_A.sl.r_56 kernelRun0_A.sl.r_61 kernelRun0_A.sl.r_40 kernelRun0_A.sl.r_41
  simp only [View.readAt_eq_ld, harg5.read_unread, harg6.read_unread, harg7.read_unread, harg8.read_unread]
  rfl

theorem half1_5 : kernelRun0_A.sl.r_76 (F := F) c i arg2 harg2 arg3 harg3 arg4 harg4 arg5 harg5 arg6 harg6 arg7 harg7 arg8 harg8 arg11 x0 x1 x2 x3 x4 x5 x6
    = addf (kernelRun0_A.sl.r_65 (F := F) c i arg2 harg2 arg3 harg3 arg4 harg4 arg5 harg5 arg6 harg6 arg7 harg7 arg8 harg8 arg11 x0 x1 x2 x3 x4 x5 x6) (chunkAt (kernelRun0_A.sl.v44 (F := F) c i arg2 harg2 arg3 harg3 arg4 harg4 arg11 x0 x1 x2) x3 x4 x5 x6 5) := by
  unfold kernelRun0_A.sl.r_76 kernelRun0_A.sl.r_75 kernelRun0_A.sl.r_74 kernelRun0_A.sl.r_54 kernelRun0_A.sl.r_73 kernelRun0_A.sl.r_53
  simp only [View.readAt_eq_ld, harg5.read_unread, harg6.read_unread, harg7.read_unread, harg8.read_unread]
  rfl

theorem half1_6 : kernelRun0_A.sl.r_87 (F := F) c i arg2 harg2 arg3 harg3 arg4 harg4 arg5 harg5 arg6 harg6 arg7 harg7 arg8 harg8 arg11 x0 x1 x2 x3 x4 x5 x6
    = addf (kernelRun0_A.sl.r_76 (F := F) c i arg2 harg2 arg3 harg3 arg4 harg4 arg5 harg5 arg6 harg6 arg7 harg7 arg8 harg8 arg11 x0 x1 x2 x3 x4 x5 x6) (chunkAt (kernelRun0_A.sl.v44 (F := F) c i arg2 harg2 arg3 harg3 arg4 harg4 arg11 x0 x1 x2) x3 x4 x5 x6 6) := by
  unfold kernelRun0_A.sl.r_87 kernelRun0_A.sl.r_86 kernelRun0_A.sl.r_85 kernelRun0_A.sl.r_68 kernelRun0_A.sl.r_84 kernelRun0_A.sl.r_69
  simp only [View.readAt_eq_ld, harg5.read_unread, harg6.read_unread, harg7.read_unread, harg8.read_unread]
  rfl

theorem half1_7 : kernelRun0_A.sl.r_99 (F := F) c i arg2 harg2 arg3 harg3 arg4 harg4 arg5 harg5 arg6 harg6 arg7 harg7 arg8 harg8 arg11 x0 x1 x2 x3 x4 x5 x6
    = addf (kernelRun0_A.sl.r_87 (F := F) c i arg2 harg2 arg3 harg3 arg4 harg4 arg5 harg5 arg6 harg6 arg7 harg7 arg8 harg8 arg11 x0 x1 x2 x3 x4 x5 x6) (chunkAt (kernelRun0_A.sl.v44 (F := F) c i arg2 harg2 arg3 harg3 arg4 harg4 arg11 x0 x1 x2) x3 x4 x5 x6 7) := by
  unfold kernelRun0_A.sl.r_99 kernelRun0_A.sl.r_98 kernelRun0_A.sl.r_80 kernelRun0_A.sl.r_97 kernelRun0_A.sl.r_96 kernelRun0_A.sl.r_79
  simp only [View.readAt_eq_ld, harg5.read_unread, harg6.read_unread, harg7.read_unread, harg8.read_unread]
  rfl

theorem half1_8 : kernelRun0_A.sl.r_112 (F := F) c i arg2 harg2 arg3 harg3 arg4 harg4 arg5 harg5 arg6 harg6 arg7 harg7 arg8 harg8 arg11 x0 x1 x2 x3 x4 x5 x6
    = addf (kernelRun0_A.sl.r_99 (F := F) c i arg2 harg2 arg3 harg3 arg4 harg4 arg5 harg5 arg6 harg6 arg7 harg7 arg8 harg8 arg11 x0 x1 x2 x3 x4 x5 x6) (chunkAt (kernelRun0_A.sl.v44 (F := F) c i arg2 harg2 arg3 harg3 arg4 harg4 arg11 x0 x1 x2) x3 x4 x5 x6 8) := by
  unfold kernelRun0_A.sl.r_112 kernelRun0_A.sl.r_111 kernelRun0_A.sl.r_110 kernelRun0_A.sl.r_104 kernelRun0_A.sl.r_91 kernelRun0_A.sl.r_90
  simp only [View.readAt_eq_ld, harg5.read_unread, harg6.read_unread, harg7.read_unread, harg8.read_unread]
  rfl

theorem half1_9 : kernelRun0_A.sl.r_127 (F := F) c i arg2 harg2 arg3 harg3 arg4 harg4 arg5 harg5 arg6 harg6 arg7 harg7 arg8 harg8 arg11 x0 x1 x2 x3 x4 x5 x6
    = addf (kernelRun0_A.sl.r_112 (F := F) c i arg2 harg2 arg3 harg3 arg4 harg4 arg5 harg5 arg6 harg6 arg7 harg7 arg8 harg8 arg11 x0 x1 x2 x3 x4 x5 x6) (chunkAt (kernelRun0_A.sl.v44 (F := F) c i arg2 harg2 arg3 harg3 arg4 harg4 arg11 x0 x1 x2) x3 x4 x5 x6 9) := by
  unfold kernelRun0_A.sl.r_127 kernelRun0_A.sl.r_126 kernelRun0_A.sl.r_125 kernelRun0_A.sl.r_124 kernelRun0_A.sl.r_118 kernelRun0_A.sl.r_123 kernelRun0_A.sl.r_102 kernelRun0_A.sl.r_103
  simp only [View.readAt_eq_ld, harg5.read_unread, harg6.read_unread, harg7.read_unread, harg8.read_unread]
  rfl

set_option maxHeartbeats 1000000 in
/-- The first half's accumulator is the eleven chunks' sum. -/
theorem half0_eq : kernelRun0_A.sl.r_130 (F := F) c i arg2 harg2 arg3 harg3 arg4 harg4 arg5 harg5 arg6 harg6 arg7 harg7 arg8 harg8 arg11 x0 x1 x2 x3 x4 x5 x6 = acc (kernelRun0_A.sl.v43 (F := F) c i arg2 harg2 arg3 harg3 arg4 harg4 arg11 x0 x1 x2) x3 x4 x5 x6 := by
  rw [half0_10, half0_9, half0_8, half0_7, half0_6, half0_5, half0_4, half0_3, half0_2, half0_1, half0_0]; rfl

/-- The first half's scratch rows. -/
theorem v43_eq : (kernelRun0_A.sl.v43 (F := F) c i arg2 harg2 arg3 harg3 arg4 harg4 arg11 x0 x1 x2) = xnS0 i x0 x1 x2 := by
  unfold kernelRun0_A.sl.v43 kernelRun0_A.sl.HS0_2 kernelRun0_A.sl.r
  simp only [View.readCov_eq_canon', View.readAt_eq_ld, harg2.read_unread, harg3.read_unread, harg4.read_unread,
    View.ld_unit_zero (S := S1x512x1024) hz3, View.ld_unit_zero (S := S1x8x1024) hz3, View.ld_unit_zero (S := S1x1024) hz2]
  rfl

/-- The second half's scratch rows. -/
theorem v44_eq : (kernelRun0_A.sl.v44 (F := F) c i arg2 harg2 arg3 harg3 arg4 harg4 arg11 x0 x1 x2) = xnS1 i x0 x1 x2 := by
  unfold kernelRun0_A.sl.v44 kernelRun0_A.sl.HS0_2 kernelRun0_A.sl.r
  simp only [View.readCov_eq_canon', View.readAt_eq_ld, harg2.read_unread, harg3.read_unread, harg4.read_unread,
    View.ld_unit_zero (S := S1x512x1024) hz3, View.ld_unit_zero (S := S1x8x1024) hz3, View.ld_unit_zero (S := S1x1024) hz2]
  rfl

/-- The accumulator scratch after both halves. -/
theorem pieces_eq : kernelRun0_A.sl.HS1_2 (F := F) c i arg2 harg2 arg3 harg3 arg4 harg4 arg5 harg5 arg6 harg6 arg7 harg7 arg8 harg8 arg11 x0 x1
      x2 x3 x4 x5 x6
    = [⟨Rect.unit ![256, 0] S256x1024.size inb_S512x1024_S256x1024_256_0, acc (kernelRun0_A.sl.v44 (F := F) c i arg2 harg2 arg3 harg3 arg4 harg4 arg11 x0 x1 x2) x3 x4 x5 x6⟩,
        ⟨Rect.unit ![0, 0] S256x1024.size inb_S512x1024_S256x1024_0_0, acc (kernelRun0_A.sl.v43 (F := F) c i arg2 harg2 arg3 harg3 arg4 harg4 arg11 x0 x1 x2) x3 x4 x5 x6⟩] := by
  unfold kernelRun0_A.sl.HS1_2
  rw [half0_eq, half1_9, half1_8, half1_7, half1_6, half1_5, half1_4, half1_3, half1_2, half1_1, half1_0]
  unfold kernelRun0_A.sl.r_133 kernelRun0_A.sl.r_132 kernelRun0_A.sl.r_115 kernelRun0_A.sl.r_131 kernelRun0_A.sl.r_116
  simp only [View.readAt_eq_ld, harg5.read_unread, harg6.read_unread, harg7.read_unread, harg8.read_unread]
  refine congrArg₂ List.cons (congrArg (Sigma.mk _) ?_) (congrArg₂ List.cons (congrArg (Sigma.mk _) ?_) rfl)
  · exact shapeCast_self _ _
  · exact shapeCast_self _ _

/-- The accumulator read back whole. -/
theorem v1327_eq : kernelRun0_A.sl.v1327 (F := F) c i arg2 harg2 arg3 harg3 arg4 harg4 arg5 harg5 arg6 harg6 arg7 harg7 arg8 harg8 arg11 arg12 x0 x1
      x2 x3 x4 x5 x6
    = accAll (acc (xnS0 i x0 x1 x2) x3 x4 x5 x6) (acc (xnS1 i x0 x1 x2) x3 x4 x5 x6) := by
  unfold kernelRun0_A.sl.v1327
  rw [pieces_eq, v43_eq, v44_eq, View.readCov_eq_canon']
  exact View.ld_unit_zero (S := S512x1024) hz2 _ _

/-- What one grid point leaves in its output block, as the stages above. -/
theorem out_eq :
    out0_A_8 c i arg2 harg2 arg3 harg3 arg4 harg4 arg5 harg5 arg6 harg6 arg7 harg7 arg8 harg8 arg9 harg9 arg10 harg10 arg11 harg11 arg12 harg12 x0 x1 x2 x3 x4 x5 x6 x7
      = k0_pay1 (k0_pay134 x0 (accAll (acc (xnS0 i x0 x1 x2) x3 x4 x5 x6) (acc (xnS1 i x0 x1 x2) x3 x4 x5 x6)) x7) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 x0 x1 x2 x3 x4 x5 x6 x7)]
  unfold kernelRun0_A
  dsimp only
  rw [View.canon_unit_zero (S := S1x512x1024) hz3]
  unfold kernelRun0_A.sl.r_134
  rw [v1327_eq]
  simp only [View.readAt_eq_ld, harg2.read_unread, harg9.read_unread,
    View.ld_unit_zero (S := S1x512x1024) hz3, View.ld_unit_zero (S := S1x1024) hz2]

end Cert.Kernel2Ideal.Ffn

end
-- ==== Proof.FfnStages.lean ====
/-
  The feed-forward kernel's stages read at one element, on the extended reals: the row normalisation, one
  up-projection, the three-tap convolution, the gated activation, one partial down-projection.
-/
module

public import proofs.«01_k».proof.Proof.FfnTerm
public import Idealize.ShloMosaic.Lib.Pointwise

@[expose] public section

set_option maxRecDepth 16384

noncomputable section

open Idealize.ShloMosaic Idealize.ShloMosaic.TcCoe Idealize.SL.Sem

namespace Cert.FfnMath

/-- A row scaled by its inverse root mean square and by `g`. -/
def nrm (v g : Fin 1024 → EReal) (d : Fin 1024) : EReal :=
  v d * Ideal.rsqrt (Ideal.div (∑ k, v k * v k) (Ideal.ofBits .f32 0x44800000#32) + Ideal.ofBits .f32 0x358637BD#32) * g d

/-- The gated activation of two numbers. -/
def gated (a b : EReal) : EReal := a * Ideal.div 1 (1 + Ideal.exp (0 - a)) * b

/-- Three taps and an offset. -/
def taps (w2 w1 w0 b u2 u1 u0 : EReal) : EReal := w2 * u2 + w1 * u1 + w0 * u0 + b

end Cert.FfnMath

namespace Cert.Kernel2Ideal.Ffn

open Cert.Kernel2Ideal Cert.Kernel2Ideal.Gen Cert.FfnMath

theorem pay4_apply (v0 : Vec Ideal S1x1024 .f32) (v2 : Vec Ideal S1x512x1024 .f32) (r : Fin 512) (d : Fin 1024) :
    k0_pay5 (k0_pay4 v0 v2) (ix2 r d) = nrm (fun k => v2 (ix3 0 r k)) (fun k => v0 (ix2 0 k)) d := by
  pointwise [k0_pay5, k0_pay4, k0_pay2]
  rfl

/-- The halo's factor: nought at a sequence's first block, one after it. -/
theorem keep_eq : ∀ j : Fin 4, (Scalar.extui (Scalar.cmpi .sgt (BitVec.ofNat 32 j.val) 0#32) : BitVec 32).toInt = if j.val = 0 then 0 else 1 := by
  decide

theorem pay3_apply (i : grid0.Coords) (v0 : Vec Ideal S1x1024 .f32) (v2 : Vec Ideal S1x8x1024 .f32) (r : Fin 8) (d : Fin 1024) :
    k0_pay3 i v0 v2 (ix2 r d) = if (i 1).val = 0 then 0 else nrm (fun k => v2 (ix3 0 r k)) (fun k => v0 (ix2 0 k)) d := by
  pointwise [k0_pay3, k0_pay2]
  rw [show (Scalar.extui (Scalar.cmpi .sgt (BitVec.ofNat 32 (i 1).val) 0#32) : BitVec 32).toInt = if (i 1).val = 0 then 0 else 1 from keep_eq ⟨(i 1).val, (i 1).isLt⟩]
  split
  · simp
  · simp [nrm]

theorem pay6_apply (x : Vec Ideal S264x1024 .bf16) (w : Vec Ideal S1024x256 .bf16) (r : Fin 264) (k : Fin 256) :
    k0_pay6 x w (ix2 r k) = ∑ d : Fin 1024, x (ix2 r d) * w (ix2 d k) := by
  pointwise [k0_pay6]

theorem pay15_apply (x : FVec Ideal S256x256 .bf16) (w : Vec Ideal S256x1024 .bf16) (r : Fin 256) (d : Fin 1024) :
    k0_pay15 x w (ix2 r d) = ∑ k : Fin 256, x (ix2 r k) * w (ix2 k d) := by
  pointwise [k0_pay15]

theorem act_apply (a b : FVec Ideal S256x256 .f32) (r k : Fin 256) :
    act a b (ix2 r k) = gated (a (ix2 r k)) (b (ix2 r k)) := by
  pointwise [act]
  rfl

theorem pay16_apply (u : FVec Ideal S264x256 .f32) (w : Vec Ideal S3x256 .f32) (b : Vec Ideal S1x256 .f32) (r k : Fin 256) :
    k0_pay16 u w b (ix2 r k) = taps (w (ix2 2 k)) (w (ix2 1 k)) (w (ix2 0 k)) (b (ix2 0 k))
      (u (ix2 ⟨r.val + 8, by omega⟩ k)) (u (ix2 ⟨r.val + 7, by omega⟩ k)) (u (ix2 ⟨r.val + 6, by omega⟩ k)) := by
  pointwise [k0_pay16]
  simp only [taps, Nat.add_comm]

theorem pay134_apply (h : Vec Ideal S1x512x1024 .f32) (a : Vec Ideal S512x1024 .f32) (g : Vec Ideal S1x1024 .f32) (r : Fin 512) (d : Fin 1024) :
    k0_pay1 (k0_pay134 h a g) (ix3 0 r d) = nrm (fun k => h (ix3 0 r k) + a (ix2 r k)) (fun k => g (ix2 0 k)) d := by
  pointwise [k0_pay1, k0_pay134]
  rfl

/-- One convolved up-projection of scratch rows `r + 8`, `r + 7`, `r + 6`. -/
def cvS (xn : Vec Ideal S264x1024 .bf16) (x3 : Vec Ideal S1024x5632 .bf16) (x4 : Vec Ideal S3x5632 .f32) (x5 : Vec Ideal S1x5632 .f32)
    (r : Fin 256) (f : Fin 5632) : EReal :=
  taps (x4 (ix2 2 f)) (x4 (ix2 1 f)) (x4 (ix2 0 f)) (x5 (ix2 0 f))
    (∑ d, xn (ix2 ⟨r.val + 8, by omega⟩ d) * x3 (ix2 d f)) (∑ d, xn (ix2 ⟨r.val + 7, by omega⟩ d) * x3 (ix2 d f))
    (∑ d, xn (ix2 ⟨r.val + 6, by omega⟩ d) * x3 (ix2 d f))

/-- The hidden activation at column `f`. -/
def hidS (xn : Vec Ideal S264x1024 .bf16) (x3 : Vec Ideal S1024x5632 .bf16) (x4 : Vec Ideal S3x5632 .f32) (x5 : Vec Ideal S1x5632 .f32)
    (r : Fin 256) (f : Fin 2816) : EReal :=
  gated (cvS xn x3 x4 x5 r ⟨f.val, by omega⟩) (cvS xn x3 x4 x5 r ⟨2816 + f.val, by omega⟩)

theorem chunkAt_apply (xn : Vec Ideal S264x1024 .bf16) (x3 : Vec Ideal S1024x5632 .bf16) (x4 : Vec Ideal S3x5632 .f32) (x5 : Vec Ideal S1x5632 .f32)
    (x6 : Vec Ideal S2816x1024 .bf16) (c : Fin 11) (r : Fin 256) (d : Fin 1024) :
    chunkAt xn x3 x4 x5 x6 c (ix2 r d)
      = ∑ k : Fin 256, hidS xn x3 x4 x5 r ⟨256 * c.val + k.val, by omega⟩ * x6 (ix2 ⟨256 * c.val + k.val, by omega⟩ d) := by
  unfold chunkAt chunk
  rw [pay15_apply]
  refine Finset.sum_congr rfl fun k _ => ?_
  rw [act_apply, pay16_apply, pay16_apply]
  simp only [pay6_apply]
  pointwise
  simp only [hidS, cvS, Nat.add_assoc]

theorem acc_apply (xn : Vec Ideal S264x1024 .bf16) (x3 : Vec Ideal S1024x5632 .bf16) (x4 : Vec Ideal S3x5632 .f32) (x5 : Vec Ideal S1x5632 .f32)
    (x6 : Vec Ideal S2816x1024 .bf16) (r : Fin 256) (d : Fin 1024) :
    acc xn x3 x4 x5 x6 (ix2 r d) = ∑ f : Fin 2816, hidS xn x3 x4 x5 r f * x6 (ix2 f d) := by
  have e : ∑ f : Fin 2816, hidS xn x3 x4 x5 r f * x6 (ix2 f d) = ∑ c : Fin 11, chunkAt xn x3 x4 x5 x6 c (ix2 r d) := by
    simp only [chunkAt_apply]
    rw [Fin.sum_univ_tiles 11 256 (by norm_num)]
    refine Finset.sum_congr rfl fun c _ => Finset.sum_congr rfl fun k _ => ?_
    have e : ∀ (h1 : c.val * 256 + k.val < 2816) (h2 : 256 * c.val + k.val < 2816),
        (⟨c.val * 256 + k.val, h1⟩ : Fin 2816) = ⟨256 * c.val + k.val, h2⟩ := fun _ _ => Fin.ext (congrArg (· + k.val) (Nat.mul_comm _ _))
    rw [e]
  rw [e]
  simp only [Fin.sum_univ_succ, Fin.sum_univ_zero, acc, addf_apply, Ideal.addf_def, add_zero, add_assoc]
  rfl

end Cert.Kernel2Ideal.Ffn

end
-- ==== Proof.FfnBlocks.lean ====
/-
  The feed-forward kernel's input blocks, read at one element: which element of which argument each block position
  holds, at every grid point.
-/
module

public import proofs.«01_k».proof.Proof.Gen.Kernel2Ideal.Value
public import Idealize.ShloMosaic.Lib.Pointwise

@[expose] public section

set_option maxRecDepth 16384

noncomputable section

open Idealize.ShloMosaic Idealize.ShloMosaic.TcCoe Idealize.SL.Sem

namespace Cert.Kernel2Ideal.Blocks

open Cert.Kernel2Ideal Cert.Kernel2Ideal.Gen

variable (m : (ℓ : Loc nD τ sig) → Buf (Elt Ideal) ℓ)

/-- A grid point's sequence. -/
abbrev seqOf (t : Fin cfg0.N) : Fin 8 := ⟨(grid0.coords t 0).val, (grid0.coords t 0).isLt⟩
/-- A grid point's row block in its sequence. -/
abbrev rowOf (t : Fin cfg0.N) : Fin 4 := ⟨(grid0.coords t 1).val, (grid0.coords t 1).isLt⟩

/-- What the host leaves in `main_v0`. -/
theorem V_v0 (c : Dev nD) : V m c main_v0 = (truncf .bf16 (m ((c : Thread nD τ).loc main_arg2) : FVec Ideal S1024x5632 .f32) bitsLt_bf16_f32 : FVec Ideal S1024x5632 .bf16) := by
  unfold V
  after_results

/-- What the host leaves in `main_v1`. -/
theorem V_v1 (c : Dev nD) : V m c main_v1 = (truncf .bf16 (m ((c : Thread nD τ).loc main_arg5) : FVec Ideal S2816x1024 .f32) bitsLt_bf16_f32 : FVec Ideal S2816x1024 .bf16) := by
  unfold V
  after_results

/-- What the host leaves in `main_v2`. -/
theorem V_v2 (c : Dev nD) : V m c main_v2 = (shapeCast S1x1024 (m ((c : Thread nD τ).loc main_arg1) : FVec Ideal S1024 .f32) shapeCasts_S1024_S1x1024 : FVec Ideal S1x1024 .f32) := by
  unfold V
  after_results
  rfl

/-- What the host leaves in `main_v3`. -/
theorem V_v3 (c : Dev nD) : V m c main_v3 = (shapeCast S1x5632 (m ((c : Thread nD τ).loc main_arg4) : FVec Ideal S5632 .f32) shapeCasts_S5632_S1x5632 : FVec Ideal S1x5632 .f32) := by
  unfold V
  after_results
  rfl

/-- What the host leaves in `main_v4`. -/
theorem V_v4 (c : Dev nD) : V m c main_v4 = (shapeCast S1x1024 (m ((c : Thread nD τ).loc main_arg6) : FVec Ideal S1024 .f32) shapeCasts_S1024_S1x1024 : FVec Ideal S1x1024 .f32) := by
  unfold V
  after_results
  rfl

/-- The 512 rows of a point's own block. -/
theorem blk0 (c : Dev nD) (t : Fin cfg0.N) (r : Fin 512) (d : Fin 1024) :
    (iblk m c 0 t : Vec Ideal S1x512x1024 .f32) (ix3 0 r d)
      = (m ((c : Thread nD τ).loc main_arg0) : Vec Ideal S8x2048x1024 .f32) (ix3 (seqOf t) ⟨512 * (rowOf t).val + r.val, by have := (rowOf t).isLt; omega⟩ d) := by
  have hi : win0_0.index t 0 = (grid0.coords t 0).val ∧ win0_0.index t 1 = (grid0.coords t 1).val ∧ win0_0.index t 2 = 0 :=
    (by decide +kernel : ∀ t : Fin grid0.N, win0_0.index t 0 = (grid0.coords t 0).val ∧ win0_0.index t 1 = (grid0.coords t 1).val ∧ win0_0.index t 2 = 0) t
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_0.index t 0 * 1 + 1 * 0 = (grid0.coords t 0).val; rw [hi.1]; omega
  | ⟨1, _⟩ => show win0_0.index t 1 * 512 + 1 * r.val = 512 * (grid0.coords t 1).val + r.val; rw [hi.2.1]; omega
  | ⟨2, _⟩ => show win0_0.index t 2 * 1024 + 1 * d.val = d.val; rw [hi.2.2]; omega

/-- The eight rows before a point's block, where there are any. -/
theorem blk1 (c : Dev nD) (t : Fin cfg0.N) (ht : (rowOf t).val ≠ 0) (r : Fin 8) (d : Fin 1024) :
    (iblk m c 1 t : Vec Ideal S1x8x1024 .f32) (ix3 0 r d)
      = (m ((c : Thread nD τ).loc main_arg0) : Vec Ideal S8x2048x1024 .f32) (ix3 (seqOf t) ⟨512 * (rowOf t).val + r.val - 8, by have := (rowOf t).isLt; omega⟩ d) := by
  have hi : win0_1.index t 0 = (grid0.coords t 0).val ∧ win0_1.index t 1 = 64 * (grid0.coords t 1).val - 1 ∧ win0_1.index t 2 = 0 :=
    (by decide +kernel : ∀ t : Fin grid0.N, win0_1.index t 0 = (grid0.coords t 0).val ∧ win0_1.index t 1 = 64 * (grid0.coords t 1).val - 1 ∧ win0_1.index t 2 = 0) t
  have ht' : (grid0.coords t 1).val ≠ 0 := ht
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_1.index t 0 * 1 + 1 * 0 = (grid0.coords t 0).val; rw [hi.1]; omega
  | ⟨1, _⟩ => show win0_1.index t 1 * 8 + 1 * r.val = 512 * (grid0.coords t 1).val + r.val - 8; rw [hi.2.1]; omega
  | ⟨2, _⟩ => show win0_1.index t 2 * 1024 + 1 * d.val = d.val; rw [hi.2.2]; omega

theorem blk2 (c : Dev nD) (t : Fin cfg0.N) (d : Fin 1024) :
    (iblk m c 2 t : Vec Ideal S1x1024 .f32) (ix2 0 d) = (m ((c : Thread nD τ).loc main_arg1) : Vec Ideal S1024 .f32) (ix1 d) := by
  have hi : win0_2.index t 0 = 0 ∧ win0_2.index t 1 = 0 :=
    (by decide +kernel : ∀ t : Fin grid0.N, win0_2.index t 0 = 0 ∧ win0_2.index t 1 = 0) t
  unfold iblk
  rw [View.read_apply]
  have e : ((cfg0.win 2).blk t).view.emb (ix2 0 d) = (ix2 0 d : S1x1024.Idx) := by
    funext a
    apply Fin.ext
    match a with
    | ⟨0, _⟩ => show win0_2.index t 0 * 1 + 1 * 0 = 0; rw [hi.1]
    | ⟨1, _⟩ => show win0_2.index t 1 * 1024 + 1 * d.val = d.val; rw [hi.2]; omega
  show V m c main_v2 (((cfg0.win 2).blk t).view.emb (ix2 0 d)) = _
  rw [e, V_v2]
  exact shapeCast_apply _ shapeCasts_S1024_S1x1024 _ (ix1 d) (by rewrite [Shape.rowMajor_val_two, Shape.rowMajor_val_one]; show d.val = 0 * 1024 + d.val; omega)

theorem blk3 (c : Dev nD) (t : Fin cfg0.N) (r : Fin 1024) (d : Fin 5632) :
    (iblk m c 3 t : Vec Ideal S1024x5632 .bf16) (ix2 r d) = (m ((c : Thread nD τ).loc main_arg2) : Vec Ideal S1024x5632 .f32) (ix2 r d) := by
  have hi : win0_3.index t 0 = 0 ∧ win0_3.index t 1 = 0 :=
    (by decide +kernel : ∀ t : Fin grid0.N, win0_3.index t 0 = 0 ∧ win0_3.index t 1 = 0) t
  unfold iblk
  rw [View.read_apply]
  have e : ((cfg0.win 3).blk t).view.emb (ix2 r d) = (ix2 r d : S1024x5632.Idx) := by
    funext a
    apply Fin.ext
    match a with
    | ⟨0, _⟩ => show win0_3.index t 0 * 1024 + 1 * r.val = r.val; rw [hi.1]; omega
    | ⟨1, _⟩ => show win0_3.index t 1 * 5632 + 1 * d.val = d.val; rw [hi.2]; omega
  show V m c main_v0 (((cfg0.win 3).blk t).view.emb (ix2 r d)) = _
  rw [e, V_v0]
  rfl

theorem blk4 (c : Dev nD) (t : Fin cfg0.N) (r : Fin 3) (d : Fin 5632) :
    (iblk m c 4 t : Vec Ideal S3x5632 .f32) (ix2 r d) = (m ((c : Thread nD τ).loc main_arg3) : Vec Ideal S3x5632 .f32) (ix2 r d) := by
  have hi : win0_4.index t 0 = 0 ∧ win0_4.index t 1 = 0 :=
    (by decide +kernel : ∀ t : Fin grid0.N, win0_4.index t 0 = 0 ∧ win0_4.index t 1 = 0) t
  unfold iblk
  rw [View.read_apply]
  have e : ((cfg0.win 4).blk t).view.emb (ix2 r d) = (ix2 r d : S3x5632.Idx) := by
    funext a
    apply Fin.ext
    match a with
    | ⟨0, _⟩ => show win0_4.index t 0 * 3 + 1 * r.val = r.val; rw [hi.1]; omega
    | ⟨1, _⟩ => show win0_4.index t 1 * 5632 + 1 * d.val = d.val; rw [hi.2]; omega
  show V m c main_arg3 (((cfg0.win 4).blk t).view.emb (ix2 r d)) = _
  rw [e, V_main_arg3]

theorem blk5 (c : Dev nD) (t : Fin cfg0.N) (d : Fin 5632) :
    (iblk m c 5 t : Vec Ideal S1x5632 .f32) (ix2 0 d) = (m ((c : Thread nD τ).loc main_arg4) : Vec Ideal S5632 .f32) (ix1 d) := by
  have hi : win0_5.index t 0 = 0 ∧ win0_5.index t 1 = 0 :=
    (by decide +kernel : ∀ t : Fin grid0.N, win0_5.index t 0 = 0 ∧ win0_5.index t 1 = 0) t
  unfold iblk
  rw [View.read_apply]
  have e : ((cfg0.win 5).blk t).view.emb (ix2 0 d) = (ix2 0 d : S1x5632.Idx) := by
    funext a
    apply Fin.ext
    match a with
    | ⟨0, _⟩ => show win0_5.index t 0 * 1 + 1 * 0 = 0; rw [hi.1]
    | ⟨1, _⟩ => show win0_5.index t 1 * 5632 + 1 * d.val = d.val; rw [hi.2]; omega
  show V m c main_v3 (((cfg0.win 5).blk t).view.emb (ix2 0 d)) = _
  rw [e, V_v3]
  exact shapeCast_apply _ shapeCasts_S5632_S1x5632 _ (ix1 d) (by rewrite [Shape.rowMajor_val_two, Shape.rowMajor_val_one]; show d.val = 0 * 5632 + d.val; omega)

theorem blk6 (c : Dev nD) (t : Fin cfg0.N) (r : Fin 2816) (d : Fin 1024) :
    (iblk m c 6 t : Vec Ideal S2816x1024 .bf16) (ix2 r d) = (m ((c : Thread nD τ).loc main_arg5) : Vec Ideal S2816x1024 .f32) (ix2 r d) := by
  have hi : win0_6.index t 0 = 0 ∧ win0_6.index t 1 = 0 :=
    (by decide +kernel : ∀ t : Fin grid0.N, win0_6.index t 0 = 0 ∧ win0_6.index t 1 = 0) t
  unfold iblk
  rw [View.read_apply]
  have e : ((cfg0.win 6).blk t).view.emb (ix2 r d) = (ix2 r d : S2816x1024.Idx) := by
    funext a
    apply Fin.ext
    match a with
    | ⟨0, _⟩ => show win0_6.index t 0 * 2816 + 1 * r.val = r.val; rw [hi.1]; omega
    | ⟨1, _⟩ => show win0_6.index t 1 * 1024 + 1 * d.val = d.val; rw [hi.2]; omega
  show V m c main_v1 (((cfg0.win 6).blk t).view.emb (ix2 r d)) = _
  rw [e, V_v1]
  rfl

theorem blk7 (c : Dev nD) (t : Fin cfg0.N) (d : Fin 1024) :
    (iblk m c 7 t : Vec Ideal S1x1024 .f32) (ix2 0 d) = (m ((c : Thread nD τ).loc main_arg6) : Vec Ideal S1024 .f32) (ix1 d) := by
  have hi : win0_7.index t 0 = 0 ∧ win0_7.index t 1 = 0 :=
    (by decide +kernel : ∀ t : Fin grid0.N, win0_7.index t 0 = 0 ∧ win0_7.index t 1 = 0) t
  unfold iblk
  rw [View.read_apply]
  have e : ((cfg0.win 7).blk t).view.emb (ix2 0 d) = (ix2 0 d : S1x1024.Idx) := by
    funext a
    apply Fin.ext
    match a with
    | ⟨0, _⟩ => show win0_7.index t 0 * 1 + 1 * 0 = 0; rw [hi.1]
    | ⟨1, _⟩ => show win0_7.index t 1 * 1024 + 1 * d.val = d.val; rw [hi.2]; omega
  show V m c main_v4 (((cfg0.win 7).blk t).view.emb (ix2 0 d)) = _
  rw [e, V_v4]
  exact shapeCast_apply _ shapeCasts_S1024_S1x1024 _ (ix1 d) (by rewrite [Shape.rowMajor_val_two, Shape.rowMajor_val_one]; show d.val = 0 * 1024 + d.val; omega)

end Cert.Kernel2Ideal.Blocks

end
-- ==== Proof.FfnSpec.lean ====
/-
  The feed-forward layer as a function of its arrays, element by element, and the kernel's block of it: what a grid
  point writes is the layer's value at the block's 512 rows.
-/
module

public import proofs.«01_k».proof.Proof.FfnStages
public import proofs.«01_k».proof.Proof.FfnBlocks

@[expose] public section

set_option maxRecDepth 16384

noncomputable section

open Idealize.ShloMosaic Idealize.ShloMosaic.TcCoe Idealize.SL.Sem

namespace Cert.FfnMath

variable (h : Fin 8 → Fin 2048 → Fin 1024 → EReal) (g : Fin 1024 → EReal) (wu : Fin 1024 → Fin 5632 → EReal)
  (cw : Fin 3 → Fin 5632 → EReal) (cb : Fin 5632 → EReal) (wd : Fin 2816 → Fin 1024 → EReal) (gf : Fin 1024 → EReal)

/-- The normalised row at position `p`, eight rows of noughts standing before the sequence: token `p - 8`. -/
def xrow (b : Fin 8) (p : ℕ) : Fin 1024 → EReal :=
  if hp : 8 ≤ p ∧ p < 2056 then nrm (h b ⟨p - 8, by omega⟩) g else fun _ => 0

/-- The up-projection at position `p`. -/
def up (b : Fin 8) (p : ℕ) (f : Fin 5632) : EReal := ∑ d, xrow h g b p d * wu d f

/-- The causal three-tap convolution at token `t`. -/
def conv (b : Fin 8) (t : ℕ) (f : Fin 5632) : EReal :=
  taps (cw 2 f) (cw 1 f) (cw 0 f) (cb f) (up h g wu b (t + 8) f) (up h g wu b (t + 7) f) (up h g wu b (t + 6) f)

/-- The hidden activation. -/
def hid (b : Fin 8) (t : ℕ) (f : Fin 2816) : EReal :=
  gated (conv h g wu cw cb b t ⟨f.val, by omega⟩) (conv h g wu cw cb b t ⟨2816 + f.val, by omega⟩)

/-- The layer. -/
def layer (b : Fin 8) (t : Fin 2048) (d : Fin 1024) : EReal :=
  nrm (fun k => h b t k + ∑ f, hid h g wu cw cb b t.val f * wd f k) gf d

end Cert.FfnMath

namespace Cert.Kernel2Ideal.Ffn

open Cert.Kernel2Ideal Cert.Kernel2Ideal.Gen Cert.FfnMath Cert.Kernel2Ideal.Blocks

/-- A read of stores into row bands: under the last band its payload, elsewhere the earlier ones. -/
theorem canon_rows {N D n off : ℕ} {e : EltTy} (inb : ∀ a, (![off, 0] : Fin 2 → Nat) a + (⟨2, ![n, D]⟩ : Shape).size a ≤ (⟨2, ![N, D]⟩ : Shape).size a)
    (w : (⟨2, ![n, D]⟩ : Shape).Idx → Elt Ideal e) (L : List (View.Piece (Elt Ideal) (⟨2, ![N, D]⟩ : Shape) e)) (r : Fin N) (d : Fin D) :
    View.canon (s := (⟨2, ![N, D]⟩ : Shape)) (⟨Rect.unit (s := (⟨2, ![N, D]⟩ : Shape)) ![off, 0] (⟨2, ![n, D]⟩ : Shape).size inb, w⟩ :: L) (ix2 r d)
      = if hr : off ≤ r.val ∧ r.val < off + n then w (ix2 ⟨r.val - off, by omega⟩ d) else View.canon L (ix2 r d) := by
  split
  · rename_i hr
    have e1 : (ix2 r d : (⟨2, ![N, D]⟩ : Shape).Idx)
        = (Rect.unit (s := (⟨2, ![N, D]⟩ : Shape)) ![off, 0] (⟨2, ![n, D]⟩ : Shape).size inb).emb (ix2 ⟨r.val - off, by omega⟩ d) := by
      funext a
      apply Fin.ext
      match a with
      | ⟨0, _⟩ => show r.val = off + 1 * (r.val - off); omega
      | ⟨1, _⟩ => show d.val = 0 + 1 * d.val; omega
    rw [e1]
    exact View.canon_cons_emb (Rect.unit (s := (⟨2, ![N, D]⟩ : Shape)) ![off, 0] (⟨2, ![n, D]⟩ : Shape).size inb) w L _
  · rename_i hr
    refine View.canon_cons_of_not_mem _ L fun hm => hr ?_
    have := (Rect.mem_set_unit.mp (show ix2 r d ∈ (Rect.unit (s := (⟨2, ![N, D]⟩ : Shape)) ![off, 0] (⟨2, ![n, D]⟩ : Shape).size inb).set from hm)) 0
    exact this

theorem accAll_apply (a0 a1 : FVec Ideal S256x1024 .f32) (r : Fin 512) (d : Fin 1024) :
    accAll a0 a1 (ix2 r d) = if hr : r.val < 256 then a0 (ix2 ⟨r.val, hr⟩ d) else a1 (ix2 ⟨r.val - 256, by omega⟩ d) := by
  unfold accAll
  rw [canon_rows, canon_rows]
  split
  · rename_i hr
    rw [dif_neg (by omega)]
  · rename_i hr
    rw [dif_pos ⟨by omega, by omega⟩, dif_pos (by omega)]
    rfl

theorem xnAll_apply (i : grid0.Coords) (x0 : Vec Ideal S1x512x1024 .f32) (x1 : Vec Ideal S1x8x1024 .f32) (x2 : Vec Ideal S1x1024 .f32)
    (p : Fin 520) (d : Fin 1024) :
    xnAll i x0 x1 x2 (ix2 p d) = if hp : 8 ≤ p.val then nrm (fun k => x0 (ix3 0 ⟨p.val - 8, by omega⟩ k)) (fun k => x2 (ix2 0 k)) d
      else if (i 1).val = 0 then 0 else nrm (fun k => x1 (ix3 0 ⟨p.val, by omega⟩ k)) (fun k => x2 (ix2 0 k)) d := by
  unfold xnAll
  rw [canon_rows, canon_rows]
  split
  · rename_i hp
    rw [dif_pos hp.1, pay4_apply]
  · rename_i hp
    rw [dif_neg (show ¬ 8 ≤ p.val by omega), dif_pos (show 0 ≤ p.val ∧ p.val < 0 + 8 by omega), pay3_apply]
    rfl

/-- The arguments as plain functions of their positions. -/
abbrev aH (m : (ℓ : Loc nD τ sig) → Buf (Elt Ideal) ℓ) (c : Dev nD) : Fin 8 → Fin 2048 → Fin 1024 → EReal :=
  fun b t d => (m ((c : Thread nD τ).loc main_arg0) : Vec Ideal S8x2048x1024 .f32) (ix3 b t d)
@[inherit_doc aH] abbrev aG (m : (ℓ : Loc nD τ sig) → Buf (Elt Ideal) ℓ) (c : Dev nD) : Fin 1024 → EReal :=
  fun d => (m ((c : Thread nD τ).loc main_arg1) : Vec Ideal S1024 .f32) (ix1 d)
@[inherit_doc aH] abbrev aWu (m : (ℓ : Loc nD τ sig) → Buf (Elt Ideal) ℓ) (c : Dev nD) : Fin 1024 → Fin 5632 → EReal :=
  fun d f => (m ((c : Thread nD τ).loc main_arg2) : Vec Ideal S1024x5632 .f32) (ix2 d f)
@[inherit_doc aH] abbrev aCw (m : (ℓ : Loc nD τ sig) → Buf (Elt Ideal) ℓ) (c : Dev nD) : Fin 3 → Fin 5632 → EReal :=
  fun d f => (m ((c : Thread nD τ).loc main_arg3) : Vec Ideal S3x5632 .f32) (ix2 d f)
@[inherit_doc aH] abbrev aCb (m : (ℓ : Loc nD τ sig) → Buf (Elt Ideal) ℓ) (c : Dev nD) : Fin 5632 → EReal :=
  fun f => (m ((c : Thread nD τ).loc main_arg4) : Vec Ideal S5632 .f32) (ix1 f)
@[inherit_doc aH] abbrev aWd (m : (ℓ : Loc nD τ sig) → Buf (Elt Ideal) ℓ) (c : Dev nD) : Fin 2816 → Fin 1024 → EReal :=
  fun f d => (m ((c : Thread nD τ).loc main_arg5) : Vec Ideal S2816x1024 .f32) (ix2 f d)
@[inherit_doc aH] abbrev aGf (m : (ℓ : Loc nD τ sig) → Buf (Elt Ideal) ℓ) (c : Dev nD) : Fin 1024 → EReal :=
  fun d => (m ((c : Thread nD τ).loc main_arg6) : Vec Ideal S1024 .f32) (ix1 d)

variable (m : (ℓ : Loc nD τ sig) → Buf (Elt Ideal) ℓ) (c : Dev nD) (t : Fin cfg0.N)

/-- The scratch rows of a point are the layer's normalised rows, from eight before the block. -/
theorem xn_eq (p : Fin 520) (d : Fin 1024) :
    xnAll (grid0.coords t) (iblk m c 0 t) (iblk m c 1 t) (iblk m c 2 t) (ix2 p d)
      = xrow (aH m c) (aG m c) (seqOf t) (512 * (rowOf t).val + p.val) d := by
  have hj := (rowOf t).isLt
  rw [xnAll_apply]
  unfold xrow
  split
  · rename_i hp
    rw [dif_pos ⟨by omega, by omega⟩]
    congr 1
    · funext k
      rw [blk0]
      exact congrArg (fun x => aH m c (seqOf t) x k) (Fin.ext (show 512 * (rowOf t).val + (p.val - 8) = 512 * (rowOf t).val + p.val - 8 by omega))
    · funext k
      exact blk2 m c t k
  · rename_i hp
    by_cases h0 : (grid0.coords t 1).val = 0
    · rw [if_pos h0, dif_neg (by have : (rowOf t).val = 0 := h0; omega)]
    · have h0' : (rowOf t).val ≠ 0 := h0
      rw [if_neg h0, dif_pos ⟨by omega, by omega⟩]
      congr 1
      · funext k
        rw [blk1 m c t h0']
      · funext k
        exact blk2 m c t k

/-- One half's accumulator is the layer's hidden sum at its rows. -/
theorem half_eq (s : Fin 2) (xn : Vec Ideal S264x1024 .bf16)
    (hx : ∀ (p : Fin 264) (d : Fin 1024), xn (ix2 p d) = xrow (aH m c) (aG m c) (seqOf t) (512 * (rowOf t).val + (256 * s.val + p.val)) d)
    (q : Fin 256) (d : Fin 1024) :
    acc xn (iblk m c 3 t) (iblk m c 4 t) (iblk m c 5 t) (iblk m c 6 t) (ix2 q d)
      = ∑ f, hid (aH m c) (aG m c) (aWu m c) (aCw m c) (aCb m c) (seqOf t) (512 * (rowOf t).val + (256 * s.val + q.val)) f * aWd m c f d := by
  rw [acc_apply]
  refine Finset.sum_congr rfl fun f _ => ?_
  rw [show (iblk m c 6 t : Vec Ideal S2816x1024 .bf16) (ix2 f d) = aWd m c f d from blk6 m c t f d]
  congr 1
  have hc : ∀ f : Fin 5632, cvS xn (iblk m c 3 t) (iblk m c 4 t) (iblk m c 5 t) q f
      = conv (aH m c) (aG m c) (aWu m c) (aCw m c) (aCb m c) (seqOf t) (512 * (rowOf t).val + (256 * s.val + q.val)) f := by
    intro f
    unfold cvS conv up
    simp only [hx, Nat.add_assoc]
    rw [show (iblk m c 5 t : Vec Ideal S1x5632 .f32) (ix2 0 f) = aCb m c f from blk5 m c t f]
    rw [show (iblk m c 4 t : Vec Ideal S3x5632 .f32) (ix2 2 f) = aCw m c 2 f from blk4 m c t 2 f,
      show (iblk m c 4 t : Vec Ideal S3x5632 .f32) (ix2 1 f) = aCw m c 1 f from blk4 m c t 1 f,
      show (iblk m c 4 t : Vec Ideal S3x5632 .f32) (ix2 0 f) = aCw m c 0 f from blk4 m c t 0 f]
    simp only [show ∀ d, (iblk m c 3 t : Vec Ideal S1024x5632 .bf16) (ix2 d f) = aWu m c d f from fun d => blk3 m c t d f]
  unfold hidS hid
  rw [hc, hc]

/-- What a grid point leaves at row `r` of its block is the layer there. -/
theorem block_eq (r : Fin 512) (d : Fin 1024) :
    k0_pay1 (k0_pay134 (iblk m c 0 t) (accAll (acc (xnS0 (grid0.coords t) (iblk m c 0 t) (iblk m c 1 t) (iblk m c 2 t)) (iblk m c 3 t) (iblk m c 4 t) (iblk m c 5 t) (iblk m c 6 t))
        (acc (xnS1 (grid0.coords t) (iblk m c 0 t) (iblk m c 1 t) (iblk m c 2 t)) (iblk m c 3 t) (iblk m c 4 t) (iblk m c 5 t) (iblk m c 6 t))) (iblk m c 7 t)) (ix3 0 r d)
      = layer (aH m c) (aG m c) (aWu m c) (aCw m c) (aCb m c) (aWd m c) (aGf m c) (seqOf t)
          ⟨512 * (rowOf t).val + r.val, by have := (rowOf t).isLt; omega⟩ d := by
  rw [pay134_apply]
  unfold layer
  refine congrArg₂ (fun v g => nrm v g d) (funext fun k => ?_) (funext fun k => ?_)
  · rw [blk0]
    refine congrArg _ ?_
    rw [accAll_apply]
    split
    · rename_i hr
      rw [half_eq m c t 0 _ ?_ ⟨r.val, hr⟩ k]
      · simp
      · intro p d
        unfold xnS0
        generalize hX : xnAll (grid0.coords t) (iblk m c 0 t) (iblk m c 1 t) (iblk m c 2 t) = X
        pointwise
        rw [← hX, xn_eq]
    · rename_i hr
      rw [half_eq m c t 1 _ ?_ ⟨r.val - 256, by omega⟩ k]
      · simp only [Fin.val_one]
        rw [show 256 * 1 + (r.val - 256) = r.val by omega]
      · intro p d
        unfold xnS1
        generalize hX : xnAll (grid0.coords t) (iblk m c 0 t) (iblk m c 1 t) (iblk m c 2 t) = X
        pointwise
        rw [← hX, xn_eq]
  · exact blk7 m c t k

end Cert.Kernel2Ideal.Ffn

end
-- ==== Proof.FfnValue.lean ====
/-
  The feed-forward kernel's whole result: every block it writes back is the layer of `FfnSpec.lean` there, and the blocks
  cover the result array.
-/
module

public import proofs.«01_k».proof.Proof.FfnTerm
public import proofs.«01_k».proof.Proof.FfnSpec
public import proofs.«01_k».proof.Proof.Gen.Kernel2Ideal.Value

@[expose] public section

set_option maxRecDepth 16384

noncomputable section

open Idealize.ShloMosaic Idealize.ShloMosaic.TcCoe Idealize.SL.Sem

namespace Cert.Kernel2Ideal.Whole

open Cert.Kernel2Ideal Cert.Kernel2Ideal.Gen Cert.Kernel2Ideal.Blocks Cert.Kernel2Ideal.Ffn Cert.FfnMath

variable (m : (ℓ : Loc nD τ sig) → Buf (Elt Ideal) ℓ) (c : Dev nD)

/-- The layer of the arguments, as the result array. -/
def G : Buf (Elt Ideal) ((c : Thread nD τ).loc main_v5) :=
  fun i : S8x2048x1024.Idx => layer (aH m c) (aG m c) (aWu m c) (aCw m c) (aCb m c) (aWd m c) (aGf m c) (i 0) (i 1) (i 2)

theorem hi8 (t : Fin cfg0.N) : win0_8.index t 0 = (grid0.coords t 0).val ∧ win0_8.index t 1 = (grid0.coords t 1).val ∧ win0_8.index t 2 = 0 :=
  (by decide +kernel : ∀ t : Fin grid0.N, win0_8.index t 0 = (grid0.coords t 0).val ∧ win0_8.index t 1 = (grid0.coords t 1).val ∧ win0_8.index t 2 = 0) t

theorem xsize8 (t : Fin cfg0.N) : win0_8.xsize (grid0.coords t) 0 = 1 ∧ win0_8.xsize (grid0.coords t) 1 = 512 ∧ win0_8.xsize (grid0.coords t) 2 = 1024 :=
  (by decide +kernel : ∀ t : Fin grid0.N, win0_8.xsize (grid0.coords t) 0 = 1 ∧ win0_8.xsize (grid0.coords t) 1 = 512 ∧ win0_8.xsize (grid0.coords t) 2 = 1024) t

/-- What a point writes back is the layer, read through its block. -/
theorem flushed_eq (t : Fin cfg0.N) :
    (dats m 0 c).flushed 8 t = ((cfg0.win 8).blk t).view.read (Elt Ideal) (G m c) := by
  rw [Value.flushed8_A, out_eq]
  have hi := hi8 t
  have hx := xsize8 t
  funext j
  rw [View.read_apply]
  have h0 : (j 0).val < 1 := hx.1 ▸ (j 0).isLt
  have h1 : (j 1).val < 512 := hx.2.1 ▸ (j 1).isLt
  have h2 : (j 2).val < 1024 := hx.2.2 ▸ (j 2).isLt
  refine Eq.trans ?_ ((block_eq m c t ⟨(j 1).val, h1⟩ ⟨(j 2).val, h2⟩).trans ?_)
  · refine congrArg (k0_pay1 (k0_pay134 (iblk m c 0 t) _ (iblk m c 7 t))) (?_ : _ = (ix3 0 ⟨(j 1).val, h1⟩ ⟨(j 2).val, h2⟩ : S1x512x1024.Idx))
    funext a
    apply Fin.ext
    match a with
    | ⟨0, _⟩ => show (j 0).val = 0; omega
    | ⟨1, _⟩ => rfl
    | ⟨2, _⟩ => rfl
  · show _ = layer _ _ _ _ _ _ _ _ _ _
    congr 1
    · apply Fin.ext; show (grid0.coords t 0).val = win0_8.index t 0 * 1 + 1 * (j 0).val; rw [hi.1]; omega
    · apply Fin.ext; show 512 * (grid0.coords t 1).val + (j 1).val = win0_8.index t 1 * 512 + 1 * (j 1).val; rw [hi.2.1]; omega
    · apply Fin.ext; show (j 2).val = win0_8.index t 2 * 1024 + 1 * (j 2).val; rw [hi.2.2]; omega

theorem exists_pt (b : Fin 8) (r : Fin 4) : ∃ t : Fin cfg0.N, (grid0.coords t 0).val = b.val ∧ (grid0.coords t 1).val = r.val :=
  (by decide +kernel : ∀ (b : Fin 8) (r : Fin 4), ∃ t : Fin grid0.N, (grid0.coords t 0).val = b.val ∧ (grid0.coords t 1).val = r.val) b r

theorem cover (i : S8x2048x1024.Idx) :
    ∃ t : Fin cfg0.N, (cfg0.win 8).flush t = true ∧ i ∈ ((cfg0.win 8).blk t).view.set := by
  have h0 : (i 0).val < 8 := (i 0).isLt
  have h1 : (i 1).val < 2048 := (i 1).isLt
  have h2 : (i 2).val < 1024 := (i 2).isLt
  obtain ⟨t, e0, e1⟩ := exists_pt ⟨(i 0).val, h0⟩ ⟨(i 1).val / 512, by omega⟩
  have hi := hi8 t
  have hx := xsize8 t
  refine ⟨t, flush0_8 t, ?_⟩
  show i ∈ ((View.whole main_v5).slice (win0_8.rect t)).set
  rw [View.set_slice_whole, Rect.mem_set_unit]
  dsimp only at e0 e1
  intro a
  match a with
  | ⟨0, _⟩ => show win0_8.index t 0 * 1 ≤ (i 0).val ∧ (i 0).val < win0_8.index t 0 * 1 + win0_8.xsize (grid0.coords t) 0
              rw [hi.1, hx.1]; omega
  | ⟨1, _⟩ => show win0_8.index t 1 * 512 ≤ (i 1).val ∧ (i 1).val < win0_8.index t 1 * 512 + win0_8.xsize (grid0.coords t) 1
              rw [hi.2.1, hx.2.1]; omega
  | ⟨2, _⟩ => show win0_8.index t 2 * 1024 ≤ (i 2).val ∧ (i 2).val < win0_8.index t 2 * 1024 + win0_8.xsize (grid0.coords t) 2
              rw [hi.2.2, hx.2.2]; omega

/-- The result array ends holding the layer. -/
theorem final : (dats m 0 c).arrAt 8 cfg0.N = G m c :=
  (dats m 0 c).arrAt_eq_of_cover 8 (G m c) (fun t _ => flushed_eq m c t) cover

end Cert.Kernel2Ideal.Whole

end
-- ==== Proof.FfnRef.lean ====
/-
  The feed-forward reference read at one element: it is the layer of `FfnSpec.lean`.
-/
module

public import proofs.«01_k».proof.Proof.FfnSpec
public import proofs.«01_k».proof.Proof.Gen.Reference2Ideal.Read

@[expose] public section

set_option maxRecDepth 16384

noncomputable section

open Idealize.ShloMosaic Idealize.ShloMosaic.TcCoe Idealize.SL.Sem

namespace Cert.Reference2Ideal.Layer

open Cert.Reference2Ideal Cert.Reference2Ideal.Read Cert.FfnMath

variable (x0 : Vec Ideal S8x2048x1024 .f32) (x1 : Vec Ideal S1024 .f32) (x2 : Vec Ideal S1024x5632 .f32) (x3 : Vec Ideal S3x5632 .f32) (x4 : Vec Ideal S5632 .f32) (x5 : Vec Ideal S2816x1024 .f32) (x6 : Vec Ideal S1024 .f32)

theorem v12_at (b : Fin 8) (t : Fin 2048) (d : Fin 1024) :
    val_main_v12 (F := Ideal) x0 x1 (ix3 b t d) = nrm (fun k => x0 (ix3 b t k)) (fun k => x1 (ix1 k)) d := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl

theorem v13_at (b : Fin 8) (t : Fin 2048) (f : Fin 5632) :
    val_main_v13 (F := Ideal) x0 x1 x2 (ix3 b t f) = ∑ d, val_main_v12 (F := Ideal) x0 x1 (ix3 b t d) * x2 (ix2 d f) := by
  unfold val_main_v13
  generalize val_main_v12 (F := Ideal) x0 x1 = y
  pointwise

theorem zero_i : FloatOps.sitofp (F := Ideal) FTy.f32 0#32 = 0 := by
  show (((0#32 : BitVec 32).toInt : ℝ) : EReal) = 0
  simp

/-- The padded up-projection: two rows of noughts, then the sequence. -/
theorem v14_at (b : Fin 8) (p : Fin 2050) (f : Fin 5632) :
    val_main_v14 (F := Ideal) x0 x1 x2 (ix3 b p f) = up (fun b t d => x0 (ix3 b t d)) (fun d => x1 (ix1 d)) (fun d f => x2 (ix2 d f)) b (p.val + 6) f := by
  unfold val_main_v14 up xrow
  split
  · rename_i hp
    have e := v13_at x0 x1 x2 b ⟨p.val + 6 - 8, by omega⟩ f
    simp only [v12_at] at e
    refine Eq.trans ?_ e
    generalize val_main_v13 (F := Ideal) x0 x1 x2 = y
    pointwise [val_main_call0_v0, val_main_c]
    rw [dif_pos (show 2 ≤ p.val ∧ p.val - 2 < 2048 by omega)]
    exact congrArg (fun q => y (ix3 b q f)) (Fin.ext (show p.val - 2 = p.val + 6 - 8 by omega))
  · rename_i hp
    generalize val_main_v13 (F := Ideal) x0 x1 x2 = y
    pointwise [val_main_call0_v0, val_main_c]
    rw [dif_neg (show ¬ (2 ≤ p.val ∧ p.val - 2 < 2048) by omega)]
    simp only [zero_mul, Finset.sum_const_zero]
    exact zero_i

theorem v39_at (b : Fin 8) (t : Fin 2048) (f : Fin 5632) :
    val_main_v39 (F := Ideal) x0 x1 x2 x3 x4 (ix3 b t f) = conv (fun b t d => x0 (ix3 b t d)) (fun d => x1 (ix1 d)) (fun d f => x2 (ix2 d f)) (fun j f => x3 (ix2 j f)) (fun f => x4 (ix1 f)) b t.val f := by
  have h2 := v14_at x0 x1 x2 b ⟨t.val + 2, by omega⟩ f
  have h1 := v14_at x0 x1 x2 b ⟨t.val + 1, by omega⟩ f
  have h0 := v14_at x0 x1 x2 b ⟨t.val, by omega⟩ f
  unfold conv taps
  rw [show t.val + 8 = t.val + 2 + 6 from rfl, show t.val + 7 = t.val + 1 + 6 from rfl, ← h2, ← h1, ← h0]
  clear h2 h1 h0
  unfold val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_cst_2
  generalize val_main_v14 (F := Ideal) x0 x1 x2 = y
  pointwise
  rw [show (⟨1 + t.val, by omega⟩ : Fin 2050) = ⟨t.val + 1, by omega⟩ from Fin.ext (Nat.add_comm _ _),
    show (⟨2 + t.val, by omega⟩ : Fin 2050) = ⟨t.val + 2, by omega⟩ from Fin.ext (Nat.add_comm _ _)]
  exact congrArg (· + x4 (ix1 f)) (by rw [add_comm, add_comm (x3 (ix2 0 f) * _), add_assoc])

theorem v43_at (b : Fin 8) (t : Fin 2048) (f : Fin 2816) :
    val_main_v43 (F := Ideal) x0 x1 x2 x3 x4 (ix3 b t f) = hid (fun b t d => x0 (ix3 b t d)) (fun d => x1 (ix1 d)) (fun d f => x2 (ix2 d f)) (fun j f => x3 (ix2 j f)) (fun f => x4 (ix1 f)) b t.val f := by
  unfold hid
  rw [← v39_at, ← v39_at]
  unfold val_main_v43 val_main_v42 val_main_call1_v5 val_main_call1_v4 val_main_call1_cst_0 val_main_call1_v3 val_main_call1_v2 val_main_call1_cst val_main_call1_v1 val_main_call1_v0 val_main_v41 val_main_v40
  generalize val_main_v39 (F := Ideal) x0 x1 x2 x3 x4 = y
  pointwise
  rw [show (⟨2816 + f.val, by omega⟩ : Fin 5632) = ⟨f.val + 2816, by omega⟩ from Fin.ext (Nat.add_comm _ _)]
  unfold gated
  rw [sub_eq_add_neg, zero_add]

theorem v45_at (b : Fin 8) (t : Fin 2048) (d : Fin 1024) :
    val_main_v45 (F := Ideal) x0 x1 x2 x3 x4 x5 (ix3 b t d)
      = x0 (ix3 b t d) + ∑ f, hid (fun b t d => x0 (ix3 b t d)) (fun d => x1 (ix1 d)) (fun d f => x2 (ix2 d f)) (fun j f => x3 (ix2 j f)) (fun f => x4 (ix1 f)) b t.val f * x5 (ix2 f d) := by
  simp only [← v43_at]
  unfold val_main_v45 val_main_v44
  generalize val_main_v43 (F := Ideal) x0 x1 x2 x3 x4 = y
  pointwise

/-- The reference is the layer. -/
theorem v58_at (b : Fin 8) (t : Fin 2048) (d : Fin 1024) :
    val_main_v58 (F := Ideal) x0 x1 x2 x3 x4 x5 x6 (ix3 b t d)
      = layer (fun b t d => x0 (ix3 b t d)) (fun d => x1 (ix1 d)) (fun d f => x2 (ix2 d f)) (fun j f => x3 (ix2 j f)) (fun f => x4 (ix1 f)) (fun f d => x5 (ix2 f d)) (fun d => x6 (ix1 d)) b t d := by
  unfold layer
  rw [show (fun k => _) = _ from funext fun k => (v45_at x0 x1 x2 x3 x4 x5 b t k).symm]
  unfold val_main_v58 val_main_v57 val_main_v56 val_main_v55 val_main_v54 val_main_v53 val_main_v52 val_main_v51 val_main_v50 val_main_v49 val_main_v48 val_main_v47 val_main_v46 val_main_cst_3 val_main_cst_4 val_main_cst_5
  generalize val_main_v45 (F := Ideal) x0 x1 x2 x3 x4 x5 = y
  pointwise
  rfl

end Cert.Reference2Ideal.Layer

end
-- ==== Proof.FfnClaim.lean ====
/-
  The feed-forward claims: the kernel's result and the reference's are the same layer of the same arguments.
-/
module

public import proofs.«01_k».proof.Defs
public import proofs.«01_k».proof.Proof.FfnValue
public import proofs.«01_k».proof.Proof.FfnRef
public import Idealize.ShloMosaic.Lib.Quiescent

@[expose] public section

noncomputable section

open Idealize.ShloMosaic Idealize.ShloMosaic.TcCoe Idealize.SL.Sem

namespace Cert.FfnClaim

open Cert.FfnMath

instance : Cert.Kernel2Ideal.Facts := Cert.Kernel2Ideal.Gen.facts
instance : Cert.Reference2Ideal.Facts := Cert.Reference2Ideal.Gen.facts

/-- The reference runs; its arguments end unchanged, and it declares no semaphore. -/
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The layer of equal arguments. -/
theorem reference_eq (m : (ℓ : Loc Cert.Kernel2Ideal.nD Cert.Kernel2Ideal.τ Cert.Kernel2Ideal.sig) → Buf (Elt Ideal) ℓ) (c : Dev Cert.Kernel2Ideal.nD)
    (x0 : Vec Ideal Cert.Reference2Ideal.S8x2048x1024 .f32) (x1 : Vec Ideal Cert.Reference2Ideal.S1024 .f32)
    (x2 : Vec Ideal Cert.Reference2Ideal.S1024x5632 .f32) (x3 : Vec Ideal Cert.Reference2Ideal.S3x5632 .f32)
    (x4 : Vec Ideal Cert.Reference2Ideal.S5632 .f32) (x5 : Vec Ideal Cert.Reference2Ideal.S2816x1024 .f32)
    (x6 : Vec Ideal Cert.Reference2Ideal.S1024 .f32)
    (h0 : x0 = m ((c.tc : Thread Cert.Kernel2Ideal.nD Cert.Kernel2Ideal.τ).loc Cert.Kernel2Ideal.main_arg0))
    (h1 : x1 = m ((c.tc : Thread Cert.Kernel2Ideal.nD Cert.Kernel2Ideal.τ).loc Cert.Kernel2Ideal.main_arg1))
    (h2 : x2 = m ((c.tc : Thread Cert.Kernel2Ideal.nD Cert.Kernel2Ideal.τ).loc Cert.Kernel2Ideal.main_arg2))
    (h3 : x3 = m ((c.tc : Thread Cert.Kernel2Ideal.nD Cert.Kernel2Ideal.τ).loc Cert.Kernel2Ideal.main_arg3))
    (h4 : x4 = m ((c.tc : Thread Cert.Kernel2Ideal.nD Cert.Kernel2Ideal.τ).loc Cert.Kernel2Ideal.main_arg4))
    (h5 : x5 = m ((c.tc : Thread Cert.Kernel2Ideal.nD Cert.Kernel2Ideal.τ).loc Cert.Kernel2Ideal.main_arg5))
    (h6 : x6 = m ((c.tc : Thread Cert.Kernel2Ideal.nD Cert.Kernel2Ideal.τ).loc Cert.Kernel2Ideal.main_arg6)) :
    Cert.Reference2Ideal.Read.val_main_v58 (F := Ideal) x0 x1 x2 x3 x4 x5 x6 = Cert.Kernel2Ideal.Whole.G m c := by
  subst h0 h1 h2 h3 h4 h5 h6
  funext i
  have hi : i = ix3 (i 0) (i 1) (i 2) := by
    funext a
    match a with
    | ⟨0, _⟩ => rfl
    | ⟨1, _⟩ => rfl
    | ⟨2, _⟩ => rfl
  rw [hi]
  exact Cert.Reference2Ideal.Layer.v58_at _ _ _ _ _ _ _ (i 0) (i 1) (i 2)

theorem algebraic : Cert.algebraic_Kernel2Ideal_Reference2Ideal := by
  intro m g m' g' _ hagree
  refine ⟨fun c => Cert.Kernel2Ideal.Whole.G m c, ?_, ?_⟩
  · exact (θ_run Cert.Kernel2Ideal.defs _ _).mono
      (fun _ h c => ⟨(h c).1.trans (Cert.Kernel2Ideal.Whole.final m c), (h c).2⟩)
      (Cert.Kernel2Ideal.Value.run_blocks (F := Ideal) m g)
  · refine (θ_run Cert.Reference2Ideal.defs _ _).mono (fun _ h c => ⟨(h c).1.trans ?_, (h c).2⟩)
      (Cert.Reference2Ideal.Value.run (F := Ideal) m' g')
    rw [Cert.Reference2Ideal.Read.val_main_v58_eq]
    obtain ⟨a0, a1, a2, a3, a4, a5, a6⟩ := hagree c
    exact reference_eq m c _ _ _ _ _ _ _ a0 a1 a2 a3 a4 a5 a6

end Cert.FfnClaim

end
-- ==== Proof.MlTerm.lean ====
/-
  The matrix-memory kernel's block as named stages.  One grid point normalises 256 rows, projects them, runs the
  four-tap causal convolution over the rows and the eight rows carried from the point before, and for each of the four
  heads computes the stabilised chunk: running sum of the forget gates, row maxima, weights, numerator, denominator, and
  the state carried to the next point.  The stages below are written once for a head number; the run's found term is cut
  into exactly these stages.
-/
module

public import proofs.«01_k».proof.Proof.Gen.KernelIdeal.Frame
public import Idealize.ShloMosaic.Lib.Pipeline.Value
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem

namespace Cert.KernelIdeal.Ml

open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- A piece of another head does not hold the index read. -/
theorem off_c {a b : ℕ} (hab : a ≠ b) (ha : ∀ x, ![a, 0, 0] x + S1x512x512.size x ≤ S4x512x512.size x)
    (hb : ∀ x, ![b, 0, 0] x + S1x512x512.size x ≤ S4x512x512.size x) (j : S1x512x512.Idx) :
    (Rect.unit (s := S4x512x512) ![b, 0, 0] S1x512x512.size hb).toLoadRect.idx j ∉
      (Rect.unit (s := S4x512x512) ![a, 0, 0] S1x512x512.size ha).set := by
  rw [Rect.mem_set_unit]; intro h; have h0 := h 0; have hj : (j 0).val < 1 := (j 0).isLt
  have e : ((Rect.unit (s := S4x512x512) ![b, 0, 0] S1x512x512.size hb).toLoadRect.idx j 0).val = b + 1 * (j 0).val := rfl
  rw [e] at h0
  have h1 : a ≤ b + 1 * (j 0).val ∧ b + 1 * (j 0).val < a + 1 := h0
  omega

/-- A piece of another head does not hold the index read. -/
theorem off_n {a b : ℕ} (hab : a ≠ b) (ha : ∀ x, ![a, 0, 0] x + S1x1x512.size x ≤ S4x1x512.size x)
    (hb : ∀ x, ![b, 0, 0] x + S1x1x512.size x ≤ S4x1x512.size x) (j : S1x1x512.Idx) :
    (Rect.unit (s := S4x1x512) ![b, 0, 0] S1x1x512.size hb).toLoadRect.idx j ∉
      (Rect.unit (s := S4x1x512) ![a, 0, 0] S1x1x512.size ha).set := by
  rw [Rect.mem_set_unit]; intro h; have h0 := h 0; have hj : (j 0).val < 1 := (j 0).isLt
  have e : ((Rect.unit (s := S4x1x512) ![b, 0, 0] S1x1x512.size hb).toLoadRect.idx j 0).val = b + 1 * (j 0).val := rfl
  rw [e] at h0
  have h1 : a ≤ b + 1 * (j 0).val ∧ b + 1 * (j 0).val < a + 1 := h0
  omega

/-- A piece of another head does not hold the index read. -/
theorem off_m {a b : ℕ} (hab : a ≠ b) (ha : ∀ x, ![a, 0, 0] x + S1x1x128.size x ≤ S4x1x128.size x)
    (hb : ∀ x, ![b, 0, 0] x + S1x1x128.size x ≤ S4x1x128.size x) (j : S1x1x128.Idx) :
    (Rect.unit (s := S4x1x128) ![b, 0, 0] S1x1x128.size hb).toLoadRect.idx j ∉
      (Rect.unit (s := S4x1x128) ![a, 0, 0] S1x1x128.size ha).set := by
  rw [Rect.mem_set_unit]; intro h; have h0 := h 0; have hj : (j 0).val < 1 := (j 0).isLt
  have e : ((Rect.unit (s := S4x1x128) ![b, 0, 0] S1x1x128.size hb).toLoadRect.idx j 0).val = b + 1 * (j 0).val := rfl
  rw [e] at h0
  have h1 : a ≤ b + 1 * (j 0).val ∧ b + 1 * (j 0).val < a + 1 := h0
  omega

/-- So a read of it passes that piece by. -/
theorem skip_c {a b : ℕ} (hab : a ≠ b) (ha : ∀ x, ![a, 0, 0] x + S1x512x512.size x ≤ S4x512x512.size x)
    (hb : ∀ x, ![b, 0, 0] x + S1x512x512.size x ≤ S4x512x512.size x) (w : Vec F S1x512x512 .f32) (L : List (View.Piece (Elt F) S4x512x512 .f32))
    (j : S1x512x512.Idx) :
    View.canon (⟨Rect.unit (s := S4x512x512) ![a, 0, 0] S1x512x512.size ha, w⟩ :: L)
        ((Rect.unit (s := S4x512x512) ![b, 0, 0] S1x512x512.size hb).toLoadRect.idx j)
      = View.canon L ((Rect.unit (s := S4x512x512) ![b, 0, 0] S1x512x512.size hb).toLoadRect.idx j) :=
  View.canon_cons_of_not_mem _ _ (off_c hab ha hb j)

/-- So a read of it passes that piece by. -/
theorem skip_n {a b : ℕ} (hab : a ≠ b) (ha : ∀ x, ![a, 0, 0] x + S1x1x512.size x ≤ S4x1x512.size x)
    (hb : ∀ x, ![b, 0, 0] x + S1x1x512.size x ≤ S4x1x512.size x) (w : Vec F S1x1x512 .f32) (L : List (View.Piece (Elt F) S4x1x512 .f32))
    (j : S1x1x512.Idx) :
    View.canon (⟨Rect.unit (s := S4x1x512) ![a, 0, 0] S1x1x512.size ha, w⟩ :: L)
        ((Rect.unit (s := S4x1x512) ![b, 0, 0] S1x1x512.size hb).toLoadRect.idx j)
      = View.canon L ((Rect.unit (s := S4x1x512) ![b, 0, 0] S1x1x512.size hb).toLoadRect.idx j) :=
  View.canon_cons_of_not_mem _ _ (off_n hab ha hb j)

/-- So a read of it passes that piece by. -/
theorem skip_m {a b : ℕ} (hab : a ≠ b) (ha : ∀ x, ![a, 0, 0] x + S1x1x128.size x ≤ S4x1x128.size x)
    (hb : ∀ x, ![b, 0, 0] x + S1x1x128.size x ≤ S4x1x128.size x) (w : Vec F S1x1x128 .f32) (L : List (View.Piece (Elt F) S4x1x128 .f32))
    (j : S1x1x128.Idx) :
    View.canon (⟨Rect.unit (s := S4x1x128) ![a, 0, 0] S1x1x128.size ha, w⟩ :: L)
        ((Rect.unit (s := S4x1x128) ![b, 0, 0] S1x1x128.size hb).toLoadRect.idx j)
      = View.canon L ((Rect.unit (s := S4x1x128) ![b, 0, 0] S1x1x128.size hb).toLoadRect.idx j) :=
  View.canon_cons_of_not_mem _ _ (off_m hab ha hb j)

/-- The zero every masked sum fills with. -/
abbrev z : F .f32 := Scalar.ofBits .f32 0x00000000#32

/-- A column turned into a row: the diagonal of the column spread over the square, summed down. -/
def toRow (x : FVec F S256x1 .f32) : FVec F S1x256 .f32 :=
  shapeCast S1x256 (multiReduction .add [0] S256 (select k0_pay17
    (broadcastTo S256x256 (shapeCast S256x1 x shapeCasts_S256x1_S256x1) broadcasts_S256x1_S256x256)
    (broadcast S256x256 z)) 0x00000000#32 reduces_S256x256_S256 (.inl rfl) rfl) shapeCasts_S256_S1x256

/-- Head `hd`'s input gate. -/
def gateI (g : FVec F S256x8 .f32) (hd : Fin 4) : FVec F S256x1 .f32 :=
  extractStridedSlice S256x1 ![0, hd.val] g (by revert hd; decide)

/-- The logarithm of the logistic function, on a column. -/
def logSig (x : FVec F S256x1 .f32) : FVec F S256x1 .f32 :=
  subf (minimumf x (broadcast S256x1 z)) (log1p (exp (subf (broadcast S256x1 z) (absf x))))

/-- Head `hd`'s forget gate, in logarithms. -/
def gateF (g : FVec F S256x8 .f32) (hd : Fin 4) : FVec F S256x1 .f32 :=
  logSig (extractStridedSlice S256x1 ![0, 4 + hd.val] g (by revert hd; decide))

/-- The running sum of a column. -/
def cums (lf : FVec F S256x1 .f32) : FVec F S256x1 .f32 :=
  shapeCast S256x1 (multiReduction .add [1] S256 (select k0_pay18
    (broadcastTo S256x256 (shapeCast S1x256 (toRow lf) shapeCasts_S1x256_S1x256) broadcasts_S1x256_S256x256)
    (broadcast S256x256 z)) 0x00000000#32 reduces_S256x256_S256_2 (.inl rfl) rfl) shapeCasts_S256_S256x1

/-- The logarithms of the weights inside the chunk, masked above the diagonal. -/
def logD (b li : FVec F S256x1 .f32) : FVec F S256x256 .f32 :=
  select k0_pay18 (addf (subf (broadcastTo S256x256 b broadcasts_S256x1_S256x256)
    (broadcastTo S256x256 (toRow b) broadcasts_S1x256_S256x256)) (broadcastTo S256x256 (toRow li) broadcasts_S1x256_S256x256))
    (broadcast S256x256 (Named.named κ "mask" 0xF149F2CA#32))

/-- The carried stabiliser, read from its first lane. -/
def stM (m : Vec F S1x1x128 .f32) : FVec F S1x1 .f32 :=
  extractStridedSlice S1x1 ![0, 0] (shapeCast S1x128 m shapeCasts_S1x1x128_S1x128) slices_S1x128_o0_0_S1x1

/-- The logarithm of the carried state's weight in each row. -/
def logInter (b : FVec F S256x1 .f32) (m0 : FVec F S1x1 .f32) : FVec F S256x1 .f32 :=
  addf b (broadcastTo S256x1 m0 broadcasts_S1x1_S256x1)

/-- The stabiliser of each row. -/
def mRow (b : FVec F S256x1 .f32) (ld : FVec F S256x256 .f32) (m0 : FVec F S1x1 .f32) : FVec F S256x1 .f32 :=
  maximumf (logInter b m0) (shapeCast S256x1 (multiReduction .maximumf [1] S256 ld 0xFF800000#32 reduces_S256x256_S256_2
    (.inl rfl) rfl) shapeCasts_S256_S256x1)

/-- The weights inside the chunk. -/
def wIntra (ld : FVec F S256x256 .f32) (mr : FVec F S256x1 .f32) : FVec F S256x256 .f32 :=
  exp (subf ld (broadcastTo S256x256 mr broadcasts_S256x1_S256x256))

/-- The carried state's weight in each row. -/
def wInter (b : FVec F S256x1 .f32) (m0 : FVec F S1x1 .f32) (mr : FVec F S256x1 .f32) : FVec F S256x1 .f32 :=
  exp (subf (logInter b m0) mr)

/-- The whole chunk's sum of forget gates. -/
def bLast (b : FVec F S256x1 .f32) : FVec F S1x1 .f32 := extractStridedSlice S1x1 ![255, 0] b slices_S256x1_o255_0_S1x1

/-- The logarithm of each row's weight in the next state. -/
def logW (b li : FVec F S256x1 .f32) : FVec F S256x1 .f32 :=
  addf (subf (broadcastTo S256x1 (bLast b) broadcasts_S1x1_S256x1) b) li

/-- The next stabiliser. -/
def mNew (b li : FVec F S256x1 .f32) (m0 : FVec F S1x1 .f32) : FVec F S1x1 .f32 :=
  maximumf (addf (bLast b) m0) (shapeCast S1x1 (multiReduction .maximumf [0] S1 (logW b li) 0xFF800000#32 reduces_S256x1_S1
    (.inl rfl) rfl) shapeCasts_S1_S1x1)

/-- The old state's weight in the next one. -/
def decay (b li : FVec F S256x1 .f32) (m0 : FVec F S1x1 .f32) : FVec F S1x1 .f32 :=
  exp (subf (addf (bLast b) m0) (mNew b li m0))

/-- Each row's weight in the next state. -/
def wK (b li : FVec F S256x1 .f32) (m0 : FVec F S1x1 .f32) : FVec F S256x1 .f32 :=
  exp (subf (logW b li) (broadcastTo S256x1 (mNew b li m0) broadcasts_S1x1_S256x1))

/-- The next stabiliser as it is stored, in every lane. -/
def stM' (m : FVec F S1x1 .f32) : FVec F S1x1x128 .f32 :=
  shapeCast S1x1x128 (broadcastTo S1x128 (shapeCast S1x1 m shapeCasts_S1x1_S1x1) broadcasts_S1x1_S1x128)
    shapeCasts_S1x128_S1x1x128

/-- Head `hd`'s 512 columns. -/
def cols (x : FVec F S256x2048 .f32) (hd : Fin 4) : FVec F S256x512 .f32 :=
  extractStridedSlice S256x512 ![0, 512 * hd.val] x (by revert hd; decide)

/-- Head `hd`'s columns times that head's weights. -/
def projd (x : FVec F S256x2048 .f32) (hd : Fin 4) (w : Vec F S1x512x512 .bf16) : FVec F S256x512 .f32 :=
  matmul dot_S256x512_S512x512_S256x512_1_0_0_1_n_n none (truncf .bf16 (cols x hd) bitsLt_bf16_f32)
    (shapeCast S512x512 w shapeCasts_S1x512x512_S512x512) (constant S256x512 .f32 0x00000000#32)

/-- The keys scaled by `1/√512`. -/
def scaled (k : FVec F S256x512 .f32) : FVec F S256x512 .f32 :=
  mulf k (broadcast S256x512 (Scalar.ofBits .f32 0x3D3504F3#32))

/-- Weighted scores. -/
def scores (q ks : FVec F S256x512 .f32) (wi : FVec F S256x256 .f32) : FVec F S256x256 .f32 :=
  mulf (matmul dot_S256x512_S256x512_S256x256_1_1_0_0_n_n none (truncf .bf16 q bitsLt_bf16_f32)
    (truncf .bf16 ks bitsLt_bf16_f32) (constant S256x256 .f32 0x00000000#32)) wi

/-- The denominator's column. -/
def den (q : FVec F S256x512 .f32) (wr : FVec F S256x1 .f32) (n : Vec F S1x1x512 .f32) (s : FVec F S256x256 .f32) :
    FVec F S256x1 .f32 :=
  addf (mulf wr (shapeCast S256x1 (multiReduction .add [1] S256 (mulf q (broadcastTo S256x512
      (shapeCast S1x512 n shapeCasts_S1x1x512_S1x512) broadcasts_S1x512_S256x512)) 0x00000000#32 reduces_S256x512_S256 (.inl rfl) rfl)
      shapeCasts_S256_S256x1))
    (shapeCast S256x1 (multiReduction .add [1] S256 s 0x00000000#32 reduces_S256x256_S256_2 (.inl rfl) rfl) shapeCasts_S256_S256x1)

/-- The keys weighted for the next state. -/
def wkeys (wk : FVec F S256x1 .f32) (ks : FVec F S256x512 .f32) : FVec F S256x512 .f32 :=
  mulf (broadcastTo S256x512 wk broadcasts_S256x1_S256x512) ks

/-- The next normaliser. -/
def newN (dc : FVec F S1x1 .f32) (wk : FVec F S256x1 .f32) (ks : FVec F S256x512 .f32) (n : Vec F S1x1x512 .f32) :
    FVec F S1x1x512 .f32 :=
  shapeCast S1x1x512 (addf (mulf (broadcastTo S1x512 dc broadcasts_S1x1_S1x512) (shapeCast S1x512 n shapeCasts_S1x1x512_S1x512))
    (shapeCast S1x512 (multiReduction .add [0] S512 (wkeys wk ks) 0x00000000#32 reduces_S256x512_S512 (.inl rfl) rfl)
      shapeCasts_S512_S1x512)) shapeCasts_S1x512_S1x1x512

/-- The next state. -/
def newC (dc : FVec F S1x1 .f32) (wk : FVec F S256x1 .f32) (ks v : FVec F S256x512 .f32) (C : Vec F S1x512x512 .f32) :
    FVec F S1x512x512 .f32 :=
  shapeCast S1x512x512 (addf (mulf (broadcastTo S512x512 dc broadcasts_S1x1_S512x512)
      (shapeCast S512x512 C shapeCasts_S1x512x512_S512x512))
    (matmul dot_S256x512_S256x512_S512x512_0_0_1_1_n_n none (truncf .bf16 (wkeys wk ks) bitsLt_bf16_f32)
      (truncf .bf16 v bitsLt_bf16_f32) (constant S512x512 .f32 0x00000000#32))) shapeCasts_S512x512_S1x512x512

/-- The numerator. -/
def num (q v : FVec F S256x512 .f32) (wr : FVec F S256x1 .f32) (C : Vec F S1x512x512 .f32) (s : FVec F S256x256 .f32) :
    FVec F S256x512 .f32 :=
  addf (mulf (broadcastTo S256x512 wr broadcasts_S256x1_S256x512)
      (matmul dot_S256x512_S512x512_S256x512_1_0_0_1_n_n none (truncf .bf16 q bitsLt_bf16_f32)
        (truncf .bf16 (shapeCast S512x512 C shapeCasts_S1x512x512_S512x512) bitsLt_bf16_f32) (constant S256x512 .f32 0x00000000#32)))
    (matmul dot_S256x256_S256x512_S256x512_1_0_0_1_n_n none (truncf .bf16 s bitsLt_bf16_f32) (truncf .bf16 v bitsLt_bf16_f32)
      (constant S256x512 .f32 0x00000000#32))

/-- The stabilised quotient. -/
def quot (nm : FVec F S256x512 .f32) (dn mr : FVec F S256x1 .f32) : FVec F S256x512 .f32 :=
  divf nm (broadcastTo S256x512 (maximumf (absf dn) (exp (subf (broadcast S256x1 z) mr))) broadcasts_S256x1_S256x512)

/-- A row's mean over a head's 512 columns. -/
def mean512 (x : FVec F S256x512 .f32) : FVec F S256x1 .f32 :=
  divf (shapeCast S256x1 (multiReduction .add [1] S256 x 0x00000000#32 reduces_S256x512_S256 (.inl rfl) rfl) shapeCasts_S256_S256x1)
    (broadcast S256x1 (Scalar.ofBits .f32 0x44000000#32))

/-- A row less its mean. -/
def centred (x : FVec F S256x512 .f32) : FVec F S256x512 .f32 :=
  subf x (broadcastTo S256x512 (mean512 x) broadcasts_S256x1_S256x512)

/-- The head's normalised rows. -/
def headNorm (x : FVec F S256x512 .f32) : FVec F S256x512 .f32 :=
  mulf (centred x) (broadcastTo S256x512 (rsqrt (addf (mean512 (mulf (centred x) (centred x)))
    (broadcast S256x1 (Scalar.ofBits .f32 0x358637BD#32)))) broadcasts_S256x1_S256x512)

/-- The head's gated output with its skip branch. -/
def yHead (o : FVec F S256x2048 .f32) (hd : Fin 4) (xh hh : FVec F S256x512 .f32) (gn sk : Vec F S1x512 .f32) : FVec F S256x512 .bf16 :=
  shapeCast S256x512 (truncf .bf16 (addf
    (mulf (divf (broadcast S256x512 (Scalar.ofBits .f32 0x3F800000#32)) (addf (broadcast S256x512 (Scalar.ofBits .f32 0x3F800000#32))
        (exp (subf (broadcast S256x512 z) (cols o hd)))))
      (mulf (headNorm hh) (broadcastTo S256x512 (shapeCast S1x512 gn shapeCasts_S1x512_S1x512) broadcasts_S1x512_S256x512)))
    (mulf (broadcastTo S256x512 (shapeCast S1x512 sk shapeCasts_S1x512_S1x512) broadcasts_S1x512_S256x512) xh)) bitsLt_bf16_f32)
    shapeCasts_S256x512_S256x512

variable (x0 : Vec F S1x256x1024 .f32) (x1 : Vec F S1x1024 .f32) (x2 : Vec F S1024x4104 .bf16) (x3 : Vec F S1x8 .f32)
  (x4 : Vec F S4x2048 .f32) (x5 : Vec F S1x2048 .f32) (x6 x7 x8 : Vec F S4x512x512 .bf16) (x9 x10 : Vec F S1x2048 .f32)
  (x11 : Vec F S2048x1024 .bf16) (C : Vec F S4x512x512 .f32) (n : Vec F S4x1x512 .f32) (m : Vec F S4x1x128 .f32)
  (xp : Vec F S8x2048 .f32) (hd : Fin 4)

/-! ## The stages at a grid point's blocks -/

/-- The value branch. -/
def sXm : FVec F S256x2048 .f32 := k0_pay7 x0 x1 (View.ld x2 (Rect.unit ![0, 0] S1024x2048.size inb_S1024x4104_S1024x2048_0_0))

/-- The eight gates. -/
def sGates : FVec F S256x8 .f32 := k0_pay8 x0 x1 (View.ld x2 (Rect.unit ![0, 4096] S1024x8.size inb_S1024x4104_S1024x8_0_4096)) x3

/-- The output gate's branch. -/
def sO : FVec F S256x2048 .f32 :=
  k0_pay13 (k0_pay6 x0 x1) (View.ld x2 (Rect.unit ![0, 2048] S1024x2048.size inb_S1024x4104_S1024x2048_0_2048))

/-- The convolved branch. -/
def sXc : FVec F S256x2048 .f32 := k0_pay15 (k0_pay14 (sXm x0 x1 x2) xp x4) x5

/-- A head's weights. -/
def wAt (w : Vec F S4x512x512 .bf16) (hd : Fin 4) : Vec F S1x512x512 .bf16 :=
  View.ld w (Rect.unit ![hd.val, 0, 0] S1x512x512.size (by revert hd; decide))

/-- A head's state. -/
def cAt (w : Vec F S4x512x512 .f32) (hd : Fin 4) : Vec F S1x512x512 .f32 :=
  View.ld w (Rect.unit ![hd.val, 0, 0] S1x512x512.size (by revert hd; decide))

/-- A head's normaliser. -/
def nAt (w : Vec F S4x1x512 .f32) (hd : Fin 4) : Vec F S1x1x512 .f32 :=
  View.ld w (Rect.unit ![hd.val, 0, 0] S1x1x512.size (by revert hd; decide))

/-- A head's stabiliser. -/
def mAt (w : Vec F S4x1x128 .f32) (hd : Fin 4) : Vec F S1x1x128 .f32 :=
  View.ld w (Rect.unit ![hd.val, 0, 0] S1x1x128.size (by revert hd; decide))

/-- A head's scale vector. -/
def rowAt (w : Vec F S1x2048 .f32) (hd : Fin 4) : Vec F S1x512 .f32 :=
  View.ld w (Rect.unit ![0, 512 * hd.val] S1x512.size (by revert hd; decide))

def sLi : FVec F S256x1 .f32 := gateI (sGates x0 x1 x2 x3) hd
def sB : FVec F S256x1 .f32 := cums (gateF (sGates x0 x1 x2 x3) hd)
def sM0 : FVec F S1x1 .f32 := stM (mAt m hd)
def sD : FVec F S256x256 .f32 := logD (sB x0 x1 x2 x3 hd) (sLi x0 x1 x2 x3 hd)
def sM : FVec F S256x1 .f32 := mRow (sB x0 x1 x2 x3 hd) (sD x0 x1 x2 x3 hd) (sM0 m hd)
def sWi : FVec F S256x256 .f32 := wIntra (sD x0 x1 x2 x3 hd) (sM x0 x1 x2 x3 m hd)
def sWr : FVec F S256x1 .f32 := wInter (sB x0 x1 x2 x3 hd) (sM0 m hd) (sM x0 x1 x2 x3 m hd)
def sDc : FVec F S1x1 .f32 := decay (sB x0 x1 x2 x3 hd) (sLi x0 x1 x2 x3 hd) (sM0 m hd)
def sWk : FVec F S256x1 .f32 := wK (sB x0 x1 x2 x3 hd) (sLi x0 x1 x2 x3 hd) (sM0 m hd)
def sMn : FVec F S1x1x128 .f32 := stM' (mNew (sB x0 x1 x2 x3 hd) (sLi x0 x1 x2 x3 hd) (sM0 m hd))
def sQ : FVec F S256x512 .f32 := projd (sXc x0 x1 x2 x4 x5 xp) hd (wAt x6 hd)
def sK : FVec F S256x512 .f32 := scaled (projd (sXc x0 x1 x2 x4 x5 xp) hd (wAt x7 hd))
def sV : FVec F S256x512 .f32 := projd (sXm x0 x1 x2) hd (wAt x8 hd)
def sS : FVec F S256x256 .f32 :=
  scores (sQ x0 x1 x2 x4 x5 x6 xp hd) (sK x0 x1 x2 x4 x5 x7 xp hd) (sWi x0 x1 x2 x3 m hd)
def sDen : FVec F S256x1 .f32 :=
  den (sQ x0 x1 x2 x4 x5 x6 xp hd) (sWr x0 x1 x2 x3 m hd) (nAt n hd) (sS x0 x1 x2 x3 x4 x5 x6 x7 m xp hd)
def sNum : FVec F S256x512 .f32 :=
  num (sQ x0 x1 x2 x4 x5 x6 xp hd) (sV x0 x1 x2 x8 hd) (sWr x0 x1 x2 x3 m hd) (cAt C hd) (sS x0 x1 x2 x3 x4 x5 x6 x7 m xp hd)
def sNn : FVec F S1x1x512 .f32 := newN (sDc x0 x1 x2 x3 m hd) (sWk x0 x1 x2 x3 m hd) (sK x0 x1 x2 x4 x5 x7 xp hd) (nAt n hd)
def sCn : FVec F S1x512x512 .f32 :=
  newC (sDc x0 x1 x2 x3 m hd) (sWk x0 x1 x2 x3 m hd) (sK x0 x1 x2 x4 x5 x7 xp hd) (sV x0 x1 x2 x8 hd) (cAt C hd)
def sH : FVec F S256x512 .f32 :=
  quot (sNum x0 x1 x2 x3 x4 x5 x6 x7 x8 C m xp hd) (sDen x0 x1 x2 x3 x4 x5 x6 x7 n m xp hd) (sM x0 x1 x2 x3 m hd)
def sY : FVec F S256x512 .bf16 :=
  yHead (sO x0 x1 x2) hd (cols (sXc x0 x1 x2 x4 x5 xp) hd) (sH x0 x1 x2 x3 x4 x5 x6 x7 x8 C n m xp hd) (rowAt x9 hd) (rowAt x10 hd)

/-- Four heads' pieces over what was there before. -/
def pileC (p : Fin 4 → Vec F S1x512x512 .f32) (rest : List (View.Piece (Elt F) S4x512x512 .f32)) : Vec F S4x512x512 .f32 :=
  View.canon (⟨Rect.unit ![3, 0, 0] S1x512x512.size inb_S4x512x512_S1x512x512_3_0_0, p 3⟩ ::
    ⟨Rect.unit ![2, 0, 0] S1x512x512.size inb_S4x512x512_S1x512x512_2_0_0, p 2⟩ ::
    ⟨Rect.unit ![1, 0, 0] S1x512x512.size inb_S4x512x512_S1x512x512_1_0_0, p 1⟩ ::
    ⟨Rect.unit ![0, 0, 0] S1x512x512.size inb_S4x512x512_S1x512x512_0_0_0, p 0⟩ :: rest)

def pileN (p : Fin 4 → Vec F S1x1x512 .f32) (rest : List (View.Piece (Elt F) S4x1x512 .f32)) : Vec F S4x1x512 .f32 :=
  View.canon (⟨Rect.unit ![3, 0, 0] S1x1x512.size inb_S4x1x512_S1x1x512_3_0_0, p 3⟩ ::
    ⟨Rect.unit ![2, 0, 0] S1x1x512.size inb_S4x1x512_S1x1x512_2_0_0, p 2⟩ ::
    ⟨Rect.unit ![1, 0, 0] S1x1x512.size inb_S4x1x512_S1x1x512_1_0_0, p 1⟩ ::
    ⟨Rect.unit ![0, 0, 0] S1x1x512.size inb_S4x1x512_S1x1x512_0_0_0, p 0⟩ :: rest)

def pileM (p : Fin 4 → Vec F S1x1x128 .f32) (rest : List (View.Piece (Elt F) S4x1x128 .f32)) : Vec F S4x1x128 .f32 :=
  View.canon (⟨Rect.unit ![3, 0, 0] S1x1x128.size inb_S4x1x128_S1x1x128_3_0_0, p 3⟩ ::
    ⟨Rect.unit ![2, 0, 0] S1x1x128.size inb_S4x1x128_S1x1x128_2_0_0, p 2⟩ ::
    ⟨Rect.unit ![1, 0, 0] S1x1x128.size inb_S4x1x128_S1x1x128_1_0_0, p 1⟩ ::
    ⟨Rect.unit ![0, 0, 0] S1x1x128.size inb_S4x1x128_S1x1x128_0_0_0, p 0⟩ :: rest)

/-- The four heads' outputs side by side. -/
def yAll (p : Fin 4 → Vec F S256x512 .bf16) : Vec F S256x2048 .bf16 :=
  View.canon [⟨Rect.unit ![0, 1536] S256x512.size inb_S256x2048_S256x512_0_1536, p 3⟩,
    ⟨Rect.unit ![0, 1024] S256x512.size inb_S256x2048_S256x512_0_1024, p 2⟩,
    ⟨Rect.unit ![0, 512] S256x512.size inb_S256x2048_S256x512_0_512, p 1⟩,
    ⟨Rect.unit ![0, 0] S256x512.size inb_S256x2048_S256x512_0_0, p 0⟩]

/-- The block's output rows. -/
def sOut : FVec F S1x256x1024 .f32 :=
  k0_pay1 (k0_pay163 x0) (yAll fun hd => sY x0 x1 x2 x3 x4 x5 x6 x7 x8 x9 x10 C n m xp hd) x11

/-- The eight rows carried to the next point. -/
def sXp : FVec F S8x2048 .f32 := k0_pay16 (sXm x0 x1 x2)

end Cert.KernelIdeal.Ml

end
-- ==== Proof.MlMath.lean ====
/-
  The recurrence the mLSTM computes and the chunked form of it both programs use, over the extended reals at any chunk
  length: a chunk's outputs are the recurrence's outputs and its carried state is the recurrence's state, scaled by the
  exponential of the running maximum, whatever real number that maximum is. Queries and values are real. Keys may be
  infinite: a query that meets an infinite key has an infinite denominator in either form. The gates may be infinite
  for a whole head: then nothing is ever remembered in either form.
-/
module

public import Idealize.ShloMosaic.PureOps.Ideal
public import Idealize.ShloMosaic.Lib.Pointwise

@[expose] public section

noncomputable section

open Idealize.ShloMosaic
open scoped BigOperators

namespace Cert.Ml

/-! ## The recurrence -/

/-- The decayed sum of `w` before token `t`: each token multiplies what is there by `exp f` and adds `exp i · w`. -/
def acc (f i w : ℕ → ℝ) : ℕ → ℝ
  | 0 => 0
  | t + 1 => Real.exp (f t) * acc f i w t + Real.exp (i t) * w t

/-- The log decay from token `T` to token `T + u`. -/
def cum (f : ℕ → ℝ) (T u : ℕ) : ℝ := ∑ l ∈ Finset.range u, f (T + l)

/-- The log weight that token `T + j` has after token `T + u - 1`. -/
def lw (f i : ℕ → ℝ) (T u j : ℕ) : ℝ := cum f T u - cum f T (j + 1) + i (T + j)

theorem acc_add (f i w : ℕ → ℝ) (T u : ℕ) :
    acc f i w (T + u) = Real.exp (cum f T u) * acc f i w T + ∑ j ∈ Finset.range u, Real.exp (lw f i T u j) * w (T + j) := by
  induction u with
  | zero => simp [cum]
  | succ u ih =>
    rw [← Nat.add_assoc, acc, ih, Finset.sum_range_succ]
    have hc : cum f T (u + 1) = f (T + u) + cum f T u := by simp [cum, Finset.sum_range_succ, add_comm]
    have hl : ∀ j, Real.exp (lw f i T (u + 1) j) = Real.exp (f (T + u)) * Real.exp (lw f i T u j) := fun j => by
      rw [← Real.exp_add]; congr 1; simp only [lw, hc]; ring
    have hlast : lw f i T (u + 1) u = i (T + u) := by simp [lw]
    rw [hlast, hc, Real.exp_add, mul_add, Finset.mul_sum]
    simp only [hl]
    have : ∀ j, Real.exp (f (T + u)) * (Real.exp (lw f i T u j) * w (T + j))
        = Real.exp (f (T + u)) * Real.exp (lw f i T u j) * w (T + j) := fun j => by ring
    simp only [this]
    ring

/-- The matrix memory before token `t`. -/
def memC {D E : ℕ} (f i : ℕ → ℝ) (k : ℕ → Fin D → ℝ) (v : ℕ → Fin E → ℝ) (t : ℕ) (d : Fin D) (e : Fin E) : ℝ :=
  acc f i (fun s => k s d * v s e) t
/-- The normaliser's memory before token `t`. -/
def memN {D : ℕ} (f i : ℕ → ℝ) (k : ℕ → Fin D → ℝ) (t : ℕ) (d : Fin D) : ℝ := acc f i (fun s => k s d) t
/-- The cell's output at token `t` when every gate and every key is real. -/
def cellR {D E : ℕ} (f i : ℕ → ℝ) (q k : ℕ → Fin D → ℝ) (v : ℕ → Fin E → ℝ) (t : ℕ) (e : Fin E) : ℝ :=
  (∑ d, q t d * memC f i k v (t + 1) d e) / max |∑ d, q t d * memN f i k (t + 1) d| 1

/-! ## Sums and maxima over the extended reals -/

theorem sum_coe {ι : Type*} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

theorem max_coe (a b : ℝ) : max (a : EReal) (b : EReal) = ((max a b : ℝ) : EReal) :=
  (EReal.coe_strictMono.monotone.map_max).symm

theorem sum_le_eq {M : Type*} [AddCommMonoid M] {L : ℕ} (r : Fin L) (g : ℕ → M) :
    (∑ s : Fin L, if s ≤ r then g s.val else 0) = ∑ j ∈ Finset.range (r.val + 1), g j := by
  have h1 : (∑ s : Fin L, if s ≤ r then g s.val else 0) = ∑ j ∈ Finset.range L, if j ≤ r.val then g j else 0 :=
    (Finset.sum_range (fun j => if j ≤ r.val then g j else 0)).symm
  rw [h1, ← Finset.sum_filter]
  refine Finset.sum_congr (Finset.ext fun j => ?_) fun _ _ => rfl
  simp only [Finset.mem_filter, Finset.mem_range]
  have := r.isLt
  omega

theorem fold_max_real {L : ℕ} (x : ℝ) (g : Fin L → EReal) (hg : ∀ s, g s ≠ ⊤) :
    ∃ μ : ℝ, max (x : EReal) (Finset.univ.fold max ⊥ g) = (μ : EReal) := by
  have h : Finset.univ.fold max ⊥ g ≠ ⊤ :=
    ne_of_lt ((Finset.fold_max_lt (s := Finset.univ) (f := g) ⊤).2 ⟨bot_lt_top, fun s _ => lt_top_iff_ne_top.2 (hg s)⟩)
  have h1 : max (x : EReal) (Finset.univ.fold max ⊥ g) ≠ ⊤ := by
    rcases max_choice (x : EReal) (Finset.univ.fold max ⊥ g) with e | e <;> rw [e]
    · exact EReal.coe_ne_top x
    · exact h
  have h2 : max (x : EReal) (Finset.univ.fold max ⊥ g) ≠ ⊥ :=
    ne_of_gt (lt_of_lt_of_le (EReal.bot_lt_coe x) (le_max_left _ _))
  exact ⟨_, (EReal.coe_toReal h1 h2).symm⟩

/-! ## Real numbers -/

/-- The extended real is a real. -/
def Re (x : EReal) : Prop := ∃ r : ℝ, x = (r : EReal)

theorem Re.coe (r : ℝ) : Re (r : EReal) := ⟨r, rfl⟩
theorem Re.zero : Re 0 := ⟨0, rfl⟩
theorem Re.one : Re 1 := ⟨1, rfl⟩
theorem Re.add {x y : EReal} : Re x → Re y → Re (x + y) := by
  rintro ⟨a, rfl⟩ ⟨b, rfl⟩; exact ⟨a + b, (EReal.coe_add a b).symm⟩
theorem Re.mul {x y : EReal} : Re x → Re y → Re (x * y) := by
  rintro ⟨a, rfl⟩ ⟨b, rfl⟩; exact ⟨a * b, (EReal.coe_mul a b).symm⟩
theorem Re.sum {ι : Type*} (s : Finset ι) {f : ι → EReal} (hf : ∀ j, Re (f j)) : Re (∑ j ∈ s, f j) := by
  choose r hr using hf
  exact ⟨∑ j ∈ s, r j, by rw [← sum_coe]; exact Finset.sum_congr rfl fun j _ => hr j⟩
theorem Re.toReal {x : EReal} : Re x → x = (x.toReal : EReal) := by
  rintro ⟨a, rfl⟩; rw [EReal.toReal_coe]
theorem Re.of_ne {x : EReal} (h1 : x ≠ ⊤) (h2 : x ≠ ⊥) : Re x := ⟨x.toReal, (EReal.coe_toReal h1 h2).symm⟩
theorem Re.not_top : ¬ Re ⊤ := fun ⟨a, h⟩ => EReal.coe_ne_top a h.symm
theorem Re.not_bot : ¬ Re ⊥ := fun ⟨a, h⟩ => EReal.coe_ne_bot a h.symm
/-- What is not real is one of the two infinities. -/
theorem Re.not_iff {x : EReal} (h : ¬ Re x) : x = ⊤ ∨ x = ⊥ := by
  by_contra hc
  rw [not_or] at hc
  exact h (Re.of_ne hc.1 hc.2)
/-- A sum with an infinite term is infinite. -/
theorem Re.of_add {x y : EReal} (h : Re (x + y)) : Re x := by
  by_contra hx
  rcases Re.not_iff hx with rfl | rfl
  · by_cases hy : y = ⊥
    · rw [hy, EReal.add_bot] at h; exact Re.not_bot h
    · rw [EReal.top_add_of_ne_bot hy] at h; exact Re.not_top h
  · rw [EReal.bot_add] at h; exact Re.not_bot h
theorem Re.of_sum {ι : Type*} [DecidableEq ι] (s : Finset ι) {f : ι → EReal} (h : Re (∑ j ∈ s, f j)) (j : ι) (hj : j ∈ s) : Re (f j) := by
  rw [← Finset.add_sum_erase s f hj] at h
  exact Re.of_add h
/-- A real other than nought times an infinity is infinite. -/
theorem Re.of_mul {a : ℝ} (ha : a ≠ 0) {x : EReal} (h : Re ((a : EReal) * x)) : Re x := by
  by_contra hx
  rcases Re.not_iff hx with rfl | rfl
  · rcases lt_or_gt_of_ne ha with h0 | h0
    · rw [EReal.coe_mul_top_of_neg h0] at h; exact Re.not_bot h
    · rw [EReal.coe_mul_top_of_pos h0] at h; exact Re.not_top h
  · rcases lt_or_gt_of_ne ha with h0 | h0
    · rw [EReal.coe_mul_bot_of_neg h0] at h; exact Re.not_top h
    · rw [EReal.coe_mul_bot_of_pos h0] at h; exact Re.not_bot h

/-! ## The cell -/

/-- The query at token `t` meets a key that is infinite where the query is not nought. -/
def Meets {D : ℕ} (q k : ℕ → Fin D → EReal) (t : ℕ) : Prop := ∃ d, q t d ≠ 0 ∧ ∃ s, s ≤ t ∧ ¬ Re (k s d)
/-- Every gate is real. -/
def Live (f i : ℕ → EReal) : Prop := ∀ s, Re (f s) ∧ Re (i s)

open Classical in
/-- The cell's output at token `t`. A query that meets an infinite key gives nought, and so does a head whose gates are
    infinite, but for an infinite input gate, where it is nought by nought. -/
def cell {D E : ℕ} (f i : ℕ → EReal) (q k : ℕ → Fin D → EReal) (v : ℕ → Fin E → EReal) (t : ℕ) (e : Fin E) : EReal :=
  if Live f i then
    (if Meets q k t then 0 else (cellR (fun s => (f s).toReal) (fun s => (i s).toReal) (fun s d => (q s d).toReal)
      (fun s d => (k s d).toReal) (fun s e => (v s e).toReal) t e : EReal))
  else if f 0 ≠ ⊥ ∧ i 0 = ⊤ then Ideal.div 0 0 else 0

/-! ## One chunk, as both programs compute it -/

section Chunk

variable {L D E : ℕ}

/-- The sum of `x` up to and including position `r`. -/
def cB (x : Fin L → EReal) (r : Fin L) : EReal := ∑ s, if s ≤ r then x s else 0
/-- The log weight of position `s` at position `r`, `-∞` after `r`. -/
def cD (b li : Fin L → EReal) (r s : Fin L) : EReal := if s ≤ r then b r - b s + li s else ⊥
/-- The running maximum at position `r`. -/
def cM (b li : Fin L → EReal) (m0 : EReal) (r : Fin L) : EReal := max (b r + m0) (Finset.univ.fold max ⊥ (cD b li r))
/-- The score of position `s` at position `r`. -/
def cS (b li : Fin L → EReal) (m0 : EReal) (q k : Fin L → Fin D → EReal) (r s : Fin L) : EReal :=
  (∑ d, q r d * k s d) * Ideal.exp (cD b li r s - cM b li m0 r)
/-- What the carried state's decay is at position `r`. -/
def cR (b li : Fin L → EReal) (m0 : EReal) (r : Fin L) : EReal := Ideal.exp (b r + m0 - cM b li m0 r)
/-- The numerator at position `r`. -/
def cNum (b li : Fin L → EReal) (m0 : EReal) (q k : Fin L → Fin D → EReal) (v : Fin L → Fin E → EReal)
    (C : Fin D → Fin E → EReal) (r : Fin L) (e : Fin E) : EReal :=
  cR b li m0 r * (∑ d, q r d * C d e) + ∑ s, cS b li m0 q k r s * v s e
/-- The denominator at position `r`, before its bound. -/
def cDen (b li : Fin L → EReal) (m0 : EReal) (q k : Fin L → Fin D → EReal) (n : Fin D → EReal) (r : Fin L) : EReal :=
  cR b li m0 r * (∑ d, q r d * n d) + ∑ s, cS b li m0 q k r s
/-- The chunk's output. -/
def cH (b li : Fin L → EReal) (m0 : EReal) (q k : Fin L → Fin D → EReal) (v : Fin L → Fin E → EReal)
    (C : Fin D → Fin E → EReal) (n : Fin D → EReal) (r : Fin L) (e : Fin E) : EReal :=
  Ideal.div (cNum b li m0 q k v C r e)
    (max (max (cDen b li m0 q k n r) (-cDen b li m0 q k n r)) (Ideal.exp (-cM b li m0 r)))
/-- The maximum the chunk carries on. -/
def cMn (last : Fin L) (b li : Fin L → EReal) (m0 : EReal) : EReal :=
  max (b last + m0) (Finset.univ.fold max ⊥ fun x => b last - b x + li x)
/-- The matrix memory the chunk carries on. -/
def cCn (last : Fin L) (b li : Fin L → EReal) (m0 : EReal) (k : Fin L → Fin D → EReal) (v : Fin L → Fin E → EReal)
    (C : Fin D → Fin E → EReal) (d : Fin D) (e : Fin E) : EReal :=
  Ideal.exp (b last + m0 - cMn last b li m0) * C d e
    + ∑ x, Ideal.exp (b last - b x + li x - cMn last b li m0) * k x d * v x e
/-- The normaliser the chunk carries on. -/
def cNn (last : Fin L) (b li : Fin L → EReal) (m0 : EReal) (k : Fin L → Fin D → EReal) (n : Fin D → EReal)
    (d : Fin D) : EReal :=
  Ideal.exp (b last + m0 - cMn last b li m0) * n d
    + ∑ x, Ideal.exp (b last - b x + li x - cMn last b li m0) * k x d

/-- What a carried state says. While the gates are real it is the recurrence's state before token `T`, scaled by its own
    maximum, in every row whose keys so far are real, and its normaliser is infinite in every other row; a head with
    infinite gates remembers nothing. -/
structure Holds (f i : ℕ → EReal) (k : ℕ → Fin D → EReal) (v : ℕ → Fin E → EReal) (T : ℕ) (m0 : EReal)
    (C : Fin D → Fin E → EReal) (n : Fin D → EReal) : Prop where
  live : Live f i → ∃ μ : ℝ, m0 = (μ : EReal)
    ∧ (∀ d, (∀ s, s < T → Re (k s d)) →
      (∀ e, C d e = ((Real.exp (-μ) * memC (fun s => (f s).toReal) (fun s => (i s).toReal) (fun s d => (k s d).toReal)
        (fun s e => (v s e).toReal) T d e : ℝ) : EReal))
      ∧ n d = ((Real.exp (-μ) * memN (fun s => (f s).toReal) (fun s => (i s).toReal) (fun s d => (k s d).toReal) T d : ℝ) : EReal))
    ∧ ∀ d s, s < T → ¬ Re (k s d) → ¬ Re (n d)
  dead : ¬ Live f i → (∀ d e, C d e = 0) ∧ (∀ d, n d = 0) ∧ ((∀ s, Re (f s)) → (∀ s, i s = ⊥) → Re m0)

theorem holds_zero (f i : ℕ → EReal) (k : ℕ → Fin D → EReal) (v : ℕ → Fin E → EReal) (m0 : EReal)
    (C : Fin D → Fin E → EReal) (n : Fin D → EReal) (hm : m0 = 0) (hC : ∀ d e, C d e = 0) (hn : ∀ d, n d = 0) :
    Holds f i k v 0 m0 C n :=
  ⟨fun _ => ⟨0, by simpa using hm, fun d _ => ⟨fun e => by simp [hC, memC, acc], by simp [hn, memN, acc]⟩,
      fun _ s hs => absurd hs (Nat.not_lt_zero s)⟩,
    fun _ => ⟨hC, hn, fun _ _ => hm ▸ Re.zero⟩⟩

variable {f i : ℕ → EReal} {q k : ℕ → Fin D → EReal} {v : ℕ → Fin E → EReal} {T : ℕ}
  {lf li : Fin L → EReal} {qq kk : Fin L → Fin D → EReal} {vv : Fin L → Fin E → EReal}
  {m0 : EReal} {C : Fin D → Fin E → EReal} {n : Fin D → EReal}

/-- How a head's gates may be: the forget gates minus infinity throughout, or real with the input gates real throughout
    or one and the same infinity throughout. -/
def Gates (f i : ℕ → EReal) : Prop :=
  (∀ s, f s = ⊥) ∨ (∀ s, Re (f s)) ∧ ((∀ s, Re (i s)) ∨ (∀ s, i s = ⊥) ∨ ∀ s, i s = ⊤)

/-- What a chunk's inputs say: they are those of tokens `T`, `T + 1`, …. -/
structure Reads (f i : ℕ → EReal) (q k : ℕ → Fin D → EReal) (v : ℕ → Fin E → EReal) (T : ℕ)
    (lf li : Fin L → EReal) (qq kk : Fin L → Fin D → EReal) (vv : Fin L → Fin E → EReal) : Prop where
  gates : Gates f i
  hf : ∀ r, lf r = f (T + r.val)
  hi : ∀ r, li r = i (T + r.val)
  hq : ∀ r d, qq r d = ((q (T + r.val) d).toReal : EReal)
  hk : ∀ r d, kk r d = k (T + r.val) d
  hv : ∀ r e, vv r e = ((v (T + r.val) e).toReal : EReal)

/-! ### Real gates -/

/-- The gates of a chunk are the reals `F`, `I` of tokens `T`, `T + 1`, …. -/
structure ReadsG (F I : ℕ → ℝ) (T : ℕ) (lf li : Fin L → EReal) : Prop where
  hf : ∀ r, lf r = (F (T + r.val) : EReal)
  hi : ∀ r, li r = (I (T + r.val) : EReal)

theorem Reads.real (h : Reads f i q k v T lf li qq kk vv) (hl : Live f i) :
    ReadsG (fun s => (f s).toReal) (fun s => (i s).toReal) T lf li :=
  ⟨fun r => (h.hf r).trans (hl _).1.toReal, fun r => (h.hi r).trans (hl _).2.toReal⟩

variable {F I : ℕ → ℝ}

theorem cB_coe (hf : ∀ r, lf r = (F (T + r.val) : EReal)) (r : Fin L) : cB lf r = (cum F T (r.val + 1) : EReal) := by
  unfold cB cum
  simp only [hf]
  rw [sum_le_eq r fun j => (F (T + j) : EReal), sum_coe]

theorem cD_coe (h : ReadsG F I T lf li) (r s : Fin L) :
    cD (cB lf) li r s = if s ≤ r then (lw F I T (r.val + 1) s.val : EReal) else ⊥ := by
  unfold cD lw
  rw [cB_coe h.hf, cB_coe h.hf, h.hi]
  push_cast
  rfl

theorem cM_coe (h : ReadsG F I T lf li) (μ0 : ℝ) (r : Fin L) :
    ∃ μ : ℝ, cM (cB lf) li (μ0 : EReal) r = (μ : EReal) := by
  unfold cM
  rw [cB_coe h.hf, ← EReal.coe_add]
  refine fold_max_real _ _ fun s => ?_
  rw [cD_coe h]
  split
  · exact EReal.coe_ne_top _
  · exact bot_ne_top

theorem weight_coe (h : ReadsG F I T lf li) (μ : ℝ) (r s : Fin L) :
    Ideal.exp (cD (cB lf) li r s - (μ : EReal))
      = ((if s ≤ r then Real.exp (lw F I T (r.val + 1) s.val - μ) else 0 : ℝ) : EReal) := by
  rw [cD_coe h]
  split
  · rw [← EReal.coe_sub, Ideal.exp_coe]
  · rw [sub_eq_add_neg, EReal.bot_add, Ideal.exp_bot]; rfl

/-- A decayed dot product with the memory and the chunk's own scores make the dot product with the next memory. -/
theorem dot_real (a μ0 μ : ℝ) (N : ℕ) (x : ℕ → ℝ) (qd : Fin D → ℝ) (kd : ℕ → Fin D → ℝ) (w : ℕ → ℝ) (A : Fin D → ℝ) :
    Real.exp (a + μ0 - μ) * (∑ d, qd d * (Real.exp (-μ0) * A d))
        + ∑ j ∈ Finset.range N, (∑ d, qd d * kd j d) * Real.exp (x j - μ) * w j
      = Real.exp (-μ) * ∑ d, qd d * (Real.exp a * A d + ∑ j ∈ Finset.range N, Real.exp (x j) * (kd j d * w j)) := by
  have e1 : Real.exp (a + μ0 - μ) * Real.exp (-μ0) = Real.exp (-μ) * Real.exp a := by
    rw [← Real.exp_add, ← Real.exp_add]; congr 1; ring
  have e2 : ∀ j, Real.exp (x j - μ) = Real.exp (-μ) * Real.exp (x j) := fun j => by
    rw [← Real.exp_add]; congr 1; ring
  have p1 : Real.exp (a + μ0 - μ) * (∑ d, qd d * (Real.exp (-μ0) * A d))
      = Real.exp (-μ) * ∑ d, qd d * (Real.exp a * A d) := by
    rw [Finset.mul_sum, Finset.mul_sum]
    refine Finset.sum_congr rfl fun d _ => ?_
    linear_combination (qd d * A d) * e1
  have p2 : ∑ j ∈ Finset.range N, (∑ d, qd d * kd j d) * Real.exp (x j - μ) * w j
      = Real.exp (-μ) * ∑ d, qd d * ∑ j ∈ Finset.range N, Real.exp (x j) * (kd j d * w j) := by
    simp only [Finset.mul_sum, Finset.sum_mul, e2]
    rw [Finset.sum_comm]
    refine Finset.sum_congr rfl fun d _ => Finset.sum_congr rfl fun j _ => ?_
    ring
  rw [p1, p2, ← mul_add, ← Finset.sum_add_distrib]
  simp only [mul_add]

theorem cR_coe (h : ReadsG F I T lf li) {μ0 μ : ℝ} {r : Fin L}
    (hμ : cM (cB lf) li (μ0 : EReal) r = (μ : EReal)) :
    cR (cB lf) li (μ0 : EReal) r = (Real.exp (cum F T (r.val + 1) + μ0 - μ) : EReal) := by
  unfold cR
  rw [hμ, cB_coe h.hf, ← EReal.coe_add, ← EReal.coe_sub, Ideal.exp_coe]

/-- An infinite denominator makes the output nought. -/
theorem div_bound {x y z : EReal} (hy : ¬ Re y) : Ideal.div x (max (max y (-y)) z) = 0 := by
  have : max (max y (-y)) z = ⊤ := by
    rcases Re.not_iff hy with rfl | rfl <;> simp
  rw [this]
  unfold Ideal.div
  rw [if_neg EReal.top_ne_zero, EReal.inv_top, mul_zero]

/-- A query that meets an infinite key, in the carried state or in the chunk, has an infinite denominator. -/
theorem cDen_infinite (h : Reads f i q k v T lf li qq kk vv) (hl : Live f i) (hq : ∀ s d, Re (q s d)) {μ0 μ : ℝ} {r : Fin L}
    (hμ : cM (cB lf) li (μ0 : EReal) r = (μ : EReal)) (hn : ∀ d s, s < T → ¬ Re (k s d) → ¬ Re (n d))
    (hm : Meets q k (T + r.val)) : ¬ Re (cDen (cB lf) li (μ0 : EReal) qq kk n r) := by
  obtain ⟨d, hd, s, hs, hk⟩ := hm
  have hR := h.real hl
  have hd' : (q (T + r.val) d).toReal ≠ 0 := fun e => hd ((hq _ _).toReal.trans (by rw [e]; rfl))
  intro hc
  unfold cDen at hc
  rw [cR_coe hR hμ] at hc
  by_cases hsT : s < T
  · have h1 := Re.of_sum _ (Re.of_mul (Real.exp_pos _).ne' (Re.of_add hc)) d (Finset.mem_univ d)
    rw [h.hq] at h1
    exact hn d s hsT hk (Re.of_mul hd' h1)
  · have hlt : s - T < L := by omega
    rw [add_comm] at hc
    have h1 := Re.of_sum _ (Re.of_add hc) ⟨s - T, hlt⟩ (Finset.mem_univ _)
    unfold cS at h1
    rw [hμ, weight_coe hR, if_pos (show (⟨s - T, hlt⟩ : Fin L) ≤ r from Fin.le_def.2 (by show s - T ≤ r.val; omega)), mul_comm] at h1
    have h2 := Re.of_sum _ (Re.of_mul (Real.exp_pos _).ne' h1) d (Finset.mem_univ d)
    rw [h.hq, h.hk, show T + (⟨s - T, hlt⟩ : Fin L).val = s from by show T + (s - T) = s; omega] at h2
    exact hk (Re.of_mul hd' h2)

/-- A query that meets no infinite key has the scores of real keys. -/
theorem cS_coe (h : Reads f i q k v T lf li qq kk vv) (hl : Live f i) {μ0 μ : ℝ} {r : Fin L}
    (hμ : cM (cB lf) li (μ0 : EReal) r = (μ : EReal)) (hm : ¬ Meets q k (T + r.val)) (s : Fin L) :
    cS (cB lf) li (μ0 : EReal) qq kk r s
      = ((if s ≤ r then (∑ d, (q (T + r.val) d).toReal * (k (T + s.val) d).toReal)
          * Real.exp (lw (fun s => (f s).toReal) (fun s => (i s).toReal) T (r.val + 1) s.val - μ) else 0 : ℝ) : EReal) := by
  unfold cS
  rw [hμ, weight_coe (h.real hl)]
  by_cases hs : s ≤ r
  · rw [if_pos hs, if_pos hs, EReal.coe_mul, ← sum_coe]
    refine congrArg (· * _) (Finset.sum_congr rfl fun d _ => ?_)
    rw [h.hq, h.hk]
    by_cases hq : q (T + r.val) d = 0
    · rw [hq, EReal.toReal_zero, zero_mul, EReal.coe_zero, zero_mul]
    · have hk : Re (k (T + s.val) d) := by
        by_contra hc
        exact hm ⟨d, hq, T + s.val, by have := Fin.le_def.1 hs; omega, hc⟩
      rw [EReal.coe_mul, ← hk.toReal]
  · rw [if_neg hs, if_neg hs, EReal.coe_zero, mul_zero]

/-- The output of a chunk with real gates. -/
theorem cH_live (h : Reads f i q k v T lf li qq kk vv) (hl : Live f i) (hq : ∀ s d, Re (q s d))
    (hs : Holds f i k v T m0 C n) (r : Fin L) (e : Fin E) :
    cH (cB lf) li m0 qq kk vv C n r e = cell f i q k v (T + r.val) e := by
  obtain ⟨μ0, hm, hC, hn⟩ := hs.live hl
  subst hm
  have hR := h.real hl
  obtain ⟨μ, hμ⟩ := cM_coe hR μ0 r
  unfold cell
  rw [if_pos hl]
  by_cases hmt : Meets q k (T + r.val)
  · rw [if_pos hmt]
    exact div_bound (cDen_infinite h hl hq hμ hn hmt)
  rw [if_neg hmt]
  generalize hF : (fun s => (f s).toReal) = F at *
  generalize hI : (fun s => (i s).toReal) = I at *
  have hrow : ∀ d, q (T + r.val) d ≠ 0 → ∀ s, s < T → Re (k s d) := fun d hd s hs => by
    by_contra hc
    exact hmt ⟨d, hd, s, by omega, hc⟩
  have hQC : ∀ d, qq r d * C d e = (((q (T + r.val) d).toReal * (Real.exp (-μ0) * memC F I (fun s d => (k s d).toReal)
      (fun s e => (v s e).toReal) T d e) : ℝ) : EReal) := fun d => by
    rw [h.hq]
    by_cases hd : q (T + r.val) d = 0
    · rw [hd, EReal.toReal_zero, zero_mul, EReal.coe_zero, zero_mul]
    · rw [(hC d (hrow d hd)).1 e, ← EReal.coe_mul]
  have hQN : ∀ d, qq r d * n d = (((q (T + r.val) d).toReal * (Real.exp (-μ0) * memN F I (fun s d => (k s d).toReal) T d) : ℝ) : EReal) := fun d => by
    rw [h.hq]
    by_cases hd : q (T + r.val) d = 0
    · rw [hd, EReal.toReal_zero, zero_mul, EReal.coe_zero, zero_mul]
    · rw [(hC d (hrow d hd)).2, ← EReal.coe_mul]
  have hS := cS_coe h hl hμ hmt
  rw [hF, hI] at hS
  have hnum : cNum (cB lf) li (μ0 : EReal) qq kk vv C r e
      = ((Real.exp (-μ) * ∑ d, (q (T + r.val) d).toReal * memC F I (fun s d => (k s d).toReal) (fun s e => (v s e).toReal) (T + r.val + 1) d e : ℝ) : EReal) := by
    unfold cNum
    simp only [hS, cR_coe hR hμ, hQC, h.hv, ← EReal.coe_mul]
    rw [sum_coe, sum_coe, ← EReal.coe_mul, ← EReal.coe_add]
    refine congrArg _ ?_
    simp only [ite_mul, zero_mul]
    rw [sum_le_eq r fun j => (∑ d, (q (T + r.val) d).toReal * (k (T + j) d).toReal) * Real.exp (lw F I T (r.val + 1) j - μ) * (v (T + j) e).toReal]
    rw [dot_real (cum F T (r.val + 1)) μ0 μ (r.val + 1) (fun j => lw F I T (r.val + 1) j) (fun d => (q (T + r.val) d).toReal)
      (fun j d => (k (T + j) d).toReal) (fun j => (v (T + j) e).toReal)
      (fun d => memC F I (fun s d => (k s d).toReal) (fun s e => (v s e).toReal) T d e)]
    refine congrArg _ (Finset.sum_congr rfl fun d _ => ?_)
    unfold memC
    rw [Nat.add_assoc, acc_add]
  have hden : cDen (cB lf) li (μ0 : EReal) qq kk n r
      = ((Real.exp (-μ) * ∑ d, (q (T + r.val) d).toReal * memN F I (fun s d => (k s d).toReal) (T + r.val + 1) d : ℝ) : EReal) := by
    unfold cDen
    simp only [hS, cR_coe hR hμ, hQN]
    rw [sum_coe, sum_coe, ← EReal.coe_mul, ← EReal.coe_add]
    refine congrArg _ ?_
    rw [sum_le_eq r fun j => (∑ d, (q (T + r.val) d).toReal * (k (T + j) d).toReal) * Real.exp (lw F I T (r.val + 1) j - μ)]
    have := dot_real (cum F T (r.val + 1)) μ0 μ (r.val + 1) (fun j => lw F I T (r.val + 1) j) (fun d => (q (T + r.val) d).toReal)
      (fun j d => (k (T + j) d).toReal) (fun _ => 1) (memN F I (fun s d => (k s d).toReal) T)
    simp only [mul_one] at this
    rw [this]
    refine congrArg _ (Finset.sum_congr rfl fun d _ => ?_)
    unfold memN
    rw [Nat.add_assoc, acc_add]
  unfold cH
  rw [hnum, hden, hμ, ← EReal.coe_neg, ← EReal.coe_neg, Ideal.exp_coe, max_coe, max_coe]
  unfold cellR
  generalize (∑ d, (q (T + r.val) d).toReal * memC F I (fun s d => (k s d).toReal) (fun s e => (v s e).toReal) (T + r.val + 1) d e) = N
  generalize (∑ d, (q (T + r.val) d).toReal * memN F I (fun s d => (k s d).toReal) (T + r.val + 1) d) = Dn
  have hp := Real.exp_pos (-μ)
  have hb : max (max (Real.exp (-μ) * Dn) (-(Real.exp (-μ) * Dn))) (Real.exp (-μ)) = Real.exp (-μ) * max |Dn| 1 := by
    rw [← abs_eq_max_neg, abs_mul, abs_of_pos hp, mul_max_of_nonneg _ _ hp.le, mul_one]
  have h1 : (0 : ℝ) < max |Dn| 1 := lt_of_lt_of_le one_pos (le_max_right _ _)
  rw [hb, Ideal.div_coe (mul_pos hp h1).ne', ← EReal.coe_mul]
  refine congrArg _ ?_
  field_simp

theorem cMn_coe (h : ReadsG F I T lf li) (last : Fin L) (μ0 : ℝ) :
    ∃ μ : ℝ, cMn last (cB lf) li (μ0 : EReal) = (μ : EReal) := by
  unfold cMn
  simp only [cB_coe h.hf, h.hi, ← EReal.coe_add, ← EReal.coe_sub]
  exact fold_max_real _ _ fun s => EReal.coe_ne_top _

theorem keep_real (a μ0 μ : ℝ) (N : ℕ) (x w : ℕ → ℝ) (A : ℝ) :
    Real.exp (a + μ0 - μ) * (Real.exp (-μ0) * A) + ∑ j ∈ Finset.range N, Real.exp (x j - μ) * w j
      = Real.exp (-μ) * (Real.exp a * A + ∑ j ∈ Finset.range N, Real.exp (x j) * w j) := by
  have e1 : Real.exp (a + μ0 - μ) * Real.exp (-μ0) = Real.exp (-μ) * Real.exp a := by
    rw [← Real.exp_add, ← Real.exp_add]; congr 1; ring
  have e2 : ∀ j, Real.exp (x j - μ) = Real.exp (-μ) * Real.exp (x j) := fun j => by
    rw [← Real.exp_add]; congr 1; ring
  rw [mul_add, Finset.mul_sum]
  simp only [e2]
  congr 1
  · linear_combination A * e1
  · exact Finset.sum_congr rfl fun j _ => by ring

/-- The state a chunk with real gates carries on. -/
theorem holds_live (h : Reads f i q k v T lf li qq kk vv) (hl : Live f i) (hs : Holds f i k v T m0 C n) (last : Fin L)
    (hlast : last.val + 1 = L) :
    ∃ μ : ℝ, cMn last (cB lf) li m0 = (μ : EReal)
      ∧ (∀ d, (∀ s, s < T + L → Re (k s d)) →
        (∀ e, cCn last (cB lf) li m0 kk vv C d e = ((Real.exp (-μ) * memC (fun s => (f s).toReal) (fun s => (i s).toReal)
          (fun s d => (k s d).toReal) (fun s e => (v s e).toReal) (T + L) d e : ℝ) : EReal))
        ∧ cNn last (cB lf) li m0 kk n d
          = ((Real.exp (-μ) * memN (fun s => (f s).toReal) (fun s => (i s).toReal) (fun s d => (k s d).toReal) (T + L) d : ℝ) : EReal))
      ∧ ∀ d s, s < T + L → ¬ Re (k s d) → ¬ Re (cNn last (cB lf) li m0 kk n d) := by
  obtain ⟨μ0, hm, hC, hn⟩ := hs.live hl
  subst hm
  have hR := h.real hl
  obtain ⟨μ, hμ⟩ := cMn_coe hR last μ0
  generalize (fun s => (f s).toReal) = F at *
  generalize (fun s => (i s).toReal) = I at *
  have hx : ∀ x : Fin L, Ideal.exp (cB lf last - cB lf x + li x - (μ : EReal)) = (Real.exp (lw F I T L x.val - μ) : EReal) := fun x => by
    rw [cB_coe hR.hf, cB_coe hR.hf, hR.hi, hlast, ← EReal.coe_sub, ← EReal.coe_add, ← EReal.coe_sub, Ideal.exp_coe]
    rfl
  have hd : Ideal.exp (cB lf last + (μ0 : EReal) - (μ : EReal)) = (Real.exp (cum F T L + μ0 - μ) : EReal) := by
    rw [cB_coe hR.hf, hlast, ← EReal.coe_add, ← EReal.coe_sub, Ideal.exp_coe]
  refine ⟨μ, hμ, fun d hk => ⟨fun e => ?_, ?_⟩, fun d s hsT hk hc => ?_⟩
  · have hk' : ∀ x : Fin L, kk x d = ((k (T + x.val) d).toReal : EReal) := fun x =>
      (h.hk x d).trans (hk _ (by have := x.isLt; omega)).toReal
    unfold cCn
    simp only [hμ, hx, hd, (hC d fun s hs => hk s (by omega)).1, hk', h.hv, ← EReal.coe_mul]
    rw [sum_coe, ← EReal.coe_add]
    refine congrArg _ ?_
    rw [← Finset.sum_range fun j => Real.exp (lw F I T L j - μ) * (k (T + j) d).toReal * (v (T + j) e).toReal]
    simp only [mul_assoc]
    rw [keep_real (cum F T L) μ0 μ L (fun j => lw F I T L j) fun j => (k (T + j) d).toReal * (v (T + j) e).toReal]
    unfold memC
    rw [acc_add]
  · have hk' : ∀ x : Fin L, kk x d = ((k (T + x.val) d).toReal : EReal) := fun x =>
      (h.hk x d).trans (hk _ (by have := x.isLt; omega)).toReal
    unfold cNn
    simp only [hμ, hx, hd, (hC d fun s hs => hk s (by omega)).2, hk', ← EReal.coe_mul]
    rw [sum_coe, ← EReal.coe_add]
    refine congrArg _ ?_
    rw [← Finset.sum_range fun j => Real.exp (lw F I T L j - μ) * (k (T + j) d).toReal]
    rw [keep_real (cum F T L) μ0 μ L (fun j => lw F I T L j) fun j => (k (T + j) d).toReal]
    unfold memN
    rw [acc_add]
  · unfold cNn at hc
    simp only [hμ, hx, hd] at hc
    by_cases hlt : s < T
    · exact hn d s hlt hk (Re.of_mul (Real.exp_pos _).ne' (Re.of_add hc))
    · rw [add_comm] at hc
      have hsL : s - T < L := by omega
      have h1 := Re.of_sum _ (Re.of_add hc) ⟨s - T, hsL⟩ (Finset.mem_univ _)
      rw [h.hk, show T + (⟨s - T, hsL⟩ : Fin L).val = s from by show T + (s - T) = s; omega] at h1
      exact hk (Re.of_mul (Real.exp_pos _).ne' h1)

/-! ### Infinite gates -/

/-- A head with no weight on anything has the output of an empty state. -/
theorem cH_empty (hC : ∀ d e, C d e = 0) (hn : ∀ d, n d = 0) (r : Fin L) {b : Fin L → EReal}
    (hw : ∀ s, Ideal.exp (cD b li r s - cM b li m0 r) = 0) (e : Fin E) :
    cH b li m0 qq kk vv C n r e = Ideal.div 0 (max 0 (Ideal.exp (-cM b li m0 r))) := by
  have h1 : cNum b li m0 qq kk vv C r e = 0 := by
    unfold cNum cS
    simp only [hC, hw, mul_zero, zero_mul, Finset.sum_const_zero, add_zero]
  have h2 : cDen b li m0 qq kk n r = 0 := by
    unfold cDen cS
    simp only [hn, hw, mul_zero, Finset.sum_const_zero, add_zero]
  unfold cH
  rw [h1, h2, neg_zero, max_self]

theorem empty_next (hC : ∀ d e, C d e = 0) (hn : ∀ d, n d = 0) (last : Fin L) {b : Fin L → EReal}
    (hw : ∀ x, Ideal.exp (b last - b x + li x - cMn last b li m0) = 0) :
    (∀ d e, cCn last b li m0 kk vv C d e = 0) ∧ ∀ d, cNn last b li m0 kk n d = 0 := by
  constructor
  · intro d e
    unfold cCn
    simp only [hC, hw, mul_zero, zero_mul, Finset.sum_const_zero, add_zero]
  · intro d
    unfold cNn
    simp only [hn, hw, mul_zero, zero_mul, Finset.sum_const_zero, add_zero]

theorem fold_bot {g : Fin L → EReal} (hg : ∀ s, g s = ⊥) : Finset.univ.fold max ⊥ g = ⊥ :=
  le_bot_iff.1 ((Finset.fold_max_le (s := Finset.univ) (f := g) ⊥).2 ⟨le_refl _, fun s _ => (hg s).le⟩)

theorem fold_top {g : Fin L → EReal} (s : Fin L) (hg : g s = ⊤) : Finset.univ.fold max ⊥ g = ⊤ :=
  top_le_iff.1 (Finset.le_fold_max (s := Finset.univ) (f := g) ⊤ |>.2 (Or.inr ⟨s, Finset.mem_univ _, hg.ge⟩))

theorem cB_bot (h : ∀ r, lf r = ⊥) (r : Fin L) : cB lf r = ⊥ := by
  unfold cB
  rw [← Finset.add_sum_erase _ _ (Finset.mem_univ r), if_pos (le_refl _), h, EReal.bot_add]

theorem div_zero_pos {μ : ℝ} : Ideal.div 0 (max 0 (Ideal.exp (-(μ : EReal)))) = 0 := by
  rw [← EReal.coe_neg, Ideal.exp_coe, max_eq_right (by exact_mod_cast (Real.exp_pos _).le), Ideal.div_coe (Real.exp_pos _).ne', zero_mul]

theorem real_sub_add_top {x y : EReal} (hx : Re x) (hy : Re y) : x - y + ⊤ = ⊤ := by
  obtain ⟨a, rfl⟩ := hx
  obtain ⟨b, rfl⟩ := hy
  rw [← EReal.coe_sub]
  exact EReal.coe_add_top _

/-- The output of a chunk with infinite gates. -/
theorem cH_dead (h : Reads f i q k v T lf li qq kk vv) (hl : ¬ Live f i)
    (hs : Holds f i k v T m0 C n) (r : Fin L) (e : Fin E) :
    cH (cB lf) li m0 qq kk vv C n r e = cell f i q k v (T + r.val) e := by
  obtain ⟨hC, hn, hm⟩ := hs.dead hl
  unfold cell
  rw [if_neg hl]
  rcases h.gates with g | ⟨gf, g | g | g⟩
  · have hb : ∀ r, cB lf r = ⊥ := cB_bot fun r => (h.hf r).trans (g _)
    have hD : ∀ s, cD (cB lf) li r s = ⊥ := fun s => by
      unfold cD
      rw [hb, sub_eq_add_neg, EReal.bot_add, EReal.bot_add, ite_self]
    have hM : cM (cB lf) li m0 r = ⊥ := by
      unfold cM
      rw [hb, EReal.bot_add, fold_bot hD, max_self]
    rw [cH_empty hC hn r (fun s => by rw [hD, sub_eq_add_neg, EReal.bot_add, Ideal.exp_bot]), hM, EReal.neg_bot, Ideal.exp_top,
      if_neg (fun hc => hc.1 (g 0)), max_eq_right le_top]
    unfold Ideal.div
    rw [if_neg EReal.top_ne_zero, zero_mul]
  · exact absurd (fun s => ⟨gf s, g s⟩) hl
  · obtain ⟨μ0, rfl⟩ := hm gf g
    have hD : ∀ s, cD (cB lf) li r s = ⊥ := fun s => by
      unfold cD
      rw [h.hi, g, EReal.add_bot, ite_self]
    have hM : cM (cB lf) li (μ0 : EReal) r = ((cum (fun s => (f s).toReal) T (r.val + 1) + μ0 : ℝ) : EReal) := by
      unfold cM
      rw [fold_bot hD, cB_coe (F := fun s => (f s).toReal) (fun r => (h.hf r).trans (gf _).toReal), ← EReal.coe_add, max_eq_left bot_le]
    rw [cH_empty hC hn r (fun s => by rw [hD, sub_eq_add_neg, EReal.bot_add, Ideal.exp_bot]), hM, div_zero_pos,
      if_neg (fun hc => bot_ne_top ((g 0).symm.trans hc.2))]
  · have hre : ∀ r, Re (cB lf r) := fun r => ⟨_, cB_coe (F := fun s => (f s).toReal) (fun r => (h.hf r).trans (gf _).toReal) r⟩
    have hM : cM (cB lf) li m0 r = ⊤ := by
      unfold cM
      rw [fold_top r (by unfold cD; rw [if_pos (le_refl _), h.hi, g, real_sub_add_top (hre r) (hre r)]), max_eq_right le_top]
    rw [cH_empty hC hn r (fun s => by rw [hM, sub_eq_add_neg, EReal.neg_top, EReal.add_bot, Ideal.exp_bot]), hM, EReal.neg_top, Ideal.exp_bot,
      max_self, if_pos ⟨fun e => Re.not_bot (e ▸ gf 0), g 0⟩]

/-- The state a chunk with infinite gates carries on. -/
theorem holds_dead (h : Reads f i q k v T lf li qq kk vv) (hl : ¬ Live f i) (hs : Holds f i k v T m0 C n) (last : Fin L) :
    (∀ d e, cCn last (cB lf) li m0 kk vv C d e = 0) ∧ (∀ d, cNn last (cB lf) li m0 kk n d = 0)
      ∧ ((∀ s, Re (f s)) → (∀ s, i s = ⊥) → Re (cMn last (cB lf) li m0)) := by
  obtain ⟨hC, hn, hm⟩ := hs.dead hl
  have hb : (∀ s, Re (f s)) → ∀ r, cB lf r = (cum (fun s => (f s).toReal) T (r.val + 1) : EReal) := fun gf =>
    cB_coe (F := fun s => (f s).toReal) fun r => (h.hf r).trans (gf _).toReal
  rw [← and_assoc]
  refine ⟨empty_next hC hn last fun x => ?_, fun gf g => ?_⟩
  · rcases h.gates with g | ⟨gf, g | g | g⟩
    · rw [cB_bot fun r => (h.hf r).trans (g _), sub_eq_add_neg, sub_eq_add_neg, EReal.bot_add, EReal.bot_add, EReal.bot_add, Ideal.exp_bot]
    · exact absurd (fun s => ⟨gf s, g s⟩) hl
    · rw [h.hi, g, EReal.add_bot, sub_eq_add_neg, EReal.bot_add, Ideal.exp_bot]
    · have hM : cMn last (cB lf) li m0 = ⊤ := by
        unfold cMn
        rw [fold_top last (by rw [h.hi, g, real_sub_add_top ⟨_, hb gf _⟩ ⟨_, hb gf _⟩]), max_eq_right le_top]
      rw [hM, sub_eq_add_neg, EReal.neg_top, EReal.add_bot, Ideal.exp_bot]
  · obtain ⟨μ0, rfl⟩ := hm gf g
    unfold cMn
    rw [fold_bot fun x => by rw [h.hi, g, EReal.add_bot], max_eq_left bot_le, hb gf, ← EReal.coe_add]
    exact Re.coe _

/-! ### Any gates -/

/-- A chunk's output is the recurrence's output. -/
theorem cH_eq (h : Reads f i q k v T lf li qq kk vv) (hq : ∀ s d, Re (q s d)) (hs : Holds f i k v T m0 C n) (r : Fin L) (e : Fin E) :
    cH (cB lf) li m0 qq kk vv C n r e = cell f i q k v (T + r.val) e := by
  by_cases hl : Live f i
  · exact cH_live h hl hq hs r e
  · exact cH_dead h hl hs r e

/-- A chunk carries on the recurrence's state. -/
theorem holds_next (h : Reads f i q k v T lf li qq kk vv) (hs : Holds f i k v T m0 C n) (last : Fin L)
    (hlast : last.val + 1 = L) :
    Holds f i k v (T + L) (cMn last (cB lf) li m0) (cCn last (cB lf) li m0 kk vv C) (cNn last (cB lf) li m0 kk n) :=
  ⟨fun hl => holds_live h hl hs last hlast, fun hl => holds_dead h hl hs last⟩

end Chunk

end Cert.Ml

end
-- ==== Proof.MlSpec.lean ====
/-
  The mLSTM layer as both programs' idealizations compute it, element by element over the extended reals, and the
  fact that with the weights of `Weights` real the recurrence's queries and values are real and its gates are of the kind
  `Gates` says, whatever the residual stream is.
-/
module

public import proofs.«01_k».proof.Proof.MlMath
public import proofs.«01_k».proof.Proof.FfnStages

@[expose] public section

noncomputable section

open Idealize.ShloMosaic
open scoped BigOperators

namespace Cert.Ml

open Cert.FfnMath (nrm)

/-- A rank-1 array by its coordinate. -/
def fun1 {n0 : ℕ} (x : (⟨1, ![n0]⟩ : Shape).Idx → EReal) (a : Fin n0) : EReal := x (ix1 a)
/-- A rank-2 array by its coordinates. -/
def fun2 {n0 n1 : ℕ} (x : (⟨2, ![n0, n1]⟩ : Shape).Idx → EReal) (a : Fin n0) (b : Fin n1) : EReal := x (ix2 a b)
/-- A rank-3 array by its coordinates. -/
def fun3 {n0 n1 n2 : ℕ} (x : (⟨3, ![n0, n1, n2]⟩ : Shape).Idx → EReal) (a : Fin n0) (b : Fin n1) (c : Fin n2) : EReal :=
  x (ix3 a b c)

/-! ## The layer -/

section Layer

variable (h : Fin 8 → Fin 2048 → Fin 1024 → EReal) (g : Fin 1024 → EReal) (win : Fin 1024 → Fin 4104 → EReal)
  (bg : Fin 8 → EReal) (cw : Fin 4 → Fin 2048 → EReal) (cb : Fin 2048 → EReal)
  (wq wk wv : Fin 4 → Fin 512 → Fin 512 → EReal) (ks : EReal)

/-- The normalised row of token `t`. -/
def xn (b : Fin 8) (t : ℕ) (d : Fin 1024) : EReal := if ht : t < 2048 then nrm (h b ⟨t, ht⟩) g d else 0
/-- The projection of token `t`. -/
def pr (b : Fin 8) (t : ℕ) (c : Fin 4104) : EReal := ∑ d, xn h g b t d * win d c
/-- The cell's branch. -/
def xm (b : Fin 8) (t : ℕ) (c : Fin 2048) : EReal := pr h g win b t ⟨c.val, by omega⟩
/-- The output gate's branch. -/
def op (b : Fin 8) (t : ℕ) (c : Fin 2048) : EReal := pr h g win b t ⟨2048 + c.val, by omega⟩
/-- The gates. -/
def gate (b : Fin 8) (t : ℕ) (j : Fin 8) : EReal := pr h g win b t ⟨4096 + j.val, by omega⟩ + bg j
/-- The cell's branch `u` tokens before `t`, nought before the sequence. -/
def past (b : Fin 8) (t u : ℕ) (c : Fin 2048) : EReal := if u ≤ t then xm h g win b (t - u) c else 0
/-- A number times its logistic. -/
def swish (x : EReal) : EReal := x * Ideal.div 1 (1 + Ideal.exp (0 - x))
/-- The causal four-tap convolution. -/
def cv (b : Fin 8) (t : ℕ) (c : Fin 2048) : EReal :=
  cw 3 c * past h g win b t 0 c + cw 2 c * past h g win b t 1 c + cw 1 c * past h g win b t 2 c
    + cw 0 c * past h g win b t 3 c + cb c
/-- The convolved branch. -/
def xc (b : Fin 8) (t : ℕ) (c : Fin 2048) : EReal := swish (cv h g win cw cb b t c)
/-- A head's column. -/
def col (hd : Fin 4) (d : Fin 512) : Fin 2048 := ⟨512 * hd.val + d.val, by omega⟩
/-- The queries. -/
def qq (b : Fin 8) (hd : Fin 4) (t : ℕ) (e : Fin 512) : EReal := ∑ d, xc h g win cw cb b t (col hd d) * wq hd d e
/-- The keys. -/
def kk (b : Fin 8) (hd : Fin 4) (t : ℕ) (e : Fin 512) : EReal := (∑ d, xc h g win cw cb b t (col hd d) * wk hd d e) * ks
/-- The values. -/
def vv (b : Fin 8) (hd : Fin 4) (t : ℕ) (e : Fin 512) : EReal := ∑ d, xm h g win b t (col hd d) * wv hd d e
/-- The log input gate. -/
def li (b : Fin 8) (hd : Fin 4) (t : ℕ) : EReal := gate h g win bg b t ⟨hd.val, by omega⟩
/-- The log of a logistic. -/
def lsig (x : EReal) : EReal := min x 0 - Ideal.log1p (Ideal.exp (0 - max x (-x)))
/-- The log forget gate. -/
def lf (b : Fin 8) (hd : Fin 4) (t : ℕ) : EReal := lsig (gate h g win bg b t ⟨4 + hd.val, by omega⟩)

/-- The cell's output. -/
def cellOut (b : Fin 8) (hd : Fin 4) (t : ℕ) (e : Fin 512) : EReal :=
  cell (lf h g win bg b hd) (li h g win bg b hd) (qq h g win cw cb wq b hd) (kk h g win cw cb wk ks b hd)
    (vv h g win wv b hd) t e

end Layer

/-- The mean of 512 numbers. -/
def mean (x : Fin 512 → EReal) : EReal := Ideal.div (∑ e, x e) (Ideal.ofBits .f32 0x44000000#32)
/-- 512 numbers less their mean. -/
def ctr (x : Fin 512 → EReal) (e : Fin 512) : EReal := x e - mean x
/-- What one column of the layer makes of its head's cell outputs: the head's norm, the output gate, the skip. -/
def col_out (x : Fin 512 → EReal) (e : Fin 512) (gn o sk xc : EReal) : EReal :=
  Ideal.div 1 (1 + Ideal.exp (0 - o))
      * (ctr x e * Ideal.rsqrt (mean (fun j => ctr x j * ctr x j) + Ideal.ofBits .f32 0x358637BD#32) * gn)
    + sk * xc

/-- The layer's output: the residual stream plus the output projection of its 2048 columns. -/
def layer (h : Fin 8 → Fin 2048 → Fin 1024 → EReal) (g : Fin 1024 → EReal) (win : Fin 1024 → Fin 4104 → EReal)
    (bg : Fin 8 → EReal) (cw : Fin 4 → Fin 2048 → EReal) (cb : Fin 2048 → EReal)
    (wq wk wv : Fin 4 → Fin 512 → Fin 512 → EReal) (ks : EReal) (gn sk : Fin 2048 → EReal)
    (wout : Fin 2048 → Fin 1024 → EReal) (b : Fin 8) (t : Fin 2048) (c : Fin 1024) : EReal :=
  h b t c + ∑ k : Fin 2048, col_out (fun e => cellOut h g win bg cw cb wq wk wv ks b ⟨k.val / 512, by omega⟩ t.val e)
      ⟨k.val % 512, by omega⟩ (gn k) (op h g win b t.val k) (sk k) (xc h g win cw cb b t.val k) * wout k c

/-! ## Real numbers -/

theorem Re.logistic {x : EReal} : Re x → Re (Ideal.div 1 (1 + Ideal.exp (0 - x))) := by
  rintro ⟨a, rfl⟩
  have : (1 : EReal) + Ideal.exp (0 - (a : EReal)) = ((1 + Real.exp (0 - a) : ℝ) : EReal) := by
    rw [show (0 : EReal) = ((0 : ℝ) : EReal) from rfl, ← EReal.coe_sub, Ideal.exp_coe, EReal.coe_add]; rfl
  rw [this, Ideal.div_coe (by have := Real.exp_pos (0 - a); linarith)]
  exact Re.one.mul (Re.coe _)

theorem Re.swish {x : EReal} (hx : Re x) : Re (swish x) := hx.mul hx.logistic

/-- The log of a logistic at a real. -/
theorem lsig_coe (a : ℝ) : lsig (a : EReal) = ((min a 0 - Real.log (1 + Real.exp (-|a|)) : ℝ) : EReal) := by
  unfold lsig Ideal.log1p
  rw [← EReal.coe_neg, max_coe, ← abs_eq_max_neg, show (0 : EReal) = ((0 : ℝ) : EReal) from rfl, ← EReal.coe_sub,
    Ideal.exp_coe, show (1 : EReal) = ((1 : ℝ) : EReal) from rfl, ← EReal.coe_add, zero_sub]
  have hp : ¬ (1 + Real.exp (-|a|) ≤ 0) := by have := Real.exp_pos (-|a|); linarith
  rw [show Ideal.log ((1 + Real.exp (-|a|) : ℝ) : EReal) = (Real.log (1 + Real.exp (-|a|)) : EReal) from if_neg hp,
    EReal.coe_sub]
  rw [(EReal.coe_strictMono.monotone.map_min : ((min a 0 : ℝ) : EReal) = _)]

/-- The log of a logistic as minus a softplus. -/
theorem neg_softplus (x : EReal) :
    -(max (-x) 0 + Ideal.log1p (Ideal.exp (-max (-x) (- -x)))) = lsig x := by
  have hm : ∀ y : EReal, max (-y) 0 = -min y 0 := fun y => by
    have := EReal.neg_strictAnti.antitone.map_min (a := y) (b := 0)
    rw [neg_zero] at this
    exact this.symm
  have hlog : Ideal.log 1 = 0 := by
    show (if (1 : ℝ) ≤ 0 then ⊥ else ((Real.log 1 : ℝ) : EReal)) = 0
    simp
  have hr : Re (Ideal.log1p (Ideal.exp (-max (-x) (- -x)))) := by
    unfold Ideal.log1p
    induction x with
    | bot => exact ⟨0, by simp [hlog]⟩
    | top => exact ⟨0, by simp [hlog]⟩
    | coe a =>
      refine ⟨Real.log (1 + Real.exp (-|a|)), ?_⟩
      rw [neg_neg, ← EReal.coe_neg, max_coe, max_comm, ← abs_eq_max_neg, ← EReal.coe_neg, Ideal.exp_coe,
        show (1 : EReal) = ((1 : ℝ) : EReal) from rfl, ← EReal.coe_add]
      exact if_neg (by have := Real.exp_pos (-|a|); linarith)
  have e : Ideal.log1p (Ideal.exp (-max (-x) (- -x))) = Ideal.log1p (Ideal.exp (0 - max x (-x))) := by
    rw [neg_neg, max_comm, zero_sub]
  obtain ⟨r, hr⟩ := hr
  unfold lsig
  rw [← e, hr, hm, EReal.neg_add (Or.inr (EReal.coe_ne_top r)) (Or.inr (EReal.coe_ne_bot r)), neg_neg]

theorem Re.lsig {x : EReal} : Re x → Re (lsig x) := by
  rintro ⟨a, rfl⟩; rw [lsig_coe]; exact Re.coe _

theorem log_one : Ideal.log 1 = 0 := by
  show (if (1 : ℝ) ≤ 0 then ⊥ else ((Real.log 1 : ℝ) : EReal)) = 0
  simp

theorem lsig_bot : lsig ⊥ = ⊥ := by
  unfold lsig Ideal.log1p
  rw [EReal.neg_bot, max_eq_right bot_le, min_eq_left bot_le, sub_eq_add_neg, EReal.bot_add]

theorem lsig_top : Re (lsig ⊤) := by
  unfold lsig Ideal.log1p
  rw [EReal.neg_top, max_eq_left bot_le, min_eq_right le_top, zero_sub, zero_sub, EReal.neg_top, Ideal.exp_bot, add_zero, log_one, neg_zero]
  exact Re.zero

/-! The constants -/

theorem c1024 : Ideal.ofBits .f32 0x44800000#32 = ((1024 : ℝ) : EReal) := by
  simp [Ideal.ofBits, Ideal.ieee]
  rw [← EReal.coe_mul]
  norm_num
theorem ceps : ∃ r : ℝ, 0 < r ∧ Ideal.ofBits .f32 0x358637BD#32 = (r : EReal) := by
  simp [Ideal.ofBits, Ideal.ieee]
  rw [← EReal.coe_mul]
  exact ⟨_, by positivity, rfl⟩

/-- A normalised row is real whatever the row is: a row with an infinite entry has an infinite mean square, whose
    inverse root is nought. -/
theorem Re.nrm {v g : Fin 1024 → EReal} (hg : ∀ d, Re (g d)) (d : Fin 1024) : Re (nrm v g d) := by
  obtain ⟨ε, hε, he⟩ := ceps
  unfold Cert.FfnMath.nrm
  rw [c1024, he, Ideal.div_coe (by norm_num)]
  refine Re.mul ?_ (hg d)
  by_cases hv : ∀ k, Re (v k)
  · choose r hr using hv
    simp only [hr, ← EReal.coe_mul]
    rw [sum_coe, ← EReal.coe_mul, ← EReal.coe_add, Ideal.rsqrt_coe]
    have hpos : 0 < (∑ k, r k * r k) * (1 / 1024) + ε := by
      have : 0 ≤ ∑ k, r k * r k := Finset.sum_nonneg fun k _ => mul_self_nonneg _
      positivity
    rw [if_neg hpos.not_gt, if_neg hpos.ne']
    exact (Re.coe _).mul (Re.coe _)
  · push Not at hv
    obtain ⟨k, hk⟩ := hv
    have hsq : ∀ x : EReal, 0 ≤ x * x := fun x => by
      induction x with
      | bot => simp
      | top => simp
      | coe a => rw [← EReal.coe_mul]; exact_mod_cast mul_self_nonneg a
    have hkk : v k * v k = ⊤ := by
      by_contra hne
      apply hk
      refine Re.of_ne (fun e => hne ?_) (fun e => hne ?_) <;> rw [e] <;> simp
    have hs : ∑ k, v k * v k = ⊤ :=
      top_le_iff.1 (hkk ▸ Finset.single_le_sum (f := fun k => v k * v k) (fun k _ => hsq _) (Finset.mem_univ k))
    rw [hs, EReal.top_mul_coe_of_pos (by norm_num), EReal.top_add_coe, Ideal.rsqrt_top, mul_zero]
    exact Re.zero

section Reals

variable {h : Fin 8 → Fin 2048 → Fin 1024 → EReal} {g : Fin 1024 → EReal} {win : Fin 1024 → Fin 4104 → EReal}
  {bg : Fin 8 → EReal} {cw : Fin 4 → Fin 2048 → EReal} {cb : Fin 2048 → EReal}
  {wq wk wv : Fin 4 → Fin 512 → Fin 512 → EReal} {ks : EReal}

/-- The weights behind the queries, the values and the gates are real, but for the gates' bias. -/
structure Weights (g : Fin 1024 → EReal) (win : Fin 1024 → Fin 4104 → EReal)
    (cw : Fin 4 → Fin 2048 → EReal) (cb : Fin 2048 → EReal) (wq wv : Fin 4 → Fin 512 → Fin 512 → EReal) : Prop where
  g : ∀ d, Re (g d)
  win : ∀ d c, Re (win d c)
  cw : ∀ j c, Re (cw j c)
  cb : ∀ c, Re (cb c)
  wq : ∀ a b c, Re (wq a b c)
  wv : ∀ a b c, Re (wv a b c)

variable (W : Weights g win cw cb wq wv)
include W

theorem re_pr (b : Fin 8) (t : ℕ) (c : Fin 4104) : Re (pr h g win b t c) :=
  Re.sum _ fun d => Re.mul (by unfold xn; split; exacts [Re.nrm W.g d, Re.zero]) (W.win d c)
theorem re_past (b : Fin 8) (t u : ℕ) (c : Fin 2048) : Re (past h g win b t u c) := by
  unfold past; split; exacts [re_pr W _ _ _, Re.zero]
theorem re_xc (b : Fin 8) (t : ℕ) (c : Fin 2048) : Re (xc h g win cw cb b t c) :=
  (((((W.cw 3 c).mul (re_past W b t 0 c)).add ((W.cw 2 c).mul (re_past W b t 1 c))).add ((W.cw 1 c).mul (re_past W b t 2 c))).add
    ((W.cw 0 c).mul (re_past W b t 3 c))).add (W.cb c) |>.swish
theorem re_qq (b : Fin 8) (hd : Fin 4) (t : ℕ) (e : Fin 512) : Re (qq h g win cw cb wq b hd t e) :=
  Re.sum _ fun d => (re_xc W b t _).mul (W.wq _ _ _)
theorem re_vv (b : Fin 8) (hd : Fin 4) (t : ℕ) (e : Fin 512) : Re (vv h g win wv b hd t e) :=
  Re.sum _ fun d => (re_pr W b t _).mul (W.wv _ _ _)
/-- A gate is real throughout, or one infinity throughout. -/
theorem gate_cases (b : Fin 8) (j : Fin 8) :
    (∀ t, Re (gate h g win bg b t j)) ∨ (∀ t, gate h g win bg b t j = ⊥) ∨ ∀ t, gate h g win bg b t j = ⊤ := by
  unfold gate
  by_cases hb : Re (bg j)
  · exact Or.inl fun t => (re_pr W b t _).add hb
  · refine Or.inr ?_
    rcases Re.not_iff hb with e | e <;> rw [e]
    · refine Or.inr fun t => ?_
      obtain ⟨r, hr⟩ := re_pr (h := h) W b t ⟨4096 + j.val, by omega⟩
      rw [hr, EReal.coe_add_top]
    · exact Or.inl fun t => EReal.add_bot _

/-- The gates of a head. -/
theorem gates_of (b : Fin 8) (hd : Fin 4) : Gates (lf h g win bg b hd) (li h g win bg b hd) := by
  have hi := gate_cases (h := h) (bg := bg) W b ⟨hd.val, by omega⟩
  have key : (∀ t, lf h g win bg b hd t = ⊥) ∨ ∀ t, Re (lf h g win bg b hd t) := by
    unfold lf
    rcases gate_cases (h := h) (bg := bg) W b ⟨4 + hd.val, by omega⟩ with e | e | e
    · exact Or.inr fun t => (e t).lsig
    · exact Or.inl fun t => by rw [e, lsig_bot]
    · exact Or.inr fun t => by rw [e]; exact lsig_top
  exact key.imp id fun k => ⟨k, hi⟩

/-- A chunk of `L` tokens from `T` on reads the recurrence's numbers. -/
theorem reads_of {L : ℕ} (b : Fin 8) (hd : Fin 4) (T : ℕ) :
    Reads (L := L) (lf h g win bg b hd) (li h g win bg b hd) (qq h g win cw cb wq b hd) (kk h g win cw cb wk ks b hd)
      (vv h g win wv b hd) T
      (fun r => lf h g win bg b hd (T + r.val)) (fun r => li h g win bg b hd (T + r.val))
      (fun r d => qq h g win cw cb wq b hd (T + r.val) d) (fun r d => kk h g win cw cb wk ks b hd (T + r.val) d)
      (fun r d => vv h g win wv b hd (T + r.val) d) :=
  ⟨gates_of W b hd, fun _ => rfl, fun _ => rfl, fun r d => (re_qq W b hd _ d).toReal, fun _ _ => rfl,
    fun r d => (re_vv W b hd _ d).toReal⟩

end Reals

end Cert.Ml

end
-- ==== Proof.MlStages.lean ====
/-
  The stages of the matrix-memory kernel read at one element: on a chunk of 256 rows they are the chunk of `MlMath.lean`
  and the layer's pieces of `MlSpec.lean`.
-/
module

public import proofs.«01_k».proof.Proof.MlTerm
public import proofs.«01_k».proof.Proof.MlSpec
public import Idealize.ShloMosaic.Lib.Pointwise
public import Idealize.ShloMosaic.Lib.WordCmp
public import Idealize.ShloMosaic.PureOps.IdealRules

@[expose] public section

set_option maxRecDepth 16384

noncomputable section

open Idealize.ShloMosaic Idealize.ShloMosaic.TcCoe Idealize.SL.Sem
open scoped BigOperators

namespace Cert.KernelIdeal.MlVal

open Cert.KernelIdeal Cert.KernelIdeal.Gen Cert.KernelIdeal.Ml Cert.Ml

abbrev Col := FVec Ideal S256x1 .f32

/-- A column by its row. -/
def cl (x : Col) (r : Fin 256) : EReal := x (ix2 r 0)

theorem neg_inf : Ideal.ofBits .f32 4286578688#32 = ⊥ := by
  simp [Ideal.ofBits, Ideal.ieee]

theorem mask_val : Named.named (F := Ideal) κ "mask" (φ := .f32) 0xF149F2CA#32 = (⊥ : EReal) :=
  IdealRules.named_const.ideal_named_scalar _ _ _ _ rfl

theorem sle_at (r s : Fin 256) (x y : EReal) :
    Scalar.select (IntOp.cmpi CmpIPredicate.sle (BitVec.ofNat 32 s.val) (BitVec.ofNat 32 r.val)) x y = if s ≤ r then x else y := by
  rw [Idealize.ShloMosaic.WordCmp.cmpi_sle_ofNat (by omega) (by omega)]
  by_cases h : s ≤ r
  · rw [if_pos h, show decide (s.val ≤ r.val) = true from decide_eq_true h]; rfl
  · rw [if_neg h, show decide (s.val ≤ r.val) = false from decide_eq_false h]; rfl

theorem eq_at (r s : Fin 256) (x y : EReal) :
    Scalar.select (IntOp.cmpi CmpIPredicate.eq (BitVec.ofNat 32 s.val) (BitVec.ofNat 32 r.val)) x y = if s = r then x else y := by
  rw [Idealize.ShloMosaic.WordCmp.cmpi_eq_ofNat (by omega) (by omega)]
  by_cases h : s = r
  · rw [if_pos h, show decide (s.val = r.val) = true from decide_eq_true (congrArg Fin.val h)]; rfl
  · rw [if_neg h, show decide (s.val = r.val) = false from decide_eq_false fun e => h (Fin.ext e)]; rfl

theorem toRow_at (x : Col) (r : Fin 256) : toRow x (ix2 0 r) = cl x r := by
  unfold toRow k0_pay17 cl
  pointwise
  simp only [eq_at, Finset.sum_ite_eq', Finset.mem_univ, if_true]

theorem cums_at (x : Col) (r : Fin 256) : cums x (ix2 r 0) = cB (cl x) r := by
  unfold cB
  simp only [← toRow_at]
  unfold cums k0_pay18
  generalize toRow x = y
  pointwise
  simp only [sle_at]

theorem cums_cl (x : Col) : cl (cums x) = cB (cl x) := funext fun r => cums_at x r

theorem logD_at (b li : Col) (r s : Fin 256) : logD b li (ix2 r s) = cD (cl b) (cl li) r s := by
  unfold cD
  rw [← toRow_at b s, ← toRow_at li s, ← mask_val]
  unfold logD k0_pay18 cl
  generalize toRow b = y
  generalize toRow li = w
  pointwise
  rw [sle_at]

theorem stM_at (m : Vec Ideal S1x1x128 .f32) : stM m (ix2 0 0) = m (ix3 0 0 0) := by
  unfold Ml.stM
  pointwise

theorem logInter_at (b : Col) (m0 : FVec Ideal S1x1 .f32) (r : Fin 256) : logInter b m0 (ix2 r 0) = cl b r + m0 (ix2 0 0) := by
  unfold logInter cl
  pointwise

theorem mRow_at (b li : Col) (m0 : FVec Ideal S1x1 .f32) (r : Fin 256) :
    mRow b (logD b li) m0 (ix2 r 0) = cM (cl b) (cl li) (m0 (ix2 0 0)) r := by
  unfold cM
  have e : cD (cl b) (cl li) r = fun s => logD b li (ix2 r s) := funext fun s => (logD_at b li r s).symm
  rw [← logInter_at, e, ← neg_inf]
  unfold mRow
  generalize logInter b m0 = y
  generalize logD b li = w
  pointwise

theorem wIntra_at (ld : FVec Ideal S256x256 .f32) (mr : Col) (r s : Fin 256) :
    wIntra ld mr (ix2 r s) = Ideal.exp (ld (ix2 r s) - cl mr r) := by
  unfold wIntra cl
  pointwise

theorem wInter_at (b li : Col) (m0 : FVec Ideal S1x1 .f32) (r : Fin 256) :
    wInter b m0 (mRow b (logD b li) m0) (ix2 r 0) = cR (cl b) (cl li) (m0 (ix2 0 0)) r := by
  unfold cR
  rw [← mRow_at, ← logInter_at]
  unfold wInter
  generalize mRow b (logD b li) m0 = x
  generalize logInter b m0 = y
  pointwise

theorem scores_at (q k : FVec Ideal S256x512 .f32) (w : FVec Ideal S256x256 .f32) (r s : Fin 256) :
    scores q k w (ix2 r s) = (∑ d, q (ix2 r d) * k (ix2 s d)) * w (ix2 r s) := by
  unfold scores
  pointwise

theorem chunkS_at (b li : Col) (m0 : FVec Ideal S1x1 .f32) (q k : FVec Ideal S256x512 .f32) (r s : Fin 256) :
    scores q k (wIntra (logD b li) (mRow b (logD b li) m0)) (ix2 r s)
      = cS (cl b) (cl li) (m0 (ix2 0 0)) (fun r d => q (ix2 r d)) (fun r d => k (ix2 r d)) r s := by
  rw [scores_at, wIntra_at, logD_at]
  unfold cS cl
  rw [mRow_at]
  rfl

theorem den_at (q : FVec Ideal S256x512 .f32) (wr : Col) (n : Vec Ideal S1x1x512 .f32) (s : FVec Ideal S256x256 .f32) (r : Fin 256) :
    den q wr n s (ix2 r 0) = cl wr r * (∑ d, q (ix2 r d) * n (ix3 0 0 d)) + ∑ x, s (ix2 r x) := by
  unfold den cl
  pointwise

theorem num_at (q v : FVec Ideal S256x512 .f32) (wr : Col) (C : Vec Ideal S1x512x512 .f32) (s : FVec Ideal S256x256 .f32) (r : Fin 256) (e : Fin 512) :
    num q v wr C s (ix2 r e) = cl wr r * (∑ d, q (ix2 r d) * C (ix3 0 d e)) + ∑ x, s (ix2 r x) * v (ix2 x e) := by
  unfold num cl
  pointwise

theorem quot_at (nm : FVec Ideal S256x512 .f32) (dn mr : Col) (r : Fin 256) (e : Fin 512) :
    quot nm dn mr (ix2 r e) = Ideal.div (nm (ix2 r e)) (max (max (cl dn r) (-cl dn r)) (Ideal.exp (-cl mr r))) := by
  unfold quot cl
  pointwise
  rw [zero_sub]
  rfl

/-- The chunk's output. -/
theorem chunkH_at (b li : Col) (m0 : FVec Ideal S1x1 .f32) (q k v : FVec Ideal S256x512 .f32)
    (C : Vec Ideal S1x512x512 .f32) (n : Vec Ideal S1x1x512 .f32) (r : Fin 256) (e : Fin 512) :
    quot (num q v (wInter b m0 (mRow b (logD b li) m0)) C (scores q k (wIntra (logD b li) (mRow b (logD b li) m0))))
        (den q (wInter b m0 (mRow b (logD b li) m0)) n (scores q k (wIntra (logD b li) (mRow b (logD b li) m0))))
        (mRow b (logD b li) m0) (ix2 r e)
      = cH (cl b) (cl li) (m0 (ix2 0 0)) (fun r d => q (ix2 r d)) (fun r d => k (ix2 r d)) (fun r d => v (ix2 r d))
          (fun d e => C (ix3 0 d e)) (fun d => n (ix3 0 0 d)) r e := by
  rw [quot_at, num_at]
  unfold cH cNum cDen
  have e1 : ∀ x : Col, cl x r = x (ix2 r 0) := fun _ => rfl
  rw [e1, e1, e1, den_at, e1, mRow_at, wInter_at]
  simp only [chunkS_at]

theorem bLast_at (b : Col) : bLast b (ix2 0 0) = cl b 255 := by
  unfold bLast cl
  pointwise

theorem logW_at (b li : Col) (x : Fin 256) : logW b li (ix2 x 0) = cl b 255 - cl b x + cl li x := by
  rw [← bLast_at]
  unfold logW cl
  generalize bLast b = y
  pointwise

theorem mNew_at (b li : Col) (m0 : FVec Ideal S1x1 .f32) : mNew b li m0 (ix2 0 0) = cMn 255 (cl b) (cl li) (m0 (ix2 0 0)) := by
  have e : cMn 255 (cl b) (cl li) (m0 (ix2 0 0))
      = max (bLast b (ix2 0 0) + m0 (ix2 0 0) : EReal) (Finset.univ.fold max ⊥ fun x => (logW b li (ix2 x 0) : EReal)) := by
    rw [bLast_at]
    exact congrArg (fun f => max _ (Finset.univ.fold max ⊥ f)) (funext fun x => (logW_at b li x).symm)
  rw [e, ← neg_inf]
  unfold mNew
  generalize bLast b = y
  generalize logW b li = w
  pointwise

theorem decay_at (b li : Col) (m0 : FVec Ideal S1x1 .f32) :
    decay b li m0 (ix2 0 0) = Ideal.exp (cl b 255 + m0 (ix2 0 0) - cMn 255 (cl b) (cl li) (m0 (ix2 0 0))) := by
  rw [← mNew_at, ← bLast_at]
  unfold decay
  generalize bLast b = y
  generalize mNew b li m0 = w
  pointwise

theorem wK_at (b li : Col) (m0 : FVec Ideal S1x1 .f32) (x : Fin 256) :
    wK b li m0 (ix2 x 0) = Ideal.exp (cl b 255 - cl b x + cl li x - cMn 255 (cl b) (cl li) (m0 (ix2 0 0))) := by
  rw [← mNew_at, ← logW_at]
  unfold wK
  generalize logW b li = y
  generalize mNew b li m0 = w
  pointwise

theorem stM'_at (m : FVec Ideal S1x1 .f32) : stM' m (ix3 0 0 0) = m (ix2 0 0) := by
  unfold stM'
  pointwise

theorem newC_at (dc : FVec Ideal S1x1 .f32) (wk : Col) (k v : FVec Ideal S256x512 .f32) (C : Vec Ideal S1x512x512 .f32) (d e : Fin 512) :
    newC dc wk k v C (ix3 0 d e) = dc (ix2 0 0) * C (ix3 0 d e) + ∑ x, wk (ix2 x 0) * k (ix2 x d) * v (ix2 x e) := by
  unfold newC wkeys
  pointwise

theorem newN_at (dc : FVec Ideal S1x1 .f32) (wk : Col) (k : FVec Ideal S256x512 .f32) (n : Vec Ideal S1x1x512 .f32) (d : Fin 512) :
    newN dc wk k n (ix3 0 0 d) = dc (ix2 0 0) * n (ix3 0 0 d) + ∑ x, wk (ix2 x 0) * k (ix2 x d) := by
  unfold newN wkeys
  pointwise

/-- The matrix memory the chunk carries on. -/
theorem chunkC_at (b li : Col) (m0 : FVec Ideal S1x1 .f32) (k v : FVec Ideal S256x512 .f32) (C : Vec Ideal S1x512x512 .f32) (d e : Fin 512) :
    newC (decay b li m0) (wK b li m0) k v C (ix3 0 d e)
      = cCn 255 (cl b) (cl li) (m0 (ix2 0 0)) (fun r d => k (ix2 r d)) (fun r d => v (ix2 r d)) (fun d e => C (ix3 0 d e)) d e := by
  rw [newC_at, decay_at]
  simp only [wK_at]
  rfl

/-- The normaliser the chunk carries on. -/
theorem chunkN_at (b li : Col) (m0 : FVec Ideal S1x1 .f32) (k : FVec Ideal S256x512 .f32) (n : Vec Ideal S1x1x512 .f32) (d : Fin 512) :
    newN (decay b li m0) (wK b li m0) k n (ix3 0 0 d)
      = cNn 255 (cl b) (cl li) (m0 (ix2 0 0)) (fun r d => k (ix2 r d)) (fun d => n (ix3 0 0 d)) d := by
  rw [newN_at, decay_at]
  simp only [wK_at]
  rfl

/-! ## The projections, the gates and the head's norm -/

theorem gateI_at (g : FVec Ideal S256x8 .f32) (hd : Fin 4) (r : Fin 256) : gateI g hd (ix2 r 0) = g (ix2 r ⟨hd.val, by omega⟩) := by
  unfold gateI
  pointwise

theorem gateF_at (g : FVec Ideal S256x8 .f32) (hd : Fin 4) (r : Fin 256) :
    gateF g hd (ix2 r 0) = lsig (g (ix2 r ⟨4 + hd.val, by omega⟩)) := by
  unfold gateF logSig lsig
  pointwise
  rfl

theorem cols_at (x : FVec Ideal S256x2048 .f32) (hd : Fin 4) (r : Fin 256) (d : Fin 512) : cols x hd (ix2 r d) = x (ix2 r (col hd d)) := by
  unfold cols col
  pointwise

theorem projd_at (x : FVec Ideal S256x2048 .f32) (hd : Fin 4) (w : Vec Ideal S1x512x512 .bf16) (r : Fin 256) (e : Fin 512) :
    projd x hd w (ix2 r e) = ∑ d, x (ix2 r (col hd d)) * w (ix3 0 d e) := by
  simp only [← cols_at]
  unfold projd
  generalize cols x hd = y
  pointwise

theorem scaled_at (k : FVec Ideal S256x512 .f32) (r : Fin 256) (e : Fin 512) :
    scaled k (ix2 r e) = k (ix2 r e) * Ideal.ofBits .f32 0x3D3504F3#32 := by
  unfold scaled
  pointwise

theorem mean512_at (x : FVec Ideal S256x512 .f32) (r : Fin 256) : mean512 x (ix2 r 0) = mean fun e => x (ix2 r e) := by
  unfold mean512 mean
  pointwise

theorem centred_at (x : FVec Ideal S256x512 .f32) (r : Fin 256) (e : Fin 512) : centred x (ix2 r e) = ctr (fun e => x (ix2 r e)) e := by
  unfold ctr
  rw [← mean512_at]
  unfold centred
  generalize mean512 x = y
  pointwise

theorem headNorm_at (x : FVec Ideal S256x512 .f32) (r : Fin 256) (e : Fin 512) :
    headNorm x (ix2 r e) = ctr (fun e => x (ix2 r e)) e
      * Ideal.rsqrt (mean (fun j => ctr (fun e => x (ix2 r e)) j * ctr (fun e => x (ix2 r e)) j) + Ideal.ofBits .f32 0x358637BD#32) := by
  have e1 := mean512_at (mulf (F := Ideal) (φ := .f32) (centred x) (centred x)) r
  have e2 : (fun e => mulf (F := Ideal) (φ := .f32) (centred x) (centred x) (ix2 r e)) = fun j => ctr (fun e => x (ix2 r e)) j * ctr (fun e => x (ix2 r e)) j := by
    funext j
    rw [← centred_at]
    generalize centred x = y
    pointwise
  rw [e2] at e1
  rw [← e1, ← centred_at]
  unfold headNorm
  generalize mean512 (mulf (F := Ideal) (φ := .f32) (centred x) (centred x)) = y
  generalize centred x = w
  pointwise

theorem yHead_at (o : FVec Ideal S256x2048 .f32) (hd : Fin 4) (xh hh : FVec Ideal S256x512 .f32) (gn sk : Vec Ideal S1x512 .f32) (r : Fin 256) (e : Fin 512) :
    yHead o hd xh hh gn sk (ix2 r e)
      = col_out (fun e => hh (ix2 r e)) e (gn (ix2 0 e)) (o (ix2 r (col hd e))) (sk (ix2 0 e)) (xh (ix2 r e)) := by
  unfold col_out
  rw [← headNorm_at, ← cols_at o hd r e]
  unfold yHead
  generalize headNorm hh = y
  generalize cols o hd = w
  pointwise

end Cert.KernelIdeal.MlVal

end
-- ==== Proof.MlPoint.lean ====
/-
  One grid point of the matrix-memory kernel on the blocks it reads: its projections, convolution, queries, keys and
  values are the layer's at the point's tokens, its chunk is a chunk of `MlMath.lean`, and its rows of the result are the
  layer's.
-/
module

public import proofs.«01_k».proof.Proof.MlStages

@[expose] public section

set_option maxRecDepth 16384

noncomputable section

open Idealize.ShloMosaic Idealize.ShloMosaic.TcCoe Idealize.SL.Sem
open scoped BigOperators

namespace Cert.KernelIdeal.MlVal

open Cert.KernelIdeal Cert.KernelIdeal.Gen Cert.KernelIdeal.Ml Cert.Ml
open Cert.FfnMath (nrm)

/-- The keys' scale. -/
abbrev KS : EReal := Ideal.ofBits .f32 0x3D3504F3#32

/-! ## The pieces a point writes, at one element -/

theorem hit_c (p : Fin 4 → Vec Ideal S1x512x512 .f32) (rest : List (View.Piece (Elt Ideal) S4x512x512 .f32)) (hd : Fin 4)
    (hin : ∀ x, ![hd.val, 0, 0] x + S1x512x512.size x ≤ S4x512x512.size x) (j : S1x512x512.Idx) :
    pileC p rest ((Rect.unit (s := S4x512x512) ![hd.val, 0, 0] S1x512x512.size hin).toLoadRect.idx j) = p hd j := by
  unfold pileC
  fin_cases hd
  · exact (skip_c (a := 3) (b := 0) (by decide) _ hin _ _ j).trans ((skip_c (a := 2) (b := 0) (by decide) _ hin _ _ j).trans
      ((skip_c (a := 1) (b := 0) (by decide) _ hin _ _ j).trans (View.canon_cons_emb (L := _) (Rect.unit (s := S4x512x512) ![0, 0, 0] S1x512x512.size hin) (p 0) j)))
  · exact (skip_c (a := 3) (b := 1) (by decide) _ hin _ _ j).trans ((skip_c (a := 2) (b := 1) (by decide) _ hin _ _ j).trans (View.canon_cons_emb (L := _) (Rect.unit (s := S4x512x512) ![1, 0, 0] S1x512x512.size hin) (p 1) j))
  · exact (skip_c (a := 3) (b := 2) (by decide) _ hin _ _ j).trans (View.canon_cons_emb (L := _) (Rect.unit (s := S4x512x512) ![2, 0, 0] S1x512x512.size hin) (p 2) j)
  · exact (View.canon_cons_emb (L := _) (Rect.unit (s := S4x512x512) ![3, 0, 0] S1x512x512.size hin) (p 3) j)

theorem hit_n (p : Fin 4 → Vec Ideal S1x1x512 .f32) (rest : List (View.Piece (Elt Ideal) S4x1x512 .f32)) (hd : Fin 4)
    (hin : ∀ x, ![hd.val, 0, 0] x + S1x1x512.size x ≤ S4x1x512.size x) (j : S1x1x512.Idx) :
    pileN p rest ((Rect.unit (s := S4x1x512) ![hd.val, 0, 0] S1x1x512.size hin).toLoadRect.idx j) = p hd j := by
  unfold pileN
  fin_cases hd
  · exact (skip_n (a := 3) (b := 0) (by decide) _ hin _ _ j).trans ((skip_n (a := 2) (b := 0) (by decide) _ hin _ _ j).trans
      ((skip_n (a := 1) (b := 0) (by decide) _ hin _ _ j).trans (View.canon_cons_emb (L := _) (Rect.unit (s := S4x1x512) ![0, 0, 0] S1x1x512.size hin) (p 0) j)))
  · exact (skip_n (a := 3) (b := 1) (by decide) _ hin _ _ j).trans ((skip_n (a := 2) (b := 1) (by decide) _ hin _ _ j).trans (View.canon_cons_emb (L := _) (Rect.unit (s := S4x1x512) ![1, 0, 0] S1x1x512.size hin) (p 1) j))
  · exact (skip_n (a := 3) (b := 2) (by decide) _ hin _ _ j).trans (View.canon_cons_emb (L := _) (Rect.unit (s := S4x1x512) ![2, 0, 0] S1x1x512.size hin) (p 2) j)
  · exact (View.canon_cons_emb (L := _) (Rect.unit (s := S4x1x512) ![3, 0, 0] S1x1x512.size hin) (p 3) j)

theorem hit_m (p : Fin 4 → Vec Ideal S1x1x128 .f32) (rest : List (View.Piece (Elt Ideal) S4x1x128 .f32)) (hd : Fin 4)
    (hin : ∀ x, ![hd.val, 0, 0] x + S1x1x128.size x ≤ S4x1x128.size x) (j : S1x1x128.Idx) :
    pileM p rest ((Rect.unit (s := S4x1x128) ![hd.val, 0, 0] S1x1x128.size hin).toLoadRect.idx j) = p hd j := by
  unfold pileM
  fin_cases hd
  · exact (skip_m (a := 3) (b := 0) (by decide) _ hin _ _ j).trans ((skip_m (a := 2) (b := 0) (by decide) _ hin _ _ j).trans
      ((skip_m (a := 1) (b := 0) (by decide) _ hin _ _ j).trans (View.canon_cons_emb (L := _) (Rect.unit (s := S4x1x128) ![0, 0, 0] S1x1x128.size hin) (p 0) j)))
  · exact (skip_m (a := 3) (b := 1) (by decide) _ hin _ _ j).trans ((skip_m (a := 2) (b := 1) (by decide) _ hin _ _ j).trans (View.canon_cons_emb (L := _) (Rect.unit (s := S4x1x128) ![1, 0, 0] S1x1x128.size hin) (p 1) j))
  · exact (skip_m (a := 3) (b := 2) (by decide) _ hin _ _ j).trans (View.canon_cons_emb (L := _) (Rect.unit (s := S4x1x128) ![2, 0, 0] S1x1x128.size hin) (p 2) j)
  · exact (View.canon_cons_emb (L := _) (Rect.unit (s := S4x1x128) ![3, 0, 0] S1x1x128.size hin) (p 3) j)

theorem ix_c (hd : Fin 4) (d e : Fin 512) (hin : ∀ x, ![hd.val, 0, 0] x + S1x512x512.size x ≤ S4x512x512.size x) :
    (Rect.unit (s := S4x512x512) ![hd.val, 0, 0] S1x512x512.size hin).toLoadRect.idx (ix3 0 d e : S1x512x512.Idx) = (ix3 hd d e : S4x512x512.Idx) := by
  funext a
  apply Fin.ext
  match a with
  | ⟨0, _⟩ => show hd.val + 1 * 0 = hd.val; omega
  | ⟨1, _⟩ => show 0 + 1 * d.val = d.val; omega
  | ⟨2, _⟩ => show 0 + 1 * e.val = e.val; omega

theorem pileC_at (p : Fin 4 → Vec Ideal S1x512x512 .f32) (rest : List (View.Piece (Elt Ideal) S4x512x512 .f32)) (hd : Fin 4) (d e : Fin 512) :
    pileC p rest (ix3 hd d e : S4x512x512.Idx) = p hd (ix3 0 d e : S1x512x512.Idx) := by
  rw [← ix_c hd d e (by revert hd; decide)]
  exact hit_c p rest hd _ _

theorem cAt_at (w : Vec Ideal S4x512x512 .f32) (hd : Fin 4) (d e : Fin 512) : cAt w hd (ix3 0 d e : S1x512x512.Idx) = w (ix3 hd d e : S4x512x512.Idx) :=
  congrArg w (ix_c hd d e _)

theorem ix_n (hd : Fin 4) (d : Fin 512) (hin : ∀ x, ![hd.val, 0, 0] x + S1x1x512.size x ≤ S4x1x512.size x) :
    (Rect.unit (s := S4x1x512) ![hd.val, 0, 0] S1x1x512.size hin).toLoadRect.idx (ix3 0 0 d : S1x1x512.Idx) = (ix3 hd 0 d : S4x1x512.Idx) := by
  funext a
  apply Fin.ext
  match a with
  | ⟨0, _⟩ => show hd.val + 1 * 0 = hd.val; omega
  | ⟨1, _⟩ => show 0 + 1 * 0 = 0; omega
  | ⟨2, _⟩ => show 0 + 1 * d.val = d.val; omega

theorem pileN_at (p : Fin 4 → Vec Ideal S1x1x512 .f32) (rest : List (View.Piece (Elt Ideal) S4x1x512 .f32)) (hd : Fin 4) (d : Fin 512) :
    pileN p rest (ix3 hd 0 d : S4x1x512.Idx) = p hd (ix3 0 0 d : S1x1x512.Idx) := by
  rw [← ix_n hd d (by revert hd; decide)]
  exact hit_n p rest hd _ _

theorem nAt_at (w : Vec Ideal S4x1x512 .f32) (hd : Fin 4) (d : Fin 512) : nAt w hd (ix3 0 0 d : S1x1x512.Idx) = w (ix3 hd 0 d : S4x1x512.Idx) :=
  congrArg w (ix_n hd d _)

theorem ix_m (hd : Fin 4) (d : Fin 128) (hin : ∀ x, ![hd.val, 0, 0] x + S1x1x128.size x ≤ S4x1x128.size x) :
    (Rect.unit (s := S4x1x128) ![hd.val, 0, 0] S1x1x128.size hin).toLoadRect.idx (ix3 0 0 d : S1x1x128.Idx) = (ix3 hd 0 d : S4x1x128.Idx) := by
  funext a
  apply Fin.ext
  match a with
  | ⟨0, _⟩ => show hd.val + 1 * 0 = hd.val; omega
  | ⟨1, _⟩ => show 0 + 1 * 0 = 0; omega
  | ⟨2, _⟩ => show 0 + 1 * d.val = d.val; omega

theorem pileM_at (p : Fin 4 → Vec Ideal S1x1x128 .f32) (rest : List (View.Piece (Elt Ideal) S4x1x128 .f32)) (hd : Fin 4) (d : Fin 128) :
    pileM p rest (ix3 hd 0 d : S4x1x128.Idx) = p hd (ix3 0 0 d : S1x1x128.Idx) := by
  rw [← ix_m hd d (by revert hd; decide)]
  exact hit_m p rest hd _ _

theorem mAt_at (w : Vec Ideal S4x1x128 .f32) (hd : Fin 4) (d : Fin 128) : mAt w hd (ix3 0 0 d : S1x1x128.Idx) = w (ix3 hd 0 d : S4x1x128.Idx) :=
  congrArg w (ix_m hd d _)

theorem wAt_at (w : Vec Ideal S4x512x512 .bf16) (hd : Fin 4) (d e : Fin 512) : wAt w hd (ix3 0 d e) = w (ix3 hd d e) :=
  congrArg w (ix_c hd d e _)

theorem ix_y (hd : Fin 4) (r : Fin 256) (e : Fin 512) (hin : ∀ x, ![0, 512 * hd.val] x + S256x512.size x ≤ S256x2048.size x) :
    (Rect.unit (s := S256x2048) ![0, 512 * hd.val] S256x512.size hin).toLoadRect.idx (ix2 r e : S256x512.Idx) = (ix2 r (col hd e) : S256x2048.Idx) := by
  funext a
  apply Fin.ext
  match a with
  | ⟨0, _⟩ => show 0 + 1 * r.val = r.val; omega
  | ⟨1, _⟩ => show 512 * hd.val + 1 * e.val = 512 * hd.val + e.val; omega

theorem rowAt_at (w : Vec Ideal S1x2048 .f32) (hd : Fin 4) (e : Fin 512) : rowAt w hd (ix2 0 e) = w (ix2 0 (col hd e)) := by
  unfold rowAt
  refine View.ld_unit_apply_of w _ _ _ _ _ fun a => ?_
  match a with
  | ⟨0, _⟩ => rfl
  | ⟨1, _⟩ => rfl

theorem off_y {a b : ℕ} (hab : a ≠ b) (hb : b < 4) (ha : ∀ x, ![0, 512 * a] x + S256x512.size x ≤ S256x2048.size x) (r : Fin 256) (e : Fin 512) :
    (ix2 r ⟨512 * b + e.val, by omega⟩ : S256x2048.Idx) ∉ (Rect.unit (s := S256x2048) ![0, 512 * a] S256x512.size ha).set := by
  rw [Rect.mem_set_unit]
  intro h
  have h1 : 512 * a ≤ 512 * b + e.val ∧ 512 * b + e.val < 512 * a + 512 := h 1
  omega

theorem skip_y {a b : ℕ} (hab : a ≠ b) (hb : b < 4) (ha : ∀ x, ![0, 512 * a] x + S256x512.size x ≤ S256x2048.size x)
    (w : Vec Ideal S256x512 .bf16) (L : List (View.Piece (Elt Ideal) S256x2048 .bf16)) (r : Fin 256) (e : Fin 512) :
    View.canon ((⟨Rect.unit (s := S256x2048) ![0, 512 * a] S256x512.size ha, w⟩ : View.Piece (Elt Ideal) S256x2048 .bf16) :: L) (ix2 r ⟨512 * b + e.val, by omega⟩ : S256x2048.Idx)
      = View.canon L (ix2 r ⟨512 * b + e.val, by omega⟩ : S256x2048.Idx) :=
  View.canon_cons_of_not_mem _ _ (off_y hab hb ha r e)

theorem at_y (hd : Fin 4) (hin : ∀ x, ![0, 512 * hd.val] x + S256x512.size x ≤ S256x2048.size x)
    (w : Vec Ideal S256x512 .bf16) (L : List (View.Piece (Elt Ideal) S256x2048 .bf16)) (r : Fin 256) (e : Fin 512) :
    View.canon ((⟨Rect.unit (s := S256x2048) ![0, 512 * hd.val] S256x512.size hin, w⟩ : View.Piece (Elt Ideal) S256x2048 .bf16) :: L) (ix2 r (col hd e) : S256x2048.Idx) = w (ix2 r e) := by
  rw [← ix_y hd r e hin]
  exact View.canon_cons_emb (L := L) (Rect.unit (s := S256x2048) ![0, 512 * hd.val] S256x512.size hin) w (ix2 r e)

theorem yAll_at (p : Fin 4 → Vec Ideal S256x512 .bf16) (hd : Fin 4) (r : Fin 256) (e : Fin 512) :
    yAll p (ix2 r (col hd e)) = p hd (ix2 r e) := by
  unfold yAll
  fin_cases hd
  · exact (skip_y (a := 3) (b := 0) (by decide) (by decide) _ _ _ r e).trans ((skip_y (a := 2) (b := 0) (by decide) (by decide) _ _ _ r e).trans
      ((skip_y (a := 1) (b := 0) (by decide) (by decide) _ _ _ r e).trans (at_y 0 _ (p 0) _ r e)))
  · exact (skip_y (a := 3) (b := 1) (by decide) (by decide) _ _ _ r e).trans ((skip_y (a := 2) (b := 1) (by decide) (by decide) _ _ _ r e).trans
      (at_y 1 _ (p 1) _ r e))
  · exact (skip_y (a := 3) (b := 2) (by decide) (by decide) _ _ _ r e).trans (at_y 2 _ (p 2) _ r e)
  · exact at_y 3 _ (p 3) _ r e

/-! ## The kernel's words before the heads -/

theorem pay6_at (x0 : Vec Ideal S1x256x1024 .f32) (x1 : Vec Ideal S1x1024 .f32) (r : Fin 256) (d : Fin 1024) :
    k0_pay6 x0 x1 (ix2 r d) = nrm (fun k => x0 (ix3 0 r k)) (fun k => x1 (ix2 0 k)) d := by
  pointwise [k0_pay6]
  rfl

theorem pay7_at (x0 : Vec Ideal S1x256x1024 .f32) (x1 : Vec Ideal S1x1024 .f32) (w : Vec Ideal S1024x2048 .bf16) (r : Fin 256) (k : Fin 2048) :
    k0_pay7 x0 x1 w (ix2 r k) = ∑ d, k0_pay6 x0 x1 (ix2 r d) * w (ix2 d k) := by
  unfold k0_pay7
  generalize k0_pay6 x0 x1 = y
  pointwise

theorem pay8_at (x0 : Vec Ideal S1x256x1024 .f32) (x1 : Vec Ideal S1x1024 .f32) (w : Vec Ideal S1024x8 .bf16) (bg : Vec Ideal S1x8 .f32) (r : Fin 256) (k : Fin 8) :
    k0_pay8 x0 x1 w bg (ix2 r k) = (∑ d, k0_pay6 x0 x1 (ix2 r d) * w (ix2 d k)) + bg (ix2 0 k) := by
  unfold k0_pay8
  generalize k0_pay6 x0 x1 = y
  pointwise

theorem pay13_at (y : FVec Ideal S256x1024 .bf16) (w : Vec Ideal S1024x2048 .bf16) (r : Fin 256) (k : Fin 2048) :
    k0_pay13 y w (ix2 r k) = ∑ d, y (ix2 r d) * w (ix2 d k) := by
  unfold k0_pay13
  pointwise

theorem ldx_at (x2 : Vec Ideal S1024x4104 .bf16) (o : ℕ) (n : ℕ) (hin) (d : Fin 1024) (k : Fin n) (hk : o + k.val < 4104) :
    View.ld x2 (Rect.unit ![0, o] (⟨2, ![1024, n]⟩ : Shape).size hin) (ix2 d k : (⟨2, ![1024, n]⟩ : Shape).Idx) = x2 (ix2 d ⟨o + k.val, hk⟩) := by
  refine View.ld_unit_apply_of x2 _ _ _ _ _ fun a => ?_
  match a with
  | ⟨0, _⟩ => show d.val = 0 + d.val; omega
  | ⟨1, _⟩ => rfl

/-- Row `i` of eight rows over 256. -/
def stack (xp : Vec Ideal S8x2048 .f32) (xm : FVec Ideal S256x2048 .f32) (i : ℕ) (hi : i < 264) (k : Fin 2048) : EReal :=
  if h : i < 8 then xp (ix2 ⟨i, h⟩ k) else xm (ix2 ⟨i - 8, by omega⟩ k)

theorem pay14_at (xm : FVec Ideal S256x2048 .f32) (xp : Vec Ideal S8x2048 .f32) (w : Vec Ideal S4x2048 .f32) (r : Fin 256) (k : Fin 2048) :
    k0_pay14 xm xp w (ix2 r k) = w (ix2 3 k) * stack xp xm (8 + r.val) (by omega) k + w (ix2 2 k) * stack xp xm (7 + r.val) (by omega) k
      + w (ix2 1 k) * stack xp xm (6 + r.val) (by omega) k + w (ix2 0 k) * stack xp xm (5 + r.val) (by omega) k := by
  unfold k0_pay14
  pointwise
  have e : stack xp xm (8 + r.val) (by omega) k = xm (ix2 r k) := by
    unfold stack
    rw [dif_neg (by omega)]
    exact congrArg (fun i => xm (ix2 i k)) (Fin.ext (show 8 + r.val - 8 = r.val by omega))
  rw [e]
  rfl

theorem pay15_at (x : FVec Ideal S256x2048 .f32) (b : Vec Ideal S1x2048 .f32) (r : Fin 256) (k : Fin 2048) :
    k0_pay15 x b (ix2 r k) = swish (x (ix2 r k) + b (ix2 0 k)) := by
  unfold k0_pay15 swish
  pointwise

theorem pay16_at (x : FVec Ideal S256x2048 .f32) (a : Fin 8) (k : Fin 2048) :
    k0_pay16 x (ix2 a k) = x (ix2 ⟨248 + a.val, by omega⟩ k) := by
  unfold k0_pay16
  pointwise

theorem pay1_at (x0 : Vec Ideal S1x256x1024 .f32) (y : Vec Ideal S256x2048 .bf16) (w : Vec Ideal S2048x1024 .bf16) (r : Fin 256) (d : Fin 1024) :
    k0_pay1 (k0_pay163 x0) y w (ix3 0 r d) = x0 (ix3 0 r d) + ∑ k, y (ix2 r k) * w (ix2 k d) := by
  unfold k0_pay1 k0_pay163
  pointwise

/-! ## A point's blocks and the layer -/

section Point

variable {h : Fin 8 → Fin 2048 → Fin 1024 → EReal} {g : Fin 1024 → EReal} {win : Fin 1024 → Fin 4104 → EReal}
  {bg : Fin 8 → EReal} {cw : Fin 4 → Fin 2048 → EReal} {cb : Fin 2048 → EReal}
  {wq wk wv : Fin 4 → Fin 512 → Fin 512 → EReal} {gn sk : Fin 2048 → EReal} {wout : Fin 2048 → Fin 1024 → EReal}
  {b : Fin 8} {T : ℕ}
  {x0 : Vec Ideal S1x256x1024 .f32} {x1 : Vec Ideal S1x1024 .f32} {x2 : Vec Ideal S1024x4104 .bf16} {x3 : Vec Ideal S1x8 .f32}
  {x4 : Vec Ideal S4x2048 .f32} {x5 : Vec Ideal S1x2048 .f32} {x6 x7 x8 : Vec Ideal S4x512x512 .bf16} {x9 x10 : Vec Ideal S1x2048 .f32}
  {x11 : Vec Ideal S2048x1024 .bf16} {C : Vec Ideal S4x512x512 .f32} {n : Vec Ideal S4x1x512 .f32} {m : Vec Ideal S4x1x128 .f32}
  {xp : Vec Ideal S8x2048 .f32}

/-- The blocks a point reads hold the layer's arguments at 256 tokens from `T` on. -/
structure Blocks (h : Fin 8 → Fin 2048 → Fin 1024 → EReal) (g : Fin 1024 → EReal) (win : Fin 1024 → Fin 4104 → EReal)
    (bg : Fin 8 → EReal) (cw : Fin 4 → Fin 2048 → EReal) (cb : Fin 2048 → EReal)
    (wq wk wv : Fin 4 → Fin 512 → Fin 512 → EReal) (gn sk : Fin 2048 → EReal) (wout : Fin 2048 → Fin 1024 → EReal)
    (b : Fin 8) (T : ℕ)
    (x0 : Vec Ideal S1x256x1024 .f32) (x1 : Vec Ideal S1x1024 .f32) (x2 : Vec Ideal S1024x4104 .bf16) (x3 : Vec Ideal S1x8 .f32)
    (x4 : Vec Ideal S4x2048 .f32) (x5 : Vec Ideal S1x2048 .f32) (x6 x7 x8 : Vec Ideal S4x512x512 .bf16) (x9 x10 : Vec Ideal S1x2048 .f32)
    (x11 : Vec Ideal S2048x1024 .bf16) : Prop where
  hT : T + 256 ≤ 2048
  h0 : ∀ (r : Fin 256) (d : Fin 1024), x0 (ix3 0 r d) = h b ⟨T + r.val, by omega⟩ d
  h1 : ∀ d : Fin 1024, x1 (ix2 0 d) = g d
  h2 : ∀ (d : Fin 1024) (k : Fin 4104), x2 (ix2 d k) = win d k
  h3 : ∀ j : Fin 8, x3 (ix2 0 j) = bg j
  h4 : ∀ (j : Fin 4) (k : Fin 2048), x4 (ix2 j k) = cw j k
  h5 : ∀ k : Fin 2048, x5 (ix2 0 k) = cb k
  h6 : ∀ (a : Fin 4) (d e : Fin 512), x6 (ix3 a d e) = wq a d e
  h7 : ∀ (a : Fin 4) (d e : Fin 512), x7 (ix3 a d e) = wk a d e
  h8 : ∀ (a : Fin 4) (d e : Fin 512), x8 (ix3 a d e) = wv a d e
  h9 : ∀ k : Fin 2048, x9 (ix2 0 k) = gn k
  h10 : ∀ k : Fin 2048, x10 (ix2 0 k) = sk k
  h11 : ∀ (k : Fin 2048) (d : Fin 1024), x11 (ix2 k d) = wout k d

/-- The eight rows carried into a point hold the cell's branch at the eight tokens before it, nought before a sequence. -/
def Carried (h : Fin 8 → Fin 2048 → Fin 1024 → EReal) (g : Fin 1024 → EReal) (win : Fin 1024 → Fin 4104 → EReal) (b : Fin 8) (T : ℕ)
    (xp : Vec Ideal S8x2048 .f32) : Prop :=
  ∀ (a : Fin 8) (k : Fin 2048), xp (ix2 a k) = if 8 ≤ T + a.val then xm h g win b (T + a.val - 8) k else 0

/-- A head's carried state is the recurrence's before token `T`. -/
def Head (h : Fin 8 → Fin 2048 → Fin 1024 → EReal) (g : Fin 1024 → EReal) (win : Fin 1024 → Fin 4104 → EReal)
    (bg : Fin 8 → EReal) (cw : Fin 4 → Fin 2048 → EReal) (cb : Fin 2048 → EReal)
    (wk wv : Fin 4 → Fin 512 → Fin 512 → EReal) (b : Fin 8) (T : ℕ)
    (C : Vec Ideal S4x512x512 .f32) (n : Vec Ideal S4x1x512 .f32) (m : Vec Ideal S4x1x128 .f32) (hd : Fin 4) : Prop :=
  Holds (lf h g win bg b hd) (li h g win bg b hd) (kk h g win cw cb wk KS b hd) (vv h g win wv b hd) T
    (m (ix3 hd 0 0)) (fun d e => C (ix3 hd d e)) (fun d => n (ix3 hd 0 d))

variable (B : Blocks h g win bg cw cb wq wk wv gn sk wout b T x0 x1 x2 x3 x4 x5 x6 x7 x8 x9 x10 x11)
include B

theorem xn_at (r : Fin 256) (d : Fin 1024) : k0_pay6 x0 x1 (ix2 r d) = xn h g b (T + r.val) d := by
  have := B.hT
  rw [pay6_at]
  unfold xn
  rw [dif_pos (by omega)]
  congr 1
  · exact funext fun k => B.h0 r k
  · exact funext fun k => B.h1 k

theorem sXm_at (r : Fin 256) (k : Fin 2048) : sXm x0 x1 x2 (ix2 r k) = xm h g win b (T + r.val) k := by
  refine (pay7_at _ _ _ r k).trans (show _ = ∑ d, xn h g b (T + r.val) d * win d ⟨k.val, by omega⟩ from Finset.sum_congr rfl fun d _ => ?_)
  refine congrArg₂ _ (xn_at B r d) ((ldx_at x2 0 2048 _ d k (by omega)).trans ((B.h2 d _).trans (congrArg (win d) (Fin.ext ?_))))
  exact Nat.zero_add _

theorem sGates_at (r : Fin 256) (j : Fin 8) : sGates x0 x1 x2 x3 (ix2 r j) = gate h g win bg b (T + r.val) j := by
  refine (pay8_at _ _ _ _ r j).trans (congrArg₂ _ (Finset.sum_congr rfl fun d _ => ?_) (B.h3 j))
  exact congrArg₂ _ (xn_at B r d) ((ldx_at x2 4096 8 _ d j (by omega)).trans (B.h2 d _))

theorem sO_at (r : Fin 256) (k : Fin 2048) : sO x0 x1 x2 (ix2 r k) = op h g win b (T + r.val) k := by
  refine (pay13_at _ _ r k).trans (show _ = ∑ d, xn h g b (T + r.val) d * win d ⟨2048 + k.val, by omega⟩ from Finset.sum_congr rfl fun d _ => ?_)
  exact congrArg₂ _ (xn_at B r d) ((ldx_at x2 2048 2048 _ d k (by omega)).trans (B.h2 d _))

theorem stack_at (X : Carried h g win b T xp) (r : Fin 256) (u : ℕ) (hu : u ≤ 3) (k : Fin 2048) :
    stack xp (sXm x0 x1 x2) (8 - u + r.val) (by omega) k = past h g win b (T + r.val) u k := by
  unfold stack past
  split
  · next hlt =>
    rw [X ⟨8 - u + r.val, hlt⟩ k]
    by_cases hc : u ≤ T + r.val
    · rw [if_pos hc, if_pos (show 8 ≤ T + (8 - u + r.val) by omega)]
      exact congrArg (fun t => xm h g win b t k) (show T + (8 - u + r.val) - 8 = T + r.val - u by omega)
    · rw [if_neg hc, if_neg (show ¬ 8 ≤ T + (8 - u + r.val) by omega)]
  · next hlt =>
    rw [sXm_at B, if_pos (by omega)]
    exact congrArg (fun t => xm h g win b t k) (show T + (8 - u + r.val - 8) = T + r.val - u by omega)

theorem sXc_at (X : Carried h g win b T xp) (r : Fin 256) (k : Fin 2048) :
    sXc x0 x1 x2 x4 x5 xp (ix2 r k) = xc h g win cw cb b (T + r.val) k := by
  refine (pay15_at _ _ r k).trans (congrArg swish ?_)
  rw [pay14_at, B.h4, B.h4, B.h4, B.h4, B.h5, stack_at B X r 0 (by omega), stack_at B X r 1 (by omega), stack_at B X r 2 (by omega),
    stack_at B X r 3 (by omega)]
  rfl

theorem sLi_cl (hd : Fin 4) : cl (sLi x0 x1 x2 x3 hd) = fun r => li h g win bg b hd (T + r.val) :=
  funext fun r => (gateI_at _ hd r).trans (sGates_at B r _)

theorem sB_cl (hd : Fin 4) : cl (sB x0 x1 x2 x3 hd) = cB fun r => lf h g win bg b hd (T + r.val) :=
  (cums_cl _).trans (congrArg cB (funext fun r => (gateF_at _ hd r).trans (congrArg lsig (sGates_at B r _))))

omit B in
theorem sM0_at (hd : Fin 4) : sM0 m hd (ix2 0 0) = m (ix3 hd 0 0) := (stM_at _).trans (mAt_at m hd 0)

theorem sQ_at (X : Carried h g win b T xp) (hd : Fin 4) :
    (fun (r : Fin 256) (e : Fin 512) => sQ x0 x1 x2 x4 x5 x6 xp hd (ix2 r e)) = fun r e => qq h g win cw cb wq b hd (T + r.val) e := by
  funext r e
  refine (projd_at _ hd _ r e).trans (Finset.sum_congr rfl fun d _ => ?_)
  exact congrArg₂ _ (sXc_at B X r _) ((wAt_at x6 hd d e).trans (B.h6 hd d e))

theorem sK_at (X : Carried h g win b T xp) (hd : Fin 4) :
    (fun (r : Fin 256) (e : Fin 512) => sK x0 x1 x2 x4 x5 x7 xp hd (ix2 r e)) = fun r e => kk h g win cw cb wk KS b hd (T + r.val) e := by
  funext r e
  refine (scaled_at _ r e).trans (congrArg (· * KS) ?_)
  refine (projd_at _ hd _ r e).trans (Finset.sum_congr rfl fun d _ => ?_)
  exact congrArg₂ _ (sXc_at B X r _) ((wAt_at x7 hd d e).trans (B.h7 hd d e))

theorem sV_at (hd : Fin 4) :
    (fun (r : Fin 256) (e : Fin 512) => sV x0 x1 x2 x8 hd (ix2 r e)) = fun r e => vv h g win wv b hd (T + r.val) e := by
  funext r e
  refine (projd_at _ hd _ r e).trans (Finset.sum_congr rfl fun d _ => ?_)
  exact congrArg₂ _ (sXm_at B r _) ((wAt_at x8 hd d e).trans (B.h8 hd d e))

theorem sXp_at : Carried h g win b (T + 256) (sXp x0 x1 x2) := by
  intro a k
  rw [if_pos (by omega)]
  refine (pay16_at _ a k).trans ((sXm_at B _ k).trans (congrArg (fun t => xm h g win b t k) ?_))
  show T + (248 + a.val) = T + 256 + a.val - 8
  omega

variable (W : Weights g win cw cb wq wv) (X : Carried h g win b T xp) (H : ∀ hd, Head h g win bg cw cb wk wv b T C n m hd)
include W X H

/-- A head's rows are the recurrence's outputs. -/
theorem sH_at (hd : Fin 4) (r : Fin 256) (e : Fin 512) :
    sH x0 x1 x2 x3 x4 x5 x6 x7 x8 C n m xp hd (ix2 r e) = cellOut h g win bg cw cb wq wk wv KS b hd (T + r.val) e := by
  refine (chunkH_at (sB x0 x1 x2 x3 hd) (sLi x0 x1 x2 x3 hd) (sM0 m hd) _ _ _ _ _ r e).trans ?_
  rw [sB_cl B, sLi_cl B, sM0_at, sQ_at B X, sK_at B X, sV_at B,
    show (fun d e => cAt C hd (ix3 0 d e)) = fun d e => C (ix3 hd d e) from funext fun d => funext fun e => cAt_at C hd d e,
    show (fun d => nAt n hd (ix3 0 0 d)) = fun d => n (ix3 hd 0 d) from funext fun d => nAt_at n hd d]
  exact cH_eq (reads_of (h := h) W (L := 256) b hd T) (re_qq W b hd) (H hd) r e

/-- A head's next state is the recurrence's after the point's tokens. -/
theorem head_next (hd : Fin 4) (restC : List (View.Piece (Elt Ideal) S4x512x512 .f32)) (restN : List (View.Piece (Elt Ideal) S4x1x512 .f32))
    (restM : List (View.Piece (Elt Ideal) S4x1x128 .f32)) :
    Head h g win bg cw cb wk wv b (T + 256) (pileC (fun hd => sCn x0 x1 x2 x3 x4 x5 x7 x8 C m xp hd) restC)
      (pileN (fun hd => sNn x0 x1 x2 x3 x4 x5 x7 n m xp hd) restN) (pileM (fun hd => sMn x0 x1 x2 x3 m hd) restM) hd := by
  have hn := holds_next (reads_of (h := h) W (L := 256) b hd T) (H hd) 255 rfl
  unfold Head
  refine cast (congr (congr (congrArg _ ?_) ?_) ?_) hn
  · refine ((pileM_at _ restM hd 0).trans ((stM'_at _).trans ((mNew_at _ _ _).trans ?_))).symm
    rw [sB_cl B, sLi_cl B, sM0_at]
  · funext d e
    refine ((pileC_at _ restC hd d e).trans ((chunkC_at (sB x0 x1 x2 x3 hd) (sLi x0 x1 x2 x3 hd) (sM0 m hd) _ _ _ d e).trans ?_)).symm
    rw [sB_cl B, sLi_cl B, sM0_at, sK_at B X, sV_at B,
      show (fun d e => cAt C hd (ix3 0 d e)) = fun d e => C (ix3 hd d e) from funext fun d => funext fun e => cAt_at C hd d e]
  · funext d
    refine ((pileN_at _ restN hd d).trans ((chunkN_at (sB x0 x1 x2 x3 hd) (sLi x0 x1 x2 x3 hd) (sM0 m hd) _ _ d).trans ?_)).symm
    rw [sB_cl B, sLi_cl B, sM0_at, sK_at B X,
      show (fun d => nAt n hd (ix3 0 0 d)) = fun d => n (ix3 hd 0 d) from funext fun d => nAt_at n hd d]

theorem sY_at (hd : Fin 4) (r : Fin 256) (e : Fin 512) :
    sY x0 x1 x2 x3 x4 x5 x6 x7 x8 x9 x10 C n m xp hd (ix2 r e)
      = col_out (fun e => cellOut h g win bg cw cb wq wk wv KS b hd (T + r.val) e) e (gn (col hd e)) (op h g win b (T + r.val) (col hd e))
          (sk (col hd e)) (xc h g win cw cb b (T + r.val) (col hd e)) := by
  refine (yHead_at _ hd _ _ _ _ r e).trans ?_
  rw [cols_at, sXc_at B X, sO_at B, rowAt_at, rowAt_at, B.h9, B.h10,
    show (fun e => sH x0 x1 x2 x3 x4 x5 x6 x7 x8 C n m xp hd (ix2 r e)) = fun e => cellOut h g win bg cw cb wq wk wv KS b hd (T + r.val) e from
      funext fun e => sH_at B W X H hd r e]

/-- A point's rows of the result are the layer's. -/
theorem sOut_at (r : Fin 256) (d : Fin 1024) :
    sOut x0 x1 x2 x3 x4 x5 x6 x7 x8 x9 x10 x11 C n m xp (ix3 0 r d)
      = layer h g win bg cw cb wq wk wv KS gn sk wout b ⟨T + r.val, by have := B.hT; omega⟩ d := by
  refine (pay1_at _ _ _ r d).trans (congrArg₂ _ (B.h0 r d) (Finset.sum_congr rfl fun k _ => ?_))
  have hk : k = col ⟨k.val / 512, by omega⟩ ⟨k.val % 512, by omega⟩ := Fin.ext (show k.val = 512 * (k.val / 512) + k.val % 512 by omega)
  refine congrArg₂ _ ?_ (B.h11 k d)
  refine (congrArg (fun k => yAll _ (ix2 r k)) hk).trans ((yAll_at _ _ r _).trans ((sY_at B W X H _ r _).trans ?_))
  rw [← hk]

end Point

end Cert.KernelIdeal.MlVal
end
-- ==== Proof.MlRunA.lean ====
/-
  The run's found term at a grid point that starts a sequence, cut into the stages of `MlTerm`.
-/
module

public import proofs.«01_k».proof.Proof.MlTerm

@[expose] public section

set_option maxRecDepth 16384

noncomputable section

open Idealize.ShloMosaic Idealize.ShloMosaic.TcCoe Idealize.SL.Sem

namespace Cert.KernelIdeal.MlA

open Cert.KernelIdeal Cert.KernelIdeal.Gen Cert.KernelIdeal.Ml

variable {F : FTy → Type} [FloatOps F] [Named F]

variable (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4104 .bf16) (harg4 : arg4.IsWhole) (arg5 : Memref sig .tc .vmem S1x8 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S4x512x512 .bf16) (harg8 : arg8.IsWhole) (arg9 : Memref sig .tc .vmem S4x512x512 .bf16) (harg9 : arg9.IsWhole) (arg10 : Memref sig .tc .vmem S4x512x512 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S2048x1024 .bf16) (harg13 : arg13.IsWhole) (arg14 : Memref sig .tc .vmem S1x256x1024 .f32) (harg14 : arg14.IsWhole) (arg15 : Memref sig .tc .vmem S4x512x512 .f32) (harg15 : arg15.IsWhole) (arg16 : Memref sig .tc .vmem S4x1x512 .f32) (harg16 : arg16.IsWhole) (arg17 : Memref sig .tc .vmem S4x1x128 .f32) (harg17 : arg17.IsWhole) (arg18 : Memref sig .tc .vmem S8x2048 .f32) (harg18 : arg18.IsWhole) (arg19 : Memref sig .tc .vmem S256x2048 .bf16) (harg19 : arg19.IsWhole) (hc0 : cond0_0 i)
       (x0 : Vec F S1x256x1024 .f32) (x1 : Vec F S1x1024 .f32) (x2 : Vec F S1024x4104 .bf16) (x3 : Vec F S1x8 .f32) (x4 : Vec F S4x2048 .f32) (x5 : Vec F S1x2048 .f32) (x6 : Vec F S4x512x512 .bf16) (x7 : Vec F S4x512x512 .bf16) (x8 : Vec F S4x512x512 .bf16) (x9 : Vec F S1x2048 .f32) (x10 : Vec F S1x2048 .f32) (x11 : Vec F S2048x1024 .bf16)

theorem v161_eq : (kernelRun0_A.sl.v161 (F := F) c arg17)
    = mAt (F := F) (k0_pay4 (F := F)) 0 := by
  unfold kernelRun0_A.sl.v161 kernelRun0_A.sl.HS2_1
  rw [View.readCov_eq_canon']
  funext j
  rw [View.canon_unit_zero (S := S4x1x128) hz3]
  rfl

theorem v234_eq : (kernelRun0_A.sl.v234 (F := F) c arg2 harg2 arg3 harg3 arg4 harg4 arg5 harg5 arg17 x0 x1 x2 x3)
    = mAt (F := F) (k0_pay4 (F := F)) 1 := by
  unfold kernelRun0_A.sl.v234 kernelRun0_A.sl.HS2_2 kernelRun0_A.sl.HS2_1
  rw [View.readCov_eq_canon']
  funext j
  refine (skip_m (a := 0) (b := 1) (by decide) _ _ _ _ j).trans ?_
  rw [View.canon_unit_zero (S := S4x1x128) hz3]
  rfl

theorem v307_eq : (kernelRun0_A.sl.v307 (F := F) c arg2 harg2 arg3 harg3 arg4 harg4 arg5 harg5 arg17 x0 x1 x2 x3)
    = mAt (F := F) (k0_pay4 (F := F)) 2 := by
  unfold kernelRun0_A.sl.v307 kernelRun0_A.sl.HS2_3 kernelRun0_A.sl.HS2_2 kernelRun0_A.sl.HS2_1
  rw [View.readCov_eq_canon']
  funext j
  refine (skip_m (a := 1) (b := 2) (by decide) _ _ _ _ j).trans ?_
  refine (skip_m (a := 0) (b := 2) (by decide) _ _ _ _ j).trans ?_
  rw [View.canon_unit_zero (S := S4x1x128) hz3]
  rfl

theorem v380_eq : (kernelRun0_A.sl.v380 (F := F) c arg2 harg2 arg3 harg3 arg4 harg4 arg5 harg5 arg17 x0 x1 x2 x3)
    = mAt (F := F) (k0_pay4 (F := F)) 3 := by
  unfold kernelRun0_A.sl.v380 kernelRun0_A.sl.HS2_4 kernelRun0_A.sl.HS2_3 kernelRun0_A.sl.HS2_2 kernelRun0_A.sl.HS2_1
  rw [View.readCov_eq_canon']
  funext j
  refine (skip_m (a := 2) (b := 3) (by decide) _ _ _ _ j).trans ?_
  refine (skip_m (a := 1) (b := 3) (by decide) _ _ _ _ j).trans ?_
  refine (skip_m (a := 0) (b := 3) (by decide) _ _ _ _ j).trans ?_
  rw [View.canon_unit_zero (S := S4x1x128) hz3]
  rfl

theorem v425_eq : (kernelRun0_A.sl.v425 (F := F) c arg15)
    = cAt (F := F) (k0_pay2 (F := F)) 0 := by
  unfold kernelRun0_A.sl.v425 kernelRun0_A.sl.HS0_1
  rw [View.readCov_eq_canon']
  funext j
  rw [View.canon_unit_zero (S := S4x512x512) hz3]
  rfl

theorem v435_eq : (kernelRun0_A.sl.v435 (F := F) c arg15)
    = cAt (F := F) (k0_pay2 (F := F)) 1 := by
  unfold kernelRun0_A.sl.v435 kernelRun0_A.sl.HS0_1
  rw [View.readCov_eq_canon']
  funext j
  rw [View.canon_unit_zero (S := S4x512x512) hz3]
  rfl

theorem v445_eq : (kernelRun0_A.sl.v445 (F := F) c arg15)
    = cAt (F := F) (k0_pay2 (F := F)) 2 := by
  unfold kernelRun0_A.sl.v445 kernelRun0_A.sl.HS0_1
  rw [View.readCov_eq_canon']
  funext j
  rw [View.canon_unit_zero (S := S4x512x512) hz3]
  rfl

theorem v455_eq : (kernelRun0_A.sl.v455 (F := F) c arg15)
    = cAt (F := F) (k0_pay2 (F := F)) 3 := by
  unfold kernelRun0_A.sl.v455 kernelRun0_A.sl.HS0_1
  rw [View.readCov_eq_canon']
  funext j
  rw [View.canon_unit_zero (S := S4x512x512) hz3]
  rfl

theorem v460_eq : (kernelRun0_A.sl.v460 (F := F) c arg16)
    = nAt (F := F) (k0_pay3 (F := F)) 0 := by
  unfold kernelRun0_A.sl.v460 kernelRun0_A.sl.HS1_1
  rw [View.readCov_eq_canon']
  funext j
  rw [View.canon_unit_zero (S := S4x1x512) hz3]
  rfl

theorem v487_eq : (kernelRun0_A.sl.v487 (F := F) c arg2 harg2 arg3 harg3 arg4 harg4 arg5 harg5 arg6 harg6 arg7 harg7 arg9 harg9 arg16 arg17 arg18 x0 x1 x2 x3 x4 x5 x7)
    = nAt (F := F) (k0_pay3 (F := F)) 1 := by
  unfold kernelRun0_A.sl.v487 kernelRun0_A.sl.HS1_2 kernelRun0_A.sl.HS1_1
  rw [View.readCov_eq_canon']
  funext j
  refine (skip_n (a := 0) (b := 1) (by decide) _ _ _ _ j).trans ?_
  rw [View.canon_unit_zero (S := S4x1x512) hz3]
  rfl

theorem v514_eq : (kernelRun0_A.sl.v514 (F := F) c arg2 harg2 arg3 harg3 arg4 harg4 arg5 harg5 arg6 harg6 arg7 harg7 arg9 harg9 arg16 arg17 arg18 x0 x1 x2 x3 x4 x5 x7)
    = nAt (F := F) (k0_pay3 (F := F)) 2 := by
  unfold kernelRun0_A.sl.v514 kernelRun0_A.sl.HS1_3 kernelRun0_A.sl.HS1_2 kernelRun0_A.sl.HS1_1
  rw [View.readCov_eq_canon']
  funext j
  refine (skip_n (a := 1) (b := 2) (by decide) _ _ _ _ j).trans ?_
  refine (skip_n (a := 0) (b := 2) (by decide) _ _ _ _ j).trans ?_
  rw [View.canon_unit_zero (S := S4x1x512) hz3]
  rfl

theorem v541_eq : (kernelRun0_A.sl.v541 (F := F) c arg2 harg2 arg3 harg3 arg4 harg4 arg5 harg5 arg6 harg6 arg7 harg7 arg9 harg9 arg16 arg17 arg18 x0 x1 x2 x3 x4 x5 x7)
    = nAt (F := F) (k0_pay3 (F := F)) 3 := by
  unfold kernelRun0_A.sl.v541 kernelRun0_A.sl.HS1_4 kernelRun0_A.sl.HS1_3 kernelRun0_A.sl.HS1_2 kernelRun0_A.sl.HS1_1
  rw [View.readCov_eq_canon']
  funext j
  refine (skip_n (a := 2) (b := 3) (by decide) _ _ _ _ j).trans ?_
  refine (skip_n (a := 1) (b := 3) (by decide) _ _ _ _ j).trans ?_
  refine (skip_n (a := 0) (b := 3) (by decide) _ _ _ _ j).trans ?_
  rw [View.canon_unit_zero (S := S4x1x512) hz3]
  rfl

theorem v623_eq : (kernelRun0_A.sl.v623 (F := F) c arg2 harg2 arg3 harg3 arg4 harg4 arg5 harg5 arg6 harg6 arg7 harg7 arg9 harg9 arg10 harg10 arg15 arg17 arg18 x0 x1 x2 x3 x4 x5 x7 x8)
    = cAt (F := F) (k0_pay2 (F := F)) 1 := by
  unfold kernelRun0_A.sl.v623 kernelRun0_A.sl.HS0_2 kernelRun0_A.sl.HS0_1
  rw [View.readCov_eq_canon']
  funext j
  refine (skip_c (a := 0) (b := 1) (by decide) _ _ _ _ j).trans ?_
  rw [View.canon_unit_zero (S := S4x512x512) hz3]
  rfl

theorem v679_eq : (kernelRun0_A.sl.v679 (F := F) c arg2 harg2 arg3 harg3 arg4 harg4 arg5 harg5 arg6 harg6 arg7 harg7 arg9 harg9 arg10 harg10 arg15 arg17 arg18 x0 x1 x2 x3 x4 x5 x7 x8)
    = cAt (F := F) (k0_pay2 (F := F)) 2 := by
  unfold kernelRun0_A.sl.v679 kernelRun0_A.sl.HS0_3 kernelRun0_A.sl.HS0_2 kernelRun0_A.sl.HS0_1
  rw [View.readCov_eq_canon']
  funext j
  refine (skip_c (a := 1) (b := 2) (by decide) _ _ _ _ j).trans ?_
  refine (skip_c (a := 0) (b := 2) (by decide) _ _ _ _ j).trans ?_
  rw [View.canon_unit_zero (S := S4x512x512) hz3]
  rfl

theorem v735_eq : (kernelRun0_A.sl.v735 (F := F) c arg2 harg2 arg3 harg3 arg4 harg4 arg5 harg5 arg6 harg6 arg7 harg7 arg9 harg9 arg10 harg10 arg15 arg17 arg18 x0 x1 x2 x3 x4 x5 x7 x8)
    = cAt (F := F) (k0_pay2 (F := F)) 3 := by
  unfold kernelRun0_A.sl.v735 kernelRun0_A.sl.HS0_4 kernelRun0_A.sl.HS0_3 kernelRun0_A.sl.HS0_2 kernelRun0_A.sl.HS0_1
  rw [View.readCov_eq_canon']
  funext j
  refine (skip_c (a := 2) (b := 3) (by decide) _ _ _ _ j).trans ?_
  refine (skip_c (a := 1) (b := 3) (by decide) _ _ _ _ j).trans ?_
  refine (skip_c (a := 0) (b := 3) (by decide) _ _ _ _ j).trans ?_
  rw [View.canon_unit_zero (S := S4x512x512) hz3]
  rfl

theorem v53_eq : (kernelRun0_A.sl.v53 (F := F) c arg18)
    = (k0_pay5 (F := F)) := by
  unfold kernelRun0_A.sl.v53 kernelRun0_A.sl.HS3_1
  rw [View.readCov_eq_canon', View.canon_unit_zero (S := S8x2048) hz2]
  funext j
  exact congrFun (View.ld_unit_zero (Val := Elt F) (e := .f32) (S := S8x2048) hz2 _ (k0_pay5 (F := F))) j

theorem r_1_eq : (kernelRun0_A.sl.r_1 (F := F) c arg2 harg2 arg3 harg3 arg4 harg4 x0 x1 x2)
    = sXm x0 x1 x2 := by
  unfold kernelRun0_A.sl.r_1
  simp only [View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_2_eq : (kernelRun0_A.sl.r_2 (F := F) c arg2 harg2 arg3 harg3 arg4 harg4 arg5 harg5 x0 x1 x2 x3)
    = sGates x0 x1 x2 x3 := by
  unfold kernelRun0_A.sl.r_2
  simp only [View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_7_eq : (kernelRun0_A.sl.r_7 (F := F) c arg2 harg2 arg3 harg3 arg4 harg4 x0 x1 x2)
    = sO x0 x1 x2 := by
  unfold kernelRun0_A.sl.r_7 kernelRun0_A.sl.r
  simp only [View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_9_eq : (kernelRun0_A.sl.r_9 (F := F) c arg2 harg2 arg3 harg3 arg4 harg4 arg6 harg6 arg7 harg7 arg18 x0 x1 x2 x4 x5)
    = sXc x0 x1 x2 x4 x5 (k0_pay5 (F := F)) := by
  unfold kernelRun0_A.sl.r_9 kernelRun0_A.sl.r_8
  simp only [r_1_eq, v53_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_25_eq : (kernelRun0_A.sl.r_25 (F := F) c arg2 harg2 arg3 harg3 arg4 harg4 arg5 harg5 arg17 x0 x1 x2 x3)
    = sM x0 x1 x2 x3 (k0_pay4 (F := F)) 0 := by
  unfold kernelRun0_A.sl.r_25 kernelRun0_A.sl.cst_78 kernelRun0_A.sl.r_24 kernelRun0_A.sl.r_23
  simp only [r_2_eq, v161_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_26_eq : (kernelRun0_A.sl.r_26 (F := F) c arg2 harg2 arg3 harg3 arg4 harg4 arg5 harg5 arg17 x0 x1 x2 x3)
    = sWi x0 x1 x2 x3 (k0_pay4 (F := F)) 0 := by
  unfold kernelRun0_A.sl.r_26 kernelRun0_A.sl.cst_78 kernelRun0_A.sl.r_24 kernelRun0_A.sl.r_23
  simp only [r_2_eq, v161_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_27_eq : (kernelRun0_A.sl.r_27 (F := F) c arg2 harg2 arg3 harg3 arg4 harg4 arg5 harg5 arg17 x0 x1 x2 x3)
    = sWr x0 x1 x2 x3 (k0_pay4 (F := F)) 0 := by
  unfold kernelRun0_A.sl.r_27 kernelRun0_A.sl.cst_78 kernelRun0_A.sl.r_24 kernelRun0_A.sl.r_23
  simp only [r_2_eq, v161_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_28_eq : (kernelRun0_A.sl.r_28 (F := F) c arg2 harg2 arg3 harg3 arg4 harg4 arg5 harg5 arg17 x0 x1 x2 x3)
    = sDc x0 x1 x2 x3 (k0_pay4 (F := F)) 0 := by
  unfold kernelRun0_A.sl.r_28 kernelRun0_A.sl.cst_78 kernelRun0_A.sl.r_24 kernelRun0_A.sl.r_22
  simp only [r_2_eq, v161_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_29_eq : (kernelRun0_A.sl.r_29 (F := F) c arg2 harg2 arg3 harg3 arg4 harg4 arg5 harg5 arg17 x0 x1 x2 x3)
    = sWk x0 x1 x2 x3 (k0_pay4 (F := F)) 0 := by
  unfold kernelRun0_A.sl.r_29 kernelRun0_A.sl.cst_78 kernelRun0_A.sl.r_24 kernelRun0_A.sl.r_22
  simp only [r_2_eq, v161_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem m_piece0 : k0_pay51 (kernelRun0_A.sl.r_30 (F := F) c arg2 harg2 arg3 harg3 arg4 harg4 arg5 harg5 arg17 x0 x1 x2 x3)
    = sMn x0 x1 x2 x3 (k0_pay4 (F := F)) 0 := by
  unfold kernelRun0_A.sl.r_30 kernelRun0_A.sl.cst_78 kernelRun0_A.sl.r_24 kernelRun0_A.sl.r_22
  simp only [r_2_eq, v161_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_35_eq : (kernelRun0_A.sl.r_35 (F := F) c arg2 harg2 arg3 harg3 arg4 harg4 arg5 harg5 arg17 x0 x1 x2 x3)
    = sM x0 x1 x2 x3 (k0_pay4 (F := F)) 1 := by
  unfold kernelRun0_A.sl.r_35 kernelRun0_A.sl.cst_104 kernelRun0_A.sl.r_34 kernelRun0_A.sl.r_33 kernelRun0_A.sl.r_32
  simp only [r_2_eq, v234_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_36_eq : (kernelRun0_A.sl.r_36 (F := F) c arg2 harg2 arg3 harg3 arg4 harg4 arg5 harg5 arg17 x0 x1 x2 x3)
    = sWi x0 x1 x2 x3 (k0_pay4 (F := F)) 1 := by
  unfold kernelRun0_A.sl.r_36 kernelRun0_A.sl.cst_104 kernelRun0_A.sl.r_34 kernelRun0_A.sl.r_33 kernelRun0_A.sl.r_32
  simp only [r_2_eq, v234_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_37_eq : (kernelRun0_A.sl.r_37 (F := F) c arg2 harg2 arg3 harg3 arg4 harg4 arg5 harg5 arg17 x0 x1 x2 x3)
    = sWr x0 x1 x2 x3 (k0_pay4 (F := F)) 1 := by
  unfold kernelRun0_A.sl.r_37 kernelRun0_A.sl.cst_104 kernelRun0_A.sl.r_34 kernelRun0_A.sl.r_33 kernelRun0_A.sl.r_32
  simp only [r_2_eq, v234_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_38_eq : (kernelRun0_A.sl.r_38 (F := F) c arg2 harg2 arg3 harg3 arg4 harg4 arg5 harg5 arg17 x0 x1 x2 x3)
    = sDc x0 x1 x2 x3 (k0_pay4 (F := F)) 1 := by
  unfold kernelRun0_A.sl.r_38 kernelRun0_A.sl.r_33 kernelRun0_A.sl.r_32 kernelRun0_A.sl.r_31
  simp only [r_2_eq, v234_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_39_eq : (kernelRun0_A.sl.r_39 (F := F) c arg2 harg2 arg3 harg3 arg4 harg4 arg5 harg5 arg17 x0 x1 x2 x3)
    = sWk x0 x1 x2 x3 (k0_pay4 (F := F)) 1 := by
  unfold kernelRun0_A.sl.r_39 kernelRun0_A.sl.r_33 kernelRun0_A.sl.r_32 kernelRun0_A.sl.r_31
  simp only [r_2_eq, v234_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem m_piece1 : k0_pay66 (kernelRun0_A.sl.r_31 (F := F) c arg2 harg2 arg3 harg3 arg4 harg4 arg5 harg5 x0 x1 x2 x3) (kernelRun0_A.sl.r_32 (F := F) c arg2 harg2 arg3 harg3 arg4 harg4 arg5 harg5 x0 x1 x2 x3) (kernelRun0_A.sl.r_33 (F := F) c arg2 harg2 arg3 harg3 arg4 harg4 arg5 harg5 arg17 x0 x1 x2 x3)
    = sMn x0 x1 x2 x3 (k0_pay4 (F := F)) 1 := by
  unfold kernelRun0_A.sl.r_33 kernelRun0_A.sl.r_32 kernelRun0_A.sl.r_31
  simp only [r_2_eq, v234_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_43_eq : (kernelRun0_A.sl.r_43 (F := F) c arg2 harg2 arg3 harg3 arg4 harg4 arg5 harg5 arg17 x0 x1 x2 x3)
    = sM x0 x1 x2 x3 (k0_pay4 (F := F)) 2 := by
  unfold kernelRun0_A.sl.r_43 kernelRun0_A.sl.r_42 kernelRun0_A.sl.cst_78 kernelRun0_A.sl.r_41
  simp only [r_2_eq, v307_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_44_eq : (kernelRun0_A.sl.r_44 (F := F) c arg2 harg2 arg3 harg3 arg4 harg4 arg5 harg5 arg17 x0 x1 x2 x3)
    = sWi x0 x1 x2 x3 (k0_pay4 (F := F)) 2 := by
  unfold kernelRun0_A.sl.r_44 kernelRun0_A.sl.r_42 kernelRun0_A.sl.cst_78 kernelRun0_A.sl.r_41
  simp only [r_2_eq, v307_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_45_eq : (kernelRun0_A.sl.r_45 (F := F) c arg2 harg2 arg3 harg3 arg4 harg4 arg5 harg5 arg17 x0 x1 x2 x3)
    = sWr x0 x1 x2 x3 (k0_pay4 (F := F)) 2 := by
  unfold kernelRun0_A.sl.r_45 kernelRun0_A.sl.r_42 kernelRun0_A.sl.cst_78 kernelRun0_A.sl.r_41
  simp only [r_2_eq, v307_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_47_eq : (kernelRun0_A.sl.r_47 (F := F) c arg2 harg2 arg3 harg3 arg4 harg4 arg5 harg5 arg17 x0 x1 x2 x3)
    = sDc x0 x1 x2 x3 (k0_pay4 (F := F)) 2 := by
  unfold kernelRun0_A.sl.r_47 kernelRun0_A.sl.r_42 kernelRun0_A.sl.cst_78 kernelRun0_A.sl.r_40
  simp only [r_2_eq, v307_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_49_eq : (kernelRun0_A.sl.r_49 (F := F) c arg2 harg2 arg3 harg3 arg4 harg4 arg5 harg5 arg17 x0 x1 x2 x3)
    = sWk x0 x1 x2 x3 (k0_pay4 (F := F)) 2 := by
  unfold kernelRun0_A.sl.r_49 kernelRun0_A.sl.r_48 kernelRun0_A.sl.r_42 kernelRun0_A.sl.cst_78 kernelRun0_A.sl.r_40
  simp only [r_2_eq, v307_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem m_piece2 : k0_pay83 (kernelRun0_A.sl.r_46 (F := F) c arg2 harg2 arg3 harg3 arg4 harg4 arg5 harg5 arg17 x0 x1 x2 x3)
    = sMn x0 x1 x2 x3 (k0_pay4 (F := F)) 2 := by
  unfold kernelRun0_A.sl.r_46 kernelRun0_A.sl.r_42 kernelRun0_A.sl.cst_78 kernelRun0_A.sl.r_40
  simp only [r_2_eq, v307_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_55_eq : (kernelRun0_A.sl.r_55 (F := F) c arg2 harg2 arg3 harg3 arg4 harg4 arg5 harg5 arg17 x0 x1 x2 x3)
    = sM x0 x1 x2 x3 (k0_pay4 (F := F)) 3 := by
  unfold kernelRun0_A.sl.r_55 kernelRun0_A.sl.r_54 kernelRun0_A.sl.r_53 kernelRun0_A.sl.r_52 kernelRun0_A.sl.r_51
  simp only [r_2_eq, v380_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_56_eq : (kernelRun0_A.sl.r_56 (F := F) c arg2 harg2 arg3 harg3 arg4 harg4 arg5 harg5 arg17 x0 x1 x2 x3)
    = sWi x0 x1 x2 x3 (k0_pay4 (F := F)) 3 := by
  unfold kernelRun0_A.sl.r_56 kernelRun0_A.sl.r_54 kernelRun0_A.sl.r_53 kernelRun0_A.sl.r_52 kernelRun0_A.sl.r_51
  simp only [r_2_eq, v380_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_57_eq : (kernelRun0_A.sl.r_57 (F := F) c arg2 harg2 arg3 harg3 arg4 harg4 arg5 harg5 arg17 x0 x1 x2 x3)
    = sWr x0 x1 x2 x3 (k0_pay4 (F := F)) 3 := by
  unfold kernelRun0_A.sl.r_57 kernelRun0_A.sl.r_54 kernelRun0_A.sl.r_53 kernelRun0_A.sl.r_52 kernelRun0_A.sl.r_51
  simp only [r_2_eq, v380_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_58_eq : (kernelRun0_A.sl.r_58 (F := F) c arg2 harg2 arg3 harg3 arg4 harg4 arg5 harg5 arg17 x0 x1 x2 x3)
    = sDc x0 x1 x2 x3 (k0_pay4 (F := F)) 3 := by
  unfold kernelRun0_A.sl.r_58 kernelRun0_A.sl.r_54 kernelRun0_A.sl.r_52 kernelRun0_A.sl.r_50
  simp only [r_2_eq, v380_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_59_eq : (kernelRun0_A.sl.r_59 (F := F) c arg2 harg2 arg3 harg3 arg4 harg4 arg5 harg5 arg17 x0 x1 x2 x3)
    = sWk x0 x1 x2 x3 (k0_pay4 (F := F)) 3 := by
  unfold kernelRun0_A.sl.r_59 kernelRun0_A.sl.r_54 kernelRun0_A.sl.r_52 kernelRun0_A.sl.r_50
  simp only [r_2_eq, v380_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem m_piece3 : k0_pay99 (kernelRun0_A.sl.r_50 (F := F) c arg2 harg2 arg3 harg3 arg4 harg4 arg5 harg5 x0 x1 x2 x3) (kernelRun0_A.sl.r_52 (F := F) c arg2 harg2 arg3 harg3 arg4 harg4 arg5 harg5 x0 x1 x2 x3) (kernelRun0_A.sl.r_54 (F := F) c arg2 harg2 arg3 harg3 arg4 harg4 arg5 harg5 arg17 x0 x1 x2 x3)
    = sMn x0 x1 x2 x3 (k0_pay4 (F := F)) 3 := by
  unfold kernelRun0_A.sl.r_54 kernelRun0_A.sl.r_52 kernelRun0_A.sl.r_50
  simp only [r_2_eq, v380_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_10_eq : (kernelRun0_A.sl.r_10 (F := F) c arg2 harg2 arg3 harg3 arg4 harg4 arg6 harg6 arg7 harg7 arg18 x0 x1 x2 x4 x5)
    = cols (sXc x0 x1 x2 x4 x5 (k0_pay5 (F := F))) 0 := by
  unfold kernelRun0_A.sl.r_10 kernelRun0_A.sl.r_8
  simp only [r_1_eq, v53_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_11_eq : (kernelRun0_A.sl.r_11 (F := F) c arg2 harg2 arg3 harg3 arg4 harg4 arg6 harg6 arg7 harg7 arg8 harg8 arg18 x0 x1 x2 x4 x5 x6)
    = sQ x0 x1 x2 x4 x5 x6 (k0_pay5 (F := F)) 0 := by
  unfold kernelRun0_A.sl.r_11 kernelRun0_A.sl.r_8
  simp only [r_1_eq, v53_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_60_eq : (kernelRun0_A.sl.r_60 (F := F) c arg2 harg2 arg3 harg3 arg4 harg4 arg6 harg6 arg7 harg7 arg9 harg9 arg18 x0 x1 x2 x4 x5 x7)
    = sK x0 x1 x2 x4 x5 x7 (k0_pay5 (F := F)) 0 := by
  unfold kernelRun0_A.sl.r_60 kernelRun0_A.sl.r_12 kernelRun0_A.sl.r_8
  simp only [r_1_eq, v53_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_61_eq : (kernelRun0_A.sl.r_61 (F := F) c arg2 harg2 arg3 harg3 arg4 harg4 arg10 harg10 x0 x1 x2 x8)
    = truncf .bf16 (sV x0 x1 x2 x8 0) bitsLt_bf16_f32 := by
  unfold kernelRun0_A.sl.r_61 kernelRun0_A.sl.r_3
  simp only [View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_76_eq : (kernelRun0_A.sl.r_76 (F := F) c arg2 harg2 arg3 harg3 arg4 harg4 arg5 harg5 arg6 harg6 arg7 harg7 arg8 harg8 arg9 harg9 arg17 arg18 x0 x1 x2 x3 x4 x5 x6 x7)
    = sS x0 x1 x2 x3 x4 x5 x6 x7 (k0_pay4 (F := F)) (k0_pay5 (F := F)) 0 := by
  unfold kernelRun0_A.sl.r_76 kernelRun0_A.sl.r_62 kernelRun0_A.sl.r_12 kernelRun0_A.sl.r_8
  simp only [r_26_eq, r_11_eq, r_1_eq, v53_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_13_eq : (kernelRun0_A.sl.r_13 (F := F) c arg2 harg2 arg3 harg3 arg4 harg4 arg6 harg6 arg7 harg7 arg18 x0 x1 x2 x4 x5)
    = cols (sXc x0 x1 x2 x4 x5 (k0_pay5 (F := F))) 1 := by
  unfold kernelRun0_A.sl.r_13 kernelRun0_A.sl.r_8
  simp only [r_1_eq, v53_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_14_eq : (kernelRun0_A.sl.r_14 (F := F) c arg2 harg2 arg3 harg3 arg4 harg4 arg6 harg6 arg7 harg7 arg8 harg8 arg18 x0 x1 x2 x4 x5 x6)
    = sQ x0 x1 x2 x4 x5 x6 (k0_pay5 (F := F)) 1 := by
  unfold kernelRun0_A.sl.r_14 kernelRun0_A.sl.r_8
  simp only [r_1_eq, v53_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_64_eq : (kernelRun0_A.sl.r_64 (F := F) c arg2 harg2 arg3 harg3 arg4 harg4 arg6 harg6 arg7 harg7 arg9 harg9 arg18 x0 x1 x2 x4 x5 x7)
    = sK x0 x1 x2 x4 x5 x7 (k0_pay5 (F := F)) 1 := by
  unfold kernelRun0_A.sl.r_64 kernelRun0_A.sl.cst_154 kernelRun0_A.sl.r_15 kernelRun0_A.sl.r_8
  simp only [r_1_eq, v53_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_65_eq : (kernelRun0_A.sl.r_65 (F := F) c arg2 harg2 arg3 harg3 arg4 harg4 arg10 harg10 x0 x1 x2 x8)
    = truncf .bf16 (sV x0 x1 x2 x8 1) bitsLt_bf16_f32 := by
  unfold kernelRun0_A.sl.r_65 kernelRun0_A.sl.r_4
  simp only [r_1_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_81_eq : (kernelRun0_A.sl.r_81 (F := F) c arg2 harg2 arg3 harg3 arg4 harg4 arg5 harg5 arg6 harg6 arg7 harg7 arg8 harg8 arg9 harg9 arg17 arg18 x0 x1 x2 x3 x4 x5 x6 x7)
    = sS x0 x1 x2 x3 x4 x5 x6 x7 (k0_pay4 (F := F)) (k0_pay5 (F := F)) 1 := by
  unfold kernelRun0_A.sl.r_81 kernelRun0_A.sl.r_66 kernelRun0_A.sl.cst_154 kernelRun0_A.sl.r_15 kernelRun0_A.sl.r_8
  simp only [r_36_eq, r_14_eq, r_1_eq, v53_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_16_eq : (kernelRun0_A.sl.r_16 (F := F) c arg2 harg2 arg3 harg3 arg4 harg4 arg6 harg6 arg7 harg7 arg18 x0 x1 x2 x4 x5)
    = cols (sXc x0 x1 x2 x4 x5 (k0_pay5 (F := F))) 2 := by
  unfold kernelRun0_A.sl.r_16 kernelRun0_A.sl.r_8
  simp only [r_1_eq, v53_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_17_eq : (kernelRun0_A.sl.r_17 (F := F) c arg2 harg2 arg3 harg3 arg4 harg4 arg6 harg6 arg7 harg7 arg8 harg8 arg18 x0 x1 x2 x4 x5 x6)
    = sQ x0 x1 x2 x4 x5 x6 (k0_pay5 (F := F)) 2 := by
  unfold kernelRun0_A.sl.r_17
  simp only [r_16_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_68_eq : (kernelRun0_A.sl.r_68 (F := F) c arg2 harg2 arg3 harg3 arg4 harg4 arg6 harg6 arg7 harg7 arg9 harg9 arg18 x0 x1 x2 x4 x5 x7)
    = sK x0 x1 x2 x4 x5 x7 (k0_pay5 (F := F)) 2 := by
  unfold kernelRun0_A.sl.r_68 kernelRun0_A.sl.r_18
  simp only [r_16_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_69_eq : (kernelRun0_A.sl.r_69 (F := F) c arg2 harg2 arg3 harg3 arg4 harg4 arg10 harg10 x0 x1 x2 x8)
    = truncf .bf16 (sV x0 x1 x2 x8 2) bitsLt_bf16_f32 := by
  unfold kernelRun0_A.sl.r_69 kernelRun0_A.sl.r_5
  simp only [r_1_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_19_eq : (kernelRun0_A.sl.r_19 (F := F) c arg2 harg2 arg3 harg3 arg4 harg4 arg6 harg6 arg7 harg7 arg18 x0 x1 x2 x4 x5)
    = cols (sXc x0 x1 x2 x4 x5 (k0_pay5 (F := F))) 3 := by
  unfold kernelRun0_A.sl.r_19
  simp only [r_9_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_20_eq : (kernelRun0_A.sl.r_20 (F := F) c arg2 harg2 arg3 harg3 arg4 harg4 arg6 harg6 arg7 harg7 arg8 harg8 arg18 x0 x1 x2 x4 x5 x6)
    = sQ x0 x1 x2 x4 x5 x6 (k0_pay5 (F := F)) 3 := by
  unfold kernelRun0_A.sl.r_20
  simp only [r_9_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_72_eq : (kernelRun0_A.sl.r_72 (F := F) c arg2 harg2 arg3 harg3 arg4 harg4 arg6 harg6 arg7 harg7 arg9 harg9 arg18 x0 x1 x2 x4 x5 x7)
    = sK x0 x1 x2 x4 x5 x7 (k0_pay5 (F := F)) 3 := by
  unfold kernelRun0_A.sl.r_72 kernelRun0_A.sl.r_21
  simp only [r_9_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_73_eq : (kernelRun0_A.sl.r_73 (F := F) c arg2 harg2 arg3 harg3 arg4 harg4 arg10 harg10 x0 x1 x2 x8)
    = truncf .bf16 (sV x0 x1 x2 x8 3) bitsLt_bf16_f32 := by
  unfold kernelRun0_A.sl.r_73 kernelRun0_A.sl.r_6
  simp only [r_1_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_90_eq : (kernelRun0_A.sl.r_90 (F := F) c arg2 harg2 arg3 harg3 arg4 harg4 arg5 harg5 arg6 harg6 arg7 harg7 arg8 harg8 arg9 harg9 arg17 arg18 x0 x1 x2 x3 x4 x5 x6 x7)
    = sS x0 x1 x2 x3 x4 x5 x6 x7 (k0_pay4 (F := F)) (k0_pay5 (F := F)) 3 := by
  unfold kernelRun0_A.sl.r_90 kernelRun0_A.sl.r_74 kernelRun0_A.sl.r_21
  simp only [r_56_eq, r_20_eq, r_9_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem n_piece0 : k0_pay124 (kernelRun0_A.sl.r_28 (F := F) c arg2 harg2 arg3 harg3 arg4 harg4 arg5 harg5 arg17 x0 x1 x2 x3) (kernelRun0_A.sl.r_29 (F := F) c arg2 harg2 arg3 harg3 arg4 harg4 arg5 harg5 arg17 x0 x1 x2 x3) (kernelRun0_A.sl.r_60 (F := F) c arg2 harg2 arg3 harg3 arg4 harg4 arg6 harg6 arg7 harg7 arg9 harg9 arg18 x0 x1 x2 x4 x5 x7) (kernelRun0_A.sl.v460 (F := F) c arg16)
    = sNn x0 x1 x2 x3 x4 x5 x7 (k0_pay3 (F := F)) (k0_pay4 (F := F)) (k0_pay5 (F := F)) 0 := by
  simp only [r_28_eq, r_29_eq, r_60_eq, v460_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem c_piece0 : k0_pay147 (kernelRun0_A.sl.r_28 (F := F) c arg2 harg2 arg3 harg3 arg4 harg4 arg5 harg5 arg17 x0 x1 x2 x3) (kernelRun0_A.sl.r_80 (F := F) c arg2 harg2 arg3 harg3 arg4 harg4 arg5 harg5 arg6 harg6 arg7 harg7 arg9 harg9 arg10 harg10 arg17 arg18 x0 x1 x2 x3 x4 x5 x7 x8) (kernelRun0_A.sl.v425 (F := F) c arg15)
    = sCn x0 x1 x2 x3 x4 x5 x7 x8 (k0_pay2 (F := F)) (k0_pay4 (F := F)) (k0_pay5 (F := F)) 0 := by
  unfold kernelRun0_A.sl.r_80
  simp only [r_28_eq, r_29_eq, r_60_eq, r_61_eq, v425_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem n_piece1 : k0_pay131 (kernelRun0_A.sl.r_84 (F := F) c arg2 harg2 arg3 harg3 arg4 harg4 arg5 harg5 arg6 harg6 arg7 harg7 arg9 harg9 arg16 arg17 arg18 x0 x1 x2 x3 x4 x5 x7)
    = sNn x0 x1 x2 x3 x4 x5 x7 (k0_pay3 (F := F)) (k0_pay4 (F := F)) (k0_pay5 (F := F)) 1 := by
  unfold kernelRun0_A.sl.r_84
  simp only [r_38_eq, r_39_eq, r_64_eq, v487_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem c_piece1 : k0_pay153 (kernelRun0_A.sl.r_86 (F := F) c arg2 harg2 arg3 harg3 arg4 harg4 arg5 harg5 arg6 harg6 arg7 harg7 arg9 harg9 arg10 harg10 arg17 arg18 x0 x1 x2 x3 x4 x5 x7 x8) (kernelRun0_A.sl.r_97 (F := F) c arg2 harg2 arg3 harg3 arg4 harg4 arg5 harg5 arg6 harg6 arg7 harg7 arg9 harg9 arg10 harg10 arg15 arg17 arg18 x0 x1 x2 x3 x4 x5 x7 x8) (kernelRun0_A.sl.r_98 (F := F) c arg2 harg2 arg3 harg3 arg4 harg4 arg5 harg5 arg17 x0 x1 x2 x3)
    = sCn x0 x1 x2 x3 x4 x5 x7 x8 (k0_pay2 (F := F)) (k0_pay4 (F := F)) (k0_pay5 (F := F)) 1 := by
  unfold kernelRun0_A.sl.r_98 kernelRun0_A.sl.r_97 kernelRun0_A.sl.r_86 kernelRun0_A.sl.r_83
  simp only [r_65_eq, r_39_eq, r_64_eq, v623_eq, r_38_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem n_piece2 : k0_pay137 (kernelRun0_A.sl.r_47 (F := F) c arg2 harg2 arg3 harg3 arg4 harg4 arg5 harg5 arg17 x0 x1 x2 x3) (kernelRun0_A.sl.r_49 (F := F) c arg2 harg2 arg3 harg3 arg4 harg4 arg5 harg5 arg17 x0 x1 x2 x3) (kernelRun0_A.sl.r_68 (F := F) c arg2 harg2 arg3 harg3 arg4 harg4 arg6 harg6 arg7 harg7 arg9 harg9 arg18 x0 x1 x2 x4 x5 x7) (kernelRun0_A.sl.v514 (F := F) c arg2 harg2 arg3 harg3 arg4 harg4 arg5 harg5 arg6 harg6 arg7 harg7 arg9 harg9 arg16 arg17 arg18 x0 x1 x2 x3 x4 x5 x7)
    = sNn x0 x1 x2 x3 x4 x5 x7 (k0_pay3 (F := F)) (k0_pay4 (F := F)) (k0_pay5 (F := F)) 2 := by
  simp only [r_47_eq, r_49_eq, r_68_eq, v514_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem c_piece2 : k0_pay156 (kernelRun0_A.sl.r_47 (F := F) c arg2 harg2 arg3 harg3 arg4 harg4 arg5 harg5 arg17 x0 x1 x2 x3) (kernelRun0_A.sl.r_89 (F := F) c arg2 harg2 arg3 harg3 arg4 harg4 arg5 harg5 arg6 harg6 arg7 harg7 arg9 harg9 arg10 harg10 arg17 arg18 x0 x1 x2 x3 x4 x5 x7 x8) (kernelRun0_A.sl.v679 (F := F) c arg2 harg2 arg3 harg3 arg4 harg4 arg5 harg5 arg6 harg6 arg7 harg7 arg9 harg9 arg10 harg10 arg15 arg17 arg18 x0 x1 x2 x3 x4 x5 x7 x8)
    = sCn x0 x1 x2 x3 x4 x5 x7 x8 (k0_pay2 (F := F)) (k0_pay4 (F := F)) (k0_pay5 (F := F)) 2 := by
  unfold kernelRun0_A.sl.r_89
  simp only [r_47_eq, r_49_eq, r_68_eq, r_69_eq, v679_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem n_piece3 : k0_pay144 (kernelRun0_A.sl.r_58 (F := F) c arg2 harg2 arg3 harg3 arg4 harg4 arg5 harg5 arg17 x0 x1 x2 x3) (kernelRun0_A.sl.r_59 (F := F) c arg2 harg2 arg3 harg3 arg4 harg4 arg5 harg5 arg17 x0 x1 x2 x3) (kernelRun0_A.sl.r_72 (F := F) c arg2 harg2 arg3 harg3 arg4 harg4 arg6 harg6 arg7 harg7 arg9 harg9 arg18 x0 x1 x2 x4 x5 x7) (kernelRun0_A.sl.v541 (F := F) c arg2 harg2 arg3 harg3 arg4 harg4 arg5 harg5 arg6 harg6 arg7 harg7 arg9 harg9 arg16 arg17 arg18 x0 x1 x2 x3 x4 x5 x7)
    = sNn x0 x1 x2 x3 x4 x5 x7 (k0_pay3 (F := F)) (k0_pay4 (F := F)) (k0_pay5 (F := F)) 3 := by
  simp only [r_58_eq, r_59_eq, r_72_eq, v541_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem c_piece3 : k0_pay159 (kernelRun0_A.sl.r_58 (F := F) c arg2 harg2 arg3 harg3 arg4 harg4 arg5 harg5 arg17 x0 x1 x2 x3) (kernelRun0_A.sl.r_94 (F := F) c arg2 harg2 arg3 harg3 arg4 harg4 arg5 harg5 arg6 harg6 arg7 harg7 arg9 harg9 arg10 harg10 arg17 arg18 x0 x1 x2 x3 x4 x5 x7 x8) (kernelRun0_A.sl.v735 (F := F) c arg2 harg2 arg3 harg3 arg4 harg4 arg5 harg5 arg6 harg6 arg7 harg7 arg9 harg9 arg10 harg10 arg15 arg17 arg18 x0 x1 x2 x3 x4 x5 x7 x8)
    = sCn x0 x1 x2 x3 x4 x5 x7 x8 (k0_pay2 (F := F)) (k0_pay4 (F := F)) (k0_pay5 (F := F)) 3 := by
  unfold kernelRun0_A.sl.r_94
  simp only [r_58_eq, r_59_eq, r_72_eq, r_73_eq, v735_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_78_eq : (kernelRun0_A.sl.r_78 (F := F) c arg2 harg2 arg3 harg3 arg4 harg4 arg5 harg5 arg6 harg6 arg7 harg7 arg8 harg8 arg9 harg9 arg16 arg17 arg18 x0 x1 x2 x3 x4 x5 x6 x7)
    = sDen x0 x1 x2 x3 x4 x5 x6 x7 (k0_pay3 (F := F)) (k0_pay4 (F := F)) (k0_pay5 (F := F)) 0 := by
  unfold kernelRun0_A.sl.r_78 kernelRun0_A.sl.r_77
  simp only [r_76_eq, r_11_eq, r_27_eq, v460_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_95_eq : (kernelRun0_A.sl.r_95 (F := F) c arg2 harg2 arg3 harg3 arg4 harg4 arg5 harg5 arg6 harg6 arg7 harg7 arg8 harg8 arg9 harg9 arg10 harg10 arg15 arg17 arg18 x0 x1 x2 x3 x4 x5 x6 x7 x8)
    = sNum x0 x1 x2 x3 x4 x5 x6 x7 x8 (k0_pay2 (F := F)) (k0_pay4 (F := F)) (k0_pay5 (F := F)) 0 := by
  unfold kernelRun0_A.sl.r_95 kernelRun0_A.sl.r_79 kernelRun0_A.sl.r_63
  simp only [r_27_eq, r_11_eq, v425_eq, r_61_eq, r_76_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_82_eq : (kernelRun0_A.sl.r_82 (F := F) c arg2 harg2 arg3 harg3 arg4 harg4 arg5 harg5 arg6 harg6 arg7 harg7 arg8 harg8 arg9 harg9 arg16 arg17 arg18 x0 x1 x2 x3 x4 x5 x6 x7)
    = sDen x0 x1 x2 x3 x4 x5 x6 x7 (k0_pay3 (F := F)) (k0_pay4 (F := F)) (k0_pay5 (F := F)) 1 := by
  unfold kernelRun0_A.sl.r_82 kernelRun0_A.sl.r_66 kernelRun0_A.sl.cst_154 kernelRun0_A.sl.r_15 kernelRun0_A.sl.r_8
  simp only [r_14_eq, r_36_eq, r_37_eq, r_1_eq, v53_eq, v487_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_87_eq : (kernelRun0_A.sl.r_87 (F := F) c arg2 harg2 arg3 harg3 arg4 harg4 arg5 harg5 arg6 harg6 arg7 harg7 arg8 harg8 arg9 harg9 arg16 arg17 arg18 x0 x1 x2 x3 x4 x5 x6 x7)
    = sDen x0 x1 x2 x3 x4 x5 x6 x7 (k0_pay3 (F := F)) (k0_pay4 (F := F)) (k0_pay5 (F := F)) 2 := by
  unfold kernelRun0_A.sl.r_87 kernelRun0_A.sl.r_70 kernelRun0_A.sl.r_18
  simp only [r_17_eq, r_44_eq, r_45_eq, r_16_eq, v514_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_92_eq : (kernelRun0_A.sl.r_92 (F := F) c arg2 harg2 arg3 harg3 arg4 harg4 arg5 harg5 arg6 harg6 arg7 harg7 arg8 harg8 arg9 harg9 arg16 arg17 arg18 x0 x1 x2 x3 x4 x5 x6 x7)
    = sDen x0 x1 x2 x3 x4 x5 x6 x7 (k0_pay3 (F := F)) (k0_pay4 (F := F)) (k0_pay5 (F := F)) 3 := by
  unfold kernelRun0_A.sl.r_92 kernelRun0_A.sl.r_91
  simp only [r_20_eq, r_57_eq, r_90_eq, v541_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_100_eq : (kernelRun0_A.sl.r_100 (F := F) c arg2 harg2 arg3 harg3 arg4 harg4 arg5 harg5 arg6 harg6 arg7 harg7 arg8 harg8 arg9 harg9 arg10 harg10 arg15 arg16 arg17 arg18 x0 x1 x2 x3 x4 x5 x6 x7 x8)
    = headNorm (sH x0 x1 x2 x3 x4 x5 x6 x7 x8 (k0_pay2 (F := F)) (k0_pay3 (F := F)) (k0_pay4 (F := F)) (k0_pay5 (F := F)) 2) := by
  unfold kernelRun0_A.sl.r_100 kernelRun0_A.sl.r_88 kernelRun0_A.sl.r_70 kernelRun0_A.sl.r_18 kernelRun0_A.sl.r_71
  simp only [r_43_eq, r_45_eq, r_17_eq, v445_eq, r_87_eq, r_44_eq, r_69_eq, r_16_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_101_eq : (kernelRun0_A.sl.r_101 (F := F) c arg2 harg2 arg3 harg3 arg4 harg4 arg5 harg5 arg6 harg6 arg7 harg7 arg8 harg8 arg9 harg9 arg10 harg10 arg15 arg16 arg17 arg18 x0 x1 x2 x3 x4 x5 x6 x7 x8)
    = sH x0 x1 x2 x3 x4 x5 x6 x7 x8 (k0_pay2 (F := F)) (k0_pay3 (F := F)) (k0_pay4 (F := F)) (k0_pay5 (F := F)) 3 := by
  unfold kernelRun0_A.sl.r_101 kernelRun0_A.sl.r_93 kernelRun0_A.sl.r_75
  simp only [r_55_eq, r_57_eq, r_20_eq, v455_eq, r_92_eq, r_73_eq, r_90_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem y_piece0 : k0_pay150 (kernelRun0_A.sl.r_7 (F := F) c arg2 harg2 arg3 harg3 arg4 harg4 x0 x1 x2) (kernelRun0_A.sl.r_10 (F := F) c arg2 harg2 arg3 harg3 arg4 harg4 arg6 harg6 arg7 harg7 arg18 x0 x1 x2 x4 x5) (kernelRun0_A.sl.r_95 (F := F) c arg2 harg2 arg3 harg3 arg4 harg4 arg5 harg5 arg6 harg6 arg7 harg7 arg8 harg8 arg9 harg9 arg10 harg10 arg15 arg17 arg18 x0 x1 x2 x3 x4 x5 x6 x7 x8) (kernelRun0_A.sl.r_96 (F := F) c arg2 harg2 arg3 harg3 arg4 harg4 arg5 harg5 arg6 harg6 arg7 harg7 arg8 harg8 arg9 harg9 arg16 arg17 arg18 x0 x1 x2 x3 x4 x5 x6 x7) (rowAt x9 0) (rowAt x10 0)
    = sY x0 x1 x2 x3 x4 x5 x6 x7 x8 x9 x10 (k0_pay2 (F := F)) (k0_pay3 (F := F)) (k0_pay4 (F := F)) (k0_pay5 (F := F)) 0 := by
  unfold kernelRun0_A.sl.r_96
  simp only [r_7_eq, r_10_eq, r_95_eq, r_25_eq, r_78_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem y_piece1 : k0_pay155 (kernelRun0_A.sl.r_13 (F := F) c arg2 harg2 arg3 harg3 arg4 harg4 arg6 harg6 arg7 harg7 arg18 x0 x1 x2 x4 x5) (kernelRun0_A.sl.r_99 (F := F) c arg2 harg2 arg3 harg3 arg4 harg4 arg5 harg5 arg6 harg6 arg7 harg7 arg8 harg8 arg9 harg9 arg10 harg10 arg11 harg11 arg15 arg16 arg17 arg18 x0 x1 x2 x3 x4 x5 x6 x7 x8 x9) (rowAt x10 1)
    = sY x0 x1 x2 x3 x4 x5 x6 x7 x8 x9 x10 (k0_pay2 (F := F)) (k0_pay3 (F := F)) (k0_pay4 (F := F)) (k0_pay5 (F := F)) 1 := by
  unfold kernelRun0_A.sl.r_99 kernelRun0_A.sl.r_85 kernelRun0_A.sl.r_67
  simp only [r_13_eq, r_7_eq, r_35_eq, r_37_eq, r_14_eq, v435_eq, r_82_eq, r_65_eq, r_81_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem y_piece2 : k0_pay158 (kernelRun0_A.sl.r_7 (F := F) c arg2 harg2 arg3 harg3 arg4 harg4 x0 x1 x2) (kernelRun0_A.sl.r_16 (F := F) c arg2 harg2 arg3 harg3 arg4 harg4 arg6 harg6 arg7 harg7 arg18 x0 x1 x2 x4 x5) (kernelRun0_A.sl.r_100 (F := F) c arg2 harg2 arg3 harg3 arg4 harg4 arg5 harg5 arg6 harg6 arg7 harg7 arg8 harg8 arg9 harg9 arg10 harg10 arg15 arg16 arg17 arg18 x0 x1 x2 x3 x4 x5 x6 x7 x8) (rowAt x9 2) (rowAt x10 2)
    = sY x0 x1 x2 x3 x4 x5 x6 x7 x8 x9 x10 (k0_pay2 (F := F)) (k0_pay3 (F := F)) (k0_pay4 (F := F)) (k0_pay5 (F := F)) 2 := by
  simp only [r_7_eq, r_16_eq, r_100_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem y_piece3 : k0_pay162 (kernelRun0_A.sl.r_7 (F := F) c arg2 harg2 arg3 harg3 arg4 harg4 x0 x1 x2) (kernelRun0_A.sl.r_19 (F := F) c arg2 harg2 arg3 harg3 arg4 harg4 arg6 harg6 arg7 harg7 arg18 x0 x1 x2 x4 x5) (kernelRun0_A.sl.r_101 (F := F) c arg2 harg2 arg3 harg3 arg4 harg4 arg5 harg5 arg6 harg6 arg7 harg7 arg8 harg8 arg9 harg9 arg10 harg10 arg15 arg16 arg17 arg18 x0 x1 x2 x3 x4 x5 x6 x7 x8) (kernelRun0_A.sl.r_102 (F := F) c arg2 harg2 arg3 harg3 arg4 harg4 arg5 harg5 arg6 harg6 arg7 harg7 arg8 harg8 arg9 harg9 arg10 harg10 arg15 arg16 arg17 arg18 x0 x1 x2 x3 x4 x5 x6 x7 x8) (rowAt x9 3) (rowAt x10 3)
    = sY x0 x1 x2 x3 x4 x5 x6 x7 x8 x9 x10 (k0_pay2 (F := F)) (k0_pay3 (F := F)) (k0_pay4 (F := F)) (k0_pay5 (F := F)) 3 := by
  unfold kernelRun0_A.sl.r_102 kernelRun0_A.sl.r_93 kernelRun0_A.sl.r_75
  simp only [r_7_eq, r_19_eq, r_101_eq, r_55_eq, r_57_eq, r_20_eq, v455_eq, r_92_eq, r_73_eq, r_90_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem v793_eq : (kernelRun0_A.sl.v793 (F := F) c arg2 harg2 arg3 harg3 arg4 harg4 arg5 harg5 arg6 harg6 arg7 harg7 arg8 harg8 arg9 harg9 arg10 harg10 arg11 harg11 arg12 harg12 arg15 arg16 arg17 arg18 arg19 x0 x1 x2 x3 x4 x5 x6 x7 x8 x9 x10)
    = yAll fun hd => sY x0 x1 x2 x3 x4 x5 x6 x7 x8 x9 x10 (k0_pay2 (F := F)) (k0_pay3 (F := F)) (k0_pay4 (F := F)) (k0_pay5 (F := F)) hd := by
  unfold kernelRun0_A.sl.v793 kernelRun0_A.sl.HS4_4
  rw [View.readCov_eq_canon']
  simp only [View.readAt_eq_ld, Memref.IsWhole.read_unread]
  refine (View.ld_unit_zero (S := S256x2048) hz2 _ _).trans ?_
  unfold yAll
  refine congrArg View.canon (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl))))
  · exact y_piece3 ..
  · exact y_piece2 ..
  · exact y_piece1 ..
  · exact y_piece0 ..

theorem out_eq : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11
    = sOut x0 x1 x2 x3 x4 x5 x6 x7 x8 x9 x10 x11 (k0_pay2 (F := F)) (k0_pay3 (F := F)) (k0_pay4 (F := F)) (k0_pay5 (F := F)) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11)]
  unfold kernelRun0_A
  dsimp only
  rw [View.canon_unit_zero (S := S1x256x1024) hz3]
  unfold kernelRun0_A.sl.r_103
  rw [v793_eq]
  simp only [View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem sout0_eq : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11
    = pileC (fun hd => sCn x0 x1 x2 x3 x4 x5 x7 x8 (k0_pay2 (F := F)) (k0_pay4 (F := F)) (k0_pay5 (F := F)) hd) [⟨Rect.unit ![0, 0, 0] S4x512x512.size inb_S4x512x512_S4x512x512_0_0_0, (k0_pay2 (F := F))⟩] := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11)]
  unfold kernelRun0_A pileC
  dsimp only
  unfold kernelRun0_A.sl.HS0_4 kernelRun0_A.sl.HS0_3 kernelRun0_A.sl.HS0_2 kernelRun0_A.sl.HS0_1
  refine congrArg View.canon (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl))))
  · exact c_piece3 ..
  · exact c_piece2 ..
  · exact c_piece1 ..
  · exact c_piece0 ..

theorem sout1_eq : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11
    = pileN (fun hd => sNn x0 x1 x2 x3 x4 x5 x7 (k0_pay3 (F := F)) (k0_pay4 (F := F)) (k0_pay5 (F := F)) hd) [⟨Rect.unit ![0, 0, 0] S4x1x512.size inb_S4x1x512_S4x1x512_0_0_0, (k0_pay3 (F := F))⟩] := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11)]
  unfold kernelRun0_A pileN
  dsimp only
  unfold kernelRun0_A.sl.HS1_4 kernelRun0_A.sl.HS1_3 kernelRun0_A.sl.HS1_2 kernelRun0_A.sl.HS1_1
  refine congrArg View.canon (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl))))
  · exact n_piece3 ..
  · exact n_piece2 ..
  · exact n_piece1 ..
  · exact n_piece0 ..

theorem sout2_eq : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11
    = pileM (fun hd => sMn x0 x1 x2 x3 (k0_pay4 (F := F)) hd) [⟨Rect.unit ![0, 0, 0] S4x1x128.size inb_S4x1x128_S4x1x128_0_0_0, (k0_pay4 (F := F))⟩] := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11)]
  unfold kernelRun0_A pileM
  dsimp only
  unfold kernelRun0_A.sl.HS2_4 kernelRun0_A.sl.HS2_3 kernelRun0_A.sl.HS2_2 kernelRun0_A.sl.HS2_1
  refine congrArg View.canon (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl))))
  · exact m_piece3 ..
  · exact m_piece2 ..
  · exact m_piece1 ..
  · exact m_piece0 ..

theorem sout3_eq : sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11
    = sXp x0 x1 x2 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11)]
  unfold kernelRun0_A
  dsimp only
  rw [View.canon_cons_unit_zero (S := S8x2048) hz2, r_1_eq]
  rfl

end Cert.KernelIdeal.MlA

end
-- ==== Proof.MlRunB.lean ====
/-
  The run's found term at a grid point inside a sequence, cut into the stages of `MlTerm`.
-/
module

public import proofs.«01_k».proof.Proof.MlTerm

@[expose] public section

set_option maxRecDepth 16384

noncomputable section

open Idealize.ShloMosaic Idealize.ShloMosaic.TcCoe Idealize.SL.Sem

namespace Cert.KernelIdeal.MlB

open Cert.KernelIdeal Cert.KernelIdeal.Gen Cert.KernelIdeal.Ml

variable {F : FTy → Type} [FloatOps F] [Named F]

variable (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4104 .bf16) (harg4 : arg4.IsWhole) (arg5 : Memref sig .tc .vmem S1x8 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S4x512x512 .bf16) (harg8 : arg8.IsWhole) (arg9 : Memref sig .tc .vmem S4x512x512 .bf16) (harg9 : arg9.IsWhole) (arg10 : Memref sig .tc .vmem S4x512x512 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S2048x1024 .bf16) (harg13 : arg13.IsWhole) (arg14 : Memref sig .tc .vmem S1x256x1024 .f32) (harg14 : arg14.IsWhole) (arg15 : Memref sig .tc .vmem S4x512x512 .f32) (harg15 : arg15.IsWhole) (arg16 : Memref sig .tc .vmem S4x1x512 .f32) (harg16 : arg16.IsWhole) (arg17 : Memref sig .tc .vmem S4x1x128 .f32) (harg17 : arg17.IsWhole) (arg18 : Memref sig .tc .vmem S8x2048 .f32) (harg18 : arg18.IsWhole) (arg19 : Memref sig .tc .vmem S256x2048 .bf16) (harg19 : arg19.IsWhole) (hc0 : ¬cond0_0 i)
       (x0 : Vec F S1x256x1024 .f32) (x1 : Vec F S1x1024 .f32) (x2 : Vec F S1024x4104 .bf16) (x3 : Vec F S1x8 .f32) (x4 : Vec F S4x2048 .f32) (x5 : Vec F S1x2048 .f32) (x6 : Vec F S4x512x512 .bf16) (x7 : Vec F S4x512x512 .bf16) (x8 : Vec F S4x512x512 .bf16) (x9 : Vec F S1x2048 .f32) (x10 : Vec F S1x2048 .f32) (x11 : Vec F S2048x1024 .bf16) (xs0 : Vec F S4x512x512 .f32) (xs1 : Vec F S4x1x512 .f32) (xs2 : Vec F S4x1x128 .f32) (xs3 : Vec F S8x2048 .f32)

theorem r_1_eq : (kernelRun0_B.sl.r_1 (F := F) c arg2 harg2 arg3 harg3 arg4 harg4 x0 x1 x2)
    = sXm x0 x1 x2 := by
  unfold kernelRun0_B.sl.r_1
  simp only [View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_2_eq : (kernelRun0_B.sl.r_2 (F := F) c arg2 harg2 arg3 harg3 arg4 harg4 arg5 harg5 x0 x1 x2 x3)
    = sGates x0 x1 x2 x3 := by
  unfold kernelRun0_B.sl.r_2
  simp only [View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_7_eq : (kernelRun0_B.sl.r_7 (F := F) c arg2 harg2 arg3 harg3 arg4 harg4 x0 x1 x2)
    = sO x0 x1 x2 := by
  unfold kernelRun0_B.sl.r_7 kernelRun0_B.sl.r
  simp only [View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_9_eq : (kernelRun0_B.sl.r_9 (F := F) c arg2 harg2 arg3 harg3 arg4 harg4 arg6 harg6 arg7 harg7 arg18 harg18 x0 x1 x2 x4 x5 xs3)
    = sXc x0 x1 x2 x4 x5 xs3 := by
  unfold kernelRun0_B.sl.r_9 kernelRun0_B.sl.r_8
  simp only [r_1_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_25_eq : (kernelRun0_B.sl.r_25 (F := F) c arg2 harg2 arg3 harg3 arg4 harg4 arg5 harg5 arg17 harg17 x0 x1 x2 x3 xs2)
    = sM x0 x1 x2 x3 xs2 0 := by
  unfold kernelRun0_B.sl.r_25 kernelRun0_B.sl.cst_78 kernelRun0_B.sl.r_24 kernelRun0_B.sl.r_23
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_26_eq : (kernelRun0_B.sl.r_26 (F := F) c arg2 harg2 arg3 harg3 arg4 harg4 arg5 harg5 arg17 harg17 x0 x1 x2 x3 xs2)
    = sWi x0 x1 x2 x3 xs2 0 := by
  unfold kernelRun0_B.sl.r_26 kernelRun0_B.sl.cst_78 kernelRun0_B.sl.r_24 kernelRun0_B.sl.r_23
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_27_eq : (kernelRun0_B.sl.r_27 (F := F) c arg2 harg2 arg3 harg3 arg4 harg4 arg5 harg5 arg17 harg17 x0 x1 x2 x3 xs2)
    = sWr x0 x1 x2 x3 xs2 0 := by
  unfold kernelRun0_B.sl.r_27 kernelRun0_B.sl.cst_78 kernelRun0_B.sl.r_24 kernelRun0_B.sl.r_23
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_28_eq : (kernelRun0_B.sl.r_28 (F := F) c arg2 harg2 arg3 harg3 arg4 harg4 arg5 harg5 arg17 harg17 x0 x1 x2 x3 xs2)
    = sDc x0 x1 x2 x3 xs2 0 := by
  unfold kernelRun0_B.sl.r_28 kernelRun0_B.sl.cst_78 kernelRun0_B.sl.r_24 kernelRun0_B.sl.r_22
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_29_eq : (kernelRun0_B.sl.r_29 (F := F) c arg2 harg2 arg3 harg3 arg4 harg4 arg5 harg5 arg17 harg17 x0 x1 x2 x3 xs2)
    = sWk x0 x1 x2 x3 xs2 0 := by
  unfold kernelRun0_B.sl.r_29 kernelRun0_B.sl.cst_78 kernelRun0_B.sl.r_24 kernelRun0_B.sl.r_22
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem m_piece0 : k0_pay51 (kernelRun0_B.sl.r_30 (F := F) c arg2 harg2 arg3 harg3 arg4 harg4 arg5 harg5 arg17 harg17 x0 x1 x2 x3 xs2)
    = sMn x0 x1 x2 x3 xs2 0 := by
  unfold kernelRun0_B.sl.r_30 kernelRun0_B.sl.cst_78 kernelRun0_B.sl.r_24 kernelRun0_B.sl.r_22
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_35_eq : (kernelRun0_B.sl.r_35 (F := F) c arg2 harg2 arg3 harg3 arg4 harg4 arg5 harg5 arg17 harg17 x0 x1 x2 x3 xs2)
    = sM x0 x1 x2 x3 xs2 1 := by
  unfold kernelRun0_B.sl.r_35 kernelRun0_B.sl.cst_104 kernelRun0_B.sl.r_34 kernelRun0_B.sl.r_33 kernelRun0_B.sl.v234 kernelRun0_B.sl.r_32
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_36_eq : (kernelRun0_B.sl.r_36 (F := F) c arg2 harg2 arg3 harg3 arg4 harg4 arg5 harg5 arg17 harg17 x0 x1 x2 x3 xs2)
    = sWi x0 x1 x2 x3 xs2 1 := by
  unfold kernelRun0_B.sl.r_36 kernelRun0_B.sl.cst_104 kernelRun0_B.sl.r_34 kernelRun0_B.sl.r_33 kernelRun0_B.sl.v234 kernelRun0_B.sl.r_32
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_37_eq : (kernelRun0_B.sl.r_37 (F := F) c arg2 harg2 arg3 harg3 arg4 harg4 arg5 harg5 arg17 harg17 x0 x1 x2 x3 xs2)
    = sWr x0 x1 x2 x3 xs2 1 := by
  unfold kernelRun0_B.sl.r_37 kernelRun0_B.sl.cst_104 kernelRun0_B.sl.r_34 kernelRun0_B.sl.r_33 kernelRun0_B.sl.v234 kernelRun0_B.sl.r_32
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_38_eq : (kernelRun0_B.sl.r_38 (F := F) c arg2 harg2 arg3 harg3 arg4 harg4 arg5 harg5 arg17 harg17 x0 x1 x2 x3 xs2)
    = sDc x0 x1 x2 x3 xs2 1 := by
  unfold kernelRun0_B.sl.r_38 kernelRun0_B.sl.r_33 kernelRun0_B.sl.v234 kernelRun0_B.sl.r_32 kernelRun0_B.sl.r_31
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_39_eq : (kernelRun0_B.sl.r_39 (F := F) c arg2 harg2 arg3 harg3 arg4 harg4 arg5 harg5 arg17 harg17 x0 x1 x2 x3 xs2)
    = sWk x0 x1 x2 x3 xs2 1 := by
  unfold kernelRun0_B.sl.r_39 kernelRun0_B.sl.r_33 kernelRun0_B.sl.v234 kernelRun0_B.sl.r_32 kernelRun0_B.sl.r_31
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem m_piece1 : k0_pay66 (kernelRun0_B.sl.r_31 (F := F) c arg2 harg2 arg3 harg3 arg4 harg4 arg5 harg5 x0 x1 x2 x3) (kernelRun0_B.sl.r_32 (F := F) c arg2 harg2 arg3 harg3 arg4 harg4 arg5 harg5 x0 x1 x2 x3) (kernelRun0_B.sl.r_33 (F := F) c arg17 harg17 xs2)
    = sMn x0 x1 x2 x3 xs2 1 := by
  unfold kernelRun0_B.sl.r_33 kernelRun0_B.sl.v234 kernelRun0_B.sl.r_32 kernelRun0_B.sl.r_31
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_43_eq : (kernelRun0_B.sl.r_43 (F := F) c arg2 harg2 arg3 harg3 arg4 harg4 arg5 harg5 arg17 harg17 x0 x1 x2 x3 xs2)
    = sM x0 x1 x2 x3 xs2 2 := by
  unfold kernelRun0_B.sl.r_43 kernelRun0_B.sl.v307 kernelRun0_B.sl.r_42 kernelRun0_B.sl.cst_78 kernelRun0_B.sl.r_41
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_44_eq : (kernelRun0_B.sl.r_44 (F := F) c arg2 harg2 arg3 harg3 arg4 harg4 arg5 harg5 arg17 harg17 x0 x1 x2 x3 xs2)
    = sWi x0 x1 x2 x3 xs2 2 := by
  unfold kernelRun0_B.sl.r_44 kernelRun0_B.sl.v307 kernelRun0_B.sl.r_42 kernelRun0_B.sl.cst_78 kernelRun0_B.sl.r_41
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_45_eq : (kernelRun0_B.sl.r_45 (F := F) c arg2 harg2 arg3 harg3 arg4 harg4 arg5 harg5 arg17 harg17 x0 x1 x2 x3 xs2)
    = sWr x0 x1 x2 x3 xs2 2 := by
  unfold kernelRun0_B.sl.r_45 kernelRun0_B.sl.v307 kernelRun0_B.sl.r_42 kernelRun0_B.sl.cst_78 kernelRun0_B.sl.r_41
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_47_eq : (kernelRun0_B.sl.r_47 (F := F) c arg2 harg2 arg3 harg3 arg4 harg4 arg5 harg5 arg17 harg17 x0 x1 x2 x3 xs2)
    = sDc x0 x1 x2 x3 xs2 2 := by
  unfold kernelRun0_B.sl.r_47 kernelRun0_B.sl.v307 kernelRun0_B.sl.r_42 kernelRun0_B.sl.cst_78 kernelRun0_B.sl.r_40
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_49_eq : (kernelRun0_B.sl.r_49 (F := F) c arg2 harg2 arg3 harg3 arg4 harg4 arg5 harg5 arg17 harg17 x0 x1 x2 x3 xs2)
    = sWk x0 x1 x2 x3 xs2 2 := by
  unfold kernelRun0_B.sl.r_49 kernelRun0_B.sl.r_48 kernelRun0_B.sl.v307 kernelRun0_B.sl.r_42 kernelRun0_B.sl.cst_78 kernelRun0_B.sl.r_40
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem m_piece2 : k0_pay83 (kernelRun0_B.sl.r_46 (F := F) c arg2 harg2 arg3 harg3 arg4 harg4 arg5 harg5 arg17 harg17 x0 x1 x2 x3 xs2)
    = sMn x0 x1 x2 x3 xs2 2 := by
  unfold kernelRun0_B.sl.r_46 kernelRun0_B.sl.v307 kernelRun0_B.sl.r_42 kernelRun0_B.sl.cst_78 kernelRun0_B.sl.r_40
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_55_eq : (kernelRun0_B.sl.r_55 (F := F) c arg2 harg2 arg3 harg3 arg4 harg4 arg5 harg5 arg17 harg17 x0 x1 x2 x3 xs2)
    = sM x0 x1 x2 x3 xs2 3 := by
  unfold kernelRun0_B.sl.r_55 kernelRun0_B.sl.r_54 kernelRun0_B.sl.v380 kernelRun0_B.sl.r_53 kernelRun0_B.sl.r_52 kernelRun0_B.sl.r_51
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_56_eq : (kernelRun0_B.sl.r_56 (F := F) c arg2 harg2 arg3 harg3 arg4 harg4 arg5 harg5 arg17 harg17 x0 x1 x2 x3 xs2)
    = sWi x0 x1 x2 x3 xs2 3 := by
  unfold kernelRun0_B.sl.r_56 kernelRun0_B.sl.r_54 kernelRun0_B.sl.v380 kernelRun0_B.sl.r_53 kernelRun0_B.sl.r_52 kernelRun0_B.sl.r_51
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_57_eq : (kernelRun0_B.sl.r_57 (F := F) c arg2 harg2 arg3 harg3 arg4 harg4 arg5 harg5 arg17 harg17 x0 x1 x2 x3 xs2)
    = sWr x0 x1 x2 x3 xs2 3 := by
  unfold kernelRun0_B.sl.r_57 kernelRun0_B.sl.r_54 kernelRun0_B.sl.v380 kernelRun0_B.sl.r_53 kernelRun0_B.sl.r_52 kernelRun0_B.sl.r_51
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_58_eq : (kernelRun0_B.sl.r_58 (F := F) c arg2 harg2 arg3 harg3 arg4 harg4 arg5 harg5 arg17 harg17 x0 x1 x2 x3 xs2)
    = sDc x0 x1 x2 x3 xs2 3 := by
  unfold kernelRun0_B.sl.r_58 kernelRun0_B.sl.r_54 kernelRun0_B.sl.v380 kernelRun0_B.sl.r_52 kernelRun0_B.sl.r_50
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_59_eq : (kernelRun0_B.sl.r_59 (F := F) c arg2 harg2 arg3 harg3 arg4 harg4 arg5 harg5 arg17 harg17 x0 x1 x2 x3 xs2)
    = sWk x0 x1 x2 x3 xs2 3 := by
  unfold kernelRun0_B.sl.r_59 kernelRun0_B.sl.r_54 kernelRun0_B.sl.v380 kernelRun0_B.sl.r_52 kernelRun0_B.sl.r_50
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem m_piece3 : k0_pay99 (kernelRun0_B.sl.r_50 (F := F) c arg2 harg2 arg3 harg3 arg4 harg4 arg5 harg5 x0 x1 x2 x3) (kernelRun0_B.sl.r_52 (F := F) c arg2 harg2 arg3 harg3 arg4 harg4 arg5 harg5 x0 x1 x2 x3) (kernelRun0_B.sl.r_54 (F := F) c arg17 harg17 xs2)
    = sMn x0 x1 x2 x3 xs2 3 := by
  unfold kernelRun0_B.sl.r_54 kernelRun0_B.sl.v380 kernelRun0_B.sl.r_52 kernelRun0_B.sl.r_50
  simp only [r_2_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_10_eq : (kernelRun0_B.sl.r_10 (F := F) c arg2 harg2 arg3 harg3 arg4 harg4 arg6 harg6 arg7 harg7 arg18 harg18 x0 x1 x2 x4 x5 xs3)
    = cols (sXc x0 x1 x2 x4 x5 xs3) 0 := by
  unfold kernelRun0_B.sl.r_10 kernelRun0_B.sl.r_8
  simp only [r_1_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_11_eq : (kernelRun0_B.sl.r_11 (F := F) c arg2 harg2 arg3 harg3 arg4 harg4 arg6 harg6 arg7 harg7 arg8 harg8 arg18 harg18 x0 x1 x2 x4 x5 x6 xs3)
    = sQ x0 x1 x2 x4 x5 x6 xs3 0 := by
  unfold kernelRun0_B.sl.r_11 kernelRun0_B.sl.r_8
  simp only [r_1_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_60_eq : (kernelRun0_B.sl.r_60 (F := F) c arg2 harg2 arg3 harg3 arg4 harg4 arg6 harg6 arg7 harg7 arg9 harg9 arg18 harg18 x0 x1 x2 x4 x5 x7 xs3)
    = sK x0 x1 x2 x4 x5 x7 xs3 0 := by
  unfold kernelRun0_B.sl.r_60 kernelRun0_B.sl.r_12 kernelRun0_B.sl.r_8
  simp only [r_1_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_61_eq : (kernelRun0_B.sl.r_61 (F := F) c arg2 harg2 arg3 harg3 arg4 harg4 arg10 harg10 x0 x1 x2 x8)
    = truncf .bf16 (sV x0 x1 x2 x8 0) bitsLt_bf16_f32 := by
  unfold kernelRun0_B.sl.r_61 kernelRun0_B.sl.r_3
  simp only [View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_76_eq : (kernelRun0_B.sl.r_76 (F := F) c arg2 harg2 arg3 harg3 arg4 harg4 arg5 harg5 arg6 harg6 arg7 harg7 arg8 harg8 arg9 harg9 arg17 harg17 arg18 harg18 x0 x1 x2 x3 x4 x5 x6 x7 xs2 xs3)
    = sS x0 x1 x2 x3 x4 x5 x6 x7 xs2 xs3 0 := by
  unfold kernelRun0_B.sl.r_76 kernelRun0_B.sl.r_62 kernelRun0_B.sl.r_12 kernelRun0_B.sl.r_8
  simp only [r_26_eq, r_11_eq, r_1_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_13_eq : (kernelRun0_B.sl.r_13 (F := F) c arg2 harg2 arg3 harg3 arg4 harg4 arg6 harg6 arg7 harg7 arg18 harg18 x0 x1 x2 x4 x5 xs3)
    = cols (sXc x0 x1 x2 x4 x5 xs3) 1 := by
  unfold kernelRun0_B.sl.r_13 kernelRun0_B.sl.r_8
  simp only [r_1_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_14_eq : (kernelRun0_B.sl.r_14 (F := F) c arg2 harg2 arg3 harg3 arg4 harg4 arg6 harg6 arg7 harg7 arg8 harg8 arg18 harg18 x0 x1 x2 x4 x5 x6 xs3)
    = sQ x0 x1 x2 x4 x5 x6 xs3 1 := by
  unfold kernelRun0_B.sl.r_14 kernelRun0_B.sl.r_8
  simp only [r_1_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_64_eq : (kernelRun0_B.sl.r_64 (F := F) c arg2 harg2 arg3 harg3 arg4 harg4 arg6 harg6 arg7 harg7 arg9 harg9 arg18 harg18 x0 x1 x2 x4 x5 x7 xs3)
    = sK x0 x1 x2 x4 x5 x7 xs3 1 := by
  unfold kernelRun0_B.sl.r_64 kernelRun0_B.sl.cst_154 kernelRun0_B.sl.r_15 kernelRun0_B.sl.r_8
  simp only [r_1_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_65_eq : (kernelRun0_B.sl.r_65 (F := F) c arg2 harg2 arg3 harg3 arg4 harg4 arg10 harg10 x0 x1 x2 x8)
    = truncf .bf16 (sV x0 x1 x2 x8 1) bitsLt_bf16_f32 := by
  unfold kernelRun0_B.sl.r_65 kernelRun0_B.sl.r_4
  simp only [r_1_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_81_eq : (kernelRun0_B.sl.r_81 (F := F) c arg2 harg2 arg3 harg3 arg4 harg4 arg5 harg5 arg6 harg6 arg7 harg7 arg8 harg8 arg9 harg9 arg17 harg17 arg18 harg18 x0 x1 x2 x3 x4 x5 x6 x7 xs2 xs3)
    = sS x0 x1 x2 x3 x4 x5 x6 x7 xs2 xs3 1 := by
  unfold kernelRun0_B.sl.r_81 kernelRun0_B.sl.r_66 kernelRun0_B.sl.cst_154 kernelRun0_B.sl.r_15 kernelRun0_B.sl.r_8
  simp only [r_36_eq, r_14_eq, r_1_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_16_eq : (kernelRun0_B.sl.r_16 (F := F) c arg2 harg2 arg3 harg3 arg4 harg4 arg6 harg6 arg7 harg7 arg18 harg18 x0 x1 x2 x4 x5 xs3)
    = cols (sXc x0 x1 x2 x4 x5 xs3) 2 := by
  unfold kernelRun0_B.sl.r_16 kernelRun0_B.sl.r_8
  simp only [r_1_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_17_eq : (kernelRun0_B.sl.r_17 (F := F) c arg2 harg2 arg3 harg3 arg4 harg4 arg6 harg6 arg7 harg7 arg8 harg8 arg18 harg18 x0 x1 x2 x4 x5 x6 xs3)
    = sQ x0 x1 x2 x4 x5 x6 xs3 2 := by
  unfold kernelRun0_B.sl.r_17
  simp only [r_16_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_68_eq : (kernelRun0_B.sl.r_68 (F := F) c arg2 harg2 arg3 harg3 arg4 harg4 arg6 harg6 arg7 harg7 arg9 harg9 arg18 harg18 x0 x1 x2 x4 x5 x7 xs3)
    = sK x0 x1 x2 x4 x5 x7 xs3 2 := by
  unfold kernelRun0_B.sl.r_68 kernelRun0_B.sl.r_18
  simp only [r_16_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_69_eq : (kernelRun0_B.sl.r_69 (F := F) c arg2 harg2 arg3 harg3 arg4 harg4 arg10 harg10 x0 x1 x2 x8)
    = truncf .bf16 (sV x0 x1 x2 x8 2) bitsLt_bf16_f32 := by
  unfold kernelRun0_B.sl.r_69 kernelRun0_B.sl.r_5
  simp only [r_1_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_19_eq : (kernelRun0_B.sl.r_19 (F := F) c arg2 harg2 arg3 harg3 arg4 harg4 arg6 harg6 arg7 harg7 arg18 harg18 x0 x1 x2 x4 x5 xs3)
    = cols (sXc x0 x1 x2 x4 x5 xs3) 3 := by
  unfold kernelRun0_B.sl.r_19
  simp only [r_9_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_20_eq : (kernelRun0_B.sl.r_20 (F := F) c arg2 harg2 arg3 harg3 arg4 harg4 arg6 harg6 arg7 harg7 arg8 harg8 arg18 harg18 x0 x1 x2 x4 x5 x6 xs3)
    = sQ x0 x1 x2 x4 x5 x6 xs3 3 := by
  unfold kernelRun0_B.sl.r_20
  simp only [r_9_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_72_eq : (kernelRun0_B.sl.r_72 (F := F) c arg2 harg2 arg3 harg3 arg4 harg4 arg6 harg6 arg7 harg7 arg9 harg9 arg18 harg18 x0 x1 x2 x4 x5 x7 xs3)
    = sK x0 x1 x2 x4 x5 x7 xs3 3 := by
  unfold kernelRun0_B.sl.r_72 kernelRun0_B.sl.r_21
  simp only [r_9_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_73_eq : (kernelRun0_B.sl.r_73 (F := F) c arg2 harg2 arg3 harg3 arg4 harg4 arg10 harg10 x0 x1 x2 x8)
    = truncf .bf16 (sV x0 x1 x2 x8 3) bitsLt_bf16_f32 := by
  unfold kernelRun0_B.sl.r_73 kernelRun0_B.sl.r_6
  simp only [r_1_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_90_eq : (kernelRun0_B.sl.r_90 (F := F) c arg2 harg2 arg3 harg3 arg4 harg4 arg5 harg5 arg6 harg6 arg7 harg7 arg8 harg8 arg9 harg9 arg17 harg17 arg18 harg18 x0 x1 x2 x3 x4 x5 x6 x7 xs2 xs3)
    = sS x0 x1 x2 x3 x4 x5 x6 x7 xs2 xs3 3 := by
  unfold kernelRun0_B.sl.r_90 kernelRun0_B.sl.r_74 kernelRun0_B.sl.r_21
  simp only [r_56_eq, r_20_eq, r_9_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem n_piece0 : k0_pay124 (kernelRun0_B.sl.r_28 (F := F) c arg2 harg2 arg3 harg3 arg4 harg4 arg5 harg5 arg17 harg17 x0 x1 x2 x3 xs2) (kernelRun0_B.sl.r_29 (F := F) c arg2 harg2 arg3 harg3 arg4 harg4 arg5 harg5 arg17 harg17 x0 x1 x2 x3 xs2) (kernelRun0_B.sl.r_60 (F := F) c arg2 harg2 arg3 harg3 arg4 harg4 arg6 harg6 arg7 harg7 arg9 harg9 arg18 harg18 x0 x1 x2 x4 x5 x7 xs3) (nAt xs1 0)
    = sNn x0 x1 x2 x3 x4 x5 x7 xs1 xs2 xs3 0 := by
  simp only [r_28_eq, r_29_eq, r_60_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem c_piece0 : k0_pay147 (kernelRun0_B.sl.r_28 (F := F) c arg2 harg2 arg3 harg3 arg4 harg4 arg5 harg5 arg17 harg17 x0 x1 x2 x3 xs2) (kernelRun0_B.sl.r_80 (F := F) c arg2 harg2 arg3 harg3 arg4 harg4 arg5 harg5 arg6 harg6 arg7 harg7 arg9 harg9 arg10 harg10 arg17 harg17 arg18 harg18 x0 x1 x2 x3 x4 x5 x7 x8 xs2 xs3) (cAt xs0 0)
    = sCn x0 x1 x2 x3 x4 x5 x7 x8 xs0 xs2 xs3 0 := by
  unfold kernelRun0_B.sl.r_80
  simp only [r_28_eq, r_29_eq, r_60_eq, r_61_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem n_piece1 : k0_pay131 (kernelRun0_B.sl.r_84 (F := F) c arg2 harg2 arg3 harg3 arg4 harg4 arg5 harg5 arg6 harg6 arg7 harg7 arg9 harg9 arg16 harg16 arg17 harg17 arg18 harg18 x0 x1 x2 x3 x4 x5 x7 xs1 xs2 xs3)
    = sNn x0 x1 x2 x3 x4 x5 x7 xs1 xs2 xs3 1 := by
  unfold kernelRun0_B.sl.r_84 kernelRun0_B.sl.v487
  simp only [r_38_eq, r_39_eq, r_64_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem c_piece1 : k0_pay153 (kernelRun0_B.sl.r_86 (F := F) c arg2 harg2 arg3 harg3 arg4 harg4 arg5 harg5 arg6 harg6 arg7 harg7 arg9 harg9 arg10 harg10 arg17 harg17 arg18 harg18 x0 x1 x2 x3 x4 x5 x7 x8 xs2 xs3) (kernelRun0_B.sl.r_97 (F := F) c arg15 harg15 xs0) (kernelRun0_B.sl.r_98 (F := F) c arg2 harg2 arg3 harg3 arg4 harg4 arg5 harg5 arg17 harg17 x0 x1 x2 x3 xs2)
    = sCn x0 x1 x2 x3 x4 x5 x7 x8 xs0 xs2 xs3 1 := by
  unfold kernelRun0_B.sl.r_98 kernelRun0_B.sl.r_97 kernelRun0_B.sl.v623 kernelRun0_B.sl.r_86 kernelRun0_B.sl.r_83
  simp only [r_65_eq, r_39_eq, r_64_eq, r_38_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem n_piece2 : k0_pay137 (kernelRun0_B.sl.r_47 (F := F) c arg2 harg2 arg3 harg3 arg4 harg4 arg5 harg5 arg17 harg17 x0 x1 x2 x3 xs2) (kernelRun0_B.sl.r_49 (F := F) c arg2 harg2 arg3 harg3 arg4 harg4 arg5 harg5 arg17 harg17 x0 x1 x2 x3 xs2) (kernelRun0_B.sl.r_68 (F := F) c arg2 harg2 arg3 harg3 arg4 harg4 arg6 harg6 arg7 harg7 arg9 harg9 arg18 harg18 x0 x1 x2 x4 x5 x7 xs3) (kernelRun0_B.sl.v514 (F := F) c arg16 harg16 xs1)
    = sNn x0 x1 x2 x3 x4 x5 x7 xs1 xs2 xs3 2 := by
  unfold kernelRun0_B.sl.v514
  simp only [r_47_eq, r_49_eq, r_68_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem c_piece2 : k0_pay156 (kernelRun0_B.sl.r_47 (F := F) c arg2 harg2 arg3 harg3 arg4 harg4 arg5 harg5 arg17 harg17 x0 x1 x2 x3 xs2) (kernelRun0_B.sl.r_89 (F := F) c arg2 harg2 arg3 harg3 arg4 harg4 arg5 harg5 arg6 harg6 arg7 harg7 arg9 harg9 arg10 harg10 arg17 harg17 arg18 harg18 x0 x1 x2 x3 x4 x5 x7 x8 xs2 xs3) (kernelRun0_B.sl.v679 (F := F) c arg15 harg15 xs0)
    = sCn x0 x1 x2 x3 x4 x5 x7 x8 xs0 xs2 xs3 2 := by
  unfold kernelRun0_B.sl.v679 kernelRun0_B.sl.r_89
  simp only [r_47_eq, r_49_eq, r_68_eq, r_69_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem n_piece3 : k0_pay144 (kernelRun0_B.sl.r_58 (F := F) c arg2 harg2 arg3 harg3 arg4 harg4 arg5 harg5 arg17 harg17 x0 x1 x2 x3 xs2) (kernelRun0_B.sl.r_59 (F := F) c arg2 harg2 arg3 harg3 arg4 harg4 arg5 harg5 arg17 harg17 x0 x1 x2 x3 xs2) (kernelRun0_B.sl.r_72 (F := F) c arg2 harg2 arg3 harg3 arg4 harg4 arg6 harg6 arg7 harg7 arg9 harg9 arg18 harg18 x0 x1 x2 x4 x5 x7 xs3) (kernelRun0_B.sl.v541 (F := F) c arg16 harg16 xs1)
    = sNn x0 x1 x2 x3 x4 x5 x7 xs1 xs2 xs3 3 := by
  unfold kernelRun0_B.sl.v541
  simp only [r_58_eq, r_59_eq, r_72_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem c_piece3 : k0_pay159 (kernelRun0_B.sl.r_58 (F := F) c arg2 harg2 arg3 harg3 arg4 harg4 arg5 harg5 arg17 harg17 x0 x1 x2 x3 xs2) (kernelRun0_B.sl.r_94 (F := F) c arg2 harg2 arg3 harg3 arg4 harg4 arg5 harg5 arg6 harg6 arg7 harg7 arg9 harg9 arg10 harg10 arg17 harg17 arg18 harg18 x0 x1 x2 x3 x4 x5 x7 x8 xs2 xs3) (kernelRun0_B.sl.v735 (F := F) c arg15 harg15 xs0)
    = sCn x0 x1 x2 x3 x4 x5 x7 x8 xs0 xs2 xs3 3 := by
  unfold kernelRun0_B.sl.v735 kernelRun0_B.sl.r_94
  simp only [r_58_eq, r_59_eq, r_72_eq, r_73_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_78_eq : (kernelRun0_B.sl.r_78 (F := F) c arg2 harg2 arg3 harg3 arg4 harg4 arg5 harg5 arg6 harg6 arg7 harg7 arg8 harg8 arg9 harg9 arg16 harg16 arg17 harg17 arg18 harg18 x0 x1 x2 x3 x4 x5 x6 x7 xs1 xs2 xs3)
    = sDen x0 x1 x2 x3 x4 x5 x6 x7 xs1 xs2 xs3 0 := by
  unfold kernelRun0_B.sl.r_78 kernelRun0_B.sl.r_77
  simp only [r_76_eq, r_11_eq, r_27_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_95_eq : (kernelRun0_B.sl.r_95 (F := F) c arg2 harg2 arg3 harg3 arg4 harg4 arg5 harg5 arg6 harg6 arg7 harg7 arg8 harg8 arg9 harg9 arg10 harg10 arg15 harg15 arg17 harg17 arg18 harg18 x0 x1 x2 x3 x4 x5 x6 x7 x8 xs0 xs2 xs3)
    = sNum x0 x1 x2 x3 x4 x5 x6 x7 x8 xs0 xs2 xs3 0 := by
  unfold kernelRun0_B.sl.r_95 kernelRun0_B.sl.r_79 kernelRun0_B.sl.r_63
  simp only [r_27_eq, r_11_eq, r_61_eq, r_76_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_82_eq : (kernelRun0_B.sl.r_82 (F := F) c arg2 harg2 arg3 harg3 arg4 harg4 arg5 harg5 arg6 harg6 arg7 harg7 arg8 harg8 arg9 harg9 arg16 harg16 arg17 harg17 arg18 harg18 x0 x1 x2 x3 x4 x5 x6 x7 xs1 xs2 xs3)
    = sDen x0 x1 x2 x3 x4 x5 x6 x7 xs1 xs2 xs3 1 := by
  unfold kernelRun0_B.sl.r_82 kernelRun0_B.sl.v487 kernelRun0_B.sl.r_66 kernelRun0_B.sl.cst_154 kernelRun0_B.sl.r_15 kernelRun0_B.sl.r_8
  simp only [r_14_eq, r_36_eq, r_37_eq, r_1_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_87_eq : (kernelRun0_B.sl.r_87 (F := F) c arg2 harg2 arg3 harg3 arg4 harg4 arg5 harg5 arg6 harg6 arg7 harg7 arg8 harg8 arg9 harg9 arg16 harg16 arg17 harg17 arg18 harg18 x0 x1 x2 x3 x4 x5 x6 x7 xs1 xs2 xs3)
    = sDen x0 x1 x2 x3 x4 x5 x6 x7 xs1 xs2 xs3 2 := by
  unfold kernelRun0_B.sl.r_87 kernelRun0_B.sl.v514 kernelRun0_B.sl.r_70 kernelRun0_B.sl.r_18
  simp only [r_17_eq, r_44_eq, r_45_eq, r_16_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_92_eq : (kernelRun0_B.sl.r_92 (F := F) c arg2 harg2 arg3 harg3 arg4 harg4 arg5 harg5 arg6 harg6 arg7 harg7 arg8 harg8 arg9 harg9 arg16 harg16 arg17 harg17 arg18 harg18 x0 x1 x2 x3 x4 x5 x6 x7 xs1 xs2 xs3)
    = sDen x0 x1 x2 x3 x4 x5 x6 x7 xs1 xs2 xs3 3 := by
  unfold kernelRun0_B.sl.r_92 kernelRun0_B.sl.r_91 kernelRun0_B.sl.v541
  simp only [r_20_eq, r_57_eq, r_90_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_100_eq : (kernelRun0_B.sl.r_100 (F := F) c arg2 harg2 arg3 harg3 arg4 harg4 arg5 harg5 arg6 harg6 arg7 harg7 arg8 harg8 arg9 harg9 arg10 harg10 arg15 harg15 arg16 harg16 arg17 harg17 arg18 harg18 x0 x1 x2 x3 x4 x5 x6 x7 x8 xs0 xs1 xs2 xs3)
    = headNorm (sH x0 x1 x2 x3 x4 x5 x6 x7 x8 xs0 xs1 xs2 xs3 2) := by
  unfold kernelRun0_B.sl.r_100 kernelRun0_B.sl.r_88 kernelRun0_B.sl.r_70 kernelRun0_B.sl.r_18 kernelRun0_B.sl.r_71
  simp only [r_43_eq, r_45_eq, r_17_eq, r_87_eq, r_44_eq, r_69_eq, r_16_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem r_101_eq : (kernelRun0_B.sl.r_101 (F := F) c arg2 harg2 arg3 harg3 arg4 harg4 arg5 harg5 arg6 harg6 arg7 harg7 arg8 harg8 arg9 harg9 arg10 harg10 arg15 harg15 arg16 harg16 arg17 harg17 arg18 harg18 x0 x1 x2 x3 x4 x5 x6 x7 x8 xs0 xs1 xs2 xs3)
    = sH x0 x1 x2 x3 x4 x5 x6 x7 x8 xs0 xs1 xs2 xs3 3 := by
  unfold kernelRun0_B.sl.r_101 kernelRun0_B.sl.r_93 kernelRun0_B.sl.r_75
  simp only [r_55_eq, r_57_eq, r_20_eq, r_92_eq, r_73_eq, r_90_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem y_piece0 : k0_pay150 (kernelRun0_B.sl.r_7 (F := F) c arg2 harg2 arg3 harg3 arg4 harg4 x0 x1 x2) (kernelRun0_B.sl.r_10 (F := F) c arg2 harg2 arg3 harg3 arg4 harg4 arg6 harg6 arg7 harg7 arg18 harg18 x0 x1 x2 x4 x5 xs3) (kernelRun0_B.sl.r_95 (F := F) c arg2 harg2 arg3 harg3 arg4 harg4 arg5 harg5 arg6 harg6 arg7 harg7 arg8 harg8 arg9 harg9 arg10 harg10 arg15 harg15 arg17 harg17 arg18 harg18 x0 x1 x2 x3 x4 x5 x6 x7 x8 xs0 xs2 xs3) (kernelRun0_B.sl.r_96 (F := F) c arg2 harg2 arg3 harg3 arg4 harg4 arg5 harg5 arg6 harg6 arg7 harg7 arg8 harg8 arg9 harg9 arg16 harg16 arg17 harg17 arg18 harg18 x0 x1 x2 x3 x4 x5 x6 x7 xs1 xs2 xs3) (rowAt x9 0) (rowAt x10 0)
    = sY x0 x1 x2 x3 x4 x5 x6 x7 x8 x9 x10 xs0 xs1 xs2 xs3 0 := by
  unfold kernelRun0_B.sl.r_96
  simp only [r_7_eq, r_10_eq, r_95_eq, r_25_eq, r_78_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem y_piece1 : k0_pay155 (kernelRun0_B.sl.r_13 (F := F) c arg2 harg2 arg3 harg3 arg4 harg4 arg6 harg6 arg7 harg7 arg18 harg18 x0 x1 x2 x4 x5 xs3) (kernelRun0_B.sl.r_99 (F := F) c arg2 harg2 arg3 harg3 arg4 harg4 arg5 harg5 arg6 harg6 arg7 harg7 arg8 harg8 arg9 harg9 arg10 harg10 arg11 harg11 arg15 harg15 arg16 harg16 arg17 harg17 arg18 harg18 x0 x1 x2 x3 x4 x5 x6 x7 x8 x9 xs0 xs1 xs2 xs3) (rowAt x10 1)
    = sY x0 x1 x2 x3 x4 x5 x6 x7 x8 x9 x10 xs0 xs1 xs2 xs3 1 := by
  unfold kernelRun0_B.sl.r_99 kernelRun0_B.sl.r_85 kernelRun0_B.sl.r_67
  simp only [r_13_eq, r_7_eq, r_35_eq, r_37_eq, r_14_eq, r_82_eq, r_65_eq, r_81_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem y_piece2 : k0_pay158 (kernelRun0_B.sl.r_7 (F := F) c arg2 harg2 arg3 harg3 arg4 harg4 x0 x1 x2) (kernelRun0_B.sl.r_16 (F := F) c arg2 harg2 arg3 harg3 arg4 harg4 arg6 harg6 arg7 harg7 arg18 harg18 x0 x1 x2 x4 x5 xs3) (kernelRun0_B.sl.r_100 (F := F) c arg2 harg2 arg3 harg3 arg4 harg4 arg5 harg5 arg6 harg6 arg7 harg7 arg8 harg8 arg9 harg9 arg10 harg10 arg15 harg15 arg16 harg16 arg17 harg17 arg18 harg18 x0 x1 x2 x3 x4 x5 x6 x7 x8 xs0 xs1 xs2 xs3) (rowAt x9 2) (rowAt x10 2)
    = sY x0 x1 x2 x3 x4 x5 x6 x7 x8 x9 x10 xs0 xs1 xs2 xs3 2 := by
  simp only [r_7_eq, r_16_eq, r_100_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem y_piece3 : k0_pay162 (kernelRun0_B.sl.r_7 (F := F) c arg2 harg2 arg3 harg3 arg4 harg4 x0 x1 x2) (kernelRun0_B.sl.r_19 (F := F) c arg2 harg2 arg3 harg3 arg4 harg4 arg6 harg6 arg7 harg7 arg18 harg18 x0 x1 x2 x4 x5 xs3) (kernelRun0_B.sl.r_101 (F := F) c arg2 harg2 arg3 harg3 arg4 harg4 arg5 harg5 arg6 harg6 arg7 harg7 arg8 harg8 arg9 harg9 arg10 harg10 arg15 harg15 arg16 harg16 arg17 harg17 arg18 harg18 x0 x1 x2 x3 x4 x5 x6 x7 x8 xs0 xs1 xs2 xs3) (kernelRun0_B.sl.r_102 (F := F) c arg2 harg2 arg3 harg3 arg4 harg4 arg5 harg5 arg6 harg6 arg7 harg7 arg8 harg8 arg9 harg9 arg10 harg10 arg15 harg15 arg16 harg16 arg17 harg17 arg18 harg18 x0 x1 x2 x3 x4 x5 x6 x7 x8 xs0 xs1 xs2 xs3) (rowAt x9 3) (rowAt x10 3)
    = sY x0 x1 x2 x3 x4 x5 x6 x7 x8 x9 x10 xs0 xs1 xs2 xs3 3 := by
  unfold kernelRun0_B.sl.r_102 kernelRun0_B.sl.r_93 kernelRun0_B.sl.r_75
  simp only [r_7_eq, r_19_eq, r_101_eq, r_55_eq, r_57_eq, r_20_eq, r_92_eq, r_73_eq, r_90_eq, View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem v793_eq : (kernelRun0_B.sl.v793 (F := F) c arg2 harg2 arg3 harg3 arg4 harg4 arg5 harg5 arg6 harg6 arg7 harg7 arg8 harg8 arg9 harg9 arg10 harg10 arg11 harg11 arg12 harg12 arg15 harg15 arg16 harg16 arg17 harg17 arg18 harg18 arg19 x0 x1 x2 x3 x4 x5 x6 x7 x8 x9 x10 xs0 xs1 xs2 xs3)
    = yAll fun hd => sY x0 x1 x2 x3 x4 x5 x6 x7 x8 x9 x10 xs0 xs1 xs2 xs3 hd := by
  unfold kernelRun0_B.sl.v793 kernelRun0_B.sl.HS4_4
  rw [View.readCov_eq_canon']
  simp only [View.readAt_eq_ld, Memref.IsWhole.read_unread]
  refine (View.ld_unit_zero (S := S256x2048) hz2 _ _).trans ?_
  unfold yAll
  refine congrArg View.canon (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl))))
  · exact y_piece3 ..
  · exact y_piece2 ..
  · exact y_piece1 ..
  · exact y_piece0 ..

theorem out_eq : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3
    = sOut x0 x1 x2 x3 x4 x5 x6 x7 x8 x9 x10 x11 xs0 xs1 xs2 xs3 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3)]
  unfold kernelRun0_B
  dsimp only
  rw [View.canon_unit_zero (S := S1x256x1024) hz3]
  unfold kernelRun0_B.sl.r_103
  rw [v793_eq]
  simp only [View.readAt_eq_ld, Memref.IsWhole.read_unread, View.ld_unit_zero (S := S1x256x1024) hz3, View.ld_unit_zero (S := S1x1024) hz2, View.ld_unit_zero (S := S1x8) hz2, View.ld_unit_zero (S := S4x2048) hz2, View.ld_unit_zero (S := S1x2048) hz2, View.ld_unit_zero (S := S8x2048) hz2, View.ld_unit_zero (S := S2048x1024) hz2]
  rfl

theorem sout0_eq : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3
    = pileC (fun hd => sCn x0 x1 x2 x3 x4 x5 x7 x8 xs0 xs2 xs3 hd) [] := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3)]
  unfold kernelRun0_B pileC
  dsimp only
  skip
  refine congrArg View.canon (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl))))
  · exact c_piece3 ..
  · exact c_piece2 ..
  · exact c_piece1 ..
  · simp only [View.readAt_eq_ld, Memref.IsWhole.read_unread]; exact c_piece0 ..

theorem sout1_eq : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3
    = pileN (fun hd => sNn x0 x1 x2 x3 x4 x5 x7 xs1 xs2 xs3 hd) [] := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3)]
  unfold kernelRun0_B pileN
  dsimp only
  skip
  refine congrArg View.canon (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl))))
  · exact n_piece3 ..
  · exact n_piece2 ..
  · exact n_piece1 ..
  · simp only [View.readAt_eq_ld, Memref.IsWhole.read_unread]; exact n_piece0 ..

theorem sout2_eq : sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3
    = pileM (fun hd => sMn x0 x1 x2 x3 xs2 hd) [] := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3)]
  unfold kernelRun0_B pileM
  dsimp only
  skip
  refine congrArg View.canon (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl))))
  · exact m_piece3 ..
  · exact m_piece2 ..
  · exact m_piece1 ..
  · exact m_piece0 ..

theorem sout3_eq : sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3
    = sXp x0 x1 x2 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3)]
  unfold kernelRun0_B
  dsimp only
  rw [View.canon_cons_unit_zero (S := S8x2048) hz2, r_1_eq]
  rfl

end Cert.KernelIdeal.MlB

end
-- ==== Proof.MlValue.lean ====
/-
  The matrix-memory kernel's input blocks, read at one element, and its result: after every point the carried state is the
  recurrence's state at the point's last token, so every block of rows written is the layer's.
-/
module

public import proofs.«01_k».proof.Proof.MlPoint
public import proofs.«01_k».proof.Proof.MlRunA
public import proofs.«01_k».proof.Proof.MlRunB
public import proofs.«01_k».proof.Proof.Gen.KernelIdeal.Value
public import Idealize.ShloMosaic.Lib.Pointwise

@[expose] public section

set_option maxRecDepth 16384

noncomputable section

open Idealize.ShloMosaic Idealize.ShloMosaic.TcCoe Idealize.SL.Sem

namespace Cert.KernelIdeal.MlVal

open Cert.KernelIdeal Cert.KernelIdeal.Gen Cert.KernelIdeal.Value Cert.KernelIdeal.Ml Cert.Ml

variable (m : (ℓ : Loc nD τ sig) → Buf (Elt Ideal) ℓ) (c : Dev nD)

/-! ## What the host leaves for the kernel -/

theorem V_v2 : V m c main_v2 = (shapeCast S1x1024 (m ((c : Thread nD τ).loc main_arg1) : FVec Ideal S1024 .f32) shapeCasts_S1024_S1x1024 : FVec Ideal S1x1024 .f32) := by
  unfold V
  after_results
  rfl

theorem V_v0 : V m c main_v0 = (truncf .bf16 (m ((c : Thread nD τ).loc main_arg2) : FVec Ideal S1024x4104 .f32) bitsLt_bf16_f32 : FVec Ideal S1024x4104 .bf16) := by
  unfold V
  after_results

theorem V_v1 : V m c main_v1 = (shapeCast S1x8 (m ((c : Thread nD τ).loc main_arg3) : FVec Ideal S8 .f32) shapeCasts_S8_S1x8 : FVec Ideal S1x8 .f32) := by
  unfold V
  after_results
  rfl

theorem V_v3 : V m c main_v3 = (shapeCast S1x2048 (m ((c : Thread nD τ).loc main_arg5) : FVec Ideal S2048 .f32) shapeCasts_S2048_S1x2048 : FVec Ideal S1x2048 .f32) := by
  unfold V
  after_results
  rfl

theorem V_v4 : V m c main_v4 = (truncf .bf16 (m ((c : Thread nD τ).loc main_arg6) : FVec Ideal S4x512x512 .f32) bitsLt_bf16_f32 : FVec Ideal S4x512x512 .bf16) := by
  unfold V
  after_results

theorem V_v5 : V m c main_v5 = (truncf .bf16 (m ((c : Thread nD τ).loc main_arg7) : FVec Ideal S4x512x512 .f32) bitsLt_bf16_f32 : FVec Ideal S4x512x512 .bf16) := by
  unfold V
  after_results

theorem V_v6 : V m c main_v6 = (truncf .bf16 (m ((c : Thread nD τ).loc main_arg8) : FVec Ideal S4x512x512 .f32) bitsLt_bf16_f32 : FVec Ideal S4x512x512 .bf16) := by
  unfold V
  after_results

theorem V_v7 : V m c main_v7 = (shapeCast S1x2048 (m ((c : Thread nD τ).loc main_arg9) : FVec Ideal S2048 .f32) shapeCasts_S2048_S1x2048 : FVec Ideal S1x2048 .f32) := by
  unfold V
  after_results
  rfl

theorem V_v8 : V m c main_v8 = (shapeCast S1x2048 (m ((c : Thread nD τ).loc main_arg10) : FVec Ideal S2048 .f32) shapeCasts_S2048_S1x2048 : FVec Ideal S1x2048 .f32) := by
  unfold V
  after_results
  rfl

theorem V_v9 : V m c main_v9 = (truncf .bf16 (m ((c : Thread nD τ).loc main_arg11) : FVec Ideal S2048x1024 .f32) bitsLt_bf16_f32 : FVec Ideal S2048x1024 .bf16) := by
  unfold V
  after_results

/-! ## The blocks -/

theorem blk1 (t : Fin cfg0.N) (k : Fin 1024) :
    (iblk m c 1 t : Vec Ideal S1x1024 .f32) (ix2 0 k) = (m ((c : Thread nD τ).loc main_arg1) : Vec Ideal S1024 .f32) (ix1 k) := by
  have hi : win0_1.index t 0 = 0 ∧ win0_1.index t 1 = 0 := (by decide +kernel : ∀ t : Fin grid0.N, win0_1.index t 0 = 0 ∧ win0_1.index t 1 = 0) t
  unfold iblk
  rw [View.read_apply]
  have e : ((cfg0.win 1).blk t).view.emb (ix2 0 k) = (ix2 0 k : S1x1024.Idx) := by
    funext a
    apply Fin.ext
    match a with
    | ⟨0, _⟩ => show win0_1.index t 0 * 1 + 1 * 0 = 0; rw [hi.1]
    | ⟨1, _⟩ => show win0_1.index t 1 * 1024 + 1 * k.val = k.val; rw [hi.2]; omega
  show V m c main_v2 (((cfg0.win 1).blk t).view.emb (ix2 0 k)) = _
  rw [e, V_v2]
  exact shapeCast_apply _ shapeCasts_S1024_S1x1024 _ (ix1 k) (by rewrite [Shape.rowMajor_val_two, Shape.rowMajor_val_one]; show k.val = 0 * 1024 + k.val; omega)

theorem blk2 (t : Fin cfg0.N) (j : Fin 1024) (k : Fin 4104) :
    (iblk m c 2 t : Vec Ideal S1024x4104 .bf16) (ix2 j k) = (m ((c : Thread nD τ).loc main_arg2) : Vec Ideal S1024x4104 .f32) (ix2 j k) := by
  have hi : win0_2.index t 0 = 0 ∧ win0_2.index t 1 = 0 := (by decide +kernel : ∀ t : Fin grid0.N, win0_2.index t 0 = 0 ∧ win0_2.index t 1 = 0) t
  unfold iblk
  rw [View.read_apply]
  have e : ((cfg0.win 2).blk t).view.emb (ix2 j k) = (ix2 j k : S1024x4104.Idx) := by
    funext a
    apply Fin.ext
    match a with
    | ⟨0, _⟩ => show win0_2.index t 0 * 1024 + 1 * j.val = j.val; rw [hi.1]; omega
    | ⟨1, _⟩ => show win0_2.index t 1 * 4104 + 1 * k.val = k.val; rw [hi.2]; omega
  show V m c main_v0 (((cfg0.win 2).blk t).view.emb (ix2 j k)) = _
  rw [e, V_v0]
  rfl

theorem blk3 (t : Fin cfg0.N) (k : Fin 8) :
    (iblk m c 3 t : Vec Ideal S1x8 .f32) (ix2 0 k) = (m ((c : Thread nD τ).loc main_arg3) : Vec Ideal S8 .f32) (ix1 k) := by
  have hi : win0_3.index t 0 = 0 ∧ win0_3.index t 1 = 0 := (by decide +kernel : ∀ t : Fin grid0.N, win0_3.index t 0 = 0 ∧ win0_3.index t 1 = 0) t
  unfold iblk
  rw [View.read_apply]
  have e : ((cfg0.win 3).blk t).view.emb (ix2 0 k) = (ix2 0 k : S1x8.Idx) := by
    funext a
    apply Fin.ext
    match a with
    | ⟨0, _⟩ => show win0_3.index t 0 * 1 + 1 * 0 = 0; rw [hi.1]
    | ⟨1, _⟩ => show win0_3.index t 1 * 8 + 1 * k.val = k.val; rw [hi.2]; omega
  show V m c main_v1 (((cfg0.win 3).blk t).view.emb (ix2 0 k)) = _
  rw [e, V_v1]
  exact shapeCast_apply _ shapeCasts_S8_S1x8 _ (ix1 k) (by rewrite [Shape.rowMajor_val_two, Shape.rowMajor_val_one]; show k.val = 0 * 8 + k.val; omega)

theorem blk4 (t : Fin cfg0.N) (j : Fin 4) (k : Fin 2048) :
    (iblk m c 4 t : Vec Ideal S4x2048 .f32) (ix2 j k) = (m ((c : Thread nD τ).loc main_arg4) : Vec Ideal S4x2048 .f32) (ix2 j k) := by
  have hi : win0_4.index t 0 = 0 ∧ win0_4.index t 1 = 0 := (by decide +kernel : ∀ t : Fin grid0.N, win0_4.index t 0 = 0 ∧ win0_4.index t 1 = 0) t
  unfold iblk
  rw [View.read_apply]
  have e : ((cfg0.win 4).blk t).view.emb (ix2 j k) = (ix2 j k : S4x2048.Idx) := by
    funext a
    apply Fin.ext
    match a with
    | ⟨0, _⟩ => show win0_4.index t 0 * 4 + 1 * j.val = j.val; rw [hi.1]; omega
    | ⟨1, _⟩ => show win0_4.index t 1 * 2048 + 1 * k.val = k.val; rw [hi.2]; omega
  show V m c main_arg4 (((cfg0.win 4).blk t).view.emb (ix2 j k)) = _
  rw [e, V_main_arg4]

theorem blk5 (t : Fin cfg0.N) (k : Fin 2048) :
    (iblk m c 5 t : Vec Ideal S1x2048 .f32) (ix2 0 k) = (m ((c : Thread nD τ).loc main_arg5) : Vec Ideal S2048 .f32) (ix1 k) := by
  have hi : win0_5.index t 0 = 0 ∧ win0_5.index t 1 = 0 := (by decide +kernel : ∀ t : Fin grid0.N, win0_5.index t 0 = 0 ∧ win0_5.index t 1 = 0) t
  unfold iblk
  rw [View.read_apply]
  have e : ((cfg0.win 5).blk t).view.emb (ix2 0 k) = (ix2 0 k : S1x2048.Idx) := by
    funext a
    apply Fin.ext
    match a with
    | ⟨0, _⟩ => show win0_5.index t 0 * 1 + 1 * 0 = 0; rw [hi.1]
    | ⟨1, _⟩ => show win0_5.index t 1 * 2048 + 1 * k.val = k.val; rw [hi.2]; omega
  show V m c main_v3 (((cfg0.win 5).blk t).view.emb (ix2 0 k)) = _
  rw [e, V_v3]
  exact shapeCast_apply _ shapeCasts_S2048_S1x2048 _ (ix1 k) (by rewrite [Shape.rowMajor_val_two, Shape.rowMajor_val_one]; show k.val = 0 * 2048 + k.val; omega)

theorem blk6 (t : Fin cfg0.N) (i : Fin 4) (j : Fin 512) (k : Fin 512) :
    (iblk m c 6 t : Vec Ideal S4x512x512 .bf16) (ix3 i j k) = (m ((c : Thread nD τ).loc main_arg6) : Vec Ideal S4x512x512 .f32) (ix3 i j k) := by
  have hi : win0_6.index t 0 = 0 ∧ win0_6.index t 1 = 0 ∧ win0_6.index t 2 = 0 := (by decide +kernel : ∀ t : Fin grid0.N, win0_6.index t 0 = 0 ∧ win0_6.index t 1 = 0 ∧ win0_6.index t 2 = 0) t
  unfold iblk
  rw [View.read_apply]
  have e : ((cfg0.win 6).blk t).view.emb (ix3 i j k) = (ix3 i j k : S4x512x512.Idx) := by
    funext a
    apply Fin.ext
    match a with
    | ⟨0, _⟩ => show win0_6.index t 0 * 4 + 1 * i.val = i.val; rw [hi.1]; omega
    | ⟨1, _⟩ => show win0_6.index t 1 * 512 + 1 * j.val = j.val; rw [hi.2.1]; omega
    | ⟨2, _⟩ => show win0_6.index t 2 * 512 + 1 * k.val = k.val; rw [hi.2.2]; omega
  show V m c main_v4 (((cfg0.win 6).blk t).view.emb (ix3 i j k)) = _
  rw [e, V_v4]
  rfl

theorem blk7 (t : Fin cfg0.N) (i : Fin 4) (j : Fin 512) (k : Fin 512) :
    (iblk m c 7 t : Vec Ideal S4x512x512 .bf16) (ix3 i j k) = (m ((c : Thread nD τ).loc main_arg7) : Vec Ideal S4x512x512 .f32) (ix3 i j k) := by
  have hi : win0_7.index t 0 = 0 ∧ win0_7.index t 1 = 0 ∧ win0_7.index t 2 = 0 := (by decide +kernel : ∀ t : Fin grid0.N, win0_7.index t 0 = 0 ∧ win0_7.index t 1 = 0 ∧ win0_7.index t 2 = 0) t
  unfold iblk
  rw [View.read_apply]
  have e : ((cfg0.win 7).blk t).view.emb (ix3 i j k) = (ix3 i j k : S4x512x512.Idx) := by
    funext a
    apply Fin.ext
    match a with
    | ⟨0, _⟩ => show win0_7.index t 0 * 4 + 1 * i.val = i.val; rw [hi.1]; omega
    | ⟨1, _⟩ => show win0_7.index t 1 * 512 + 1 * j.val = j.val; rw [hi.2.1]; omega
    | ⟨2, _⟩ => show win0_7.index t 2 * 512 + 1 * k.val = k.val; rw [hi.2.2]; omega
  show V m c main_v5 (((cfg0.win 7).blk t).view.emb (ix3 i j k)) = _
  rw [e, V_v5]
  rfl

theorem blk8 (t : Fin cfg0.N) (i : Fin 4) (j : Fin 512) (k : Fin 512) :
    (iblk m c 8 t : Vec Ideal S4x512x512 .bf16) (ix3 i j k) = (m ((c : Thread nD τ).loc main_arg8) : Vec Ideal S4x512x512 .f32) (ix3 i j k) := by
  have hi : win0_8.index t 0 = 0 ∧ win0_8.index t 1 = 0 ∧ win0_8.index t 2 = 0 := (by decide +kernel : ∀ t : Fin grid0.N, win0_8.index t 0 = 0 ∧ win0_8.index t 1 = 0 ∧ win0_8.index t 2 = 0) t
  unfold iblk
  rw [View.read_apply]
  have e : ((cfg0.win 8).blk t).view.emb (ix3 i j k) = (ix3 i j k : S4x512x512.Idx) := by
    funext a
    apply Fin.ext
    match a with
    | ⟨0, _⟩ => show win0_8.index t 0 * 4 + 1 * i.val = i.val; rw [hi.1]; omega
    | ⟨1, _⟩ => show win0_8.index t 1 * 512 + 1 * j.val = j.val; rw [hi.2.1]; omega
    | ⟨2, _⟩ => show win0_8.index t 2 * 512 + 1 * k.val = k.val; rw [hi.2.2]; omega
  show V m c main_v6 (((cfg0.win 8).blk t).view.emb (ix3 i j k)) = _
  rw [e, V_v6]
  rfl

theorem blk9 (t : Fin cfg0.N) (k : Fin 2048) :
    (iblk m c 9 t : Vec Ideal S1x2048 .f32) (ix2 0 k) = (m ((c : Thread nD τ).loc main_arg9) : Vec Ideal S2048 .f32) (ix1 k) := by
  have hi : win0_9.index t 0 = 0 ∧ win0_9.index t 1 = 0 := (by decide +kernel : ∀ t : Fin grid0.N, win0_9.index t 0 = 0 ∧ win0_9.index t 1 = 0) t
  unfold iblk
  rw [View.read_apply]
  have e : ((cfg0.win 9).blk t).view.emb (ix2 0 k) = (ix2 0 k : S1x2048.Idx) := by
    funext a
    apply Fin.ext
    match a with
    | ⟨0, _⟩ => show win0_9.index t 0 * 1 + 1 * 0 = 0; rw [hi.1]
    | ⟨1, _⟩ => show win0_9.index t 1 * 2048 + 1 * k.val = k.val; rw [hi.2]; omega
  show V m c main_v7 (((cfg0.win 9).blk t).view.emb (ix2 0 k)) = _
  rw [e, V_v7]
  exact shapeCast_apply _ shapeCasts_S2048_S1x2048 _ (ix1 k) (by rewrite [Shape.rowMajor_val_two, Shape.rowMajor_val_one]; show k.val = 0 * 2048 + k.val; omega)

theorem blk10 (t : Fin cfg0.N) (k : Fin 2048) :
    (iblk m c 10 t : Vec Ideal S1x2048 .f32) (ix2 0 k) = (m ((c : Thread nD τ).loc main_arg10) : Vec Ideal S2048 .f32) (ix1 k) := by
  have hi : win0_10.index t 0 = 0 ∧ win0_10.index t 1 = 0 := (by decide +kernel : ∀ t : Fin grid0.N, win0_10.index t 0 = 0 ∧ win0_10.index t 1 = 0) t
  unfold iblk
  rw [View.read_apply]
  have e : ((cfg0.win 10).blk t).view.emb (ix2 0 k) = (ix2 0 k : S1x2048.Idx) := by
    funext a
    apply Fin.ext
    match a with
    | ⟨0, _⟩ => show win0_10.index t 0 * 1 + 1 * 0 = 0; rw [hi.1]
    | ⟨1, _⟩ => show win0_10.index t 1 * 2048 + 1 * k.val = k.val; rw [hi.2]; omega
  show V m c main_v8 (((cfg0.win 10).blk t).view.emb (ix2 0 k)) = _
  rw [e, V_v8]
  exact shapeCast_apply _ shapeCasts_S2048_S1x2048 _ (ix1 k) (by rewrite [Shape.rowMajor_val_two, Shape.rowMajor_val_one]; show k.val = 0 * 2048 + k.val; omega)

theorem blk11 (t : Fin cfg0.N) (j : Fin 2048) (k : Fin 1024) :
    (iblk m c 11 t : Vec Ideal S2048x1024 .bf16) (ix2 j k) = (m ((c : Thread nD τ).loc main_arg11) : Vec Ideal S2048x1024 .f32) (ix2 j k) := by
  have hi : win0_11.index t 0 = 0 ∧ win0_11.index t 1 = 0 := (by decide +kernel : ∀ t : Fin grid0.N, win0_11.index t 0 = 0 ∧ win0_11.index t 1 = 0) t
  unfold iblk
  rw [View.read_apply]
  have e : ((cfg0.win 11).blk t).view.emb (ix2 j k) = (ix2 j k : S2048x1024.Idx) := by
    funext a
    apply Fin.ext
    match a with
    | ⟨0, _⟩ => show win0_11.index t 0 * 2048 + 1 * j.val = j.val; rw [hi.1]; omega
    | ⟨1, _⟩ => show win0_11.index t 1 * 1024 + 1 * k.val = k.val; rw [hi.2]; omega
  show V m c main_v9 (((cfg0.win 11).blk t).view.emb (ix2 j k)) = _
  rw [e, V_v9]
  rfl

theorem blk0 (t : Fin cfg0.N) (r : Fin 256) (d : Fin 1024) (h1 : t.val / 8 < 8) (h2 : 256 * (t.val % 8) + r.val < 2048) :
    (iblk m c 0 t : Vec Ideal S1x256x1024 .f32) (ix3 0 r d)
      = (m ((c : Thread nD τ).loc main_arg0) : Vec Ideal S8x2048x1024 .f32) (ix3 ⟨t.val / 8, h1⟩ ⟨256 * (t.val % 8) + r.val, h2⟩ d) := by
  have hi : win0_0.index t 0 = t.val / 8 ∧ win0_0.index t 1 = t.val % 8 ∧ win0_0.index t 2 = 0 :=
    (by decide +kernel : ∀ t : Fin grid0.N, win0_0.index t 0 = t.val / 8 ∧ win0_0.index t 1 = t.val % 8 ∧ win0_0.index t 2 = 0) t
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_0.index t 0 * 1 + 1 * 0 = t.val / 8; rw [hi.1]; omega
  | ⟨1, _⟩ => show win0_0.index t 1 * 256 + 1 * r.val = 256 * (t.val % 8) + r.val; rw [hi.2.1]; omega
  | ⟨2, _⟩ => show win0_0.index t 2 * 1024 + 1 * d.val = d.val; rw [hi.2.2]; omega

/-! ## The arguments as the layer's -/

abbrev aH (c : Dev nD) : Fin 8 → Fin 2048 → Fin 1024 → EReal := fun3 (m ((c : Thread nD τ).loc main_arg0) : Vec Ideal S8x2048x1024 .f32)
abbrev aG (c : Dev nD) : Fin 1024 → EReal := fun1 (m ((c : Thread nD τ).loc main_arg1) : Vec Ideal S1024 .f32)
abbrev aWin (c : Dev nD) : Fin 1024 → Fin 4104 → EReal := fun2 (m ((c : Thread nD τ).loc main_arg2) : Vec Ideal S1024x4104 .f32)
abbrev aBg (c : Dev nD) : Fin 8 → EReal := fun1 (m ((c : Thread nD τ).loc main_arg3) : Vec Ideal S8 .f32)
abbrev aCw (c : Dev nD) : Fin 4 → Fin 2048 → EReal := fun2 (m ((c : Thread nD τ).loc main_arg4) : Vec Ideal S4x2048 .f32)
abbrev aCb (c : Dev nD) : Fin 2048 → EReal := fun1 (m ((c : Thread nD τ).loc main_arg5) : Vec Ideal S2048 .f32)
abbrev aWq (c : Dev nD) : Fin 4 → Fin 512 → Fin 512 → EReal := fun3 (m ((c : Thread nD τ).loc main_arg6) : Vec Ideal S4x512x512 .f32)
abbrev aWk (c : Dev nD) : Fin 4 → Fin 512 → Fin 512 → EReal := fun3 (m ((c : Thread nD τ).loc main_arg7) : Vec Ideal S4x512x512 .f32)
abbrev aWv (c : Dev nD) : Fin 4 → Fin 512 → Fin 512 → EReal := fun3 (m ((c : Thread nD τ).loc main_arg8) : Vec Ideal S4x512x512 .f32)
abbrev aGn (c : Dev nD) : Fin 2048 → EReal := fun1 (m ((c : Thread nD τ).loc main_arg9) : Vec Ideal S2048 .f32)
abbrev aSk (c : Dev nD) : Fin 2048 → EReal := fun1 (m ((c : Thread nD τ).loc main_arg10) : Vec Ideal S2048 .f32)
abbrev aWout (c : Dev nD) : Fin 2048 → Fin 1024 → EReal := fun2 (m ((c : Thread nD τ).loc main_arg11) : Vec Ideal S2048x1024 .f32)

theorem blocks (t : Fin cfg0.N) (h1 : t.val / 8 < 8) :
    Blocks (aH m c) (aG m c) (aWin m c) (aBg m c) (aCw m c) (aCb m c) (aWq m c) (aWk m c) (aWv m c) (aGn m c) (aSk m c) (aWout m c)
      ⟨t.val / 8, h1⟩ (256 * (t.val % 8)) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) where
  hT := by omega
  h0 r d := blk0 m c t r d h1 _
  h1 := blk1 m c t
  h2 := blk2 m c t
  h3 := blk3 m c t
  h4 := blk4 m c t
  h5 := blk5 m c t
  h6 := blk6 m c t
  h7 := blk7 m c t
  h8 := blk8 m c t
  h9 := blk9 m c t
  h10 := blk10 m c t
  h11 := blk11 m c t

/-! ## The points in turn -/

abbrev Acc := Vec Ideal S1x256x1024 .f32 × Vec Ideal S4x512x512 .f32 × Vec Ideal S4x1x512 .f32 × Vec Ideal S4x1x128 .f32 × Vec Ideal S8x2048 .f32

/-- What a state says before token `T` of a sequence. -/
structure Before (b : Fin 8) (T : ℕ) (s : Acc) : Prop where
  xp : Carried (aH m c) (aG m c) (aWin m c) b T s.2.2.2.2
  hd : ∀ hd, Head (aH m c) (aG m c) (aWin m c) (aBg m c) (aCw m c) (aCb m c) (aWk m c) (aWv m c) b T s.2.1 s.2.2.1 s.2.2.2.1 hd

/-- What a point's state says after it. -/
structure After (t : Fin cfg0.N) (s : Acc) : Prop where
  next : ∀ h1 : t.val / 8 < 8, Before m c ⟨t.val / 8, h1⟩ (256 * (t.val % 8) + 256) s
  out : ∀ (h1 : t.val / 8 < 8) (r : Fin 256) (h2 : 256 * (t.val % 8) + r.val < 2048) (d : Fin 1024), s.1 (ix3 0 r d)
    = layer (aH m c) (aG m c) (aWin m c) (aBg m c) (aCw m c) (aCb m c) (aWq m c) (aWk m c) (aWv m c) KS (aGn m c) (aSk m c) (aWout m c)
        ⟨t.val / 8, h1⟩ ⟨256 * (t.val % 8) + r.val, h2⟩ d

theorem start_xp (t : Fin cfg0.N) (h0 : t.val % 8 = 0) (h1 : t.val / 8 < 8) :
    Carried (aH m c) (aG m c) (aWin m c) ⟨t.val / 8, h1⟩ (256 * (t.val % 8)) (k0_pay5 (F := Ideal)) := by
  intro a k
  rw [if_neg (by omega)]
  unfold k0_pay5
  pointwise

theorem start_hd (t : Fin cfg0.N) (h0 : t.val % 8 = 0) (h1 : t.val / 8 < 8) (hd : Fin 4) :
    Head (aH m c) (aG m c) (aWin m c) (aBg m c) (aCw m c) (aCb m c) (aWk m c) (aWv m c) ⟨t.val / 8, h1⟩ (256 * (t.val % 8))
      (k0_pay2 (F := Ideal)) (k0_pay3 (F := Ideal)) (k0_pay4 (F := Ideal)) hd := by
  rw [h0]
  refine holds_zero _ _ _ _ _ _ _ ?_ ?_ ?_
  · show (k0_pay4 (F := Ideal)) (ix3 hd 0 0) = (0 : EReal)
    unfold k0_pay4
    pointwise
  · intro d e
    show (k0_pay2 (F := Ideal)) (ix3 hd d e) = (0 : EReal)
    unfold k0_pay2
    pointwise
  · intro d
    show (k0_pay3 (F := Ideal)) (ix3 hd 0 d) = (0 : EReal)
    unfold k0_pay3
    pointwise

variable (W : Weights (aG m c) (aWin m c) (aCw m c) (aCb m c) (aWq m c) (aWv m c))
include W

section Step

variable (t : Fin cfg0.N) (h1 : t.val / 8 < 8) (C : Vec Ideal S4x512x512 .f32) (n : Vec Ideal S4x1x512 .f32)
  (mm : Vec Ideal S4x1x128 .f32) (xp : Vec Ideal S8x2048 .f32)
  (X : Carried (aH m c) (aG m c) (aWin m c) ⟨t.val / 8, h1⟩ (256 * (t.val % 8)) xp)
  (H : ∀ hd, Head (aH m c) (aG m c) (aWin m c) (aBg m c) (aCw m c) (aCb m c) (aWk m c) (aWv m c) ⟨t.val / 8, h1⟩ (256 * (t.val % 8)) C n mm hd)
include X H

/-- A point whose state before it holds leaves a state that holds. -/
theorem step_head (hd : Fin 4) (restC : List (View.Piece (Elt Ideal) S4x512x512 .f32)) (restN : List (View.Piece (Elt Ideal) S4x1x512 .f32))
    (restM : List (View.Piece (Elt Ideal) S4x1x128 .f32)) :
    Head (aH m c) (aG m c) (aWin m c) (aBg m c) (aCw m c) (aCb m c) (aWk m c) (aWv m c) ⟨t.val / 8, h1⟩ (256 * (t.val % 8) + 256)
      (pileC (fun hd => sCn (iblk m c 0 t) (iblk m c 1 t) (iblk m c 2 t) (iblk m c 3 t) (iblk m c 4 t) (iblk m c 5 t) (iblk m c 7 t) (iblk m c 8 t) C mm xp hd) restC)
      (pileN (fun hd => sNn (iblk m c 0 t) (iblk m c 1 t) (iblk m c 2 t) (iblk m c 3 t) (iblk m c 4 t) (iblk m c 5 t) (iblk m c 7 t) n mm xp hd) restN)
      (pileM (fun hd => sMn (iblk m c 0 t) (iblk m c 1 t) (iblk m c 2 t) (iblk m c 3 t) mm hd) restM) hd :=
  head_next (blocks m c t h1) W X H hd restC restN restM

/-- A point whose state before it holds writes the layer's rows. -/
theorem step_out (r : Fin 256) (h2 : 256 * (t.val % 8) + r.val < 2048) (d : Fin 1024) :
    sOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) C n mm xp (ix3 0 r d)
      = layer (aH m c) (aG m c) (aWin m c) (aBg m c) (aCw m c) (aCb m c) (aWq m c) (aWk m c) (aWv m c) KS (aGn m c) (aSk m c) (aWout m c)
        ⟨t.val / 8, h1⟩ ⟨256 * (t.val % 8) + r.val, h2⟩ d :=
  sOut_at (blocks m c t h1) W X H r d

end Step

theorem point_A (t : Fin cfg0.N) (h0 : t.val % 8 = 0) (acc : Acc) : After m c t (stAt0 m c t.val t.isLt acc) := by
  have e := stAt0_A m c t acc h0
  have e0 : (stAt0 m c t.val t.isLt acc).1 = sOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (k0_pay2 (F := Ideal)) (k0_pay3 (F := Ideal)) (k0_pay4 (F := Ideal)) (k0_pay5 (F := Ideal)) := by
    rw [e, MlA.out_eq]
  have e1 : (stAt0 m c t.val t.isLt acc).2.1 = pileC (fun hd => sCn (iblk m c 0 t) (iblk m c 1 t) (iblk m c 2 t) (iblk m c 3 t) (iblk m c 4 t) (iblk m c 5 t) (iblk m c 7 t) (iblk m c 8 t) (k0_pay2 (F := Ideal)) (k0_pay4 (F := Ideal)) (k0_pay5 (F := Ideal)) hd) [⟨Rect.unit ![0, 0, 0] S4x512x512.size inb_S4x512x512_S4x512x512_0_0_0, (k0_pay2 (F := Ideal))⟩] := by
    rw [e, MlA.sout0_eq]
  have e2 : (stAt0 m c t.val t.isLt acc).2.2.1 = pileN (fun hd => sNn (iblk m c 0 t) (iblk m c 1 t) (iblk m c 2 t) (iblk m c 3 t) (iblk m c 4 t) (iblk m c 5 t) (iblk m c 7 t) (k0_pay3 (F := Ideal)) (k0_pay4 (F := Ideal)) (k0_pay5 (F := Ideal)) hd) [⟨Rect.unit ![0, 0, 0] S4x1x512.size inb_S4x1x512_S4x1x512_0_0_0, (k0_pay3 (F := Ideal))⟩] := by
    rw [e, MlA.sout1_eq]
  have e3 : (stAt0 m c t.val t.isLt acc).2.2.2.1 = pileM (fun hd => sMn (iblk m c 0 t) (iblk m c 1 t) (iblk m c 2 t) (iblk m c 3 t) (k0_pay4 (F := Ideal)) hd) [⟨Rect.unit ![0, 0, 0] S4x1x128.size inb_S4x1x128_S4x1x128_0_0_0, (k0_pay4 (F := Ideal))⟩] := by
    rw [e, MlA.sout2_eq]
  have e4 : (stAt0 m c t.val t.isLt acc).2.2.2.2 = sXp (iblk m c 0 t) (iblk m c 1 t) (iblk m c 2 t) := by
    rw [e, MlA.sout3_eq]
  refine ⟨fun h1 => ⟨?_, fun hd => ?_⟩, fun h1 r h2 d => ?_⟩
  · rw [e4]; exact sXp_at (blocks m c t h1)
  · rw [e1, e2, e3]; exact step_head m c W t h1 (k0_pay2 (F := Ideal)) (k0_pay3 (F := Ideal)) (k0_pay4 (F := Ideal)) (k0_pay5 (F := Ideal)) (start_xp m c t h0 h1) (start_hd m c t h0 h1) hd [⟨Rect.unit ![0, 0, 0] S4x512x512.size inb_S4x512x512_S4x512x512_0_0_0, (k0_pay2 (F := Ideal))⟩] [⟨Rect.unit ![0, 0, 0] S4x1x512.size inb_S4x1x512_S4x1x512_0_0_0, (k0_pay3 (F := Ideal))⟩] [⟨Rect.unit ![0, 0, 0] S4x1x128.size inb_S4x1x128_S4x1x128_0_0_0, (k0_pay4 (F := Ideal))⟩]
  · rw [e0]; exact step_out m c W t h1 (k0_pay2 (F := Ideal)) (k0_pay3 (F := Ideal)) (k0_pay4 (F := Ideal)) (k0_pay5 (F := Ideal)) (start_xp m c t h0 h1) (start_hd m c t h0 h1) r h2 d

theorem point_B (t : Fin cfg0.N) (h0 : ¬ t.val % 8 = 0) (acc : Acc)
    (key : ∀ h1 : t.val / 8 < 8, Before m c ⟨t.val / 8, h1⟩ (256 * (t.val % 8)) acc) : After m c t (stAt0 m c t.val t.isLt acc) := by
  have e := stAt0_B m c t acc h0
  have e0 : (stAt0 m c t.val t.isLt acc).1 = sOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.1 acc.2.2.1 acc.2.2.2.1 acc.2.2.2.2 := by
    rw [e, MlB.out_eq]
  have e1 : (stAt0 m c t.val t.isLt acc).2.1 = pileC (fun hd => sCn (iblk m c 0 t) (iblk m c 1 t) (iblk m c 2 t) (iblk m c 3 t) (iblk m c 4 t) (iblk m c 5 t) (iblk m c 7 t) (iblk m c 8 t) acc.2.1 acc.2.2.2.1 acc.2.2.2.2 hd) [] := by
    rw [e, MlB.sout0_eq]
  have e2 : (stAt0 m c t.val t.isLt acc).2.2.1 = pileN (fun hd => sNn (iblk m c 0 t) (iblk m c 1 t) (iblk m c 2 t) (iblk m c 3 t) (iblk m c 4 t) (iblk m c 5 t) (iblk m c 7 t) acc.2.2.1 acc.2.2.2.1 acc.2.2.2.2 hd) [] := by
    rw [e, MlB.sout1_eq]
  have e3 : (stAt0 m c t.val t.isLt acc).2.2.2.1 = pileM (fun hd => sMn (iblk m c 0 t) (iblk m c 1 t) (iblk m c 2 t) (iblk m c 3 t) acc.2.2.2.1 hd) [] := by
    rw [e, MlB.sout2_eq]
  have e4 : (stAt0 m c t.val t.isLt acc).2.2.2.2 = sXp (iblk m c 0 t) (iblk m c 1 t) (iblk m c 2 t) := by
    rw [e, MlB.sout3_eq]
  refine ⟨fun h1 => ⟨?_, fun hd => ?_⟩, fun h1 r h2 d => ?_⟩
  · rw [e4]; exact sXp_at (blocks m c t h1)
  · rw [e1, e2, e3]; exact step_head m c W t h1 acc.2.1 acc.2.2.1 acc.2.2.2.1 acc.2.2.2.2 (key h1).xp (key h1).hd hd [] [] []
  · rw [e0]; exact step_out m c W t h1 acc.2.1 acc.2.2.1 acc.2.2.2.1 acc.2.2.2.2 (key h1).xp (key h1).hd r h2 d

theorem after_point (n : ℕ) : ∀ hn : n < cfg0.N, After m c ⟨n, hn⟩ (outsAt0 m c n hn) := by
  induction n with
  | zero =>
    intro hn
    rw [outsAt0_zero]
    exact point_A m c W ⟨0, hn⟩ rfl _
  | succ n ih =>
    intro hn
    rw [outsAt0_succ]
    by_cases h0 : (n + 1) % 8 = 0
    · exact point_A m c W ⟨n + 1, hn⟩ h0 _
    · refine point_B m c W ⟨n + 1, hn⟩ h0 _ fun h1 => ?_
      have hN : cfg0.N = 64 := N_0
      have h1' : (n + 1) / 8 < 8 := h1
      have h0' : n % 8 + 1 = (n + 1) % 8 := by omega
      have hp := (ih (Nat.lt_of_succ_lt hn)).next (show n / 8 < 8 by omega)
      have e1 : (⟨n / 8, by omega⟩ : Fin 8) = ⟨(n + 1) / 8, h1⟩ := Fin.ext (show n / 8 = (n + 1) / 8 by omega)
      have e2 : 256 * (n % 8) + 256 = 256 * ((n + 1) % 8) := by omega
      dsimp only at hp ⊢
      rw [e1, e2] at hp
      exact hp

/-- The result array holds the layer. -/
theorem G12_eq (b : Fin 8) (t : Fin 2048) (d : Fin 1024) :
    (G12 m c : Vec Ideal S8x2048x1024 .f32) (ix3 b t d)
      = layer (aH m c) (aG m c) (aWin m c) (aBg m c) (aCw m c) (aCb m c) (aWq m c) (aWk m c) (aWv m c) KS (aGn m c) (aSk m c) (aWout m c) b t d := by
  have hp : pt12Of (ix3 b t d) = 8 * b.val + t.val / 256 := by
    show 8 * (b.val / 1 - 0) + 1 * (t.val / 256 - 0) + 1 * (d.val / 1024 - 0) = _
    omega
  have hN : cfg0.N = 64 := N_0
  have hlt : pt12Of (ix3 b t d) < cfg0.N := by rw [hp, hN]; omega
  unfold G12
  rw [dif_pos hlt]
  have hl : loc12Of (ix3 b t d) = (ix3 0 ⟨t.val % 256, by omega⟩ d : S1x256x1024.Idx) := by
    funext a
    apply Fin.ext
    match a with
    | ⟨0, _⟩ => show b.val % 1 = 0; omega
    | ⟨1, _⟩ => rfl
    | ⟨2, _⟩ => show d.val % 1024 = d.val; omega
  rw [hl, ← outsAt0_sweep m c _ hlt]
  have h1 : pt12Of (ix3 b t d) / 8 < 8 := by rw [hp]; omega
  have e2 : 256 * (pt12Of (ix3 b t d) % 8) + t.val % 256 = t.val := by rw [hp]; omega
  refine ((after_point m c W _ hlt).out h1 ⟨t.val % 256, by omega⟩ (by show 256 * (pt12Of (ix3 b t d) % 8) + t.val % 256 < 2048; omega) d).trans ?_
  congr 1
  · exact Fin.ext (show pt12Of (ix3 b t d) / 8 = b.val by rw [hp]; omega)
  · exact Fin.ext e2

end Cert.KernelIdeal.MlVal

end
-- ==== Proof.MlRefIn.lean ====
/-
  What the mLSTM reference computes before its loop over chunks, read at one element: the layer's projections, gates,
  convolution, queries, keys and values of `MlSpec.lean`.
-/
module

public import proofs.«01_k».proof.Proof.Gen.ReferenceIdeal.Step
public import proofs.«01_k».proof.Proof.MlSpec
public import Idealize.ShloMosaic.Lib.Pointwise

@[expose] public section

set_option maxRecDepth 16384

noncomputable section

open Idealize.ShloMosaic Idealize.ShloMosaic.TcCoe Idealize.SL.Sem
open scoped BigOperators

namespace Cert.ReferenceIdeal.Ml

open Cert.ReferenceIdeal Cert.ReferenceIdeal.Gen Cert.ReferenceIdeal.Step Cert.Ml
open Cert.FfnMath (nrm)

variable (a0 : (⟨S8x2048x1024, .f32⟩ : BufTy).Contents (Elt Ideal)) (a1 : (⟨S1024, .f32⟩ : BufTy).Contents (Elt Ideal)) (a2 : (⟨S1024x4104, .f32⟩ : BufTy).Contents (Elt Ideal)) (a3 : (⟨S8, .f32⟩ : BufTy).Contents (Elt Ideal)) (a4 : (⟨S4x2048, .f32⟩ : BufTy).Contents (Elt Ideal)) (a5 : (⟨S2048, .f32⟩ : BufTy).Contents (Elt Ideal)) (a6 : (⟨S4x512x512, .f32⟩ : BufTy).Contents (Elt Ideal)) (a7 : (⟨S4x512x512, .f32⟩ : BufTy).Contents (Elt Ideal)) (a8 : (⟨S4x512x512, .f32⟩ : BufTy).Contents (Elt Ideal))

theorem v13_at (b : Fin 8) (t : Fin 2048) (c : Fin 4104) :
    (A_main_v13 (F := Ideal) a0 a1 a2 a3 a4 a5 a6 a7 a8) (ix3 b t c) = pr (fun3 a0) (fun1 a1) (fun2 a2) b t.val c := by
  have e : ∀ d, (A_main_v12 (F := Ideal) a0 a1 a2 a3 a4 a5 a6 a7 a8) (ix3 b t d) = xn (fun3 a0) (fun1 a1) b t.val d := fun d => by
    unfold xn
    rw [dif_pos t.isLt]
    pointwise [A_main_v0, A_main_v1, A_main_v2, A_main_v4, A_main_v6, A_main_v7, A_main_v8, A_main_v9, A_main_v10, A_main_v11, A_main_v12, K_main_cst, K_main_cst_0, K_main_v3, K_main_cst_1, K_main_v5]
    rfl
  unfold pr
  simp only [← e]
  unfold A_main_v13
  generalize (A_main_v12 (F := Ideal) a0 a1 a2 a3 a4 a5 a6 a7 a8) = y
  pointwise
  rfl

theorem v14_at (b : Fin 8) (t : Fin 2048) (c : Fin 2048) : (A_main_v14 (F := Ideal) a0 a1 a2 a3 a4 a5 a6 a7 a8) (ix3 b t c) = xm (fun3 a0) (fun1 a1) (fun2 a2) b t.val c := by
  unfold xm
  rw [← v13_at a0 a1 a2 a3 a4 a5 a6 a7 a8]
  unfold A_main_v14
  generalize (A_main_v13 (F := Ideal) a0 a1 a2 a3 a4 a5 a6 a7 a8) = y
  pointwise

theorem v18_at (b : Fin 8) (t : Fin 2048) (c : Fin 8) : (A_main_v18 (F := Ideal) a0 a1 a2 a3 a4 a5 a6 a7 a8) (ix3 b t c) = gate (fun3 a0) (fun1 a1) (fun2 a2) (fun1 a3) b t.val c := by
  unfold gate
  rw [← v13_at a0 a1 a2 a3 a4 a5 a6 a7 a8]
  unfold A_main_v18 A_main_v17 A_main_v16 A_main_v15
  generalize (A_main_v13 (F := Ideal) a0 a1 a2 a3 a4 a5 a6 a7 a8) = y
  pointwise
  rfl

theorem v20_at (b : Fin 8) (hd : Fin 4) (t : Fin 2048) : (A_main_v20 (F := Ideal) a0 a1 a2 a3 a4 a5 a6 a7 a8) (ix3 b hd t) = li (fun3 a0) (fun1 a1) (fun2 a2) (fun1 a3) b hd t.val := by
  unfold li
  rw [← v18_at a0 a1 a2 a3 a4 a5 a6 a7 a8]
  unfold A_main_v20 A_main_v19
  generalize (A_main_v18 (F := Ideal) a0 a1 a2 a3 a4 a5 a6 a7 a8) = y
  pointwise

theorem v37_at (b : Fin 8) (hd : Fin 4) (t : Fin 2048) : (A_main_v37 (F := Ideal) a0 a1 a2 a3 a4 a5 a6 a7 a8) (ix3 b hd t) = lf (fun3 a0) (fun1 a1) (fun2 a2) (fun1 a3) b hd t.val := by
  unfold lf
  rw [← v18_at a0 a1 a2 a3 a4 a5 a6 a7 a8]
  unfold A_main_v37 A_main_v36 A_main_v35 A_main_v34 A_main_v33 A_main_v32 A_main_v31 A_main_v30 A_main_v28 A_main_v27 A_main_v25 A_main_v23 A_main_v22 A_main_v21 K_main_v24 K_main_v26 K_main_v29 K_main_cst_2
  generalize (A_main_v18 (F := Ideal) a0 a1 a2 a3 a4 a5 a6 a7 a8) = y
  pointwise
  rw [if_neg (fun hne => hne rfl)]
  exact neg_softplus _

theorem zero_i : FloatOps.sitofp (F := Ideal) FTy.f32 0#32 = 0 := by
  show (((0#32 : BitVec 32).toInt : ℝ) : EReal) = 0
  simp

/-- The branch with three rows of noughts before it: position `p` is token `p - 3`. -/
theorem v38_at (b : Fin 8) (t : Fin 2048) (u : ℕ) (hu : u ≤ 3) (c : Fin 2048) :
    (A_main_v38 (F := Ideal) a0 a1 a2 a3 a4 a5 a6 a7 a8) (ix3 b ⟨(3 - u) + t.val, by omega⟩ c) = past (fun3 a0) (fun1 a1) (fun2 a2) b t.val u c := by
  unfold past
  split
  · rename_i hp
    have e := v14_at a0 a1 a2 a3 a4 a5 a6 a7 a8 b ⟨t.val - u, by omega⟩ c
    refine Eq.trans ?_ e
    unfold A_main_v38 K_main_call0_v0 K_main_c
    generalize (A_main_v14 (F := Ideal) a0 a1 a2 a3 a4 a5 a6 a7 a8) = y
    pointwise
    rw [dif_pos (show 3 ≤ 3 - u + t.val ∧ 3 - u + t.val - 3 < 2048 by omega)]
    exact congrArg (fun q => y (ix3 b q c)) (Fin.ext (show 3 - u + t.val - 3 = t.val - u by omega))
  · rename_i hp
    unfold A_main_v38 K_main_call0_v0 K_main_c
    generalize (A_main_v14 (F := Ideal) a0 a1 a2 a3 a4 a5 a6 a7 a8) = y
    pointwise
    rw [dif_neg (show ¬ (3 ≤ 3 - u + t.val ∧ 3 - u + t.val - 3 < 2048) by omega)]
    exact zero_i

theorem v70_at (b : Fin 8) (t : Fin 2048) (c : Fin 2048) : (A_main_v70 (F := Ideal) a0 a1 a2 a3 a4 a5 a6 a7 a8) (ix3 b t c) = cv (fun3 a0) (fun1 a1) (fun2 a2) (fun2 a4) (fun1 a5) b t.val c := by
  unfold cv
  rw [← v38_at a0 a1 a2 a3 a4 a5 a6 a7 a8 b t 0 (by omega) c, ← v38_at a0 a1 a2 a3 a4 a5 a6 a7 a8 b t 1 (by omega) c, ← v38_at a0 a1 a2 a3 a4 a5 a6 a7 a8 b t 2 (by omega) c, ← v38_at a0 a1 a2 a3 a4 a5 a6 a7 a8 b t 3 (by omega) c]
  unfold A_main_v70 A_main_v69 A_main_v68 A_main_v67 A_main_v66 A_main_v65 A_main_v64 A_main_v63 A_main_v62 A_main_v61 A_main_v60 A_main_v59 A_main_v58 A_main_v57 A_main_v56 A_main_v55 A_main_v54 A_main_v53 A_main_v52 A_main_v51 A_main_v50 A_main_v49 A_main_v48 A_main_v47 A_main_v46 A_main_v44 A_main_v43 A_main_v42 A_main_v41 A_main_v40 A_main_v39 K_main_v45 K_main_cst_3
  generalize (A_main_v38 (F := Ideal) a0 a1 a2 a3 a4 a5 a6 a7 a8) = y
  pointwise
  change _ = a4 (ix2 3 c) * y (ix3 b ⟨3 + t.val, _⟩ c) + a4 (ix2 2 c) * y (ix3 b ⟨2 + t.val, _⟩ c) + a4 (ix2 1 c) * y (ix3 b ⟨1 + t.val, _⟩ c) + a4 (ix2 0 c) * y (ix3 b ⟨t.val, _⟩ c) + a5 (ix1 c)
  generalize a4 (ix2 3 c) * _ = p3
  generalize a4 (ix2 2 c) * _ = p2
  generalize a4 (ix2 1 c) * _ = p1
  generalize a4 (ix2 0 c) * _ = p0
  generalize a5 (ix1 c) = p
  refine congrArg (· + p) ?_
  ac_rfl

theorem v71_at (b : Fin 8) (t : Fin 2048) (c : Fin 2048) : (A_main_v71 (F := Ideal) a0 a1 a2 a3 a4 a5 a6 a7 a8) (ix3 b t c) = xc (fun3 a0) (fun1 a1) (fun2 a2) (fun2 a4) (fun1 a5) b t.val c := by
  unfold xc swish
  rw [← v70_at a0 a1 a2 a3 a4 a5 a6 a7 a8]
  unfold A_main_v71 A_main_call1_v5 A_main_call1_v3 A_main_call1_v1 A_main_call1_v0 K_main_call1_v2 K_main_call1_v4 K_main_call1_cst_0 K_main_call1_cst
  generalize (A_main_v70 (F := Ideal) a0 a1 a2 a3 a4 a5 a6 a7 a8) = y
  pointwise
  rw [zero_sub]

theorem col_eq (hd : Fin 4) (d : Fin 512) (hlt : hd.val * 512 + d.val < 2048) : (⟨hd.val * 512 + d.val, hlt⟩ : Fin 2048) = col hd d :=
  Fin.ext (show hd.val * 512 + d.val = 512 * hd.val + d.val by omega)

theorem v75_at (b : Fin 8) (hd : Fin 4) (t : Fin 2048) (e : Fin 512) : (A_main_v75 (F := Ideal) a0 a1 a2 a3 a4 a5 a6 a7 a8) (ix4 b hd t e) = qq (fun3 a0) (fun1 a1) (fun2 a2) (fun2 a4) (fun1 a5) (fun3 a6) b hd t.val e := by
  unfold qq
  simp only [← v71_at a0 a1 a2 a3 a4 a5 a6 a7 a8]
  unfold A_main_v75 A_main_v74 A_main_v72
  generalize (A_main_v71 (F := Ideal) a0 a1 a2 a3 a4 a5 a6 a7 a8) = y
  pointwise
  exact Finset.sum_congr rfl fun d _ => by rw [mul_comm, col_eq]; rfl

theorem v79_at (b : Fin 8) (hd : Fin 4) (t : Fin 2048) (e : Fin 512) :
    (A_main_v79 (F := Ideal) a0 a1 a2 a3 a4 a5 a6 a7 a8) (ix4 b hd t e) = kk (fun3 a0) (fun1 a1) (fun2 a2) (fun2 a4) (fun1 a5) (fun3 a7) (Ideal.ofBits .f32 0x3D3504F3#32) b hd t.val e := by
  unfold kk
  simp only [← v71_at a0 a1 a2 a3 a4 a5 a6 a7 a8]
  unfold A_main_v79 A_main_v77 A_main_v76 A_main_v72 K_main_v78 K_main_cst_4
  generalize (A_main_v71 (F := Ideal) a0 a1 a2 a3 a4 a5 a6 a7 a8) = y
  pointwise
  exact congrArg (· * (Ideal.ofBits .f32 0x3D3504F3#32)) (Finset.sum_congr rfl fun d _ => by rw [mul_comm, col_eq]; rfl)

theorem v81_at (b : Fin 8) (hd : Fin 4) (t : Fin 2048) (e : Fin 512) : (A_main_v81 (F := Ideal) a0 a1 a2 a3 a4 a5 a6 a7 a8) (ix4 b hd t e) = vv (fun3 a0) (fun1 a1) (fun2 a2) (fun3 a8) b hd t.val e := by
  unfold vv
  simp only [← v14_at a0 a1 a2 a3 a4 a5 a6 a7 a8]
  unfold A_main_v81 A_main_v80 A_main_v73
  generalize (A_main_v14 (F := Ideal) a0 a1 a2 a3 a4 a5 a6 a7 a8) = y
  pointwise
  exact Finset.sum_congr rfl fun d _ => by rw [mul_comm, col_eq]; rfl

/-! Chunked: token `r` of chunk `j` is token `64 j + r`. -/

theorem tok (j : Fin 32) (r : Fin 64) (h : j.val * 64 + r.val < 2048) : (⟨j.val * 64 + r.val, h⟩ : Fin 2048) = ⟨64 * j.val + r.val, by omega⟩ :=
  Fin.ext (show j.val * 64 + r.val = 64 * j.val + r.val by omega)

theorem v88_at (j : Fin 32) (b : Fin 8) (hd : Fin 4) (r : Fin 64) (e : Fin 512) : (A_main_v88 (F := Ideal) a0 a1 a2 a3 a4 a5 a6 a7 a8) (ix5 j b hd r e) = qq (fun3 a0) (fun1 a1) (fun2 a2) (fun2 a4) (fun1 a5) (fun3 a6) b hd (64 * j.val + r.val) e := by
  refine Eq.trans ?_ (v75_at a0 a1 a2 a3 a4 a5 a6 a7 a8 b hd ⟨64 * j.val + r.val, by omega⟩ e)
  unfold A_main_v88 A_main_v87
  generalize (A_main_v75 (F := Ideal) a0 a1 a2 a3 a4 a5 a6 a7 a8) = y
  pointwise
  rw [tok]

theorem v90_at (j : Fin 32) (b : Fin 8) (hd : Fin 4) (r : Fin 64) (e : Fin 512) : (A_main_v90 (F := Ideal) a0 a1 a2 a3 a4 a5 a6 a7 a8) (ix5 j b hd r e) = kk (fun3 a0) (fun1 a1) (fun2 a2) (fun2 a4) (fun1 a5) (fun3 a7) (Ideal.ofBits .f32 0x3D3504F3#32) b hd (64 * j.val + r.val) e := by
  refine Eq.trans ?_ (v79_at a0 a1 a2 a3 a4 a5 a6 a7 a8 b hd ⟨64 * j.val + r.val, by omega⟩ e)
  unfold A_main_v90 A_main_v89
  generalize (A_main_v79 (F := Ideal) a0 a1 a2 a3 a4 a5 a6 a7 a8) = y
  pointwise
  rw [tok]

theorem v92_at (j : Fin 32) (b : Fin 8) (hd : Fin 4) (r : Fin 64) (e : Fin 512) : (A_main_v92 (F := Ideal) a0 a1 a2 a3 a4 a5 a6 a7 a8) (ix5 j b hd r e) = vv (fun3 a0) (fun1 a1) (fun2 a2) (fun3 a8) b hd (64 * j.val + r.val) e := by
  refine Eq.trans ?_ (v81_at a0 a1 a2 a3 a4 a5 a6 a7 a8 b hd ⟨64 * j.val + r.val, by omega⟩ e)
  unfold A_main_v92 A_main_v91
  generalize (A_main_v81 (F := Ideal) a0 a1 a2 a3 a4 a5 a6 a7 a8) = y
  pointwise
  rw [tok]

theorem v94_at (j : Fin 32) (b : Fin 8) (hd : Fin 4) (r : Fin 64) : (A_main_v94 (F := Ideal) a0 a1 a2 a3 a4 a5 a6 a7 a8) (ix4 j b hd r) = li (fun3 a0) (fun1 a1) (fun2 a2) (fun1 a3) b hd (64 * j.val + r.val) := by
  refine Eq.trans ?_ (v20_at a0 a1 a2 a3 a4 a5 a6 a7 a8 b hd ⟨64 * j.val + r.val, by omega⟩)
  unfold A_main_v94 A_main_v93
  generalize (A_main_v20 (F := Ideal) a0 a1 a2 a3 a4 a5 a6 a7 a8) = y
  pointwise
  rw [tok]

theorem v96_at (j : Fin 32) (b : Fin 8) (hd : Fin 4) (r : Fin 64) : (A_main_v96 (F := Ideal) a0 a1 a2 a3 a4 a5 a6 a7 a8) (ix4 j b hd r) = lf (fun3 a0) (fun1 a1) (fun2 a2) (fun1 a3) b hd (64 * j.val + r.val) := by
  refine Eq.trans ?_ (v37_at a0 a1 a2 a3 a4 a5 a6 a7 a8 b hd ⟨64 * j.val + r.val, by omega⟩)
  unfold A_main_v96 A_main_v95
  generalize (A_main_v37 (F := Ideal) a0 a1 a2 a3 a4 a5 a6 a7 a8) = y
  pointwise
  rw [tok]

end Cert.ReferenceIdeal.Ml

end
-- ==== Proof.MlRefLoop.lean ====
/-
  The mLSTM reference's loop over chunks of 64 tokens, read at one element: a trip is one chunk of `MlMath.lean`, so
  after the 32 trips the stacked outputs are the recurrence's outputs.
-/
module

public import proofs.«01_k».proof.Proof.MlRefIn
public import Idealize.ShloMosaic.Lib.DynamicIndex
public import Idealize.ShloMosaic.Lib.WordCmp

@[expose] public section
set_option maxRecDepth 16384
noncomputable section
open Idealize.ShloMosaic Idealize.ShloMosaic.TcCoe Idealize.SL.Sem
open scoped BigOperators
namespace Cert.ReferenceIdeal.Ml
open Cert.ReferenceIdeal Cert.ReferenceIdeal.Gen Cert.ReferenceIdeal.Step Cert.Ml

theorem foldl_add {ι : Type*} (g : ι → EReal) (L : List ι) (a : EReal) :
    L.foldl (fun r n => r + g n) a = a + (L.map g).sum := by
  induction L generalizing a with
  | nil => simp
  | cons n L ih => rw [List.foldl_cons, ih, List.map_cons, List.sum_cons, add_assoc]

/-- Of a window of 64 that ends at position `r`, the entries inside the row are those up to `r`. -/
theorem window_sum (r : Fin 64) (y : Fin 64 → EReal) :
    (∑ w : Fin 64, if h : 63 ≤ r.val + w.val then y ⟨r.val + w.val - 63, by omega⟩ else 0) = cB y r := by
  unfold cB
  rw [← Finset.sum_filter, Finset.sum_dite, Finset.sum_const_zero, add_zero]
  refine Finset.sum_bij' (fun w _ => ⟨r.val + w.1.val - 63, by omega⟩) (fun s hs => ⟨⟨63 - r.val + s.val, by simp at hs; omega⟩, by simp at hs ⊢; omega⟩) ?_ ?_ ?_ ?_ ?_
  · rintro ⟨w, hw⟩ _
    simp at hw ⊢
    exact Fin.mk_le_of_le_val (by omega)
  · simp
  · rintro ⟨w, hw⟩ _
    simp at hw
    exact Subtype.ext (Fin.ext (show 63 - r.val + (r.val + w.val - 63) = w.val by omega))
  · intro s hs
    simp at hs
    exact Fin.ext (show r.val + (63 - r.val + s.val) - 63 = s.val by omega)
  · intro w _
    rfl

/-- A window's position. -/
def wpos (n : Fin (⟨3, ![1, 1, 64]⟩ : Shape).numel) : (⟨3, ![1, 1, 64]⟩ : Shape).Idx := (Shape.rowMajor _).symm n

theorem sum_wpos (G : (⟨3, ![1, 1, 64]⟩ : Shape).Idx → EReal) : ∑ n, G (wpos n) = ∑ w : Fin 64, G (ix3 0 0 w) := by
  refine (Equiv.sum_comp (Shape.rowMajor _).symm G).trans ?_
  rw [sum_idx3, Fin.sum_univ_one, Fin.sum_univ_one]

theorem b30_at (j : ℕ) (s : State Ideal) (b : Fin 8) (hd : Fin 4) (r : Fin 64) :
    b30 j s (ix3 b hd r) = cB (fun x => b27 j s (ix3 b hd x)) r := by
  unfold b30
  generalize b27 j s = y
  have hz : b29 j s (Shape.Idx.first h_S_) = (0 : EReal) := by
    show Ideal.ofBits .f32 0x00000000#32 = 0
    simp [Ideal.ofBits, Ideal.ieee]
  generalize b29 j s = z at hz
  have hl : ∀ i : (⟨3, ![1, 1, 64]⟩ : Shape).Idx, (i 2).val < 64 := fun i => (i 2).isLt
  refine Eq.trans ?_ ((sum_wpos fun i => if h : 63 ≤ r.val + (i 2).val then y (ix3 b hd ⟨r.val + (i 2).val - 63, by
    have := hl i; omega⟩) else (0 : EReal)).trans (window_sum r fun x => y (ix3 b hd x)))
  change Host.reduceWindow (fun a b : EReal => a + b) ![1, 1, 64] ![1, 1, 1] ![0, 0, 63] ![0, 0, 0] y
    (fun _ : S_.Idx => z (Shape.Idx.first h_S_)) reduceWindows_S8x4x64_S8x4x64_w1s1p0_0_w1s1p0_0_w64s1p63_0 h_S_ (ix3 b hd r) = _
  rw [hz]
  unfold Host.reduceWindow
  rw [foldl_add, zero_add, ← Fin.sum_univ_def]
  refine Finset.sum_congr rfl fun n _ => ?_
  have i0 : (wpos n 0).val = 0 := by have : (wpos n 0).val < 1 := (wpos n 0).isLt; omega
  have i1 : (wpos n 1).val = 0 := by have : (wpos n 1).val < 1 := (wpos n 1).isLt; omega
  have i2 := hl (wpos n)
  dsimp only
  split
  · rename_i hin
    have h2 := hin 2
    change 63 ≤ r.val * 1 + (wpos n 2).val ∧ _ at h2
    rw [dif_pos (by omega)]
    refine congrArg y (funext fun a => Fin.ext ?_)
    match a with
    | ⟨0, _⟩ => show b.val * 1 + (wpos n 0).val - 0 = b.val; omega
    | ⟨1, _⟩ => show hd.val * 1 + (wpos n 1).val - 0 = hd.val; omega
    | ⟨2, _⟩ => show r.val * 1 + (wpos n 2).val - 63 = r.val + (wpos n 2).val - 63; omega
  · rename_i hin
    rw [dif_neg fun hle => hin fun a => ?_]
    match a with
    | ⟨0, _⟩ => show 0 ≤ b.val * 1 + (wpos n 0).val ∧ b.val * 1 + (wpos n 0).val - 0 < 8; omega
    | ⟨1, _⟩ => show 0 ≤ hd.val * 1 + (wpos n 1).val ∧ hd.val * 1 + (wpos n 1).val - 0 < 4; omega
    | ⟨2, _⟩ => show 63 ≤ r.val * 1 + (wpos n 2).val ∧ r.val * 1 + (wpos n 2).val - 63 < 64; omega

theorem word_toInt : ∀ j : Fin 32, (BitVec.ofNat 32 j.val).toInt = (j.val : Int) := by decide

theorem b5_at (j : Fin 32) (s : State Ideal) (b : Fin 8) (hd : Fin 4) (r : Fin 64) (d : Fin 512) :
    b5 j.val s (ix4 b hd r d) = s.main_v98_0 (ix5 j b hd r d) := by
  unfold b5 b4
  rw [Host.dynamicSlice_eq_extractStridedSlice _ _ _ ![j.val, 0, 0, 0, 0] _ (by
      refine ⟨rfl, fun a => ?_⟩
      fin_cases a <;> simp <;> omega) (by
      intro a
      fin_cases a
      · exact word_toInt j
      all_goals rfl)]
  generalize s.main_v98_0 = y
  pointwise

theorem b11_at (j : Fin 32) (s : State Ideal) (b : Fin 8) (hd : Fin 4) (r : Fin 64) (d : Fin 512) :
    b11 j.val s (ix4 b hd r d) = s.main_v98_1 (ix5 j b hd r d) := by
  unfold b11 b10
  rw [Host.dynamicSlice_eq_extractStridedSlice _ _ _ ![j.val, 0, 0, 0, 0] _ (by
      refine ⟨rfl, fun a => ?_⟩
      fin_cases a <;> simp <;> omega) (by
      intro a
      fin_cases a
      · exact word_toInt j
      all_goals rfl)]
  generalize s.main_v98_1 = y
  pointwise

theorem b17_at (j : Fin 32) (s : State Ideal) (b : Fin 8) (hd : Fin 4) (r : Fin 64) (d : Fin 512) :
    b17 j.val s (ix4 b hd r d) = s.main_v98_2 (ix5 j b hd r d) := by
  unfold b17 b16
  rw [Host.dynamicSlice_eq_extractStridedSlice _ _ _ ![j.val, 0, 0, 0, 0] _ (by
      refine ⟨rfl, fun a => ?_⟩
      fin_cases a <;> simp <;> omega) (by
      intro a
      fin_cases a
      · exact word_toInt j
      all_goals rfl)]
  generalize s.main_v98_2 = y
  pointwise

theorem b22_at (j : Fin 32) (s : State Ideal) (b : Fin 8) (hd : Fin 4) (r : Fin 64) :
    b22 j.val s (ix3 b hd r) = s.main_v98_3 (ix4 j b hd r) := by
  unfold b22 b21
  rw [Host.dynamicSlice_eq_extractStridedSlice _ _ _ ![j.val, 0, 0, 0] _ (by
      refine ⟨rfl, fun a => ?_⟩
      fin_cases a <;> simp <;> omega) (by
      intro a
      fin_cases a
      · exact word_toInt j
      all_goals rfl)]
  generalize s.main_v98_3 = y
  pointwise

theorem b27_at (j : Fin 32) (s : State Ideal) (b : Fin 8) (hd : Fin 4) (r : Fin 64) :
    b27 j.val s (ix3 b hd r) = s.main_v98_4 (ix4 j b hd r) := by
  unfold b27 b26
  rw [Host.dynamicSlice_eq_extractStridedSlice _ _ _ ![j.val, 0, 0, 0] _ (by
      refine ⟨rfl, fun a => ?_⟩
      fin_cases a <;> simp <;> omega) (by
      intro a
      fin_cases a
      · exact word_toInt j
      all_goals rfl)]
  generalize s.main_v98_4 = y
  pointwise

theorem neg_inf : Ideal.ofBits .f32 4286578688#32 = ⊥ := by
  simp [Ideal.ofBits, Ideal.ieee]

theorem tri (t u : Fin 64) (x y : EReal) :
    Scalar.select (Scalar.select (IntOp.cmpi CmpIPredicate.sge (IntOp.addi (BitVec.ofNat 32 t.val) 0#32) (BitVec.ofNat 32 u.val)) 1#1 0#1) x y
      = if u ≤ t then x else y := by
  have e : IntOp.addi (BitVec.ofNat 32 t.val) 0#32 = BitVec.ofNat 32 t.val := BitVec.add_zero _
  rw [e, Idealize.ShloMosaic.WordCmp.cmpi_sge_ofNat (by omega) (by omega)]
  by_cases h : u ≤ t
  · rw [if_pos h, show decide (u.val ≤ t.val) = true from decide_eq_true h]; rfl
  · rw [if_neg h, show decide (u.val ≤ t.val) = false from decide_eq_false h]; rfl

theorem b43_at (j : ℕ) (s : State Ideal) (b : Fin 8) (hd : Fin 4) (t u : Fin 64) :
    b43 j s (ix4 b hd t u) = cD (fun x => b30 j s (ix3 b hd x)) (fun x => b22 j s (ix3 b hd x)) t u := by
  unfold b43 b42 b41 b40 b39 b38 b37 b36 b35 b34 b33 b32 b31 K_main_v83 K_main_call2_v5 K_main_call2_v4 K_main_call2_v3 K_main_call2_v2 K_main_call2_v1 K_main_call2_v0 K_main_call2_c K_main_call2_c_0 K_main_v82 K_main_c_5
  generalize b30 j s = y
  generalize b22 j s = z
  pointwise
  rw [tri, neg_inf]
  rfl

theorem b46_at (j : ℕ) (s : State Ideal) (b : Fin 8) (hd : Fin 4) (r : Fin 64) :
    b46 j s (ix3 b hd r) = b30 j s (ix3 b hd r) + s.main_v98_9 (ix2 b hd) := by
  unfold b46 b45 b44
  generalize b30 j s = y
  generalize s.main_v98_9 = z
  pointwise

theorem b49_at (j : ℕ) (s : State Ideal) (b : Fin 8) (hd : Fin 4) (r : Fin 64) :
    b49 j s (ix3 b hd r) = cM (fun x => b30 j s (ix3 b hd x)) (fun x => b22 j s (ix3 b hd x)) (s.main_v98_9 (ix2 b hd)) r := by
  unfold cM
  rw [← b46_at]
  have e : cD (fun x => b30 j s (ix3 b hd x)) (fun x => b22 j s (ix3 b hd x)) r = fun u => b43 j s (ix4 b hd r u) := funext fun u => (b43_at j s b hd r u).symm
  rw [e, ← neg_inf]
  unfold b49 b48 b47
  generalize b46 j s = y
  generalize b43 j s = z
  pointwise

theorem b57_at (j : ℕ) (s : State Ideal) (b : Fin 8) (hd : Fin 4) (r u : Fin 64) :
    b57 j s (ix4 b hd r u) = cS (fun x => b30 j s (ix3 b hd x)) (fun x => b22 j s (ix3 b hd x)) (s.main_v98_9 (ix2 b hd)) (fun x d => b5 j s (ix4 b hd x d)) (fun x d => b11 j s (ix4 b hd x d)) r u := by
  unfold cS
  rw [← b49_at, ← b43_at]
  unfold b57 b56 b53 b52 b51 b50
  generalize b49 j s = x
  generalize b43 j s = y
  generalize b5 j s = z
  generalize b11 j s = w
  pointwise

theorem b55_at (j : ℕ) (s : State Ideal) (b : Fin 8) (hd : Fin 4) (r : Fin 64) :
    b55 j s (ix3 b hd r) = cR (fun x => b30 j s (ix3 b hd x)) (fun x => b22 j s (ix3 b hd x)) (s.main_v98_9 (ix2 b hd)) r := by
  unfold cR
  rw [← b49_at, ← b46_at]
  unfold b55 b54
  generalize b49 j s = x
  generalize b46 j s = y
  pointwise

theorem b63_at (j : ℕ) (s : State Ideal) (b : Fin 8) (hd : Fin 4) (r : Fin 64) (e : Fin 512) :
    b63 j s (ix4 b hd r e) = cNum (fun x => b30 j s (ix3 b hd x)) (fun x => b22 j s (ix3 b hd x)) (s.main_v98_9 (ix2 b hd)) (fun x d => b5 j s (ix4 b hd x d)) (fun x d => b11 j s (ix4 b hd x d)) (fun x d => b17 j s (ix4 b hd x d)) (fun d e => s.main_v98_7 (ix4 b hd d e)) r e := by
  unfold cNum
  simp only [← b57_at, ← b55_at]
  unfold b63 b62 b61 b60 b59 b58
  generalize b57 j s = x
  generalize b55 j s = y
  generalize b5 j s = z
  generalize b17 j s = w
  generalize s.main_v98_7 = c
  pointwise

theorem b68_at (j : ℕ) (s : State Ideal) (b : Fin 8) (hd : Fin 4) (r : Fin 64) :
    b68 j s (ix3 b hd r) = cDen (fun x => b30 j s (ix3 b hd x)) (fun x => b22 j s (ix3 b hd x)) (s.main_v98_9 (ix2 b hd)) (fun x d => b5 j s (ix4 b hd x d)) (fun x d => b11 j s (ix4 b hd x d)) (fun d => s.main_v98_8 (ix3 b hd d)) r := by
  unfold cDen
  simp only [← b57_at, ← b55_at]
  unfold b68 b67 b66 b65 b64
  generalize b57 j s = x
  generalize b55 j s = y
  generalize b5 j s = z
  generalize s.main_v98_8 = c
  pointwise

theorem b75_at (j : ℕ) (s : State Ideal) (b : Fin 8) (hd : Fin 4) (r : Fin 64) (e : Fin 512) :
    b75 j s (ix4 b hd r e) = cH (fun x => b30 j s (ix3 b hd x)) (fun x => b22 j s (ix3 b hd x)) (s.main_v98_9 (ix2 b hd)) (fun x d => b5 j s (ix4 b hd x d)) (fun x d => b11 j s (ix4 b hd x d)) (fun x d => b17 j s (ix4 b hd x d)) (fun d e => s.main_v98_7 (ix4 b hd d e)) (fun d => s.main_v98_8 (ix3 b hd d)) r e := by
  unfold cH
  rw [← b63_at, ← b68_at, ← b49_at]
  unfold b75 b74 b73 b72 b71 b70 b69
  generalize b63 j s = x
  generalize b68 j s = y
  generalize b49 j s = z
  pointwise
  rfl

theorem b77_at (j : ℕ) (s : State Ideal) (b : Fin 8) (hd : Fin 4) : b77 j s (ix2 b hd) = b30 j s (ix3 b hd 63) := by
  unfold b77 b76
  generalize b30 j s = y
  pointwise

theorem b81_at (j : ℕ) (s : State Ideal) (b : Fin 8) (hd : Fin 4) (x : Fin 64) :
    b81 j s (ix3 b hd x) = b30 j s (ix3 b hd 63) - b30 j s (ix3 b hd x) + b22 j s (ix3 b hd x) := by
  rw [← b77_at]
  unfold b81 b80 b79 b78
  generalize b30 j s = y
  generalize b77 j s = w
  generalize b22 j s = z
  pointwise

theorem b85_at (j : ℕ) (s : State Ideal) (b : Fin 8) (hd : Fin 4) : b85 j s (ix2 b hd) = cMn 63 (fun x => b30 j s (ix3 b hd x)) (fun x => b22 j s (ix3 b hd x)) (s.main_v98_9 (ix2 b hd)) := by
  have e : cMn 63 (fun x => b30 j s (ix3 b hd x)) (fun x => b22 j s (ix3 b hd x)) (s.main_v98_9 (ix2 b hd))
      = max (b77 j s (ix2 b hd) + s.main_v98_9 (ix2 b hd) : EReal) (Finset.univ.fold max ⊥ fun x => (b81 j s (ix3 b hd x) : EReal)) := by
    rw [b77_at]
    exact congrArg (fun f => max _ (Finset.univ.fold max ⊥ f)) (funext fun x => (b81_at j s b hd x).symm)
  rw [e, ← neg_inf]
  unfold b85 b84 b83 b82
  generalize b77 j s = y
  generalize b81 j s = z
  generalize s.main_v98_9 = w
  pointwise

theorem b88_at (j : ℕ) (s : State Ideal) (b : Fin 8) (hd : Fin 4) : b88 j s (ix2 b hd) = Ideal.exp (b30 j s (ix3 b hd 63) + s.main_v98_9 (ix2 b hd) - b85 j s (ix2 b hd)) := by
  rw [← b77_at]
  unfold b88 b87 b86
  generalize b77 j s = y
  generalize b85 j s = z
  generalize s.main_v98_9 = w
  pointwise

theorem b95_at (j : ℕ) (s : State Ideal) (b : Fin 8) (hd : Fin 4) (x : Fin 64) (d : Fin 512) :
    b95 j s (ix4 b hd x d) = Ideal.exp (b30 j s (ix3 b hd 63) - b30 j s (ix3 b hd x) + b22 j s (ix3 b hd x) - b85 j s (ix2 b hd)) * b11 j s (ix4 b hd x d) := by
  rw [← b81_at]
  unfold b95 b94 b93 b92 b91 b90 b89
  generalize b81 j s = y
  generalize b85 j s = z
  generalize b11 j s = w
  pointwise

theorem b100_at (j : ℕ) (s : State Ideal) (b : Fin 8) (hd : Fin 4) (d e : Fin 512) : b100 j s (ix4 b hd d e) = cCn 63 (fun x => b30 j s (ix3 b hd x)) (fun x => b22 j s (ix3 b hd x)) (s.main_v98_9 (ix2 b hd)) (fun x d => b11 j s (ix4 b hd x d)) (fun x d => b17 j s (ix4 b hd x d)) (fun d e => s.main_v98_7 (ix4 b hd d e)) d e := by
  unfold cCn
  rw [← b85_at, ← b88_at]
  refine Eq.trans ?_ (congrArg₂ (· + ·) rfl (Finset.sum_congr rfl fun x _ => congrArg (· * _) (b95_at j s b hd x d)))
  unfold b100 b99 b98 b97 b96
  generalize b88 j s = y
  generalize b95 j s = z
  generalize b17 j s = w
  generalize s.main_v98_7 = c
  pointwise

theorem b106_at (j : ℕ) (s : State Ideal) (b : Fin 8) (hd : Fin 4) (d : Fin 512) : b106 j s (ix3 b hd d) = cNn 63 (fun x => b30 j s (ix3 b hd x)) (fun x => b22 j s (ix3 b hd x)) (s.main_v98_9 (ix2 b hd)) (fun x d => b11 j s (ix4 b hd x d)) (fun d => s.main_v98_8 (ix3 b hd d)) d := by
  unfold cNn
  rw [← b85_at, ← b88_at]
  refine Eq.trans ?_ (congrArg₂ (· + ·) rfl (Finset.sum_congr rfl fun x _ => b95_at j s b hd x d))
  unfold b106 b105 b104 b103 b102 b101
  generalize b88 j s = y
  generalize b95 j s = z
  generalize s.main_v98_8 = c
  pointwise

theorem b112_at (j : Fin 32) (s : State Ideal) (i : Fin 32) (b : Fin 8) (hd : Fin 4) (r : Fin 64) (e : Fin 512) :
    b112 j.val s (ix5 i b hd r e) = if i = j then b75 j.val s (ix4 b hd r e) else s.main_v98_10 (ix5 i b hd r e) := by
  unfold b112 b107
  rw [Idealize.ShloMosaic.WordCmp.dynamicUpdateSlice_eq_update _ _ _ _ ![j.val, 0, 0, 0, 0] (by
      refine ⟨rfl, fun a => ?_⟩
      fin_cases a <;> simp <;> omega) (by
      intro a
      fin_cases a
      · exact word_toInt j
      all_goals rfl)]
  generalize b75 j.val s = y
  generalize s.main_v98_10 = z
  pointwise
  by_cases h : i = j
  · subst h
    rw [dif_pos ⟨le_refl _, Nat.lt_succ_self _⟩, if_pos rfl]
  · rw [if_neg h, dif_neg fun hc => h (Fin.ext (by omega))]

/-! ## The trips -/

variable (a0 : (⟨S8x2048x1024, .f32⟩ : BufTy).Contents (Elt Ideal)) (a1 : (⟨S1024, .f32⟩ : BufTy).Contents (Elt Ideal)) (a2 : (⟨S1024x4104, .f32⟩ : BufTy).Contents (Elt Ideal)) (a3 : (⟨S8, .f32⟩ : BufTy).Contents (Elt Ideal)) (a4 : (⟨S4x2048, .f32⟩ : BufTy).Contents (Elt Ideal)) (a5 : (⟨S2048, .f32⟩ : BufTy).Contents (Elt Ideal)) (a6 : (⟨S4x512x512, .f32⟩ : BufTy).Contents (Elt Ideal)) (a7 : (⟨S4x512x512, .f32⟩ : BufTy).Contents (Elt Ideal)) (a8 : (⟨S4x512x512, .f32⟩ : BufTy).Contents (Elt Ideal))

theorem it_fields (it : ℕ → State Ideal) (hs : ∀ n, it (n + 1) = step n (it n)) (n : ℕ) :
    (it n).main_v98_0 = (it 0).main_v98_0 ∧ (it n).main_v98_1 = (it 0).main_v98_1 ∧ (it n).main_v98_2 = (it 0).main_v98_2
      ∧ (it n).main_v98_3 = (it 0).main_v98_3 ∧ (it n).main_v98_4 = (it 0).main_v98_4 := by
  induction n with
  | zero => exact ⟨rfl, rfl, rfl, rfl, rfl⟩
  | succ n ih => rw [hs n]; exact ih

/-- Before trip `n` the carried state is the recurrence's before token `64 n`, and every earlier chunk's outputs are the
    recurrence's. -/
theorem trips (W : Weights (fun1 a1) (fun2 a2) (fun2 a4) (fun1 a5) (fun3 a6) (fun3 a8))
    (it : ℕ → State Ideal) (h0 : it 0 = Step.init (F := Ideal) a0 a1 a2 a3 a4 a5 a6 a7 a8) (hs : ∀ n, it (n + 1) = step n (it n))
    (b : Fin 8) (hd : Fin 4) (n : ℕ) (hn : n ≤ 32) :
    Holds (lf (fun3 a0) (fun1 a1) (fun2 a2) (fun1 a3) b hd) (li (fun3 a0) (fun1 a1) (fun2 a2) (fun1 a3) b hd)
        (kk (fun3 a0) (fun1 a1) (fun2 a2) (fun2 a4) (fun1 a5) (fun3 a7) (Ideal.ofBits .f32 0x3D3504F3#32) b hd) (vv (fun3 a0) (fun1 a1) (fun2 a2) (fun3 a8) b hd) (64 * n)
        ((it n).main_v98_9 (ix2 b hd)) (fun d e => (it n).main_v98_7 (ix4 b hd d e)) (fun d => (it n).main_v98_8 (ix3 b hd d))
      ∧ ∀ i : Fin 32, i.val < n → ∀ r e, (it n).main_v98_10 (ix5 i b hd r e)
        = cellOut (fun3 a0) (fun1 a1) (fun2 a2) (fun1 a3) (fun2 a4) (fun1 a5) (fun3 a6) (fun3 a7) (fun3 a8) (Ideal.ofBits .f32 0x3D3504F3#32) b hd (64 * i.val + r.val) e := by
  induction n with
  | zero =>
    refine ⟨?_, fun i hi => absurd hi (Nat.not_lt_zero _)⟩
    rw [h0]
    refine holds_zero _ _ _ _ _ _ _ ?_ (fun d e => ?_) (fun d => ?_)
    · show K_main_v86 (F := Ideal) (ix2 b hd) = 0
      unfold K_main_v86 K_main_cst_8
      pointwise
    · show K_main_v84 (F := Ideal) (ix4 b hd d e) = 0
      unfold K_main_v84 K_main_cst_6
      pointwise
    · show K_main_v85 (F := Ideal) (ix3 b hd d) = 0
      unfold K_main_v85 K_main_cst_7
      pointwise
  | succ n ih =>
    obtain ⟨ihs, iho⟩ := ih (by omega)
    obtain ⟨f0, f1, f2, f3, f4⟩ := it_fields it hs n
    have hR := reads_of (h := fun3 a0) (bg := fun1 a3) (wk := fun3 a7) (ks := Ideal.ofBits .f32 0x3D3504F3#32) W (L := 64) b hd (64 * n)
    have eb : (fun x => b30 n (it n) (ix3 b hd x)) = cB fun r : Fin 64 => lf (fun3 a0) (fun1 a1) (fun2 a2) (fun1 a3) b hd (64 * n + r.val) := by
      funext x
      rw [b30_at]
      refine congrFun (congrArg cB (funext fun r => ?_)) x
      rw [b27_at ⟨n, by omega⟩, f4, h0]
      exact v96_at a0 a1 a2 a3 a4 a5 a6 a7 a8 ⟨n, by omega⟩ b hd r
    have ei : (fun x => b22 n (it n) (ix3 b hd x)) = fun r : Fin 64 => li (fun3 a0) (fun1 a1) (fun2 a2) (fun1 a3) b hd (64 * n + r.val) := by
      funext r
      rw [b22_at ⟨n, by omega⟩, f3, h0]
      exact v94_at a0 a1 a2 a3 a4 a5 a6 a7 a8 ⟨n, by omega⟩ b hd r
    have eq : (fun x d => b5 n (it n) (ix4 b hd x d)) = fun (r : Fin 64) d => qq (fun3 a0) (fun1 a1) (fun2 a2) (fun2 a4) (fun1 a5) (fun3 a6) b hd (64 * n + r.val) d := by
      funext r d
      rw [b5_at ⟨n, by omega⟩, f0, h0]
      exact v88_at a0 a1 a2 a3 a4 a5 a6 a7 a8 ⟨n, by omega⟩ b hd r d
    have ek : (fun x d => b11 n (it n) (ix4 b hd x d)) = fun (r : Fin 64) d => kk (fun3 a0) (fun1 a1) (fun2 a2) (fun2 a4) (fun1 a5) (fun3 a7) (Ideal.ofBits .f32 0x3D3504F3#32) b hd (64 * n + r.val) d := by
      funext r d
      rw [b11_at ⟨n, by omega⟩, f1, h0]
      exact v90_at a0 a1 a2 a3 a4 a5 a6 a7 a8 ⟨n, by omega⟩ b hd r d
    have ev : (fun x d => b17 n (it n) (ix4 b hd x d)) = fun (r : Fin 64) d => vv (fun3 a0) (fun1 a1) (fun2 a2) (fun3 a8) b hd (64 * n + r.val) d := by
      funext r d
      rw [b17_at ⟨n, by omega⟩, f2, h0]
      exact v92_at a0 a1 a2 a3 a4 a5 a6 a7 a8 ⟨n, by omega⟩ b hd r d
    rw [hs n]
    constructor
    · have e7 : (fun d e => (step n (it n)).main_v98_7 (ix4 b hd d e)) = _ := funext fun d => funext fun e => b100_at n (it n) b hd d e
      have e8 : (fun d => (step n (it n)).main_v98_8 (ix3 b hd d)) = _ := funext fun d => b106_at n (it n) b hd d
      have e9 : (step n (it n)).main_v98_9 (ix2 b hd) = _ := b85_at n (it n) b hd
      rw [e7, e8, e9, eb, ei, ek, ev]
      exact holds_next hR ihs 63 rfl
    · intro i hi r e
      have e10 : (step n (it n)).main_v98_10 (ix5 i b hd r e) = _ := b112_at ⟨n, by omega⟩ (it n) i b hd r e
      rw [e10]
      by_cases hin : i = ⟨n, by omega⟩
      · rw [if_pos hin, b75_at]
        dsimp only
        rw [eb, ei, ek, ev, eq, hin]
        exact cH_eq hR (re_qq W b hd) ihs r e
      · rw [if_neg hin]
        exact iho i (by have : i.val ≠ n := fun h => hin (Fin.ext h); omega) r e

end Cert.ReferenceIdeal.Ml
end
-- ==== Proof.MlRefOut.lean ====
/-
  The end of the mLSTM reference, read at one element: the heads' norms, the output gate, the skip and the output
  projection, which make of the recurrence's outputs the layer of `MlSpec.lean`.
-/
module

public import proofs.«01_k».proof.Proof.MlRefLoop

@[expose] public section

set_option maxRecDepth 16384

noncomputable section

open Idealize.ShloMosaic Idealize.ShloMosaic.TcCoe Idealize.SL.Sem
open scoped BigOperators

namespace Cert.ReferenceIdeal.Ml

open Cert.ReferenceIdeal Cert.ReferenceIdeal.Gen Cert.ReferenceIdeal.Step Cert.Ml

variable {F : FTy → Type} [FloatOps F]

abbrev Heads (F : FTy → Type) [FloatOps F] := (⟨S8x2048x4x512, .f32⟩ : BufTy).Contents (Elt F)
abbrev Means (F : FTy → Type) [FloatOps F] := (⟨S8x2048x4x1, .f32⟩ : BufTy).Contents (Elt F)

/-- The stacked chunks as tokens and heads. -/
def cells (s : State F) : Heads F :=
  transpose S8x2048x4x512 [0, 2, 1, 3] (shapeCast S8x4x2048x512 (transpose S8x4x32x64x512 [1, 2, 0, 3, 4] (s.main_v98_10)
    transposes_S32x8x4x64x512_S8x4x32x64x512_1_2_0_3_4) shapeCasts_S8x4x32x64x512_S8x4x2048x512) transposes_S8x4x2048x512_S8x2048x4x512_0_2_1_3
/-- A head's mean. -/
def mn (x : Heads F) : Means F :=
  Host.divf (broadcastInDim S8x2048x4x1 ![0, 1, 2] bcast_S8x2048x4_S8x2048x4x1_0_1_2 (Host.reduceAdd x (constant S_ .f32 0x00000000#32)
    reducesTo_S8x2048x4x512_S8x2048x4_d3 h_S_)) (broadcastInDim S8x2048x4x1 ![] bcast_S_S8x2048x4x1 (constant S_ .f32 0x44000000#32))
/-- A head less its mean. -/
def cent (x : Heads F) : Heads F :=
  subf x (broadcastInDim S8x2048x4x512 ![0, 1, 2, 3] bcast_S8x2048x4x1_S8x2048x4x512_0_1_2_3 (mn x))
/-- A head's squared distances from its mean. -/
def sq (x : Heads F) : Heads F := mulf (cent x) (cent x)
/-- A head's norm. -/
def hnorm (x : Heads F) : Heads F :=
  mulf (cent x) (broadcastInDim S8x2048x4x512 ![0, 1, 2, 3] bcast_S8x2048x4x1_S8x2048x4x512_0_1_2_3 (Host.rsqrt (addf (mn (sq x))
    (broadcastInDim S8x2048x4x1 ![] bcast_S_S8x2048x4x1 (constant S_ .f32 0x358637BD#32)))))
/-- The output gate. -/
def ogate (y : (⟨S8x2048x4104, .f32⟩ : BufTy).Contents (Elt F)) : (⟨S8x2048x2048, .f32⟩ : BufTy).Contents (Elt F) :=
  Host.divf (broadcastInDim S8x2048x2048 ![] bcast_S_S8x2048x2048 (constant S_ .f32 0x3F800000#32))
    (addf (broadcastInDim S8x2048x2048 ![] bcast_S_S8x2048x2048 (constant S_ .f32 0x3F800000#32))
      (Host.exp (Host.negf (extractStridedSlice S8x2048x2048 ![0, 0, 2048] y slices_S8x2048x4104_S8x2048x2048_0_0_2048))))
/-- A per-column weight over all tokens. -/
def percol (w : (⟨S2048, .f32⟩ : BufTy).Contents (Elt F)) : (⟨S8x2048x2048, .f32⟩ : BufTy).Contents (Elt F) :=
  broadcastInDim S8x2048x2048 ![0, 1, 2] bcast_S1x1x2048_S8x2048x2048_0_1_2 (broadcastInDim S1x1x2048 ![2] bcast_S2048_S1x1x2048_2 w)
/-- The columns before the output projection. -/
def colsOut (x : Heads F) (y : (⟨S8x2048x4104, .f32⟩ : BufTy).Contents (Elt F)) (gn sk : (⟨S2048, .f32⟩ : BufTy).Contents (Elt F))
    (xcv : (⟨S8x2048x2048, .f32⟩ : BufTy).Contents (Elt F)) : (⟨S8x2048x2048, .f32⟩ : BufTy).Contents (Elt F) :=
  addf (mulf (ogate y) (mulf (shapeCast S8x2048x2048 (hnorm x) shapeCasts_S8x2048x4x512_S8x2048x2048) (percol gn))) (mulf (percol sk) xcv)

/-- The reference's result in these parts. -/
theorem out_eq (s : State F) (a0 : (⟨S8x2048x1024, .f32⟩ : BufTy).Contents (Elt F)) (a1 : (⟨S1024, .f32⟩ : BufTy).Contents (Elt F)) (a2 : (⟨S1024x4104, .f32⟩ : BufTy).Contents (Elt F)) (a3 : (⟨S8, .f32⟩ : BufTy).Contents (Elt F)) (a4 : (⟨S4x2048, .f32⟩ : BufTy).Contents (Elt F)) (a5 : (⟨S2048, .f32⟩ : BufTy).Contents (Elt F)) (a6 a7 a8 : (⟨S4x512x512, .f32⟩ : BufTy).Contents (Elt F)) (a9 a10 : (⟨S2048, .f32⟩ : BufTy).Contents (Elt F)) (a11 : (⟨S2048x1024, .f32⟩ : BufTy).Contents (Elt F)) :
    R_main_v186 s a0 a1 a2 a4 a5 a9 a10 a11
    = addf a0 (Host.dotGeneral dot_S8x2048x2048_S2048x1024_S8x2048x1024_2_0_01_1_n_n none
      (colsOut (cells s) (A_main_v13 a0 a1 a2 a3 a4 a5 a6 a7 a8) a9 a10 (A_main_v71 a0 a1 a2 a3 a4 a5 a6 a7 a8)) a11) := rfl

variable (a0 : (⟨S8x2048x1024, .f32⟩ : BufTy).Contents (Elt Ideal)) (a1 : (⟨S1024, .f32⟩ : BufTy).Contents (Elt Ideal)) (a2 : (⟨S1024x4104, .f32⟩ : BufTy).Contents (Elt Ideal)) (a3 : (⟨S8, .f32⟩ : BufTy).Contents (Elt Ideal)) (a4 : (⟨S4x2048, .f32⟩ : BufTy).Contents (Elt Ideal)) (a5 : (⟨S2048, .f32⟩ : BufTy).Contents (Elt Ideal)) (a6 : (⟨S4x512x512, .f32⟩ : BufTy).Contents (Elt Ideal)) (a7 : (⟨S4x512x512, .f32⟩ : BufTy).Contents (Elt Ideal)) (a8 : (⟨S4x512x512, .f32⟩ : BufTy).Contents (Elt Ideal)) {a9 a10 : (⟨S2048, .f32⟩ : BufTy).Contents (Elt Ideal)} {a11 : (⟨S2048x1024, .f32⟩ : BufTy).Contents (Elt Ideal)}

theorem cells_at (s : State Ideal) (b : Fin 8) (t : Fin 2048) (hd : Fin 4) (e : Fin 512) :
    cells s (ix4 b t hd e) = s.main_v98_10 (ix5 ⟨t.val / 64, by omega⟩ b hd ⟨t.val % 64, by omega⟩ e) := by
  unfold cells
  generalize s.main_v98_10 = y
  pointwise

theorem mn_at (x : Heads Ideal) (b : Fin 8) (t : Fin 2048) (hd : Fin 4) :
    mn x (ix4 b t hd 0) = mean fun e => x (ix4 b t hd e) := by
  unfold mn mean
  pointwise

theorem cent_at (x : Heads Ideal) (b : Fin 8) (t : Fin 2048) (hd : Fin 4) (e : Fin 512) :
    cent x (ix4 b t hd e) = ctr (fun e => x (ix4 b t hd e)) e := by
  unfold ctr
  rw [← mn_at]
  unfold cent
  generalize mn x = y
  pointwise

theorem hnorm_at (x : Heads Ideal) (b : Fin 8) (t : Fin 2048) (hd : Fin 4) (e : Fin 512) :
    hnorm x (ix4 b t hd e) = ctr (fun e => x (ix4 b t hd e)) e
      * Ideal.rsqrt (mean (fun j => ctr (fun e => x (ix4 b t hd e)) j * ctr (fun e => x (ix4 b t hd e)) j) + Ideal.ofBits .f32 0x358637BD#32) := by
  have e1 := mn_at (sq x) b t hd
  have e2 : (fun e => sq x (ix4 b t hd e)) = fun j => ctr (fun e => x (ix4 b t hd e)) j * ctr (fun e => x (ix4 b t hd e)) j := by
    funext j
    rw [← cent_at]
    unfold sq
    generalize cent x = y
    pointwise
  rw [e2] at e1
  rw [← e1, ← cent_at]
  unfold hnorm
  generalize mn (sq x) = y
  generalize cent x = z
  pointwise

theorem colsOut_at (x : Heads Ideal) (y : (⟨S8x2048x4104, .f32⟩ : BufTy).Contents (Elt Ideal)) (gn sk : (⟨S2048, .f32⟩ : BufTy).Contents (Elt Ideal))
    (xcv : (⟨S8x2048x2048, .f32⟩ : BufTy).Contents (Elt Ideal)) (b : Fin 8) (t k : Fin 2048) :
    colsOut x y gn sk xcv (ix3 b t k) = col_out (fun e => x (ix4 b t ⟨k.val / 512, by omega⟩ e)) ⟨k.val % 512, by omega⟩ (gn (ix1 k))
      (y (ix3 b t ⟨2048 + k.val, by omega⟩)) (sk (ix1 k)) (xcv (ix3 b t k)) := by
  unfold col_out
  rw [← hnorm_at, zero_sub]
  unfold colsOut ogate percol
  generalize hnorm x = z
  pointwise

/-- The reference's result is the layer. -/
theorem result (W : Weights (fun1 a1) (fun2 a2) (fun2 a4) (fun1 a5) (fun3 a6) (fun3 a8))
    (it : ℕ → State Ideal) (h0 : it 0 = Step.init (F := Ideal) a0 a1 a2 a3 a4 a5 a6 a7 a8) (hs : ∀ n, it (n + 1) = step n (it n))
    (b : Fin 8) (t : Fin 2048) (c : Fin 1024) :
    R_main_v186 (it 32) a0 a1 a2 a4 a5 a9 a10 a11 (ix3 b t c)
      = layer (fun3 a0) (fun1 a1) (fun2 a2) (fun1 a3) (fun2 a4) (fun1 a5) (fun3 a6) (fun3 a7) (fun3 a8) (Ideal.ofBits .f32 0x3D3504F3#32) (fun1 a9) (fun1 a10) (fun2 a11) b t c := by
  rw [out_eq _ a0 a1 a2 a3 a4 a5 a6 a7 a8]
  have ec : ∀ k : Fin 2048, colsOut (cells (it 32)) (A_main_v13 (F := Ideal) a0 a1 a2 a3 a4 a5 a6 a7 a8) a9 a10 (A_main_v71 (F := Ideal) a0 a1 a2 a3 a4 a5 a6 a7 a8) (ix3 b t k)
      = col_out (fun e => cellOut (fun3 a0) (fun1 a1) (fun2 a2) (fun1 a3) (fun2 a4) (fun1 a5) (fun3 a6) (fun3 a7) (fun3 a8) (Ideal.ofBits .f32 0x3D3504F3#32) b ⟨k.val / 512, by omega⟩ t.val e)
      ⟨k.val % 512, by omega⟩ (fun1 a9 k) (op (fun3 a0) (fun1 a1) (fun2 a2) b t.val k) (fun1 a10 k) (xc (fun3 a0) (fun1 a1) (fun2 a2) (fun2 a4) (fun1 a5) b t.val k) := fun k => by
    rw [colsOut_at, v13_at, v71_at]
    have e : (fun e => cells (it 32) (ix4 b t ⟨k.val / 512, by omega⟩ e)) = fun e => cellOut (fun3 a0) (fun1 a1) (fun2 a2) (fun1 a3) (fun2 a4) (fun1 a5) (fun3 a6) (fun3 a7) (fun3 a8) (Ideal.ofBits .f32 0x3D3504F3#32) b ⟨k.val / 512, by omega⟩ t.val e := by
      funext e
      rw [cells_at, (trips a0 a1 a2 a3 a4 a5 a6 a7 a8 W it h0 hs b ⟨k.val / 512, by omega⟩ 32 (le_refl _)).2 ⟨t.val / 64, by omega⟩ (by show t.val / 64 < 32; omega)]
      refine congrArg (fun u => cellOut _ _ _ _ _ _ _ _ _ _ b _ u e) ?_
      show 64 * (t.val / 64) + t.val % 64 = t.val
      omega
    rw [e]
    rfl
  unfold layer
  simp only [← ec]
  generalize colsOut (cells (it 32)) (A_main_v13 (F := Ideal) a0 a1 a2 a3 a4 a5 a6 a7 a8) a9 a10 (A_main_v71 (F := Ideal) a0 a1 a2 a3 a4 a5 a6 a7 a8) = y
  pointwise
  rfl

end Cert.ReferenceIdeal.Ml

end
-- ==== Proof.RefRun.lean ====
/-
  The mLSTM reference's run: its loop over chunks of tokens as one step function, and each result and argument at the
  end of every execution.
-/
module

public import proofs.«01_k».proof.Proof.Gen.ReferenceIdeal.Run
public import proofs.«01_k».proof.Proof.Gen.ReferenceIdeal.Step

@[expose] public section

noncomputable section

namespace Cert.ReferenceIdeal.MlRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v98_7) = s.main_v98_7
  f_8 : V0 (Proc.devRef .tc main_v98_8) = s.main_v98_8
  f_9 : V0 (Proc.devRef .tc main_v98_9) = s.main_v98_9
  f_10 : V0 (Proc.devRef .tc main_v98_10) = s.main_v98_10
  f_0 : V0 (Proc.devRef .tc main_v98_0) = s.main_v98_0
  f_1 : V0 (Proc.devRef .tc main_v98_1) = s.main_v98_1
  f_2 : V0 (Proc.devRef .tc main_v98_2) = s.main_v98_2
  f_3 : V0 (Proc.devRef .tc main_v98_3) = s.main_v98_3
  f_4 : V0 (Proc.devRef .tc main_v98_4) = s.main_v98_4
  n_6 : V0 (Proc.devRef .tc main_v98_6) = constantI S_ 32 (BitVec.ofNat 32 j)
  k_5 : V0 (Proc.devRef .tc main_v98_5) = Cert.ReferenceIdeal.Step.K_main_v83 (F := F)

variable {V0 s j}

set_option maxRecDepth 8192 in
theorem al_0 (h : Holds V0 s j) : (constantI S_ 32 0#32 : (Proc.devRef .tc main_while0b_call3_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call3_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call3_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call3_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x8x4x64x512 (V0 (Proc.devRef .tc main_v98_0)) (fun k => (((![V0 (Proc.devRef .tc main_v98_6), constantI S_ 32 0#32, constantI S_ 32 0#32, constantI S_ 32 0#32, constantI S_ 32 0#32] : Fin 5 → (⟨S_, .i32⟩ : BufTy).Contents (Elt F))) k (Shape.Idx.first h_S_)).toInt) sliceFits_S32x8x4x64x512_S1x8x4x64x512 : (Proc.devRef .tc main_while0b_call3_v0 : DevRef τ sig).ty.Contents (Elt F)) = Cert.ReferenceIdeal.Step.b4 j s := by
  unfold Cert.ReferenceIdeal.Step.b4
  rw [← al_0 h, ← al_1 h, ← al_2 h, ← al_3 h, h.f_0, h.n_6]
  try rfl
set_option maxRecDepth 8192 in
theorem al_5 (h : Holds V0 s j) : (res_main_while0b_v187 V0 : (Proc.devRef .tc main_while0b_v187 : DevRef τ sig).ty.Contents (Elt F)) = Cert.ReferenceIdeal.Step.b5 j s := by
  unfold res_main_while0b_v187 Cert.ReferenceIdeal.Step.b5
  rw [← al_4 h]
  try rfl
set_option maxRecDepth 8192 in
theorem al_6 (h : Holds V0 s j) : (constantI S_ 32 0#32 : (Proc.devRef .tc main_while0b_call4_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call4_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call4_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call4_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x8x4x64x512 (V0 (Proc.devRef .tc main_v98_1)) (fun k => (((![V0 (Proc.devRef .tc main_v98_6), constantI S_ 32 0#32, constantI S_ 32 0#32, constantI S_ 32 0#32, constantI S_ 32 0#32] : Fin 5 → (⟨S_, .i32⟩ : BufTy).Contents (Elt F))) k (Shape.Idx.first h_S_)).toInt) sliceFits_S32x8x4x64x512_S1x8x4x64x512 : (Proc.devRef .tc main_while0b_call4_v0 : DevRef τ sig).ty.Contents (Elt F)) = Cert.ReferenceIdeal.Step.b10 j s := by
  unfold Cert.ReferenceIdeal.Step.b10
  rw [← al_6 h, ← al_7 h, ← al_8 h, ← al_9 h, h.f_1, h.n_6]
  try rfl
set_option maxRecDepth 8192 in
theorem al_11 (h : Holds V0 s j) : (res_main_while0b_v188 V0 : (Proc.devRef .tc main_while0b_v188 : DevRef τ sig).ty.Contents (Elt F)) = Cert.ReferenceIdeal.Step.b11 j s := by
  unfold res_main_while0b_v188 Cert.ReferenceIdeal.Step.b11
  rw [← al_10 h]
  try rfl
set_option maxRecDepth 8192 in
theorem al_12 (h : Holds V0 s j) : (constantI S_ 32 0#32 : (Proc.devRef .tc main_while0b_call5_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call5_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call5_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call5_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x8x4x64x512 (V0 (Proc.devRef .tc main_v98_2)) (fun k => (((![V0 (Proc.devRef .tc main_v98_6), constantI S_ 32 0#32, constantI S_ 32 0#32, constantI S_ 32 0#32, constantI S_ 32 0#32] : Fin 5 → (⟨S_, .i32⟩ : BufTy).Contents (Elt F))) k (Shape.Idx.first h_S_)).toInt) sliceFits_S32x8x4x64x512_S1x8x4x64x512 : (Proc.devRef .tc main_while0b_call5_v0 : DevRef τ sig).ty.Contents (Elt F)) = Cert.ReferenceIdeal.Step.b16 j s := by
  unfold Cert.ReferenceIdeal.Step.b16
  rw [← al_12 h, ← al_13 h, ← al_14 h, ← al_15 h, h.f_2, h.n_6]
  try rfl
set_option maxRecDepth 8192 in
theorem al_17 (h : Holds V0 s j) : (res_main_while0b_v189 V0 : (Proc.devRef .tc main_while0b_v189 : DevRef τ sig).ty.Contents (Elt F)) = Cert.ReferenceIdeal.Step.b17 j s := by
  unfold res_main_while0b_v189 Cert.ReferenceIdeal.Step.b17
  rw [← al_16 h]
  try rfl
set_option maxRecDepth 8192 in
theorem al_18 (h : Holds V0 s j) : (constantI S_ 32 0#32 : (Proc.devRef .tc main_while0b_call6_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call6_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call6_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x8x4x64 (V0 (Proc.devRef .tc main_v98_3)) (fun k => (((![V0 (Proc.devRef .tc main_v98_6), constantI S_ 32 0#32, constantI S_ 32 0#32, constantI S_ 32 0#32] : Fin 4 → (⟨S_, .i32⟩ : BufTy).Contents (Elt F))) k (Shape.Idx.first h_S_)).toInt) sliceFits_S32x8x4x64_S1x8x4x64 : (Proc.devRef .tc main_while0b_call6_v0 : DevRef τ sig).ty.Contents (Elt F)) = Cert.ReferenceIdeal.Step.b21 j s := by
  unfold Cert.ReferenceIdeal.Step.b21
  rw [← al_18 h, ← al_19 h, ← al_20 h, h.f_3, h.n_6]
  try rfl
set_option maxRecDepth 8192 in
theorem al_22 (h : Holds V0 s j) : (res_main_while0b_v190 V0 : (Proc.devRef .tc main_while0b_v190 : DevRef τ sig).ty.Contents (Elt F)) = Cert.ReferenceIdeal.Step.b22 j s := by
  unfold res_main_while0b_v190 Cert.ReferenceIdeal.Step.b22
  rw [← al_21 h]
  try rfl
set_option maxRecDepth 8192 in
theorem al_23 (h : Holds V0 s j) : (constantI S_ 32 0#32 : (Proc.devRef .tc main_while0b_call7_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call7_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call7_c_1 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x8x4x64 (V0 (Proc.devRef .tc main_v98_4)) (fun k => (((![V0 (Proc.devRef .tc main_v98_6), constantI S_ 32 0#32, constantI S_ 32 0#32, constantI S_ 32 0#32] : Fin 4 → (⟨S_, .i32⟩ : BufTy).Contents (Elt F))) k (Shape.Idx.first h_S_)).toInt) sliceFits_S32x8x4x64_S1x8x4x64 : (Proc.devRef .tc main_while0b_call7_v0 : DevRef τ sig).ty.Contents (Elt F)) = Cert.ReferenceIdeal.Step.b26 j s := by
  unfold Cert.ReferenceIdeal.Step.b26
  rw [← al_23 h, ← al_24 h, ← al_25 h, h.f_4, h.n_6]
  try rfl
set_option maxRecDepth 8192 in
theorem al_27 (h : Holds V0 s j) : (shapeCast S8x4x64 (Host.dynamicSlice S1x8x4x64 (V0 (Proc.devRef .tc main_v98_4)) (fun k => (((![V0 (Proc.devRef .tc main_v98_6), constantI S_ 32 0#32, constantI S_ 32 0#32, constantI S_ 32 0#32] : Fin 4 → (⟨S_, .i32⟩ : BufTy).Contents (Elt F))) k (Shape.Idx.first h_S_)).toInt) sliceFits_S32x8x4x64_S1x8x4x64) shapeCasts_S1x8x4x64_S8x4x64 : (Proc.devRef .tc main_while0b_v191 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (constant S_ .f32 0x00000000#32 : (Proc.devRef .tc main_while0b_call8_call0_cst : DevRef τ sig).ty.Contents (Elt F)) = Cert.ReferenceIdeal.Step.b28 j s := by
  unfold Cert.ReferenceIdeal.Step.b28
  rfl
set_option maxRecDepth 8192 in
theorem al_29 (h : Holds V0 s j) : (broadcastInDim S_ ![] bcast_S_S_ (constant S_ .f32 0x00000000#32) : (Proc.devRef .tc main_while0b_call8_call0_v0 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (res_main_while0b_v192 V0 : (Proc.devRef .tc main_while0b_v192 : DevRef τ sig).ty.Contents (Elt F)) = Cert.ReferenceIdeal.Step.b30 j s := by
  unfold res_main_while0b_v192 Cert.ReferenceIdeal.Step.b30
  rw [← al_27 h, ← al_29 h]
  try rfl
set_option maxRecDepth 8192 in
theorem al_31 (h : Holds V0 s j) : (broadcastInDim S8x4x64x1 ![0, 1, 2] bcast_S8x4x64_S8x4x64x1_0_1_2 (res_main_while0b_v192 V0) : (Proc.devRef .tc main_while0b_v193 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (broadcastInDim S8x4x1x64 ![0, 1, 3] bcast_S8x4x64_S8x4x1x64_0_1_3 (res_main_while0b_v192 V0) : (Proc.devRef .tc main_while0b_v194 : DevRef τ sig).ty.Contents (Elt F)) = Cert.ReferenceIdeal.Step.b32 j s := by
  unfold Cert.ReferenceIdeal.Step.b32
  rw [← al_30 h]
  try rfl
set_option maxRecDepth 8192 in
theorem al_33 (h : Holds V0 s j) : (broadcastInDim S8x4x64x64 ![0, 1, 2, 3] bcast_S8x4x64x1_S8x4x64x64_0_1_2_3 (broadcastInDim S8x4x64x1 ![0, 1, 2] bcast_S8x4x64_S8x4x64x1_0_1_2 (res_main_while0b_v192 V0)) : (Proc.devRef .tc main_while0b_v195 : DevRef τ sig).ty.Contents (Elt F)) = Cert.ReferenceIdeal.Step.b33 j s := by
  unfold Cert.ReferenceIdeal.Step.b33
  rw [← al_31 h]
  try rfl
set_option maxRecDepth 8192 in
theorem al_34 (h : Holds V0 s j) : (broadcastInDim S8x4x64x64 ![0, 1, 2, 3] bcast_S8x4x1x64_S8x4x64x64_0_1_2_3 (broadcastInDim S8x4x1x64 ![0, 1, 3] bcast_S8x4x64_S8x4x1x64_0_1_3 (res_main_while0b_v192 V0)) : (Proc.devRef .tc main_while0b_v196 : DevRef τ sig).ty.Contents (Elt F)) = Cert.ReferenceIdeal.Step.b34 j s := by
  unfold Cert.ReferenceIdeal.Step.b34
  rw [← al_32 h]
  try rfl
set_option maxRecDepth 8192 in
theorem al_35 (h : Holds V0 s j) : (subf (broadcastInDim S8x4x64x64 ![0, 1, 2, 3] bcast_S8x4x64x1_S8x4x64x64_0_1_2_3 (broadcastInDim S8x4x64x1 ![0, 1, 2] bcast_S8x4x64_S8x4x64x1_0_1_2 (res_main_while0b_v192 V0))) (broadcastInDim S8x4x64x64 ![0, 1, 2, 3] bcast_S8x4x1x64_S8x4x64x64_0_1_2_3 (broadcastInDim S8x4x1x64 ![0, 1, 3] bcast_S8x4x64_S8x4x1x64_0_1_3 (res_main_while0b_v192 V0))) : (Proc.devRef .tc main_while0b_v197 : DevRef τ sig).ty.Contents (Elt F)) = Cert.ReferenceIdeal.Step.b35 j s := by
  unfold Cert.ReferenceIdeal.Step.b35
  rw [← al_33 h, ← al_34 h]
  try rfl
set_option maxRecDepth 8192 in
theorem al_36 (h : Holds V0 s j) : (broadcastInDim S8x4x1x64 ![0, 1, 3] bcast_S8x4x64_S8x4x1x64_0_1_3 (res_main_while0b_v190 V0) : (Proc.devRef .tc main_while0b_v198 : DevRef τ sig).ty.Contents (Elt F)) = Cert.ReferenceIdeal.Step.b36 j s := by
  unfold Cert.ReferenceIdeal.Step.b36
  rw [← al_22 h]
  try rfl
set_option maxRecDepth 8192 in
theorem al_37 (h : Holds V0 s j) : (broadcastInDim S8x4x64x64 ![0, 1, 2, 3] bcast_S8x4x1x64_S8x4x64x64_0_1_2_3 (broadcastInDim S8x4x1x64 ![0, 1, 3] bcast_S8x4x64_S8x4x1x64_0_1_3 (res_main_while0b_v190 V0)) : (Proc.devRef .tc main_while0b_v199 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (addf (subf (broadcastInDim S8x4x64x64 ![0, 1, 2, 3] bcast_S8x4x64x1_S8x4x64x64_0_1_2_3 (broadcastInDim S8x4x64x1 ![0, 1, 2] bcast_S8x4x64_S8x4x64x1_0_1_2 (res_main_while0b_v192 V0))) (broadcastInDim S8x4x64x64 ![0, 1, 2, 3] bcast_S8x4x1x64_S8x4x64x64_0_1_2_3 (broadcastInDim S8x4x1x64 ![0, 1, 3] bcast_S8x4x64_S8x4x1x64_0_1_3 (res_main_while0b_v192 V0)))) (broadcastInDim S8x4x64x64 ![0, 1, 2, 3] bcast_S8x4x1x64_S8x4x64x64_0_1_2_3 (broadcastInDim S8x4x1x64 ![0, 1, 3] bcast_S8x4x64_S8x4x1x64_0_1_3 (res_main_while0b_v190 V0))) : (Proc.devRef .tc main_while0b_v200 : DevRef τ sig).ty.Contents (Elt F)) = Cert.ReferenceIdeal.Step.b38 j s := by
  unfold Cert.ReferenceIdeal.Step.b38
  rw [← al_35 h, ← al_37 h]
  try rfl
set_option maxRecDepth 8192 in
theorem al_39 (h : Holds V0 s j) : (constant S_ .f32 0xFF800000#32 : (Proc.devRef .tc main_while0b_cst_33 : DevRef τ sig).ty.Contents (Elt F)) = Cert.ReferenceIdeal.Step.b39 j s := by
  unfold Cert.ReferenceIdeal.Step.b39
  rfl
set_option maxRecDepth 8192 in
theorem al_40 (h : Holds V0 s j) : (id (constant S_ .f32 0xFF800000#32) : (Proc.devRef .tc main_while0b_call9_v0 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (broadcastInDim S8x4x64x64 ![2, 3] bcast_S64x64_S8x4x64x64_2_3 (V0 (Proc.devRef .tc main_v98_5)) : (Proc.devRef .tc main_while0b_call9_v1 : DevRef τ sig).ty.Contents (Elt F)) = Cert.ReferenceIdeal.Step.b41 j s := by
  unfold Cert.ReferenceIdeal.Step.b41
  rw [h.k_5]
  try rfl
set_option maxRecDepth 8192 in
theorem al_42 (h : Holds V0 s j) : (broadcastInDim S8x4x64x64 ![] bcast_S_S8x4x64x64 (id (constant S_ .f32 0xFF800000#32)) : (Proc.devRef .tc main_while0b_call9_v2 : DevRef τ sig).ty.Contents (Elt F)) = Cert.ReferenceIdeal.Step.b42 j s := by
  unfold Cert.ReferenceIdeal.Step.b42
  rw [← al_40 h]
  try rfl
set_option maxRecDepth 8192 in
theorem al_43 (h : Holds V0 s j) : (res_main_while0b_v201 V0 : (Proc.devRef .tc main_while0b_v201 : DevRef τ sig).ty.Contents (Elt F)) = Cert.ReferenceIdeal.Step.b43 j s := by
  unfold res_main_while0b_v201 Cert.ReferenceIdeal.Step.b43
  rw [← al_41 h, ← al_38 h, ← al_42 h]
  try rfl
set_option maxRecDepth 8192 in
theorem al_44 (h : Holds V0 s j) : (broadcastInDim S8x4x1 ![0, 1] bcast_S8x4_S8x4x1_0_1 (V0 (Proc.devRef .tc main_v98_9)) : (Proc.devRef .tc main_while0b_v202 : DevRef τ sig).ty.Contents (Elt F)) = Cert.ReferenceIdeal.Step.b44 j s := by
  unfold Cert.ReferenceIdeal.Step.b44
  rw [h.f_9]
  try rfl
set_option maxRecDepth 8192 in
theorem al_45 (h : Holds V0 s j) : (broadcastInDim S8x4x64 ![0, 1, 2] bcast_S8x4x1_S8x4x64_0_1_2 (broadcastInDim S8x4x1 ![0, 1] bcast_S8x4_S8x4x1_0_1 (V0 (Proc.devRef .tc main_v98_9))) : (Proc.devRef .tc main_while0b_v203 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (res_main_while0b_v204 V0 : (Proc.devRef .tc main_while0b_v204 : DevRef τ sig).ty.Contents (Elt F)) = Cert.ReferenceIdeal.Step.b46 j s := by
  unfold res_main_while0b_v204 Cert.ReferenceIdeal.Step.b46
  rw [← al_30 h, ← al_45 h]
  try rfl
set_option maxRecDepth 8192 in
theorem al_47 (h : Holds V0 s j) : (constant S_ .f32 0xFF800000#32 : (Proc.devRef .tc main_while0b_cst_34 : DevRef τ sig).ty.Contents (Elt F)) = Cert.ReferenceIdeal.Step.b47 j s := by
  unfold Cert.ReferenceIdeal.Step.b47
  rfl
set_option maxRecDepth 8192 in
theorem al_48 (h : Holds V0 s j) : (Host.reduce FloatOps.maximumf (res_main_while0b_v201 V0) (constant S_ .f32 0xFF800000#32) reducesTo_S8x4x64x64_S8x4x64_d3 h_S_ : (Proc.devRef .tc main_while0b_v205 : DevRef τ sig).ty.Contents (Elt F)) = Cert.ReferenceIdeal.Step.b48 j s := by
  unfold Cert.ReferenceIdeal.Step.b48
  rw [← al_43 h, ← al_47 h]
  try rfl
set_option maxRecDepth 8192 in
theorem al_49 (h : Holds V0 s j) : (res_main_while0b_v206 V0 : (Proc.devRef .tc main_while0b_v206 : DevRef τ sig).ty.Contents (Elt F)) = Cert.ReferenceIdeal.Step.b49 j s := by
  unfold res_main_while0b_v206 Cert.ReferenceIdeal.Step.b49
  rw [← al_46 h, ← al_48 h]
  try rfl
set_option maxRecDepth 8192 in
theorem al_50 (h : Holds V0 s j) : (broadcastInDim S8x4x64x1 ![0, 1, 2] bcast_S8x4x64_S8x4x64x1_0_1_2 (res_main_while0b_v206 V0) : (Proc.devRef .tc main_while0b_v207 : DevRef τ sig).ty.Contents (Elt F)) = Cert.ReferenceIdeal.Step.b50 j s := by
  unfold Cert.ReferenceIdeal.Step.b50
  rw [← al_49 h]
  try rfl
set_option maxRecDepth 8192 in
theorem al_51 (h : Holds V0 s j) : (broadcastInDim S8x4x64x64 ![0, 1, 2, 3] bcast_S8x4x64x1_S8x4x64x64_0_1_2_3 (broadcastInDim S8x4x64x1 ![0, 1, 2] bcast_S8x4x64_S8x4x64x1_0_1_2 (res_main_while0b_v206 V0)) : (Proc.devRef .tc main_while0b_v208 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (subf (res_main_while0b_v201 V0) (broadcastInDim S8x4x64x64 ![0, 1, 2, 3] bcast_S8x4x64x1_S8x4x64x64_0_1_2_3 (broadcastInDim S8x4x64x1 ![0, 1, 2] bcast_S8x4x64_S8x4x64x1_0_1_2 (res_main_while0b_v206 V0))) : (Proc.devRef .tc main_while0b_v209 : DevRef τ sig).ty.Contents (Elt F)) = Cert.ReferenceIdeal.Step.b52 j s := by
  unfold Cert.ReferenceIdeal.Step.b52
  rw [← al_43 h, ← al_51 h]
  try rfl
set_option maxRecDepth 8192 in
theorem al_53 (h : Holds V0 s j) : (Host.exp (subf (res_main_while0b_v201 V0) (broadcastInDim S8x4x64x64 ![0, 1, 2, 3] bcast_S8x4x64x1_S8x4x64x64_0_1_2_3 (broadcastInDim S8x4x64x1 ![0, 1, 2] bcast_S8x4x64_S8x4x64x1_0_1_2 (res_main_while0b_v206 V0)))) : (Proc.devRef .tc main_while0b_v210 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (subf (res_main_while0b_v204 V0) (res_main_while0b_v206 V0) : (Proc.devRef .tc main_while0b_v211 : DevRef τ sig).ty.Contents (Elt F)) = Cert.ReferenceIdeal.Step.b54 j s := by
  unfold Cert.ReferenceIdeal.Step.b54
  rw [← al_46 h, ← al_49 h]
  try rfl
set_option maxRecDepth 8192 in
theorem al_55 (h : Holds V0 s j) : (res_main_while0b_v212 V0 : (Proc.devRef .tc main_while0b_v212 : DevRef τ sig).ty.Contents (Elt F)) = Cert.ReferenceIdeal.Step.b55 j s := by
  unfold res_main_while0b_v212 Cert.ReferenceIdeal.Step.b55
  rw [← al_54 h]
  try rfl
set_option maxRecDepth 8192 in
theorem al_56 (h : Holds V0 s j) : (Host.dotGeneral dot_S8x4x64x512_S8x4x64x512_S8x4x64x64_3_3_2_2_01_01 none (res_main_while0b_v187 V0) (res_main_while0b_v188 V0) : (Proc.devRef .tc main_while0b_v213 : DevRef τ sig).ty.Contents (Elt F)) = Cert.ReferenceIdeal.Step.b56 j s := by
  unfold Cert.ReferenceIdeal.Step.b56
  rw [← al_5 h, ← al_11 h]
  try rfl
set_option maxRecDepth 8192 in
theorem al_57 (h : Holds V0 s j) : (res_main_while0b_v214 V0 : (Proc.devRef .tc main_while0b_v214 : DevRef τ sig).ty.Contents (Elt F)) = Cert.ReferenceIdeal.Step.b57 j s := by
  unfold res_main_while0b_v214 Cert.ReferenceIdeal.Step.b57
  rw [← al_56 h, ← al_53 h]
  try rfl
set_option maxRecDepth 8192 in
theorem al_58 (h : Holds V0 s j) : (broadcastInDim S8x4x64x1 ![0, 1, 2] bcast_S8x4x64_S8x4x64x1_0_1_2 (res_main_while0b_v212 V0) : (Proc.devRef .tc main_while0b_v215 : DevRef τ sig).ty.Contents (Elt F)) = Cert.ReferenceIdeal.Step.b58 j s := by
  unfold Cert.ReferenceIdeal.Step.b58
  rw [← al_55 h]
  try rfl
set_option maxRecDepth 8192 in
theorem al_59 (h : Holds V0 s j) : (Host.dotGeneral dot_S8x4x64x512_S8x4x512x512_S8x4x64x512_3_2_2_3_01_01 none (res_main_while0b_v187 V0) (V0 (Proc.devRef .tc main_v98_7)) : (Proc.devRef .tc main_while0b_v216 : DevRef τ sig).ty.Contents (Elt F)) = Cert.ReferenceIdeal.Step.b59 j s := by
  unfold Cert.ReferenceIdeal.Step.b59
  rw [← al_5 h, h.f_7]
  try rfl
set_option maxRecDepth 8192 in
theorem al_60 (h : Holds V0 s j) : (broadcastInDim S8x4x64x512 ![0, 1, 2, 3] bcast_S8x4x64x1_S8x4x64x512_0_1_2_3 (broadcastInDim S8x4x64x1 ![0, 1, 2] bcast_S8x4x64_S8x4x64x1_0_1_2 (res_main_while0b_v212 V0)) : (Proc.devRef .tc main_while0b_v217 : DevRef τ sig).ty.Contents (Elt F)) = Cert.ReferenceIdeal.Step.b60 j s := by
  unfold Cert.ReferenceIdeal.Step.b60
  rw [← al_58 h]
  try rfl
set_option maxRecDepth 8192 in
theorem al_61 (h : Holds V0 s j) : (mulf (broadcastInDim S8x4x64x512 ![0, 1, 2, 3] bcast_S8x4x64x1_S8x4x64x512_0_1_2_3 (broadcastInDim S8x4x64x1 ![0, 1, 2] bcast_S8x4x64_S8x4x64x1_0_1_2 (res_main_while0b_v212 V0))) (Host.dotGeneral dot_S8x4x64x512_S8x4x512x512_S8x4x64x512_3_2_2_3_01_01 none (res_main_while0b_v187 V0) (V0 (Proc.devRef .tc main_v98_7))) : (Proc.devRef .tc main_while0b_v218 : DevRef τ sig).ty.Contents (Elt F)) = Cert.ReferenceIdeal.Step.b61 j s := by
  unfold Cert.ReferenceIdeal.Step.b61
  rw [← al_60 h, ← al_59 h]
  try rfl
set_option maxRecDepth 8192 in
theorem al_62 (h : Holds V0 s j) : (Host.dotGeneral dot_S8x4x64x64_S8x4x64x512_S8x4x64x512_3_2_2_3_01_01 none (res_main_while0b_v214 V0) (res_main_while0b_v189 V0) : (Proc.devRef .tc main_while0b_v219 : DevRef τ sig).ty.Contents (Elt F)) = Cert.ReferenceIdeal.Step.b62 j s := by
  unfold Cert.ReferenceIdeal.Step.b62
  rw [← al_57 h, ← al_17 h]
  try rfl
set_option maxRecDepth 8192 in
theorem al_63 (h : Holds V0 s j) : (addf (mulf (broadcastInDim S8x4x64x512 ![0, 1, 2, 3] bcast_S8x4x64x1_S8x4x64x512_0_1_2_3 (broadcastInDim S8x4x64x1 ![0, 1, 2] bcast_S8x4x64_S8x4x64x1_0_1_2 (res_main_while0b_v212 V0))) (Host.dotGeneral dot_S8x4x64x512_S8x4x512x512_S8x4x64x512_3_2_2_3_01_01 none (res_main_while0b_v187 V0) (V0 (Proc.devRef .tc main_v98_7)))) (Host.dotGeneral dot_S8x4x64x64_S8x4x64x512_S8x4x64x512_3_2_2_3_01_01 none (res_main_while0b_v214 V0) (res_main_while0b_v189 V0)) : (Proc.devRef .tc main_while0b_v220 : DevRef τ sig).ty.Contents (Elt F)) = Cert.ReferenceIdeal.Step.b63 j s := by
  unfold Cert.ReferenceIdeal.Step.b63
  rw [← al_61 h, ← al_62 h]
  try rfl
set_option maxRecDepth 8192 in
theorem al_64 (h : Holds V0 s j) : (Host.dotGeneral dot_S8x4x64x512_S8x4x512_S8x4x64_3_2_2_n_01_01 none (res_main_while0b_v187 V0) (V0 (Proc.devRef .tc main_v98_8)) : (Proc.devRef .tc main_while0b_v221 : DevRef τ sig).ty.Contents (Elt F)) = Cert.ReferenceIdeal.Step.b64 j s := by
  unfold Cert.ReferenceIdeal.Step.b64
  rw [← al_5 h, h.f_8]
  try rfl
set_option maxRecDepth 8192 in
theorem al_65 (h : Holds V0 s j) : (mulf (res_main_while0b_v212 V0) (Host.dotGeneral dot_S8x4x64x512_S8x4x512_S8x4x64_3_2_2_n_01_01 none (res_main_while0b_v187 V0) (V0 (Proc.devRef .tc main_v98_8))) : (Proc.devRef .tc main_while0b_v222 : DevRef τ sig).ty.Contents (Elt F)) = Cert.ReferenceIdeal.Step.b65 j s := by
  unfold Cert.ReferenceIdeal.Step.b65
  rw [← al_55 h, ← al_64 h]
  try rfl
set_option maxRecDepth 8192 in
theorem al_66 (h : Holds V0 s j) : (constant S_ .f32 0x00000000#32 : (Proc.devRef .tc main_while0b_cst_35 : DevRef τ sig).ty.Contents (Elt F)) = Cert.ReferenceIdeal.Step.b66 j s := by
  unfold Cert.ReferenceIdeal.Step.b66
  rfl
set_option maxRecDepth 8192 in
theorem al_67 (h : Holds V0 s j) : (Host.reduceAdd (res_main_while0b_v214 V0) (constant S_ .f32 0x00000000#32) reducesTo_S8x4x64x64_S8x4x64_d3 h_S_ : (Proc.devRef .tc main_while0b_v223 : DevRef τ sig).ty.Contents (Elt F)) = Cert.ReferenceIdeal.Step.b67 j s := by
  unfold Cert.ReferenceIdeal.Step.b67
  rw [← al_57 h, ← al_66 h]
  try rfl
set_option maxRecDepth 8192 in
theorem al_68 (h : Holds V0 s j) : (addf (mulf (res_main_while0b_v212 V0) (Host.dotGeneral dot_S8x4x64x512_S8x4x512_S8x4x64_3_2_2_n_01_01 none (res_main_while0b_v187 V0) (V0 (Proc.devRef .tc main_v98_8)))) (Host.reduceAdd (res_main_while0b_v214 V0) (constant S_ .f32 0x00000000#32) reducesTo_S8x4x64x64_S8x4x64_d3 h_S_) : (Proc.devRef .tc main_while0b_v224 : DevRef τ sig).ty.Contents (Elt F)) = Cert.ReferenceIdeal.Step.b68 j s := by
  unfold Cert.ReferenceIdeal.Step.b68
  rw [← al_65 h, ← al_67 h]
  try rfl
set_option maxRecDepth 8192 in
theorem al_69 (h : Holds V0 s j) : (Host.absf (addf (mulf (res_main_while0b_v212 V0) (Host.dotGeneral dot_S8x4x64x512_S8x4x512_S8x4x64_3_2_2_n_01_01 none (res_main_while0b_v187 V0) (V0 (Proc.devRef .tc main_v98_8)))) (Host.reduceAdd (res_main_while0b_v214 V0) (constant S_ .f32 0x00000000#32) reducesTo_S8x4x64x64_S8x4x64_d3 h_S_)) : (Proc.devRef .tc main_while0b_v225 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (Host.negf (res_main_while0b_v206 V0) : (Proc.devRef .tc main_while0b_v226 : DevRef τ sig).ty.Contents (Elt F)) = Cert.ReferenceIdeal.Step.b70 j s := by
  unfold Cert.ReferenceIdeal.Step.b70
  rw [← al_49 h]
  try rfl
set_option maxRecDepth 8192 in
theorem al_71 (h : Holds V0 s j) : (Host.exp (Host.negf (res_main_while0b_v206 V0)) : (Proc.devRef .tc main_while0b_v227 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (maximumf (Host.absf (addf (mulf (res_main_while0b_v212 V0) (Host.dotGeneral dot_S8x4x64x512_S8x4x512_S8x4x64_3_2_2_n_01_01 none (res_main_while0b_v187 V0) (V0 (Proc.devRef .tc main_v98_8)))) (Host.reduceAdd (res_main_while0b_v214 V0) (constant S_ .f32 0x00000000#32) reducesTo_S8x4x64x64_S8x4x64_d3 h_S_))) (Host.exp (Host.negf (res_main_while0b_v206 V0))) : (Proc.devRef .tc main_while0b_v228 : DevRef τ sig).ty.Contents (Elt F)) = Cert.ReferenceIdeal.Step.b72 j s := by
  unfold Cert.ReferenceIdeal.Step.b72
  rw [← al_69 h, ← al_71 h]
  try rfl
set_option maxRecDepth 8192 in
theorem al_73 (h : Holds V0 s j) : (broadcastInDim S8x4x64x1 ![0, 1, 2] bcast_S8x4x64_S8x4x64x1_0_1_2 (maximumf (Host.absf (addf (mulf (res_main_while0b_v212 V0) (Host.dotGeneral dot_S8x4x64x512_S8x4x512_S8x4x64_3_2_2_n_01_01 none (res_main_while0b_v187 V0) (V0 (Proc.devRef .tc main_v98_8)))) (Host.reduceAdd (res_main_while0b_v214 V0) (constant S_ .f32 0x00000000#32) reducesTo_S8x4x64x64_S8x4x64_d3 h_S_))) (Host.exp (Host.negf (res_main_while0b_v206 V0)))) : (Proc.devRef .tc main_while0b_v229 : DevRef τ sig).ty.Contents (Elt F)) = Cert.ReferenceIdeal.Step.b73 j s := by
  unfold Cert.ReferenceIdeal.Step.b73
  rw [← al_72 h]
  try rfl
set_option maxRecDepth 8192 in
theorem al_74 (h : Holds V0 s j) : (broadcastInDim S8x4x64x512 ![0, 1, 2, 3] bcast_S8x4x64x1_S8x4x64x512_0_1_2_3 (broadcastInDim S8x4x64x1 ![0, 1, 2] bcast_S8x4x64_S8x4x64x1_0_1_2 (maximumf (Host.absf (addf (mulf (res_main_while0b_v212 V0) (Host.dotGeneral dot_S8x4x64x512_S8x4x512_S8x4x64_3_2_2_n_01_01 none (res_main_while0b_v187 V0) (V0 (Proc.devRef .tc main_v98_8)))) (Host.reduceAdd (res_main_while0b_v214 V0) (constant S_ .f32 0x00000000#32) reducesTo_S8x4x64x64_S8x4x64_d3 h_S_))) (Host.exp (Host.negf (res_main_while0b_v206 V0))))) : (Proc.devRef .tc main_while0b_v230 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (Host.divf (addf (mulf (broadcastInDim S8x4x64x512 ![0, 1, 2, 3] bcast_S8x4x64x1_S8x4x64x512_0_1_2_3 (broadcastInDim S8x4x64x1 ![0, 1, 2] bcast_S8x4x64_S8x4x64x1_0_1_2 (res_main_while0b_v212 V0))) (Host.dotGeneral dot_S8x4x64x512_S8x4x512x512_S8x4x64x512_3_2_2_3_01_01 none (res_main_while0b_v187 V0) (V0 (Proc.devRef .tc main_v98_7)))) (Host.dotGeneral dot_S8x4x64x64_S8x4x64x512_S8x4x64x512_3_2_2_3_01_01 none (res_main_while0b_v214 V0) (res_main_while0b_v189 V0))) (broadcastInDim S8x4x64x512 ![0, 1, 2, 3] bcast_S8x4x64x1_S8x4x64x512_0_1_2_3 (broadcastInDim S8x4x64x1 ![0, 1, 2] bcast_S8x4x64_S8x4x64x1_0_1_2 (maximumf (Host.absf (addf (mulf (res_main_while0b_v212 V0) (Host.dotGeneral dot_S8x4x64x512_S8x4x512_S8x4x64_3_2_2_n_01_01 none (res_main_while0b_v187 V0) (V0 (Proc.devRef .tc main_v98_8)))) (Host.reduceAdd (res_main_while0b_v214 V0) (constant S_ .f32 0x00000000#32) reducesTo_S8x4x64x64_S8x4x64_d3 h_S_))) (Host.exp (Host.negf (res_main_while0b_v206 V0)))))) : (Proc.devRef .tc main_while0b_v231 : DevRef τ sig).ty.Contents (Elt F)) = Cert.ReferenceIdeal.Step.b75 j s := by
  unfold Cert.ReferenceIdeal.Step.b75
  rw [← al_63 h, ← al_74 h]
  try rfl
set_option maxRecDepth 8192 in
theorem al_76 (h : Holds V0 s j) : (extractStridedSlice S8x4x1 ![0, 0, 63] (res_main_while0b_v192 V0) slices_S8x4x64_S8x4x1_0_0_63 : (Proc.devRef .tc main_while0b_v232 : DevRef τ sig).ty.Contents (Elt F)) = Cert.ReferenceIdeal.Step.b76 j s := by
  unfold Cert.ReferenceIdeal.Step.b76
  rw [← al_30 h]
  try rfl
set_option maxRecDepth 8192 in
theorem al_77 (h : Holds V0 s j) : (res_main_while0b_v233 V0 : (Proc.devRef .tc main_while0b_v233 : DevRef τ sig).ty.Contents (Elt F)) = Cert.ReferenceIdeal.Step.b77 j s := by
  unfold res_main_while0b_v233 Cert.ReferenceIdeal.Step.b77
  rw [← al_76 h]
  try rfl
set_option maxRecDepth 8192 in
theorem al_78 (h : Holds V0 s j) : (broadcastInDim S8x4x1 ![0, 1] bcast_S8x4_S8x4x1_0_1 (res_main_while0b_v233 V0) : (Proc.devRef .tc main_while0b_v234 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (broadcastInDim S8x4x64 ![0, 1, 2] bcast_S8x4x1_S8x4x64_0_1_2 (broadcastInDim S8x4x1 ![0, 1] bcast_S8x4_S8x4x1_0_1 (res_main_while0b_v233 V0)) : (Proc.devRef .tc main_while0b_v235 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (subf (broadcastInDim S8x4x64 ![0, 1, 2] bcast_S8x4x1_S8x4x64_0_1_2 (broadcastInDim S8x4x1 ![0, 1] bcast_S8x4_S8x4x1_0_1 (res_main_while0b_v233 V0))) (res_main_while0b_v192 V0) : (Proc.devRef .tc main_while0b_v236 : DevRef τ sig).ty.Contents (Elt F)) = Cert.ReferenceIdeal.Step.b80 j s := by
  unfold Cert.ReferenceIdeal.Step.b80
  rw [← al_79 h, ← al_30 h]
  try rfl
set_option maxRecDepth 8192 in
theorem al_81 (h : Holds V0 s j) : (res_main_while0b_v237 V0 : (Proc.devRef .tc main_while0b_v237 : DevRef τ sig).ty.Contents (Elt F)) = Cert.ReferenceIdeal.Step.b81 j s := by
  unfold res_main_while0b_v237 Cert.ReferenceIdeal.Step.b81
  rw [← al_80 h, ← al_22 h]
  try rfl
set_option maxRecDepth 8192 in
theorem al_82 (h : Holds V0 s j) : (addf (res_main_while0b_v233 V0) (V0 (Proc.devRef .tc main_v98_9)) : (Proc.devRef .tc main_while0b_v238 : DevRef τ sig).ty.Contents (Elt F)) = Cert.ReferenceIdeal.Step.b82 j s := by
  unfold Cert.ReferenceIdeal.Step.b82
  rw [← al_77 h, h.f_9]
  try rfl
set_option maxRecDepth 8192 in
theorem al_83 (h : Holds V0 s j) : (constant S_ .f32 0xFF800000#32 : (Proc.devRef .tc main_while0b_cst_36 : DevRef τ sig).ty.Contents (Elt F)) = Cert.ReferenceIdeal.Step.b83 j s := by
  unfold Cert.ReferenceIdeal.Step.b83
  rfl
set_option maxRecDepth 8192 in
theorem al_84 (h : Holds V0 s j) : (Host.reduce FloatOps.maximumf (res_main_while0b_v237 V0) (constant S_ .f32 0xFF800000#32) reducesTo_S8x4x64_S8x4_d2 h_S_ : (Proc.devRef .tc main_while0b_v239 : DevRef τ sig).ty.Contents (Elt F)) = Cert.ReferenceIdeal.Step.b84 j s := by
  unfold Cert.ReferenceIdeal.Step.b84
  rw [← al_81 h, ← al_83 h]
  try rfl
set_option maxRecDepth 8192 in
theorem al_85 (h : Holds V0 s j) : (res_main_while0b_v240 V0 : (Proc.devRef .tc main_while0b_v240 : DevRef τ sig).ty.Contents (Elt F)) = Cert.ReferenceIdeal.Step.b85 j s := by
  unfold res_main_while0b_v240 Cert.ReferenceIdeal.Step.b85
  rw [← al_82 h, ← al_84 h]
  try rfl
set_option maxRecDepth 8192 in
theorem al_86 (h : Holds V0 s j) : (addf (res_main_while0b_v233 V0) (V0 (Proc.devRef .tc main_v98_9)) : (Proc.devRef .tc main_while0b_v241 : DevRef τ sig).ty.Contents (Elt F)) = Cert.ReferenceIdeal.Step.b86 j s := by
  unfold Cert.ReferenceIdeal.Step.b86
  rw [← al_77 h, h.f_9]
  try rfl
set_option maxRecDepth 8192 in
theorem al_87 (h : Holds V0 s j) : (subf (addf (res_main_while0b_v233 V0) (V0 (Proc.devRef .tc main_v98_9))) (res_main_while0b_v240 V0) : (Proc.devRef .tc main_while0b_v242 : DevRef τ sig).ty.Contents (Elt F)) = Cert.ReferenceIdeal.Step.b87 j s := by
  unfold Cert.ReferenceIdeal.Step.b87
  rw [← al_86 h, ← al_85 h]
  try rfl
set_option maxRecDepth 8192 in
theorem al_88 (h : Holds V0 s j) : (res_main_while0b_v243 V0 : (Proc.devRef .tc main_while0b_v243 : DevRef τ sig).ty.Contents (Elt F)) = Cert.ReferenceIdeal.Step.b88 j s := by
  unfold res_main_while0b_v243 Cert.ReferenceIdeal.Step.b88
  rw [← al_87 h]
  try rfl
set_option maxRecDepth 8192 in
theorem al_89 (h : Holds V0 s j) : (broadcastInDim S8x4x1 ![0, 1] bcast_S8x4_S8x4x1_0_1 (res_main_while0b_v240 V0) : (Proc.devRef .tc main_while0b_v244 : DevRef τ sig).ty.Contents (Elt F)) = Cert.ReferenceIdeal.Step.b89 j s := by
  unfold Cert.ReferenceIdeal.Step.b89
  rw [← al_85 h]
  try rfl
set_option maxRecDepth 8192 in
theorem al_90 (h : Holds V0 s j) : (broadcastInDim S8x4x64 ![0, 1, 2] bcast_S8x4x1_S8x4x64_0_1_2 (broadcastInDim S8x4x1 ![0, 1] bcast_S8x4_S8x4x1_0_1 (res_main_while0b_v240 V0)) : (Proc.devRef .tc main_while0b_v245 : DevRef τ sig).ty.Contents (Elt F)) = Cert.ReferenceIdeal.Step.b90 j s := by
  unfold Cert.ReferenceIdeal.Step.b90
  rw [← al_89 h]
  try rfl
set_option maxRecDepth 8192 in
theorem al_91 (h : Holds V0 s j) : (subf (res_main_while0b_v237 V0) (broadcastInDim S8x4x64 ![0, 1, 2] bcast_S8x4x1_S8x4x64_0_1_2 (broadcastInDim S8x4x1 ![0, 1] bcast_S8x4_S8x4x1_0_1 (res_main_while0b_v240 V0))) : (Proc.devRef .tc main_while0b_v246 : DevRef τ sig).ty.Contents (Elt F)) = Cert.ReferenceIdeal.Step.b91 j s := by
  unfold Cert.ReferenceIdeal.Step.b91
  rw [← al_81 h, ← al_90 h]
  try rfl
set_option maxRecDepth 8192 in
theorem al_92 (h : Holds V0 s j) : (Host.exp (subf (res_main_while0b_v237 V0) (broadcastInDim S8x4x64 ![0, 1, 2] bcast_S8x4x1_S8x4x64_0_1_2 (broadcastInDim S8x4x1 ![0, 1] bcast_S8x4_S8x4x1_0_1 (res_main_while0b_v240 V0)))) : (Proc.devRef .tc main_while0b_v247 : DevRef τ sig).ty.Contents (Elt F)) = Cert.ReferenceIdeal.Step.b92 j s := by
  unfold Cert.ReferenceIdeal.Step.b92
  rw [← al_91 h]
  try rfl
set_option maxRecDepth 8192 in
theorem al_93 (h : Holds V0 s j) : (broadcastInDim S8x4x64x1 ![0, 1, 2] bcast_S8x4x64_S8x4x64x1_0_1_2 (Host.exp (subf (res_main_while0b_v237 V0) (broadcastInDim S8x4x64 ![0, 1, 2] bcast_S8x4x1_S8x4x64_0_1_2 (broadcastInDim S8x4x1 ![0, 1] bcast_S8x4_S8x4x1_0_1 (res_main_while0b_v240 V0))))) : (Proc.devRef .tc main_while0b_v248 : DevRef τ sig).ty.Contents (Elt F)) = Cert.ReferenceIdeal.Step.b93 j s := by
  unfold Cert.ReferenceIdeal.Step.b93
  rw [← al_92 h]
  try rfl
set_option maxRecDepth 8192 in
theorem al_94 (h : Holds V0 s j) : (broadcastInDim S8x4x64x512 ![0, 1, 2, 3] bcast_S8x4x64x1_S8x4x64x512_0_1_2_3 (broadcastInDim S8x4x64x1 ![0, 1, 2] bcast_S8x4x64_S8x4x64x1_0_1_2 (Host.exp (subf (res_main_while0b_v237 V0) (broadcastInDim S8x4x64 ![0, 1, 2] bcast_S8x4x1_S8x4x64_0_1_2 (broadcastInDim S8x4x1 ![0, 1] bcast_S8x4_S8x4x1_0_1 (res_main_while0b_v240 V0)))))) : (Proc.devRef .tc main_while0b_v249 : DevRef τ sig).ty.Contents (Elt F)) = Cert.ReferenceIdeal.Step.b94 j s := by
  unfold Cert.ReferenceIdeal.Step.b94
  rw [← al_93 h]
  try rfl
set_option maxRecDepth 8192 in
theorem al_95 (h : Holds V0 s j) : (res_main_while0b_v250 V0 : (Proc.devRef .tc main_while0b_v250 : DevRef τ sig).ty.Contents (Elt F)) = Cert.ReferenceIdeal.Step.b95 j s := by
  unfold res_main_while0b_v250 Cert.ReferenceIdeal.Step.b95
  rw [← al_94 h, ← al_11 h]
  try rfl
set_option maxRecDepth 8192 in
theorem al_96 (h : Holds V0 s j) : (broadcastInDim S8x4x1x1 ![0, 1] bcast_S8x4_S8x4x1x1_0_1 (res_main_while0b_v243 V0) : (Proc.devRef .tc main_while0b_v251 : DevRef τ sig).ty.Contents (Elt F)) = Cert.ReferenceIdeal.Step.b96 j s := by
  unfold Cert.ReferenceIdeal.Step.b96
  rw [← al_88 h]
  try rfl
set_option maxRecDepth 8192 in
theorem al_97 (h : Holds V0 s j) : (broadcastInDim S8x4x512x512 ![0, 1, 2, 3] bcast_S8x4x1x1_S8x4x512x512_0_1_2_3 (broadcastInDim S8x4x1x1 ![0, 1] bcast_S8x4_S8x4x1x1_0_1 (res_main_while0b_v243 V0)) : (Proc.devRef .tc main_while0b_v252 : DevRef τ sig).ty.Contents (Elt F)) = Cert.ReferenceIdeal.Step.b97 j s := by
  unfold Cert.ReferenceIdeal.Step.b97
  rw [← al_96 h]
  try rfl
set_option maxRecDepth 8192 in
theorem al_98 (h : Holds V0 s j) : (mulf (broadcastInDim S8x4x512x512 ![0, 1, 2, 3] bcast_S8x4x1x1_S8x4x512x512_0_1_2_3 (broadcastInDim S8x4x1x1 ![0, 1] bcast_S8x4_S8x4x1x1_0_1 (res_main_while0b_v243 V0))) (V0 (Proc.devRef .tc main_v98_7)) : (Proc.devRef .tc main_while0b_v253 : DevRef τ sig).ty.Contents (Elt F)) = Cert.ReferenceIdeal.Step.b98 j s := by
  unfold Cert.ReferenceIdeal.Step.b98
  rw [← al_97 h, h.f_7]
  try rfl
set_option maxRecDepth 8192 in
theorem al_99 (h : Holds V0 s j) : (Host.dotGeneral dot_S8x4x64x512_S8x4x64x512_S8x4x512x512_2_2_3_3_01_01 none (res_main_while0b_v250 V0) (res_main_while0b_v189 V0) : (Proc.devRef .tc main_while0b_v254 : DevRef τ sig).ty.Contents (Elt F)) = Cert.ReferenceIdeal.Step.b99 j s := by
  unfold Cert.ReferenceIdeal.Step.b99
  rw [← al_95 h, ← al_17 h]
  try rfl
set_option maxRecDepth 8192 in
theorem al_100 (h : Holds V0 s j) : (addf (mulf (broadcastInDim S8x4x512x512 ![0, 1, 2, 3] bcast_S8x4x1x1_S8x4x512x512_0_1_2_3 (broadcastInDim S8x4x1x1 ![0, 1] bcast_S8x4_S8x4x1x1_0_1 (res_main_while0b_v243 V0))) (V0 (Proc.devRef .tc main_v98_7))) (Host.dotGeneral dot_S8x4x64x512_S8x4x64x512_S8x4x512x512_2_2_3_3_01_01 none (res_main_while0b_v250 V0) (res_main_while0b_v189 V0)) : (Proc.devRef .tc main_while0b_v255 : DevRef τ sig).ty.Contents (Elt F)) = Cert.ReferenceIdeal.Step.b100 j s := by
  unfold Cert.ReferenceIdeal.Step.b100
  rw [← al_98 h, ← al_99 h]
  try rfl
set_option maxRecDepth 8192 in
theorem al_101 (h : Holds V0 s j) : (broadcastInDim S8x4x1 ![0, 1] bcast_S8x4_S8x4x1_0_1 (res_main_while0b_v243 V0) : (Proc.devRef .tc main_while0b_v256 : DevRef τ sig).ty.Contents (Elt F)) = Cert.ReferenceIdeal.Step.b101 j s := by
  unfold Cert.ReferenceIdeal.Step.b101
  rw [← al_88 h]
  try rfl
set_option maxRecDepth 8192 in
theorem al_102 (h : Holds V0 s j) : (broadcastInDim S8x4x512 ![0, 1, 2] bcast_S8x4x1_S8x4x512_0_1_2 (broadcastInDim S8x4x1 ![0, 1] bcast_S8x4_S8x4x1_0_1 (res_main_while0b_v243 V0)) : (Proc.devRef .tc main_while0b_v257 : DevRef τ sig).ty.Contents (Elt F)) = Cert.ReferenceIdeal.Step.b102 j s := by
  unfold Cert.ReferenceIdeal.Step.b102
  rw [← al_101 h]
  try rfl
set_option maxRecDepth 8192 in
theorem al_103 (h : Holds V0 s j) : (mulf (broadcastInDim S8x4x512 ![0, 1, 2] bcast_S8x4x1_S8x4x512_0_1_2 (broadcastInDim S8x4x1 ![0, 1] bcast_S8x4_S8x4x1_0_1 (res_main_while0b_v243 V0))) (V0 (Proc.devRef .tc main_v98_8)) : (Proc.devRef .tc main_while0b_v258 : DevRef τ sig).ty.Contents (Elt F)) = Cert.ReferenceIdeal.Step.b103 j s := by
  unfold Cert.ReferenceIdeal.Step.b103
  rw [← al_102 h, h.f_8]
  try rfl
set_option maxRecDepth 8192 in
theorem al_104 (h : Holds V0 s j) : (constant S_ .f32 0x00000000#32 : (Proc.devRef .tc main_while0b_cst_37 : DevRef τ sig).ty.Contents (Elt F)) = Cert.ReferenceIdeal.Step.b104 j s := by
  unfold Cert.ReferenceIdeal.Step.b104
  rfl
set_option maxRecDepth 8192 in
theorem al_105 (h : Holds V0 s j) : (Host.reduceAdd (res_main_while0b_v250 V0) (constant S_ .f32 0x00000000#32) reducesTo_S8x4x64x512_S8x4x512_d2 h_S_ : (Proc.devRef .tc main_while0b_v259 : DevRef τ sig).ty.Contents (Elt F)) = Cert.ReferenceIdeal.Step.b105 j s := by
  unfold Cert.ReferenceIdeal.Step.b105
  rw [← al_95 h, ← al_104 h]
  try rfl
set_option maxRecDepth 8192 in
theorem al_106 (h : Holds V0 s j) : (addf (mulf (broadcastInDim S8x4x512 ![0, 1, 2] bcast_S8x4x1_S8x4x512_0_1_2 (broadcastInDim S8x4x1 ![0, 1] bcast_S8x4_S8x4x1_0_1 (res_main_while0b_v243 V0))) (V0 (Proc.devRef .tc main_v98_8))) (Host.reduceAdd (res_main_while0b_v250 V0) (constant S_ .f32 0x00000000#32) reducesTo_S8x4x64x512_S8x4x512_d2 h_S_) : (Proc.devRef .tc main_while0b_v260 : DevRef τ sig).ty.Contents (Elt F)) = Cert.ReferenceIdeal.Step.b106 j s := by
  unfold Cert.ReferenceIdeal.Step.b106
  rw [← al_103 h, ← al_105 h]
  try rfl
set_option maxRecDepth 8192 in
theorem al_107 (h : Holds V0 s j) : (broadcastInDim S1x8x4x64x512 ![1, 2, 3, 4] bcast_S8x4x64x512_S1x8x4x64x512_1_2_3_4 (Host.divf (addf (mulf (broadcastInDim S8x4x64x512 ![0, 1, 2, 3] bcast_S8x4x64x1_S8x4x64x512_0_1_2_3 (broadcastInDim S8x4x64x1 ![0, 1, 2] bcast_S8x4x64_S8x4x64x1_0_1_2 (res_main_while0b_v212 V0))) (Host.dotGeneral dot_S8x4x64x512_S8x4x512x512_S8x4x64x512_3_2_2_3_01_01 none (res_main_while0b_v187 V0) (V0 (Proc.devRef .tc main_v98_7)))) (Host.dotGeneral dot_S8x4x64x64_S8x4x64x512_S8x4x64x512_3_2_2_3_01_01 none (res_main_while0b_v214 V0) (res_main_while0b_v189 V0))) (broadcastInDim S8x4x64x512 ![0, 1, 2, 3] bcast_S8x4x64x1_S8x4x64x512_0_1_2_3 (broadcastInDim S8x4x64x1 ![0, 1, 2] bcast_S8x4x64_S8x4x64x1_0_1_2 (maximumf (Host.absf (addf (mulf (res_main_while0b_v212 V0) (Host.dotGeneral dot_S8x4x64x512_S8x4x512_S8x4x64_3_2_2_n_01_01 none (res_main_while0b_v187 V0) (V0 (Proc.devRef .tc main_v98_8)))) (Host.reduceAdd (res_main_while0b_v214 V0) (constant S_ .f32 0x00000000#32) reducesTo_S8x4x64x64_S8x4x64_d3 h_S_))) (Host.exp (Host.negf (res_main_while0b_v206 V0))))))) : (Proc.devRef .tc main_while0b_call10_v0 : DevRef τ sig).ty.Contents (Elt F)) = Cert.ReferenceIdeal.Step.b107 j s := by
  unfold Cert.ReferenceIdeal.Step.b107
  rw [← al_75 h]
  try rfl
set_option maxRecDepth 8192 in
theorem al_108 (h : Holds V0 s j) : (constantI S_ 32 0#32 : (Proc.devRef .tc main_while0b_call10_c : DevRef τ sig).ty.Contents (Elt F)) = Cert.ReferenceIdeal.Step.b108 j s := by
  unfold Cert.ReferenceIdeal.Step.b108
  rfl
set_option maxRecDepth 8192 in
theorem al_109 (h : Holds V0 s j) : (constantI S_ 32 0#32 : (Proc.devRef .tc main_while0b_call10_c_0 : DevRef τ sig).ty.Contents (Elt F)) = Cert.ReferenceIdeal.Step.b109 j s := by
  unfold Cert.ReferenceIdeal.Step.b109
  rfl
set_option maxRecDepth 8192 in
theorem al_110 (h : Holds V0 s j) : (constantI S_ 32 0#32 : (Proc.devRef .tc main_while0b_call10_c_1 : DevRef τ sig).ty.Contents (Elt F)) = Cert.ReferenceIdeal.Step.b110 j s := by
  unfold Cert.ReferenceIdeal.Step.b110
  rfl
set_option maxRecDepth 8192 in
theorem al_111 (h : Holds V0 s j) : (constantI S_ 32 0#32 : (Proc.devRef .tc main_while0b_call10_c_2 : DevRef τ sig).ty.Contents (Elt F)) = Cert.ReferenceIdeal.Step.b111 j s := by
  unfold Cert.ReferenceIdeal.Step.b111
  rfl
set_option maxRecDepth 8192 in
theorem al_112 (h : Holds V0 s j) : (Host.dynamicUpdateSlice (V0 (Proc.devRef .tc main_v98_10)) (broadcastInDim S1x8x4x64x512 ![1, 2, 3, 4] bcast_S8x4x64x512_S1x8x4x64x512_1_2_3_4 (Host.divf (addf (mulf (broadcastInDim S8x4x64x512 ![0, 1, 2, 3] bcast_S8x4x64x1_S8x4x64x512_0_1_2_3 (broadcastInDim S8x4x64x1 ![0, 1, 2] bcast_S8x4x64_S8x4x64x1_0_1_2 (res_main_while0b_v212 V0))) (Host.dotGeneral dot_S8x4x64x512_S8x4x512x512_S8x4x64x512_3_2_2_3_01_01 none (res_main_while0b_v187 V0) (V0 (Proc.devRef .tc main_v98_7)))) (Host.dotGeneral dot_S8x4x64x64_S8x4x64x512_S8x4x64x512_3_2_2_3_01_01 none (res_main_while0b_v214 V0) (res_main_while0b_v189 V0))) (broadcastInDim S8x4x64x512 ![0, 1, 2, 3] bcast_S8x4x64x1_S8x4x64x512_0_1_2_3 (broadcastInDim S8x4x64x1 ![0, 1, 2] bcast_S8x4x64_S8x4x64x1_0_1_2 (maximumf (Host.absf (addf (mulf (res_main_while0b_v212 V0) (Host.dotGeneral dot_S8x4x64x512_S8x4x512_S8x4x64_3_2_2_n_01_01 none (res_main_while0b_v187 V0) (V0 (Proc.devRef .tc main_v98_8)))) (Host.reduceAdd (res_main_while0b_v214 V0) (constant S_ .f32 0x00000000#32) reducesTo_S8x4x64x64_S8x4x64_d3 h_S_))) (Host.exp (Host.negf (res_main_while0b_v206 V0)))))))) (fun k => (((![V0 (Proc.devRef .tc main_v98_6), constantI S_ 32 0#32, constantI S_ 32 0#32, constantI S_ 32 0#32, constantI S_ 32 0#32] : Fin 5 → (⟨S_, .i32⟩ : BufTy).Contents (Elt F))) k (Shape.Idx.first h_S_)).toInt) updateFits_S32x8x4x64x512_S1x8x4x64x512 : (Proc.devRef .tc main_while0b_v261 : DevRef τ sig).ty.Contents (Elt F)) = Cert.ReferenceIdeal.Step.b112 j s := by
  unfold Cert.ReferenceIdeal.Step.b112
  rw [← al_107 h, ← al_108 h, ← al_109 h, ← al_110 h, ← al_111 h, h.f_10, h.n_6]
  try rfl

/-! One trip's step of the carried values is `step`, field by field; a counter steps to the next number. -/

theorem step_7 (h : Holds V0 s j) : step_main_v98_7 V0 = (step j s).main_v98_7 := by
  unfold step_main_v98_7 Cert.ReferenceIdeal.Step.step
  show id (addf (mulf (broadcastInDim S8x4x512x512 ![0, 1, 2, 3] bcast_S8x4x1x1_S8x4x512x512_0_1_2_3 (broadcastInDim S8x4x1x1 ![0, 1] bcast_S8x4_S8x4x1x1_0_1 (res_main_while0b_v243 V0))) (V0 (Proc.devRef .tc main_v98_7))) (Host.dotGeneral dot_S8x4x64x512_S8x4x64x512_S8x4x512x512_2_2_3_3_01_01 none (res_main_while0b_v250 V0) (res_main_while0b_v189 V0))) = _
  rw [al_100 h]
  try rfl
theorem step_8 (h : Holds V0 s j) : step_main_v98_8 V0 = (step j s).main_v98_8 := by
  unfold step_main_v98_8 Cert.ReferenceIdeal.Step.step
  show id (addf (mulf (broadcastInDim S8x4x512 ![0, 1, 2] bcast_S8x4x1_S8x4x512_0_1_2 (broadcastInDim S8x4x1 ![0, 1] bcast_S8x4_S8x4x1_0_1 (res_main_while0b_v243 V0))) (V0 (Proc.devRef .tc main_v98_8))) (Host.reduceAdd (res_main_while0b_v250 V0) (constant S_ .f32 0x00000000#32) reducesTo_S8x4x64x512_S8x4x512_d2 h_S_)) = _
  rw [al_106 h]
  try rfl
theorem step_9 (h : Holds V0 s j) : step_main_v98_9 V0 = (step j s).main_v98_9 := by
  unfold step_main_v98_9 Cert.ReferenceIdeal.Step.step
  show id (res_main_while0b_v240 V0) = _
  rw [al_85 h]
  try rfl
theorem step_10 (h : Holds V0 s j) : step_main_v98_10 V0 = (step j s).main_v98_10 := by
  unfold step_main_v98_10 Cert.ReferenceIdeal.Step.step
  show id (Host.dynamicUpdateSlice (V0 (Proc.devRef .tc main_v98_10)) (broadcastInDim S1x8x4x64x512 ![1, 2, 3, 4] bcast_S8x4x64x512_S1x8x4x64x512_1_2_3_4 (Host.divf (addf (mulf (broadcastInDim S8x4x64x512 ![0, 1, 2, 3] bcast_S8x4x64x1_S8x4x64x512_0_1_2_3 (broadcastInDim S8x4x64x1 ![0, 1, 2] bcast_S8x4x64_S8x4x64x1_0_1_2 (res_main_while0b_v212 V0))) (Host.dotGeneral dot_S8x4x64x512_S8x4x512x512_S8x4x64x512_3_2_2_3_01_01 none (res_main_while0b_v187 V0) (V0 (Proc.devRef .tc main_v98_7)))) (Host.dotGeneral dot_S8x4x64x64_S8x4x64x512_S8x4x64x512_3_2_2_3_01_01 none (res_main_while0b_v214 V0) (res_main_while0b_v189 V0))) (broadcastInDim S8x4x64x512 ![0, 1, 2, 3] bcast_S8x4x64x1_S8x4x64x512_0_1_2_3 (broadcastInDim S8x4x64x1 ![0, 1, 2] bcast_S8x4x64_S8x4x64x1_0_1_2 (maximumf (Host.absf (addf (mulf (res_main_while0b_v212 V0) (Host.dotGeneral dot_S8x4x64x512_S8x4x512_S8x4x64_3_2_2_n_01_01 none (res_main_while0b_v187 V0) (V0 (Proc.devRef .tc main_v98_8)))) (Host.reduceAdd (res_main_while0b_v214 V0) (constant S_ .f32 0x00000000#32) reducesTo_S8x4x64x64_S8x4x64_d3 h_S_))) (Host.exp (Host.negf (res_main_while0b_v206 V0)))))))) (fun k => (((![V0 (Proc.devRef .tc main_v98_6), constantI S_ 32 0#32, constantI S_ 32 0#32, constantI S_ 32 0#32, constantI S_ 32 0#32] : Fin 5 → (⟨S_, .i32⟩ : BufTy).Contents (Elt F))) k (Shape.Idx.first h_S_)).toInt) updateFits_S32x8x4x64x512_S1x8x4x64x512) = _
  exact al_112 h
  try rfl
theorem step_6 (h : Holds V0 s j) : step_main_v98_6 V0 = constantI S_ 32 (BitVec.ofNat 32 (j + 1)) := by
  unfold step_main_v98_6
  rw [h.n_6]
  funext i
  show BitVec.ofNat 32 j + 1#32 = BitVec.ofNat 32 (j + 1)
  simp only [BitVec.ofNat_add]

set_option maxRecDepth 8192 in
theorem out_main_v186_holds (h : Holds V0 s j) {x_main_arg0 : (⟨S8x2048x1024, .f32⟩ : BufTy).Contents (Elt F)} (h_main_arg0 : V0 (Proc.devRef .tc main_arg0) = x_main_arg0) {x_main_arg1 : (⟨S1024, .f32⟩ : BufTy).Contents (Elt F)} (h_main_arg1 : V0 (Proc.devRef .tc main_arg1) = x_main_arg1) {x_main_arg2 : (⟨S1024x4104, .f32⟩ : BufTy).Contents (Elt F)} (h_main_arg2 : V0 (Proc.devRef .tc main_arg2) = x_main_arg2) {x_main_arg4 : (⟨S4x2048, .f32⟩ : BufTy).Contents (Elt F)} (h_main_arg4 : V0 (Proc.devRef .tc main_arg4) = x_main_arg4) {x_main_arg5 : (⟨S2048, .f32⟩ : BufTy).Contents (Elt F)} (h_main_arg5 : V0 (Proc.devRef .tc main_arg5) = x_main_arg5) {x_main_arg9 : (⟨S2048, .f32⟩ : BufTy).Contents (Elt F)} (h_main_arg9 : V0 (Proc.devRef .tc main_arg9) = x_main_arg9) {x_main_arg10 : (⟨S2048, .f32⟩ : BufTy).Contents (Elt F)} (h_main_arg10 : V0 (Proc.devRef .tc main_arg10) = x_main_arg10) {x_main_arg11 : (⟨S2048x1024, .f32⟩ : BufTy).Contents (Elt F)} (h_main_arg11 : V0 (Proc.devRef .tc main_arg11) = x_main_arg11) : out_main_v186 V0 = Cert.ReferenceIdeal.Step.R_main_v186 s x_main_arg0 x_main_arg1 x_main_arg2 x_main_arg4 x_main_arg5 x_main_arg9 x_main_arg10 x_main_arg11 := by
  unfold out_main_v186 Cert.ReferenceIdeal.Step.R_main_v186
  rw [h.f_10, h_main_arg0, h_main_arg1, h_main_arg2, h_main_arg4, h_main_arg5, h_main_arg9, h_main_arg10, h_main_arg11]
  try rfl

/-- One trip keeps the valuation holding: `step` of the state, the same set-up values, the next number. -/
theorem holds_step (h : Holds V0 s j) : Holds (STEP V0) (step j s) (j + 1) where
  f_7 := (STEP_main_v98_7 V0).trans (step_7 h)
  f_8 := (STEP_main_v98_8 V0).trans (step_8 h)
  f_9 := (STEP_main_v98_9 V0).trans (step_9 h)
  f_10 := (STEP_main_v98_10 V0).trans (step_10 h)
  n_6 := (STEP_main_v98_6 V0).trans (step_6 h)
  k_5 := (STEP_main_v98_5 V0).trans h.k_5
  f_0 := (STEP_main_v98_0 V0).trans h.f_0
  f_1 := (STEP_main_v98_1 V0).trans h.f_1
  f_2 := (STEP_main_v98_2 V0).trans h.f_2
  f_3 := (STEP_main_v98_3 V0).trans h.f_3
  f_4 := (STEP_main_v98_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

variable (m : (ℓ : Loc nD τ sig) → Buf (Elt F) ℓ) (c : Dev nD)

set_option maxRecDepth 65536 in
set_option maxHeartbeats 900000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v186) = Cert.ReferenceIdeal.Step.R_main_v186 (it c 32) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    have hk := holds_iter m c (it c) (h0 c) (hs c) 32
    ⟨(h c).1.trans (out_main_v186_holds hk (iter_main_arg0 m c 32) (iter_main_arg1 m c 32) (iter_main_arg2 m c 32) (iter_main_arg4 m c 32) (iter_main_arg5 m c 32) (iter_main_arg9 m c 32) (iter_main_arg10 m c 32) (iter_main_arg11 m c 32)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩) (Value.run m ρ)

end Cert.ReferenceIdeal.MlRun

end
-- ==== Proof.MlClaim.lean ====
/-
  The matrix-memory claim: under the precondition the cell's queries and values are real, so the kernel's result array and the
  reference's are both the layer of `MlSpec.lean` at the arguments.
-/
module

public import proofs.«01_k».proof.Defs
public import proofs.«01_k».proof.Proof.MlValue
public import proofs.«01_k».proof.Proof.MlRefOut
public import proofs.«01_k».proof.Proof.RefRun
public import Idealize.ShloMosaic.Lib.ReduceAll
public import Idealize.ShloMosaic.Lib.Quiescent

@[expose] public section

set_option maxRecDepth 16384

noncomputable section

open Idealize.ShloMosaic Idealize.ShloMosaic.TcCoe Idealize.SL.Sem

namespace Cert.MlClaim

open Cert.Ml

instance facts : Cert.Pre_finite_weights.Facts where
  bcast_S_S1024 := by decide
  reducesTo_S1024_S_d0 := by decide
  h_S_ := by decide
  bcast_S_S1024x4104 := by decide
  reducesTo_S1024x4104_S_d0_1 := by decide
  bcast_S_S4x2048 := by decide
  reducesTo_S4x2048_S_d0_1 := by decide
  bcast_S_S2048 := by decide
  reducesTo_S2048_S_d0 := by decide
  bcast_S_S4x512x512 := by decide
  reducesTo_S4x512x512_S_d0_1_2 := by decide

instance : Cert.KernelIdeal.Facts := Cert.KernelIdeal.Gen.facts
instance : Cert.ReferenceIdeal.Facts := Cert.ReferenceIdeal.Gen.facts

/-! ## The precondition -/

theorem one_and : ∀ a b : BitVec 1, IntOp.andi a b = 1#1 → a = 1#1 ∧ b = 1#1 := by decide

theorem inf_val : Ideal.ofBits .f32 0x7F800000#32 = ⊤ := by
  simp [Ideal.ofBits, Ideal.ieee]

/-- A number whose size is below infinity is real. -/
theorem re_of_lt {s : Shape} (x : FVec Ideal s .f32) (hb) (i : s.Idx)
    (h : cmpf .olt (Host.absf x) (broadcastInDim s ![] hb (constant (F := Ideal) ⟨0, ![]⟩ .f32 0x7F800000#32)) i = 1#1) : Re (x i) := by
  have h' : BitVec.ofBool (decide (max (x i) (-(x i)) < Ideal.ofBits .f32 0x7F800000#32)) = 1#1 := h
  rw [inf_val] at h'
  have hlt : max (x i) (-(x i)) < ⊤ := by
    by_contra hc
    rw [decide_eq_false hc] at h'
    exact absurd h' (by decide)
  refine Re.of_ne (fun e => ?_) (fun e => ?_)
  · rw [e] at hlt; exact absurd hlt (by simp)
  · rw [e] at hlt; exact absurd hlt (by simp)

open Cert.Pre_finite_weights in
theorem weights (a0 : FVec Ideal S8x2048x1024 .f32) (a1 : FVec Ideal S1024 .f32) (a2 : FVec Ideal S1024x4104 .f32) (a3 : FVec Ideal S8 .f32)
    (a4 : FVec Ideal S4x2048 .f32) (a5 : FVec Ideal S2048 .f32) (a6 a7 a8 : FVec Ideal S4x512x512 .f32) (a9 a10 : FVec Ideal S2048 .f32)
    (a11 : FVec Ideal S2048x1024 .f32) (h : fn (F := Ideal) a0 a1 a2 a3 a4 a5 a6 a7 a8 a9 a10 a11 = fun _ => 1#1) :
    Weights (fun1 a1) (fun2 a2) (fun2 a4) (fun1 a5) (fun3 a6) (fun3 a8) := by
  have e := congrFun h (fun a => a.elim0)
  dsimp only [fn, fn_part1] at e
  haveI : Subsingleton S_.Idx := ⟨fun i j => funext fun a => a.elim0⟩
  obtain ⟨e, h6⟩ := one_and _ _ e
  obtain ⟨e, h5⟩ := one_and _ _ e
  obtain ⟨e, h4⟩ := one_and _ _ e
  obtain ⟨e, h3⟩ := one_and _ _ e
  obtain ⟨h1, h2⟩ := one_and _ _ e
  exact {
    g := fun d => re_of_lt a1 _ _ (Host.reduce_andi_all _ _ _ _ _ h1 _)
    win := fun d c => re_of_lt a2 _ _ (Host.reduce_andi_all _ _ _ _ _ h2 _)
    cw := fun j c => re_of_lt a4 _ _ (Host.reduce_andi_all _ _ _ _ _ h3 _)
    cb := fun c => re_of_lt a5 _ _ (Host.reduce_andi_all _ _ _ _ _ h4 _)
    wq := fun a b c => re_of_lt a6 _ _ (Host.reduce_andi_all _ _ _ _ _ h5 _)
    wv := fun a b c => re_of_lt a8 _ _ (Host.reduce_andi_all _ _ _ _ _ h6 _) }

/-! ## The reference's run -/

section Reference

open Cert.ReferenceIdeal

variable (m : (ℓ : Loc nD τ sig) → Buf (Elt Ideal) ℓ) (c : Dev nD)

/-- The loop's states. -/
def states : ℕ → Cert.ReferenceIdeal.Step.State Ideal
  | 0 => Cert.ReferenceIdeal.MlRun.initState m c
  | n + 1 => Cert.ReferenceIdeal.Step.step n (states n)

end Reference

theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.MlRun.run_iter (F := Ideal) m ρ (states m) (fun _ => rfl) (fun _ _ => rfl))

theorem frame_reference_pre : Cert.quiescent_ReferenceIdeal_pre_finite_weights := fun m ρ _ => frame_reference m ρ trivial

theorem frame_kernel_pre : Cert.quiescent_KernelIdeal_pre_finite_weights := fun m ρ _ => Cert.KernelIdeal.Gen.frame m ρ

/-! ## The claim -/

/-- The kernel's result array at its arguments, which `G12_eq` reads as the layer. -/
def G (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v10) :=
  Cert.KernelIdeal.Value.G12 m c

theorem reference_eq (m : (ℓ : Loc Cert.KernelIdeal.nD Cert.KernelIdeal.τ Cert.KernelIdeal.sig) → Buf (Elt Ideal) ℓ) (c : Dev Cert.KernelIdeal.nD)
    (hpre : Cert.Pre_KernelIdeal_finite_weights m)
    (a0 : Vec Ideal Cert.ReferenceIdeal.S8x2048x1024 .f32) (a1 : Vec Ideal Cert.ReferenceIdeal.S1024 .f32)
    (a2 : Vec Ideal Cert.ReferenceIdeal.S1024x4104 .f32) (a3 : Vec Ideal Cert.ReferenceIdeal.S8 .f32)
    (a4 : Vec Ideal Cert.ReferenceIdeal.S4x2048 .f32) (a5 : Vec Ideal Cert.ReferenceIdeal.S2048 .f32)
    (a6 a7 a8 : Vec Ideal Cert.ReferenceIdeal.S4x512x512 .f32) (a9 a10 : Vec Ideal Cert.ReferenceIdeal.S2048 .f32)
    (a11 : Vec Ideal Cert.ReferenceIdeal.S2048x1024 .f32)
    (it : ℕ → Cert.ReferenceIdeal.Step.State Ideal)
    (i0 : it 0 = Cert.ReferenceIdeal.Step.init (F := Ideal) a0 a1 a2 a3 a4 a5 a6 a7 a8)
    (is : ∀ n, it (n + 1) = Cert.ReferenceIdeal.Step.step n (it n))
    (h0 : a0 = m ((c.tc : Thread Cert.KernelIdeal.nD Cert.KernelIdeal.τ).loc Cert.KernelIdeal.main_arg0))
    (h1 : a1 = m ((c.tc : Thread Cert.KernelIdeal.nD Cert.KernelIdeal.τ).loc Cert.KernelIdeal.main_arg1))
    (h2 : a2 = m ((c.tc : Thread Cert.KernelIdeal.nD Cert.KernelIdeal.τ).loc Cert.KernelIdeal.main_arg2))
    (h3 : a3 = m ((c.tc : Thread Cert.KernelIdeal.nD Cert.KernelIdeal.τ).loc Cert.KernelIdeal.main_arg3))
    (h4 : a4 = m ((c.tc : Thread Cert.KernelIdeal.nD Cert.KernelIdeal.τ).loc Cert.KernelIdeal.main_arg4))
    (h5 : a5 = m ((c.tc : Thread Cert.KernelIdeal.nD Cert.KernelIdeal.τ).loc Cert.KernelIdeal.main_arg5))
    (h6 : a6 = m ((c.tc : Thread Cert.KernelIdeal.nD Cert.KernelIdeal.τ).loc Cert.KernelIdeal.main_arg6))
    (h7 : a7 = m ((c.tc : Thread Cert.KernelIdeal.nD Cert.KernelIdeal.τ).loc Cert.KernelIdeal.main_arg7))
    (h8 : a8 = m ((c.tc : Thread Cert.KernelIdeal.nD Cert.KernelIdeal.τ).loc Cert.KernelIdeal.main_arg8))
    (h9 : a9 = m ((c.tc : Thread Cert.KernelIdeal.nD Cert.KernelIdeal.τ).loc Cert.KernelIdeal.main_arg9))
    (h10 : a10 = m ((c.tc : Thread Cert.KernelIdeal.nD Cert.KernelIdeal.τ).loc Cert.KernelIdeal.main_arg10))
    (h11 : a11 = m ((c.tc : Thread Cert.KernelIdeal.nD Cert.KernelIdeal.τ).loc Cert.KernelIdeal.main_arg11)) :
    Cert.ReferenceIdeal.Step.R_main_v186 (it 32) a0 a1 a2 a4 a5 a9 a10 a11 = G m c := by
  subst h0 h1 h2 h3 h4 h5 h6 h7 h8 h9 h10 h11
  funext i
  have hi : i = ix3 (i 0) (i 1) (i 2) := by
    funext a
    match a with
    | ⟨0, _⟩ => rfl
    | ⟨1, _⟩ => rfl
    | ⟨2, _⟩ => rfl
  have W := weights _ _ _ _ _ _ _ _ _ _ _ _ (hpre c)
  rw [hi]
  refine (Cert.ReferenceIdeal.Ml.result _ _ _ _ _ _ _ _ _ W it i0 is (i 0) (i 1) (i 2)).trans ?_
  exact (Cert.KernelIdeal.MlVal.G12_eq m c W (i 0) (i 1) (i 2)).symm

theorem algebraic : Cert.algebraic_KernelIdeal_ReferenceIdeal_pre_finite_weights := by
  intro m g m' g' hpre hagree
  refine ⟨fun c => G m c, ?_, ?_⟩
  · exact Cert.KernelIdeal.Value.run (F := Ideal) m g
  · refine (θ_run Cert.ReferenceIdeal.defs _ _).mono (fun _ h c => ⟨(h c).1.trans ?_, (h c).2⟩)
      (Cert.ReferenceIdeal.MlRun.run_iter (F := Ideal) m' g' (states m') (fun _ => rfl) (fun _ _ => rfl))
    obtain ⟨a0, a1, a2, a3, a4, a5, a6, a7, a8, a9, a10, a11⟩ := hagree c
    exact reference_eq m c hpre _ _ _ _ _ _ _ _ _ _ _ _ (states m' c) rfl (fun _ => rfl) a0 a1 a2 a3 a4 a5 a6 a7 a8 a9 a10 a11

end Cert.MlClaim

end
-- ==== Proof.Pr3Val.lean ====
/-
  The first projection call of the dilated attention: what one grid point writes, and the whole result.
-/
module

public import proofs.«01_k».proof.Proof.Gen.Kernel3Ideal.Value
public import proofs.«01_k».proof.Proof.FfnStages
public import Idealize.ShloMosaic.Lib.Pointwise

@[expose] public section

set_option maxRecDepth 16384

noncomputable section

open Idealize.ShloMosaic Idealize.ShloMosaic.TcCoe Idealize.SL.Sem

namespace Cert.Kernel3Ideal.Pr

open Cert.Kernel3Ideal Cert.Kernel3Ideal.Gen Cert.FfnMath

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1024x3072 .bf16) (harg5 : arg5.IsWhole) (arg6 : Memref sig .tc .vmem S1x24x1x512x128 .bf16) (harg6 : arg6.IsWhole) (arg7 : Memref sig .tc .vmem S512x1024 .bf16) (harg7 : arg7.IsWhole) (hc0 : cond0_0 i)
    (x0 : Vec Ideal S1x512x1024 .f32) (x1 : Vec Ideal S1x1024 .f32) (x2 : Vec Ideal S1024x3072 .bf16)

/-- One block of the product: each row times the weights' columns, 128 of them at a time. -/
def prod (xn : Vec Ideal S512x1024 .bf16) (y : S1x24x1x512x128.Idx) : EReal :=
  ∑ d : Fin 1024, xn (ix2 (y 3) d)
    * x2 (ix2 d ⟨128 * (y 1).val + (y 4).val, by have h1 : (y 1).val < 24 := (y 1).isLt; have h4 : (y 4).val < 128 := (y 4).isLt; omega⟩)

/-- A stored tile: 128 columns of the product of the rows with 512 columns of the weights. -/
def tile (xn : Vec Ideal S512x1024 .bf16) (w : Vec Ideal S1024x512 .bf16) (o : ℕ) (hs : S512x512.Slices ![0, o] S512x128) :
    FVec Ideal S1x1x1x512x128 .bf16 :=
  shapeCast S1x1x1x512x128 (truncf .bf16 (extractStridedSlice S512x128 ![0, o] (k0_pay5 xn w) hs) bitsLt_bf16_f32)
    shapeCasts_S512x128_S1x1x1x512x128

theorem pay5_apply (xn : Vec Ideal S512x1024 .bf16) (w : Vec Ideal S1024x512 .bf16) (r k : Fin 512) :
    k0_pay5 xn w (ix2 r k) = ∑ d : Fin 1024, xn (ix2 r d) * w (ix2 d k) := by
  pointwise [k0_pay5]

theorem tile_apply (xn : Vec Ideal S512x1024 .bf16) (w : Vec Ideal S1024x512 .bf16) (o : ℕ) (ho : o + 128 ≤ 512)
    (hs : S512x512.Slices ![0, o] S512x128) (r : Fin 512) (k : Fin 128) :
    tile xn w o hs (ix5 0 0 0 r k) = ∑ d : Fin 1024, xn (ix2 r d) * w (ix2 d ⟨o + k.val, by omega⟩) := by
  rw [← pay5_apply]
  unfold tile
  generalize k0_pay5 xn w = z
  rw [shapeCast_apply _ shapeCasts_S512x128_S1x1x1x512x128 _ (ix2 r k) (by rewrite [Shape.rowMajor_val_five, Shape.rowMajor_val_two]; show r.val * 128 + k.val = (((0 * 1 + 0) * 1 + 0) * 512 + r.val) * 128 + k.val; omega)]
  exact extractStridedSlice_apply ![0, o] z hs (ix2 r k) _ (fun a => match a with
    | ⟨0, _⟩ => by show r.val = 0 + r.val; omega
    | ⟨1, _⟩ => rfl)

theorem piece (xn : Vec Ideal S512x1024 .bf16) (k q o : ℕ) (hk : 128 * k = q + o)
    (h1 : ∀ a, (![0, k, 0, 0, 0] : Fin 5 → Nat) a + S1x1x1x512x128.size a ≤ S1x24x1x512x128.size a)
    (h2 : ∀ a, (![0, q] : Fin 2 → Nat) a + S1024x512.size a ≤ S1024x3072.size a)
    (hs : S512x512.Slices ![0, o] S512x128) (x : S1x1x1x512x128.Idx) :
    tile xn (View.ld x2 (Rect.unit ![0, q] S1024x512.size h2)) o hs x
      = prod x2 xn ((Rect.unit (s := S1x24x1x512x128) ![0, k, 0, 0, 0] S1x1x1x512x128.size h1).emb x) := by
  have ho : o + 128 ≤ 512 := by
    have := hs.2 1
    exact this
  have hx : x = ix5 0 0 0 (x 3) (x 4) := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => rfl
  rw [hx]
  refine (tile_apply xn _ o ho hs (x 3) (x 4)).trans ?_
  unfold prod
  refine Finset.sum_congr rfl fun d _ => ?_
  congr 2
  · apply congrArg (fun r : Fin 512 => ix2 r d)
    apply Fin.ext
    show (x 3).val = 0 + 1 * (x 3).val
    omega
  · refine congrArg x2 (funext fun a => Fin.ext ?_)
    match a with
    | ⟨0, _⟩ => show 0 + 1 * d.val = d.val; omega
    | ⟨1, _⟩ => show q + 1 * (o + (x 4).val) = 128 * (k + 1 * 0) + (0 + 1 * (x 4).val); omega

/-- The normalised rows held in the scratch buffer. -/
def xnS : Vec Ideal S512x1024 .bf16 := k0_pay4 x0 x1

theorem v3_eq : kernelRun0_A.sl.v3 (F := Ideal) c arg3 harg3 arg4 harg4 arg7 x0 x1 = xnS x0 x1 := by
  unfold kernelRun0_A.sl.v3 kernelRun0_A.sl.HS0_1
  simp only [View.readCov_eq_canon', View.readAt_eq_ld, harg3.read_unread, harg4.read_unread,
    View.ld_unit_zero (S := S1x512x1024) hz3, View.ld_unit_zero (S := S1x1024) hz2, View.ld_unit_zero (S := S512x1024) hz2,
    View.canon_unit_zero (S := S512x1024) hz2]
  refine funext fun j => congrArg (k0_pay4 x0 x1) (funext fun a => Fin.ext ?_)
  match a with
  | ⟨0, _⟩ => show 0 + 1 * (j 0).val = (j 0).val; omega
  | ⟨1, _⟩ => show 0 + 1 * (j 1).val = (j 1).val; omega

theorem out_eq :
    out0_A_3 c i arg3 harg3 arg4 harg4 arg5 harg5 arg6 harg6 arg7 harg7 hc0 x0 x1 x2 = prod x2 (xnS x0 x1) := by
  funext y
  unfold out0_A_3
  rw [View.read_writes_eq_canon _ _ _ (cover0_A_3 c i arg3 harg3 arg4 harg4 arg5 harg5 arg6 harg6 arg7 harg7 hc0 x0 x1 x2)]
  refine View.canon_apply_of_pieces (prod x2 (xnS x0 x1)) _ ?_ y (cover0_A_3 c i arg3 harg3 arg4 harg4 arg5 harg5 arg6 harg6 arg7 harg7 hc0 x0 x1 x2 y)
  rw [← v3_eq c arg3 harg3 arg4 harg4 arg7]
  unfold kernelRun0_A
  dsimp only
  unfold kernelRun0_A.sl.r kernelRun0_A.sl.r_1 kernelRun0_A.sl.r_2 kernelRun0_A.sl.r_3 kernelRun0_A.sl.r_4 kernelRun0_A.sl.r_5 kernelRun0_A.sl.r_6
  simp only [View.readAt_eq_ld, harg5.read_unread]
  refine List.forall_mem_cons.2 ⟨fun x => ?_, ?_⟩
  · exact piece x2 (kernelRun0_A.sl.v3 c arg3 harg3 arg4 harg4 arg7 x0 x1) 23 2560 384 rfl inb_S1x24x1x512x128_S1x1x1x512x128_0_23_0_0_0 inb_S1024x3072_S1024x512_0_2560 slices_S512x512_o0_384_S512x128 x
  refine List.forall_mem_cons.2 ⟨fun x => ?_, ?_⟩
  · exact piece x2 (kernelRun0_A.sl.v3 c arg3 harg3 arg4 harg4 arg7 x0 x1) 22 2560 256 rfl inb_S1x24x1x512x128_S1x1x1x512x128_0_22_0_0_0 inb_S1024x3072_S1024x512_0_2560 slices_S512x512_o0_256_S512x128 x
  refine List.forall_mem_cons.2 ⟨fun x => ?_, ?_⟩
  · exact piece x2 (kernelRun0_A.sl.v3 c arg3 harg3 arg4 harg4 arg7 x0 x1) 21 2560 128 rfl inb_S1x24x1x512x128_S1x1x1x512x128_0_21_0_0_0 inb_S1024x3072_S1024x512_0_2560 slices_S512x512_o0_128_S512x128 x
  refine List.forall_mem_cons.2 ⟨fun x => ?_, ?_⟩
  · exact piece x2 (kernelRun0_A.sl.v3 c arg3 harg3 arg4 harg4 arg7 x0 x1) 20 2560 0 rfl inb_S1x24x1x512x128_S1x1x1x512x128_0_20_0_0_0 inb_S1024x3072_S1024x512_0_2560 slices_S512x512_o0_0_S512x128 x
  refine List.forall_mem_cons.2 ⟨fun x => ?_, ?_⟩
  · exact piece x2 (kernelRun0_A.sl.v3 c arg3 harg3 arg4 harg4 arg7 x0 x1) 19 2048 384 rfl inb_S1x24x1x512x128_S1x1x1x512x128_0_19_0_0_0 inb_S1024x3072_S1024x512_0_2048 slices_S512x512_o0_384_S512x128 x
  refine List.forall_mem_cons.2 ⟨fun x => ?_, ?_⟩
  · exact piece x2 (kernelRun0_A.sl.v3 c arg3 harg3 arg4 harg4 arg7 x0 x1) 18 2048 256 rfl inb_S1x24x1x512x128_S1x1x1x512x128_0_18_0_0_0 inb_S1024x3072_S1024x512_0_2048 slices_S512x512_o0_256_S512x128 x
  refine List.forall_mem_cons.2 ⟨fun x => ?_, ?_⟩
  · exact piece x2 (kernelRun0_A.sl.v3 c arg3 harg3 arg4 harg4 arg7 x0 x1) 17 2048 128 rfl inb_S1x24x1x512x128_S1x1x1x512x128_0_17_0_0_0 inb_S1024x3072_S1024x512_0_2048 slices_S512x512_o0_128_S512x128 x
  refine List.forall_mem_cons.2 ⟨fun x => ?_, ?_⟩
  · exact piece x2 (kernelRun0_A.sl.v3 c arg3 harg3 arg4 harg4 arg7 x0 x1) 16 2048 0 rfl inb_S1x24x1x512x128_S1x1x1x512x128_0_16_0_0_0 inb_S1024x3072_S1024x512_0_2048 slices_S512x512_o0_0_S512x128 x
  refine List.forall_mem_cons.2 ⟨fun x => ?_, ?_⟩
  · exact piece x2 (kernelRun0_A.sl.v3 c arg3 harg3 arg4 harg4 arg7 x0 x1) 15 1536 384 rfl inb_S1x24x1x512x128_S1x1x1x512x128_0_15_0_0_0 inb_S1024x3072_S1024x512_0_1536 slices_S512x512_o0_384_S512x128 x
  refine List.forall_mem_cons.2 ⟨fun x => ?_, ?_⟩
  · exact piece x2 (kernelRun0_A.sl.v3 c arg3 harg3 arg4 harg4 arg7 x0 x1) 14 1536 256 rfl inb_S1x24x1x512x128_S1x1x1x512x128_0_14_0_0_0 inb_S1024x3072_S1024x512_0_1536 slices_S512x512_o0_256_S512x128 x
  refine List.forall_mem_cons.2 ⟨fun x => ?_, ?_⟩
  · exact piece x2 (kernelRun0_A.sl.v3 c arg3 harg3 arg4 harg4 arg7 x0 x1) 13 1536 128 rfl inb_S1x24x1x512x128_S1x1x1x512x128_0_13_0_0_0 inb_S1024x3072_S1024x512_0_1536 slices_S512x512_o0_128_S512x128 x
  refine List.forall_mem_cons.2 ⟨fun x => ?_, ?_⟩
  · exact piece x2 (kernelRun0_A.sl.v3 c arg3 harg3 arg4 harg4 arg7 x0 x1) 12 1536 0 rfl inb_S1x24x1x512x128_S1x1x1x512x128_0_12_0_0_0 inb_S1024x3072_S1024x512_0_1536 slices_S512x512_o0_0_S512x128 x
  refine List.forall_mem_cons.2 ⟨fun x => ?_, ?_⟩
  · exact piece x2 (kernelRun0_A.sl.v3 c arg3 harg3 arg4 harg4 arg7 x0 x1) 11 1024 384 rfl inb_S1x24x1x512x128_S1x1x1x512x128_0_11_0_0_0 inb_S1024x3072_S1024x512_0_1024 slices_S512x512_o0_384_S512x128 x
  refine List.forall_mem_cons.2 ⟨fun x => ?_, ?_⟩
  · exact piece x2 (kernelRun0_A.sl.v3 c arg3 harg3 arg4 harg4 arg7 x0 x1) 10 1024 256 rfl inb_S1x24x1x512x128_S1x1x1x512x128_0_10_0_0_0 inb_S1024x3072_S1024x512_0_1024 slices_S512x512_o0_256_S512x128 x
  refine List.forall_mem_cons.2 ⟨fun x => ?_, ?_⟩
  · exact piece x2 (kernelRun0_A.sl.v3 c arg3 harg3 arg4 harg4 arg7 x0 x1) 9 1024 128 rfl inb_S1x24x1x512x128_S1x1x1x512x128_0_9_0_0_0 inb_S1024x3072_S1024x512_0_1024 slices_S512x512_o0_128_S512x128 x
  refine List.forall_mem_cons.2 ⟨fun x => ?_, ?_⟩
  · exact piece x2 (kernelRun0_A.sl.v3 c arg3 harg3 arg4 harg4 arg7 x0 x1) 8 1024 0 rfl inb_S1x24x1x512x128_S1x1x1x512x128_0_8_0_0_0 inb_S1024x3072_S1024x512_0_1024 slices_S512x512_o0_0_S512x128 x
  refine List.forall_mem_cons.2 ⟨fun x => ?_, ?_⟩
  · exact piece x2 (kernelRun0_A.sl.v3 c arg3 harg3 arg4 harg4 arg7 x0 x1) 7 512 384 rfl inb_S1x24x1x512x128_S1x1x1x512x128_0_7_0_0_0 inb_S1024x3072_S1024x512_0_512 slices_S512x512_o0_384_S512x128 x
  refine List.forall_mem_cons.2 ⟨fun x => ?_, ?_⟩
  · exact piece x2 (kernelRun0_A.sl.v3 c arg3 harg3 arg4 harg4 arg7 x0 x1) 6 512 256 rfl inb_S1x24x1x512x128_S1x1x1x512x128_0_6_0_0_0 inb_S1024x3072_S1024x512_0_512 slices_S512x512_o0_256_S512x128 x
  refine List.forall_mem_cons.2 ⟨fun x => ?_, ?_⟩
  · exact piece x2 (kernelRun0_A.sl.v3 c arg3 harg3 arg4 harg4 arg7 x0 x1) 5 512 128 rfl inb_S1x24x1x512x128_S1x1x1x512x128_0_5_0_0_0 inb_S1024x3072_S1024x512_0_512 slices_S512x512_o0_128_S512x128 x
  refine List.forall_mem_cons.2 ⟨fun x => ?_, ?_⟩
  · exact piece x2 (kernelRun0_A.sl.v3 c arg3 harg3 arg4 harg4 arg7 x0 x1) 4 512 0 rfl inb_S1x24x1x512x128_S1x1x1x512x128_0_4_0_0_0 inb_S1024x3072_S1024x512_0_512 slices_S512x512_o0_0_S512x128 x
  refine List.forall_mem_cons.2 ⟨fun x => ?_, ?_⟩
  · exact piece x2 (kernelRun0_A.sl.v3 c arg3 harg3 arg4 harg4 arg7 x0 x1) 3 0 384 rfl inb_S1x24x1x512x128_S1x1x1x512x128_0_3_0_0_0 inb_S1024x3072_S1024x512_0_0 slices_S512x512_o0_384_S512x128 x
  refine List.forall_mem_cons.2 ⟨fun x => ?_, ?_⟩
  · exact piece x2 (kernelRun0_A.sl.v3 c arg3 harg3 arg4 harg4 arg7 x0 x1) 2 0 256 rfl inb_S1x24x1x512x128_S1x1x1x512x128_0_2_0_0_0 inb_S1024x3072_S1024x512_0_0 slices_S512x512_o0_256_S512x128 x
  refine List.forall_mem_cons.2 ⟨fun x => ?_, ?_⟩
  · exact piece x2 (kernelRun0_A.sl.v3 c arg3 harg3 arg4 harg4 arg7 x0 x1) 1 0 128 rfl inb_S1x24x1x512x128_S1x1x1x512x128_0_1_0_0_0 inb_S1024x3072_S1024x512_0_0 slices_S512x512_o0_128_S512x128 x
  refine List.forall_mem_cons.2 ⟨fun x => ?_, ?_⟩
  · exact piece x2 (kernelRun0_A.sl.v3 c arg3 harg3 arg4 harg4 arg7 x0 x1) 0 0 0 rfl inb_S1x24x1x512x128_S1x1x1x512x128_0_0_0_0_0 inb_S1024x3072_S1024x512_0_0 slices_S512x512_o0_0_S512x128 x
  exact fun p hp => absurd hp List.not_mem_nil

end Cert.Kernel3Ideal.Pr

end
-- ==== Proof.PrSpec.lean ====
/-
  The projection call of the dilated attention, as plain mathematics on the extended reals: the normalised rows times
  the weights' columns, the first third of them scaled.
-/
module

public import proofs.«01_k».proof.Proof.FfnStages

@[expose] public section

noncomputable section

open Idealize.ShloMosaic Idealize.ShloMosaic.TcCoe Idealize.SL.Sem

namespace Cert.PrMath

open Cert.FfnMath

/-- The scale of the queries: an eighth of the logarithm of e to base 2, as the kernel rounds it. -/
abbrev qs : EReal := Ideal.ofBits .f32 0x3E38AA3B#32

/-- The scale of a block of 128 columns: the queries are the first eight blocks. -/
def scl (c : ℕ) : EReal := if c < 8 then qs else 1

theorem qs_eq : Ideal.ofBits .f32 0x3E000000#32 * Ideal.ofBits .f32 0x3FB8AA3B#32 = qs := by
  simp only [qs, Ideal.ofBits, Ideal.ieee]
  simp [-EReal.coe_mul]
  simp only [← EReal.coe_mul]
  norm_num

theorem qs_real : ∃ r : ℝ, 0 ≤ r ∧ qs = (r : EReal) := by
  refine ⟨12102203 * (2 ^ 26)⁻¹, by positivity, ?_⟩
  simp [qs, Ideal.ofBits, Ideal.ieee]

/-- A real factor that is not negative goes out of a sum of extended reals. -/
theorem sum_mul_real (r : ℝ) (hr : 0 ≤ r) {ι : Type} (s : Finset ι) (f : ι → EReal) :
    (∑ d ∈ s, f d * (r : EReal)) = (∑ d ∈ s, f d) * (r : EReal) := by
  classical
  induction s using Finset.induction_on with
  | empty => simp
  | insert a s ha ih =>
    rw [Finset.sum_insert ha, Finset.sum_insert ha, ih, mul_comm (f a), mul_comm (∑ d ∈ s, f d), mul_comm (f a + _)]
    exact (EReal.left_distrib_of_nonneg_of_ne_top (EReal.coe_nonneg.2 hr) (EReal.coe_ne_top r) _ _).symm

theorem scl_real (c : ℕ) : ∃ r : ℝ, 0 ≤ r ∧ scl c = (r : EReal) := by
  unfold scl
  split
  · exact qs_real
  · exact ⟨1, zero_le_one, rfl⟩

/-- One element of the projection: row `row` of sequence `b`, column `l` of block `c` of group `gi`. -/
def proj (gi : Fin 3) (h : Fin 8 → Fin 2048 → Fin 1024 → EReal) (g : Fin 1024 → EReal) (w : Fin 1024 → Fin 9216 → EReal)
    (b : Fin 8) (row : Fin 2048) (c : Fin 24) (l : Fin 128) : EReal :=
  (∑ d, nrm (h b row) g d * w d ⟨3072 * gi.val + 128 * c.val + l.val, by omega⟩) * scl c.val

theorem proj_congr (gi : Fin 3) (h : Fin 8 → Fin 2048 → Fin 1024 → EReal) (g : Fin 1024 → EReal) (w : Fin 1024 → Fin 9216 → EReal)
    {b b' : Fin 8} {row row' : Fin 2048} {c c' : Fin 24} {l l' : Fin 128} (hb : b.val = b'.val) (hr : row.val = row'.val) (hc : c.val = c'.val)
    (hl : l.val = l'.val) : proj gi h g w b row c l = proj gi h g w b' row' c' l' := by
  rw [Fin.ext hb, Fin.ext hr, Fin.ext hc, Fin.ext hl]

/-- The same with the scale on the weights. -/
theorem proj_eq (gi : Fin 3) (h : Fin 8 → Fin 2048 → Fin 1024 → EReal) (g : Fin 1024 → EReal) (w : Fin 1024 → Fin 9216 → EReal)
    (b : Fin 8) (row : Fin 2048) (c : Fin 24) (l : Fin 128) :
    proj gi h g w b row c l = ∑ d, nrm (h b row) g d * (w d ⟨3072 * gi.val + 128 * c.val + l.val, by omega⟩ * scl c.val) := by
  unfold proj
  obtain ⟨r, h0, hr⟩ := scl_real c.val
  rw [hr, ← sum_mul_real r h0]
  exact Finset.sum_congr rfl fun d _ => mul_assoc _ _ _

end Cert.PrMath

end
-- ==== Proof.Pr3Host.lean ====
/-
  The first projection call's blocks, read at one element: the rows, the norm's weights, and the projection's weights
  with the scale on the queries' columns.
-/
module

public import proofs.«01_k».proof.Proof.Gen.Kernel3Ideal.Value
public import proofs.«01_k».proof.Proof.PrSpec
public import Idealize.ShloMosaic.Lib.Routing.OpsSet
public import Idealize.ShloMosaic.Lib.Routing.OpsPair
public import Idealize.ShloMosaic.Lib.Pointwise

@[expose] public section

set_option maxRecDepth 16384

noncomputable section

open Idealize.ShloMosaic Idealize.ShloMosaic.TcCoe Idealize.SL.Sem

namespace Cert.Kernel3Ideal.Pr

open Cert.Kernel3Ideal Cert.Kernel3Ideal.Gen Cert.PrMath Idealize.ShloMosaic.Routing

variable (m : (ℓ : Loc nD τ sig) → Buf (Elt Ideal) ℓ)

abbrev seqOf (t : Fin cfg0.N) : Fin 8 := ⟨(grid0.coords t 0).val, (grid0.coords t 0).isLt⟩
abbrev rowOf (t : Fin cfg0.N) : Fin 4 := ⟨(grid0.coords t 1).val, (grid0.coords t 1).isLt⟩

/-- The three factors: one of the queries, of the keys, of the values. -/
def fac : FVec Ideal S3x1 .f32 := Host.scatter scatter_S3x1_S1_S1_0_0_0_0 (fun _ b => b) (broadcastInDim S3x1 ![] bcast_S_S3x1 (constant S_ .f32 0x3F800000#32))
  (broadcastInDim S1 ![] bcast_S_S1 (constantI S_ 32 0#32)) (broadcastInDim S1 ![] bcast_S_S1 (constant S_ .f32 0x3E38AA3B#32))

theorem fac_start (k : S1.Idx) (a : Fin 2) : scatter_S3x1_S1_S1_0_0_0_0.start k (broadcastInDim S1 ![] bcast_S_S1 (constantI S_ 32 0#32)) a = 0 := by
  unfold ScatterDims.start
  split
  · rfl
  · rfl

theorem fac_window (k : S1.Idx) (a : Fin 2) : scatter_S3x1_S1_S1_0_0_0_0.window k a = 0 := by
  have h1 : ∀ b : Fin S1.rank, (k b).val = 0 := fun b => by
    match b with
    | ⟨0, h⟩ => have h2 : (k ⟨0, h⟩).val < 1 := (k ⟨0, h⟩).isLt; omega
  unfold ScatterDims.window
  split
  · exact h1 _
  · rfl

theorem fac_apply (j : Fin 3) : fac (ix2 j 0) = if j.val = 0 then qs else 1 := by
  unfold fac
  split
  · rename_i h
    refine scatter_set_hit _ _ _ _ _ _ (fun k _ => rfl) (ix1 0) ((resultIdx?_ix2 _ _ _ j 0).2 ?_)
    rw [fac_start, fac_start, fac_window, fac_window, h]
    exact ⟨rfl, rfl⟩
  · rename_i h
    refine (scatter_set_miss _ _ _ _ _ fun k hk => ?_).trans Ideal.ofBits_one_f32
    have := ((resultIdx?_ix2 _ _ _ j 0).1 hk).1
    rw [fac_start, fac_window] at this
    omega

/-- What the host leaves in `main_v11`. -/
theorem V_v11 (c : Dev nD) : V m c main_v11 = (truncf .bf16 (shapeCast S1024x3072 (mulf (shapeCast S1024x3x1024
      (extractStridedSlice S1024x1x3x1024 ![0, 0, 0, 0] (shapeCast S1024x3x3x1024 (m ((c : Thread nD τ).loc main_arg2) : FVec Ideal S1024x9216 .f32) shapeCasts_S1024x9216_S1024x3x3x1024)
        slices_S1024x3x3x1024_S1024x1x3x1024_0_0_0_0) shapeCasts_S1024x1x3x1024_S1024x3x1024)
      (broadcastInDim S1024x3x1024 ![0, 1, 2] bcast_S1x3x1_S1024x3x1024_0_1_2 (broadcastInDim S1x3x1 ![1, 2] bcast_S3x1_S1x3x1_1_2 fac)))
      shapeCasts_S1024x3x1024_S1024x3072) bitsLt_bf16_f32 : FVec Ideal S1024x3072 .bf16) := by
  unfold V
  after_results
  rfl

theorem V_v12 (c : Dev nD) : V m c main_v12 = (shapeCast S1x1024 (m ((c : Thread nD τ).loc main_arg1) : FVec Ideal S1024 .f32) shapeCasts_S1024_S1x1024 : FVec Ideal S1x1024 .f32) := by
  unfold V
  after_results
  rfl

theorem w_apply (w : FVec Ideal S1024x9216 .f32) (f : FVec Ideal S3x1 .f32) (d : Fin 1024) (k : Fin 3072) :
    (truncf .bf16 (shapeCast S1024x3072 (mulf (shapeCast S1024x3x1024
      (extractStridedSlice S1024x1x3x1024 ![0, 0, 0, 0] (shapeCast S1024x3x3x1024 w shapeCasts_S1024x9216_S1024x3x3x1024)
        slices_S1024x3x3x1024_S1024x1x3x1024_0_0_0_0) shapeCasts_S1024x1x3x1024_S1024x3x1024)
      (broadcastInDim S1024x3x1024 ![0, 1, 2] bcast_S1x3x1_S1024x3x1024_0_1_2 (broadcastInDim S1x3x1 ![1, 2] bcast_S3x1_S1x3x1_1_2 f)))
      shapeCasts_S1024x3x1024_S1024x3072) bitsLt_bf16_f32 : FVec Ideal S1024x3072 .bf16) (ix2 d k)
      = w (ix2 d ⟨3072 * 0 + k.val, by omega⟩) * f (ix2 ⟨k.val / 1024, by omega⟩ 0) := by
  have e1 : ∀ z : FVec Ideal S1024x3x1024 .f32, shapeCast S1024x3072 z shapeCasts_S1024x3x1024_S1024x3072 (ix2 d k) = z (ix3 d ⟨k.val / 1024, by omega⟩ ⟨k.val % 1024, by omega⟩) := fun z =>
    shapeCast_apply z shapeCasts_S1024x3x1024_S1024x3072 _ _ (by rewrite [Shape.rowMajor_val_three, Shape.rowMajor_val_two]; show (d.val * 3 + k.val / 1024) * 1024 + k.val % 1024 = d.val * 3072 + k.val; omega)
  change shapeCast S1024x3072 (mulf (F := Ideal) _ _) shapeCasts_S1024x3x1024_S1024x3072 (ix2 d k) = _
  refine (e1 _).trans ?_
  refine congrArg₂ (· * ·) ?_ ?_
  · refine (shapeCast_apply _ shapeCasts_S1024x1x3x1024_S1024x3x1024 _ (ix4 d 0 ⟨k.val / 1024, by omega⟩ ⟨k.val % 1024, by omega⟩) (by rewrite [Shape.rowMajor_val_three, Shape.rowMajor_val_four]; show ((d.val * 1 + 0) * 3 + k.val / 1024) * 1024 + k.val % 1024 = (d.val * 3 + k.val / 1024) * 1024 + k.val % 1024; omega)).trans ?_
    refine (extractStridedSlice_apply ![0, 0, 0, 0] _ slices_S1024x3x3x1024_S1024x1x3x1024_0_0_0_0 _ (ix4 d 0 ⟨k.val / 1024, by omega⟩ ⟨k.val % 1024, by omega⟩) (fun a => match a with
      | ⟨0, _⟩ => by show d.val = 0 + d.val; omega
      | ⟨1, _⟩ => rfl
      | ⟨2, _⟩ => by show k.val / 1024 = 0 + k.val / 1024; omega
      | ⟨3, _⟩ => by show k.val % 1024 = 0 + k.val % 1024; omega)).trans ?_
    exact shapeCast_apply _ shapeCasts_S1024x9216_S1024x3x3x1024 _ (ix2 d ⟨3072 * 0 + k.val, by omega⟩) (by rewrite [Shape.rowMajor_val_two, Shape.rowMajor_val_four]; show d.val * 9216 + (3072 * 0 + k.val) = ((d.val * 3 + 0) * 3 + k.val / 1024) * 1024 + k.val % 1024; omega)
  · pointwise

/-- The 512 rows of a point's block. -/
theorem blk0 (c : Dev nD) (t : Fin cfg0.N) (r : Fin 512) (d : Fin 1024) :
    (iblk m c 0 t : Vec Ideal S1x512x1024 .f32) (ix3 0 r d)
      = (m ((c : Thread nD τ).loc main_arg0) : Vec Ideal S8x2048x1024 .f32) (ix3 (seqOf t) ⟨512 * (rowOf t).val + r.val, by have := (rowOf t).isLt; omega⟩ d) := by
  have hi : win0_0.index t 0 = (grid0.coords t 0).val ∧ win0_0.index t 1 = (grid0.coords t 1).val ∧ win0_0.index t 2 = 0 :=
    (by decide +kernel : ∀ t : Fin grid0.N, win0_0.index t 0 = (grid0.coords t 0).val ∧ win0_0.index t 1 = (grid0.coords t 1).val ∧ win0_0.index t 2 = 0) t
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_0.index t 0 * 1 + 1 * 0 = (grid0.coords t 0).val; rw [hi.1]; omega
  | ⟨1, _⟩ => show win0_0.index t 1 * 512 + 1 * r.val = 512 * (grid0.coords t 1).val + r.val; rw [hi.2.1]; omega
  | ⟨2, _⟩ => show win0_0.index t 2 * 1024 + 1 * d.val = d.val; rw [hi.2.2]; omega

theorem blk1 (c : Dev nD) (t : Fin cfg0.N) (d : Fin 1024) :
    (iblk m c 1 t : Vec Ideal S1x1024 .f32) (ix2 0 d) = (m ((c : Thread nD τ).loc main_arg1) : Vec Ideal S1024 .f32) (ix1 d) := by
  have hi : win0_1.index t 0 = 0 ∧ win0_1.index t 1 = 0 :=
    (by decide +kernel : ∀ t : Fin grid0.N, win0_1.index t 0 = 0 ∧ win0_1.index t 1 = 0) t
  unfold iblk
  rw [View.read_apply]
  have e : ((cfg0.win 1).blk t).view.emb (ix2 0 d) = (ix2 0 d : S1x1024.Idx) := by
    funext a
    apply Fin.ext
    match a with
    | ⟨0, _⟩ => show win0_1.index t 0 * 1 + 1 * 0 = 0; rw [hi.1]
    | ⟨1, _⟩ => show win0_1.index t 1 * 1024 + 1 * d.val = d.val; rw [hi.2]; omega
  show V m c main_v12 (((cfg0.win 1).blk t).view.emb (ix2 0 d)) = _
  rw [e, V_v12]
  exact shapeCast_apply _ shapeCasts_S1024_S1x1024 _ (ix1 d) (by rewrite [Shape.rowMajor_val_two, Shape.rowMajor_val_one]; show d.val = 0 * 1024 + d.val; omega)

theorem blk2 (c : Dev nD) (t : Fin cfg0.N) (d : Fin 1024) (k : Fin 3072) :
    (iblk m c 2 t : Vec Ideal S1024x3072 .bf16) (ix2 d k) = (show EReal from (m ((c : Thread nD τ).loc main_arg2) : Vec Ideal S1024x9216 .f32) (ix2 d ⟨3072 * 0 + k.val, by omega⟩)) * scl (k.val / 128) := by
  have hi : win0_2.index t 0 = 0 ∧ win0_2.index t 1 = 0 :=
    (by decide +kernel : ∀ t : Fin grid0.N, win0_2.index t 0 = 0 ∧ win0_2.index t 1 = 0) t
  unfold iblk
  rw [View.read_apply]
  have e : ((cfg0.win 2).blk t).view.emb (ix2 d k) = (ix2 d k : S1024x3072.Idx) := by
    funext a
    apply Fin.ext
    match a with
    | ⟨0, _⟩ => show win0_2.index t 0 * 1024 + 1 * d.val = d.val; rw [hi.1]; omega
    | ⟨1, _⟩ => show win0_2.index t 1 * 3072 + 1 * k.val = k.val; rw [hi.2]; omega
  show V m c main_v11 (((cfg0.win 2).blk t).view.emb (ix2 d k)) = _
  rw [e, V_v11, w_apply, fac_apply]
  unfold scl
  congr 1
  have : k.val / 1024 = 0 ↔ k.val / 128 < 8 := by omega
  simp only [this]

end Cert.Kernel3Ideal.Pr

end
-- ==== Proof.Pr3Ref.lean ====
/-
  The first projection's reference read at one element: it is the projection of `PrSpec.lean`.
-/
module

public import proofs.«01_k».proof.Proof.PrSpec
public import proofs.«01_k».proof.Proof.Gen.Reference3Ideal.Read
public import Idealize.ShloMosaic.Lib.ValueIdxRank6

@[expose] public section

set_option maxRecDepth 16384

noncomputable section

open Idealize.ShloMosaic Idealize.ShloMosaic.TcCoe Idealize.SL.Sem

namespace Cert.Reference3Ideal.Layer

open Cert.Reference3Ideal Cert.Reference3Ideal.Gen Cert.Reference3Ideal.Read Cert.FfnMath Cert.PrMath

variable (x0 : Vec Ideal S8x2048x1024 .f32) (x1 : Vec Ideal S1024 .f32) (x2 : Vec Ideal S1024x9216 .f32)

theorem v12_at (b : Fin 8) (t : Fin 2048) (d : Fin 1024) :
    val_main_v12 (F := Ideal) x0 x1 (ix3 b t d) = nrm (fun k => x0 (ix3 b t k)) (fun k => x1 (ix1 k)) d := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl

theorem v13_at (b : Fin 8) (t : Fin 2048) (f : Fin 9216) :
    val_main_v13 (F := Ideal) x0 x1 x2 (ix3 b t f) = ∑ d, nrm (fun k => x0 (ix3 b t k)) (fun k => x1 (ix1 k)) d * x2 (ix2 d f) := by
  simp only [← v12_at]
  unfold val_main_v13
  generalize val_main_v12 (F := Ideal) x0 x1 = y
  pointwise

/-- Two heads side by side: where a column of 128 lies among the heads. -/
theorem lanes (z : FVec Ideal S8x2048x16x64 .f32) (b : Fin 8) (q : Fin 1) (s : Fin 2048) (c : Fin 8) (l : Fin 128) :
    transpose S8x8x1x2048x128 [0, 3, 1, 2, 4] (shapeCast S8x1x2048x8x128 z
      shapeCasts_S8x2048x16x64_S8x1x2048x8x128) transposes_S8x1x2048x8x128_S8x8x1x2048x128_0_3_1_2_4 (ix5 b c q s l)
      = z (ix4 (⟨1 * b.val + q.val, by omega⟩ : Fin 8) s (⟨2 * c.val + l.val / 64, by omega⟩ : Fin 16) (⟨l.val % 64, by omega⟩ : Fin 64)) := by
  have hq : q.val = 0 := by omega
  refine (transpose_apply [0, 3, 1, 2, 4] _ transposes_S8x1x2048x8x128_S8x8x1x2048x128_0_3_1_2_4 _ (ix5 b q s c l) (fun b => match b with
    | ⟨0, _⟩ => rfl
    | ⟨1, _⟩ => rfl
    | ⟨2, _⟩ => rfl
    | ⟨3, _⟩ => rfl
    | ⟨4, _⟩ => rfl)).trans ?_
  exact shapeCast_apply _ shapeCasts_S8x2048x16x64_S8x1x2048x8x128 _ _ (by
    rewrite [Shape.rowMajor_val_five, Shape.rowMajor_val_four]
    show (((1 * b.val + q.val) * 2048 + s.val) * 16 + (2 * c.val + l.val / 64)) * 64 + l.val % 64 = (((b.val * 1 + q.val) * 2048 + s.val) * 8 + c.val) * 128 + l.val
    omega)

/-- A head's element of one of the three parts, and where it lies in the product. -/
theorem part (z : FVec Ideal S8x2048x9216 .f32) (p : Fin 3)
    (hs : S8x2048x3x3x16x64.Slices ![0, 0, 0, p.val, 0, 0] S8x2048x1x1x16x64)
    (b : Fin 8) (q : Fin 1) (s : Fin 2048) (n : Fin 16) (e : Fin 64) :
    shapeCast S8x2048x16x64 (transpose S8x1x2048x16x64 [0, 2, 1, 3, 4]
      (shapeCast S8x2048x1x16x64 (shapeCast S8x2048x16x64 (extractStridedSlice S8x2048x1x1x16x64 ![0, 0, 0, p.val, 0, 0]
        (shapeCast S8x2048x3x3x16x64 z shapeCasts_S8x2048x9216_S8x2048x3x3x16x64) hs) shapeCasts_S8x2048x1x1x16x64_S8x2048x16x64)
        shapeCasts_S8x2048x16x64_S8x2048x1x16x64) transposes_S8x2048x1x16x64_S8x1x2048x16x64_0_2_1_3_4) shapeCasts_S8x1x2048x16x64_S8x2048x16x64
      (ix4 (⟨1 * b.val + q.val, by omega⟩ : Fin 8) s n e)
      = z (ix3 b ⟨1 * s.val + q.val, by omega⟩ ⟨3072 * 0 + 1024 * p.val + 64 * n.val + e.val, by omega⟩) := by
  have hq : q.val = 0 := by omega
  refine (shapeCast_apply _ shapeCasts_S8x1x2048x16x64_S8x2048x16x64 _ (ix5 b q s n e) (by
    rewrite [Shape.rowMajor_val_five, Shape.rowMajor_val_four]
    show (((b.val * 1 + q.val) * 2048 + s.val) * 16 + n.val) * 64 + e.val = (((1 * b.val + q.val) * 2048 + s.val) * 16 + n.val) * 64 + e.val
    omega)).trans ?_
  refine (transpose_apply [0, 2, 1, 3, 4] _ transposes_S8x2048x1x16x64_S8x1x2048x16x64_0_2_1_3_4 _ (ix5 b s q n e) (fun b => match b with
    | ⟨0, _⟩ => rfl
    | ⟨1, _⟩ => rfl
    | ⟨2, _⟩ => rfl
    | ⟨3, _⟩ => rfl
    | ⟨4, _⟩ => rfl)).trans ?_
  refine (shapeCast_apply _ shapeCasts_S8x2048x16x64_S8x2048x1x16x64 _ (ix4 b (⟨1 * s.val + q.val, by omega⟩ : Fin 2048) n e) (by
    rewrite [Shape.rowMajor_val_five, Shape.rowMajor_val_four]
    show ((b.val * 2048 + (1 * s.val + q.val)) * 16 + n.val) * 64 + e.val = (((b.val * 2048 + s.val) * 1 + q.val) * 16 + n.val) * 64 + e.val
    omega)).trans ?_
  refine (shapeCast_apply _ shapeCasts_S8x2048x1x1x16x64_S8x2048x16x64 _ (ix6 b (⟨1 * s.val + q.val, by omega⟩ : Fin 2048) (0 : Fin 1) (0 : Fin 1) n e) (by
    rewrite [Shape.rowMajor_val_six, Shape.rowMajor_val_four]
    show ((((b.val * 2048 + (1 * s.val + q.val)) * 1 + 0) * 1 + 0) * 16 + n.val) * 64 + e.val = ((b.val * 2048 + (1 * s.val + q.val)) * 16 + n.val) * 64 + e.val
    omega)).trans ?_
  refine (extractStridedSlice_apply ![0, 0, 0, p.val, 0, 0] _ hs _ (ix6 b (⟨1 * s.val + q.val, by omega⟩ : Fin 2048) (0 : Fin 3) p n e) (fun a => match a with
    | ⟨0, _⟩ => by show b.val = 0 + b.val; omega
    | ⟨1, _⟩ => by show 1 * s.val + q.val = 0 + (1 * s.val + q.val); omega
    | ⟨2, _⟩ => rfl
    | ⟨3, _⟩ => by show p.val = p.val + 0; omega
    | ⟨4, _⟩ => by show n.val = 0 + n.val; omega
    | ⟨5, _⟩ => by show e.val = 0 + e.val; omega)).trans ?_
  exact shapeCast_apply _ shapeCasts_S8x2048x9216_S8x2048x3x3x16x64 _ _ (by
    rewrite [Shape.rowMajor_val_six, Shape.rowMajor_val_three]
    show (b.val * 2048 + (1 * s.val + q.val)) * 9216 + (3072 * 0 + 1024 * p.val + 64 * n.val + e.val) = ((((b.val * 2048 + (1 * s.val + q.val)) * 3 + 0) * 3 + p.val) * 16 + n.val) * 64 + e.val
    omega)

/-- Where two heads' columns lie in the weights. -/
theorem row_at (b : Fin 8) (t : Fin 2048) (p : Fin 3) (c : Fin 8) (l : Fin 128) (h : 3072 * 0 + 1024 * p.val + 64 * (2 * c.val + l.val / 64) + l.val % 64 < 9216) :
    val_main_v13 (F := Ideal) x0 x1 x2 (ix3 b t ⟨3072 * 0 + 1024 * p.val + 64 * (2 * c.val + l.val / 64) + l.val % 64, h⟩)
      = ∑ d, nrm (fun k => x0 (ix3 b t k)) (fun k => x1 (ix1 k)) d * x2 (ix2 d ⟨3072 * 0 + 128 * (8 * p.val + c.val) + l.val, by omega⟩) := by
  rw [v13_at]
  refine Finset.sum_congr rfl fun d _ => congrArg (fun f => _ * x2 (ix2 d f)) (Fin.ext ?_)
  show 3072 * 0 + 1024 * p.val + 64 * (2 * c.val + l.val / 64) + l.val % 64 = 3072 * 0 + 128 * (8 * p.val + c.val) + l.val
  omega

theorem q_at (b : Fin 8) (q : Fin 1) (s : Fin 2048) (c : Fin 8) (l : Fin 128) :
    val_main_v35 (F := Ideal) x0 x1 x2 (ix5 b c q s l)
      = proj 0 (fun b t d => x0 (ix3 b t d)) (fun d => x1 (ix1 d)) (fun d f => x2 (ix2 d f)) b ⟨1 * s.val + q.val, by omega⟩ ⟨8 * 0 + c.val, by omega⟩ l := by
  unfold val_main_v35 val_main_v34
  rw [lanes]
  unfold proj scl
  rw [if_pos (show 8 * 0 + c.val < 8 by omega), ← qs_eq, ← mul_assoc]
  refine congrArg (fun z => z * Ideal.ofBits .f32 0x3E000000#32 * Ideal.ofBits .f32 0x3FB8AA3B#32) (?_ : val_main_v19 (F := Ideal) x0 x1 x2 _ = _)
  unfold val_main_v19 val_main_v18 val_main_v17 val_main_v16 val_main_v15 val_main_v14
  exact (part _ 0 slices_S8x2048x3x3x16x64_S8x2048x1x1x16x64_0_0_0_0_0_0 b q s _ _).trans (row_at x0 x1 x2 b _ 0 c l _)

theorem k_at (b : Fin 8) (q : Fin 1) (s : Fin 2048) (c : Fin 8) (l : Fin 128) :
    val_main_v37 (F := Ideal) x0 x1 x2 (ix5 b c q s l)
      = proj 0 (fun b t d => x0 (ix3 b t d)) (fun d => x1 (ix1 d)) (fun d f => x2 (ix2 d f)) b ⟨1 * s.val + q.val, by omega⟩ ⟨8 * 1 + c.val, by omega⟩ l := by
  unfold val_main_v37 val_main_v36
  rw [lanes]
  unfold proj scl
  rw [if_neg (show ¬ 8 * 1 + c.val < 8 by omega), mul_one]
  unfold val_main_v26 val_main_v25 val_main_v24 val_main_v23 val_main_v22 val_main_v14
  exact (part _ 1 slices_S8x2048x3x3x16x64_S8x2048x1x1x16x64_0_0_0_1_0_0 b q s _ _).trans (row_at x0 x1 x2 b _ 1 c l _)

theorem v_at (b : Fin 8) (q : Fin 1) (s : Fin 2048) (c : Fin 8) (l : Fin 128) :
    val_main_v39 (F := Ideal) x0 x1 x2 (ix5 b c q s l)
      = proj 0 (fun b t d => x0 (ix3 b t d)) (fun d => x1 (ix1 d)) (fun d f => x2 (ix2 d f)) b ⟨1 * s.val + q.val, by omega⟩ ⟨8 * 2 + c.val, by omega⟩ l := by
  unfold val_main_v39 val_main_v38
  rw [lanes]
  unfold proj scl
  rw [if_neg (show ¬ 8 * 2 + c.val < 8 by omega), mul_one]
  unfold val_main_v31 val_main_v30 val_main_v29 val_main_v28 val_main_v27 val_main_v14
  exact (part _ 2 slices_S8x2048x3x3x16x64_S8x2048x1x1x16x64_0_0_0_2_0_0 b q s _ _).trans (row_at x0 x1 x2 b _ 2 c l _)

/-- The reference is the projection. -/
theorem v41_at (b : Fin 8) (c : Fin 24) (q : Fin 1) (s : Fin 2048) (l : Fin 128) :
    val_main_v41 (F := Ideal) x0 x1 x2 (ix5 b c q s l)
      = proj 0 (fun b t d => x0 (ix3 b t d)) (fun d => x1 (ix1 d)) (fun d f => x2 (ix2 d f)) b ⟨1 * s.val + q.val, by omega⟩ c l := by
  have hq := q_at x0 x1 x2 b q s
  have hk := k_at x0 x1 x2 b q s
  have hv := v_at x0 x1 x2 b q s
  unfold val_main_v41 val_main_v40
  generalize val_main_v35 (F := Ideal) x0 x1 x2 = yq at hq ⊢
  generalize val_main_v37 (F := Ideal) x0 x1 x2 = yk at hk ⊢
  generalize val_main_v39 (F := Ideal) x0 x1 x2 = yv at hv ⊢
  pointwise
  split
  · rename_i h
    refine Eq.trans ?_ ((hq ⟨c.val, h⟩ l).trans (proj_congr _ _ _ _ rfl (by show 1 * s.val + q.val = _; first | rfl | omega | (dsimp only; omega)) (show 8 * 0 + c.val = c.val by omega) rfl))
    exact congrArg (fun q => yq (ix5 b ⟨c.val, h⟩ q s l)) (Subsingleton.elim _ _)
  · split
    · rename_i h h'
      refine Eq.trans ?_ ((hk ⟨c.val - 8, h'⟩ l).trans (proj_congr _ _ _ _ rfl (by show 1 * s.val + q.val = _; first | rfl | omega | (dsimp only; omega)) (show 8 * 1 + (c.val - 8) = c.val by omega) rfl))
      exact congrArg (fun q => yk (ix5 b ⟨c.val - 8, h'⟩ q s l)) (Subsingleton.elim _ _)
    · rename_i h h'
      refine Eq.trans ?_ ((hv ⟨c.val - 8 - 8, by omega⟩ l).trans (proj_congr _ _ _ _ rfl (by show 1 * s.val + q.val = _; first | rfl | omega | (dsimp only; omega)) (show 8 * 2 + (c.val - 8 - 8) = c.val by omega) rfl))
      exact congrArg (fun q => yv (ix5 b ⟨c.val - 8 - 8, by omega⟩ q s l)) (Subsingleton.elim _ _)

end Cert.Reference3Ideal.Layer

end
-- ==== Proof.Pr3Claim.lean ====
/-
  The first projection call's claims: every block it writes back is the projection of `PrSpec.lean` there, the blocks
  cover the result, and the reference is the same projection of the same arguments.
-/
module

public import proofs.«01_k».proof.Defs
public import proofs.«01_k».proof.Proof.Pr3Val
public import proofs.«01_k».proof.Proof.Pr3Host
public import proofs.«01_k».proof.Proof.Pr3Ref
public import Idealize.ShloMosaic.Lib.Quiescent

@[expose] public section

set_option maxRecDepth 16384

noncomputable section

open Idealize.ShloMosaic Idealize.ShloMosaic.TcCoe Idealize.SL.Sem

namespace Cert.Kernel3Ideal.Pr

open Cert.Kernel3Ideal Cert.Kernel3Ideal.Gen Cert.FfnMath Cert.PrMath

variable (m : (ℓ : Loc nD τ sig) → Buf (Elt Ideal) ℓ) (c : Dev nD)

abbrev aH : Fin 8 → Fin 2048 → Fin 1024 → EReal := fun b t d => (m ((c : Thread nD τ).loc main_arg0) : Vec Ideal S8x2048x1024 .f32) (ix3 b t d)
abbrev aG : Fin 1024 → EReal := fun d => (m ((c : Thread nD τ).loc main_arg1) : Vec Ideal S1024 .f32) (ix1 d)
abbrev aW : Fin 1024 → Fin 9216 → EReal := fun d f => (m ((c : Thread nD τ).loc main_arg2) : Vec Ideal S1024x9216 .f32) (ix2 d f)

/-- The projection of the arguments, as the result array. -/
def G : Buf (Elt Ideal) ((c : Thread nD τ).loc main_v13) :=
  fun i : S8x24x1x2048x128.Idx => proj 0 (aH m c) (aG m c) (aW m c) (i 0)
    ⟨1 * (i 3).val + (i 2).val, by have h3 : (i 3).val < 2048 := (i 3).isLt; have h2 : (i 2).val < 1 := (i 2).isLt; omega⟩ (i 1) (i 4)

theorem xn_apply (x0 : Vec Ideal S1x512x1024 .f32) (x1 : Vec Ideal S1x1024 .f32) (r : Fin 512) (d : Fin 1024) :
    xnS x0 x1 (ix2 r d) = nrm (fun k => x0 (ix3 0 r k)) (fun k => x1 (ix2 0 k)) d := by
  unfold xnS
  pointwise [k0_pay4]
  rfl

theorem hi3 (t : Fin cfg0.N) : win0_3.index t 0 = (grid0.coords t 0).val ∧ win0_3.index t 1 = 0 ∧ win0_3.index t 2 = 0 ∧ win0_3.index t 3 = (grid0.coords t 1).val ∧ win0_3.index t 4 = 0 :=
  (by decide +kernel : ∀ t : Fin grid0.N, win0_3.index t 0 = (grid0.coords t 0).val ∧ win0_3.index t 1 = 0 ∧ win0_3.index t 2 = 0 ∧ win0_3.index t 3 = (grid0.coords t 1).val ∧ win0_3.index t 4 = 0) t

theorem xsize3 (t : Fin cfg0.N) : win0_3.xsize (grid0.coords t) 0 = 1 ∧ win0_3.xsize (grid0.coords t) 1 = 24 ∧ win0_3.xsize (grid0.coords t) 2 = 1 ∧ win0_3.xsize (grid0.coords t) 3 = 512 ∧ win0_3.xsize (grid0.coords t) 4 = 128 :=
  (by decide +kernel : ∀ t : Fin grid0.N, win0_3.xsize (grid0.coords t) 0 = 1 ∧ win0_3.xsize (grid0.coords t) 1 = 24 ∧ win0_3.xsize (grid0.coords t) 2 = 1 ∧ win0_3.xsize (grid0.coords t) 3 = 512 ∧ win0_3.xsize (grid0.coords t) 4 = 128) t

/-- A block of the product, of a point's blocks, is the projection there. -/
theorem prod_eq (t : Fin cfg0.N) (y : S1x24x1x512x128.Idx) (b : Fin 8) (row : Fin 2048) (k : Fin 24) (l : Fin 128)
    (hb : b.val = (grid0.coords t 0).val) (hr : row.val = 512 * (grid0.coords t 1).val + (1 * (y 3).val + (y 2).val))
    (hk : k.val = (y 1).val) (hl : l.val = (y 4).val) :
    prod (iblk m c 2 t) (xnS (iblk m c 0 t) (iblk m c 1 t)) y = proj 0 (aH m c) (aG m c) (aW m c) b row k l := by
  have h1 : (y 1).val < 24 := (y 1).isLt
  have h2 : (y 2).val < 1 := (y 2).isLt
  have h4 : (y 4).val < 128 := (y 4).isLt
  rw [proj_eq]
  unfold prod
  refine Finset.sum_congr rfl fun d _ => ?_
  refine congrArg₂ (· * ·) ?_ ?_
  · refine (xn_apply _ _ _ d).trans ?_
    refine congrArg₂ (fun v g => nrm v g d) (funext fun e => (blk0 m c t (y 3) e).trans ?_) (funext fun e => blk1 m c t e)
    refine congrArg (m ((c : Thread nD τ).loc main_arg0) : Vec Ideal S8x2048x1024 .f32) ?_
    refine congrArg₂ (fun b r => ix3 b r e) (Fin.ext hb.symm) (Fin.ext ?_)
    rw [hr]
    show 512 * (grid0.coords t 1).val + (y 3).val = _
    omega
  · refine (blk2 m c t d _).trans ?_
    refine congrArg₂ (· * ·) ?_ ?_
    · refine congrArg (fun f => (m ((c : Thread nD τ).loc main_arg2) : Vec Ideal S1024x9216 .f32) (ix2 d f)) (Fin.ext ?_)
      show 3072 * 0 + (128 * (y 1).val + (y 4).val) = 3072 * 0 + 128 * k.val + l.val
      omega
    · refine congrArg scl ?_
      show (128 * (y 1).val + (y 4).val) / 128 = k.val
      omega

/-- What a point writes back is the projection, read through its block. -/
theorem flushed_eq (t : Fin cfg0.N) :
    (dats m 0 c).flushed 3 t = ((cfg0.win 3).blk t).view.read (Elt Ideal) (G m c) := by
  rw [Value.flushed3_A, out_eq]
  have hi := hi3 t
  have hx := xsize3 t
  funext j
  rw [View.read_apply]
  have h0 : (j 0).val < 1 := hx.1 ▸ (j 0).isLt
  have h1 : (j 1).val < 24 := hx.2.1 ▸ (j 1).isLt
  have h2 : (j 2).val < 1 := hx.2.2.1 ▸ (j 2).isLt
  have h3 : (j 3).val < 512 := hx.2.2.2.1 ▸ (j 3).isLt
  have h4 : (j 4).val < 128 := hx.2.2.2.2 ▸ (j 4).isLt
  refine Eq.trans ?_ (prod_eq m c t (ix5 0 ⟨(j 1).val, h1⟩ ⟨(j 2).val, h2⟩ ⟨(j 3).val, h3⟩ ⟨(j 4).val, h4⟩) _ _ _ _ ?_ ?_ ?_ ?_)
  · refine congrArg (prod (iblk m c 2 t) (xnS (iblk m c 0 t) (iblk m c 1 t))) (?_ : _ = (ix5 0 ⟨(j 1).val, h1⟩ ⟨(j 2).val, h2⟩ ⟨(j 3).val, h3⟩ ⟨(j 4).val, h4⟩ : S1x24x1x512x128.Idx))
    funext a
    apply Fin.ext
    match a with
    | ⟨0, _⟩ => show (j 0).val = 0; omega
    | ⟨1, _⟩ => rfl
    | ⟨2, _⟩ => rfl
    | ⟨3, _⟩ => rfl
    | ⟨4, _⟩ => rfl
  · show win0_3.index t 0 * 1 + 1 * (j 0).val = (grid0.coords t 0).val; rw [hi.1]; omega
  · show 1 * (win0_3.index t 3 * 512 + 1 * (j 3).val) + (win0_3.index t 2 * 1 + 1 * (j 2).val) = 512 * (grid0.coords t 1).val + (1 * (j 3).val + (j 2).val)
    rw [hi.2.2.2.1, hi.2.2.1]; omega
  · show win0_3.index t 1 * 24 + 1 * (j 1).val = (j 1).val; rw [hi.2.1]; omega
  · show win0_3.index t 4 * 128 + 1 * (j 4).val = (j 4).val; rw [hi.2.2.2.2]; omega

theorem exists_pt (b : Fin 8) (r : Fin 4) : ∃ t : Fin cfg0.N, (grid0.coords t 0).val = b.val ∧ (grid0.coords t 1).val = r.val :=
  (by decide +kernel : ∀ (b : Fin 8) (r : Fin 4), ∃ t : Fin grid0.N, (grid0.coords t 0).val = b.val ∧ (grid0.coords t 1).val = r.val) b r

theorem cover (i : S8x24x1x2048x128.Idx) :
    ∃ t : Fin cfg0.N, (cfg0.win 3).flush t = true ∧ i ∈ ((cfg0.win 3).blk t).view.set := by
  have h0 : (i 0).val < 8 := (i 0).isLt
  have h1 : (i 1).val < 24 := (i 1).isLt
  have h2 : (i 2).val < 1 := (i 2).isLt
  have h3 : (i 3).val < 2048 := (i 3).isLt
  have h4 : (i 4).val < 128 := (i 4).isLt
  obtain ⟨t, e0, e1⟩ := exists_pt ⟨(i 0).val, h0⟩ ⟨(i 3).val / 512, by omega⟩
  have hi := hi3 t
  have hx := xsize3 t
  refine ⟨t, flush0_3 t, ?_⟩
  show i ∈ ((View.whole main_v13).slice (win0_3.rect t)).set
  rw [View.set_slice_whole, Rect.mem_set_unit]
  dsimp only at e0 e1
  intro a
  match a with
  | ⟨0, _⟩ => show win0_3.index t 0 * 1 ≤ (i 0).val ∧ (i 0).val < win0_3.index t 0 * 1 + win0_3.xsize (grid0.coords t) 0
              rw [hi.1, hx.1]; omega
  | ⟨1, _⟩ => show win0_3.index t 1 * 24 ≤ (i 1).val ∧ (i 1).val < win0_3.index t 1 * 24 + win0_3.xsize (grid0.coords t) 1
              rw [hi.2.1, hx.2.1]; omega
  | ⟨2, _⟩ => show win0_3.index t 2 * 1 ≤ (i 2).val ∧ (i 2).val < win0_3.index t 2 * 1 + win0_3.xsize (grid0.coords t) 2
              rw [hi.2.2.1, hx.2.2.1]; omega
  | ⟨3, _⟩ => show win0_3.index t 3 * 512 ≤ (i 3).val ∧ (i 3).val < win0_3.index t 3 * 512 + win0_3.xsize (grid0.coords t) 3
              rw [hi.2.2.2.1, hx.2.2.2.1]; omega
  | ⟨4, _⟩ => show win0_3.index t 4 * 128 ≤ (i 4).val ∧ (i 4).val < win0_3.index t 4 * 128 + win0_3.xsize (grid0.coords t) 4
              rw [hi.2.2.2.2, hx.2.2.2.2]; omega

/-- The result array ends holding the projection. -/
theorem final : (dats m 0 c).arrAt 3 cfg0.N = G m c :=
  (dats m 0 c).arrAt_eq_of_cover 3 (G m c) (fun t _ => flushed_eq m c t) cover

end Cert.Kernel3Ideal.Pr

namespace Cert.Pr3Claim

open Cert.PrMath

instance : Cert.Kernel3Ideal.Facts := Cert.Kernel3Ideal.Gen.facts
instance : Cert.Reference3Ideal.Facts := Cert.Reference3Ideal.Gen.facts

/-- The reference runs; its arguments end unchanged, and it declares no semaphore. -/
theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The projection of equal arguments. -/
theorem reference_eq (m : (ℓ : Loc Cert.Kernel3Ideal.nD Cert.Kernel3Ideal.τ Cert.Kernel3Ideal.sig) → Buf (Elt Ideal) ℓ) (c : Dev Cert.Kernel3Ideal.nD)
    (x0 : Vec Ideal Cert.Reference3Ideal.S8x2048x1024 .f32) (x1 : Vec Ideal Cert.Reference3Ideal.S1024 .f32)
    (x2 : Vec Ideal Cert.Reference3Ideal.S1024x9216 .f32)
    (h0 : x0 = m ((c.tc : Thread Cert.Kernel3Ideal.nD Cert.Kernel3Ideal.τ).loc Cert.Kernel3Ideal.main_arg0))
    (h1 : x1 = m ((c.tc : Thread Cert.Kernel3Ideal.nD Cert.Kernel3Ideal.τ).loc Cert.Kernel3Ideal.main_arg1))
    (h2 : x2 = m ((c.tc : Thread Cert.Kernel3Ideal.nD Cert.Kernel3Ideal.τ).loc Cert.Kernel3Ideal.main_arg2)) :
    Cert.Reference3Ideal.Read.val_main_v41 (F := Ideal) x0 x1 x2 = Cert.Kernel3Ideal.Pr.G m c := by
  subst h0 h1 h2
  funext i
  have hi : i = ix5 (i 0) (i 1) (i 2) (i 3) (i 4) := by
    funext a
    match a with
    | ⟨0, _⟩ => rfl
    | ⟨1, _⟩ => rfl
    | ⟨2, _⟩ => rfl
    | ⟨3, _⟩ => rfl
    | ⟨4, _⟩ => rfl
  rw [hi]
  exact Cert.Reference3Ideal.Layer.v41_at _ _ _ (i 0) (i 1) (i 2) (i 3) (i 4)

theorem algebraic : Cert.algebraic_Kernel3Ideal_Reference3Ideal := by
  intro m g m' g' _ hagree
  refine ⟨fun c => Cert.Kernel3Ideal.Pr.G m c, ?_, ?_⟩
  · exact (θ_run Cert.Kernel3Ideal.defs _ _).mono
      (fun _ h c => ⟨(h c).1.trans (Cert.Kernel3Ideal.Pr.final m c), (h c).2⟩)
      (Cert.Kernel3Ideal.Value.run_blocks (F := Ideal) m g)
  · refine (θ_run Cert.Reference3Ideal.defs _ _).mono (fun _ h c => ⟨(h c).1.trans ?_, (h c).2⟩)
      (Cert.Reference3Ideal.Value.run (F := Ideal) m' g')
    rw [Cert.Reference3Ideal.Read.val_main_v41_eq]
    obtain ⟨a0, a1, a2⟩ := hagree c
    exact reference_eq m c _ _ _ a0 a1 a2

end Cert.Pr3Claim

end
-- ==== Proof.Pr4Val.lean ====
/-
  The second projection call of the dilated attention: what one grid point writes, its rows taken by residue class.
-/
module

public import proofs.«01_k».proof.Proof.Gen.Kernel4Ideal.Value
public import proofs.«01_k».proof.Proof.FfnStages
public import Idealize.ShloMosaic.Lib.Pointwise

@[expose] public section

set_option maxRecDepth 16384

noncomputable section

open Idealize.ShloMosaic Idealize.ShloMosaic.TcCoe Idealize.SL.Sem

namespace Cert.Kernel4Ideal.Pr

open Cert.Kernel4Ideal Cert.Kernel4Ideal.Gen Cert.FfnMath

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1024x3072 .bf16) (harg5 : arg5.IsWhole) (arg6 : Memref sig .tc .vmem S1x24x4x128x128 .bf16) (harg6 : arg6.IsWhole) (arg7 : Memref sig .tc .vmem S512x1024 .bf16) (harg7 : arg7.IsWhole) (arg8 : Memref sig .tc .vmem S24x512x128 .f32) (harg8 : arg8.IsWhole) (arg9 : Memref sig .tc .vmem S512x128 .f32) (harg9 : arg9.IsWhole) (hc0 : cond0_0 i)
    (x0 : Vec Ideal S1x512x1024 .f32) (x1 : Vec Ideal S1x1024 .f32) (x2 : Vec Ideal S1024x3072 .bf16)

/-- One block of the product: row 4 s + q of the block times the weights' columns, 128 of them at a time. -/
def prod (xn : Vec Ideal S512x1024 .bf16) (y : S1x24x4x128x128.Idx) : EReal :=
  ∑ d : Fin 1024, xn (ix2 ⟨4 * (y 3).val + (y 2).val, by have h3 : (y 3).val < 128 := (y 3).isLt; have h2 : (y 2).val < 4 := (y 2).isLt; omega⟩ d)
    * x2 (ix2 d ⟨128 * (y 1).val + (y 4).val, by have h1 : (y 1).val < 24 := (y 1).isLt; have h4 : (y 4).val < 128 := (y 4).isLt; omega⟩)

/-- 128 columns of the product of the rows with 512 columns of the weights, as they are put into the scratch buffer. -/
def tile (xn : Vec Ideal S512x1024 .bf16) (w : Vec Ideal S1024x512 .bf16) (o : ℕ) (hs : S512x512.Slices ![0, o] S512x128) :
    FVec Ideal S1x512x128 .f32 :=
  shapeCast S1x512x128 (extractStridedSlice S512x128 ![0, o] (k0_pay3 xn w) hs) shapeCasts_S512x128_S1x512x128

/-- A stored tile, from the rows read back. -/
def stored (v : Vec Ideal S1x128x128 .f32) : FVec Ideal S1x1x1x128x128 .bf16 :=
  shapeCast S1x1x1x128x128 (truncf .bf16 (shapeCast S128x128 v shapeCasts_S1x128x128_S128x128 : FVec Ideal S128x128 .f32) bitsLt_bf16_f32) shapeCasts_S128x128_S1x1x1x128x128

theorem stored_apply (v : Vec Ideal S1x128x128 .f32) (r k : Fin 128) : stored v (ix5 0 0 0 r k) = v (ix3 0 r k) := by
  unfold stored
  rw [shapeCast_apply _ shapeCasts_S128x128_S1x1x1x128x128 _ (ix2 r k) (by rewrite [Shape.rowMajor_val_five, Shape.rowMajor_val_two]; show r.val * 128 + k.val = (((0 * 1 + 0) * 1 + 0) * 128 + r.val) * 128 + k.val; omega)]
  exact shapeCast_apply v shapeCasts_S1x128x128_S128x128 _ (ix3 0 r k) (by rewrite [Shape.rowMajor_val_three, Shape.rowMajor_val_two]; show (0 * 128 + r.val) * 128 + k.val = r.val * 128 + k.val; omega)

theorem pay3_apply (xn : Vec Ideal S512x1024 .bf16) (w : Vec Ideal S1024x512 .bf16) (r k : Fin 512) :
    k0_pay3 xn w (ix2 r k) = ∑ d : Fin 1024, xn (ix2 r d) * w (ix2 d k) := by
  pointwise [k0_pay3]

theorem tile_apply (xn : Vec Ideal S512x1024 .bf16) (w : Vec Ideal S1024x512 .bf16) (o : ℕ) (ho : o + 128 ≤ 512)
    (hs : S512x512.Slices ![0, o] S512x128) (r : Fin 512) (k : Fin 128) :
    tile xn w o hs (ix3 0 r k) = ∑ d : Fin 1024, xn (ix2 r d) * w (ix2 d ⟨o + k.val, by omega⟩) := by
  rw [← pay3_apply]
  unfold tile
  generalize k0_pay3 xn w = z
  rw [shapeCast_apply _ shapeCasts_S512x128_S1x512x128 _ (ix2 r k) (by rewrite [Shape.rowMajor_val_three, Shape.rowMajor_val_two]; show r.val * 128 + k.val = (0 * 512 + r.val) * 128 + k.val; omega)]
  exact extractStridedSlice_apply ![0, o] z hs (ix2 r k) _ (fun a => match a with
    | ⟨0, _⟩ => by show r.val = 0 + r.val; omega
    | ⟨1, _⟩ => rfl)

/-- Every fourth row of the block put last into the scratch buffer. -/
theorem back (v : View sig .tc .vmem S24x512x128 .f32) (P : FVec Ideal S1x512x128 .f32) (L : List (View.Piece (Elt Ideal) S24x512x128 .f32)) (k q : ℕ) (hq : q < 4)
    (h1 : ∀ a, (![k, 0, 0] : Fin 3 → Nat) a + S1x512x128.size a ≤ S24x512x128.size a)
    (h2 : ∀ a, S1x128x128.size a = 0 ∨ (![k, q, 0] : Fin 3 → Nat) a + (![1, 4, 1] : Fin 3 → Nat) a * (S1x128x128.size a - 1) < S24x512x128.size a)
    (r l : Fin 128) :
    (v.readCov (⟨Rect.unit (s := S24x512x128) ![k, 0, 0] S1x512x128.size h1, P⟩ :: L) ⟨![k, q, 0], S1x128x128.size, ![1, 4, 1], h2⟩ : Vec Ideal S1x128x128 .f32) (ix3 0 r l)
      = P (ix3 0 ⟨4 * r.val + q, by omega⟩ l) := by
  rw [View.readCov_eq_canon']
  refine Eq.trans (congrArg _ ?_) (View.canon_cons_emb (Rect.unit (s := S24x512x128) ![k, 0, 0] S1x512x128.size h1) P L (ix3 0 ⟨4 * r.val + q, by omega⟩ l))
  funext a
  apply Fin.ext
  match a with
  | ⟨0, _⟩ => rfl
  | ⟨1, _⟩ => show q + 4 * r.val = 0 + 1 * (4 * r.val + q); omega
  | ⟨2, _⟩ => rfl

theorem piece (v : View sig .tc .vmem S24x512x128 .f32) (L : List (View.Piece (Elt Ideal) S24x512x128 .f32))
    (xn : Vec Ideal S512x1024 .bf16) (k p o q : ℕ) (hk : 128 * k = p + o) (hq : q < 4)
    (h1 : ∀ a, (![0, k, q, 0, 0] : Fin 5 → Nat) a + S1x1x1x128x128.size a ≤ S1x24x4x128x128.size a)
    (h2 : ∀ a, (![0, p] : Fin 2 → Nat) a + S1024x512.size a ≤ S1024x3072.size a)
    (hs : S512x512.Slices ![0, o] S512x128)
    (h3 : ∀ a, (![k, 0, 0] : Fin 3 → Nat) a + S1x512x128.size a ≤ S24x512x128.size a)
    (h4 : ∀ a, S1x128x128.size a = 0 ∨ (![k, q, 0] : Fin 3 → Nat) a + (![1, 4, 1] : Fin 3 → Nat) a * (S1x128x128.size a - 1) < S24x512x128.size a)
    (w : Vec Ideal S1024x512 .bf16) (hw : w = View.ld x2 (Rect.unit ![0, p] S1024x512.size h2)) (x : S1x1x1x128x128.Idx) :
    stored (v.readCov (⟨Rect.unit (s := S24x512x128) ![k, 0, 0] S1x512x128.size h3, tile xn w o hs⟩ :: L) ⟨![k, q, 0], S1x128x128.size, ![1, 4, 1], h4⟩) x
      = prod x2 xn ((Rect.unit (s := S1x24x4x128x128) ![0, k, q, 0, 0] S1x1x1x128x128.size h1).emb x) := by
  have ho : o + 128 ≤ 512 := by
    have := hs.2 1
    exact this
  have hx : x = ix5 0 0 0 (x 3) (x 4) := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => rfl
  rw [hx, hw]
  refine (stored_apply _ (x 3) (x 4)).trans ((back v _ L k q hq h3 h4 (x 3) (x 4)).trans ((tile_apply xn _ o ho hs _ (x 4)).trans ?_))
  unfold prod
  refine Finset.sum_congr rfl fun d _ => ?_
  congr 2
  · apply congrArg (fun r : Fin 512 => ix2 r d)
    apply Fin.ext
    show 4 * (x 3).val + q = 4 * (0 + 1 * (x 3).val) + (q + 1 * 0)
    omega
  · refine congrArg x2 (funext fun a => Fin.ext ?_)
    match a with
    | ⟨0, _⟩ => show 0 + 1 * d.val = d.val; omega
    | ⟨1, _⟩ => show p + 1 * (o + (x 4).val) = 128 * (k + 1 * 0) + (0 + 1 * (x 4).val); omega

/-- The normalised rows held in the scratch buffer. -/
def xnS : Vec Ideal S512x1024 .bf16 := k0_pay2 x0 x1

theorem v3_eq : kernelRun0_A.sl.v3 (F := Ideal) c arg3 harg3 arg4 harg4 arg7 x0 x1 = xnS x0 x1 := by
  unfold kernelRun0_A.sl.v3 kernelRun0_A.sl.HS0_1
  simp only [View.readCov_eq_canon', View.readAt_eq_ld, harg3.read_unread, harg4.read_unread,
    View.ld_unit_zero (S := S1x512x1024) hz3, View.ld_unit_zero (S := S1x1024) hz2, View.ld_unit_zero (S := S512x1024) hz2,
    View.canon_unit_zero (S := S512x1024) hz2]
  refine funext fun j => congrArg (k0_pay2 x0 x1) (funext fun a => Fin.ext ?_)
  match a with
  | ⟨0, _⟩ => show 0 + 1 * (j 0).val = (j 0).val; omega
  | ⟨1, _⟩ => show 0 + 1 * (j 1).val = (j 1).val; omega

/-- 512 columns of the weights, as they are read from their block. -/
theorem w_eq (p : ℕ) (h2 : ∀ a, (![0, p] : Fin 2 → Nat) a + S1024x512.size a ≤ S1024x3072.size a) :
    arg5.view.readAt (Elt Ideal) (Rect.unit (s := S1024x3072) ![0, p] S1024x512.size h2).toLoadRect (harg5.unread x2)
      = View.ld x2 (Rect.unit ![0, p] S1024x512.size h2) := by
  simp only [View.readAt_eq_ld, harg5.read_unread]

set_option maxHeartbeats 4000000 in
theorem out_eq :
    out0_A_3 c i arg3 harg3 arg4 harg4 arg5 harg5 arg6 harg6 arg7 harg7 arg8 harg8 arg9 harg9 hc0 x0 x1 x2 = prod x2 (xnS x0 x1) := by
  funext y
  unfold out0_A_3
  rw [View.read_writes_eq_canon _ _ _ (cover0_A_3 c i arg3 harg3 arg4 harg4 arg5 harg5 arg6 harg6 arg7 harg7 arg8 harg8 arg9 harg9 hc0 x0 x1 x2)]
  refine View.canon_apply_of_pieces (prod x2 (xnS x0 x1)) _ ?_ y (cover0_A_3 c i arg3 harg3 arg4 harg4 arg5 harg5 arg6 harg6 arg7 harg7 arg8 harg8 arg9 harg9 hc0 x0 x1 x2 y)
  rw [← v3_eq c arg3 harg3 arg4 harg4 arg7]
  unfold kernelRun0_A
  dsimp only
  refine List.forall_mem_cons.2 ⟨fun x => ?_, ?_⟩
  · exact piece x2 arg8.view (kernelRun0_A.sl.HS1_23 c arg3 harg3 arg4 harg4 arg5 harg5 arg7 x0 x1 x2) (kernelRun0_A.sl.v3 c arg3 harg3 arg4 harg4 arg7 x0 x1) 23 2560 384 3 rfl (by decide) inb_S1x24x4x128x128_S1x1x1x128x128_0_23_3_0_0 inb_S1024x3072_S1024x512_0_2560 slices_S512x512_o0_384_S512x128 inb_S24x512x128_S1x512x128_23_0_0 inb_S24x512x128_S1x128x128_23_3_0_s_1_4_1 _ (w_eq arg5 harg5 x2 2560 _) x
  refine List.forall_mem_cons.2 ⟨fun x => ?_, ?_⟩
  · exact piece x2 arg8.view (kernelRun0_A.sl.HS1_23 c arg3 harg3 arg4 harg4 arg5 harg5 arg7 x0 x1 x2) (kernelRun0_A.sl.v3 c arg3 harg3 arg4 harg4 arg7 x0 x1) 23 2560 384 2 rfl (by decide) inb_S1x24x4x128x128_S1x1x1x128x128_0_23_2_0_0 inb_S1024x3072_S1024x512_0_2560 slices_S512x512_o0_384_S512x128 inb_S24x512x128_S1x512x128_23_0_0 inb_S24x512x128_S1x128x128_23_2_0_s_1_4_1 _ (w_eq arg5 harg5 x2 2560 _) x
  refine List.forall_mem_cons.2 ⟨fun x => ?_, ?_⟩
  · exact piece x2 arg8.view (kernelRun0_A.sl.HS1_23 c arg3 harg3 arg4 harg4 arg5 harg5 arg7 x0 x1 x2) (kernelRun0_A.sl.v3 c arg3 harg3 arg4 harg4 arg7 x0 x1) 23 2560 384 1 rfl (by decide) inb_S1x24x4x128x128_S1x1x1x128x128_0_23_1_0_0 inb_S1024x3072_S1024x512_0_2560 slices_S512x512_o0_384_S512x128 inb_S24x512x128_S1x512x128_23_0_0 inb_S24x512x128_S1x128x128_23_1_0_s_1_4_1 _ (w_eq arg5 harg5 x2 2560 _) x
  refine List.forall_mem_cons.2 ⟨fun x => ?_, ?_⟩
  · exact piece x2 arg8.view (kernelRun0_A.sl.HS1_23 c arg3 harg3 arg4 harg4 arg5 harg5 arg7 x0 x1 x2) (kernelRun0_A.sl.v3 c arg3 harg3 arg4 harg4 arg7 x0 x1) 23 2560 384 0 rfl (by decide) inb_S1x24x4x128x128_S1x1x1x128x128_0_23_0_0_0 inb_S1024x3072_S1024x512_0_2560 slices_S512x512_o0_384_S512x128 inb_S24x512x128_S1x512x128_23_0_0 inb_S24x512x128_S1x128x128_23_0_0_s_1_4_1 _ (w_eq arg5 harg5 x2 2560 _) x
  refine List.forall_mem_cons.2 ⟨fun x => ?_, ?_⟩
  · exact piece x2 arg8.view (kernelRun0_A.sl.HS1_22 c arg3 harg3 arg4 harg4 arg5 harg5 arg7 x0 x1 x2) (kernelRun0_A.sl.v3 c arg3 harg3 arg4 harg4 arg7 x0 x1) 22 2560 256 3 rfl (by decide) inb_S1x24x4x128x128_S1x1x1x128x128_0_22_3_0_0 inb_S1024x3072_S1024x512_0_2560 slices_S512x512_o0_256_S512x128 inb_S24x512x128_S1x512x128_22_0_0 inb_S24x512x128_S1x128x128_22_3_0_s_1_4_1 _ (w_eq arg5 harg5 x2 2560 _) x
  refine List.forall_mem_cons.2 ⟨fun x => ?_, ?_⟩
  · exact piece x2 arg8.view (kernelRun0_A.sl.HS1_22 c arg3 harg3 arg4 harg4 arg5 harg5 arg7 x0 x1 x2) (kernelRun0_A.sl.v3 c arg3 harg3 arg4 harg4 arg7 x0 x1) 22 2560 256 2 rfl (by decide) inb_S1x24x4x128x128_S1x1x1x128x128_0_22_2_0_0 inb_S1024x3072_S1024x512_0_2560 slices_S512x512_o0_256_S512x128 inb_S24x512x128_S1x512x128_22_0_0 inb_S24x512x128_S1x128x128_22_2_0_s_1_4_1 _ (w_eq arg5 harg5 x2 2560 _) x
  refine List.forall_mem_cons.2 ⟨fun x => ?_, ?_⟩
  · exact piece x2 arg8.view (kernelRun0_A.sl.HS1_22 c arg3 harg3 arg4 harg4 arg5 harg5 arg7 x0 x1 x2) (kernelRun0_A.sl.v3 c arg3 harg3 arg4 harg4 arg7 x0 x1) 22 2560 256 1 rfl (by decide) inb_S1x24x4x128x128_S1x1x1x128x128_0_22_1_0_0 inb_S1024x3072_S1024x512_0_2560 slices_S512x512_o0_256_S512x128 inb_S24x512x128_S1x512x128_22_0_0 inb_S24x512x128_S1x128x128_22_1_0_s_1_4_1 _ (w_eq arg5 harg5 x2 2560 _) x
  refine List.forall_mem_cons.2 ⟨fun x => ?_, ?_⟩
  · exact piece x2 arg8.view (kernelRun0_A.sl.HS1_22 c arg3 harg3 arg4 harg4 arg5 harg5 arg7 x0 x1 x2) (kernelRun0_A.sl.v3 c arg3 harg3 arg4 harg4 arg7 x0 x1) 22 2560 256 0 rfl (by decide) inb_S1x24x4x128x128_S1x1x1x128x128_0_22_0_0_0 inb_S1024x3072_S1024x512_0_2560 slices_S512x512_o0_256_S512x128 inb_S24x512x128_S1x512x128_22_0_0 inb_S24x512x128_S1x128x128_22_0_0_s_1_4_1 _ (w_eq arg5 harg5 x2 2560 _) x
  refine List.forall_mem_cons.2 ⟨fun x => ?_, ?_⟩
  · exact piece x2 arg8.view (kernelRun0_A.sl.HS1_21 c arg3 harg3 arg4 harg4 arg5 harg5 arg7 x0 x1 x2) (kernelRun0_A.sl.v3 c arg3 harg3 arg4 harg4 arg7 x0 x1) 21 2560 128 3 rfl (by decide) inb_S1x24x4x128x128_S1x1x1x128x128_0_21_3_0_0 inb_S1024x3072_S1024x512_0_2560 slices_S512x512_o0_128_S512x128 inb_S24x512x128_S1x512x128_21_0_0 inb_S24x512x128_S1x128x128_21_3_0_s_1_4_1 _ (w_eq arg5 harg5 x2 2560 _) x
  refine List.forall_mem_cons.2 ⟨fun x => ?_, ?_⟩
  · exact piece x2 arg8.view (kernelRun0_A.sl.HS1_21 c arg3 harg3 arg4 harg4 arg5 harg5 arg7 x0 x1 x2) (kernelRun0_A.sl.v3 c arg3 harg3 arg4 harg4 arg7 x0 x1) 21 2560 128 2 rfl (by decide) inb_S1x24x4x128x128_S1x1x1x128x128_0_21_2_0_0 inb_S1024x3072_S1024x512_0_2560 slices_S512x512_o0_128_S512x128 inb_S24x512x128_S1x512x128_21_0_0 inb_S24x512x128_S1x128x128_21_2_0_s_1_4_1 _ (w_eq arg5 harg5 x2 2560 _) x
  refine List.forall_mem_cons.2 ⟨fun x => ?_, ?_⟩
  · exact piece x2 arg8.view (kernelRun0_A.sl.HS1_21 c arg3 harg3 arg4 harg4 arg5 harg5 arg7 x0 x1 x2) (kernelRun0_A.sl.v3 c arg3 harg3 arg4 harg4 arg7 x0 x1) 21 2560 128 1 rfl (by decide) inb_S1x24x4x128x128_S1x1x1x128x128_0_21_1_0_0 inb_S1024x3072_S1024x512_0_2560 slices_S512x512_o0_128_S512x128 inb_S24x512x128_S1x512x128_21_0_0 inb_S24x512x128_S1x128x128_21_1_0_s_1_4_1 _ (w_eq arg5 harg5 x2 2560 _) x
  refine List.forall_mem_cons.2 ⟨fun x => ?_, ?_⟩
  · exact piece x2 arg8.view (kernelRun0_A.sl.HS1_21 c arg3 harg3 arg4 harg4 arg5 harg5 arg7 x0 x1 x2) (kernelRun0_A.sl.v3 c arg3 harg3 arg4 harg4 arg7 x0 x1) 21 2560 128 0 rfl (by decide) inb_S1x24x4x128x128_S1x1x1x128x128_0_21_0_0_0 inb_S1024x3072_S1024x512_0_2560 slices_S512x512_o0_128_S512x128 inb_S24x512x128_S1x512x128_21_0_0 inb_S24x512x128_S1x128x128_21_0_0_s_1_4_1 _ (w_eq arg5 harg5 x2 2560 _) x
  refine List.forall_mem_cons.2 ⟨fun x => ?_, ?_⟩
  · exact piece x2 arg8.view (kernelRun0_A.sl.HS1_20 c arg3 harg3 arg4 harg4 arg5 harg5 arg7 x0 x1 x2) (kernelRun0_A.sl.v3 c arg3 harg3 arg4 harg4 arg7 x0 x1) 20 2560 0 3 rfl (by decide) inb_S1x24x4x128x128_S1x1x1x128x128_0_20_3_0_0 inb_S1024x3072_S1024x512_0_2560 slices_S512x512_o0_0_S512x128 inb_S24x512x128_S1x512x128_20_0_0 inb_S24x512x128_S1x128x128_20_3_0_s_1_4_1 _ (w_eq arg5 harg5 x2 2560 _) x
  refine List.forall_mem_cons.2 ⟨fun x => ?_, ?_⟩
  · exact piece x2 arg8.view (kernelRun0_A.sl.HS1_20 c arg3 harg3 arg4 harg4 arg5 harg5 arg7 x0 x1 x2) (kernelRun0_A.sl.v3 c arg3 harg3 arg4 harg4 arg7 x0 x1) 20 2560 0 2 rfl (by decide) inb_S1x24x4x128x128_S1x1x1x128x128_0_20_2_0_0 inb_S1024x3072_S1024x512_0_2560 slices_S512x512_o0_0_S512x128 inb_S24x512x128_S1x512x128_20_0_0 inb_S24x512x128_S1x128x128_20_2_0_s_1_4_1 _ (w_eq arg5 harg5 x2 2560 _) x
  refine List.forall_mem_cons.2 ⟨fun x => ?_, ?_⟩
  · exact piece x2 arg8.view (kernelRun0_A.sl.HS1_20 c arg3 harg3 arg4 harg4 arg5 harg5 arg7 x0 x1 x2) (kernelRun0_A.sl.v3 c arg3 harg3 arg4 harg4 arg7 x0 x1) 20 2560 0 1 rfl (by decide) inb_S1x24x4x128x128_S1x1x1x128x128_0_20_1_0_0 inb_S1024x3072_S1024x512_0_2560 slices_S512x512_o0_0_S512x128 inb_S24x512x128_S1x512x128_20_0_0 inb_S24x512x128_S1x128x128_20_1_0_s_1_4_1 _ (w_eq arg5 harg5 x2 2560 _) x
  refine List.forall_mem_cons.2 ⟨fun x => ?_, ?_⟩
  · exact piece x2 arg8.view (kernelRun0_A.sl.HS1_20 c arg3 harg3 arg4 harg4 arg5 harg5 arg7 x0 x1 x2) (kernelRun0_A.sl.v3 c arg3 harg3 arg4 harg4 arg7 x0 x1) 20 2560 0 0 rfl (by decide) inb_S1x24x4x128x128_S1x1x1x128x128_0_20_0_0_0 inb_S1024x3072_S1024x512_0_2560 slices_S512x512_o0_0_S512x128 inb_S24x512x128_S1x512x128_20_0_0 inb_S24x512x128_S1x128x128_20_0_0_s_1_4_1 _ (w_eq arg5 harg5 x2 2560 _) x
  refine List.forall_mem_cons.2 ⟨fun x => ?_, ?_⟩
  · exact piece x2 arg8.view (kernelRun0_A.sl.HS1_19 c arg3 harg3 arg4 harg4 arg5 harg5 arg7 x0 x1 x2) (kernelRun0_A.sl.v3 c arg3 harg3 arg4 harg4 arg7 x0 x1) 19 2048 384 3 rfl (by decide) inb_S1x24x4x128x128_S1x1x1x128x128_0_19_3_0_0 inb_S1024x3072_S1024x512_0_2048 slices_S512x512_o0_384_S512x128 inb_S24x512x128_S1x512x128_19_0_0 inb_S24x512x128_S1x128x128_19_3_0_s_1_4_1 _ (w_eq arg5 harg5 x2 2048 _) x
  refine List.forall_mem_cons.2 ⟨fun x => ?_, ?_⟩
  · exact piece x2 arg8.view (kernelRun0_A.sl.HS1_19 c arg3 harg3 arg4 harg4 arg5 harg5 arg7 x0 x1 x2) (kernelRun0_A.sl.v3 c arg3 harg3 arg4 harg4 arg7 x0 x1) 19 2048 384 2 rfl (by decide) inb_S1x24x4x128x128_S1x1x1x128x128_0_19_2_0_0 inb_S1024x3072_S1024x512_0_2048 slices_S512x512_o0_384_S512x128 inb_S24x512x128_S1x512x128_19_0_0 inb_S24x512x128_S1x128x128_19_2_0_s_1_4_1 _ (w_eq arg5 harg5 x2 2048 _) x
  refine List.forall_mem_cons.2 ⟨fun x => ?_, ?_⟩
  · exact piece x2 arg8.view (kernelRun0_A.sl.HS1_19 c arg3 harg3 arg4 harg4 arg5 harg5 arg7 x0 x1 x2) (kernelRun0_A.sl.v3 c arg3 harg3 arg4 harg4 arg7 x0 x1) 19 2048 384 1 rfl (by decide) inb_S1x24x4x128x128_S1x1x1x128x128_0_19_1_0_0 inb_S1024x3072_S1024x512_0_2048 slices_S512x512_o0_384_S512x128 inb_S24x512x128_S1x512x128_19_0_0 inb_S24x512x128_S1x128x128_19_1_0_s_1_4_1 _ (w_eq arg5 harg5 x2 2048 _) x
  refine List.forall_mem_cons.2 ⟨fun x => ?_, ?_⟩
  · exact piece x2 arg8.view (kernelRun0_A.sl.HS1_19 c arg3 harg3 arg4 harg4 arg5 harg5 arg7 x0 x1 x2) (kernelRun0_A.sl.v3 c arg3 harg3 arg4 harg4 arg7 x0 x1) 19 2048 384 0 rfl (by decide) inb_S1x24x4x128x128_S1x1x1x128x128_0_19_0_0_0 inb_S1024x3072_S1024x512_0_2048 slices_S512x512_o0_384_S512x128 inb_S24x512x128_S1x512x128_19_0_0 inb_S24x512x128_S1x128x128_19_0_0_s_1_4_1 _ (w_eq arg5 harg5 x2 2048 _) x
  refine List.forall_mem_cons.2 ⟨fun x => ?_, ?_⟩
  · exact piece x2 arg8.view (kernelRun0_A.sl.HS1_18 c arg3 harg3 arg4 harg4 arg5 harg5 arg7 x0 x1 x2) (kernelRun0_A.sl.v3 c arg3 harg3 arg4 harg4 arg7 x0 x1) 18 2048 256 3 rfl (by decide) inb_S1x24x4x128x128_S1x1x1x128x128_0_18_3_0_0 inb_S1024x3072_S1024x512_0_2048 slices_S512x512_o0_256_S512x128 inb_S24x512x128_S1x512x128_18_0_0 inb_S24x512x128_S1x128x128_18_3_0_s_1_4_1 _ (w_eq arg5 harg5 x2 2048 _) x
  refine List.forall_mem_cons.2 ⟨fun x => ?_, ?_⟩
  · exact piece x2 arg8.view (kernelRun0_A.sl.HS1_18 c arg3 harg3 arg4 harg4 arg5 harg5 arg7 x0 x1 x2) (kernelRun0_A.sl.v3 c arg3 harg3 arg4 harg4 arg7 x0 x1) 18 2048 256 2 rfl (by decide) inb_S1x24x4x128x128_S1x1x1x128x128_0_18_2_0_0 inb_S1024x3072_S1024x512_0_2048 slices_S512x512_o0_256_S512x128 inb_S24x512x128_S1x512x128_18_0_0 inb_S24x512x128_S1x128x128_18_2_0_s_1_4_1 _ (w_eq arg5 harg5 x2 2048 _) x
  refine List.forall_mem_cons.2 ⟨fun x => ?_, ?_⟩
  · exact piece x2 arg8.view (kernelRun0_A.sl.HS1_18 c arg3 harg3 arg4 harg4 arg5 harg5 arg7 x0 x1 x2) (kernelRun0_A.sl.v3 c arg3 harg3 arg4 harg4 arg7 x0 x1) 18 2048 256 1 rfl (by decide) inb_S1x24x4x128x128_S1x1x1x128x128_0_18_1_0_0 inb_S1024x3072_S1024x512_0_2048 slices_S512x512_o0_256_S512x128 inb_S24x512x128_S1x512x128_18_0_0 inb_S24x512x128_S1x128x128_18_1_0_s_1_4_1 _ (w_eq arg5 harg5 x2 2048 _) x
  refine List.forall_mem_cons.2 ⟨fun x => ?_, ?_⟩
  · exact piece x2 arg8.view (kernelRun0_A.sl.HS1_18 c arg3 harg3 arg4 harg4 arg5 harg5 arg7 x0 x1 x2) (kernelRun0_A.sl.v3 c arg3 harg3 arg4 harg4 arg7 x0 x1) 18 2048 256 0 rfl (by decide) inb_S1x24x4x128x128_S1x1x1x128x128_0_18_0_0_0 inb_S1024x3072_S1024x512_0_2048 slices_S512x512_o0_256_S512x128 inb_S24x512x128_S1x512x128_18_0_0 inb_S24x512x128_S1x128x128_18_0_0_s_1_4_1 _ (w_eq arg5 harg5 x2 2048 _) x
  refine List.forall_mem_cons.2 ⟨fun x => ?_, ?_⟩
  · exact piece x2 arg8.view (kernelRun0_A.sl.HS1_17 c arg3 harg3 arg4 harg4 arg5 harg5 arg7 x0 x1 x2) (kernelRun0_A.sl.v3 c arg3 harg3 arg4 harg4 arg7 x0 x1) 17 2048 128 3 rfl (by decide) inb_S1x24x4x128x128_S1x1x1x128x128_0_17_3_0_0 inb_S1024x3072_S1024x512_0_2048 slices_S512x512_o0_128_S512x128 inb_S24x512x128_S1x512x128_17_0_0 inb_S24x512x128_S1x128x128_17_3_0_s_1_4_1 _ (w_eq arg5 harg5 x2 2048 _) x
  refine List.forall_mem_cons.2 ⟨fun x => ?_, ?_⟩
  · exact piece x2 arg8.view (kernelRun0_A.sl.HS1_17 c arg3 harg3 arg4 harg4 arg5 harg5 arg7 x0 x1 x2) (kernelRun0_A.sl.v3 c arg3 harg3 arg4 harg4 arg7 x0 x1) 17 2048 128 2 rfl (by decide) inb_S1x24x4x128x128_S1x1x1x128x128_0_17_2_0_0 inb_S1024x3072_S1024x512_0_2048 slices_S512x512_o0_128_S512x128 inb_S24x512x128_S1x512x128_17_0_0 inb_S24x512x128_S1x128x128_17_2_0_s_1_4_1 _ (w_eq arg5 harg5 x2 2048 _) x
  refine List.forall_mem_cons.2 ⟨fun x => ?_, ?_⟩
  · exact piece x2 arg8.view (kernelRun0_A.sl.HS1_17 c arg3 harg3 arg4 harg4 arg5 harg5 arg7 x0 x1 x2) (kernelRun0_A.sl.v3 c arg3 harg3 arg4 harg4 arg7 x0 x1) 17 2048 128 1 rfl (by decide) inb_S1x24x4x128x128_S1x1x1x128x128_0_17_1_0_0 inb_S1024x3072_S1024x512_0_2048 slices_S512x512_o0_128_S512x128 inb_S24x512x128_S1x512x128_17_0_0 inb_S24x512x128_S1x128x128_17_1_0_s_1_4_1 _ (w_eq arg5 harg5 x2 2048 _) x
  refine List.forall_mem_cons.2 ⟨fun x => ?_, ?_⟩
  · exact piece x2 arg8.view (kernelRun0_A.sl.HS1_17 c arg3 harg3 arg4 harg4 arg5 harg5 arg7 x0 x1 x2) (kernelRun0_A.sl.v3 c arg3 harg3 arg4 harg4 arg7 x0 x1) 17 2048 128 0 rfl (by decide) inb_S1x24x4x128x128_S1x1x1x128x128_0_17_0_0_0 inb_S1024x3072_S1024x512_0_2048 slices_S512x512_o0_128_S512x128 inb_S24x512x128_S1x512x128_17_0_0 inb_S24x512x128_S1x128x128_17_0_0_s_1_4_1 _ (w_eq arg5 harg5 x2 2048 _) x
  refine List.forall_mem_cons.2 ⟨fun x => ?_, ?_⟩
  · exact piece x2 arg8.view (kernelRun0_A.sl.HS1_16 c arg3 harg3 arg4 harg4 arg5 harg5 arg7 x0 x1 x2) (kernelRun0_A.sl.v3 c arg3 harg3 arg4 harg4 arg7 x0 x1) 16 2048 0 3 rfl (by decide) inb_S1x24x4x128x128_S1x1x1x128x128_0_16_3_0_0 inb_S1024x3072_S1024x512_0_2048 slices_S512x512_o0_0_S512x128 inb_S24x512x128_S1x512x128_16_0_0 inb_S24x512x128_S1x128x128_16_3_0_s_1_4_1 _ (w_eq arg5 harg5 x2 2048 _) x
  refine List.forall_mem_cons.2 ⟨fun x => ?_, ?_⟩
  · exact piece x2 arg8.view (kernelRun0_A.sl.HS1_16 c arg3 harg3 arg4 harg4 arg5 harg5 arg7 x0 x1 x2) (kernelRun0_A.sl.v3 c arg3 harg3 arg4 harg4 arg7 x0 x1) 16 2048 0 2 rfl (by decide) inb_S1x24x4x128x128_S1x1x1x128x128_0_16_2_0_0 inb_S1024x3072_S1024x512_0_2048 slices_S512x512_o0_0_S512x128 inb_S24x512x128_S1x512x128_16_0_0 inb_S24x512x128_S1x128x128_16_2_0_s_1_4_1 _ (w_eq arg5 harg5 x2 2048 _) x
  refine List.forall_mem_cons.2 ⟨fun x => ?_, ?_⟩
  · exact piece x2 arg8.view (kernelRun0_A.sl.HS1_16 c arg3 harg3 arg4 harg4 arg5 harg5 arg7 x0 x1 x2) (kernelRun0_A.sl.v3 c arg3 harg3 arg4 harg4 arg7 x0 x1) 16 2048 0 1 rfl (by decide) inb_S1x24x4x128x128_S1x1x1x128x128_0_16_1_0_0 inb_S1024x3072_S1024x512_0_2048 slices_S512x512_o0_0_S512x128 inb_S24x512x128_S1x512x128_16_0_0 inb_S24x512x128_S1x128x128_16_1_0_s_1_4_1 _ (w_eq arg5 harg5 x2 2048 _) x
  refine List.forall_mem_cons.2 ⟨fun x => ?_, ?_⟩
  · exact piece x2 arg8.view (kernelRun0_A.sl.HS1_16 c arg3 harg3 arg4 harg4 arg5 harg5 arg7 x0 x1 x2) (kernelRun0_A.sl.v3 c arg3 harg3 arg4 harg4 arg7 x0 x1) 16 2048 0 0 rfl (by decide) inb_S1x24x4x128x128_S1x1x1x128x128_0_16_0_0_0 inb_S1024x3072_S1024x512_0_2048 slices_S512x512_o0_0_S512x128 inb_S24x512x128_S1x512x128_16_0_0 inb_S24x512x128_S1x128x128_16_0_0_s_1_4_1 _ (w_eq arg5 harg5 x2 2048 _) x
  refine List.forall_mem_cons.2 ⟨fun x => ?_, ?_⟩
  · exact piece x2 arg8.view (kernelRun0_A.sl.HS1_15 c arg3 harg3 arg4 harg4 arg5 harg5 arg7 x0 x1 x2) (kernelRun0_A.sl.v3 c arg3 harg3 arg4 harg4 arg7 x0 x1) 15 1536 384 3 rfl (by decide) inb_S1x24x4x128x128_S1x1x1x128x128_0_15_3_0_0 inb_S1024x3072_S1024x512_0_1536 slices_S512x512_o0_384_S512x128 inb_S24x512x128_S1x512x128_15_0_0 inb_S24x512x128_S1x128x128_15_3_0_s_1_4_1 _ (w_eq arg5 harg5 x2 1536 _) x
  refine List.forall_mem_cons.2 ⟨fun x => ?_, ?_⟩
  · exact piece x2 arg8.view (kernelRun0_A.sl.HS1_15 c arg3 harg3 arg4 harg4 arg5 harg5 arg7 x0 x1 x2) (kernelRun0_A.sl.v3 c arg3 harg3 arg4 harg4 arg7 x0 x1) 15 1536 384 2 rfl (by decide) inb_S1x24x4x128x128_S1x1x1x128x128_0_15_2_0_0 inb_S1024x3072_S1024x512_0_1536 slices_S512x512_o0_384_S512x128 inb_S24x512x128_S1x512x128_15_0_0 inb_S24x512x128_S1x128x128_15_2_0_s_1_4_1 _ (w_eq arg5 harg5 x2 1536 _) x
  refine List.forall_mem_cons.2 ⟨fun x => ?_, ?_⟩
  · exact piece x2 arg8.view (kernelRun0_A.sl.HS1_15 c arg3 harg3 arg4 harg4 arg5 harg5 arg7 x0 x1 x2) (kernelRun0_A.sl.v3 c arg3 harg3 arg4 harg4 arg7 x0 x1) 15 1536 384 1 rfl (by decide) inb_S1x24x4x128x128_S1x1x1x128x128_0_15_1_0_0 inb_S1024x3072_S1024x512_0_1536 slices_S512x512_o0_384_S512x128 inb_S24x512x128_S1x512x128_15_0_0 inb_S24x512x128_S1x128x128_15_1_0_s_1_4_1 _ (w_eq arg5 harg5 x2 1536 _) x
  refine List.forall_mem_cons.2 ⟨fun x => ?_, ?_⟩
  · exact piece x2 arg8.view (kernelRun0_A.sl.HS1_15 c arg3 harg3 arg4 harg4 arg5 harg5 arg7 x0 x1 x2) (kernelRun0_A.sl.v3 c arg3 harg3 arg4 harg4 arg7 x0 x1) 15 1536 384 0 rfl (by decide) inb_S1x24x4x128x128_S1x1x1x128x128_0_15_0_0_0 inb_S1024x3072_S1024x512_0_1536 slices_S512x512_o0_384_S512x128 inb_S24x512x128_S1x512x128_15_0_0 inb_S24x512x128_S1x128x128_15_0_0_s_1_4_1 _ (w_eq arg5 harg5 x2 1536 _) x
  refine List.forall_mem_cons.2 ⟨fun x => ?_, ?_⟩
  · exact piece x2 arg8.view (kernelRun0_A.sl.HS1_14 c arg3 harg3 arg4 harg4 arg5 harg5 arg7 x0 x1 x2) (kernelRun0_A.sl.v3 c arg3 harg3 arg4 harg4 arg7 x0 x1) 14 1536 256 3 rfl (by decide) inb_S1x24x4x128x128_S1x1x1x128x128_0_14_3_0_0 inb_S1024x3072_S1024x512_0_1536 slices_S512x512_o0_256_S512x128 inb_S24x512x128_S1x512x128_14_0_0 inb_S24x512x128_S1x128x128_14_3_0_s_1_4_1 _ (w_eq arg5 harg5 x2 1536 _) x
  refine List.forall_mem_cons.2 ⟨fun x => ?_, ?_⟩
  · exact piece x2 arg8.view (kernelRun0_A.sl.HS1_14 c arg3 harg3 arg4 harg4 arg5 harg5 arg7 x0 x1 x2) (kernelRun0_A.sl.v3 c arg3 harg3 arg4 harg4 arg7 x0 x1) 14 1536 256 2 rfl (by decide) inb_S1x24x4x128x128_S1x1x1x128x128_0_14_2_0_0 inb_S1024x3072_S1024x512_0_1536 slices_S512x512_o0_256_S512x128 inb_S24x512x128_S1x512x128_14_0_0 inb_S24x512x128_S1x128x128_14_2_0_s_1_4_1 _ (w_eq arg5 harg5 x2 1536 _) x
  refine List.forall_mem_cons.2 ⟨fun x => ?_, ?_⟩
  · exact piece x2 arg8.view (kernelRun0_A.sl.HS1_14 c arg3 harg3 arg4 harg4 arg5 harg5 arg7 x0 x1 x2) (kernelRun0_A.sl.v3 c arg3 harg3 arg4 harg4 arg7 x0 x1) 14 1536 256 1 rfl (by decide) inb_S1x24x4x128x128_S1x1x1x128x128_0_14_1_0_0 inb_S1024x3072_S1024x512_0_1536 slices_S512x512_o0_256_S512x128 inb_S24x512x128_S1x512x128_14_0_0 inb_S24x512x128_S1x128x128_14_1_0_s_1_4_1 _ (w_eq arg5 harg5 x2 1536 _) x
  refine List.forall_mem_cons.2 ⟨fun x => ?_, ?_⟩
  · exact piece x2 arg8.view (kernelRun0_A.sl.HS1_14 c arg3 harg3 arg4 harg4 arg5 harg5 arg7 x0 x1 x2) (kernelRun0_A.sl.v3 c arg3 harg3 arg4 harg4 arg7 x0 x1) 14 1536 256 0 rfl (by decide) inb_S1x24x4x128x128_S1x1x1x128x128_0_14_0_0_0 inb_S1024x3072_S1024x512_0_1536 slices_S512x512_o0_256_S512x128 inb_S24x512x128_S1x512x128_14_0_0 inb_S24x512x128_S1x128x128_14_0_0_s_1_4_1 _ (w_eq arg5 harg5 x2 1536 _) x
  refine List.forall_mem_cons.2 ⟨fun x => ?_, ?_⟩
  · exact piece x2 arg8.view (kernelRun0_A.sl.HS1_13 c arg3 harg3 arg4 harg4 arg5 harg5 arg7 x0 x1 x2) (kernelRun0_A.sl.v3 c arg3 harg3 arg4 harg4 arg7 x0 x1) 13 1536 128 3 rfl (by decide) inb_S1x24x4x128x128_S1x1x1x128x128_0_13_3_0_0 inb_S1024x3072_S1024x512_0_1536 slices_S512x512_o0_128_S512x128 inb_S24x512x128_S1x512x128_13_0_0 inb_S24x512x128_S1x128x128_13_3_0_s_1_4_1 _ (w_eq arg5 harg5 x2 1536 _) x
  refine List.forall_mem_cons.2 ⟨fun x => ?_, ?_⟩
  · exact piece x2 arg8.view (kernelRun0_A.sl.HS1_13 c arg3 harg3 arg4 harg4 arg5 harg5 arg7 x0 x1 x2) (kernelRun0_A.sl.v3 c arg3 harg3 arg4 harg4 arg7 x0 x1) 13 1536 128 2 rfl (by decide) inb_S1x24x4x128x128_S1x1x1x128x128_0_13_2_0_0 inb_S1024x3072_S1024x512_0_1536 slices_S512x512_o0_128_S512x128 inb_S24x512x128_S1x512x128_13_0_0 inb_S24x512x128_S1x128x128_13_2_0_s_1_4_1 _ (w_eq arg5 harg5 x2 1536 _) x
  refine List.forall_mem_cons.2 ⟨fun x => ?_, ?_⟩
  · exact piece x2 arg8.view (kernelRun0_A.sl.HS1_13 c arg3 harg3 arg4 harg4 arg5 harg5 arg7 x0 x1 x2) (kernelRun0_A.sl.v3 c arg3 harg3 arg4 harg4 arg7 x0 x1) 13 1536 128 1 rfl (by decide) inb_S1x24x4x128x128_S1x1x1x128x128_0_13_1_0_0 inb_S1024x3072_S1024x512_0_1536 slices_S512x512_o0_128_S512x128 inb_S24x512x128_S1x512x128_13_0_0 inb_S24x512x128_S1x128x128_13_1_0_s_1_4_1 _ (w_eq arg5 harg5 x2 1536 _) x
  refine List.forall_mem_cons.2 ⟨fun x => ?_, ?_⟩
  · exact piece x2 arg8.view (kernelRun0_A.sl.HS1_13 c arg3 harg3 arg4 harg4 arg5 harg5 arg7 x0 x1 x2) (kernelRun0_A.sl.v3 c arg3 harg3 arg4 harg4 arg7 x0 x1) 13 1536 128 0 rfl (by decide) inb_S1x24x4x128x128_S1x1x1x128x128_0_13_0_0_0 inb_S1024x3072_S1024x512_0_1536 slices_S512x512_o0_128_S512x128 inb_S24x512x128_S1x512x128_13_0_0 inb_S24x512x128_S1x128x128_13_0_0_s_1_4_1 _ (w_eq arg5 harg5 x2 1536 _) x
  refine List.forall_mem_cons.2 ⟨fun x => ?_, ?_⟩
  · exact piece x2 arg8.view (kernelRun0_A.sl.HS1_12 c arg3 harg3 arg4 harg4 arg5 harg5 arg7 x0 x1 x2) (kernelRun0_A.sl.v3 c arg3 harg3 arg4 harg4 arg7 x0 x1) 12 1536 0 3 rfl (by decide) inb_S1x24x4x128x128_S1x1x1x128x128_0_12_3_0_0 inb_S1024x3072_S1024x512_0_1536 slices_S512x512_o0_0_S512x128 inb_S24x512x128_S1x512x128_12_0_0 inb_S24x512x128_S1x128x128_12_3_0_s_1_4_1 _ (w_eq arg5 harg5 x2 1536 _) x
  refine List.forall_mem_cons.2 ⟨fun x => ?_, ?_⟩
  · exact piece x2 arg8.view (kernelRun0_A.sl.HS1_12 c arg3 harg3 arg4 harg4 arg5 harg5 arg7 x0 x1 x2) (kernelRun0_A.sl.v3 c arg3 harg3 arg4 harg4 arg7 x0 x1) 12 1536 0 2 rfl (by decide) inb_S1x24x4x128x128_S1x1x1x128x128_0_12_2_0_0 inb_S1024x3072_S1024x512_0_1536 slices_S512x512_o0_0_S512x128 inb_S24x512x128_S1x512x128_12_0_0 inb_S24x512x128_S1x128x128_12_2_0_s_1_4_1 _ (w_eq arg5 harg5 x2 1536 _) x
  refine List.forall_mem_cons.2 ⟨fun x => ?_, ?_⟩
  · exact piece x2 arg8.view (kernelRun0_A.sl.HS1_12 c arg3 harg3 arg4 harg4 arg5 harg5 arg7 x0 x1 x2) (kernelRun0_A.sl.v3 c arg3 harg3 arg4 harg4 arg7 x0 x1) 12 1536 0 1 rfl (by decide) inb_S1x24x4x128x128_S1x1x1x128x128_0_12_1_0_0 inb_S1024x3072_S1024x512_0_1536 slices_S512x512_o0_0_S512x128 inb_S24x512x128_S1x512x128_12_0_0 inb_S24x512x128_S1x128x128_12_1_0_s_1_4_1 _ (w_eq arg5 harg5 x2 1536 _) x
  refine List.forall_mem_cons.2 ⟨fun x => ?_, ?_⟩
  · exact piece x2 arg8.view (kernelRun0_A.sl.HS1_12 c arg3 harg3 arg4 harg4 arg5 harg5 arg7 x0 x1 x2) (kernelRun0_A.sl.v3 c arg3 harg3 arg4 harg4 arg7 x0 x1) 12 1536 0 0 rfl (by decide) inb_S1x24x4x128x128_S1x1x1x128x128_0_12_0_0_0 inb_S1024x3072_S1024x512_0_1536 slices_S512x512_o0_0_S512x128 inb_S24x512x128_S1x512x128_12_0_0 inb_S24x512x128_S1x128x128_12_0_0_s_1_4_1 _ (w_eq arg5 harg5 x2 1536 _) x
  refine List.forall_mem_cons.2 ⟨fun x => ?_, ?_⟩
  · exact piece x2 arg8.view (kernelRun0_A.sl.HS1_11 c arg3 harg3 arg4 harg4 arg5 harg5 arg7 x0 x1 x2) (kernelRun0_A.sl.v3 c arg3 harg3 arg4 harg4 arg7 x0 x1) 11 1024 384 3 rfl (by decide) inb_S1x24x4x128x128_S1x1x1x128x128_0_11_3_0_0 inb_S1024x3072_S1024x512_0_1024 slices_S512x512_o0_384_S512x128 inb_S24x512x128_S1x512x128_11_0_0 inb_S24x512x128_S1x128x128_11_3_0_s_1_4_1 _ (w_eq arg5 harg5 x2 1024 _) x
  refine List.forall_mem_cons.2 ⟨fun x => ?_, ?_⟩
  · exact piece x2 arg8.view (kernelRun0_A.sl.HS1_11 c arg3 harg3 arg4 harg4 arg5 harg5 arg7 x0 x1 x2) (kernelRun0_A.sl.v3 c arg3 harg3 arg4 harg4 arg7 x0 x1) 11 1024 384 2 rfl (by decide) inb_S1x24x4x128x128_S1x1x1x128x128_0_11_2_0_0 inb_S1024x3072_S1024x512_0_1024 slices_S512x512_o0_384_S512x128 inb_S24x512x128_S1x512x128_11_0_0 inb_S24x512x128_S1x128x128_11_2_0_s_1_4_1 _ (w_eq arg5 harg5 x2 1024 _) x
  refine List.forall_mem_cons.2 ⟨fun x => ?_, ?_⟩
  · exact piece x2 arg8.view (kernelRun0_A.sl.HS1_11 c arg3 harg3 arg4 harg4 arg5 harg5 arg7 x0 x1 x2) (kernelRun0_A.sl.v3 c arg3 harg3 arg4 harg4 arg7 x0 x1) 11 1024 384 1 rfl (by decide) inb_S1x24x4x128x128_S1x1x1x128x128_0_11_1_0_0 inb_S1024x3072_S1024x512_0_1024 slices_S512x512_o0_384_S512x128 inb_S24x512x128_S1x512x128_11_0_0 inb_S24x512x128_S1x128x128_11_1_0_s_1_4_1 _ (w_eq arg5 harg5 x2 1024 _) x
  refine List.forall_mem_cons.2 ⟨fun x => ?_, ?_⟩
  · exact piece x2 arg8.view (kernelRun0_A.sl.HS1_11 c arg3 harg3 arg4 harg4 arg5 harg5 arg7 x0 x1 x2) (kernelRun0_A.sl.v3 c arg3 harg3 arg4 harg4 arg7 x0 x1) 11 1024 384 0 rfl (by decide) inb_S1x24x4x128x128_S1x1x1x128x128_0_11_0_0_0 inb_S1024x3072_S1024x512_0_1024 slices_S512x512_o0_384_S512x128 inb_S24x512x128_S1x512x128_11_0_0 inb_S24x512x128_S1x128x128_11_0_0_s_1_4_1 _ (w_eq arg5 harg5 x2 1024 _) x
  refine List.forall_mem_cons.2 ⟨fun x => ?_, ?_⟩
  · exact piece x2 arg8.view (kernelRun0_A.sl.HS1_10 c arg3 harg3 arg4 harg4 arg5 harg5 arg7 x0 x1 x2) (kernelRun0_A.sl.v3 c arg3 harg3 arg4 harg4 arg7 x0 x1) 10 1024 256 3 rfl (by decide) inb_S1x24x4x128x128_S1x1x1x128x128_0_10_3_0_0 inb_S1024x3072_S1024x512_0_1024 slices_S512x512_o0_256_S512x128 inb_S24x512x128_S1x512x128_10_0_0 inb_S24x512x128_S1x128x128_10_3_0_s_1_4_1 _ (w_eq arg5 harg5 x2 1024 _) x
  refine List.forall_mem_cons.2 ⟨fun x => ?_, ?_⟩
  · exact piece x2 arg8.view (kernelRun0_A.sl.HS1_10 c arg3 harg3 arg4 harg4 arg5 harg5 arg7 x0 x1 x2) (kernelRun0_A.sl.v3 c arg3 harg3 arg4 harg4 arg7 x0 x1) 10 1024 256 2 rfl (by decide) inb_S1x24x4x128x128_S1x1x1x128x128_0_10_2_0_0 inb_S1024x3072_S1024x512_0_1024 slices_S512x512_o0_256_S512x128 inb_S24x512x128_S1x512x128_10_0_0 inb_S24x512x128_S1x128x128_10_2_0_s_1_4_1 _ (w_eq arg5 harg5 x2 1024 _) x
  refine List.forall_mem_cons.2 ⟨fun x => ?_, ?_⟩
  · exact piece x2 arg8.view (kernelRun0_A.sl.HS1_10 c arg3 harg3 arg4 harg4 arg5 harg5 arg7 x0 x1 x2) (kernelRun0_A.sl.v3 c arg3 harg3 arg4 harg4 arg7 x0 x1) 10 1024 256 1 rfl (by decide) inb_S1x24x4x128x128_S1x1x1x128x128_0_10_1_0_0 inb_S1024x3072_S1024x512_0_1024 slices_S512x512_o0_256_S512x128 inb_S24x512x128_S1x512x128_10_0_0 inb_S24x512x128_S1x128x128_10_1_0_s_1_4_1 _ (w_eq arg5 harg5 x2 1024 _) x
  refine List.forall_mem_cons.2 ⟨fun x => ?_, ?_⟩
  · exact piece x2 arg8.view (kernelRun0_A.sl.HS1_10 c arg3 harg3 arg4 harg4 arg5 harg5 arg7 x0 x1 x2) (kernelRun0_A.sl.v3 c arg3 harg3 arg4 harg4 arg7 x0 x1) 10 1024 256 0 rfl (by decide) inb_S1x24x4x128x128_S1x1x1x128x128_0_10_0_0_0 inb_S1024x3072_S1024x512_0_1024 slices_S512x512_o0_256_S512x128 inb_S24x512x128_S1x512x128_10_0_0 inb_S24x512x128_S1x128x128_10_0_0_s_1_4_1 _ (w_eq arg5 harg5 x2 1024 _) x
  refine List.forall_mem_cons.2 ⟨fun x => ?_, ?_⟩
  · exact piece x2 arg8.view (kernelRun0_A.sl.HS1_9 c arg3 harg3 arg4 harg4 arg5 harg5 arg7 x0 x1 x2) (kernelRun0_A.sl.v3 c arg3 harg3 arg4 harg4 arg7 x0 x1) 9 1024 128 3 rfl (by decide) inb_S1x24x4x128x128_S1x1x1x128x128_0_9_3_0_0 inb_S1024x3072_S1024x512_0_1024 slices_S512x512_o0_128_S512x128 inb_S24x512x128_S1x512x128_9_0_0 inb_S24x512x128_S1x128x128_9_3_0_s_1_4_1 _ (w_eq arg5 harg5 x2 1024 _) x
  refine List.forall_mem_cons.2 ⟨fun x => ?_, ?_⟩
  · exact piece x2 arg8.view (kernelRun0_A.sl.HS1_9 c arg3 harg3 arg4 harg4 arg5 harg5 arg7 x0 x1 x2) (kernelRun0_A.sl.v3 c arg3 harg3 arg4 harg4 arg7 x0 x1) 9 1024 128 2 rfl (by decide) inb_S1x24x4x128x128_S1x1x1x128x128_0_9_2_0_0 inb_S1024x3072_S1024x512_0_1024 slices_S512x512_o0_128_S512x128 inb_S24x512x128_S1x512x128_9_0_0 inb_S24x512x128_S1x128x128_9_2_0_s_1_4_1 _ (w_eq arg5 harg5 x2 1024 _) x
  refine List.forall_mem_cons.2 ⟨fun x => ?_, ?_⟩
  · exact piece x2 arg8.view (kernelRun0_A.sl.HS1_9 c arg3 harg3 arg4 harg4 arg5 harg5 arg7 x0 x1 x2) (kernelRun0_A.sl.v3 c arg3 harg3 arg4 harg4 arg7 x0 x1) 9 1024 128 1 rfl (by decide) inb_S1x24x4x128x128_S1x1x1x128x128_0_9_1_0_0 inb_S1024x3072_S1024x512_0_1024 slices_S512x512_o0_128_S512x128 inb_S24x512x128_S1x512x128_9_0_0 inb_S24x512x128_S1x128x128_9_1_0_s_1_4_1 _ (w_eq arg5 harg5 x2 1024 _) x
  refine List.forall_mem_cons.2 ⟨fun x => ?_, ?_⟩
  · exact piece x2 arg8.view (kernelRun0_A.sl.HS1_9 c arg3 harg3 arg4 harg4 arg5 harg5 arg7 x0 x1 x2) (kernelRun0_A.sl.v3 c arg3 harg3 arg4 harg4 arg7 x0 x1) 9 1024 128 0 rfl (by decide) inb_S1x24x4x128x128_S1x1x1x128x128_0_9_0_0_0 inb_S1024x3072_S1024x512_0_1024 slices_S512x512_o0_128_S512x128 inb_S24x512x128_S1x512x128_9_0_0 inb_S24x512x128_S1x128x128_9_0_0_s_1_4_1 _ (w_eq arg5 harg5 x2 1024 _) x
  refine List.forall_mem_cons.2 ⟨fun x => ?_, ?_⟩
  · exact piece x2 arg8.view (kernelRun0_A.sl.HS1_8 c arg3 harg3 arg4 harg4 arg5 harg5 arg7 x0 x1 x2) (kernelRun0_A.sl.v3 c arg3 harg3 arg4 harg4 arg7 x0 x1) 8 1024 0 3 rfl (by decide) inb_S1x24x4x128x128_S1x1x1x128x128_0_8_3_0_0 inb_S1024x3072_S1024x512_0_1024 slices_S512x512_o0_0_S512x128 inb_S24x512x128_S1x512x128_8_0_0 inb_S24x512x128_S1x128x128_8_3_0_s_1_4_1 _ (w_eq arg5 harg5 x2 1024 _) x
  refine List.forall_mem_cons.2 ⟨fun x => ?_, ?_⟩
  · exact piece x2 arg8.view (kernelRun0_A.sl.HS1_8 c arg3 harg3 arg4 harg4 arg5 harg5 arg7 x0 x1 x2) (kernelRun0_A.sl.v3 c arg3 harg3 arg4 harg4 arg7 x0 x1) 8 1024 0 2 rfl (by decide) inb_S1x24x4x128x128_S1x1x1x128x128_0_8_2_0_0 inb_S1024x3072_S1024x512_0_1024 slices_S512x512_o0_0_S512x128 inb_S24x512x128_S1x512x128_8_0_0 inb_S24x512x128_S1x128x128_8_2_0_s_1_4_1 _ (w_eq arg5 harg5 x2 1024 _) x
  refine List.forall_mem_cons.2 ⟨fun x => ?_, ?_⟩
  · exact piece x2 arg8.view (kernelRun0_A.sl.HS1_8 c arg3 harg3 arg4 harg4 arg5 harg5 arg7 x0 x1 x2) (kernelRun0_A.sl.v3 c arg3 harg3 arg4 harg4 arg7 x0 x1) 8 1024 0 1 rfl (by decide) inb_S1x24x4x128x128_S1x1x1x128x128_0_8_1_0_0 inb_S1024x3072_S1024x512_0_1024 slices_S512x512_o0_0_S512x128 inb_S24x512x128_S1x512x128_8_0_0 inb_S24x512x128_S1x128x128_8_1_0_s_1_4_1 _ (w_eq arg5 harg5 x2 1024 _) x
  refine List.forall_mem_cons.2 ⟨fun x => ?_, ?_⟩
  · exact piece x2 arg8.view (kernelRun0_A.sl.HS1_8 c arg3 harg3 arg4 harg4 arg5 harg5 arg7 x0 x1 x2) (kernelRun0_A.sl.v3 c arg3 harg3 arg4 harg4 arg7 x0 x1) 8 1024 0 0 rfl (by decide) inb_S1x24x4x128x128_S1x1x1x128x128_0_8_0_0_0 inb_S1024x3072_S1024x512_0_1024 slices_S512x512_o0_0_S512x128 inb_S24x512x128_S1x512x128_8_0_0 inb_S24x512x128_S1x128x128_8_0_0_s_1_4_1 _ (w_eq arg5 harg5 x2 1024 _) x
  refine List.forall_mem_cons.2 ⟨fun x => ?_, ?_⟩
  · exact piece x2 arg8.view (kernelRun0_A.sl.HS1_7 c arg3 harg3 arg4 harg4 arg5 harg5 arg7 x0 x1 x2) (kernelRun0_A.sl.v3 c arg3 harg3 arg4 harg4 arg7 x0 x1) 7 512 384 3 rfl (by decide) inb_S1x24x4x128x128_S1x1x1x128x128_0_7_3_0_0 inb_S1024x3072_S1024x512_0_512 slices_S512x512_o0_384_S512x128 inb_S24x512x128_S1x512x128_7_0_0 inb_S24x512x128_S1x128x128_7_3_0_s_1_4_1 _ (w_eq arg5 harg5 x2 512 _) x
  refine List.forall_mem_cons.2 ⟨fun x => ?_, ?_⟩
  · exact piece x2 arg8.view (kernelRun0_A.sl.HS1_7 c arg3 harg3 arg4 harg4 arg5 harg5 arg7 x0 x1 x2) (kernelRun0_A.sl.v3 c arg3 harg3 arg4 harg4 arg7 x0 x1) 7 512 384 2 rfl (by decide) inb_S1x24x4x128x128_S1x1x1x128x128_0_7_2_0_0 inb_S1024x3072_S1024x512_0_512 slices_S512x512_o0_384_S512x128 inb_S24x512x128_S1x512x128_7_0_0 inb_S24x512x128_S1x128x128_7_2_0_s_1_4_1 _ (w_eq arg5 harg5 x2 512 _) x
  refine List.forall_mem_cons.2 ⟨fun x => ?_, ?_⟩
  · exact piece x2 arg8.view (kernelRun0_A.sl.HS1_7 c arg3 harg3 arg4 harg4 arg5 harg5 arg7 x0 x1 x2) (kernelRun0_A.sl.v3 c arg3 harg3 arg4 harg4 arg7 x0 x1) 7 512 384 1 rfl (by decide) inb_S1x24x4x128x128_S1x1x1x128x128_0_7_1_0_0 inb_S1024x3072_S1024x512_0_512 slices_S512x512_o0_384_S512x128 inb_S24x512x128_S1x512x128_7_0_0 inb_S24x512x128_S1x128x128_7_1_0_s_1_4_1 _ (w_eq arg5 harg5 x2 512 _) x
  refine List.forall_mem_cons.2 ⟨fun x => ?_, ?_⟩
  · exact piece x2 arg8.view (kernelRun0_A.sl.HS1_7 c arg3 harg3 arg4 harg4 arg5 harg5 arg7 x0 x1 x2) (kernelRun0_A.sl.v3 c arg3 harg3 arg4 harg4 arg7 x0 x1) 7 512 384 0 rfl (by decide) inb_S1x24x4x128x128_S1x1x1x128x128_0_7_0_0_0 inb_S1024x3072_S1024x512_0_512 slices_S512x512_o0_384_S512x128 inb_S24x512x128_S1x512x128_7_0_0 inb_S24x512x128_S1x128x128_7_0_0_s_1_4_1 _ (w_eq arg5 harg5 x2 512 _) x
  refine List.forall_mem_cons.2 ⟨fun x => ?_, ?_⟩
  · exact piece x2 arg8.view (kernelRun0_A.sl.HS1_6 c arg3 harg3 arg4 harg4 arg5 harg5 arg7 x0 x1 x2) (kernelRun0_A.sl.v3 c arg3 harg3 arg4 harg4 arg7 x0 x1) 6 512 256 3 rfl (by decide) inb_S1x24x4x128x128_S1x1x1x128x128_0_6_3_0_0 inb_S1024x3072_S1024x512_0_512 slices_S512x512_o0_256_S512x128 inb_S24x512x128_S1x512x128_6_0_0 inb_S24x512x128_S1x128x128_6_3_0_s_1_4_1 _ (w_eq arg5 harg5 x2 512 _) x
  refine List.forall_mem_cons.2 ⟨fun x => ?_, ?_⟩
  · exact piece x2 arg8.view (kernelRun0_A.sl.HS1_6 c arg3 harg3 arg4 harg4 arg5 harg5 arg7 x0 x1 x2) (kernelRun0_A.sl.v3 c arg3 harg3 arg4 harg4 arg7 x0 x1) 6 512 256 2 rfl (by decide) inb_S1x24x4x128x128_S1x1x1x128x128_0_6_2_0_0 inb_S1024x3072_S1024x512_0_512 slices_S512x512_o0_256_S512x128 inb_S24x512x128_S1x512x128_6_0_0 inb_S24x512x128_S1x128x128_6_2_0_s_1_4_1 _ (w_eq arg5 harg5 x2 512 _) x
  refine List.forall_mem_cons.2 ⟨fun x => ?_, ?_⟩
  · exact piece x2 arg8.view (kernelRun0_A.sl.HS1_6 c arg3 harg3 arg4 harg4 arg5 harg5 arg7 x0 x1 x2) (kernelRun0_A.sl.v3 c arg3 harg3 arg4 harg4 arg7 x0 x1) 6 512 256 1 rfl (by decide) inb_S1x24x4x128x128_S1x1x1x128x128_0_6_1_0_0 inb_S1024x3072_S1024x512_0_512 slices_S512x512_o0_256_S512x128 inb_S24x512x128_S1x512x128_6_0_0 inb_S24x512x128_S1x128x128_6_1_0_s_1_4_1 _ (w_eq arg5 harg5 x2 512 _) x
  refine List.forall_mem_cons.2 ⟨fun x => ?_, ?_⟩
  · exact piece x2 arg8.view (kernelRun0_A.sl.HS1_6 c arg3 harg3 arg4 harg4 arg5 harg5 arg7 x0 x1 x2) (kernelRun0_A.sl.v3 c arg3 harg3 arg4 harg4 arg7 x0 x1) 6 512 256 0 rfl (by decide) inb_S1x24x4x128x128_S1x1x1x128x128_0_6_0_0_0 inb_S1024x3072_S1024x512_0_512 slices_S512x512_o0_256_S512x128 inb_S24x512x128_S1x512x128_6_0_0 inb_S24x512x128_S1x128x128_6_0_0_s_1_4_1 _ (w_eq arg5 harg5 x2 512 _) x
  refine List.forall_mem_cons.2 ⟨fun x => ?_, ?_⟩
  · exact piece x2 arg8.view (kernelRun0_A.sl.HS1_5 c arg3 harg3 arg4 harg4 arg5 harg5 arg7 x0 x1 x2) (kernelRun0_A.sl.v3 c arg3 harg3 arg4 harg4 arg7 x0 x1) 5 512 128 3 rfl (by decide) inb_S1x24x4x128x128_S1x1x1x128x128_0_5_3_0_0 inb_S1024x3072_S1024x512_0_512 slices_S512x512_o0_128_S512x128 inb_S24x512x128_S1x512x128_5_0_0 inb_S24x512x128_S1x128x128_5_3_0_s_1_4_1 _ (w_eq arg5 harg5 x2 512 _) x
  refine List.forall_mem_cons.2 ⟨fun x => ?_, ?_⟩
  · exact piece x2 arg8.view (kernelRun0_A.sl.HS1_5 c arg3 harg3 arg4 harg4 arg5 harg5 arg7 x0 x1 x2) (kernelRun0_A.sl.v3 c arg3 harg3 arg4 harg4 arg7 x0 x1) 5 512 128 2 rfl (by decide) inb_S1x24x4x128x128_S1x1x1x128x128_0_5_2_0_0 inb_S1024x3072_S1024x512_0_512 slices_S512x512_o0_128_S512x128 inb_S24x512x128_S1x512x128_5_0_0 inb_S24x512x128_S1x128x128_5_2_0_s_1_4_1 _ (w_eq arg5 harg5 x2 512 _) x
  refine List.forall_mem_cons.2 ⟨fun x => ?_, ?_⟩
  · exact piece x2 arg8.view (kernelRun0_A.sl.HS1_5 c arg3 harg3 arg4 harg4 arg5 harg5 arg7 x0 x1 x2) (kernelRun0_A.sl.v3 c arg3 harg3 arg4 harg4 arg7 x0 x1) 5 512 128 1 rfl (by decide) inb_S1x24x4x128x128_S1x1x1x128x128_0_5_1_0_0 inb_S1024x3072_S1024x512_0_512 slices_S512x512_o0_128_S512x128 inb_S24x512x128_S1x512x128_5_0_0 inb_S24x512x128_S1x128x128_5_1_0_s_1_4_1 _ (w_eq arg5 harg5 x2 512 _) x
  refine List.forall_mem_cons.2 ⟨fun x => ?_, ?_⟩
  · exact piece x2 arg8.view (kernelRun0_A.sl.HS1_5 c arg3 harg3 arg4 harg4 arg5 harg5 arg7 x0 x1 x2) (kernelRun0_A.sl.v3 c arg3 harg3 arg4 harg4 arg7 x0 x1) 5 512 128 0 rfl (by decide) inb_S1x24x4x128x128_S1x1x1x128x128_0_5_0_0_0 inb_S1024x3072_S1024x512_0_512 slices_S512x512_o0_128_S512x128 inb_S24x512x128_S1x512x128_5_0_0 inb_S24x512x128_S1x128x128_5_0_0_s_1_4_1 _ (w_eq arg5 harg5 x2 512 _) x
  refine List.forall_mem_cons.2 ⟨fun x => ?_, ?_⟩
  · exact piece x2 arg8.view (kernelRun0_A.sl.HS1_4 c arg3 harg3 arg4 harg4 arg5 harg5 arg7 x0 x1 x2) (kernelRun0_A.sl.v3 c arg3 harg3 arg4 harg4 arg7 x0 x1) 4 512 0 3 rfl (by decide) inb_S1x24x4x128x128_S1x1x1x128x128_0_4_3_0_0 inb_S1024x3072_S1024x512_0_512 slices_S512x512_o0_0_S512x128 inb_S24x512x128_S1x512x128_4_0_0 inb_S24x512x128_S1x128x128_4_3_0_s_1_4_1 _ (w_eq arg5 harg5 x2 512 _) x
  refine List.forall_mem_cons.2 ⟨fun x => ?_, ?_⟩
  · exact piece x2 arg8.view (kernelRun0_A.sl.HS1_4 c arg3 harg3 arg4 harg4 arg5 harg5 arg7 x0 x1 x2) (kernelRun0_A.sl.v3 c arg3 harg3 arg4 harg4 arg7 x0 x1) 4 512 0 2 rfl (by decide) inb_S1x24x4x128x128_S1x1x1x128x128_0_4_2_0_0 inb_S1024x3072_S1024x512_0_512 slices_S512x512_o0_0_S512x128 inb_S24x512x128_S1x512x128_4_0_0 inb_S24x512x128_S1x128x128_4_2_0_s_1_4_1 _ (w_eq arg5 harg5 x2 512 _) x
  refine List.forall_mem_cons.2 ⟨fun x => ?_, ?_⟩
  · exact piece x2 arg8.view (kernelRun0_A.sl.HS1_4 c arg3 harg3 arg4 harg4 arg5 harg5 arg7 x0 x1 x2) (kernelRun0_A.sl.v3 c arg3 harg3 arg4 harg4 arg7 x0 x1) 4 512 0 1 rfl (by decide) inb_S1x24x4x128x128_S1x1x1x128x128_0_4_1_0_0 inb_S1024x3072_S1024x512_0_512 slices_S512x512_o0_0_S512x128 inb_S24x512x128_S1x512x128_4_0_0 inb_S24x512x128_S1x128x128_4_1_0_s_1_4_1 _ (w_eq arg5 harg5 x2 512 _) x
  refine List.forall_mem_cons.2 ⟨fun x => ?_, ?_⟩
  · exact piece x2 arg8.view (kernelRun0_A.sl.HS1_4 c arg3 harg3 arg4 harg4 arg5 harg5 arg7 x0 x1 x2) (kernelRun0_A.sl.v3 c arg3 harg3 arg4 harg4 arg7 x0 x1) 4 512 0 0 rfl (by decide) inb_S1x24x4x128x128_S1x1x1x128x128_0_4_0_0_0 inb_S1024x3072_S1024x512_0_512 slices_S512x512_o0_0_S512x128 inb_S24x512x128_S1x512x128_4_0_0 inb_S24x512x128_S1x128x128_4_0_0_s_1_4_1 _ (w_eq arg5 harg5 x2 512 _) x
  refine List.forall_mem_cons.2 ⟨fun x => ?_, ?_⟩
  · exact piece x2 arg8.view (kernelRun0_A.sl.HS1_3 c arg3 harg3 arg4 harg4 arg5 harg5 arg7 x0 x1 x2) (kernelRun0_A.sl.v3 c arg3 harg3 arg4 harg4 arg7 x0 x1) 3 0 384 3 rfl (by decide) inb_S1x24x4x128x128_S1x1x1x128x128_0_3_3_0_0 inb_S1024x3072_S1024x512_0_0 slices_S512x512_o0_384_S512x128 inb_S24x512x128_S1x512x128_3_0_0 inb_S24x512x128_S1x128x128_3_3_0_s_1_4_1 _ (w_eq arg5 harg5 x2 0 _) x
  refine List.forall_mem_cons.2 ⟨fun x => ?_, ?_⟩
  · exact piece x2 arg8.view (kernelRun0_A.sl.HS1_3 c arg3 harg3 arg4 harg4 arg5 harg5 arg7 x0 x1 x2) (kernelRun0_A.sl.v3 c arg3 harg3 arg4 harg4 arg7 x0 x1) 3 0 384 2 rfl (by decide) inb_S1x24x4x128x128_S1x1x1x128x128_0_3_2_0_0 inb_S1024x3072_S1024x512_0_0 slices_S512x512_o0_384_S512x128 inb_S24x512x128_S1x512x128_3_0_0 inb_S24x512x128_S1x128x128_3_2_0_s_1_4_1 _ (w_eq arg5 harg5 x2 0 _) x
  refine List.forall_mem_cons.2 ⟨fun x => ?_, ?_⟩
  · exact piece x2 arg8.view (kernelRun0_A.sl.HS1_3 c arg3 harg3 arg4 harg4 arg5 harg5 arg7 x0 x1 x2) (kernelRun0_A.sl.v3 c arg3 harg3 arg4 harg4 arg7 x0 x1) 3 0 384 1 rfl (by decide) inb_S1x24x4x128x128_S1x1x1x128x128_0_3_1_0_0 inb_S1024x3072_S1024x512_0_0 slices_S512x512_o0_384_S512x128 inb_S24x512x128_S1x512x128_3_0_0 inb_S24x512x128_S1x128x128_3_1_0_s_1_4_1 _ (w_eq arg5 harg5 x2 0 _) x
  refine List.forall_mem_cons.2 ⟨fun x => ?_, ?_⟩
  · exact piece x2 arg8.view (kernelRun0_A.sl.HS1_3 c arg3 harg3 arg4 harg4 arg5 harg5 arg7 x0 x1 x2) (kernelRun0_A.sl.v3 c arg3 harg3 arg4 harg4 arg7 x0 x1) 3 0 384 0 rfl (by decide) inb_S1x24x4x128x128_S1x1x1x128x128_0_3_0_0_0 inb_S1024x3072_S1024x512_0_0 slices_S512x512_o0_384_S512x128 inb_S24x512x128_S1x512x128_3_0_0 inb_S24x512x128_S1x128x128_3_0_0_s_1_4_1 _ (w_eq arg5 harg5 x2 0 _) x
  refine List.forall_mem_cons.2 ⟨fun x => ?_, ?_⟩
  · exact piece x2 arg8.view (kernelRun0_A.sl.HS1_2 c arg3 harg3 arg4 harg4 arg5 harg5 arg7 x0 x1 x2) (kernelRun0_A.sl.v3 c arg3 harg3 arg4 harg4 arg7 x0 x1) 2 0 256 3 rfl (by decide) inb_S1x24x4x128x128_S1x1x1x128x128_0_2_3_0_0 inb_S1024x3072_S1024x512_0_0 slices_S512x512_o0_256_S512x128 inb_S24x512x128_S1x512x128_2_0_0 inb_S24x512x128_S1x128x128_2_3_0_s_1_4_1 _ (w_eq arg5 harg5 x2 0 _) x
  refine List.forall_mem_cons.2 ⟨fun x => ?_, ?_⟩
  · exact piece x2 arg8.view (kernelRun0_A.sl.HS1_2 c arg3 harg3 arg4 harg4 arg5 harg5 arg7 x0 x1 x2) (kernelRun0_A.sl.v3 c arg3 harg3 arg4 harg4 arg7 x0 x1) 2 0 256 2 rfl (by decide) inb_S1x24x4x128x128_S1x1x1x128x128_0_2_2_0_0 inb_S1024x3072_S1024x512_0_0 slices_S512x512_o0_256_S512x128 inb_S24x512x128_S1x512x128_2_0_0 inb_S24x512x128_S1x128x128_2_2_0_s_1_4_1 _ (w_eq arg5 harg5 x2 0 _) x
  refine List.forall_mem_cons.2 ⟨fun x => ?_, ?_⟩
  · exact piece x2 arg8.view (kernelRun0_A.sl.HS1_2 c arg3 harg3 arg4 harg4 arg5 harg5 arg7 x0 x1 x2) (kernelRun0_A.sl.v3 c arg3 harg3 arg4 harg4 arg7 x0 x1) 2 0 256 1 rfl (by decide) inb_S1x24x4x128x128_S1x1x1x128x128_0_2_1_0_0 inb_S1024x3072_S1024x512_0_0 slices_S512x512_o0_256_S512x128 inb_S24x512x128_S1x512x128_2_0_0 inb_S24x512x128_S1x128x128_2_1_0_s_1_4_1 _ (w_eq arg5 harg5 x2 0 _) x
  refine List.forall_mem_cons.2 ⟨fun x => ?_, ?_⟩
  · exact piece x2 arg8.view (kernelRun0_A.sl.HS1_2 c arg3 harg3 arg4 harg4 arg5 harg5 arg7 x0 x1 x2) (kernelRun0_A.sl.v3 c arg3 harg3 arg4 harg4 arg7 x0 x1) 2 0 256 0 rfl (by decide) inb_S1x24x4x128x128_S1x1x1x128x128_0_2_0_0_0 inb_S1024x3072_S1024x512_0_0 slices_S512x512_o0_256_S512x128 inb_S24x512x128_S1x512x128_2_0_0 inb_S24x512x128_S1x128x128_2_0_0_s_1_4_1 _ (w_eq arg5 harg5 x2 0 _) x
  refine List.forall_mem_cons.2 ⟨fun x => ?_, ?_⟩
  · exact piece x2 arg8.view (kernelRun0_A.sl.HS1_1 c arg3 harg3 arg4 harg4 arg5 harg5 arg7 x0 x1 x2) (kernelRun0_A.sl.v3 c arg3 harg3 arg4 harg4 arg7 x0 x1) 1 0 128 3 rfl (by decide) inb_S1x24x4x128x128_S1x1x1x128x128_0_1_3_0_0 inb_S1024x3072_S1024x512_0_0 slices_S512x512_o0_128_S512x128 inb_S24x512x128_S1x512x128_1_0_0 inb_S24x512x128_S1x128x128_1_3_0_s_1_4_1 _ (w_eq arg5 harg5 x2 0 _) x
  refine List.forall_mem_cons.2 ⟨fun x => ?_, ?_⟩
  · exact piece x2 arg8.view (kernelRun0_A.sl.HS1_1 c arg3 harg3 arg4 harg4 arg5 harg5 arg7 x0 x1 x2) (kernelRun0_A.sl.v3 c arg3 harg3 arg4 harg4 arg7 x0 x1) 1 0 128 2 rfl (by decide) inb_S1x24x4x128x128_S1x1x1x128x128_0_1_2_0_0 inb_S1024x3072_S1024x512_0_0 slices_S512x512_o0_128_S512x128 inb_S24x512x128_S1x512x128_1_0_0 inb_S24x512x128_S1x128x128_1_2_0_s_1_4_1 _ (w_eq arg5 harg5 x2 0 _) x
  refine List.forall_mem_cons.2 ⟨fun x => ?_, ?_⟩
  · exact piece x2 arg8.view (kernelRun0_A.sl.HS1_1 c arg3 harg3 arg4 harg4 arg5 harg5 arg7 x0 x1 x2) (kernelRun0_A.sl.v3 c arg3 harg3 arg4 harg4 arg7 x0 x1) 1 0 128 1 rfl (by decide) inb_S1x24x4x128x128_S1x1x1x128x128_0_1_1_0_0 inb_S1024x3072_S1024x512_0_0 slices_S512x512_o0_128_S512x128 inb_S24x512x128_S1x512x128_1_0_0 inb_S24x512x128_S1x128x128_1_1_0_s_1_4_1 _ (w_eq arg5 harg5 x2 0 _) x
  refine List.forall_mem_cons.2 ⟨fun x => ?_, ?_⟩
  · exact piece x2 arg8.view (kernelRun0_A.sl.HS1_1 c arg3 harg3 arg4 harg4 arg5 harg5 arg7 x0 x1 x2) (kernelRun0_A.sl.v3 c arg3 harg3 arg4 harg4 arg7 x0 x1) 1 0 128 0 rfl (by decide) inb_S1x24x4x128x128_S1x1x1x128x128_0_1_0_0_0 inb_S1024x3072_S1024x512_0_0 slices_S512x512_o0_128_S512x128 inb_S24x512x128_S1x512x128_1_0_0 inb_S24x512x128_S1x128x128_1_0_0_s_1_4_1 _ (w_eq arg5 harg5 x2 0 _) x
  refine List.forall_mem_cons.2 ⟨fun x => ?_, ?_⟩
  · exact piece x2 arg8.view [] (kernelRun0_A.sl.v3 c arg3 harg3 arg4 harg4 arg7 x0 x1) 0 0 0 3 rfl (by decide) inb_S1x24x4x128x128_S1x1x1x128x128_0_0_3_0_0 inb_S1024x3072_S1024x512_0_0 slices_S512x512_o0_0_S512x128 inb_S24x512x128_S1x512x128_0_0_0 inb_S24x512x128_S1x128x128_0_3_0_s_1_4_1 _ (w_eq arg5 harg5 x2 0 _) x
  refine List.forall_mem_cons.2 ⟨fun x => ?_, ?_⟩
  · exact piece x2 arg8.view [] (kernelRun0_A.sl.v3 c arg3 harg3 arg4 harg4 arg7 x0 x1) 0 0 0 2 rfl (by decide) inb_S1x24x4x128x128_S1x1x1x128x128_0_0_2_0_0 inb_S1024x3072_S1024x512_0_0 slices_S512x512_o0_0_S512x128 inb_S24x512x128_S1x512x128_0_0_0 inb_S24x512x128_S1x128x128_0_2_0_s_1_4_1 _ (w_eq arg5 harg5 x2 0 _) x
  refine List.forall_mem_cons.2 ⟨fun x => ?_, ?_⟩
  · exact piece x2 arg8.view [] (kernelRun0_A.sl.v3 c arg3 harg3 arg4 harg4 arg7 x0 x1) 0 0 0 1 rfl (by decide) inb_S1x24x4x128x128_S1x1x1x128x128_0_0_1_0_0 inb_S1024x3072_S1024x512_0_0 slices_S512x512_o0_0_S512x128 inb_S24x512x128_S1x512x128_0_0_0 inb_S24x512x128_S1x128x128_0_1_0_s_1_4_1 _ (w_eq arg5 harg5 x2 0 _) x
  refine List.forall_mem_cons.2 ⟨fun x => ?_, ?_⟩
  · exact piece x2 arg8.view [] (kernelRun0_A.sl.v3 c arg3 harg3 arg4 harg4 arg7 x0 x1) 0 0 0 0 rfl (by decide) inb_S1x24x4x128x128_S1x1x1x128x128_0_0_0_0_0 inb_S1024x3072_S1024x512_0_0 slices_S512x512_o0_0_S512x128 inb_S24x512x128_S1x512x128_0_0_0 inb_S24x512x128_S1x128x128_0_0_0_s_1_4_1 _ (w_eq arg5 harg5 x2 0 _) x
  exact fun p hp => absurd hp List.not_mem_nil

end Cert.Kernel4Ideal.Pr

end
-- ==== Proof.Pr4Host.lean ====
/-
  The second projection call's blocks, read at one element: the rows, the norm's weights, and the projection's weights
  with the scale on the queries' columns.
-/
module

public import proofs.«01_k».proof.Proof.Gen.Kernel4Ideal.Value
public import proofs.«01_k».proof.Proof.PrSpec
public import Idealize.ShloMosaic.Lib.Routing.OpsSet
public import Idealize.ShloMosaic.Lib.Routing.OpsPair
public import Idealize.ShloMosaic.Lib.Pointwise

@[expose] public section

set_option maxRecDepth 16384

noncomputable section

open Idealize.ShloMosaic Idealize.ShloMosaic.TcCoe Idealize.SL.Sem

namespace Cert.Kernel4Ideal.Pr

open Cert.Kernel4Ideal Cert.Kernel4Ideal.Gen Cert.PrMath Idealize.ShloMosaic.Routing

variable (m : (ℓ : Loc nD τ sig) → Buf (Elt Ideal) ℓ)

abbrev seqOf (t : Fin cfg0.N) : Fin 8 := ⟨(grid0.coords t 0).val, (grid0.coords t 0).isLt⟩
abbrev rowOf (t : Fin cfg0.N) : Fin 4 := ⟨(grid0.coords t 1).val, (grid0.coords t 1).isLt⟩

/-- The three factors: one of the queries, of the keys, of the values. -/
def fac : FVec Ideal S3x1 .f32 := Host.scatter scatter_S3x1_S1_S1_0_0_0_0 (fun _ b => b) (broadcastInDim S3x1 ![] bcast_S_S3x1 (constant S_ .f32 0x3F800000#32))
  (broadcastInDim S1 ![] bcast_S_S1 (constantI S_ 32 0#32)) (broadcastInDim S1 ![] bcast_S_S1 (constant S_ .f32 0x3E38AA3B#32))

theorem fac_start (k : S1.Idx) (a : Fin 2) : scatter_S3x1_S1_S1_0_0_0_0.start k (broadcastInDim S1 ![] bcast_S_S1 (constantI S_ 32 0#32)) a = 0 := by
  unfold ScatterDims.start
  split
  · rfl
  · rfl

theorem fac_window (k : S1.Idx) (a : Fin 2) : scatter_S3x1_S1_S1_0_0_0_0.window k a = 0 := by
  have h1 : ∀ b : Fin S1.rank, (k b).val = 0 := fun b => by
    match b with
    | ⟨0, h⟩ => have h2 : (k ⟨0, h⟩).val < 1 := (k ⟨0, h⟩).isLt; omega
  unfold ScatterDims.window
  split
  · exact h1 _
  · rfl

theorem fac_apply (j : Fin 3) : fac (ix2 j 0) = if j.val = 0 then qs else 1 := by
  unfold fac
  split
  · rename_i h
    refine scatter_set_hit _ _ _ _ _ _ (fun k _ => rfl) (ix1 0) ((resultIdx?_ix2 _ _ _ j 0).2 ?_)
    rw [fac_start, fac_start, fac_window, fac_window, h]
    exact ⟨rfl, rfl⟩
  · rename_i h
    refine (scatter_set_miss _ _ _ _ _ fun k hk => ?_).trans Ideal.ofBits_one_f32
    have := ((resultIdx?_ix2 _ _ _ j 0).1 hk).1
    rw [fac_start, fac_window] at this
    omega

/-- What the host leaves in `main_v11`. -/
theorem V_v11 (c : Dev nD) : V m c main_v11 = (truncf .bf16 (shapeCast S1024x3072 (mulf (shapeCast S1024x3x1024
      (extractStridedSlice S1024x1x3x1024 ![0, 1, 0, 0] (shapeCast S1024x3x3x1024 (m ((c : Thread nD τ).loc main_arg2) : FVec Ideal S1024x9216 .f32) shapeCasts_S1024x9216_S1024x3x3x1024)
        slices_S1024x3x3x1024_S1024x1x3x1024_0_1_0_0) shapeCasts_S1024x1x3x1024_S1024x3x1024)
      (broadcastInDim S1024x3x1024 ![0, 1, 2] bcast_S1x3x1_S1024x3x1024_0_1_2 (broadcastInDim S1x3x1 ![1, 2] bcast_S3x1_S1x3x1_1_2 fac)))
      shapeCasts_S1024x3x1024_S1024x3072) bitsLt_bf16_f32 : FVec Ideal S1024x3072 .bf16) := by
  unfold V
  after_results
  rfl

theorem V_v12 (c : Dev nD) : V m c main_v12 = (shapeCast S1x1024 (m ((c : Thread nD τ).loc main_arg1) : FVec Ideal S1024 .f32) shapeCasts_S1024_S1x1024 : FVec Ideal S1x1024 .f32) := by
  unfold V
  after_results
  rfl

theorem w_apply (w : FVec Ideal S1024x9216 .f32) (f : FVec Ideal S3x1 .f32) (d : Fin 1024) (k : Fin 3072) :
    (truncf .bf16 (shapeCast S1024x3072 (mulf (shapeCast S1024x3x1024
      (extractStridedSlice S1024x1x3x1024 ![0, 1, 0, 0] (shapeCast S1024x3x3x1024 w shapeCasts_S1024x9216_S1024x3x3x1024)
        slices_S1024x3x3x1024_S1024x1x3x1024_0_1_0_0) shapeCasts_S1024x1x3x1024_S1024x3x1024)
      (broadcastInDim S1024x3x1024 ![0, 1, 2] bcast_S1x3x1_S1024x3x1024_0_1_2 (broadcastInDim S1x3x1 ![1, 2] bcast_S3x1_S1x3x1_1_2 f)))
      shapeCasts_S1024x3x1024_S1024x3072) bitsLt_bf16_f32 : FVec Ideal S1024x3072 .bf16) (ix2 d k)
      = w (ix2 d ⟨3072 * 1 + k.val, by omega⟩) * f (ix2 ⟨k.val / 1024, by omega⟩ 0) := by
  have e1 : ∀ z : FVec Ideal S1024x3x1024 .f32, shapeCast S1024x3072 z shapeCasts_S1024x3x1024_S1024x3072 (ix2 d k) = z (ix3 d ⟨k.val / 1024, by omega⟩ ⟨k.val % 1024, by omega⟩) := fun z =>
    shapeCast_apply z shapeCasts_S1024x3x1024_S1024x3072 _ _ (by rewrite [Shape.rowMajor_val_three, Shape.rowMajor_val_two]; show (d.val * 3 + k.val / 1024) * 1024 + k.val % 1024 = d.val * 3072 + k.val; omega)
  change shapeCast S1024x3072 (mulf (F := Ideal) _ _) shapeCasts_S1024x3x1024_S1024x3072 (ix2 d k) = _
  refine (e1 _).trans ?_
  refine congrArg₂ (· * ·) ?_ ?_
  · refine (shapeCast_apply _ shapeCasts_S1024x1x3x1024_S1024x3x1024 _ (ix4 d 0 ⟨k.val / 1024, by omega⟩ ⟨k.val % 1024, by omega⟩) (by rewrite [Shape.rowMajor_val_three, Shape.rowMajor_val_four]; show ((d.val * 1 + 0) * 3 + k.val / 1024) * 1024 + k.val % 1024 = (d.val * 3 + k.val / 1024) * 1024 + k.val % 1024; omega)).trans ?_
    refine (extractStridedSlice_apply ![0, 1, 0, 0] _ slices_S1024x3x3x1024_S1024x1x3x1024_0_1_0_0 _ (ix4 d 1 ⟨k.val / 1024, by omega⟩ ⟨k.val % 1024, by omega⟩) (fun a => match a with
      | ⟨0, _⟩ => by show d.val = 0 + d.val; omega
      | ⟨1, _⟩ => rfl
      | ⟨2, _⟩ => by show k.val / 1024 = 0 + k.val / 1024; omega
      | ⟨3, _⟩ => by show k.val % 1024 = 0 + k.val % 1024; omega)).trans ?_
    exact shapeCast_apply _ shapeCasts_S1024x9216_S1024x3x3x1024 _ (ix2 d ⟨3072 * 1 + k.val, by omega⟩) (by rewrite [Shape.rowMajor_val_two, Shape.rowMajor_val_four]; show d.val * 9216 + (3072 * 1 + k.val) = ((d.val * 3 + 1) * 3 + k.val / 1024) * 1024 + k.val % 1024; omega)
  · pointwise

/-- The 512 rows of a point's block. -/
theorem blk0 (c : Dev nD) (t : Fin cfg0.N) (r : Fin 512) (d : Fin 1024) :
    (iblk m c 0 t : Vec Ideal S1x512x1024 .f32) (ix3 0 r d)
      = (m ((c : Thread nD τ).loc main_arg0) : Vec Ideal S8x2048x1024 .f32) (ix3 (seqOf t) ⟨512 * (rowOf t).val + r.val, by have := (rowOf t).isLt; omega⟩ d) := by
  have hi : win0_0.index t 0 = (grid0.coords t 0).val ∧ win0_0.index t 1 = (grid0.coords t 1).val ∧ win0_0.index t 2 = 0 :=
    (by decide +kernel : ∀ t : Fin grid0.N, win0_0.index t 0 = (grid0.coords t 0).val ∧ win0_0.index t 1 = (grid0.coords t 1).val ∧ win0_0.index t 2 = 0) t
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_0.index t 0 * 1 + 1 * 0 = (grid0.coords t 0).val; rw [hi.1]; omega
  | ⟨1, _⟩ => show win0_0.index t 1 * 512 + 1 * r.val = 512 * (grid0.coords t 1).val + r.val; rw [hi.2.1]; omega
  | ⟨2, _⟩ => show win0_0.index t 2 * 1024 + 1 * d.val = d.val; rw [hi.2.2]; omega

theorem blk1 (c : Dev nD) (t : Fin cfg0.N) (d : Fin 1024) :
    (iblk m c 1 t : Vec Ideal S1x1024 .f32) (ix2 0 d) = (m ((c : Thread nD τ).loc main_arg1) : Vec Ideal S1024 .f32) (ix1 d) := by
  have hi : win0_1.index t 0 = 0 ∧ win0_1.index t 1 = 0 :=
    (by decide +kernel : ∀ t : Fin grid0.N, win0_1.index t 0 = 0 ∧ win0_1.index t 1 = 0) t
  unfold iblk
  rw [View.read_apply]
  have e : ((cfg0.win 1).blk t).view.emb (ix2 0 d) = (ix2 0 d : S1x1024.Idx) := by
    funext a
    apply Fin.ext
    match a with
    | ⟨0, _⟩ => show win0_1.index t 0 * 1 + 1 * 0 = 0; rw [hi.1]
    | ⟨1, _⟩ => show win0_1.index t 1 * 1024 + 1 * d.val = d.val; rw [hi.2]; omega
  show V m c main_v12 (((cfg0.win 1).blk t).view.emb (ix2 0 d)) = _
  rw [e, V_v12]
  exact shapeCast_apply _ shapeCasts_S1024_S1x1024 _ (ix1 d) (by rewrite [Shape.rowMajor_val_two, Shape.rowMajor_val_one]; show d.val = 0 * 1024 + d.val; omega)

theorem blk2 (c : Dev nD) (t : Fin cfg0.N) (d : Fin 1024) (k : Fin 3072) :
    (iblk m c 2 t : Vec Ideal S1024x3072 .bf16) (ix2 d k) = (show EReal from (m ((c : Thread nD τ).loc main_arg2) : Vec Ideal S1024x9216 .f32) (ix2 d ⟨3072 * 1 + k.val, by omega⟩)) * scl (k.val / 128) := by
  have hi : win0_2.index t 0 = 0 ∧ win0_2.index t 1 = 0 :=
    (by decide +kernel : ∀ t : Fin grid0.N, win0_2.index t 0 = 0 ∧ win0_2.index t 1 = 0) t
  unfold iblk
  rw [View.read_apply]
  have e : ((cfg0.win 2).blk t).view.emb (ix2 d k) = (ix2 d k : S1024x3072.Idx) := by
    funext a
    apply Fin.ext
    match a with
    | ⟨0, _⟩ => show win0_2.index t 0 * 1024 + 1 * d.val = d.val; rw [hi.1]; omega
    | ⟨1, _⟩ => show win0_2.index t 1 * 3072 + 1 * k.val = k.val; rw [hi.2]; omega
  show V m c main_v11 (((cfg0.win 2).blk t).view.emb (ix2 d k)) = _
  rw [e, V_v11, w_apply, fac_apply]
  unfold scl
  congr 1
  have : k.val / 1024 = 0 ↔ k.val / 128 < 8 := by omega
  simp only [this]

end Cert.Kernel4Ideal.Pr

end
-- ==== Proof.Pr4Ref.lean ====
/-
  The second projection's reference read at one element: it is the projection of `PrSpec.lean`.
-/
module

public import proofs.«01_k».proof.Proof.PrSpec
public import proofs.«01_k».proof.Proof.Gen.Reference4Ideal.Read
public import Idealize.ShloMosaic.Lib.ValueIdxRank6

@[expose] public section

set_option maxRecDepth 16384

noncomputable section

open Idealize.ShloMosaic Idealize.ShloMosaic.TcCoe Idealize.SL.Sem

namespace Cert.Reference4Ideal.Layer

open Cert.Reference4Ideal Cert.Reference4Ideal.Gen Cert.Reference4Ideal.Read Cert.FfnMath Cert.PrMath

variable (x0 : Vec Ideal S8x2048x1024 .f32) (x1 : Vec Ideal S1024 .f32) (x2 : Vec Ideal S1024x9216 .f32)

theorem v12_at (b : Fin 8) (t : Fin 2048) (d : Fin 1024) :
    val_main_v12 (F := Ideal) x0 x1 (ix3 b t d) = nrm (fun k => x0 (ix3 b t k)) (fun k => x1 (ix1 k)) d := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl

theorem v13_at (b : Fin 8) (t : Fin 2048) (f : Fin 9216) :
    val_main_v13 (F := Ideal) x0 x1 x2 (ix3 b t f) = ∑ d, nrm (fun k => x0 (ix3 b t k)) (fun k => x1 (ix1 k)) d * x2 (ix2 d f) := by
  simp only [← v12_at]
  unfold val_main_v13
  generalize val_main_v12 (F := Ideal) x0 x1 = y
  pointwise

/-- Two heads side by side: where a column of 128 lies among the heads. -/
theorem lanes (z : FVec Ideal S32x512x16x64 .f32) (b : Fin 8) (q : Fin 4) (s : Fin 512) (c : Fin 8) (l : Fin 128) :
    transpose S8x8x4x512x128 [0, 3, 1, 2, 4] (shapeCast S8x4x512x8x128 z
      shapeCasts_S32x512x16x64_S8x4x512x8x128) transposes_S8x4x512x8x128_S8x8x4x512x128_0_3_1_2_4 (ix5 b c q s l)
      = z (ix4 (⟨4 * b.val + q.val, by omega⟩ : Fin 32) s (⟨2 * c.val + l.val / 64, by omega⟩ : Fin 16) (⟨l.val % 64, by omega⟩ : Fin 64)) := by
  refine (transpose_apply [0, 3, 1, 2, 4] _ transposes_S8x4x512x8x128_S8x8x4x512x128_0_3_1_2_4 _ (ix5 b q s c l) (fun b => match b with
    | ⟨0, _⟩ => rfl
    | ⟨1, _⟩ => rfl
    | ⟨2, _⟩ => rfl
    | ⟨3, _⟩ => rfl
    | ⟨4, _⟩ => rfl)).trans ?_
  exact shapeCast_apply _ shapeCasts_S32x512x16x64_S8x4x512x8x128 _ _ (by
    rewrite [Shape.rowMajor_val_five, Shape.rowMajor_val_four]
    show (((4 * b.val + q.val) * 512 + s.val) * 16 + (2 * c.val + l.val / 64)) * 64 + l.val % 64 = (((b.val * 4 + q.val) * 512 + s.val) * 8 + c.val) * 128 + l.val
    omega)

/-- A head's element of one of the three parts, and where it lies in the product. -/
theorem part (z : FVec Ideal S8x2048x9216 .f32) (p : Fin 3)
    (hs : S8x2048x3x3x16x64.Slices ![0, 0, 1, p.val, 0, 0] S8x2048x1x1x16x64)
    (b : Fin 8) (q : Fin 4) (s : Fin 512) (n : Fin 16) (e : Fin 64) :
    shapeCast S32x512x16x64 (transpose S8x4x512x16x64 [0, 2, 1, 3, 4]
      (shapeCast S8x512x4x16x64 (shapeCast S8x2048x16x64 (extractStridedSlice S8x2048x1x1x16x64 ![0, 0, 1, p.val, 0, 0]
        (shapeCast S8x2048x3x3x16x64 z shapeCasts_S8x2048x9216_S8x2048x3x3x16x64) hs) shapeCasts_S8x2048x1x1x16x64_S8x2048x16x64)
        shapeCasts_S8x2048x16x64_S8x512x4x16x64) transposes_S8x512x4x16x64_S8x4x512x16x64_0_2_1_3_4) shapeCasts_S8x4x512x16x64_S32x512x16x64
      (ix4 (⟨4 * b.val + q.val, by omega⟩ : Fin 32) s n e)
      = z (ix3 b ⟨4 * s.val + q.val, by omega⟩ ⟨3072 * 1 + 1024 * p.val + 64 * n.val + e.val, by omega⟩) := by
  refine (shapeCast_apply _ shapeCasts_S8x4x512x16x64_S32x512x16x64 _ (ix5 b q s n e) (by
    rewrite [Shape.rowMajor_val_five, Shape.rowMajor_val_four]
    show (((b.val * 4 + q.val) * 512 + s.val) * 16 + n.val) * 64 + e.val = (((4 * b.val + q.val) * 512 + s.val) * 16 + n.val) * 64 + e.val
    omega)).trans ?_
  refine (transpose_apply [0, 2, 1, 3, 4] _ transposes_S8x512x4x16x64_S8x4x512x16x64_0_2_1_3_4 _ (ix5 b s q n e) (fun b => match b with
    | ⟨0, _⟩ => rfl
    | ⟨1, _⟩ => rfl
    | ⟨2, _⟩ => rfl
    | ⟨3, _⟩ => rfl
    | ⟨4, _⟩ => rfl)).trans ?_
  refine (shapeCast_apply _ shapeCasts_S8x2048x16x64_S8x512x4x16x64 _ (ix4 b (⟨4 * s.val + q.val, by omega⟩ : Fin 2048) n e) (by
    rewrite [Shape.rowMajor_val_five, Shape.rowMajor_val_four]
    show ((b.val * 2048 + (4 * s.val + q.val)) * 16 + n.val) * 64 + e.val = (((b.val * 512 + s.val) * 4 + q.val) * 16 + n.val) * 64 + e.val
    omega)).trans ?_
  refine (shapeCast_apply _ shapeCasts_S8x2048x1x1x16x64_S8x2048x16x64 _ (ix6 b (⟨4 * s.val + q.val, by omega⟩ : Fin 2048) (0 : Fin 1) (0 : Fin 1) n e) (by
    rewrite [Shape.rowMajor_val_six, Shape.rowMajor_val_four]
    show ((((b.val * 2048 + (4 * s.val + q.val)) * 1 + 0) * 1 + 0) * 16 + n.val) * 64 + e.val = ((b.val * 2048 + (4 * s.val + q.val)) * 16 + n.val) * 64 + e.val
    omega)).trans ?_
  refine (extractStridedSlice_apply ![0, 0, 1, p.val, 0, 0] _ hs _ (ix6 b (⟨4 * s.val + q.val, by omega⟩ : Fin 2048) (1 : Fin 3) p n e) (fun a => match a with
    | ⟨0, _⟩ => by show b.val = 0 + b.val; omega
    | ⟨1, _⟩ => by show 4 * s.val + q.val = 0 + (4 * s.val + q.val); omega
    | ⟨2, _⟩ => rfl
    | ⟨3, _⟩ => by show p.val = p.val + 0; omega
    | ⟨4, _⟩ => by show n.val = 0 + n.val; omega
    | ⟨5, _⟩ => by show e.val = 0 + e.val; omega)).trans ?_
  exact shapeCast_apply _ shapeCasts_S8x2048x9216_S8x2048x3x3x16x64 _ _ (by
    rewrite [Shape.rowMajor_val_six, Shape.rowMajor_val_three]
    show (b.val * 2048 + (4 * s.val + q.val)) * 9216 + (3072 * 1 + 1024 * p.val + 64 * n.val + e.val) = ((((b.val * 2048 + (4 * s.val + q.val)) * 3 + 1) * 3 + p.val) * 16 + n.val) * 64 + e.val
    omega)

/-- Where two heads' columns lie in the weights. -/
theorem row_at (b : Fin 8) (t : Fin 2048) (p : Fin 3) (c : Fin 8) (l : Fin 128) (h : 3072 * 1 + 1024 * p.val + 64 * (2 * c.val + l.val / 64) + l.val % 64 < 9216) :
    val_main_v13 (F := Ideal) x0 x1 x2 (ix3 b t ⟨3072 * 1 + 1024 * p.val + 64 * (2 * c.val + l.val / 64) + l.val % 64, h⟩)
      = ∑ d, nrm (fun k => x0 (ix3 b t k)) (fun k => x1 (ix1 k)) d * x2 (ix2 d ⟨3072 * 1 + 128 * (8 * p.val + c.val) + l.val, by omega⟩) := by
  rw [v13_at]
  refine Finset.sum_congr rfl fun d _ => congrArg (fun f => _ * x2 (ix2 d f)) (Fin.ext ?_)
  show 3072 * 1 + 1024 * p.val + 64 * (2 * c.val + l.val / 64) + l.val % 64 = 3072 * 1 + 128 * (8 * p.val + c.val) + l.val
  omega

theorem q_at (b : Fin 8) (q : Fin 4) (s : Fin 512) (c : Fin 8) (l : Fin 128) :
    val_main_v35 (F := Ideal) x0 x1 x2 (ix5 b c q s l)
      = proj 1 (fun b t d => x0 (ix3 b t d)) (fun d => x1 (ix1 d)) (fun d f => x2 (ix2 d f)) b ⟨4 * s.val + q.val, by omega⟩ ⟨8 * 0 + c.val, by omega⟩ l := by
  unfold val_main_v35 val_main_v34
  rw [lanes]
  unfold proj scl
  rw [if_pos (show 8 * 0 + c.val < 8 by omega), ← qs_eq, ← mul_assoc]
  refine congrArg (fun z => z * Ideal.ofBits .f32 0x3E000000#32 * Ideal.ofBits .f32 0x3FB8AA3B#32) (?_ : val_main_v19 (F := Ideal) x0 x1 x2 _ = _)
  unfold val_main_v19 val_main_v18 val_main_v17 val_main_v16 val_main_v15 val_main_v14
  exact (part _ 0 slices_S8x2048x3x3x16x64_S8x2048x1x1x16x64_0_0_1_0_0_0 b q s _ _).trans (row_at x0 x1 x2 b _ 0 c l _)

theorem k_at (b : Fin 8) (q : Fin 4) (s : Fin 512) (c : Fin 8) (l : Fin 128) :
    val_main_v37 (F := Ideal) x0 x1 x2 (ix5 b c q s l)
      = proj 1 (fun b t d => x0 (ix3 b t d)) (fun d => x1 (ix1 d)) (fun d f => x2 (ix2 d f)) b ⟨4 * s.val + q.val, by omega⟩ ⟨8 * 1 + c.val, by omega⟩ l := by
  unfold val_main_v37 val_main_v36
  rw [lanes]
  unfold proj scl
  rw [if_neg (show ¬ 8 * 1 + c.val < 8 by omega), mul_one]
  unfold val_main_v26 val_main_v25 val_main_v24 val_main_v23 val_main_v22 val_main_v14
  exact (part _ 1 slices_S8x2048x3x3x16x64_S8x2048x1x1x16x64_0_0_1_1_0_0 b q s _ _).trans (row_at x0 x1 x2 b _ 1 c l _)

theorem v_at (b : Fin 8) (q : Fin 4) (s : Fin 512) (c : Fin 8) (l : Fin 128) :
    val_main_v39 (F := Ideal) x0 x1 x2 (ix5 b c q s l)
      = proj 1 (fun b t d => x0 (ix3 b t d)) (fun d => x1 (ix1 d)) (fun d f => x2 (ix2 d f)) b ⟨4 * s.val + q.val, by omega⟩ ⟨8 * 2 + c.val, by omega⟩ l := by
  unfold val_main_v39 val_main_v38
  rw [lanes]
  unfold proj scl
  rw [if_neg (show ¬ 8 * 2 + c.val < 8 by omega), mul_one]
  unfold val_main_v31 val_main_v30 val_main_v29 val_main_v28 val_main_v27 val_main_v14
  exact (part _ 2 slices_S8x2048x3x3x16x64_S8x2048x1x1x16x64_0_0_1_2_0_0 b q s _ _).trans (row_at x0 x1 x2 b _ 2 c l _)

/-- The reference is the projection. -/
theorem v41_at (b : Fin 8) (c : Fin 24) (q : Fin 4) (s : Fin 512) (l : Fin 128) :
    val_main_v41 (F := Ideal) x0 x1 x2 (ix5 b c q s l)
      = proj 1 (fun b t d => x0 (ix3 b t d)) (fun d => x1 (ix1 d)) (fun d f => x2 (ix2 d f)) b ⟨4 * s.val + q.val, by omega⟩ c l := by
  have hq := q_at x0 x1 x2 b q s
  have hk := k_at x0 x1 x2 b q s
  have hv := v_at x0 x1 x2 b q s
  unfold val_main_v41 val_main_v40
  generalize val_main_v35 (F := Ideal) x0 x1 x2 = yq at hq ⊢
  generalize val_main_v37 (F := Ideal) x0 x1 x2 = yk at hk ⊢
  generalize val_main_v39 (F := Ideal) x0 x1 x2 = yv at hv ⊢
  pointwise
  split
  · rename_i h
    refine Eq.trans ?_ ((hq ⟨c.val, h⟩ l).trans (proj_congr _ _ _ _ rfl (by show 4 * s.val + q.val = _; first | rfl | omega | (dsimp only; omega)) (show 8 * 0 + c.val = c.val by omega) rfl))
    exact congrArg (fun q => yq (ix5 b ⟨c.val, h⟩ q s l)) (Fin.ext (by first | rfl | simp))
  · split
    · rename_i h h'
      refine Eq.trans ?_ ((hk ⟨c.val - 8, h'⟩ l).trans (proj_congr _ _ _ _ rfl (by show 4 * s.val + q.val = _; first | rfl | omega | (dsimp only; omega)) (show 8 * 1 + (c.val - 8) = c.val by omega) rfl))
      exact congrArg (fun q => yk (ix5 b ⟨c.val - 8, h'⟩ q s l)) (Fin.ext (by first | rfl | simp))
    · rename_i h h'
      refine Eq.trans ?_ ((hv ⟨c.val - 8 - 8, by omega⟩ l).trans (proj_congr _ _ _ _ rfl (by show 4 * s.val + q.val = _; first | rfl | omega | (dsimp only; omega)) (show 8 * 2 + (c.val - 8 - 8) = c.val by omega) rfl))
      exact congrArg (fun q => yv (ix5 b ⟨c.val - 8 - 8, by omega⟩ q s l)) (Fin.ext (by first | rfl | simp))

end Cert.Reference4Ideal.Layer

end
-- ==== Proof.Pr4Claim.lean ====
/-
  The second projection call's claims: every block it writes back is the projection of `PrSpec.lean` there, the blocks
  cover the result, and the reference is the same projection of the same arguments.
-/
module

public import proofs.«01_k».proof.Defs
public import proofs.«01_k».proof.Proof.Pr4Val
public import proofs.«01_k».proof.Proof.Pr4Host
public import proofs.«01_k».proof.Proof.Pr4Ref
public import Idealize.ShloMosaic.Lib.Quiescent

@[expose] public section

set_option maxRecDepth 16384

noncomputable section

open Idealize.ShloMosaic Idealize.ShloMosaic.TcCoe Idealize.SL.Sem

namespace Cert.Kernel4Ideal.Pr

open Cert.Kernel4Ideal Cert.Kernel4Ideal.Gen Cert.FfnMath Cert.PrMath

variable (m : (ℓ : Loc nD τ sig) → Buf (Elt Ideal) ℓ) (c : Dev nD)

abbrev aH : Fin 8 → Fin 2048 → Fin 1024 → EReal := fun b t d => (m ((c : Thread nD τ).loc main_arg0) : Vec Ideal S8x2048x1024 .f32) (ix3 b t d)
abbrev aG : Fin 1024 → EReal := fun d => (m ((c : Thread nD τ).loc main_arg1) : Vec Ideal S1024 .f32) (ix1 d)
abbrev aW : Fin 1024 → Fin 9216 → EReal := fun d f => (m ((c : Thread nD τ).loc main_arg2) : Vec Ideal S1024x9216 .f32) (ix2 d f)

/-- The projection of the arguments, as the result array. -/
def G : Buf (Elt Ideal) ((c : Thread nD τ).loc main_v13) :=
  fun i : S8x24x4x512x128.Idx => proj 1 (aH m c) (aG m c) (aW m c) (i 0)
    ⟨4 * (i 3).val + (i 2).val, by have h3 : (i 3).val < 512 := (i 3).isLt; have h2 : (i 2).val < 4 := (i 2).isLt; omega⟩ (i 1) (i 4)

theorem xn_apply (x0 : Vec Ideal S1x512x1024 .f32) (x1 : Vec Ideal S1x1024 .f32) (r : Fin 512) (d : Fin 1024) :
    xnS x0 x1 (ix2 r d) = nrm (fun k => x0 (ix3 0 r k)) (fun k => x1 (ix2 0 k)) d := by
  unfold xnS
  pointwise [k0_pay2]
  rfl

theorem hi3 (t : Fin cfg0.N) : win0_3.index t 0 = (grid0.coords t 0).val ∧ win0_3.index t 1 = 0 ∧ win0_3.index t 2 = 0 ∧ win0_3.index t 3 = (grid0.coords t 1).val ∧ win0_3.index t 4 = 0 :=
  (by decide +kernel : ∀ t : Fin grid0.N, win0_3.index t 0 = (grid0.coords t 0).val ∧ win0_3.index t 1 = 0 ∧ win0_3.index t 2 = 0 ∧ win0_3.index t 3 = (grid0.coords t 1).val ∧ win0_3.index t 4 = 0) t

theorem xsize3 (t : Fin cfg0.N) : win0_3.xsize (grid0.coords t) 0 = 1 ∧ win0_3.xsize (grid0.coords t) 1 = 24 ∧ win0_3.xsize (grid0.coords t) 2 = 4 ∧ win0_3.xsize (grid0.coords t) 3 = 128 ∧ win0_3.xsize (grid0.coords t) 4 = 128 :=
  (by decide +kernel : ∀ t : Fin grid0.N, win0_3.xsize (grid0.coords t) 0 = 1 ∧ win0_3.xsize (grid0.coords t) 1 = 24 ∧ win0_3.xsize (grid0.coords t) 2 = 4 ∧ win0_3.xsize (grid0.coords t) 3 = 128 ∧ win0_3.xsize (grid0.coords t) 4 = 128) t

/-- A block of the product, of a point's blocks, is the projection there. -/
theorem prod_eq (t : Fin cfg0.N) (y : S1x24x4x128x128.Idx) (b : Fin 8) (row : Fin 2048) (k : Fin 24) (l : Fin 128)
    (hb : b.val = (grid0.coords t 0).val) (hr : row.val = 512 * (grid0.coords t 1).val + (4 * (y 3).val + (y 2).val))
    (hk : k.val = (y 1).val) (hl : l.val = (y 4).val) :
    prod (iblk m c 2 t) (xnS (iblk m c 0 t) (iblk m c 1 t)) y = proj 1 (aH m c) (aG m c) (aW m c) b row k l := by
  have h1 : (y 1).val < 24 := (y 1).isLt
  have h2 : (y 2).val < 4 := (y 2).isLt
  have h3 : (y 3).val < 128 := (y 3).isLt
  have h4 : (y 4).val < 128 := (y 4).isLt
  rw [proj_eq]
  unfold prod
  refine Finset.sum_congr rfl fun d _ => ?_
  refine congrArg₂ (· * ·) ?_ ?_
  · refine (xn_apply _ _ _ d).trans ?_
    refine congrArg₂ (fun v g => nrm v g d) (funext fun e => (blk0 m c t _ e).trans ?_) (funext fun e => blk1 m c t e)
    refine congrArg (m ((c : Thread nD τ).loc main_arg0) : Vec Ideal S8x2048x1024 .f32) ?_
    refine congrArg₂ (fun b r => ix3 b r e) (Fin.ext hb.symm) (Fin.ext ?_)
    exact hr.symm
  · refine (blk2 m c t d _).trans ?_
    refine congrArg₂ (· * ·) ?_ ?_
    · refine congrArg (fun f => (m ((c : Thread nD τ).loc main_arg2) : Vec Ideal S1024x9216 .f32) (ix2 d f)) (Fin.ext ?_)
      show 3072 * 1 + (128 * (y 1).val + (y 4).val) = 3072 * 1 + 128 * k.val + l.val
      omega
    · refine congrArg scl ?_
      show (128 * (y 1).val + (y 4).val) / 128 = k.val
      omega

/-- What a point writes back is the projection, read through its block. -/
theorem flushed_eq (t : Fin cfg0.N) :
    (dats m 0 c).flushed 3 t = ((cfg0.win 3).blk t).view.read (Elt Ideal) (G m c) := by
  rw [Value.flushed3_A, out_eq]
  have hi := hi3 t
  have hx := xsize3 t
  funext j
  rw [View.read_apply]
  have h0 : (j 0).val < 1 := lt_of_lt_of_eq (j 0).isLt hx.1
  have h1 : (j 1).val < 24 := lt_of_lt_of_eq (j 1).isLt hx.2.1
  have h2 : (j 2).val < 4 := lt_of_lt_of_eq (j 2).isLt hx.2.2.1
  have h3 : (j 3).val < 128 := lt_of_lt_of_eq (j 3).isLt hx.2.2.2.1
  have h4 : (j 4).val < 128 := lt_of_lt_of_eq (j 4).isLt hx.2.2.2.2
  refine Eq.trans ?_ (prod_eq m c t (ix5 0 ⟨(j 1).val, h1⟩ ⟨(j 2).val, h2⟩ ⟨(j 3).val, h3⟩ ⟨(j 4).val, h4⟩) _ _ _ _ ?_ ?_ ?_ ?_)
  · refine congrArg (prod (iblk m c 2 t) (xnS (iblk m c 0 t) (iblk m c 1 t))) (?_ : _ = (ix5 0 ⟨(j 1).val, h1⟩ ⟨(j 2).val, h2⟩ ⟨(j 3).val, h3⟩ ⟨(j 4).val, h4⟩ : S1x24x4x128x128.Idx))
    funext a
    apply Fin.ext
    match a with
    | ⟨0, _⟩ => show (j 0).val = 0; omega
    | ⟨1, _⟩ => rfl
    | ⟨2, _⟩ => rfl
    | ⟨3, _⟩ => rfl
    | ⟨4, _⟩ => rfl
  · show win0_3.index t 0 * 1 + 1 * (j 0).val = (grid0.coords t 0).val; rw [hi.1]; omega
  · show 4 * (win0_3.index t 3 * 128 + 1 * (j 3).val) + (win0_3.index t 2 * 4 + 1 * (j 2).val) = 512 * (grid0.coords t 1).val + (4 * (j 3).val + (j 2).val)
    rw [hi.2.2.2.1, hi.2.2.1]; omega
  · show win0_3.index t 1 * 24 + 1 * (j 1).val = (j 1).val; rw [hi.2.1]; omega
  · show win0_3.index t 4 * 128 + 1 * (j 4).val = (j 4).val; rw [hi.2.2.2.2]; omega

theorem exists_pt (b : Fin 8) (r : Fin 4) : ∃ t : Fin cfg0.N, (grid0.coords t 0).val = b.val ∧ (grid0.coords t 1).val = r.val :=
  (by decide +kernel : ∀ (b : Fin 8) (r : Fin 4), ∃ t : Fin grid0.N, (grid0.coords t 0).val = b.val ∧ (grid0.coords t 1).val = r.val) b r

theorem cover (i : S8x24x4x512x128.Idx) :
    ∃ t : Fin cfg0.N, (cfg0.win 3).flush t = true ∧ i ∈ ((cfg0.win 3).blk t).view.set := by
  have h0 : (i 0).val < 8 := (i 0).isLt
  have h1 : (i 1).val < 24 := (i 1).isLt
  have h2 : (i 2).val < 4 := (i 2).isLt
  have h3 : (i 3).val < 512 := (i 3).isLt
  have h4 : (i 4).val < 128 := (i 4).isLt
  obtain ⟨t, e0, e1⟩ := exists_pt ⟨(i 0).val, h0⟩ ⟨(i 3).val / 128, by omega⟩
  have hi := hi3 t
  have hx := xsize3 t
  refine ⟨t, flush0_3 t, ?_⟩
  show i ∈ ((View.whole main_v13).slice (win0_3.rect t)).set
  rw [View.set_slice_whole, Rect.mem_set_unit]
  dsimp only at e0 e1
  intro a
  match a with
  | ⟨0, _⟩ => show win0_3.index t 0 * 1 ≤ (i 0).val ∧ (i 0).val < win0_3.index t 0 * 1 + win0_3.xsize (grid0.coords t) 0
              rw [hi.1, hx.1]; omega
  | ⟨1, _⟩ => show win0_3.index t 1 * 24 ≤ (i 1).val ∧ (i 1).val < win0_3.index t 1 * 24 + win0_3.xsize (grid0.coords t) 1
              rw [hi.2.1, hx.2.1]; omega
  | ⟨2, _⟩ => show win0_3.index t 2 * 4 ≤ (i 2).val ∧ (i 2).val < win0_3.index t 2 * 4 + win0_3.xsize (grid0.coords t) 2
              rw [hi.2.2.1, hx.2.2.1]; omega
  | ⟨3, _⟩ => show win0_3.index t 3 * 128 ≤ (i 3).val ∧ (i 3).val < win0_3.index t 3 * 128 + win0_3.xsize (grid0.coords t) 3
              rw [hi.2.2.2.1, hx.2.2.2.1]; omega
  | ⟨4, _⟩ => show win0_3.index t 4 * 128 ≤ (i 4).val ∧ (i 4).val < win0_3.index t 4 * 128 + win0_3.xsize (grid0.coords t) 4
              rw [hi.2.2.2.2, hx.2.2.2.2]; omega

/-- The result array ends holding the projection. -/
theorem final : (dats m 0 c).arrAt 3 cfg0.N = G m c :=
  (dats m 0 c).arrAt_eq_of_cover 3 (G m c) (fun t _ => flushed_eq m c t) cover

end Cert.Kernel4Ideal.Pr

namespace Cert.Pr4Claim

open Cert.PrMath

instance : Cert.Kernel4Ideal.Facts := Cert.Kernel4Ideal.Gen.facts
instance : Cert.Reference4Ideal.Facts := Cert.Reference4Ideal.Gen.facts

/-- The reference runs; its arguments end unchanged, and it declares no semaphore. -/
theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The projection of equal arguments. -/
theorem reference_eq (m : (ℓ : Loc Cert.Kernel4Ideal.nD Cert.Kernel4Ideal.τ Cert.Kernel4Ideal.sig) → Buf (Elt Ideal) ℓ) (c : Dev Cert.Kernel4Ideal.nD)
    (x0 : Vec Ideal Cert.Reference4Ideal.S8x2048x1024 .f32) (x1 : Vec Ideal Cert.Reference4Ideal.S1024 .f32)
    (x2 : Vec Ideal Cert.Reference4Ideal.S1024x9216 .f32)
    (h0 : x0 = m ((c.tc : Thread Cert.Kernel4Ideal.nD Cert.Kernel4Ideal.τ).loc Cert.Kernel4Ideal.main_arg0))
    (h1 : x1 = m ((c.tc : Thread Cert.Kernel4Ideal.nD Cert.Kernel4Ideal.τ).loc Cert.Kernel4Ideal.main_arg1))
    (h2 : x2 = m ((c.tc : Thread Cert.Kernel4Ideal.nD Cert.Kernel4Ideal.τ).loc Cert.Kernel4Ideal.main_arg2)) :
    Cert.Reference4Ideal.Read.val_main_v41 (F := Ideal) x0 x1 x2 = Cert.Kernel4Ideal.Pr.G m c := by
  subst h0 h1 h2
  funext i
  have hi : i = ix5 (i 0) (i 1) (i 2) (i 3) (i 4) := by
    funext a
    match a with
    | ⟨0, _⟩ => rfl
    | ⟨1, _⟩ => rfl
    | ⟨2, _⟩ => rfl
    | ⟨3, _⟩ => rfl
    | ⟨4, _⟩ => rfl
  rw [hi]
  exact Cert.Reference4Ideal.Layer.v41_at _ _ _ (i 0) (i 1) (i 2) (i 3) (i 4)

theorem algebraic : Cert.algebraic_Kernel4Ideal_Reference4Ideal := by
  intro m g m' g' _ hagree
  refine ⟨fun c => Cert.Kernel4Ideal.Pr.G m c, ?_, ?_⟩
  · exact (θ_run Cert.Kernel4Ideal.defs _ _).mono
      (fun _ h c => ⟨(h c).1.trans (Cert.Kernel4Ideal.Pr.final m c), (h c).2⟩)
      (Cert.Kernel4Ideal.Value.run_blocks (F := Ideal) m g)
  · refine (θ_run Cert.Reference4Ideal.defs _ _).mono (fun _ h c => ⟨(h c).1.trans ?_, (h c).2⟩)
      (Cert.Reference4Ideal.Value.run (F := Ideal) m' g')
    rw [Cert.Reference4Ideal.Read.val_main_v41_eq]
    obtain ⟨a0, a1, a2⟩ := hagree c
    exact reference_eq m c _ _ _ a0 a1 a2

end Cert.Pr4Claim

end
-- ==== Proof.Pr5Val.lean ====
/-
  The third projection call of the dilated attention: what one grid point writes, its rows taken by residue class.
-/
module

public import proofs.«01_k».proof.Proof.Gen.Kernel5Ideal.Value
public import proofs.«01_k».proof.Proof.FfnStages
public import Idealize.ShloMosaic.Lib.Pointwise

@[expose] public section

set_option maxRecDepth 16384

noncomputable section

open Idealize.ShloMosaic Idealize.ShloMosaic.TcCoe Idealize.SL.Sem

namespace Cert.Kernel5Ideal.Pr

open Cert.Kernel5Ideal Cert.Kernel5Ideal.Gen Cert.FfnMath

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1024x3072 .bf16) (harg5 : arg5.IsWhole) (arg6 : Memref sig .tc .vmem S1x24x16x32x128 .bf16) (harg6 : arg6.IsWhole) (arg7 : Memref sig .tc .vmem S512x1024 .bf16) (harg7 : arg7.IsWhole) (arg8 : Memref sig .tc .vmem S24x512x128 .f32) (harg8 : arg8.IsWhole) (arg9 : Memref sig .tc .vmem S512x128 .f32) (harg9 : arg9.IsWhole) (hc0 : cond0_0 i)
    (x0 : Vec Ideal S1x512x1024 .f32) (x1 : Vec Ideal S1x1024 .f32) (x2 : Vec Ideal S1024x3072 .bf16)

/-- One block of the product: row 16 s + q of the block times the weights' columns, 128 of them at a time. -/
def prod (xn : Vec Ideal S512x1024 .bf16) (y : S1x24x16x32x128.Idx) : EReal :=
  ∑ d : Fin 1024, xn (ix2 ⟨16 * (y 3).val + (y 2).val, by have h3 : (y 3).val < 32 := (y 3).isLt; have h2 : (y 2).val < 16 := (y 2).isLt; omega⟩ d)
    * x2 (ix2 d ⟨128 * (y 1).val + (y 4).val, by have h1 : (y 1).val < 24 := (y 1).isLt; have h4 : (y 4).val < 128 := (y 4).isLt; omega⟩)

/-- 128 columns of the product of the rows with 512 columns of the weights, as they are put into the scratch buffer. -/
def tile (xn : Vec Ideal S512x1024 .bf16) (w : Vec Ideal S1024x512 .bf16) (o : ℕ) (hs : S512x512.Slices ![0, o] S512x128) :
    FVec Ideal S1x512x128 .f32 :=
  shapeCast S1x512x128 (extractStridedSlice S512x128 ![0, o] (k0_pay3 xn w) hs) shapeCasts_S512x128_S1x512x128

/-- A stored tile, from the rows read back. -/
def stored (v : Vec Ideal S32x128 .f32) : FVec Ideal S1x1x1x32x128 .bf16 :=
  shapeCast S1x1x1x32x128 (truncf .bf16 (v : FVec Ideal S32x128 .f32) bitsLt_bf16_f32) shapeCasts_S32x128_S1x1x1x32x128

theorem stored_apply (v : Vec Ideal S32x128 .f32) (r : Fin 32) (k : Fin 128) : stored v (ix5 0 0 0 r k) = v (ix2 r k) := by
  unfold stored
  rw [shapeCast_apply _ shapeCasts_S32x128_S1x1x1x32x128 _ (ix2 r k) (by rewrite [Shape.rowMajor_val_five, Shape.rowMajor_val_two]; show r.val * 128 + k.val = (((0 * 1 + 0) * 1 + 0) * 32 + r.val) * 128 + k.val; omega)]
  rfl

/-- The rows put into the second scratch buffer, from those read back from the first. -/
def mid (v : Vec Ideal S1x128x128 .f32) : FVec Ideal S128x128 .f32 :=
  shapeCast S128x128 (shapeCast S128x128 v shapeCasts_S1x128x128_S128x128 : FVec Ideal S128x128 .f32) shapeCasts_S128x128_S128x128

theorem mid_apply (v : Vec Ideal S1x128x128 .f32) (r k : Fin 128) : mid v (ix2 r k) = v (ix3 0 r k) := by
  unfold mid
  rw [shapeCast_apply _ shapeCasts_S128x128_S128x128 _ (ix2 r k) rfl]
  exact shapeCast_apply v shapeCasts_S1x128x128_S128x128 _ (ix3 0 r k) (by rewrite [Shape.rowMajor_val_three, Shape.rowMajor_val_two]; show (0 * 128 + r.val) * 128 + k.val = r.val * 128 + k.val; omega)

theorem pay3_apply (xn : Vec Ideal S512x1024 .bf16) (w : Vec Ideal S1024x512 .bf16) (r k : Fin 512) :
    k0_pay3 xn w (ix2 r k) = ∑ d : Fin 1024, xn (ix2 r d) * w (ix2 d k) := by
  pointwise [k0_pay3]

theorem tile_apply (xn : Vec Ideal S512x1024 .bf16) (w : Vec Ideal S1024x512 .bf16) (o : ℕ) (ho : o + 128 ≤ 512)
    (hs : S512x512.Slices ![0, o] S512x128) (r : Fin 512) (k : Fin 128) :
    tile xn w o hs (ix3 0 r k) = ∑ d : Fin 1024, xn (ix2 r d) * w (ix2 d ⟨o + k.val, by omega⟩) := by
  rw [← pay3_apply]
  unfold tile
  generalize k0_pay3 xn w = z
  rw [shapeCast_apply _ shapeCasts_S512x128_S1x512x128 _ (ix2 r k) (by rewrite [Shape.rowMajor_val_three, Shape.rowMajor_val_two]; show r.val * 128 + k.val = (0 * 512 + r.val) * 128 + k.val; omega)]
  exact extractStridedSlice_apply ![0, o] z hs (ix2 r k) _ (fun a => match a with
    | ⟨0, _⟩ => by show r.val = 0 + r.val; omega
    | ⟨1, _⟩ => rfl)

/-- Every fourth row of the block put last into the scratch buffer. -/
theorem back (v : View sig .tc .vmem S24x512x128 .f32) (P : FVec Ideal S1x512x128 .f32) (L : List (View.Piece (Elt Ideal) S24x512x128 .f32)) (k q : ℕ) (hq : q < 4)
    (h1 : ∀ a, (![k, 0, 0] : Fin 3 → Nat) a + S1x512x128.size a ≤ S24x512x128.size a)
    (h2 : ∀ a, S1x128x128.size a = 0 ∨ (![k, q, 0] : Fin 3 → Nat) a + (![1, 4, 1] : Fin 3 → Nat) a * (S1x128x128.size a - 1) < S24x512x128.size a)
    (r l : Fin 128) :
    (v.readCov (⟨Rect.unit (s := S24x512x128) ![k, 0, 0] S1x512x128.size h1, P⟩ :: L) ⟨![k, q, 0], S1x128x128.size, ![1, 4, 1], h2⟩ : Vec Ideal S1x128x128 .f32) (ix3 0 r l)
      = P (ix3 0 ⟨4 * r.val + q, by omega⟩ l) := by
  rw [View.readCov_eq_canon']
  refine Eq.trans (congrArg _ ?_) (View.canon_cons_emb (Rect.unit (s := S24x512x128) ![k, 0, 0] S1x512x128.size h1) P L (ix3 0 ⟨4 * r.val + q, by omega⟩ l))
  funext a
  apply Fin.ext
  match a with
  | ⟨0, _⟩ => rfl
  | ⟨1, _⟩ => show q + 4 * r.val = 0 + 1 * (4 * r.val + q); omega
  | ⟨2, _⟩ => rfl

/-- An index inside the block put last into the second scratch buffer, -/
theorem hit (P : FVec Ideal S128x128 .f32) (L : List (View.Piece (Elt Ideal) S512x128 .f32)) (o : ℕ)
    (h : ∀ a, (![o, 0] : Fin 2 → Nat) a + S128x128.size a ≤ S512x128.size a) (y : S512x128.Idx) (s l : Fin 128)
    (h0 : (y 0).val = o + s.val) (h1 : (y 1).val = l.val) :
    View.canon (⟨Rect.unit (s := S512x128) ![o, 0] S128x128.size h, P⟩ :: L) y = P (ix2 s l) := by
  refine Eq.trans (congrArg _ ?_) (View.canon_cons_emb (Rect.unit (s := S512x128) ![o, 0] S128x128.size h) P L (ix2 s l))
  funext a
  apply Fin.ext
  match a with
  | ⟨0, _⟩ => show (y 0).val = o + 1 * s.val; omega
  | ⟨1, _⟩ => show (y 1).val = 0 + 1 * l.val; omega

/-- and one before it. -/
theorem miss (P : FVec Ideal S128x128 .f32) (L : List (View.Piece (Elt Ideal) S512x128 .f32)) (o : ℕ)
    (h : ∀ a, (![o, 0] : Fin 2 → Nat) a + S128x128.size a ≤ S512x128.size a) (y : S512x128.Idx) (h0 : (y 0).val < o) :
    View.canon (⟨Rect.unit (s := S512x128) ![o, 0] S128x128.size h, P⟩ :: L) y = View.canon L y := by
  refine View.canon_cons_of_not_mem _ _ fun hm => ?_
  have hm' : y ∈ (Rect.unit (s := S512x128) ![o, 0] S128x128.size h).set := hm
  rw [Rect.mem_set_unit] at hm'
  have h2 : o ≤ (y 0).val := (hm' 0).1
  omega

/-- The four blocks of the second scratch buffer, put last. -/
theorem four (P3 P2 P1 P0 : FVec Ideal S128x128 .f32) (L : List (View.Piece (Elt Ideal) S512x128 .f32)) (a : ℕ) (ha : a < 4)
    (y : S512x128.Idx) (s l : Fin 128) (h0 : (y 0).val = 128 * a + s.val) (h1 : (y 1).val = l.val) :
    View.canon (⟨Rect.unit (s := S512x128) ![384, 0] S128x128.size inb_S512x128_S128x128_384_0, P3⟩ ::
      ⟨Rect.unit (s := S512x128) ![256, 0] S128x128.size inb_S512x128_S128x128_256_0, P2⟩ ::
      ⟨Rect.unit (s := S512x128) ![128, 0] S128x128.size inb_S512x128_S128x128_128_0, P1⟩ ::
      ⟨Rect.unit (s := S512x128) ![0, 0] S128x128.size inb_S512x128_S128x128_0_0, P0⟩ :: L) y
      = (if a = 3 then P3 else if a = 2 then P2 else if a = 1 then P1 else P0) (ix2 s l) := by
  have hs := s.isLt
  match a, ha with
  | 3, _ => exact hit P3 _ 384 _ y s l (by omega) h1
  | 2, _ =>
    rw [miss P3 _ 384 _ y (by omega)]
    exact hit P2 _ 256 _ y s l (by omega) h1
  | 1, _ =>
    rw [miss P3 _ 384 _ y (by omega), miss P2 _ 256 _ y (by omega)]
    exact hit P1 _ 128 _ y s l (by omega) h1
  | 0, _ =>
    rw [miss P3 _ 384 _ y (by omega), miss P2 _ 256 _ y (by omega), miss P1 _ 128 _ y (by omega)]
    exact hit P0 _ 0 _ y s l (by omega) h1

theorem inbO (k q : ℕ) (hk : k < 24) (hq : q < 16) : ∀ a, (![0, k, q, 0, 0] : Fin 5 → Nat) a + S1x1x1x32x128.size a ≤ S1x24x16x32x128.size a := fun a => by
  match a with
  | ⟨0, _⟩ => show 0 + 1 ≤ 1; omega
  | ⟨1, _⟩ => show k + 1 ≤ 24; omega
  | ⟨2, _⟩ => show q + 1 ≤ 16; omega
  | ⟨3, _⟩ => show 0 + 32 ≤ 32; omega
  | ⟨4, _⟩ => show 0 + 128 ≤ 128; omega

theorem inbR (k : ℕ) (hk : k < 24) : ∀ a, (![k, 0, 0] : Fin 3 → Nat) a + S1x512x128.size a ≤ S24x512x128.size a := fun a => by
  match a with
  | ⟨0, _⟩ => show k + 1 ≤ 24; omega
  | ⟨1, _⟩ => show 0 + 512 ≤ 512; omega
  | ⟨2, _⟩ => show 0 + 128 ≤ 128; omega

theorem inbS (k q : ℕ) (hk : k < 24) (hq : q < 4) : ∀ a, S1x128x128.size a = 0 ∨ (![k, q, 0] : Fin 3 → Nat) a + (![1, 4, 1] : Fin 3 → Nat) a * (S1x128x128.size a - 1) < S24x512x128.size a := fun a => by
  match a with
  | ⟨0, _⟩ => exact Or.inr (by show k + 1 * (1 - 1) < 24; omega)
  | ⟨1, _⟩ => exact Or.inr (by show q + 4 * (128 - 1) < 512; omega)
  | ⟨2, _⟩ => exact Or.inr (by show 0 + 1 * (128 - 1) < 128; omega)

/-- One stored tile: the rows 16 s + 4 j + a, from row 4 s + j of block `a` of the second scratch buffer. -/
theorem piece (v8 : View sig .tc .vmem S24x512x128 .f32) (v9 : View sig .tc .vmem S512x128 .f32)
    (L8 M8 : List (View.Piece (Elt Ideal) S24x512x128 .f32)) (L9 M9 : List (View.Piece (Elt Ideal) S512x128 .f32))
    (xn : Vec Ideal S512x1024 .bf16) (k p o : ℕ) (hk : k < 24) (hpo : 128 * k = p + o)
    (h2 : ∀ a, (![0, p] : Fin 2 → Nat) a + S1024x512.size a ≤ S1024x3072.size a)
    (hs : S512x512.Slices ![0, o] S512x128)
    (w : Vec Ideal S1024x512 .bf16) (hw : w = View.ld x2 (Rect.unit ![0, p] S1024x512.size h2))
    (h8 : M8 = ⟨Rect.unit (s := S24x512x128) ![k, 0, 0] S1x512x128.size (inbR k hk), tile xn w o hs⟩ :: L8)
    (h9 : M9 = ⟨Rect.unit (s := S512x128) ![384, 0] S128x128.size inb_S512x128_S128x128_384_0, mid (v8.readCov M8 ⟨![k, 3, 0], S1x128x128.size, ![1, 4, 1], inbS k 3 hk (by decide)⟩)⟩ ::
      ⟨Rect.unit (s := S512x128) ![256, 0] S128x128.size inb_S512x128_S128x128_256_0, mid (v8.readCov M8 ⟨![k, 2, 0], S1x128x128.size, ![1, 4, 1], inbS k 2 hk (by decide)⟩)⟩ ::
      ⟨Rect.unit (s := S512x128) ![128, 0] S128x128.size inb_S512x128_S128x128_128_0, mid (v8.readCov M8 ⟨![k, 1, 0], S1x128x128.size, ![1, 4, 1], inbS k 1 hk (by decide)⟩)⟩ ::
      ⟨Rect.unit (s := S512x128) ![0, 0] S128x128.size inb_S512x128_S128x128_0_0, mid (v8.readCov M8 ⟨![k, 0, 0], S1x128x128.size, ![1, 4, 1], inbS k 0 hk (by decide)⟩)⟩ :: L9)
    (a j t q : ℕ) (ha : a < 4) (hj : j < 4) (ht : t = 128 * a + j) (hq : q = 4 * j + a) (hq16 : q < 16)
    (h3 : ∀ a, S32x128.size a = 0 ∨ (![t, 0] : Fin 2 → Nat) a + (![4, 1] : Fin 2 → Nat) a * (S32x128.size a - 1) < S512x128.size a)
    (x : S1x1x1x32x128.Idx) :
    stored (v9.readCov M9 ⟨![t, 0], S32x128.size, ![4, 1], h3⟩) x
      = prod x2 xn ((Rect.unit (s := S1x24x16x32x128) ![0, k, q, 0, 0] S1x1x1x32x128.size (inbO k q hk hq16)).emb x) := by
  have ho : o + 128 ≤ 512 := by
    have := hs.2 1
    exact this
  have hx : x = ix5 0 0 0 (x 3) (x 4) := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => rfl
  have hx3 : (x 3).val < 32 := (x 3).isLt
  have e8 : ∀ (b : ℕ) (hb : b < 4) (r l : Fin 128), (v8.readCov M8 ⟨![k, b, 0], S1x128x128.size, ![1, 4, 1], inbS k b hk hb⟩ : Vec Ideal S1x128x128 .f32) (ix3 0 r l)
      = ∑ d : Fin 1024, xn (ix2 ⟨4 * r.val + b, by omega⟩ d) * w (ix2 d ⟨o + l.val, by omega⟩) := fun b hb r l => by
    rw [h8]
    exact (back v8 _ L8 k b hb (inbR k hk) (inbS k b hk hb) r l).trans (tile_apply xn w o ho hs _ l)
  have e9 : (v9.readCov M9 ⟨![t, 0], S32x128.size, ![4, 1], h3⟩ : Vec Ideal S32x128 .f32) (ix2 (x 3) (x 4))
      = ∑ d : Fin 1024, xn (ix2 ⟨16 * (x 3).val + q, by omega⟩ d) * w (ix2 d ⟨o + (x 4).val, by have h4 : (x 4).val < 128 := (x 4).isLt; omega⟩) := by
    rw [View.readCov_eq_canon', h9]
    refine (four _ _ _ _ L9 a ha _ ⟨4 * (x 3).val + j, by omega⟩ (x 4) (by show t + 4 * (x 3).val = 128 * a + (4 * (x 3).val + j); omega) (by show 0 + 1 * (x 4).val = (x 4).val; omega)).trans ?_
    have fin : ∀ (b : ℕ) (hb : b < 4), a = b → mid (v8.readCov M8 ⟨![k, b, 0], S1x128x128.size, ![1, 4, 1], inbS k b hk hb⟩) (ix2 ⟨4 * (x 3).val + j, by omega⟩ (x 4))
        = ∑ d : Fin 1024, xn (ix2 ⟨16 * (x 3).val + q, by omega⟩ d) * w (ix2 d ⟨o + (x 4).val, by have h4 : (x 4).val < 128 := (x 4).isLt; omega⟩) := fun b hb hab => by
      refine (mid_apply _ _ _).trans ((e8 b hb _ _).trans ?_)
      refine Finset.sum_congr rfl fun d _ => congrArg (fun r => xn (ix2 r d) * w (ix2 d ⟨o + (x 4).val, by have h4 : (x 4).val < 128 := (x 4).isLt; omega⟩)) (Fin.ext ?_)
      show 4 * (4 * (x 3).val + j) + b = 16 * (x 3).val + q
      omega
    obtain h | h | h | h : a = 3 ∨ a = 2 ∨ a = 1 ∨ a = 0 := by omega
    · rw [if_pos h]
      exact fin 3 (by decide) h
    · rw [if_neg (by omega), if_pos h]
      exact fin 2 (by decide) h
    · rw [if_neg (by omega), if_neg (by omega), if_pos h]
      exact fin 1 (by decide) h
    · rw [if_neg (by omega), if_neg (by omega), if_neg (by omega)]
      exact fin 0 (by decide) h
  rw [hx]
  refine (stored_apply _ (x 3) (x 4)).trans (e9.trans ?_)
  rw [hw]
  unfold prod
  refine Finset.sum_congr rfl fun d _ => ?_
  congr 2
  · apply congrArg (fun r : Fin 512 => ix2 r d)
    apply Fin.ext
    show 16 * (x 3).val + q = 16 * (0 + 1 * (x 3).val) + (q + 1 * 0)
    omega
  · refine congrArg x2 (funext fun a => Fin.ext ?_)
    match a with
    | ⟨0, _⟩ => show 0 + 1 * d.val = d.val; omega
    | ⟨1, _⟩ => show p + 1 * (o + (x 4).val) = 128 * (k + 1 * 0) + (0 + 1 * (x 4).val); omega

/-- The sixteen tiles of one block of columns. -/
theorem block (v8 : View sig .tc .vmem S24x512x128 .f32) (v9 : View sig .tc .vmem S512x128 .f32)
    (L8 M8 : List (View.Piece (Elt Ideal) S24x512x128 .f32)) (L9 M9 : List (View.Piece (Elt Ideal) S512x128 .f32))
    (xn : Vec Ideal S512x1024 .bf16) (k p o : ℕ) (hk : k < 24) (hpo : 128 * k = p + o)
    (h2 : ∀ a, (![0, p] : Fin 2 → Nat) a + S1024x512.size a ≤ S1024x3072.size a)
    (hs : S512x512.Slices ![0, o] S512x128)
    (w : Vec Ideal S1024x512 .bf16) (hw : w = View.ld x2 (Rect.unit ![0, p] S1024x512.size h2))
    (h8 : M8 = ⟨Rect.unit (s := S24x512x128) ![k, 0, 0] S1x512x128.size (inbR k hk), tile xn w o hs⟩ :: L8)
    (h9 : M9 = ⟨Rect.unit (s := S512x128) ![384, 0] S128x128.size inb_S512x128_S128x128_384_0, mid (v8.readCov M8 ⟨![k, 3, 0], S1x128x128.size, ![1, 4, 1], inbS k 3 hk (by decide)⟩)⟩ ::
      ⟨Rect.unit (s := S512x128) ![256, 0] S128x128.size inb_S512x128_S128x128_256_0, mid (v8.readCov M8 ⟨![k, 2, 0], S1x128x128.size, ![1, 4, 1], inbS k 2 hk (by decide)⟩)⟩ ::
      ⟨Rect.unit (s := S512x128) ![128, 0] S128x128.size inb_S512x128_S128x128_128_0, mid (v8.readCov M8 ⟨![k, 1, 0], S1x128x128.size, ![1, 4, 1], inbS k 1 hk (by decide)⟩)⟩ ::
      ⟨Rect.unit (s := S512x128) ![0, 0] S128x128.size inb_S512x128_S128x128_0_0, mid (v8.readCov M8 ⟨![k, 0, 0], S1x128x128.size, ![1, 4, 1], inbS k 0 hk (by decide)⟩)⟩ :: L9)
    (R : List (View.Piece (Elt Ideal) S1x24x16x32x128 .bf16)) (hR : ∀ P ∈ R, ∀ x, P.2 x = prod x2 xn (P.1.emb x)) :
    ∀ P ∈ (
      ⟨Rect.unit (s := S1x24x16x32x128) ![0, k, 15, 0, 0] S1x1x1x32x128.size (inbO k 15 hk (by decide)), stored (v9.readCov M9 ⟨![387, 0], S32x128.size, ![4, 1], inb_S512x128_S32x128_387_0_s_4_1⟩)⟩ ::
      ⟨Rect.unit (s := S1x24x16x32x128) ![0, k, 11, 0, 0] S1x1x1x32x128.size (inbO k 11 hk (by decide)), stored (v9.readCov M9 ⟨![386, 0], S32x128.size, ![4, 1], inb_S512x128_S32x128_386_0_s_4_1⟩)⟩ ::
      ⟨Rect.unit (s := S1x24x16x32x128) ![0, k, 7, 0, 0] S1x1x1x32x128.size (inbO k 7 hk (by decide)), stored (v9.readCov M9 ⟨![385, 0], S32x128.size, ![4, 1], inb_S512x128_S32x128_385_0_s_4_1⟩)⟩ ::
      ⟨Rect.unit (s := S1x24x16x32x128) ![0, k, 3, 0, 0] S1x1x1x32x128.size (inbO k 3 hk (by decide)), stored (v9.readCov M9 ⟨![384, 0], S32x128.size, ![4, 1], inb_S512x128_S32x128_384_0_s_4_1⟩)⟩ ::
      ⟨Rect.unit (s := S1x24x16x32x128) ![0, k, 14, 0, 0] S1x1x1x32x128.size (inbO k 14 hk (by decide)), stored (v9.readCov M9 ⟨![259, 0], S32x128.size, ![4, 1], inb_S512x128_S32x128_259_0_s_4_1⟩)⟩ ::
      ⟨Rect.unit (s := S1x24x16x32x128) ![0, k, 10, 0, 0] S1x1x1x32x128.size (inbO k 10 hk (by decide)), stored (v9.readCov M9 ⟨![258, 0], S32x128.size, ![4, 1], inb_S512x128_S32x128_258_0_s_4_1⟩)⟩ ::
      ⟨Rect.unit (s := S1x24x16x32x128) ![0, k, 6, 0, 0] S1x1x1x32x128.size (inbO k 6 hk (by decide)), stored (v9.readCov M9 ⟨![257, 0], S32x128.size, ![4, 1], inb_S512x128_S32x128_257_0_s_4_1⟩)⟩ ::
      ⟨Rect.unit (s := S1x24x16x32x128) ![0, k, 2, 0, 0] S1x1x1x32x128.size (inbO k 2 hk (by decide)), stored (v9.readCov M9 ⟨![256, 0], S32x128.size, ![4, 1], inb_S512x128_S32x128_256_0_s_4_1⟩)⟩ ::
      ⟨Rect.unit (s := S1x24x16x32x128) ![0, k, 13, 0, 0] S1x1x1x32x128.size (inbO k 13 hk (by decide)), stored (v9.readCov M9 ⟨![131, 0], S32x128.size, ![4, 1], inb_S512x128_S32x128_131_0_s_4_1⟩)⟩ ::
      ⟨Rect.unit (s := S1x24x16x32x128) ![0, k, 9, 0, 0] S1x1x1x32x128.size (inbO k 9 hk (by decide)), stored (v9.readCov M9 ⟨![130, 0], S32x128.size, ![4, 1], inb_S512x128_S32x128_130_0_s_4_1⟩)⟩ ::
      ⟨Rect.unit (s := S1x24x16x32x128) ![0, k, 5, 0, 0] S1x1x1x32x128.size (inbO k 5 hk (by decide)), stored (v9.readCov M9 ⟨![129, 0], S32x128.size, ![4, 1], inb_S512x128_S32x128_129_0_s_4_1⟩)⟩ ::
      ⟨Rect.unit (s := S1x24x16x32x128) ![0, k, 1, 0, 0] S1x1x1x32x128.size (inbO k 1 hk (by decide)), stored (v9.readCov M9 ⟨![128, 0], S32x128.size, ![4, 1], inb_S512x128_S32x128_128_0_s_4_1⟩)⟩ ::
      ⟨Rect.unit (s := S1x24x16x32x128) ![0, k, 12, 0, 0] S1x1x1x32x128.size (inbO k 12 hk (by decide)), stored (v9.readCov M9 ⟨![3, 0], S32x128.size, ![4, 1], inb_S512x128_S32x128_3_0_s_4_1⟩)⟩ ::
      ⟨Rect.unit (s := S1x24x16x32x128) ![0, k, 8, 0, 0] S1x1x1x32x128.size (inbO k 8 hk (by decide)), stored (v9.readCov M9 ⟨![2, 0], S32x128.size, ![4, 1], inb_S512x128_S32x128_2_0_s_4_1⟩)⟩ ::
      ⟨Rect.unit (s := S1x24x16x32x128) ![0, k, 4, 0, 0] S1x1x1x32x128.size (inbO k 4 hk (by decide)), stored (v9.readCov M9 ⟨![1, 0], S32x128.size, ![4, 1], inb_S512x128_S32x128_1_0_s_4_1⟩)⟩ ::
      ⟨Rect.unit (s := S1x24x16x32x128) ![0, k, 0, 0, 0] S1x1x1x32x128.size (inbO k 0 hk (by decide)), stored (v9.readCov M9 ⟨![0, 0], S32x128.size, ![4, 1], inb_S512x128_S32x128_0_0_s_4_1⟩)⟩ :: R : List (View.Piece (Elt Ideal) S1x24x16x32x128 .bf16)), ∀ x, P.2 x = prod x2 xn (P.1.emb x) := by
  refine List.forall_mem_cons.2 ⟨fun x => piece x2 v8 v9 L8 M8 L9 M9 xn k p o hk hpo h2 hs w hw h8 h9 3 3 387 15 (by decide) (by decide) rfl rfl (by decide) _ x, ?_⟩
  refine List.forall_mem_cons.2 ⟨fun x => piece x2 v8 v9 L8 M8 L9 M9 xn k p o hk hpo h2 hs w hw h8 h9 3 2 386 11 (by decide) (by decide) rfl rfl (by decide) _ x, ?_⟩
  refine List.forall_mem_cons.2 ⟨fun x => piece x2 v8 v9 L8 M8 L9 M9 xn k p o hk hpo h2 hs w hw h8 h9 3 1 385 7 (by decide) (by decide) rfl rfl (by decide) _ x, ?_⟩
  refine List.forall_mem_cons.2 ⟨fun x => piece x2 v8 v9 L8 M8 L9 M9 xn k p o hk hpo h2 hs w hw h8 h9 3 0 384 3 (by decide) (by decide) rfl rfl (by decide) _ x, ?_⟩
  refine List.forall_mem_cons.2 ⟨fun x => piece x2 v8 v9 L8 M8 L9 M9 xn k p o hk hpo h2 hs w hw h8 h9 2 3 259 14 (by decide) (by decide) rfl rfl (by decide) _ x, ?_⟩
  refine List.forall_mem_cons.2 ⟨fun x => piece x2 v8 v9 L8 M8 L9 M9 xn k p o hk hpo h2 hs w hw h8 h9 2 2 258 10 (by decide) (by decide) rfl rfl (by decide) _ x, ?_⟩
  refine List.forall_mem_cons.2 ⟨fun x => piece x2 v8 v9 L8 M8 L9 M9 xn k p o hk hpo h2 hs w hw h8 h9 2 1 257 6 (by decide) (by decide) rfl rfl (by decide) _ x, ?_⟩
  refine List.forall_mem_cons.2 ⟨fun x => piece x2 v8 v9 L8 M8 L9 M9 xn k p o hk hpo h2 hs w hw h8 h9 2 0 256 2 (by decide) (by decide) rfl rfl (by decide) _ x, ?_⟩
  refine List.forall_mem_cons.2 ⟨fun x => piece x2 v8 v9 L8 M8 L9 M9 xn k p o hk hpo h2 hs w hw h8 h9 1 3 131 13 (by decide) (by decide) rfl rfl (by decide) _ x, ?_⟩
  refine List.forall_mem_cons.2 ⟨fun x => piece x2 v8 v9 L8 M8 L9 M9 xn k p o hk hpo h2 hs w hw h8 h9 1 2 130 9 (by decide) (by decide) rfl rfl (by decide) _ x, ?_⟩
  refine List.forall_mem_cons.2 ⟨fun x => piece x2 v8 v9 L8 M8 L9 M9 xn k p o hk hpo h2 hs w hw h8 h9 1 1 129 5 (by decide) (by decide) rfl rfl (by decide) _ x, ?_⟩
  refine List.forall_mem_cons.2 ⟨fun x => piece x2 v8 v9 L8 M8 L9 M9 xn k p o hk hpo h2 hs w hw h8 h9 1 0 128 1 (by decide) (by decide) rfl rfl (by decide) _ x, ?_⟩
  refine List.forall_mem_cons.2 ⟨fun x => piece x2 v8 v9 L8 M8 L9 M9 xn k p o hk hpo h2 hs w hw h8 h9 0 3 3 12 (by decide) (by decide) rfl rfl (by decide) _ x, ?_⟩
  refine List.forall_mem_cons.2 ⟨fun x => piece x2 v8 v9 L8 M8 L9 M9 xn k p o hk hpo h2 hs w hw h8 h9 0 2 2 8 (by decide) (by decide) rfl rfl (by decide) _ x, ?_⟩
  refine List.forall_mem_cons.2 ⟨fun x => piece x2 v8 v9 L8 M8 L9 M9 xn k p o hk hpo h2 hs w hw h8 h9 0 1 1 4 (by decide) (by decide) rfl rfl (by decide) _ x, ?_⟩
  refine List.forall_mem_cons.2 ⟨fun x => piece x2 v8 v9 L8 M8 L9 M9 xn k p o hk hpo h2 hs w hw h8 h9 0 0 0 0 (by decide) (by decide) rfl rfl (by decide) _ x, ?_⟩
  exact hR

/-- The normalised rows held in the scratch buffer. -/
def xnS : Vec Ideal S512x1024 .bf16 := k0_pay2 x0 x1

theorem v3_eq : kernelRun0_A.sl.v3 (F := Ideal) c arg3 harg3 arg4 harg4 arg7 x0 x1 = xnS x0 x1 := by
  unfold kernelRun0_A.sl.v3 kernelRun0_A.sl.HS0_1
  simp only [View.readCov_eq_canon', View.readAt_eq_ld, harg3.read_unread, harg4.read_unread,
    View.ld_unit_zero (S := S1x512x1024) hz3, View.ld_unit_zero (S := S1x1024) hz2, View.ld_unit_zero (S := S512x1024) hz2,
    View.canon_unit_zero (S := S512x1024) hz2]
  refine funext fun j => congrArg (k0_pay2 x0 x1) (funext fun a => Fin.ext ?_)
  match a with
  | ⟨0, _⟩ => show 0 + 1 * (j 0).val = (j 0).val; omega
  | ⟨1, _⟩ => show 0 + 1 * (j 1).val = (j 1).val; omega

/-- 512 columns of the weights, as they are read from their block. -/
theorem w_eq (p : ℕ) (h2 : ∀ a, (![0, p] : Fin 2 → Nat) a + S1024x512.size a ≤ S1024x3072.size a) :
    arg5.view.readAt (Elt Ideal) (Rect.unit (s := S1024x3072) ![0, p] S1024x512.size h2).toLoadRect (harg5.unread x2)
      = View.ld x2 (Rect.unit ![0, p] S1024x512.size h2) := by
  simp only [View.readAt_eq_ld, harg5.read_unread]

set_option maxHeartbeats 4000000 in
theorem out_eq :
    out0_A_3 c i arg3 harg3 arg4 harg4 arg5 harg5 arg6 harg6 arg7 harg7 arg8 harg8 arg9 harg9 hc0 x0 x1 x2 = prod x2 (xnS x0 x1) := by
  funext y
  unfold out0_A_3
  rw [View.read_writes_eq_canon _ _ _ (cover0_A_3 c i arg3 harg3 arg4 harg4 arg5 harg5 arg6 harg6 arg7 harg7 arg8 harg8 arg9 harg9 hc0 x0 x1 x2)]
  refine View.canon_apply_of_pieces (prod x2 (xnS x0 x1)) _ ?_ y (cover0_A_3 c i arg3 harg3 arg4 harg4 arg5 harg5 arg6 harg6 arg7 harg7 arg8 harg8 arg9 harg9 hc0 x0 x1 x2 y)
  rw [← v3_eq c arg3 harg3 arg4 harg4 arg7]
  unfold kernelRun0_A
  dsimp only
  refine block x2 arg8.view arg9.view (kernelRun0_A.sl.HS1_23 c arg3 harg3 arg4 harg4 arg5 harg5 arg7 x0 x1 x2) (kernelRun0_A.sl.HS1_24 c arg3 harg3 arg4 harg4 arg5 harg5 arg7 x0 x1 x2) (kernelRun0_A.sl.HS2_92 c arg3 harg3 arg4 harg4 arg5 harg5 arg7 arg8 x0 x1 x2) (kernelRun0_A.sl.HS2_96 c arg3 harg3 arg4 harg4 arg5 harg5 arg7 arg8 x0 x1 x2)
    (kernelRun0_A.sl.v3 c arg3 harg3 arg4 harg4 arg7 x0 x1) 23 2560 384 (by decide) rfl inb_S1024x3072_S1024x512_0_2560 slices_S512x512_o0_384_S512x128 _ (w_eq arg5 harg5 x2 2560 _) rfl rfl _ ?_
  refine block x2 arg8.view arg9.view (kernelRun0_A.sl.HS1_22 c arg3 harg3 arg4 harg4 arg5 harg5 arg7 x0 x1 x2) (kernelRun0_A.sl.HS1_23 c arg3 harg3 arg4 harg4 arg5 harg5 arg7 x0 x1 x2) (kernelRun0_A.sl.HS2_88 c arg3 harg3 arg4 harg4 arg5 harg5 arg7 arg8 x0 x1 x2) (kernelRun0_A.sl.HS2_92 c arg3 harg3 arg4 harg4 arg5 harg5 arg7 arg8 x0 x1 x2)
    (kernelRun0_A.sl.v3 c arg3 harg3 arg4 harg4 arg7 x0 x1) 22 2560 256 (by decide) rfl inb_S1024x3072_S1024x512_0_2560 slices_S512x512_o0_256_S512x128 _ (w_eq arg5 harg5 x2 2560 _) rfl rfl _ ?_
  refine block x2 arg8.view arg9.view (kernelRun0_A.sl.HS1_21 c arg3 harg3 arg4 harg4 arg5 harg5 arg7 x0 x1 x2) (kernelRun0_A.sl.HS1_22 c arg3 harg3 arg4 harg4 arg5 harg5 arg7 x0 x1 x2) (kernelRun0_A.sl.HS2_84 c arg3 harg3 arg4 harg4 arg5 harg5 arg7 arg8 x0 x1 x2) (kernelRun0_A.sl.HS2_88 c arg3 harg3 arg4 harg4 arg5 harg5 arg7 arg8 x0 x1 x2)
    (kernelRun0_A.sl.v3 c arg3 harg3 arg4 harg4 arg7 x0 x1) 21 2560 128 (by decide) rfl inb_S1024x3072_S1024x512_0_2560 slices_S512x512_o0_128_S512x128 _ (w_eq arg5 harg5 x2 2560 _) rfl rfl _ ?_
  refine block x2 arg8.view arg9.view (kernelRun0_A.sl.HS1_20 c arg3 harg3 arg4 harg4 arg5 harg5 arg7 x0 x1 x2) (kernelRun0_A.sl.HS1_21 c arg3 harg3 arg4 harg4 arg5 harg5 arg7 x0 x1 x2) (kernelRun0_A.sl.HS2_80 c arg3 harg3 arg4 harg4 arg5 harg5 arg7 arg8 x0 x1 x2) (kernelRun0_A.sl.HS2_84 c arg3 harg3 arg4 harg4 arg5 harg5 arg7 arg8 x0 x1 x2)
    (kernelRun0_A.sl.v3 c arg3 harg3 arg4 harg4 arg7 x0 x1) 20 2560 0 (by decide) rfl inb_S1024x3072_S1024x512_0_2560 slices_S512x512_o0_0_S512x128 _ (w_eq arg5 harg5 x2 2560 _) rfl rfl _ ?_
  refine block x2 arg8.view arg9.view (kernelRun0_A.sl.HS1_19 c arg3 harg3 arg4 harg4 arg5 harg5 arg7 x0 x1 x2) (kernelRun0_A.sl.HS1_20 c arg3 harg3 arg4 harg4 arg5 harg5 arg7 x0 x1 x2) (kernelRun0_A.sl.HS2_76 c arg3 harg3 arg4 harg4 arg5 harg5 arg7 arg8 x0 x1 x2) (kernelRun0_A.sl.HS2_80 c arg3 harg3 arg4 harg4 arg5 harg5 arg7 arg8 x0 x1 x2)
    (kernelRun0_A.sl.v3 c arg3 harg3 arg4 harg4 arg7 x0 x1) 19 2048 384 (by decide) rfl inb_S1024x3072_S1024x512_0_2048 slices_S512x512_o0_384_S512x128 _ (w_eq arg5 harg5 x2 2048 _) rfl rfl _ ?_
  refine block x2 arg8.view arg9.view (kernelRun0_A.sl.HS1_18 c arg3 harg3 arg4 harg4 arg5 harg5 arg7 x0 x1 x2) (kernelRun0_A.sl.HS1_19 c arg3 harg3 arg4 harg4 arg5 harg5 arg7 x0 x1 x2) (kernelRun0_A.sl.HS2_72 c arg3 harg3 arg4 harg4 arg5 harg5 arg7 arg8 x0 x1 x2) (kernelRun0_A.sl.HS2_76 c arg3 harg3 arg4 harg4 arg5 harg5 arg7 arg8 x0 x1 x2)
    (kernelRun0_A.sl.v3 c arg3 harg3 arg4 harg4 arg7 x0 x1) 18 2048 256 (by decide) rfl inb_S1024x3072_S1024x512_0_2048 slices_S512x512_o0_256_S512x128 _ (w_eq arg5 harg5 x2 2048 _) rfl rfl _ ?_
  refine block x2 arg8.view arg9.view (kernelRun0_A.sl.HS1_17 c arg3 harg3 arg4 harg4 arg5 harg5 arg7 x0 x1 x2) (kernelRun0_A.sl.HS1_18 c arg3 harg3 arg4 harg4 arg5 harg5 arg7 x0 x1 x2) (kernelRun0_A.sl.HS2_68 c arg3 harg3 arg4 harg4 arg5 harg5 arg7 arg8 x0 x1 x2) (kernelRun0_A.sl.HS2_72 c arg3 harg3 arg4 harg4 arg5 harg5 arg7 arg8 x0 x1 x2)
    (kernelRun0_A.sl.v3 c arg3 harg3 arg4 harg4 arg7 x0 x1) 17 2048 128 (by decide) rfl inb_S1024x3072_S1024x512_0_2048 slices_S512x512_o0_128_S512x128 _ (w_eq arg5 harg5 x2 2048 _) rfl rfl _ ?_
  refine block x2 arg8.view arg9.view (kernelRun0_A.sl.HS1_16 c arg3 harg3 arg4 harg4 arg5 harg5 arg7 x0 x1 x2) (kernelRun0_A.sl.HS1_17 c arg3 harg3 arg4 harg4 arg5 harg5 arg7 x0 x1 x2) (kernelRun0_A.sl.HS2_64 c arg3 harg3 arg4 harg4 arg5 harg5 arg7 arg8 x0 x1 x2) (kernelRun0_A.sl.HS2_68 c arg3 harg3 arg4 harg4 arg5 harg5 arg7 arg8 x0 x1 x2)
    (kernelRun0_A.sl.v3 c arg3 harg3 arg4 harg4 arg7 x0 x1) 16 2048 0 (by decide) rfl inb_S1024x3072_S1024x512_0_2048 slices_S512x512_o0_0_S512x128 _ (w_eq arg5 harg5 x2 2048 _) rfl rfl _ ?_
  refine block x2 arg8.view arg9.view (kernelRun0_A.sl.HS1_15 c arg3 harg3 arg4 harg4 arg5 harg5 arg7 x0 x1 x2) (kernelRun0_A.sl.HS1_16 c arg3 harg3 arg4 harg4 arg5 harg5 arg7 x0 x1 x2) (kernelRun0_A.sl.HS2_60 c arg3 harg3 arg4 harg4 arg5 harg5 arg7 arg8 x0 x1 x2) (kernelRun0_A.sl.HS2_64 c arg3 harg3 arg4 harg4 arg5 harg5 arg7 arg8 x0 x1 x2)
    (kernelRun0_A.sl.v3 c arg3 harg3 arg4 harg4 arg7 x0 x1) 15 1536 384 (by decide) rfl inb_S1024x3072_S1024x512_0_1536 slices_S512x512_o0_384_S512x128 _ (w_eq arg5 harg5 x2 1536 _) rfl rfl _ ?_
  refine block x2 arg8.view arg9.view (kernelRun0_A.sl.HS1_14 c arg3 harg3 arg4 harg4 arg5 harg5 arg7 x0 x1 x2) (kernelRun0_A.sl.HS1_15 c arg3 harg3 arg4 harg4 arg5 harg5 arg7 x0 x1 x2) (kernelRun0_A.sl.HS2_56 c arg3 harg3 arg4 harg4 arg5 harg5 arg7 arg8 x0 x1 x2) (kernelRun0_A.sl.HS2_60 c arg3 harg3 arg4 harg4 arg5 harg5 arg7 arg8 x0 x1 x2)
    (kernelRun0_A.sl.v3 c arg3 harg3 arg4 harg4 arg7 x0 x1) 14 1536 256 (by decide) rfl inb_S1024x3072_S1024x512_0_1536 slices_S512x512_o0_256_S512x128 _ (w_eq arg5 harg5 x2 1536 _) rfl rfl _ ?_
  refine block x2 arg8.view arg9.view (kernelRun0_A.sl.HS1_13 c arg3 harg3 arg4 harg4 arg5 harg5 arg7 x0 x1 x2) (kernelRun0_A.sl.HS1_14 c arg3 harg3 arg4 harg4 arg5 harg5 arg7 x0 x1 x2) (kernelRun0_A.sl.HS2_52 c arg3 harg3 arg4 harg4 arg5 harg5 arg7 arg8 x0 x1 x2) (kernelRun0_A.sl.HS2_56 c arg3 harg3 arg4 harg4 arg5 harg5 arg7 arg8 x0 x1 x2)
    (kernelRun0_A.sl.v3 c arg3 harg3 arg4 harg4 arg7 x0 x1) 13 1536 128 (by decide) rfl inb_S1024x3072_S1024x512_0_1536 slices_S512x512_o0_128_S512x128 _ (w_eq arg5 harg5 x2 1536 _) rfl rfl _ ?_
  refine block x2 arg8.view arg9.view (kernelRun0_A.sl.HS1_12 c arg3 harg3 arg4 harg4 arg5 harg5 arg7 x0 x1 x2) (kernelRun0_A.sl.HS1_13 c arg3 harg3 arg4 harg4 arg5 harg5 arg7 x0 x1 x2) (kernelRun0_A.sl.HS2_48 c arg3 harg3 arg4 harg4 arg5 harg5 arg7 arg8 x0 x1 x2) (kernelRun0_A.sl.HS2_52 c arg3 harg3 arg4 harg4 arg5 harg5 arg7 arg8 x0 x1 x2)
    (kernelRun0_A.sl.v3 c arg3 harg3 arg4 harg4 arg7 x0 x1) 12 1536 0 (by decide) rfl inb_S1024x3072_S1024x512_0_1536 slices_S512x512_o0_0_S512x128 _ (w_eq arg5 harg5 x2 1536 _) rfl rfl _ ?_
  refine block x2 arg8.view arg9.view (kernelRun0_A.sl.HS1_11 c arg3 harg3 arg4 harg4 arg5 harg5 arg7 x0 x1 x2) (kernelRun0_A.sl.HS1_12 c arg3 harg3 arg4 harg4 arg5 harg5 arg7 x0 x1 x2) (kernelRun0_A.sl.HS2_44 c arg3 harg3 arg4 harg4 arg5 harg5 arg7 arg8 x0 x1 x2) (kernelRun0_A.sl.HS2_48 c arg3 harg3 arg4 harg4 arg5 harg5 arg7 arg8 x0 x1 x2)
    (kernelRun0_A.sl.v3 c arg3 harg3 arg4 harg4 arg7 x0 x1) 11 1024 384 (by decide) rfl inb_S1024x3072_S1024x512_0_1024 slices_S512x512_o0_384_S512x128 _ (w_eq arg5 harg5 x2 1024 _) rfl rfl _ ?_
  refine block x2 arg8.view arg9.view (kernelRun0_A.sl.HS1_10 c arg3 harg3 arg4 harg4 arg5 harg5 arg7 x0 x1 x2) (kernelRun0_A.sl.HS1_11 c arg3 harg3 arg4 harg4 arg5 harg5 arg7 x0 x1 x2) (kernelRun0_A.sl.HS2_40 c arg3 harg3 arg4 harg4 arg5 harg5 arg7 arg8 x0 x1 x2) (kernelRun0_A.sl.HS2_44 c arg3 harg3 arg4 harg4 arg5 harg5 arg7 arg8 x0 x1 x2)
    (kernelRun0_A.sl.v3 c arg3 harg3 arg4 harg4 arg7 x0 x1) 10 1024 256 (by decide) rfl inb_S1024x3072_S1024x512_0_1024 slices_S512x512_o0_256_S512x128 _ (w_eq arg5 harg5 x2 1024 _) rfl rfl _ ?_
  refine block x2 arg8.view arg9.view (kernelRun0_A.sl.HS1_9 c arg3 harg3 arg4 harg4 arg5 harg5 arg7 x0 x1 x2) (kernelRun0_A.sl.HS1_10 c arg3 harg3 arg4 harg4 arg5 harg5 arg7 x0 x1 x2) (kernelRun0_A.sl.HS2_36 c arg3 harg3 arg4 harg4 arg5 harg5 arg7 arg8 x0 x1 x2) (kernelRun0_A.sl.HS2_40 c arg3 harg3 arg4 harg4 arg5 harg5 arg7 arg8 x0 x1 x2)
    (kernelRun0_A.sl.v3 c arg3 harg3 arg4 harg4 arg7 x0 x1) 9 1024 128 (by decide) rfl inb_S1024x3072_S1024x512_0_1024 slices_S512x512_o0_128_S512x128 _ (w_eq arg5 harg5 x2 1024 _) rfl rfl _ ?_
  refine block x2 arg8.view arg9.view (kernelRun0_A.sl.HS1_8 c arg3 harg3 arg4 harg4 arg5 harg5 arg7 x0 x1 x2) (kernelRun0_A.sl.HS1_9 c arg3 harg3 arg4 harg4 arg5 harg5 arg7 x0 x1 x2) (kernelRun0_A.sl.HS2_32 c arg3 harg3 arg4 harg4 arg5 harg5 arg7 arg8 x0 x1 x2) (kernelRun0_A.sl.HS2_36 c arg3 harg3 arg4 harg4 arg5 harg5 arg7 arg8 x0 x1 x2)
    (kernelRun0_A.sl.v3 c arg3 harg3 arg4 harg4 arg7 x0 x1) 8 1024 0 (by decide) rfl inb_S1024x3072_S1024x512_0_1024 slices_S512x512_o0_0_S512x128 _ (w_eq arg5 harg5 x2 1024 _) rfl rfl _ ?_
  refine block x2 arg8.view arg9.view (kernelRun0_A.sl.HS1_7 c arg3 harg3 arg4 harg4 arg5 harg5 arg7 x0 x1 x2) (kernelRun0_A.sl.HS1_8 c arg3 harg3 arg4 harg4 arg5 harg5 arg7 x0 x1 x2) (kernelRun0_A.sl.HS2_28 c arg3 harg3 arg4 harg4 arg5 harg5 arg7 arg8 x0 x1 x2) (kernelRun0_A.sl.HS2_32 c arg3 harg3 arg4 harg4 arg5 harg5 arg7 arg8 x0 x1 x2)
    (kernelRun0_A.sl.v3 c arg3 harg3 arg4 harg4 arg7 x0 x1) 7 512 384 (by decide) rfl inb_S1024x3072_S1024x512_0_512 slices_S512x512_o0_384_S512x128 _ (w_eq arg5 harg5 x2 512 _) rfl rfl _ ?_
  refine block x2 arg8.view arg9.view (kernelRun0_A.sl.HS1_6 c arg3 harg3 arg4 harg4 arg5 harg5 arg7 x0 x1 x2) (kernelRun0_A.sl.HS1_7 c arg3 harg3 arg4 harg4 arg5 harg5 arg7 x0 x1 x2) (kernelRun0_A.sl.HS2_24 c arg3 harg3 arg4 harg4 arg5 harg5 arg7 arg8 x0 x1 x2) (kernelRun0_A.sl.HS2_28 c arg3 harg3 arg4 harg4 arg5 harg5 arg7 arg8 x0 x1 x2)
    (kernelRun0_A.sl.v3 c arg3 harg3 arg4 harg4 arg7 x0 x1) 6 512 256 (by decide) rfl inb_S1024x3072_S1024x512_0_512 slices_S512x512_o0_256_S512x128 _ (w_eq arg5 harg5 x2 512 _) rfl rfl _ ?_
  refine block x2 arg8.view arg9.view (kernelRun0_A.sl.HS1_5 c arg3 harg3 arg4 harg4 arg5 harg5 arg7 x0 x1 x2) (kernelRun0_A.sl.HS1_6 c arg3 harg3 arg4 harg4 arg5 harg5 arg7 x0 x1 x2) (kernelRun0_A.sl.HS2_20 c arg3 harg3 arg4 harg4 arg5 harg5 arg7 arg8 x0 x1 x2) (kernelRun0_A.sl.HS2_24 c arg3 harg3 arg4 harg4 arg5 harg5 arg7 arg8 x0 x1 x2)
    (kernelRun0_A.sl.v3 c arg3 harg3 arg4 harg4 arg7 x0 x1) 5 512 128 (by decide) rfl inb_S1024x3072_S1024x512_0_512 slices_S512x512_o0_128_S512x128 _ (w_eq arg5 harg5 x2 512 _) rfl rfl _ ?_
  refine block x2 arg8.view arg9.view (kernelRun0_A.sl.HS1_4 c arg3 harg3 arg4 harg4 arg5 harg5 arg7 x0 x1 x2) (kernelRun0_A.sl.HS1_5 c arg3 harg3 arg4 harg4 arg5 harg5 arg7 x0 x1 x2) (kernelRun0_A.sl.HS2_16 c arg3 harg3 arg4 harg4 arg5 harg5 arg7 arg8 x0 x1 x2) (kernelRun0_A.sl.HS2_20 c arg3 harg3 arg4 harg4 arg5 harg5 arg7 arg8 x0 x1 x2)
    (kernelRun0_A.sl.v3 c arg3 harg3 arg4 harg4 arg7 x0 x1) 4 512 0 (by decide) rfl inb_S1024x3072_S1024x512_0_512 slices_S512x512_o0_0_S512x128 _ (w_eq arg5 harg5 x2 512 _) rfl rfl _ ?_
  refine block x2 arg8.view arg9.view (kernelRun0_A.sl.HS1_3 c arg3 harg3 arg4 harg4 arg5 harg5 arg7 x0 x1 x2) (kernelRun0_A.sl.HS1_4 c arg3 harg3 arg4 harg4 arg5 harg5 arg7 x0 x1 x2) (kernelRun0_A.sl.HS2_12 c arg3 harg3 arg4 harg4 arg5 harg5 arg7 arg8 x0 x1 x2) (kernelRun0_A.sl.HS2_16 c arg3 harg3 arg4 harg4 arg5 harg5 arg7 arg8 x0 x1 x2)
    (kernelRun0_A.sl.v3 c arg3 harg3 arg4 harg4 arg7 x0 x1) 3 0 384 (by decide) rfl inb_S1024x3072_S1024x512_0_0 slices_S512x512_o0_384_S512x128 _ (w_eq arg5 harg5 x2 0 _) rfl rfl _ ?_
  refine block x2 arg8.view arg9.view (kernelRun0_A.sl.HS1_2 c arg3 harg3 arg4 harg4 arg5 harg5 arg7 x0 x1 x2) (kernelRun0_A.sl.HS1_3 c arg3 harg3 arg4 harg4 arg5 harg5 arg7 x0 x1 x2) (kernelRun0_A.sl.HS2_8 c arg3 harg3 arg4 harg4 arg5 harg5 arg7 arg8 x0 x1 x2) (kernelRun0_A.sl.HS2_12 c arg3 harg3 arg4 harg4 arg5 harg5 arg7 arg8 x0 x1 x2)
    (kernelRun0_A.sl.v3 c arg3 harg3 arg4 harg4 arg7 x0 x1) 2 0 256 (by decide) rfl inb_S1024x3072_S1024x512_0_0 slices_S512x512_o0_256_S512x128 _ (w_eq arg5 harg5 x2 0 _) rfl rfl _ ?_
  refine block x2 arg8.view arg9.view (kernelRun0_A.sl.HS1_1 c arg3 harg3 arg4 harg4 arg5 harg5 arg7 x0 x1 x2) (kernelRun0_A.sl.HS1_2 c arg3 harg3 arg4 harg4 arg5 harg5 arg7 x0 x1 x2) (kernelRun0_A.sl.HS2_4 c arg3 harg3 arg4 harg4 arg5 harg5 arg7 arg8 x0 x1 x2) (kernelRun0_A.sl.HS2_8 c arg3 harg3 arg4 harg4 arg5 harg5 arg7 arg8 x0 x1 x2)
    (kernelRun0_A.sl.v3 c arg3 harg3 arg4 harg4 arg7 x0 x1) 1 0 128 (by decide) rfl inb_S1024x3072_S1024x512_0_0 slices_S512x512_o0_128_S512x128 _ (w_eq arg5 harg5 x2 0 _) rfl rfl _ ?_
  refine block x2 arg8.view arg9.view [] (kernelRun0_A.sl.HS1_1 c arg3 harg3 arg4 harg4 arg5 harg5 arg7 x0 x1 x2) [] (kernelRun0_A.sl.HS2_4 c arg3 harg3 arg4 harg4 arg5 harg5 arg7 arg8 x0 x1 x2)
    (kernelRun0_A.sl.v3 c arg3 harg3 arg4 harg4 arg7 x0 x1) 0 0 0 (by decide) rfl inb_S1024x3072_S1024x512_0_0 slices_S512x512_o0_0_S512x128 _ (w_eq arg5 harg5 x2 0 _) rfl rfl _ ?_
  exact fun p hp => absurd hp List.not_mem_nil

end Cert.Kernel5Ideal.Pr

end
-- ==== Proof.Pr5Host.lean ====
/-
  The third projection call's blocks, read at one element: the rows, the norm's weights, and the projection's weights
  with the scale on the queries' columns.
-/
module

public import proofs.«01_k».proof.Proof.Gen.Kernel5Ideal.Value
public import proofs.«01_k».proof.Proof.PrSpec
public import Idealize.ShloMosaic.Lib.Routing.OpsSet
public import Idealize.ShloMosaic.Lib.Routing.OpsPair
public import Idealize.ShloMosaic.Lib.Pointwise

@[expose] public section

set_option maxRecDepth 16384

noncomputable section

open Idealize.ShloMosaic Idealize.ShloMosaic.TcCoe Idealize.SL.Sem

namespace Cert.Kernel5Ideal.Pr

open Cert.Kernel5Ideal Cert.Kernel5Ideal.Gen Cert.PrMath Idealize.ShloMosaic.Routing

variable (m : (ℓ : Loc nD τ sig) → Buf (Elt Ideal) ℓ)

abbrev seqOf (t : Fin cfg0.N) : Fin 8 := ⟨(grid0.coords t 0).val, (grid0.coords t 0).isLt⟩
abbrev rowOf (t : Fin cfg0.N) : Fin 4 := ⟨(grid0.coords t 1).val, (grid0.coords t 1).isLt⟩

/-- The three factors: one of the queries, of the keys, of the values. -/
def fac : FVec Ideal S3x1 .f32 := Host.scatter scatter_S3x1_S1_S1_0_0_0_0 (fun _ b => b) (broadcastInDim S3x1 ![] bcast_S_S3x1 (constant S_ .f32 0x3F800000#32))
  (broadcastInDim S1 ![] bcast_S_S1 (constantI S_ 32 0#32)) (broadcastInDim S1 ![] bcast_S_S1 (constant S_ .f32 0x3E38AA3B#32))

theorem fac_start (k : S1.Idx) (a : Fin 2) : scatter_S3x1_S1_S1_0_0_0_0.start k (broadcastInDim S1 ![] bcast_S_S1 (constantI S_ 32 0#32)) a = 0 := by
  unfold ScatterDims.start
  split
  · rfl
  · rfl

theorem fac_window (k : S1.Idx) (a : Fin 2) : scatter_S3x1_S1_S1_0_0_0_0.window k a = 0 := by
  have h1 : ∀ b : Fin S1.rank, (k b).val = 0 := fun b => by
    match b with
    | ⟨0, h⟩ => have h2 : (k ⟨0, h⟩).val < 1 := (k ⟨0, h⟩).isLt; omega
  unfold ScatterDims.window
  split
  · exact h1 _
  · rfl

theorem fac_apply (j : Fin 3) : fac (ix2 j 0) = if j.val = 0 then qs else 1 := by
  unfold fac
  split
  · rename_i h
    refine scatter_set_hit _ _ _ _ _ _ (fun k _ => rfl) (ix1 0) ((resultIdx?_ix2 _ _ _ j 0).2 ?_)
    rw [fac_start, fac_start, fac_window, fac_window, h]
    exact ⟨rfl, rfl⟩
  · rename_i h
    refine (scatter_set_miss _ _ _ _ _ fun k hk => ?_).trans Ideal.ofBits_one_f32
    have := ((resultIdx?_ix2 _ _ _ j 0).1 hk).1
    rw [fac_start, fac_window] at this
    omega

/-- What the host leaves in `main_v11`. -/
theorem V_v11 (c : Dev nD) : V m c main_v11 = (truncf .bf16 (shapeCast S1024x3072 (mulf (shapeCast S1024x3x1024
      (extractStridedSlice S1024x1x3x1024 ![0, 2, 0, 0] (shapeCast S1024x3x3x1024 (m ((c : Thread nD τ).loc main_arg2) : FVec Ideal S1024x9216 .f32) shapeCasts_S1024x9216_S1024x3x3x1024)
        slices_S1024x3x3x1024_S1024x1x3x1024_0_2_0_0) shapeCasts_S1024x1x3x1024_S1024x3x1024)
      (broadcastInDim S1024x3x1024 ![0, 1, 2] bcast_S1x3x1_S1024x3x1024_0_1_2 (broadcastInDim S1x3x1 ![1, 2] bcast_S3x1_S1x3x1_1_2 fac)))
      shapeCasts_S1024x3x1024_S1024x3072) bitsLt_bf16_f32 : FVec Ideal S1024x3072 .bf16) := by
  unfold V
  after_results
  rfl

theorem V_v12 (c : Dev nD) : V m c main_v12 = (shapeCast S1x1024 (m ((c : Thread nD τ).loc main_arg1) : FVec Ideal S1024 .f32) shapeCasts_S1024_S1x1024 : FVec Ideal S1x1024 .f32) := by
  unfold V
  after_results
  rfl

theorem w_apply (w : FVec Ideal S1024x9216 .f32) (f : FVec Ideal S3x1 .f32) (d : Fin 1024) (k : Fin 3072) :
    (truncf .bf16 (shapeCast S1024x3072 (mulf (shapeCast S1024x3x1024
      (extractStridedSlice S1024x1x3x1024 ![0, 2, 0, 0] (shapeCast S1024x3x3x1024 w shapeCasts_S1024x9216_S1024x3x3x1024)
        slices_S1024x3x3x1024_S1024x1x3x1024_0_2_0_0) shapeCasts_S1024x1x3x1024_S1024x3x1024)
      (broadcastInDim S1024x3x1024 ![0, 1, 2] bcast_S1x3x1_S1024x3x1024_0_1_2 (broadcastInDim S1x3x1 ![1, 2] bcast_S3x1_S1x3x1_1_2 f)))
      shapeCasts_S1024x3x1024_S1024x3072) bitsLt_bf16_f32 : FVec Ideal S1024x3072 .bf16) (ix2 d k)
      = w (ix2 d ⟨3072 * 2 + k.val, by omega⟩) * f (ix2 ⟨k.val / 1024, by omega⟩ 0) := by
  have e1 : ∀ z : FVec Ideal S1024x3x1024 .f32, shapeCast S1024x3072 z shapeCasts_S1024x3x1024_S1024x3072 (ix2 d k) = z (ix3 d ⟨k.val / 1024, by omega⟩ ⟨k.val % 1024, by omega⟩) := fun z =>
    shapeCast_apply z shapeCasts_S1024x3x1024_S1024x3072 _ _ (by rewrite [Shape.rowMajor_val_three, Shape.rowMajor_val_two]; show (d.val * 3 + k.val / 1024) * 1024 + k.val % 1024 = d.val * 3072 + k.val; omega)
  change shapeCast S1024x3072 (mulf (F := Ideal) _ _) shapeCasts_S1024x3x1024_S1024x3072 (ix2 d k) = _
  refine (e1 _).trans ?_
  refine congrArg₂ (· * ·) ?_ ?_
  · refine (shapeCast_apply _ shapeCasts_S1024x1x3x1024_S1024x3x1024 _ (ix4 d 0 ⟨k.val / 1024, by omega⟩ ⟨k.val % 1024, by omega⟩) (by rewrite [Shape.rowMajor_val_three, Shape.rowMajor_val_four]; show ((d.val * 1 + 0) * 3 + k.val / 1024) * 1024 + k.val % 1024 = (d.val * 3 + k.val / 1024) * 1024 + k.val % 1024; omega)).trans ?_
    refine (extractStridedSlice_apply ![0, 2, 0, 0] _ slices_S1024x3x3x1024_S1024x1x3x1024_0_2_0_0 _ (ix4 d 2 ⟨k.val / 1024, by omega⟩ ⟨k.val % 1024, by omega⟩) (fun a => match a with
      | ⟨0, _⟩ => by show d.val = 0 + d.val; omega
      | ⟨1, _⟩ => rfl
      | ⟨2, _⟩ => by show k.val / 1024 = 0 + k.val / 1024; omega
      | ⟨3, _⟩ => by show k.val % 1024 = 0 + k.val % 1024; omega)).trans ?_
    exact shapeCast_apply _ shapeCasts_S1024x9216_S1024x3x3x1024 _ (ix2 d ⟨3072 * 2 + k.val, by omega⟩) (by rewrite [Shape.rowMajor_val_two, Shape.rowMajor_val_four]; show d.val * 9216 + (3072 * 2 + k.val) = ((d.val * 3 + 2) * 3 + k.val / 1024) * 1024 + k.val % 1024; omega)
  · pointwise

/-- The 512 rows of a point's block. -/
theorem blk0 (c : Dev nD) (t : Fin cfg0.N) (r : Fin 512) (d : Fin 1024) :
    (iblk m c 0 t : Vec Ideal S1x512x1024 .f32) (ix3 0 r d)
      = (m ((c : Thread nD τ).loc main_arg0) : Vec Ideal S8x2048x1024 .f32) (ix3 (seqOf t) ⟨512 * (rowOf t).val + r.val, by have := (rowOf t).isLt; omega⟩ d) := by
  have hi : win0_0.index t 0 = (grid0.coords t 0).val ∧ win0_0.index t 1 = (grid0.coords t 1).val ∧ win0_0.index t 2 = 0 :=
    (by decide +kernel : ∀ t : Fin grid0.N, win0_0.index t 0 = (grid0.coords t 0).val ∧ win0_0.index t 1 = (grid0.coords t 1).val ∧ win0_0.index t 2 = 0) t
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_0.index t 0 * 1 + 1 * 0 = (grid0.coords t 0).val; rw [hi.1]; omega
  | ⟨1, _⟩ => show win0_0.index t 1 * 512 + 1 * r.val = 512 * (grid0.coords t 1).val + r.val; rw [hi.2.1]; omega
  | ⟨2, _⟩ => show win0_0.index t 2 * 1024 + 1 * d.val = d.val; rw [hi.2.2]; omega

theorem blk1 (c : Dev nD) (t : Fin cfg0.N) (d : Fin 1024) :
    (iblk m c 1 t : Vec Ideal S1x1024 .f32) (ix2 0 d) = (m ((c : Thread nD τ).loc main_arg1) : Vec Ideal S1024 .f32) (ix1 d) := by
  have hi : win0_1.index t 0 = 0 ∧ win0_1.index t 1 = 0 :=
    (by decide +kernel : ∀ t : Fin grid0.N, win0_1.index t 0 = 0 ∧ win0_1.index t 1 = 0) t
  unfold iblk
  rw [View.read_apply]
  have e : ((cfg0.win 1).blk t).view.emb (ix2 0 d) = (ix2 0 d : S1x1024.Idx) := by
    funext a
    apply Fin.ext
    match a with
    | ⟨0, _⟩ => show win0_1.index t 0 * 1 + 1 * 0 = 0; rw [hi.1]
    | ⟨1, _⟩ => show win0_1.index t 1 * 1024 + 1 * d.val = d.val; rw [hi.2]; omega
  show V m c main_v12 (((cfg0.win 1).blk t).view.emb (ix2 0 d)) = _
  rw [e, V_v12]
  exact shapeCast_apply _ shapeCasts_S1024_S1x1024 _ (ix1 d) (by rewrite [Shape.rowMajor_val_two, Shape.rowMajor_val_one]; show d.val = 0 * 1024 + d.val; omega)

theorem blk2 (c : Dev nD) (t : Fin cfg0.N) (d : Fin 1024) (k : Fin 3072) :
    (iblk m c 2 t : Vec Ideal S1024x3072 .bf16) (ix2 d k) = (show EReal from (m ((c : Thread nD τ).loc main_arg2) : Vec Ideal S1024x9216 .f32) (ix2 d ⟨3072 * 2 + k.val, by omega⟩)) * scl (k.val / 128) := by
  have hi : win0_2.index t 0 = 0 ∧ win0_2.index t 1 = 0 :=
    (by decide +kernel : ∀ t : Fin grid0.N, win0_2.index t 0 = 0 ∧ win0_2.index t 1 = 0) t
  unfold iblk
  rw [View.read_apply]
  have e : ((cfg0.win 2).blk t).view.emb (ix2 d k) = (ix2 d k : S1024x3072.Idx) := by
    funext a
    apply Fin.ext
    match a with
    | ⟨0, _⟩ => show win0_2.index t 0 * 1024 + 1 * d.val = d.val; rw [hi.1]; omega
    | ⟨1, _⟩ => show win0_2.index t 1 * 3072 + 1 * k.val = k.val; rw [hi.2]; omega
  show V m c main_v11 (((cfg0.win 2).blk t).view.emb (ix2 d k)) = _
  rw [e, V_v11, w_apply, fac_apply]
  unfold scl
  congr 1
  have : k.val / 1024 = 0 ↔ k.val / 128 < 8 := by omega
  simp only [this]

end Cert.Kernel5Ideal.Pr

end
-- ==== Proof.Pr5Ref.lean ====
/-
  The third projection's reference read at one element: it is the projection of `PrSpec.lean`.
-/
module

public import proofs.«01_k».proof.Proof.PrSpec
public import proofs.«01_k».proof.Proof.Gen.Reference5Ideal.Read
public import Idealize.ShloMosaic.Lib.ValueIdxRank6

@[expose] public section

set_option maxRecDepth 16384

noncomputable section

open Idealize.ShloMosaic Idealize.ShloMosaic.TcCoe Idealize.SL.Sem

namespace Cert.Reference5Ideal.Layer

open Cert.Reference5Ideal Cert.Reference5Ideal.Gen Cert.Reference5Ideal.Read Cert.FfnMath Cert.PrMath

variable (x0 : Vec Ideal S8x2048x1024 .f32) (x1 : Vec Ideal S1024 .f32) (x2 : Vec Ideal S1024x9216 .f32)

theorem v12_at (b : Fin 8) (t : Fin 2048) (d : Fin 1024) :
    val_main_v12 (F := Ideal) x0 x1 (ix3 b t d) = nrm (fun k => x0 (ix3 b t k)) (fun k => x1 (ix1 k)) d := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl

theorem v13_at (b : Fin 8) (t : Fin 2048) (f : Fin 9216) :
    val_main_v13 (F := Ideal) x0 x1 x2 (ix3 b t f) = ∑ d, nrm (fun k => x0 (ix3 b t k)) (fun k => x1 (ix1 k)) d * x2 (ix2 d f) := by
  simp only [← v12_at]
  unfold val_main_v13
  generalize val_main_v12 (F := Ideal) x0 x1 = y
  pointwise

/-- Two heads side by side: where a column of 128 lies among the heads. -/
theorem lanes (z : FVec Ideal S128x128x16x64 .f32) (b : Fin 8) (q : Fin 16) (s : Fin 128) (c : Fin 8) (l : Fin 128) :
    transpose S8x8x16x128x128 [0, 3, 1, 2, 4] (shapeCast S8x16x128x8x128 z
      shapeCasts_S128x128x16x64_S8x16x128x8x128) transposes_S8x16x128x8x128_S8x8x16x128x128_0_3_1_2_4 (ix5 b c q s l)
      = z (ix4 (⟨16 * b.val + q.val, by omega⟩ : Fin 128) s (⟨2 * c.val + l.val / 64, by omega⟩ : Fin 16) (⟨l.val % 64, by omega⟩ : Fin 64)) := by
  refine (transpose_apply [0, 3, 1, 2, 4] _ transposes_S8x16x128x8x128_S8x8x16x128x128_0_3_1_2_4 _ (ix5 b q s c l) (fun b => match b with
    | ⟨0, _⟩ => rfl
    | ⟨1, _⟩ => rfl
    | ⟨2, _⟩ => rfl
    | ⟨3, _⟩ => rfl
    | ⟨4, _⟩ => rfl)).trans ?_
  exact shapeCast_apply _ shapeCasts_S128x128x16x64_S8x16x128x8x128 _ _ (by
    rewrite [Shape.rowMajor_val_five, Shape.rowMajor_val_four]
    show (((16 * b.val + q.val) * 128 + s.val) * 16 + (2 * c.val + l.val / 64)) * 64 + l.val % 64 = (((b.val * 16 + q.val) * 128 + s.val) * 8 + c.val) * 128 + l.val
    omega)

/-- A head's element of one of the three parts, and where it lies in the product. -/
theorem part (z : FVec Ideal S8x2048x9216 .f32) (p : Fin 3)
    (hs : S8x2048x3x3x16x64.Slices ![0, 0, 2, p.val, 0, 0] S8x2048x1x1x16x64)
    (b : Fin 8) (q : Fin 16) (s : Fin 128) (n : Fin 16) (e : Fin 64) :
    shapeCast S128x128x16x64 (transpose S8x16x128x16x64 [0, 2, 1, 3, 4]
      (shapeCast S8x128x16x16x64 (shapeCast S8x2048x16x64 (extractStridedSlice S8x2048x1x1x16x64 ![0, 0, 2, p.val, 0, 0]
        (shapeCast S8x2048x3x3x16x64 z shapeCasts_S8x2048x9216_S8x2048x3x3x16x64) hs) shapeCasts_S8x2048x1x1x16x64_S8x2048x16x64)
        shapeCasts_S8x2048x16x64_S8x128x16x16x64) transposes_S8x128x16x16x64_S8x16x128x16x64_0_2_1_3_4) shapeCasts_S8x16x128x16x64_S128x128x16x64
      (ix4 (⟨16 * b.val + q.val, by omega⟩ : Fin 128) s n e)
      = z (ix3 b ⟨16 * s.val + q.val, by omega⟩ ⟨3072 * 2 + 1024 * p.val + 64 * n.val + e.val, by omega⟩) := by
  refine (shapeCast_apply _ shapeCasts_S8x16x128x16x64_S128x128x16x64 _ (ix5 b q s n e) (by
    rewrite [Shape.rowMajor_val_five, Shape.rowMajor_val_four]
    show (((b.val * 16 + q.val) * 128 + s.val) * 16 + n.val) * 64 + e.val = (((16 * b.val + q.val) * 128 + s.val) * 16 + n.val) * 64 + e.val
    omega)).trans ?_
  refine (transpose_apply [0, 2, 1, 3, 4] _ transposes_S8x128x16x16x64_S8x16x128x16x64_0_2_1_3_4 _ (ix5 b s q n e) (fun b => match b with
    | ⟨0, _⟩ => rfl
    | ⟨1, _⟩ => rfl
    | ⟨2, _⟩ => rfl
    | ⟨3, _⟩ => rfl
    | ⟨4, _⟩ => rfl)).trans ?_
  refine (shapeCast_apply _ shapeCasts_S8x2048x16x64_S8x128x16x16x64 _ (ix4 b (⟨16 * s.val + q.val, by omega⟩ : Fin 2048) n e) (by
    rewrite [Shape.rowMajor_val_five, Shape.rowMajor_val_four]
    show ((b.val * 2048 + (16 * s.val + q.val)) * 16 + n.val) * 64 + e.val = (((b.val * 128 + s.val) * 16 + q.val) * 16 + n.val) * 64 + e.val
    omega)).trans ?_
  refine (shapeCast_apply _ shapeCasts_S8x2048x1x1x16x64_S8x2048x16x64 _ (ix6 b (⟨16 * s.val + q.val, by omega⟩ : Fin 2048) (0 : Fin 1) (0 : Fin 1) n e) (by
    rewrite [Shape.rowMajor_val_six, Shape.rowMajor_val_four]
    show ((((b.val * 2048 + (16 * s.val + q.val)) * 1 + 0) * 1 + 0) * 16 + n.val) * 64 + e.val = ((b.val * 2048 + (16 * s.val + q.val)) * 16 + n.val) * 64 + e.val
    omega)).trans ?_
  refine (extractStridedSlice_apply ![0, 0, 2, p.val, 0, 0] _ hs _ (ix6 b (⟨16 * s.val + q.val, by omega⟩ : Fin 2048) (2 : Fin 3) p n e) (fun a => match a with
    | ⟨0, _⟩ => by show b.val = 0 + b.val; omega
    | ⟨1, _⟩ => by show 16 * s.val + q.val = 0 + (16 * s.val + q.val); omega
    | ⟨2, _⟩ => rfl
    | ⟨3, _⟩ => by show p.val = p.val + 0; omega
    | ⟨4, _⟩ => by show n.val = 0 + n.val; omega
    | ⟨5, _⟩ => by show e.val = 0 + e.val; omega)).trans ?_
  exact shapeCast_apply _ shapeCasts_S8x2048x9216_S8x2048x3x3x16x64 _ _ (by
    rewrite [Shape.rowMajor_val_six, Shape.rowMajor_val_three]
    show (b.val * 2048 + (16 * s.val + q.val)) * 9216 + (3072 * 2 + 1024 * p.val + 64 * n.val + e.val) = ((((b.val * 2048 + (16 * s.val + q.val)) * 3 + 2) * 3 + p.val) * 16 + n.val) * 64 + e.val
    omega)

/-- Where two heads' columns lie in the weights. -/
theorem row_at (b : Fin 8) (t : Fin 2048) (p : Fin 3) (c : Fin 8) (l : Fin 128) (h : 3072 * 2 + 1024 * p.val + 64 * (2 * c.val + l.val / 64) + l.val % 64 < 9216) :
    val_main_v13 (F := Ideal) x0 x1 x2 (ix3 b t ⟨3072 * 2 + 1024 * p.val + 64 * (2 * c.val + l.val / 64) + l.val % 64, h⟩)
      = ∑ d, nrm (fun k => x0 (ix3 b t k)) (fun k => x1 (ix1 k)) d * x2 (ix2 d ⟨3072 * 2 + 128 * (8 * p.val + c.val) + l.val, by omega⟩) := by
  rw [v13_at]
  refine Finset.sum_congr rfl fun d _ => congrArg (fun f => _ * x2 (ix2 d f)) (Fin.ext ?_)
  show 3072 * 2 + 1024 * p.val + 64 * (2 * c.val + l.val / 64) + l.val % 64 = 3072 * 2 + 128 * (8 * p.val + c.val) + l.val
  omega

theorem q_at (b : Fin 8) (q : Fin 16) (s : Fin 128) (c : Fin 8) (l : Fin 128) :
    val_main_v35 (F := Ideal) x0 x1 x2 (ix5 b c q s l)
      = proj 2 (fun b t d => x0 (ix3 b t d)) (fun d => x1 (ix1 d)) (fun d f => x2 (ix2 d f)) b ⟨16 * s.val + q.val, by omega⟩ ⟨8 * 0 + c.val, by omega⟩ l := by
  unfold val_main_v35 val_main_v34
  rw [lanes]
  unfold proj scl
  rw [if_pos (show 8 * 0 + c.val < 8 by omega), ← qs_eq, ← mul_assoc]
  refine congrArg (fun z => z * Ideal.ofBits .f32 0x3E000000#32 * Ideal.ofBits .f32 0x3FB8AA3B#32) (?_ : val_main_v19 (F := Ideal) x0 x1 x2 _ = _)
  unfold val_main_v19 val_main_v18 val_main_v17 val_main_v16 val_main_v15 val_main_v14
  exact (part _ 0 slices_S8x2048x3x3x16x64_S8x2048x1x1x16x64_0_0_2_0_0_0 b q s _ _).trans (row_at x0 x1 x2 b _ 0 c l _)

theorem k_at (b : Fin 8) (q : Fin 16) (s : Fin 128) (c : Fin 8) (l : Fin 128) :
    val_main_v37 (F := Ideal) x0 x1 x2 (ix5 b c q s l)
      = proj 2 (fun b t d => x0 (ix3 b t d)) (fun d => x1 (ix1 d)) (fun d f => x2 (ix2 d f)) b ⟨16 * s.val + q.val, by omega⟩ ⟨8 * 1 + c.val, by omega⟩ l := by
  unfold val_main_v37 val_main_v36
  rw [lanes]
  unfold proj scl
  rw [if_neg (show ¬ 8 * 1 + c.val < 8 by omega), mul_one]
  unfold val_main_v26 val_main_v25 val_main_v24 val_main_v23 val_main_v22 val_main_v14
  exact (part _ 1 slices_S8x2048x3x3x16x64_S8x2048x1x1x16x64_0_0_2_1_0_0 b q s _ _).trans (row_at x0 x1 x2 b _ 1 c l _)

theorem v_at (b : Fin 8) (q : Fin 16) (s : Fin 128) (c : Fin 8) (l : Fin 128) :
    val_main_v39 (F := Ideal) x0 x1 x2 (ix5 b c q s l)
      = proj 2 (fun b t d => x0 (ix3 b t d)) (fun d => x1 (ix1 d)) (fun d f => x2 (ix2 d f)) b ⟨16 * s.val + q.val, by omega⟩ ⟨8 * 2 + c.val, by omega⟩ l := by
  unfold val_main_v39 val_main_v38
  rw [lanes]
  unfold proj scl
  rw [if_neg (show ¬ 8 * 2 + c.val < 8 by omega), mul_one]
  unfold val_main_v31 val_main_v30 val_main_v29 val_main_v28 val_main_v27 val_main_v14
  exact (part _ 2 slices_S8x2048x3x3x16x64_S8x2048x1x1x16x64_0_0_2_2_0_0 b q s _ _).trans (row_at x0 x1 x2 b _ 2 c l _)

/-- The reference is the projection. -/
theorem v41_at (b : Fin 8) (c : Fin 24) (q : Fin 16) (s : Fin 128) (l : Fin 128) :
    val_main_v41 (F := Ideal) x0 x1 x2 (ix5 b c q s l)
      = proj 2 (fun b t d => x0 (ix3 b t d)) (fun d => x1 (ix1 d)) (fun d f => x2 (ix2 d f)) b ⟨16 * s.val + q.val, by omega⟩ c l := by
  have hq := q_at x0 x1 x2 b q s
  have hk := k_at x0 x1 x2 b q s
  have hv := v_at x0 x1 x2 b q s
  unfold val_main_v41 val_main_v40
  generalize val_main_v35 (F := Ideal) x0 x1 x2 = yq at hq ⊢
  generalize val_main_v37 (F := Ideal) x0 x1 x2 = yk at hk ⊢
  generalize val_main_v39 (F := Ideal) x0 x1 x2 = yv at hv ⊢
  pointwise
  split
  · rename_i h
    refine Eq.trans ?_ ((hq ⟨c.val, h⟩ l).trans (proj_congr _ _ _ _ rfl (by show 16 * s.val + q.val = _; first | rfl | omega | (dsimp only; omega)) (show 8 * 0 + c.val = c.val by omega) rfl))
    exact congrArg (fun q => yq (ix5 b ⟨c.val, h⟩ q s l)) (Fin.ext (by first | rfl | simp))
  · split
    · rename_i h h'
      refine Eq.trans ?_ ((hk ⟨c.val - 8, h'⟩ l).trans (proj_congr _ _ _ _ rfl (by show 16 * s.val + q.val = _; first | rfl | omega | (dsimp only; omega)) (show 8 * 1 + (c.val - 8) = c.val by omega) rfl))
      exact congrArg (fun q => yk (ix5 b ⟨c.val - 8, h'⟩ q s l)) (Fin.ext (by first | rfl | simp))
    · rename_i h h'
      refine Eq.trans ?_ ((hv ⟨c.val - 8 - 8, by omega⟩ l).trans (proj_congr _ _ _ _ rfl (by show 16 * s.val + q.val = _; first | rfl | omega | (dsimp only; omega)) (show 8 * 2 + (c.val - 8 - 8) = c.val by omega) rfl))
      exact congrArg (fun q => yv (ix5 b ⟨c.val - 8 - 8, by omega⟩ q s l)) (Fin.ext (by first | rfl | simp))

end Cert.Reference5Ideal.Layer

end
-- ==== Proof.Pr5Claim.lean ====
/-
  The third projection call's claims: every block it writes back is the projection of `PrSpec.lean` there, the blocks
  cover the result, and the reference is the same projection of the same arguments.
-/
module

public import proofs.«01_k».proof.Defs
public import proofs.«01_k».proof.Proof.Pr5Val
public import proofs.«01_k».proof.Proof.Pr5Host
public import proofs.«01_k».proof.Proof.Pr5Ref
public import Idealize.ShloMosaic.Lib.Quiescent

@[expose] public section

set_option maxRecDepth 16384

noncomputable section

open Idealize.ShloMosaic Idealize.ShloMosaic.TcCoe Idealize.SL.Sem

namespace Cert.Kernel5Ideal.Pr

open Cert.Kernel5Ideal Cert.Kernel5Ideal.Gen Cert.FfnMath Cert.PrMath

variable (m : (ℓ : Loc nD τ sig) → Buf (Elt Ideal) ℓ) (c : Dev nD)

abbrev aH : Fin 8 → Fin 2048 → Fin 1024 → EReal := fun b t d => (m ((c : Thread nD τ).loc main_arg0) : Vec Ideal S8x2048x1024 .f32) (ix3 b t d)
abbrev aG : Fin 1024 → EReal := fun d => (m ((c : Thread nD τ).loc main_arg1) : Vec Ideal S1024 .f32) (ix1 d)
abbrev aW : Fin 1024 → Fin 9216 → EReal := fun d f => (m ((c : Thread nD τ).loc main_arg2) : Vec Ideal S1024x9216 .f32) (ix2 d f)

/-- The projection of the arguments, as the result array. -/
def G : Buf (Elt Ideal) ((c : Thread nD τ).loc main_v13) :=
  fun i : S8x24x16x128x128.Idx => proj 2 (aH m c) (aG m c) (aW m c) (i 0)
    ⟨16 * (i 3).val + (i 2).val, by have h3 : (i 3).val < 128 := (i 3).isLt; have h2 : (i 2).val < 16 := (i 2).isLt; omega⟩ (i 1) (i 4)

theorem xn_apply (x0 : Vec Ideal S1x512x1024 .f32) (x1 : Vec Ideal S1x1024 .f32) (r : Fin 512) (d : Fin 1024) :
    xnS x0 x1 (ix2 r d) = nrm (fun k => x0 (ix3 0 r k)) (fun k => x1 (ix2 0 k)) d := by
  unfold xnS
  pointwise [k0_pay2]
  rfl

theorem hi3 (t : Fin cfg0.N) : win0_3.index t 0 = (grid0.coords t 0).val ∧ win0_3.index t 1 = 0 ∧ win0_3.index t 2 = 0 ∧ win0_3.index t 3 = (grid0.coords t 1).val ∧ win0_3.index t 4 = 0 :=
  (by decide +kernel : ∀ t : Fin grid0.N, win0_3.index t 0 = (grid0.coords t 0).val ∧ win0_3.index t 1 = 0 ∧ win0_3.index t 2 = 0 ∧ win0_3.index t 3 = (grid0.coords t 1).val ∧ win0_3.index t 4 = 0) t

theorem xsize3 (t : Fin cfg0.N) : win0_3.xsize (grid0.coords t) 0 = 1 ∧ win0_3.xsize (grid0.coords t) 1 = 24 ∧ win0_3.xsize (grid0.coords t) 2 = 16 ∧ win0_3.xsize (grid0.coords t) 3 = 32 ∧ win0_3.xsize (grid0.coords t) 4 = 128 :=
  (by decide +kernel : ∀ t : Fin grid0.N, win0_3.xsize (grid0.coords t) 0 = 1 ∧ win0_3.xsize (grid0.coords t) 1 = 24 ∧ win0_3.xsize (grid0.coords t) 2 = 16 ∧ win0_3.xsize (grid0.coords t) 3 = 32 ∧ win0_3.xsize (grid0.coords t) 4 = 128) t

/-- A block of the product, of a point's blocks, is the projection there. -/
theorem prod_eq (t : Fin cfg0.N) (y : S1x24x16x32x128.Idx) (b : Fin 8) (row : Fin 2048) (k : Fin 24) (l : Fin 128)
    (hb : b.val = (grid0.coords t 0).val) (hr : row.val = 512 * (grid0.coords t 1).val + (16 * (y 3).val + (y 2).val))
    (hk : k.val = (y 1).val) (hl : l.val = (y 4).val) :
    prod (iblk m c 2 t) (xnS (iblk m c 0 t) (iblk m c 1 t)) y = proj 2 (aH m c) (aG m c) (aW m c) b row k l := by
  have h1 : (y 1).val < 24 := (y 1).isLt
  have h2 : (y 2).val < 16 := (y 2).isLt
  have h3 : (y 3).val < 32 := (y 3).isLt
  have h4 : (y 4).val < 128 := (y 4).isLt
  rw [proj_eq]
  unfold prod
  refine Finset.sum_congr rfl fun d _ => ?_
  refine congrArg₂ (· * ·) ?_ ?_
  · refine (xn_apply _ _ _ d).trans ?_
    refine congrArg₂ (fun v g => nrm v g d) (funext fun e => (blk0 m c t _ e).trans ?_) (funext fun e => blk1 m c t e)
    refine congrArg (m ((c : Thread nD τ).loc main_arg0) : Vec Ideal S8x2048x1024 .f32) ?_
    refine congrArg₂ (fun b r => ix3 b r e) (Fin.ext hb.symm) (Fin.ext ?_)
    exact hr.symm
  · refine (blk2 m c t d _).trans ?_
    refine congrArg₂ (· * ·) ?_ ?_
    · refine congrArg (fun f => (m ((c : Thread nD τ).loc main_arg2) : Vec Ideal S1024x9216 .f32) (ix2 d f)) (Fin.ext ?_)
      show 3072 * 2 + (128 * (y 1).val + (y 4).val) = 3072 * 2 + 128 * k.val + l.val
      omega
    · refine congrArg scl ?_
      show (128 * (y 1).val + (y 4).val) / 128 = k.val
      omega

/-- What a point writes back is the projection, read through its block. -/
theorem flushed_eq (t : Fin cfg0.N) :
    (dats m 0 c).flushed 3 t = ((cfg0.win 3).blk t).view.read (Elt Ideal) (G m c) := by
  rw [Value.flushed3_A, out_eq]
  have hi := hi3 t
  have hx := xsize3 t
  funext j
  rw [View.read_apply]
  have h0 : (j 0).val < 1 := lt_of_lt_of_eq (j 0).isLt hx.1
  have h1 : (j 1).val < 24 := lt_of_lt_of_eq (j 1).isLt hx.2.1
  have h2 : (j 2).val < 16 := lt_of_lt_of_eq (j 2).isLt hx.2.2.1
  have h3 : (j 3).val < 32 := lt_of_lt_of_eq (j 3).isLt hx.2.2.2.1
  have h4 : (j 4).val < 128 := lt_of_lt_of_eq (j 4).isLt hx.2.2.2.2
  refine Eq.trans ?_ (prod_eq m c t (ix5 0 ⟨(j 1).val, h1⟩ ⟨(j 2).val, h2⟩ ⟨(j 3).val, h3⟩ ⟨(j 4).val, h4⟩) _ _ _ _ ?_ ?_ ?_ ?_)
  · refine congrArg (prod (iblk m c 2 t) (xnS (iblk m c 0 t) (iblk m c 1 t))) (?_ : _ = (ix5 0 ⟨(j 1).val, h1⟩ ⟨(j 2).val, h2⟩ ⟨(j 3).val, h3⟩ ⟨(j 4).val, h4⟩ : S1x24x16x32x128.Idx))
    funext a
    apply Fin.ext
    match a with
    | ⟨0, _⟩ => show (j 0).val = 0; omega
    | ⟨1, _⟩ => rfl
    | ⟨2, _⟩ => rfl
    | ⟨3, _⟩ => rfl
    | ⟨4, _⟩ => rfl
  · show win0_3.index t 0 * 1 + 1 * (j 0).val = (grid0.coords t 0).val; rw [hi.1]; omega
  · show 16 * (win0_3.index t 3 * 32 + 1 * (j 3).val) + (win0_3.index t 2 * 16 + 1 * (j 2).val) = 512 * (grid0.coords t 1).val + (16 * (j 3).val + (j 2).val)
    rw [hi.2.2.2.1, hi.2.2.1]; omega
  · show win0_3.index t 1 * 24 + 1 * (j 1).val = (j 1).val; rw [hi.2.1]; omega
  · show win0_3.index t 4 * 128 + 1 * (j 4).val = (j 4).val; rw [hi.2.2.2.2]; omega

theorem exists_pt (b : Fin 8) (r : Fin 4) : ∃ t : Fin cfg0.N, (grid0.coords t 0).val = b.val ∧ (grid0.coords t 1).val = r.val :=
  (by decide +kernel : ∀ (b : Fin 8) (r : Fin 4), ∃ t : Fin grid0.N, (grid0.coords t 0).val = b.val ∧ (grid0.coords t 1).val = r.val) b r

theorem cover (i : S8x24x16x128x128.Idx) :
    ∃ t : Fin cfg0.N, (cfg0.win 3).flush t = true ∧ i ∈ ((cfg0.win 3).blk t).view.set := by
  have h0 : (i 0).val < 8 := (i 0).isLt
  have h1 : (i 1).val < 24 := (i 1).isLt
  have h2 : (i 2).val < 16 := (i 2).isLt
  have h3 : (i 3).val < 128 := (i 3).isLt
  have h4 : (i 4).val < 128 := (i 4).isLt
  obtain ⟨t, e0, e1⟩ := exists_pt ⟨(i 0).val, h0⟩ ⟨(i 3).val / 32, by omega⟩
  have hi := hi3 t
  have hx := xsize3 t
  refine ⟨t, flush0_3 t, ?_⟩
  show i ∈ ((View.whole main_v13).slice (win0_3.rect t)).set
  rw [View.set_slice_whole, Rect.mem_set_unit]
  dsimp only at e0 e1
  intro a
  match a with
  | ⟨0, _⟩ => show win0_3.index t 0 * 1 ≤ (i 0).val ∧ (i 0).val < win0_3.index t 0 * 1 + win0_3.xsize (grid0.coords t) 0
              rw [hi.1, hx.1]; omega
  | ⟨1, _⟩ => show win0_3.index t 1 * 24 ≤ (i 1).val ∧ (i 1).val < win0_3.index t 1 * 24 + win0_3.xsize (grid0.coords t) 1
              rw [hi.2.1, hx.2.1]; omega
  | ⟨2, _⟩ => show win0_3.index t 2 * 16 ≤ (i 2).val ∧ (i 2).val < win0_3.index t 2 * 16 + win0_3.xsize (grid0.coords t) 2
              rw [hi.2.2.1, hx.2.2.1]; omega
  | ⟨3, _⟩ => show win0_3.index t 3 * 32 ≤ (i 3).val ∧ (i 3).val < win0_3.index t 3 * 32 + win0_3.xsize (grid0.coords t) 3
              rw [hi.2.2.2.1, hx.2.2.2.1]; omega
  | ⟨4, _⟩ => show win0_3.index t 4 * 128 ≤ (i 4).val ∧ (i 4).val < win0_3.index t 4 * 128 + win0_3.xsize (grid0.coords t) 4
              rw [hi.2.2.2.2, hx.2.2.2.2]; omega

/-- The result array ends holding the projection. -/
theorem final : (dats m 0 c).arrAt 3 cfg0.N = G m c :=
  (dats m 0 c).arrAt_eq_of_cover 3 (G m c) (fun t _ => flushed_eq m c t) cover

end Cert.Kernel5Ideal.Pr

namespace Cert.Pr5Claim

open Cert.PrMath

instance : Cert.Kernel5Ideal.Facts := Cert.Kernel5Ideal.Gen.facts
instance : Cert.Reference5Ideal.Facts := Cert.Reference5Ideal.Gen.facts

/-- The reference runs; its arguments end unchanged, and it declares no semaphore. -/
theorem frame_reference : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The projection of equal arguments. -/
theorem reference_eq (m : (ℓ : Loc Cert.Kernel5Ideal.nD Cert.Kernel5Ideal.τ Cert.Kernel5Ideal.sig) → Buf (Elt Ideal) ℓ) (c : Dev Cert.Kernel5Ideal.nD)
    (x0 : Vec Ideal Cert.Reference5Ideal.S8x2048x1024 .f32) (x1 : Vec Ideal Cert.Reference5Ideal.S1024 .f32)
    (x2 : Vec Ideal Cert.Reference5Ideal.S1024x9216 .f32)
    (h0 : x0 = m ((c.tc : Thread Cert.Kernel5Ideal.nD Cert.Kernel5Ideal.τ).loc Cert.Kernel5Ideal.main_arg0))
    (h1 : x1 = m ((c.tc : Thread Cert.Kernel5Ideal.nD Cert.Kernel5Ideal.τ).loc Cert.Kernel5Ideal.main_arg1))
    (h2 : x2 = m ((c.tc : Thread Cert.Kernel5Ideal.nD Cert.Kernel5Ideal.τ).loc Cert.Kernel5Ideal.main_arg2)) :
    Cert.Reference5Ideal.Read.val_main_v41 (F := Ideal) x0 x1 x2 = Cert.Kernel5Ideal.Pr.G m c := by
  subst h0 h1 h2
  funext i
  have hi : i = ix5 (i 0) (i 1) (i 2) (i 3) (i 4) := by
    funext a
    match a with
    | ⟨0, _⟩ => rfl
    | ⟨1, _⟩ => rfl
    | ⟨2, _⟩ => rfl
    | ⟨3, _⟩ => rfl
    | ⟨4, _⟩ => rfl
  rw [hi]
  exact Cert.Reference5Ideal.Layer.v41_at _ _ _ (i 0) (i 1) (i 2) (i 3) (i 4)

theorem algebraic : Cert.algebraic_Kernel5Ideal_Reference5Ideal := by
  intro m g m' g' _ hagree
  refine ⟨fun c => Cert.Kernel5Ideal.Pr.G m c, ?_, ?_⟩
  · exact (θ_run Cert.Kernel5Ideal.defs _ _).mono
      (fun _ h c => ⟨(h c).1.trans (Cert.Kernel5Ideal.Pr.final m c), (h c).2⟩)
      (Cert.Kernel5Ideal.Value.run_blocks (F := Ideal) m g)
  · refine (θ_run Cert.Reference5Ideal.defs _ _).mono (fun _ h c => ⟨(h c).1.trans ?_, (h c).2⟩)
      (Cert.Reference5Ideal.Value.run (F := Ideal) m' g')
    rw [Cert.Reference5Ideal.Read.val_main_v41_eq]
    obtain ⟨a0, a1, a2⟩ := hagree c
    exact reference_eq m c _ _ _ a0 a1 a2

end Cert.Pr5Claim

end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.FfnClaim
public import proofs.«01_k».proof.Proof.MlClaim
public import proofs.«01_k».proof.Proof.Pr3Claim
public import proofs.«01_k».proof.Proof.Pr4Claim
public import proofs.«01_k».proof.Proof.Pr5Claim

@[expose] public section

noncomputable section

namespace Cert.Proof

open Idealize.ShloMosaic Idealize.SL.Sem

/-- The one named constant: the mask is minus infinity. -/
theorem preserves : Cert.preserves_Kernel_KernelIdeal :=
  IdealRules.named_const.statement Cert.KernelIdeal.κ "mask" .f32 0xF149F2CA#32 ⊥ rfl

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.MlClaim.facts,
  fun m ρ _ => Cert.Kernel.Gen.frame m ρ,
  fun m ρ _ => Cert.KernelIdeal.Gen.frame m ρ,
  Cert.MlClaim.frame_kernel_pre,
  Cert.MlClaim.frame_reference,
  Cert.MlClaim.frame_reference_pre,
  fun m ρ _ => Cert.Kernel2.Gen.frame m ρ,
  fun m ρ _ => Cert.Kernel2Ideal.Gen.frame m ρ,
  Cert.FfnClaim.frame_reference,
  fun m ρ _ => Cert.Kernel3.Gen.frame m ρ,
  fun m ρ _ => Cert.Kernel3Ideal.Gen.frame m ρ,
  Cert.Pr3Claim.frame_reference,
  fun m ρ _ => Cert.Kernel4.Gen.frame m ρ,
  fun m ρ _ => Cert.Kernel4Ideal.Gen.frame m ρ,
  Cert.Pr4Claim.frame_reference,
  fun m ρ _ => Cert.Kernel5.Gen.frame m ρ,
  fun m ρ _ => Cert.Kernel5Ideal.Gen.frame m ρ,
  Cert.Pr5Claim.frame_reference,
  preserves,
  Cert.MlClaim.algebraic,
  trivial,
  Cert.FfnClaim.algebraic,
  trivial,
  Cert.Pr3Claim.algebraic,
  trivial,
  Cert.Pr4Claim.algebraic,
  trivial,
  Cert.Pr5Claim.algebraic⟩

end Cert.Proof

end
